-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gates [hPre_finite_gates : Cert.Pre_finite_gates.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gates.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gates [hPre_finite_gates : Cert.Pre_finite_gates.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gates.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5))) = (fun _ => 1#1)

def Pre_KeyKernel (m : (ℓ : Loc Cert.KeyKernel.nD Cert.KeyKernel.τ Cert.KeyKernel.sig) → Buf (Elt Bits) ℓ) : Prop :=
  True

def Pre_KeyKernelIdeal (m : (ℓ : Loc Cert.KeyKernelIdeal.nD Cert.KeyKernelIdeal.τ Cert.KeyKernelIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5)
      ∧ r.2.mem ((c.tc : Thread Cert.DxKernel.nD Cert.DxKernel.τ).loc Cert.DxKernel.main_arg6) = m ((c.tc : Thread Cert.DxKernel.nD Cert.DxKernel.τ).loc Cert.DxKernel.main_arg6)
      ∧ r.2.mem ((c.tc : Thread Cert.DxKernel.nD Cert.DxKernel.τ).loc Cert.DxKernel.main_arg7) = m ((c.tc : Thread Cert.DxKernel.nD Cert.DxKernel.τ).loc Cert.DxKernel.main_arg7))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
      ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
      ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5))
      ∧ r.2.sem = fun _ => 0)

def quiescent_GateKernelIdeal_pre_finite_gates [hGateKernelIdeal : Cert.GateKernelIdeal.Facts] [hPre_finite_gates : Cert.Pre_finite_gates.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gates m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_GateReferenceIdeal_pre_finite_gates [hGateReferenceIdeal : Cert.GateReferenceIdeal.Facts] [hPre_finite_gates : Cert.Pre_finite_gates.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gates m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_KeyKernel [hKeyKernel : Cert.KeyKernel.Facts] : Prop :=
  ∀ (m : (ℓ : Loc Cert.KeyKernel.nD Cert.KeyKernel.τ Cert.KeyKernel.sig) → Buf (Elt Bits) ℓ) (g : Dev Cert.KeyKernel.nD → PrngReg), Pre_KeyKernel m →
    θ_run (Cert.KeyKernel.defs (F := Bits)) (onTc (τ := Cert.KeyKernel.τ) (Cert.KeyKernel.main (F := Bits))) ⟨m, fun _ => 0, g⟩ (fun r => (∀ c : Dev Cert.KeyKernel.nD,
      r.2.mem ((c.tc : Thread Cert.KeyKernel.nD Cert.KeyKernel.τ).loc Cert.KeyKernel.main_arg0) = m ((c.tc : Thread Cert.KeyKernel.nD Cert.KeyKernel.τ).loc Cert.KeyKernel.main_arg0)
      ∧ r.2.mem ((c.tc : Thread Cert.KeyKernel.nD Cert.KeyKernel.τ).loc Cert.KeyKernel.main_arg1) = m ((c.tc : Thread Cert.KeyKernel.nD Cert.KeyKernel.τ).loc Cert.KeyKernel.main_arg1)
      ∧ r.2.mem ((c.tc : Thread Cert.KeyKernel.nD Cert.KeyKernel.τ).loc Cert.KeyKernel.main_arg2) = m ((c.tc : Thread Cert.KeyKernel.nD Cert.KeyKernel.τ).loc Cert.KeyKernel.main_arg2))
      ∧ r.2.sem = fun _ => 0)

def quiescent_KeyKernelIdeal [hKeyKernelIdeal : Cert.KeyKernelIdeal.Facts] : Prop :=
  ∀ (m : (ℓ : Loc Cert.KeyKernelIdeal.nD Cert.KeyKernelIdeal.τ Cert.KeyKernelIdeal.sig) → Buf (Elt Ideal) ℓ) (g : Dev Cert.KeyKernelIdeal.nD → PrngReg), Pre_KeyKernelIdeal m →
    θ_run (Cert.KeyKernelIdeal.defs (F := Ideal)) (onTc (τ := Cert.KeyKernelIdeal.τ) (Cert.KeyKernelIdeal.main (F := Ideal))) ⟨m, fun _ => 0, g⟩ (fun r => (∀ c : Dev Cert.KeyKernelIdeal.nD,
      r.2.mem ((c.tc : Thread Cert.KeyKernelIdeal.nD Cert.KeyKernelIdeal.τ).loc Cert.KeyKernelIdeal.main_arg0) = m ((c.tc : Thread Cert.KeyKernelIdeal.nD Cert.KeyKernelIdeal.τ).loc Cert.KeyKernelIdeal.main_arg0)
      ∧ r.2.mem ((c.tc : Thread Cert.KeyKernelIdeal.nD Cert.KeyKernelIdeal.τ).loc Cert.KeyKernelIdeal.main_arg1) = m ((c.tc : Thread Cert.KeyKernelIdeal.nD Cert.KeyKernelIdeal.τ).loc Cert.KeyKernelIdeal.main_arg1)
      ∧ r.2.mem ((c.tc : Thread Cert.KeyKernelIdeal.nD Cert.KeyKernelIdeal.τ).loc Cert.KeyKernelIdeal.main_arg2) = m ((c.tc : Thread Cert.KeyKernelIdeal.nD Cert.KeyKernelIdeal.τ).loc Cert.KeyKernelIdeal.main_arg2))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1)
      ∧ r.2.mem ((c.tc : Thread Cert.KeyReferenceIdeal.nD Cert.KeyReferenceIdeal.τ).loc Cert.KeyReferenceIdeal.main_arg2) = m ((c.tc : Thread Cert.KeyReferenceIdeal.nD Cert.KeyReferenceIdeal.τ).loc Cert.KeyReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v229) = v2 c
          ∧ r.2.mem ((c.tc : Thread Cert.ReferenceIdeal.nD Cert.ReferenceIdeal.τ).loc Cert.ReferenceIdeal.main_v230) = v3 c
          ∧ r.2.mem ((c.tc : Thread Cert.ReferenceIdeal.nD Cert.ReferenceIdeal.τ).loc Cert.ReferenceIdeal.main_v231) = v4 c
          ∧ r.2.mem ((c.tc : Thread Cert.ReferenceIdeal.nD Cert.ReferenceIdeal.τ).loc Cert.ReferenceIdeal.main_v197) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v6_0)) (v1 : (c : Dev Cert.OutKernelIdeal.nD) → Buf (Elt Ideal) ((c.tc : Thread Cert.OutKernelIdeal.nD Cert.OutKernelIdeal.τ).loc Cert.OutKernelIdeal.main_v6_1)) (v2 : (c : Dev Cert.OutKernelIdeal.nD) → Buf (Elt Ideal) ((c.tc : Thread Cert.OutKernelIdeal.nD Cert.OutKernelIdeal.τ).loc Cert.OutKernelIdeal.main_v6_2)) (v3 : (c : Dev Cert.OutKernelIdeal.nD) → Buf (Elt Ideal) ((c.tc : Thread Cert.OutKernelIdeal.nD Cert.OutKernelIdeal.τ).loc Cert.OutKernelIdeal.main_v6_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6_0) = v0 c
          ∧ r.2.mem ((c.tc : Thread Cert.OutKernelIdeal.nD Cert.OutKernelIdeal.τ).loc Cert.OutKernelIdeal.main_v6_1) = v1 c
          ∧ r.2.mem ((c.tc : Thread Cert.OutKernelIdeal.nD Cert.OutKernelIdeal.τ).loc Cert.OutKernelIdeal.main_v6_2) = v2 c
          ∧ r.2.mem ((c.tc : Thread Cert.OutKernelIdeal.nD Cert.OutKernelIdeal.τ).loc Cert.OutKernelIdeal.main_v6_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v55) = v0 c
          ∧ r.2.mem ((c.tc : Thread Cert.OutReferenceIdeal.nD Cert.OutReferenceIdeal.τ).loc Cert.OutReferenceIdeal.main_v56) = v1 c
          ∧ r.2.mem ((c.tc : Thread Cert.OutReferenceIdeal.nD Cert.OutReferenceIdeal.τ).loc Cert.OutReferenceIdeal.main_v57) = v2 c
          ∧ r.2.mem ((c.tc : Thread Cert.OutReferenceIdeal.nD Cert.OutReferenceIdeal.τ).loc Cert.OutReferenceIdeal.main_v58) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)
      ∧ m' ((c.tc : Thread Cert.DxReferenceIdeal.nD Cert.DxReferenceIdeal.τ).loc Cert.DxReferenceIdeal.main_arg6) = m ((c.tc : Thread Cert.DxKernelIdeal.nD Cert.DxKernelIdeal.τ).loc Cert.DxKernelIdeal.main_arg6)
      ∧ m' ((c.tc : Thread Cert.DxReferenceIdeal.nD Cert.DxReferenceIdeal.τ).loc Cert.DxReferenceIdeal.main_arg7) = m ((c.tc : Thread Cert.DxKernelIdeal.nD Cert.DxKernelIdeal.τ).loc Cert.DxKernelIdeal.main_arg7)) →
    ∃ (v0 : (c : Dev Cert.DxKernelIdeal.nD) → Buf (Elt Ideal) ((c.tc : Thread Cert.DxKernelIdeal.nD Cert.DxKernelIdeal.τ).loc Cert.DxKernelIdeal.main_v13_0)) (v1 : (c : Dev Cert.DxKernelIdeal.nD) → Buf (Elt Ideal) ((c.tc : Thread Cert.DxKernelIdeal.nD Cert.DxKernelIdeal.τ).loc Cert.DxKernelIdeal.main_v13_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v13_0) = v0 c
          ∧ r.2.mem ((c.tc : Thread Cert.DxKernelIdeal.nD Cert.DxKernelIdeal.τ).loc Cert.DxKernelIdeal.main_v13_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
          ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6)
          ∧ r.2.mem ((c.tc : Thread Cert.DxKernelIdeal.nD Cert.DxKernelIdeal.τ).loc Cert.DxKernelIdeal.main_arg7) = m ((c.tc : Thread Cert.DxKernelIdeal.nD Cert.DxKernelIdeal.τ).loc Cert.DxKernelIdeal.main_arg7))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v42) = v0 c
          ∧ r.2.mem ((c.tc : Thread Cert.DxReferenceIdeal.nD Cert.DxReferenceIdeal.τ).loc Cert.DxReferenceIdeal.main_v41) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7))

def preserves_MixKernel_MixKernelIdeal : Prop :=
  IdealRules.named_const.Statement Cert.MixKernelIdeal.κ "mask" .f32 0xF149F2CA#32 ⊥

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)) →
    ∃ (v0 : (c : Dev Cert.MixKernelIdeal.nD) → Buf (Elt Ideal) ((c.tc : Thread Cert.MixKernelIdeal.nD Cert.MixKernelIdeal.τ).loc Cert.MixKernelIdeal.main_v19_0)) (v1 : (c : Dev Cert.MixKernelIdeal.nD) → Buf (Elt Ideal) ((c.tc : Thread Cert.MixKernelIdeal.nD Cert.MixKernelIdeal.τ).loc Cert.MixKernelIdeal.main_v19_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v19_0) = v0 c
          ∧ r.2.mem ((c.tc : Thread Cert.MixKernelIdeal.nD Cert.MixKernelIdeal.τ).loc Cert.MixKernelIdeal.main_v19_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v144) = v0 c
          ∧ r.2.mem ((c.tc : Thread Cert.MixReferenceIdeal.nD Cert.MixReferenceIdeal.τ).loc Cert.MixReferenceIdeal.main_v147) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0))

def preserves_GateKernel_GateKernelIdeal : Prop :=
  True

def algebraic_GateKernelIdeal_GateReferenceIdeal_pre_finite_gates [hGateKernelIdeal : Cert.GateKernelIdeal.Facts] [hGateReferenceIdeal : Cert.GateReferenceIdeal.Facts] [hPre_finite_gates : Cert.Pre_finite_gates.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gates m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)) →
    ∃ (v0 : (c : Dev Cert.GateKernelIdeal.nD) → Buf (Elt Ideal) ((c.tc : Thread Cert.GateKernelIdeal.nD Cert.GateKernelIdeal.τ).loc Cert.GateKernelIdeal.main_v8)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v8) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v88) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_KeyKernel_KeyKernelIdeal : Prop :=
  True

def algebraic_KeyKernelIdeal_KeyReferenceIdeal [hKeyKernelIdeal : Cert.KeyKernelIdeal.Facts] [hKeyReferenceIdeal : Cert.KeyReferenceIdeal.Facts] : Prop :=
  ∀ (m : (ℓ : Loc Cert.KeyKernelIdeal.nD Cert.KeyKernelIdeal.τ Cert.KeyKernelIdeal.sig) → Buf (Elt Ideal) ℓ) (g : Dev Cert.KeyKernelIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyKernelIdeal m →
    (∀ c : Dev Cert.KeyKernelIdeal.nD,
      m' ((c.tc : Thread Cert.KeyReferenceIdeal.nD Cert.KeyReferenceIdeal.τ).loc Cert.KeyReferenceIdeal.main_arg0) = m ((c.tc : Thread Cert.KeyKernelIdeal.nD Cert.KeyKernelIdeal.τ).loc Cert.KeyKernelIdeal.main_arg0)
      ∧ m' ((c.tc : Thread Cert.KeyReferenceIdeal.nD Cert.KeyReferenceIdeal.τ).loc Cert.KeyReferenceIdeal.main_arg1) = m ((c.tc : Thread Cert.KeyKernelIdeal.nD Cert.KeyKernelIdeal.τ).loc Cert.KeyKernelIdeal.main_arg1)
      ∧ m' ((c.tc : Thread Cert.KeyReferenceIdeal.nD Cert.KeyReferenceIdeal.τ).loc Cert.KeyReferenceIdeal.main_arg2) = m ((c.tc : Thread Cert.KeyKernelIdeal.nD Cert.KeyKernelIdeal.τ).loc Cert.KeyKernelIdeal.main_arg2)) →
    ∃ (v0 : (c : Dev Cert.KeyKernelIdeal.nD) → Buf (Elt Ideal) ((c.tc : Thread Cert.KeyKernelIdeal.nD Cert.KeyKernelIdeal.τ).loc Cert.KeyKernelIdeal.main_v2)),
      θ_run (Cert.KeyKernelIdeal.defs (F := Ideal)) (onTc (τ := Cert.KeyKernelIdeal.τ) (Cert.KeyKernelIdeal.main (F := Ideal))) ⟨m, fun _ => 0, g⟩ (fun r => ∀ c : Dev Cert.KeyKernelIdeal.nD,
          r.2.mem ((c.tc : Thread Cert.KeyKernelIdeal.nD Cert.KeyKernelIdeal.τ).loc Cert.KeyKernelIdeal.main_v2) = v0 c
          ∧ r.2.mem ((c.tc : Thread Cert.KeyKernelIdeal.nD Cert.KeyKernelIdeal.τ).loc Cert.KeyKernelIdeal.main_arg0) = m ((c.tc : Thread Cert.KeyKernelIdeal.nD Cert.KeyKernelIdeal.τ).loc Cert.KeyKernelIdeal.main_arg0)
          ∧ r.2.mem ((c.tc : Thread Cert.KeyKernelIdeal.nD Cert.KeyKernelIdeal.τ).loc Cert.KeyKernelIdeal.main_arg1) = m ((c.tc : Thread Cert.KeyKernelIdeal.nD Cert.KeyKernelIdeal.τ).loc Cert.KeyKernelIdeal.main_arg1)
          ∧ r.2.mem ((c.tc : Thread Cert.KeyKernelIdeal.nD Cert.KeyKernelIdeal.τ).loc Cert.KeyKernelIdeal.main_arg2) = m ((c.tc : Thread Cert.KeyKernelIdeal.nD Cert.KeyKernelIdeal.τ).loc Cert.KeyKernelIdeal.main_arg2))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v15) = v0 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1)
          ∧ r.2.mem ((c.tc : Thread Cert.KeyReferenceIdeal.nD Cert.KeyReferenceIdeal.τ).loc Cert.KeyReferenceIdeal.main_arg2) = m' ((c.tc : Thread Cert.KeyReferenceIdeal.nD Cert.KeyReferenceIdeal.τ).loc Cert.KeyReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v5_0)) (v1 : (c : Dev Cert.ProjKernelIdeal.nD) → Buf (Elt Ideal) ((c.tc : Thread Cert.ProjKernelIdeal.nD Cert.ProjKernelIdeal.τ).loc Cert.ProjKernelIdeal.main_v5_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v5_0) = v0 c
          ∧ r.2.mem ((c.tc : Thread Cert.ProjKernelIdeal.nD Cert.ProjKernelIdeal.τ).loc Cert.ProjKernelIdeal.main_v5_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v5) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v3_0)) (v1 : (c : Dev Cert.MemKernelIdeal.nD) → Buf (Elt Ideal) ((c.tc : Thread Cert.MemKernelIdeal.nD Cert.MemKernelIdeal.τ).loc Cert.MemKernelIdeal.main_v3_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v3_0) = v0 c
          ∧ r.2.mem ((c.tc : Thread Cert.MemKernelIdeal.nD Cert.MemKernelIdeal.τ).loc Cert.MemKernelIdeal.main_v3_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v23) = v0 c
          ∧ r.2.mem ((c.tc : Thread Cert.MemReferenceIdeal.nD Cert.MemReferenceIdeal.τ).loc Cert.MemReferenceIdeal.main_v22) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hDxKernel : Cert.DxKernel.Facts) (hDxKernelIdeal : Cert.DxKernelIdeal.Facts) (hDxReferenceIdeal : Cert.DxReferenceIdeal.Facts) (hAttnKernel : Cert.AttnKernel.Facts) (hMixKernel : Cert.MixKernel.Facts) (hMixKernelIdeal : Cert.MixKernelIdeal.Facts) (hMixReferenceIdeal : Cert.MixReferenceIdeal.Facts) (hGateKernel : Cert.GateKernel.Facts) (hGateKernelIdeal : Cert.GateKernelIdeal.Facts) (hGateReferenceIdeal : Cert.GateReferenceIdeal.Facts) (hKeyKernel : Cert.KeyKernel.Facts) (hKeyKernelIdeal : Cert.KeyKernelIdeal.Facts) (hKeyReferenceIdeal : Cert.KeyReferenceIdeal.Facts) (hProjKernel : Cert.ProjKernel.Facts) (hProjKernelIdeal : Cert.ProjKernelIdeal.Facts) (hProjReferenceIdeal : Cert.ProjReferenceIdeal.Facts) (hMemKernel : Cert.MemKernel.Facts) (hMemKernelIdeal : Cert.MemKernelIdeal.Facts) (hMemReferenceIdeal : Cert.MemReferenceIdeal.Facts) (hPre_finite : Cert.Pre_finite.Facts) (hPre_finite_mix : Cert.Pre_finite_mix.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_AttnKernel (hAttnKernel := hAttnKernel)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_GateKernel (hGateKernel := hGateKernel)
    ∧ quiescent_GateKernelIdeal (hGateKernelIdeal := hGateKernelIdeal)
    ∧ quiescent_GateKernelIdeal_pre_finite_gates (hGateKernelIdeal := hGateKernelIdeal) (hPre_finite_gates := hPre_finite_gates)
    ∧ quiescent_GateReferenceIdeal (hGateReferenceIdeal := hGateReferenceIdeal)
    ∧ quiescent_GateReferenceIdeal_pre_finite_gates (hGateReferenceIdeal := hGateReferenceIdeal) (hPre_finite_gates := hPre_finite_gates)
    ∧ quiescent_KeyKernel (hKeyKernel := hKeyKernel)
    ∧ quiescent_KeyKernelIdeal (hKeyKernelIdeal := hKeyKernelIdeal)
    ∧ quiescent_KeyReferenceIdeal (hKeyReferenceIdeal := hKeyReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_DxKernel_DxKernelIdeal
    ∧ algebraic_DxKernelIdeal_DxReferenceIdeal (hDxKernelIdeal := hDxKernelIdeal) (hDxReferenceIdeal := hDxReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_GateKernel_GateKernelIdeal
    ∧ algebraic_GateKernelIdeal_GateReferenceIdeal_pre_finite_gates (hGateKernelIdeal := hGateKernelIdeal) (hGateReferenceIdeal := hGateReferenceIdeal) (hPre_finite_gates := hPre_finite_gates)
    ∧ preserves_KeyKernel_KeyKernelIdeal
    ∧ algebraic_KeyKernelIdeal_KeyReferenceIdeal (hKeyKernelIdeal := hKeyKernelIdeal) (hKeyReferenceIdeal := hKeyReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MemKernel_MemKernelIdeal
    ∧ algebraic_MemKernelIdeal_MemReferenceIdeal (hMemKernelIdeal := hMemKernelIdeal) (hMemReferenceIdeal := hMemReferenceIdeal)
-- ==== Pre_finite.lean ====
abbrev S2x2048x1024 : Shape := ⟨3, ![2, 2048, 1024]⟩
abbrev S1024x1024 : Shape := ⟨2, ![1024, 1024]⟩
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x2048x3328 : S_.BroadcastsInDim S2x2048x3328 (![] : Fin 0 → Fin S2x2048x3328.rank)
  reducesTo_S2x2048x3328_S_d0_1_2 : S2x2048x3328.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x256x512 : S_.BroadcastsInDim S2x256x512 (![] : Fin 0 → Fin S2x256x512.rank)
  reducesTo_S2x256x512_S_d0_1_2 : S2x256x512.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg7 : FVec F S1x256 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg4 : FVec F S2x256x512 .f32) (main_arg5 : FVec F S1x4x128x128 .f32) (main_arg6 : FVec F S1x4x128 .f32) (main_arg7 : FVec F S1x256 .f32) (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  let main_v19 : FVec F S2x256x512 .f32 := Host.absf main_arg4
  let main_cst_6 : FVec F S_ .f32 := constant S_ .f32 0x7F800000#32
  let main_v20 : FVec F S2x256x512 .f32 := broadcastInDim S2x256x512 ![] bcast_S_S2x256x512 main_cst_6
  let main_v21 : IVec S2x256x512 1 := cmpf .olt main_v19 main_v20
  let main_c_7 : IVec S_ 1 := constantI S_ 1 1#1
  let main_v22 : IVec S_ 1 := (fun x v => Host.reduce IntOp.andi x v reducesTo_S2x256x512_S_d0_1_2 h_S_) main_v21 main_c_7
  let main_v23 : IVec S_ 1 := andi main_v18 main_v22
  let main_v24 : FVec F S1x4x128x128 .f32 := Host.absf main_arg5
  let main_cst_8 : FVec F S_ .f32 := constant S_ .f32 0x7F800000#32
  let main_v25 : FVec F S1x4x128x128 .f32 := broadcastInDim S1x4x128x128 ![] bcast_S_S1x4x128x128 main_cst_8
  let main_v26 : IVec S1x4x128x128 1 := cmpf .olt main_v24 main_v25
  let main_c_9 : IVec S_ 1 := constantI S_ 1 1#1
  let main_v27 : IVec S_ 1 := (fun x v => Host.reduce IntOp.andi x v reducesTo_S1x4x128x128_S_d0_1_2_3 h_S_) main_v26 main_c_9
  let main_v28 : IVec S_ 1 := andi main_v23 main_v27
  let main_v29 : FVec F S1x4x128 .f32 := Host.absf main_arg6
  let main_cst_10 : FVec F S_ .f32 := constant S_ .f32 0x7F800000#32
  let main_v30 : FVec F S1x4x128 .f32 := broadcastInDim S1x4x128 ![] bcast_S_S1x4x128 main_cst_10
  let main_v31 : IVec S1x4x128 1 := cmpf .olt main_v29 main_v30
  let main_c_11 : IVec S_ 1 := constantI S_ 1 1#1
  let main_v32 : IVec S_ 1 := (fun x v => Host.reduce IntOp.andi x v reducesTo_S1x4x128_S_d0_1_2 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024x1024 .f32) (main_arg2 : FVec F S2x2048x3328 .f32) (main_arg3 : FVec F S2x2048x512 .f32) (main_arg4 : FVec F S2x256x512 .f32) (main_arg5 : FVec F S1x4x128x128 .f32) (main_arg6 : FVec F S1x4x128 .f32) (main_arg7 : FVec F S1x256 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x2048x3328 .f32 := Host.absf main_arg2
  let main_cst_2 : FVec F S_ .f32 := constant S_ .f32 0x7F800000#32
  let main_v10 : FVec F S2x2048x3328 .f32 := broadcastInDim S2x2048x3328 ![] bcast_S_S2x2048x3328 main_cst_2
  let main_v11 : IVec S2x2048x3328 1 := cmpf .olt main_v9 main_v10
  let main_c_3 : IVec S_ 1 := constantI S_ 1 1#1
  let main_v12 : IVec S_ 1 := (fun x v => Host.reduce IntOp.andi x v reducesTo_S2x2048x3328_S_d0_1_2 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_arg4 main_arg5 main_arg6 main_arg7 main_v13 main_v16
-- ==== Pre_finite_gates.lean ====
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S2x2048x256 : Shape := ⟨3, ![2, 2048, 256]⟩
abbrev S_ : Shape := ⟨0, ![]⟩
abbrev S2x256x256 : Shape := ⟨3, ![2, 256, 256]⟩

class Facts : Prop where
  slices_S2x2048x3328_S2x2048x256_0_0_2816 : S2x2048x3328.Slices ![0, 0, 2816] S2x2048x256
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  slices_S2x256x512_S2x256x256_0_0_0 : S2x256x512.Slices ![0, 0, 0] S2x256x256
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S2x2048x3328 .f32) (main_arg1 : FVec F S2x2048x512 .f32) (main_arg2 : FVec F S2x256x512 .f32) (main_arg3 : FVec F S1x4x128x128 .f32) (main_arg4 : FVec F S1x4x128 .f32) (main_arg5 : FVec F S1x256 .f32) : IVec S_ 1 :=
  let main_v0 : FVec F S2x2048x256 .f32 := (extractStridedSlice S2x2048x256 ![0, 0, 2816] · slices_S2x2048x3328_S2x2048x256_0_0_2816) main_arg0
  let main_v1 : FVec F S2x2048x256 .f32 := Host.absf main_v0
  let main_cst : FVec F S_ .f32 := constant S_ .f32 0x7F800000#32
  let main_v2 : FVec F S2x2048x256 .f32 := broadcastInDim S2x2048x256 ![] bcast_S_S2x2048x256 main_cst
  let main_v3 : IVec S2x2048x256 1 := cmpf .olt main_v1 main_v2
  let main_c : IVec S_ 1 := constantI S_ 1 1#1
  let main_v4 : IVec S_ 1 := (fun x v => Host.reduce IntOp.andi x v reducesTo_S2x2048x256_S_d0_1_2 h_S_) main_v3 main_c
  let main_v5 : FVec F S2x256x256 .f32 := (extractStridedSlice S2x256x256 ![0, 0, 0] · slices_S2x256x512_S2x256x256_0_0_0) main_arg2
  let main_v6 : FVec F S2x256x256 .f32 := Host.absf main_v5
  let main_cst_0 : FVec F S_ .f32 := constant S_ .f32 0x7F800000#32
  let main_v7 : FVec F S2x256x256 .f32 := broadcastInDim S2x256x256 ![] bcast_S_S2x256x256 main_cst_0
  let main_v8 : IVec S2x256x256 1 := cmpf .olt main_v6 main_v7
  let main_c_1 : IVec S_ 1 := constantI S_ 1 1#1
  let main_v9 : IVec S_ 1 := (fun x v => Host.reduce IntOp.andi x v reducesTo_S2x256x256_S_d0_1_2 h_S_) main_v8 main_c_1
  let main_v10 : IVec S_ 1 := andi main_v4 main_v9
  main_v10
-- ==== Pre_finite_mix.lean ====
abbrev S2x2048x3328 : Shape := ⟨3, ![2, 2048, 3328]⟩
abbrev S2x2048x1024 : Shape := ⟨3, ![2, 2048, 1024]⟩
abbrev S_ : Shape := ⟨0, ![]⟩

class Facts : Prop where
  slices_S2x2048x3328_S2x2048x1024_0_0_0 : S2x2048x3328.Slices ![0, 0, 0] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x3328 .f32) : IVec S_ 1 :=
  let main_v0 : FVec F S2x2048x1024 .f32 := (extractStridedSlice S2x2048x1024 ![0, 0, 0] · slices_S2x2048x3328_S2x2048x1024_0_0_0) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  main_v4
-- ==== Kernel.lean ====
abbrev S2x2048x1024 : Shape := ⟨3, ![2, 2048, 1024]⟩
abbrev S1024x1024 : Shape := ⟨2, ![1024, 1024]⟩
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S4096x1024 : Shape := ⟨2, ![4096, 1024]⟩
abbrev S4096x3328 : Shape := ⟨2, ![4096, 3328]⟩
abbrev S4096x512 : Shape := ⟨2, ![4096, 512]⟩
abbrev S512x512 : Shape := ⟨2, ![512, 512]⟩
abbrev S4x128x128 : Shape := ⟨3, ![4, 128, 128]⟩
abbrev S4096x1792 : Shape := ⟨2, ![4096, 1792]⟩
abbrev S512x1024 : Shape := ⟨2, ![512, 1024]⟩
abbrev S512x256 : Shape := ⟨2, ![512, 256]⟩
abbrev S256x512 : Shape := ⟨2, ![256, 512]⟩
abbrev S512x1792 : Shape := ⟨2, ![512, 1792]⟩
abbrev S512 : Shape := ⟨1, ![512]⟩
abbrev S512x1 : Shape := ⟨2, ![512, 1]⟩
abbrev S128x512 : Shape := ⟨2, ![128, 512]⟩
abbrev S128x128 : Shape := ⟨2, ![128, 128]⟩
abbrev S1x128x128 : Shape := ⟨3, ![1, 128, 128]⟩
abbrev S256 : Shape := ⟨1, ![256]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩
abbrev S256x128 : Shape := ⟨2, ![256, 128]⟩

abbrev nBuf : Space → Nat
  | .hbm => 24
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x3328, .f32⟩
  | .hbm, ⟨3, _⟩ => ⟨S2x2048x512, .f32⟩
  | .hbm, ⟨4, _⟩ => ⟨S2x256x512, .f32⟩
  | .hbm, ⟨5, _⟩ => ⟨S1x4x128x128, .f32⟩
  | .hbm, ⟨6, _⟩ => ⟨S1x4x128, .f32⟩
  | .hbm, ⟨7, _⟩ => ⟨S1x256, .f32⟩
  | .hbm, ⟨8, _⟩ => ⟨S4x128, .f32⟩
  | .hbm, ⟨9, _⟩ => ⟨S128x4, .f32⟩
  | .hbm, ⟨10, _⟩ => ⟨S128x4x64, .f32⟩
  | .hbm, ⟨11, _⟩ => ⟨S128x256, .f32⟩
  | .hbm, ⟨12, _⟩ => ⟨S4096x1024, .f32⟩
  | .hbm, ⟨13, _⟩ => ⟨S1024x1024, .bf16⟩
  | .hbm, ⟨14, _⟩ => ⟨S4096x3328, .f32⟩
  | .hbm, ⟨15, _⟩ => ⟨S4096x512, .f32⟩
  | .hbm, ⟨16, _⟩ => ⟨S512x512, .f32⟩
  | .hbm, ⟨17, _⟩ => ⟨S4x128x128, .f32⟩
  | .hbm, ⟨18, _⟩ => ⟨S4096x512, .f32⟩
  | .hbm, ⟨19, _⟩ => ⟨S4096x1792, .bf16⟩
  | .hbm, ⟨20, _⟩ => ⟨S512x512, .f32⟩
  | .hbm, ⟨21, _⟩ => ⟨S4x128x128, .f32⟩
  | .hbm, ⟨22, _⟩ => ⟨S4x128, .f32⟩
  | .hbm, ⟨23, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x512, .f32⟩
  | .local _ .vmem, ⟨16, _⟩ => ⟨S512x512, .f32⟩
  | .local _ .vmem, ⟨17, _⟩ => ⟨S256x512, .f32⟩
  | .local _ .vmem, ⟨18, _⟩ => ⟨S256x512, .f32⟩
  | .local _ .vmem, ⟨19, _⟩ => ⟨S4x128x128, .f32⟩
  | .local _ .vmem, ⟨20, _⟩ => ⟨S128x256, .f32⟩
  | .local _ .vmem, ⟨21, _⟩ => ⟨S1x256, .f32⟩
  | .local _ .vmem, ⟨22, _⟩ => ⟨S512x512, .f32⟩
  | .local _ .vmem, ⟨23, _⟩ => ⟨S512x512, .f32⟩
  | .local _ .vmem, ⟨24, _⟩ => ⟨S512x1792, .bf16⟩
  | .local _ .vmem, ⟨25, _⟩ => ⟨S512x1792, .bf16⟩
  | .local _ .vmem, ⟨26, _⟩ => ⟨S256x512, .f32⟩
  | .local _ .vmem, ⟨27, _⟩ => ⟨S256x512, .f32⟩
  | .local _ .vmem, ⟨28, _⟩ => ⟨S4x128x128, .f32⟩
  | .local _ .vmem, ⟨29, _⟩ => ⟨S4x128, .f32⟩
  | .local _ .vmem, ⟨30, _⟩ => ⟨S1x256, .f32⟩
  | .local _ .vmem, ⟨31, _⟩ => ⟨S512x256, .f32⟩
  | .local _ .vmem, ⟨32, _⟩ => ⟨S512x256, .f32⟩
  | .local _ .vmem, ⟨33, _⟩ => ⟨S128x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v650 : BitVec 1 := Scalar.cmpi .eq arg0 c7_i32
  let v651 : BitVec 32 := Scalar.extui v650
  let c0_i32_274 : BitVec 32 := 0#32
  let v652 : BitVec 1 := Scalar.cmpi .ne v651 c0_i32_274
  v652

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1792 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S2x2048x1024 : Shape := ⟨3, ![2, 2048, 1024]⟩
abbrev S1024x1024 : Shape := ⟨2, ![1024, 1024]⟩
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S2x2048x1792 : Shape := ⟨3, ![2, 2048, 1792]⟩
abbrev S2x2048x256 : Shape := ⟨3, ![2, 2048, 256]⟩
abbrev S_ : Shape := ⟨0, ![]⟩
abbrev S256 : Shape := ⟨1, ![256]⟩
abbrev S4x128x128 : Shape := ⟨3, ![4, 128, 128]⟩
abbrev S4x128 : Shape := ⟨2, ![4, 128]⟩
abbrev S2x2048 : Shape := ⟨2, ![2, 2048]⟩
abbrev S2x2048x1 : Shape := ⟨3, ![2, 2048, 1]⟩
abbrev S1x1x256 : Shape := ⟨3, ![1, 1, 256]⟩
abbrev S2x16x128x4x64 : Shape := ⟨5, ![2, 16, 128, 4, 64]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S2x256x256 : Shape := ⟨3, ![2, 256, 256]⟩
abbrev S2x2048x4x64 : Shape := ⟨4, ![2, 2048, 4, 64]⟩
abbrev S2x256x4x64 : Shape := ⟨4, ![2, 256, 4, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x512 : Shape := ⟨2, ![4096, 512]⟩
abbrev S4096x1792 : Shape := ⟨2, ![4096, 1792]⟩
abbrev S512x512 : Shape := ⟨2, ![512, 512]⟩

abbrev nBuf : Space → Nat
  | .hbm => 330
  | .vmem => 0
  | .smem => 0
  | _ => 0

abbrev hbmTy0_0 (i : Nat) : BufTy := match i % 128 with
  | 0 => ⟨S2x2048x1024, .f32⟩
  | 1 => ⟨S1024x1024, .f32⟩
  | 2 => ⟨S2x2048x3328, .f32⟩
  | 3 => ⟨S2x2048x512, .f32⟩
  | 4 => ⟨S2x256x512, .f32⟩
  | 5 => ⟨S1x4x128x128, .f32⟩
  | 6 => ⟨S1x4x128, .f32⟩
  | 7 => ⟨S1x256, .f32⟩
  | 8 => ⟨S2x2048x1792, .f32⟩
  | 9 => ⟨S2x2048x512, .f32⟩
  | 10 => ⟨S2x2048x256, .f32⟩
  | 11 => ⟨S2x2048x256, .f32⟩
  | 12 => ⟨S2x2048x256, .f32⟩
  | 13 => ⟨S2x2048x256, .f32⟩
  | 14 => ⟨S2x2048x256, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S_, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S2x2048x512, .f32⟩
  | 28 => ⟨S2x2048x512, .f32⟩
  | 29 => ⟨S_, .f32⟩
  | 30 => ⟨S_, .f32⟩
  | 31 => ⟨S_, .f32⟩
  | 32 => ⟨S2x2048x256, .f32⟩
  | 33 => ⟨S2x2048x256, .f32⟩
  | 34 => ⟨S2x2048x256, .f32⟩
  | 35 => ⟨S_, .f32⟩
  | 36 => ⟨S2x2048x256, .f32⟩
  | 37 => ⟨S2x2048x256, .f32⟩
  | 38 => ⟨S2x2048x256, .f32⟩
  | 39 => ⟨S2x2048x256, .f32⟩
  | 40 => ⟨S2x2048x256, .f32⟩
  | 41 => ⟨S_, .f32⟩
  | 42 => ⟨S2x2048x256, .f32⟩
  | 43 => ⟨S2x2048x256, .f32⟩
  | 44 => ⟨S2x2048x256, .f32⟩
  | 45 => ⟨S_, .f32⟩
  | 46 => ⟨S2x2048x256, .f32⟩
  | 47 => ⟨S2x2048x256, .f32⟩
  | 48 => ⟨S_, .f32⟩
  | 49 => ⟨S2x2048x256, .f32⟩
  | 50 => ⟨S2x2048x256, .f32⟩
  | 51 => ⟨S2x2048x256, .f32⟩
  | 52 => ⟨S_, .f32⟩
  | 53 => ⟨S2x2048x256, .f32⟩
  | 54 => ⟨S2x2048x256, .f32⟩
  | 55 => ⟨S_, .f32⟩
  | 56 => ⟨S2x2048x256, .f32⟩
  | 57 => ⟨S2x2048x256, .f32⟩
  | 58 => ⟨S2x2048x256, .f32⟩
  | 59 => ⟨S_, .f32⟩
  | 60 => ⟨S_, .f32⟩
  | 61 => ⟨S_, .f32⟩
  | 62 => ⟨S2x2048x256, .f32⟩
  | 63 => ⟨S2x2048x256, .f32⟩
  | 64 => ⟨S2x2048x256, .f32⟩
  | 65 => ⟨S_, .f32⟩
  | 66 => ⟨S2x2048x256, .f32⟩
  | 67 => ⟨S2x2048x256, .f32⟩
  | 68 => ⟨S2x2048x256, .f32⟩
  | 69 => ⟨S2x2048x256, .f32⟩
  | 70 => ⟨S2x2048x256, .f32⟩
  | 71 => ⟨S_, .f32⟩
  | 72 => ⟨S2x2048x256, .f32⟩
  | 73 => ⟨S2x2048x256, .f32⟩
  | 74 => ⟨S2x2048x256, .f32⟩
  | 75 => ⟨S_, .f32⟩
  | 76 => ⟨S2x2048x256, .f32⟩
  | 77 => ⟨S2x2048x256, .f32⟩
  | 78 => ⟨S_, .f32⟩
  | 79 => ⟨S2x2048x256, .f32⟩
  | 80 => ⟨S2x2048x256, .f32⟩
  | 81 => ⟨S2x2048x256, .f32⟩
  | 82 => ⟨S_, .f32⟩
  | 83 => ⟨S2x2048x256, .f32⟩
  | 84 => ⟨S2x2048x256, .f32⟩
  | 85 => ⟨S_, .f32⟩
  | 86 => ⟨S2x2048x256, .f32⟩
  | 87 => ⟨S2x2048x256, .f32⟩
  | 88 => ⟨S2x2048x256, .f32⟩
  | 89 => ⟨S256, .f32⟩
  | 90 => ⟨S4x128x128, .f32⟩
  | 91 => ⟨S4x128, .f32⟩
  | 92 => ⟨S2x2048x256, .f32⟩
  | 93 => ⟨S_, .f32⟩
  | 94 => ⟨S2x2048, .f32⟩
  | 95 => ⟨S2x2048x1, .f32⟩
  | 96 => ⟨S_, .f32⟩
  | 97 => ⟨S2x2048x1, .f32⟩
  | 98 => ⟨S2x2048x1, .f32⟩
  | 99 => ⟨S_, .f32⟩
  | 100 => ⟨S2x2048x1, .f32⟩
  | 101 => ⟨S2x2048x1, .f32⟩
  | 102 => ⟨S2x2048x1, .f32⟩
  | 103 => ⟨S2x2048x1, .f32⟩
  | 104 => ⟨S_, .f32⟩
  | 105 => ⟨S2x2048x1, .f32⟩
  | 106 => ⟨S2x2048x1, .f32⟩
  | 107 => ⟨S2x2048x256, .f32⟩
  | 108 => ⟨S2x2048x256, .f32⟩
  | 109 => ⟨S1x1x256, .f32⟩
  | 110 => ⟨S2x2048x256, .f32⟩
  | 111 => ⟨S2x2048x256, .f32⟩
  | 112 => ⟨S2x16x128x4x64, .f32⟩
  | 113 => ⟨S4x2x16x64x128, .f32⟩
  | 114 => ⟨S2x16x128x4x64, .f32⟩
  | 115 => ⟨S128x4, .f32⟩
  | 116 => ⟨S1x1x128x4x1, .f32⟩
  | 117 => ⟨S2x16x128x4x64, .f32⟩
  | 118 => ⟨S2x16x128x4x64, .f32⟩
  | 119 => ⟨S2x2048x256, .f32⟩
  | 120 => ⟨S2x2048x256, .f32⟩
  | 121 => ⟨S2x2048x256, .f32⟩
  | 122 => ⟨S2x2048x256, .f32⟩
  | 123 => ⟨S_, .f32⟩
  | 124 => ⟨S2x2048x256, .f32⟩
  | 125 => ⟨S2x2048x256, .f32⟩
  | 126 => ⟨S_, .f32⟩
  | 127 => ⟨S2x2048x256, .f32⟩
  | _ => ⟨S2x2048x1024, .f32⟩

abbrev hbmTy0_1 (i : Nat) : BufTy := match i % 128 with
  | 0 => ⟨S2x2048x256, .f32⟩
  | 1 => ⟨S_, .f32⟩
  | 2 => ⟨S2x2048x256, .f32⟩
  | 3 => ⟨S2x2048x256, .f32⟩
  | 4 => ⟨S2x2048x256, .f32⟩
  | 5 => ⟨S2x2048x256, .f32⟩
  | 6 => ⟨S2x2048x256, .f32⟩
  | 7 => ⟨S2x2048x256, .f32⟩
  | 8 => ⟨S2x2048x256, .f32⟩
  | 9 => ⟨S_, .f32⟩
  | 10 => ⟨S2x2048x256, .f32⟩
  | 11 => ⟨S2x2048x256, .f32⟩
  | 12 => ⟨S_, .f32⟩
  | 13 => ⟨S2x2048x256, .f32⟩
  | 14 => ⟨S2x2048x256, .f32⟩
  | 15 => ⟨S_, .f32⟩
  | 16 => ⟨S2x2048x256, .f32⟩
  | 17 => ⟨S2x2048x256, .f32⟩
  | 18 => ⟨S2x2048x256, .f32⟩
  | 19 => ⟨S2x2048x256, .f32⟩
  | 20 => ⟨S2x256x256, .f32⟩
  | 21 => ⟨S2x256x256, .f32⟩
  | 22 => ⟨S2x2048x4x64, .f32⟩
  | 23 => ⟨S2x256x4x64, .f32⟩
  | 24 => ⟨S2x256x4x64, .f32⟩
  | 25 => ⟨S2x4x2048x256, .f32⟩
  | 26 => ⟨S_, .f32⟩
  | 27 => ⟨S2x4x2048x256, .f32⟩
  | 28 => ⟨S2x4x2048x256, .f32⟩
  | 29 => ⟨S_, .f32⟩
  | 30 => ⟨S2x4x2048, .f32⟩
  | 31 => ⟨S2x4x2048x1, .f32⟩
  | 32 => ⟨S2x4x2048x256, .f32⟩
  | 33 => ⟨S2x4x2048x256, .i1⟩
  | 34 => ⟨S2x4x2048x256, .f32⟩
  | 35 => ⟨S_, .f32⟩
  | 36 => ⟨S2x4x2048, .f32⟩
  | 37 => ⟨S_, .f32⟩
  | 38 => ⟨S2x4x2048, .f32⟩
  | 39 => ⟨S2x4x2048, .f32⟩
  | 40 => ⟨S_, .f32⟩
  | 41 => ⟨S2x4x2048, .f32⟩
  | 42 => ⟨S2x4x2048, .i1⟩
  | 43 => ⟨S_, .f32⟩
  | 44 => ⟨S2x4x2048, .f32⟩
  | 45 => ⟨S2x4x2048, .i1⟩
  | 46 => ⟨S_, .f32⟩
  | 47 => ⟨S2x4x2048, .f32⟩
  | 48 => ⟨S_, .f32⟩
  | 49 => ⟨S2x4x2048, .f32⟩
  | 50 => ⟨S_, .f32⟩
  | 51 => ⟨S2x4x2048, .f32⟩
  | 52 => ⟨S2x4x2048, .f32⟩
  | 53 => ⟨S2x4x2048, .f32⟩
  | 54 => ⟨S2x4x2048x1, .f32⟩
  | 55 => ⟨S2x4x2048x256, .f32⟩
  | 56 => ⟨S2x4x2048x256, .f32⟩
  | 57 => ⟨S2x4x2048x256, .f32⟩
  | 58 => ⟨S_, .f32⟩
  | 59 => ⟨S2x4x2048, .f32⟩
  | 60 => ⟨S2x4x2048x1, .f32⟩
  | 61 => ⟨S2x4x2048x256, .f32⟩
  | 62 => ⟨S2x4x2048x256, .f32⟩
  | 63 => ⟨S2x4x2048x1, .f32⟩
  | 64 => ⟨S_, .f32⟩
  | 65 => ⟨S2x4x2048x1, .f32⟩
  | 66 => ⟨S2x4x2048x1, .f32⟩
  | 67 => ⟨S2x4x64x2048, .f32⟩
  | 68 => ⟨S2x2048x4x64, .f32⟩
  | 69 => ⟨S2x2048x256, .f32⟩
  | 70 => ⟨S2x2048x256, .f32⟩
  | 71 => ⟨S2x2048x1024, .f32⟩
  | 72 => ⟨S2x2048x1024, .f32⟩
  | 73 => ⟨S2x2048x1024, .f32⟩
  | 74 => ⟨S2x2048x512, .f32⟩
  | 75 => ⟨S2x2048x256, .f32⟩
  | 76 => ⟨S2x2048x256, .f32⟩
  | 77 => ⟨S2x2048x256, .f32⟩
  | 78 => ⟨S2x2048x256, .f32⟩
  | 79 => ⟨S2x2048x4x64, .f32⟩
  | 80 => ⟨S2x4x64x2048, .f32⟩
  | 81 => ⟨S2x4x2048x256, .f32⟩
  | 82 => ⟨S2x4x64x256, .f32⟩
  | 83 => ⟨S2x256x4x64, .f32⟩
  | 84 => ⟨S2x4x2048x256, .f32⟩
  | 85 => ⟨S2x4x2048x256, .f32⟩
  | 86 => ⟨S2x4x2048x256, .f32⟩
  | 87 => ⟨S_, .f32⟩
  | 88 => ⟨S2x4x2048, .f32⟩
  | 89 => ⟨S2x4x2048x1, .f32⟩
  | 90 => ⟨S2x4x2048x1, .f32⟩
  | 91 => ⟨S2x4x2048x256, .f32⟩
  | 92 => ⟨S2x4x2048x256, .f32⟩
  | 93 => ⟨S_, .f32⟩
  | 94 => ⟨S2x4x2048, .f32⟩
  | 95 => ⟨S2x4x2048x256, .f32⟩
  | 96 => ⟨S2x4x2048x256, .f32⟩
  | 97 => ⟨S2x4x2048x256, .f32⟩
  | 98 => ⟨S_, .f32⟩
  | 99 => ⟨S2x4x2048x256, .f32⟩
  | 100 => ⟨S2x4x2048x256, .f32⟩
  | 101 => ⟨S2x4x256x64, .f32⟩
  | 102 => ⟨S2x256x4x64, .f32⟩
  | 103 => ⟨S2x4x2048x64, .f32⟩
  | 104 => ⟨S2x2048x4x64, .f32⟩
  | 105 => ⟨S2x256x256, .f32⟩
  | 106 => ⟨S2x256x256, .f32⟩
  | 107 => ⟨S2x2048x256, .f32⟩
  | 108 => ⟨S2x256x512, .f32⟩
  | 109 => ⟨S2x2048x256, .f32⟩
  | 110 => ⟨S2x2048x256, .f32⟩
  | 111 => ⟨S2x2048x256, .f32⟩
  | 112 => ⟨S2x2048x256, .f32⟩
  | 113 => ⟨S2x2048x256, .f32⟩
  | 114 => ⟨S2x2048x256, .f32⟩
  | 115 => ⟨S2x2048x256, .f32⟩
  | 116 => ⟨S2x2048x256, .f32⟩
  | 117 => ⟨S2x2048x256, .f32⟩
  | 118 => ⟨S2x2048x256, .f32⟩
  | 119 => ⟨S2x2048x256, .f32⟩
  | 120 => ⟨S2x2048x256, .f32⟩
  | 121 => ⟨S2x16x128x4x64, .f32⟩
  | 122 => ⟨S_, .f32⟩
  | 123 => ⟨S128x4, .f32⟩
  | 124 => ⟨S1x1x128x4x1, .f32⟩
  | 125 => ⟨S_, .f32⟩
  | 126 => ⟨S128x4, .f32⟩
  | 127 => ⟨S4x128, .f32⟩
  | _ => ⟨S2x2048x1024, .f32⟩

abbrev hbmTy0_2 (i : Nat) : BufTy := match i % 128 with
  | 0 => ⟨S4x2x16x64x128, .f32⟩
  | 1 => ⟨S4x128x128, .f32⟩
  | 2 => ⟨S4x2x16x64x128, .f32⟩
  | 3 => ⟨S2x16x128x4x64, .f32⟩
  | 4 => ⟨S2x2048x256, .f32⟩
  | 5 => ⟨S2x2048x256, .f32⟩
  | 6 => ⟨S_, .f32⟩
  | 7 => ⟨S256, .f32⟩
  | 8 => ⟨S1x1x256, .f32⟩
  | 9 => ⟨S2x2048x256, .f32⟩
  | 10 => ⟨S2x2048x256, .f32⟩
  | 11 => ⟨S_, .f32⟩
  | 12 => ⟨S256, .f32⟩
  | 13 => ⟨S2x2048x256, .f32⟩
  | 14 => ⟨S_, .f32⟩
  | 15 => ⟨S2x2048, .f32⟩
  | 16 => ⟨S2x2048x1, .f32⟩
  | 17 => ⟨S2x2048x256, .f32⟩
  | 18 => ⟨S2x2048x256, .f32⟩
  | 19 => ⟨S2x2048x1, .f32⟩
  | 20 => ⟨S_, .f32⟩
  | 21 => ⟨S2x2048x1, .f32⟩
  | 22 => ⟨S2x2048x1, .f32⟩
  | 23 => ⟨S_, .f32⟩
  | 24 => ⟨S2x2048, .f32⟩
  | 25 => ⟨S2x2048x256, .f32⟩
  | 26 => ⟨S2x2048x256, .f32⟩
  | 27 => ⟨S2x2048x256, .f32⟩
  | 28 => ⟨S2x2048x256, .f32⟩
  | 29 => ⟨S2x2048x256, .f32⟩
  | 30 => ⟨S1x4x128, .f32⟩
  | 31 => ⟨S1x4x128x128, .f32⟩
  | 32 => ⟨S1x256, .f32⟩
  | 33 => ⟨S2x2048x256, .f32⟩
  | 34 => ⟨S2x2048x256, .f32⟩
  | 35 => ⟨S_, .f32⟩
  | 36 => ⟨S2x2048x256, .f32⟩
  | 37 => ⟨S2x2048x256, .f32⟩
  | 38 => ⟨S2x2048x256, .f32⟩
  | 39 => ⟨S_, .f32⟩
  | 40 => ⟨S2x2048x256, .f32⟩
  | 41 => ⟨S2x2048x256, .f32⟩
  | 42 => ⟨S2x2048x256, .f32⟩
  | 43 => ⟨S2x2048x256, .f32⟩
  | 44 => ⟨S2x2048x256, .f32⟩
  | 45 => ⟨S2x2048x256, .f32⟩
  | 46 => ⟨S2x2048x256, .f32⟩
  | 47 => ⟨S2x2048x256, .f32⟩
  | 48 => ⟨S2x2048x256, .f32⟩
  | 49 => ⟨S_, .f32⟩
  | 50 => ⟨S2x2048x256, .f32⟩
  | 51 => ⟨S2x2048x256, .f32⟩
  | 52 => ⟨S2x2048x256, .f32⟩
  | 53 => ⟨S_, .f32⟩
  | 54 => ⟨S2x2048x256, .f32⟩
  | 55 => ⟨S2x2048x256, .f32⟩
  | 56 => ⟨S2x2048x256, .f32⟩
  | 57 => ⟨S2x2048x256, .f32⟩
  | 58 => ⟨S2x2048x256, .f32⟩
  | 59 => ⟨S2x2048x256, .f32⟩
  | 60 => ⟨S2x2048x256, .f32⟩
  | 61 => ⟨S2x2048x512, .f32⟩
  | 62 => ⟨S2x2048x512, .f32⟩
  | 63 => ⟨S2x2048x512, .f32⟩
  | 64 => ⟨S2x2048x512, .f32⟩
  | 65 => ⟨S2x2048x512, .f32⟩
  | 66 => ⟨S2x2048x512, .f32⟩
  | 67 => ⟨S2x2048x1792, .f32⟩
  | 68 => ⟨S4096x512, .f32⟩
  | 69 => ⟨S4096x1792, .f32⟩
  | 70 => ⟨S4096x1792, .bf16⟩
  | 71 => ⟨S512x512, .f32⟩
  | 72 => ⟨S4x128x128, .f32⟩
  | 73 => ⟨S4x128, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v7_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v7_1 : Ref sig .tc := ⟨.hbm, 26, rfl⟩
abbrev main_v7_0 : Ref sig .tc := ⟨.hbm, 27, rfl⟩
abbrev main_v8 : Ref sig .tc := ⟨.hbm, 28, rfl⟩
abbrev main_cst : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_11 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_13 : Ref sig .tc := ⟨.hbm, 82, rfl⟩
abbrev main_v48 : Ref sig .tc := ⟨.hbm, 83, rfl⟩
abbrev main_v49 : Ref sig .tc := ⟨.hbm, 84, rfl⟩
abbrev main_cst_14 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_v57 : Ref sig .tc := ⟨.hbm, 94, rfl⟩
abbrev main_v58 : Ref sig .tc := ⟨.hbm, 95, rfl⟩
abbrev main_cst_16 : Ref sig .tc := ⟨.hbm, 96, rfl⟩
abbrev main_v59 : Ref sig .tc := ⟨.hbm, 97, rfl⟩
abbrev main_v60 : Ref sig .tc := ⟨.hbm, 98, rfl⟩
abbrev main_cst_17 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_18 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call1_v0 : Ref sig .tc := ⟨.hbm, 121, rfl⟩
abbrev main_call1_v1 : Ref sig .tc := ⟨.hbm, 122, rfl⟩
abbrev main_call1_cst : Ref sig .tc := ⟨.hbm, 123, rfl⟩
abbrev main_call1_v2 : Ref sig .tc := ⟨.hbm, 124, rfl⟩
abbrev main_call1_v3 : Ref sig .tc := ⟨.hbm, 125, rfl⟩
abbrev main_call1_cst_0 : Ref sig .tc := ⟨.hbm, 126, rfl⟩
abbrev main_call1_v4 : Ref sig .tc := ⟨.hbm, 127, rfl⟩
abbrev main_v81_2 : Ref sig .tc := ⟨.hbm, 128, rfl⟩
abbrev main_call1_cst_1 : Ref sig .tc := ⟨.hbm, 129, rfl⟩
abbrev main_call1_v6 : Ref sig .tc := ⟨.hbm, 130, rfl⟩
abbrev main_call1_v7 : Ref sig .tc := ⟨.hbm, 131, rfl⟩
abbrev main_v81_1 : Ref sig .tc := ⟨.hbm, 132, rfl⟩
abbrev main_v81_0 : Ref sig .tc := ⟨.hbm, 133, rfl⟩
abbrev main_v82 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_v83_2 : Ref sig .tc := ⟨.hbm, 142, rfl⟩
abbrev main_call2_cst_1 : Ref sig .tc := ⟨.hbm, 143, rfl⟩
abbrev main_call2_v6 : Ref sig .tc := ⟨.hbm, 144, rfl⟩
abbrev main_call2_v7 : Ref sig .tc := ⟨.hbm, 145, rfl⟩
abbrev main_v83_1 : Ref sig .tc := ⟨.hbm, 146, rfl⟩
abbrev main_v83_0 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_19 : Ref sig .tc := ⟨.hbm, 154, rfl⟩
abbrev main_v90 : Ref sig .tc := ⟨.hbm, 155, rfl⟩
abbrev main_v91 : Ref sig .tc := ⟨.hbm, 156, rfl⟩
abbrev main_cst_20 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_21 : Ref sig .tc := ⟨.hbm, 163, rfl⟩
abbrev main_v97 : Ref sig .tc := ⟨.hbm, 164, rfl⟩
abbrev main_cst_22 : Ref sig .tc := ⟨.hbm, 165, rfl⟩
abbrev main_v98 : Ref sig .tc := ⟨.hbm, 166, rfl⟩
abbrev main_v99 : Ref sig .tc := ⟨.hbm, 167, rfl⟩
abbrev main_cst_23 : Ref sig .tc := ⟨.hbm, 168, rfl⟩
abbrev main_v100 : Ref sig .tc := ⟨.hbm, 169, rfl⟩
abbrev main_v101 : Ref sig .tc := ⟨.hbm, 170, rfl⟩
abbrev main_cst_24 : Ref sig .tc := ⟨.hbm, 171, rfl⟩
abbrev main_v102 : Ref sig .tc := ⟨.hbm, 172, rfl⟩
abbrev main_v103 : Ref sig .tc := ⟨.hbm, 173, rfl⟩
abbrev main_cst_25 : Ref sig .tc := ⟨.hbm, 174, rfl⟩
abbrev main_v104 : Ref sig .tc := ⟨.hbm, 175, rfl⟩
abbrev main_cst_26 : Ref sig .tc := ⟨.hbm, 176, rfl⟩
abbrev main_v105 : Ref sig .tc := ⟨.hbm, 177, rfl⟩
abbrev main_cst_27 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_28 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_29 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_30 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_cst_31 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_32 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_call3_v0 : Ref sig .tc := ⟨.hbm, 237, rfl⟩
abbrev main_call3_v1 : Ref sig .tc := ⟨.hbm, 238, rfl⟩
abbrev main_call3_v2 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_call4_v0 : Ref sig .tc := ⟨.hbm, 243, rfl⟩
abbrev main_call4_v1 : Ref sig .tc := ⟨.hbm, 244, rfl⟩
abbrev main_call4_v2 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_cst_33 : Ref sig .tc := ⟨.hbm, 250, rfl⟩
abbrev main_v166 : Ref sig .tc := ⟨.hbm, 251, rfl⟩
abbrev main_v167 : Ref sig .tc := ⟨.hbm, 252, rfl⟩
abbrev main_cst_34 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_cst_35 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_cst_36 : Ref sig .tc := ⟨.hbm, 267, rfl⟩
abbrev main_v180 : Ref sig .tc := ⟨.hbm, 268, rfl⟩
abbrev main_v181 : Ref sig .tc := ⟨.hbm, 269, rfl⟩
abbrev main_cst_37 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_cst_38 : Ref sig .tc := ⟨.hbm, 276, rfl⟩
abbrev main_v187 : Ref sig .tc := ⟨.hbm, 277, rfl⟩
abbrev main_v188 : Ref sig .tc := ⟨.hbm, 278, rfl⟩
abbrev main_cst_39 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_cst_40 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_cst_41 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_cst_42 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_cst_43 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_call5_v0 : Ref sig .tc := ⟨.hbm, 319, rfl⟩
abbrev main_call5_v1 : Ref sig .tc := ⟨.hbm, 320, rfl⟩
abbrev main_call5_v2 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩

abbrev nD : Nat := 1
abbrev τ : Topo := Topo.v7x

variable {F : FTy → Type} [FloatOps F]
-- ==== OutKernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S256x1024 : Shape := ⟨2, ![256, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S8x128, .f32⟩
  | .hbm, ⟨13, _⟩ => ⟨S1x1024, .f32⟩
  | .hbm, ⟨14, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v77 : BitVec 1 := Scalar.cmpi .eq arg0 c7_i32
  let v78 : BitVec 32 := Scalar.extui v77
  let c0_i32_36 : BitVec 32 := 0#32
  let v79 : BitVec 1 := Scalar.cmpi .ne v78 c0_i32_36
  v79

@[reducible] def k0_t1_loop : Scf.Loop 32 :=
  let c0_i32_37 : BitVec 32 := 0#32
  let c4_i32 : BitVec 32 := 4#32
  let v80 : BitVec 32 := Scalar.addi c0_i32_37 c4_i32
  let c1_i32 : BitVec 32 := 1#32
  ⟨c0_i32_37, v80, c1_i32⟩
def k0_mult1 (k0_t1 : Fin k0_t1_loop.trips) : BitVec 32 :=
  let c0_i32_37 : BitVec 32 := 0#32
  let c1_i32 : BitVec 32 := 1#32
  let arg11 : BitVec 32 := Scf.iv c0_i32_37 c1_i32 k0_t1
  let c256_i32 : BitVec 32 := 256#32
  let v81 : BitVec 32 := Scalar.muli arg11 c256_i32
  v81
def k0_off1 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let c256_i32 : BitVec 32 := 256#32
  let v81 : BitVec 32 := Scalar.muli arg11 c256_i32
  let v82 : BitVec 32 := v81
  let v83 : Index := Scalar.indexCast v82
  let c0_39 : Index := 0#32
  ![v83.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S8x128 : Shape := ⟨2, ![8, 128]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x2048, .f32⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S1024x1024, .f32⟩
  | .hbm, ⟨76, _⟩ => ⟨S1024x1024, .f32⟩
  | .hbm, ⟨77, _⟩ => ⟨S4096x1024, .f32⟩
  | .hbm, ⟨78, _⟩ => ⟨S8x128, .f32⟩
  | .hbm, ⟨79, _⟩ => ⟨S1x1024, .f32⟩
  | .hbm, ⟨80, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== DxKernel.lean ====
abbrev S2x2048x512 : Shape := ⟨3, ![2, 2048, 512]⟩
abbrev S2x2048x1792 : Shape := ⟨3, ![2, 2048, 1792]⟩
abbrev S1024x3328 : Shape := ⟨2, ![1024, 3328]⟩
abbrev S2x2048x1024 : Shape := ⟨3, ![2, 2048, 1024]⟩
abbrev S1x1024 : Shape := ⟨2, ![1, 1024]⟩
abbrev S4096x512 : Shape := ⟨2, ![4096, 512]⟩
abbrev S4096x1792 : Shape := ⟨2, ![4096, 1792]⟩
abbrev S3328x1024 : Shape := ⟨2, ![3328, 1024]⟩
abbrev S4096x1024 : Shape := ⟨2, ![4096, 1024]⟩
abbrev S_ : Shape := ⟨0, ![]⟩
abbrev S8x128 : Shape := ⟨2, ![8, 128]⟩
abbrev S512x512 : Shape := ⟨2, ![512, 512]⟩
abbrev S512x1792 : Shape := ⟨2, ![512, 1792]⟩
abbrev S512x1024 : Shape := ⟨2, ![512, 1024]⟩
abbrev S1792x1024 : Shape := ⟨2, ![1792, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 17
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x1792, .f32⟩
  | .hbm, ⟨4, _⟩ => ⟨S1024x3328, .f32⟩
  | .hbm, ⟨5, _⟩ => ⟨S2x2048x1024, .f32⟩
  | .hbm, ⟨6, _⟩ => ⟨S2x2048x1024, .f32⟩
  | .hbm, ⟨7, _⟩ => ⟨S1x1024, .f32⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S4096x1792, .f32⟩
  | .hbm, ⟨15, _⟩ => ⟨S4096x1792, .bf16⟩
  | .hbm, ⟨16, _⟩ => ⟨S3328x1024, .f32⟩
  | .hbm, ⟨17, _⟩ => ⟨S3328x1024, .bf16⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S8x128, .f32⟩
  | .hbm, ⟨22, _⟩ => ⟨S4096x1024, .f32⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1792, .bf16⟩
  | .local _ .vmem, ⟨7, _⟩ => ⟨S512x1792, .bf16⟩
  | .local _ .vmem, ⟨8, _⟩ => ⟨S3328x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3328x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DxReferenceIdeal.lean ====
abbrev S2x2048x512 : Shape := ⟨3, ![2, 2048, 512]⟩
abbrev S2x2048x1792 : Shape := ⟨3, ![2, 2048, 1792]⟩
abbrev S1024x3328 : Shape := ⟨2, ![1024, 3328]⟩
abbrev S2x2048x1024 : Shape := ⟨3, ![2, 2048, 1024]⟩
abbrev S1x1024 : Shape := ⟨2, ![1, 1024]⟩
abbrev S2x2048x3328 : Shape := ⟨3, ![2, 2048, 3328]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x1792, .f32⟩
  | .hbm, ⟨4, _⟩ => ⟨S1024x3328, .f32⟩
  | .hbm, ⟨5, _⟩ => ⟨S2x2048x1024, .f32⟩
  | .hbm, ⟨6, _⟩ => ⟨S2x2048x1024, .f32⟩
  | .hbm, ⟨7, _⟩ => ⟨S1x1024, .f32⟩
  | .hbm, ⟨8, _⟩ => ⟨S2x2048x3328, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x3328, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S1x1024, .f32⟩
  | .hbm, ⟨59, _⟩ => ⟨S4096x1024, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== AttnKernel.lean ====
abbrev S4096x3328 : Shape := ⟨2, ![4096, 3328]⟩
abbrev S2x16x128x1536 : Shape := ⟨4, ![2, 16, 128, 1536]⟩
abbrev S4x8x128 : Shape := ⟨3, ![4, 8, 128]⟩
abbrev S4096x512 : Shape := ⟨2, ![4096, 512]⟩
abbrev S8x128 : Shape := ⟨2, ![8, 128]⟩
abbrev S1x8x128 : Shape := ⟨3, ![1, 8, 128]⟩
abbrev S2048x128 : Shape := ⟨2, ![2048, 128]⟩
abbrev S1x16x128x128 : Shape := ⟨4, ![1, 16, 128, 128]⟩
abbrev S7x256x256 : Shape := ⟨3, ![7, 256, 256]⟩
abbrev S48x256x256 : Shape := ⟨3, ![48, 256, 256]⟩
abbrev S128x128 : Shape := ⟨2, ![128, 128]⟩
abbrev S128x256 : Shape := ⟨2, ![128, 256]⟩
abbrev S1x1x1 : Shape := ⟨3, ![1, 1, 1]⟩
abbrev S1x1 : Shape := ⟨2, ![1, 1]⟩
abbrev S1x128x256 : Shape := ⟨3, ![1, 128, 256]⟩
abbrev S1x128x128 : Shape := ⟨3, ![1, 128, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x1x128x128 : Shape := ⟨4, ![1, 1, 128, 128]⟩
abbrev S1x256x128 : Shape := ⟨3, ![1, 256, 128]⟩

abbrev nBuf : Space → Nat
  | .hbm => 10
  | .vmem => 42
  | .smem => 0
  | _ => 0

abbrev bufTy : (tb : Table) → Fin (tcTables nBuf tb) → BufTy
  | .hbm, ⟨0, _⟩ => ⟨S4096x3328, .f32⟩
  | .hbm, ⟨1, _⟩ => ⟨S2x16x128x1536, .bf16⟩
  | .hbm, ⟨2, _⟩ => ⟨S4x8x128, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S8x128, .f32⟩
  | .hbm, ⟨7, _⟩ => ⟨S4096x512, .bf16⟩
  | .hbm, ⟨8, _⟩ => ⟨S4096x512, .bf16⟩
  | .hbm, ⟨9, _⟩ => ⟨S4096x512, .bf16⟩
  | .local _ .vmem, ⟨0, _⟩ => ⟨S1x8x128, .f32⟩
  | .local _ .vmem, ⟨1, _⟩ => ⟨S1x8x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x16x128x128, .bf16⟩
  | .local _ .vmem, ⟨9, _⟩ => ⟨S1x16x128x128, .bf16⟩
  | .local _ .vmem, ⟨10, _⟩ => ⟨S1x16x128x128, .bf16⟩
  | .local _ .vmem, ⟨11, _⟩ => ⟨S1x16x128x128, .bf16⟩
  | .local _ .vmem, ⟨12, _⟩ => ⟨S1x16x128x128, .bf16⟩
  | .local _ .vmem, ⟨13, _⟩ => ⟨S1x16x128x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S7x256x256, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S48x256x256, .bf16⟩
  | .local _ .vmem, ⟨41, _⟩ => ⟨S48x256x256, .bf16⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_scratch14 : Ref sig .tc := ⟨.vmem, 40, rfl⟩
abbrev cc0_scratch15 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_128 : BitVec 32 := 0#32
  let c8_i32 : BitVec 32 := 8#32
  let v240 : BitVec 32 := Scalar.addi c0_i32_128 c8_i32
  let c1_i32 : BitVec 32 := 1#32
  ⟨c0_i32_128, v240, c1_i32⟩
def k0_mult1 (k0_t1 : Fin k0_t1_loop.trips) : BitVec 32 :=
  let c0_i32_128 : BitVec 32 := 0#32
  let c1_i32 : BitVec 32 := 1#32
  let arg32 : BitVec 32 := Scf.iv c0_i32_128 c1_i32 k0_t1
  let c256_i32_2106 : BitVec 32 := 256#32
  let v4371 : BitVec 32 := Scalar.muli arg32 c256_i32_2106
  v4371
def k0_off1 (k0_t1 : Fin k0_t1_loop.trips) : Fin 2 → Nat :=
  let c0_i32_128 : BitVec 32 := 0#32
  let c1_i32 : BitVec 32 := 1#32
  let arg32 : BitVec 32 := Scf.iv c0_i32_128 c1_i32 k0_t1
  let c256_i32_2106 : BitVec 32 := 256#32
  let v4371 : BitVec 32 := Scalar.muli arg32 c256_i32_2106
  let v4372 : BitVec 32 := v4371
  let v4376 : Index := Scalar.indexCast v4372
  let c0_2108 : Index := 0#32
  ![v4376.toNat, 0]
def k0_off2 (c0_i32_130 : BitVec 32) : Fin 2 → Nat :=
  let c0_i32_144 : BitVec 32 := 0#32
  let c1_i32_143 : BitVec 32 := 1#32
  let c128_i32_142 : BitVec 32 := 128#32
  let v264 : BitVec 32 := Scalar.muli c0_i32_130 c128_i32_142
  let v265 : BitVec 32 := Scalar.muli c1_i32_143 v264
  let v266 : BitVec 32 := Scalar.addi c0_i32_144 v265
  let v269 : Index := Scalar.indexCast v266
  let c0_147 : Index := 0#32
  ![v269.toNat, 0]
def k0_off3 (c0_i32_130 : BitVec 32) : Fin 2 → Nat :=
  let c0_i32_146 : BitVec 32 := 0#32
  let c1_i32_145 : BitVec 32 := 1#32
  let c1792_i32 : BitVec 32 := 1792#32
  let c0_i32_133 : BitVec 32 := 0#32
  let c128_i32_131 : BitVec 32 := 128#32
  let v241 : BitVec 32 := Scalar.muli c0_i32_130 c128_i32_131
  let c64_i32_132 : BitVec 32 := 64#32
  let v242 : BitVec 32 := Scalar.subi v241 c64_i32_132
  let v243 : BitVec 32 := Scalar.maxsi c0_i32_133 v242
  let v244 : BitVec 32 := Scalar.minsi c1792_i32 v243
  let v267 : BitVec 32 := Scalar.muli c1_i32_145 v244
  let v268 : BitVec 32 := Scalar.addi c0_i32_146 v267
  let v271 : Index := Scalar.indexCast v268
  let c0_148 : Index := 0#32
  ![v271.toNat, 0]
def k0_off4 (c0_i32_130 : BitVec 32) : Fin 3 → Nat :=
  let c0_i32_157 : BitVec 32 := 0#32
  let c128_i32_134 : BitVec 32 := 128#32
  let v245 : BitVec 32 := Scalar.muli c0_i32_130 c128_i32_134
  let c1792_i32 : BitVec 32 := 1792#32
  let c0_i32_133 : BitVec 32 := 0#32
  let c128_i32_131 : BitVec 32 := 128#32
  let v241 : BitVec 32 := Scalar.muli c0_i32_130 c128_i32_131
  let c64_i32_132 : BitVec 32 := 64#32
  let v242 : BitVec 32 := Scalar.subi v241 c64_i32_132
  let v243 : BitVec 32 := Scalar.maxsi c0_i32_133 v242
  let v244 : BitVec 32 := Scalar.minsi c1792_i32 v243
  let v246 : BitVec 32 := Scalar.subi v245 v244
  let c0_i32_136 : BitVec 32 := 0#32
  let v248 : BitVec 1 := Scalar.cmpi .sgt v246 c0_i32_136
  let v249 : BitVec 32 := Scalar.extui v248
  let c0_i32_137 : BitVec 32 := 0#32
  let v250 : BitVec 1 := Scalar.cmpi .slt v246 c0_i32_137
  let v251 : BitVec 32 := Scalar.extui v250
  let v252 : BitVec 32 := Scalar.subi v249 v251
  let c64_i32_135 : BitVec 32 := 64#32
  let c0_i32_138 : BitVec 32 := 0#32
  let v253 : BitVec 1 := Scalar.cmpi .sgt c64_i32_135 c0_i32_138
  let v254 : BitVec 32 := Scalar.extui v253
  let c0_i32_139 : BitVec 32 := 0#32
  let v255 : BitVec 1 := Scalar.cmpi .slt c64_i32_135 c0_i32_139
  let v256 : BitVec 32 := Scalar.extui v255
  let v257 : BitVec 32 := Scalar.subi v254 v256
  let v258 : BitVec 1 := Scalar.cmpi .ne v252 v257
  let v259 : BitVec 32 := Scalar.remsi v246 c64_i32_135
  let c0_i32_140 : BitVec 32 := 0#32
  let v260 : BitVec 1 := Scalar.cmpi .ne v259 c0_i32_140
  let v261 : BitVec 1 := Scalar.andi v258 v260
  let v247 : BitVec 32 := Scalar.divsi v246 c64_i32_135
  let c1_i32_141 : BitVec 32 := 1#32
  let v262 : BitVec 32 := Scalar.subi v247 c1_i32_141
  let v263 : BitVec 32 := Scalar.select v261 v262 v247
  let v292 : BitVec 32 := Scalar.addi c0_i32_157 v263
  let v293 : Index := Scalar.indexCast v292
  let c0_158 : Index := 0#32
  let c0_159 : Index := 0#32
  ![v293.toNat, 0, 0]
def k0_off5 (c0_i32_162 : BitVec 32) (c0_i32_130 : BitVec 32) : Fin 3 → Nat :=
  let v306 : BitVec 32 := Scalar.addi c0_i32_162 c0_i32_130
  let v307 : Index := Scalar.indexCast v306
  let c0_163 : Index := 0#32
  let c0_164 : Index := 0#32
  ![v307.toNat, 0, 0]
def k0_off6 (c0_i32_130 : BitVec 32) : Fin 2 → Nat :=
  let c0_i32_171 : BitVec 32 := 0#32
  let v329 : BitVec 1 := Scalar.cmpi .sgt c0_i32_130 c0_i32_171
  let v330 : BitVec 32 := Scalar.extui v329
  let c0_i32_172 : BitVec 32 := 0#32
  let v331 : BitVec 1 := Scalar.cmpi .slt c0_i32_130 c0_i32_172
  let v332 : BitVec 32 := Scalar.extui v331
  let v333 : BitVec 32 := Scalar.subi v330 v332
  let c4_i32 : BitVec 32 := 4#32
  let c0_i32_173 : BitVec 32 := 0#32
  let v334 : BitVec 1 := Scalar.cmpi .sgt c4_i32 c0_i32_173
  let v335 : BitVec 32 := Scalar.extui v334
  let c0_i32_174 : BitVec 32 := 0#32
  let v336 : BitVec 1 := Scalar.cmpi .slt c4_i32 c0_i32_174
  let v337 : BitVec 32 := Scalar.extui v336
  let v338 : BitVec 32 := Scalar.subi v335 v337
  let v339 : BitVec 1 := Scalar.cmpi .ne v333 v338
  let v340 : BitVec 32 := Scalar.remsi c0_i32_130 c4_i32
  let c0_i32_175 : BitVec 32 := 0#32
  let v341 : BitVec 1 := Scalar.cmpi .ne v340 c0_i32_175
  let v342 : BitVec 1 := Scalar.andi v339 v341
  let v328 : BitVec 32 := Scalar.divsi c0_i32_130 c4_i32
  let c1_i32_176 : BitVec 32 := 1#32
  let v343 : BitVec 32 := Scalar.subi v328 c1_i32_176
  let v344 : BitVec 32 := Scalar.select v342 v343 v328
  let c4_i32_195 : BitVec 32 := 4#32
  let c4_i32_177 : BitVec 32 := 4#32
  let c0_i32_178 : BitVec 32 := 0#32
  let v345 : BitVec 1 := Scalar.cmpi .eq c4_i32_177 c0_i32_178
  let c1_i32_179 : BitVec 32 := 1#32
  let v346 : BitVec 32 := Scalar.select v345 c1_i32_179 c4_i32_177
  let v347 : BitVec 32 := Scalar.remsi c0_i32_130 v346
  let c0_i32_181 : BitVec 32 := 0#32
  let v349 : BitVec 1 := Scalar.cmpi .slt v347 c0_i32_181
  let c0_i32_182 : BitVec 32 := 0#32
  let v350 : BitVec 1 := Scalar.cmpi .slt v346 c0_i32_182
  let v351 : BitVec 1 := Scalar.xori v349 v350
  let c0_i32_180 : BitVec 32 := 0#32
  let v348 : BitVec 1 := Scalar.cmpi .ne v347 c0_i32_180
  let v352 : BitVec 1 := Scalar.andi v351 v348
  let v353 : BitVec 32 := Scalar.addi v347 v346
  let v354 : BitVec 32 := Scalar.select v352 v353 v347
  let c128_i32_194 : BitVec 32 := 128#32
  let v378 : BitVec 32 := Scalar.muli v354 c128_i32_194
  let v379 : BitVec 32 := Scalar.muli c4_i32_195 v378
  let v380 : BitVec 32 := Scalar.addi v344 v379
  let v383 : Index := Scalar.indexCast v380
  let c0_197 : Index := 0#32
  ![v383.toNat, 0]
def k0_off7 (c0_i32_130 : BitVec 32) : Fin 2 → Nat :=
  let c0_i32_171 : BitVec 32 := 0#32
  let v329 : BitVec 1 := Scalar.cmpi .sgt c0_i32_130 c0_i32_171
  let v330 : BitVec 32 := Scalar.extui v329
  let c0_i32_172 : BitVec 32 := 0#32
  let v331 : BitVec 1 := Scalar.cmpi .slt c0_i32_130 c0_i32_172
  let v332 : BitVec 32 := Scalar.extui v331
  let v333 : BitVec 32 := Scalar.subi v330 v332
  let c4_i32 : BitVec 32 := 4#32
  let c0_i32_173 : BitVec 32 := 0#32
  let v334 : BitVec 1 := Scalar.cmpi .sgt c4_i32 c0_i32_173
  let v335 : BitVec 32 := Scalar.extui v334
  let c0_i32_174 : BitVec 32 := 0#32
  let v336 : BitVec 1 := Scalar.cmpi .slt c4_i32 c0_i32_174
  let v337 : BitVec 32 := Scalar.extui v336
  let v338 : BitVec 32 := Scalar.subi v335 v337
  let v339 : BitVec 1 := Scalar.cmpi .ne v333 v338
  let v340 : BitVec 32 := Scalar.remsi c0_i32_130 c4_i32
  let c0_i32_175 : BitVec 32 := 0#32
  let v341 : BitVec 1 := Scalar.cmpi .ne v340 c0_i32_175
  let v342 : BitVec 1 := Scalar.andi v339 v341
  let v328 : BitVec 32 := Scalar.divsi c0_i32_130 c4_i32
  let c1_i32_176 : BitVec 32 := 1#32
  let v343 : BitVec 32 := Scalar.subi v328 c1_i32_176
  let v344 : BitVec 32 := Scalar.select v342 v343 v328
  let c4_i32_196 : BitVec 32 := 4#32
  let c256_i32 : BitVec 32 := 256#32
  let c0_i32_185 : BitVec 32 := 0#32
  let c4_i32_177 : BitVec 32 := 4#32
  let c0_i32_178 : BitVec 32 := 0#32
  let v345 : BitVec 1 := Scalar.cmpi .eq c4_i32_177 c0_i32_178
  let c1_i32_179 : BitVec 32 := 1#32
  let v346 : BitVec 32 := Scalar.select v345 c1_i32_179 c4_i32_177
  let v347 : BitVec 32 := Scalar.remsi c0_i32_130 v346
  let c0_i32_181 : BitVec 32 := 0#32
  let v349 : BitVec 1 := Scalar.cmpi .slt v347 c0_i32_181
  let c0_i32_182 : BitVec 32 := 0#32
  let v350 : BitVec 1 := Scalar.cmpi .slt v346 c0_i32_182
  let v351 : BitVec 1 := Scalar.xori v349 v350
  let c0_i32_180 : BitVec 32 := 0#32
  let v348 : BitVec 1 := Scalar.cmpi .ne v347 c0_i32_180
  let v352 : BitVec 1 := Scalar.andi v351 v348
  let v353 : BitVec 32 := Scalar.addi v347 v346
  let v354 : BitVec 32 := Scalar.select v352 v353 v347
  let c128_i32_183 : BitVec 32 := 128#32
  let v355 : BitVec 32 := Scalar.muli v354 c128_i32_183
  let c64_i32_184 : BitVec 32 := 64#32
  let v356 : BitVec 32 := Scalar.subi v355 c64_i32_184
  let v357 : BitVec 32 := Scalar.maxsi c0_i32_185 v356
  let v358 : BitVec 32 := Scalar.minsi c256_i32 v357
  let v381 : BitVec 32 := Scalar.muli c4_i32_196 v358
  let v382 : BitVec 32 := Scalar.addi v344 v381
  let v385 : Index := Scalar.indexCast v382
  let c0_198 : Index := 0#32
  ![v385.toNat, 0]
def k0_off8 (c0_i32_130 : BitVec 32) : Fin 3 → Nat :=
  let c3_i32 : BitVec 32 := 3#32
  let c4_i32_177 : BitVec 32 := 4#32
  let c0_i32_178 : BitVec 32 := 0#32
  let v345 : BitVec 1 := Scalar.cmpi .eq c4_i32_177 c0_i32_178
  let c1_i32_179 : BitVec 32 := 1#32
  let v346 : BitVec 32 := Scalar.select v345 c1_i32_179 c4_i32_177
  let v347 : BitVec 32 := Scalar.remsi c0_i32_130 v346
  let c0_i32_181 : BitVec 32 := 0#32
  let v349 : BitVec 1 := Scalar.cmpi .slt v347 c0_i32_181
  let c0_i32_182 : BitVec 32 := 0#32
  let v350 : BitVec 1 := Scalar.cmpi .slt v346 c0_i32_182
  let v351 : BitVec 1 := Scalar.xori v349 v350
  let c0_i32_180 : BitVec 32 := 0#32
  let v348 : BitVec 1 := Scalar.cmpi .ne v347 c0_i32_180
  let v352 : BitVec 1 := Scalar.andi v351 v348
  let v353 : BitVec 32 := Scalar.addi v347 v346
  let v354 : BitVec 32 := Scalar.select v352 v353 v347
  let c128_i32_186 : BitVec 32 := 128#32
  let v359 : BitVec 32 := Scalar.muli v354 c128_i32_186
  let c256_i32 : BitVec 32 := 256#32
  let c0_i32_185 : BitVec 32 := 0#32
  let c128_i32_183 : BitVec 32 := 128#32
  let v355 : BitVec 32 := Scalar.muli v354 c128_i32_183
  let c64_i32_184 : BitVec 32 := 64#32
  let v356 : BitVec 32 := Scalar.subi v355 c64_i32_184
  let v357 : BitVec 32 := Scalar.maxsi c0_i32_185 v356
  let v358 : BitVec 32 := Scalar.minsi c256_i32 v357
  let v360 : BitVec 32 := Scalar.subi v359 v358
  let c0_i32_188 : BitVec 32 := 0#32
  let v362 : BitVec 1 := Scalar.cmpi .sgt v360 c0_i32_188
  let v363 : BitVec 32 := Scalar.extui v362
  let c0_i32_189 : BitVec 32 := 0#32
  let v364 : BitVec 1 := Scalar.cmpi .slt v360 c0_i32_189
  let v365 : BitVec 32 := Scalar.extui v364
  let v366 : BitVec 32 := Scalar.subi v363 v365
  let c64_i32_187 : BitVec 32 := 64#32
  let c0_i32_190 : BitVec 32 := 0#32
  let v367 : BitVec 1 := Scalar.cmpi .sgt c64_i32_187 c0_i32_190
  let v368 : BitVec 32 := Scalar.extui v367
  let c0_i32_191 : BitVec 32 := 0#32
  let v369 : BitVec 1 := Scalar.cmpi .slt c64_i32_187 c0_i32_191
  let v370 : BitVec 32 := Scalar.extui v369
  let v371 : BitVec 32 := Scalar.subi v368 v370
  let v372 : BitVec 1 := Scalar.cmpi .ne v366 v371
  let v373 : BitVec 32 := Scalar.remsi v360 c64_i32_187
  let c0_i32_192 : BitVec 32 := 0#32
  let v374 : BitVec 1 := Scalar.cmpi .ne v373 c0_i32_192
  let v375 : BitVec 1 := Scalar.andi v372 v374
  let v361 : BitVec 32 := Scalar.divsi v360 c64_i32_187
  let c1_i32_193 : BitVec 32 := 1#32
  let v376 : BitVec 32 := Scalar.subi v361 c1_i32_193
  let v377 : BitVec 32 := Scalar.select v375 v376 v361
  let v406 : BitVec 32 := Scalar.addi c3_i32 v377
  let v407 : Index := Scalar.indexCast v406
  let c0_207 : Index := 0#32
  let c0_208 : Index := 0#32
  ![v407.toNat, 0, 0]
def k0_off9 (c0_i32_130 : BitVec 32) : Fin 3 → Nat :=
  let c32_i32 : BitVec 32 := 32#32
  let v479 : BitVec 32 := Scalar.addi c32_i32 c0_i32_130
  let v480 : Index := Scalar.indexCast v479
  let c0_240 : Index := 0#32
  let c0_241 : Index := 0#32
  ![v480.toNat, 0, 0]
@[reducible] def k0_t2_loop : Scf.Loop 32 :=
  let c0_i32_2098 : BitVec 32 := 0#32
  let c16_i32_2099 : BitVec 32 := 16#32
  let v4369 : BitVec 32 := Scalar.addi c0_i32_2098 c16_i32_2099
  let c1_i32_2100 : BitVec 32 := 1#32
  ⟨c0_i32_2098, v4369, c1_i32_2100⟩
def k0_off10 (k0_t2 : Fin k0_t2_loop.trips) : Fin 2 → Nat :=
  let c0_i32_2112 : BitVec 32 := 0#32
  let c1_i32_2111 : BitVec 32 := 1#32
  let c0_i32_2098 : BitVec 32 := 0#32
  let c1_i32_2100 : BitVec 32 := 1#32
  let arg32 : BitVec 32 := Scf.iv c0_i32_2098 c1_i32_2100 k0_t2
  let c128_i32_2110 : BitVec 32 := 128#32
  let v4375 : BitVec 32 := Scalar.muli arg32 c128_i32_2110
  let v4376 : BitVec 32 := Scalar.muli c1_i32_2111 v4375
  let v4377 : BitVec 32 := Scalar.addi c0_i32_2112 v4376
  let v4380 : Index := Scalar.indexCast v4377
  let c0_2115 : Index := 0#32
  ![v4380.toNat, 0]
def k0_off11 (k0_t2 : Fin k0_t2_loop.trips) : Fin 2 → Nat :=
  let c0_i32_2114 : BitVec 32 := 0#32
  let c1_i32_2113 : BitVec 32 := 1#32
  let c1792_i32_2109 : BitVec 32 := 1792#32
  let c0_i32_2108 : BitVec 32 := 0#32
  let c0_i32_2098 : BitVec 32 := 0#32
  let c1_i32_2100 : BitVec 32 := 1#32
  let arg32 : BitVec 32 := Scf.iv c0_i32_2098 c1_i32_2100 k0_t2
  let c128_i32_2106 : BitVec 32 := 128#32
  let v4371 : BitVec 32 := Scalar.muli arg32 c128_i32_2106
  let c64_i32_2107 : BitVec 32 := 64#32
  let v4372 : BitVec 32 := Scalar.subi v4371 c64_i32_2107
  let v4373 : BitVec 32 := Scalar.maxsi c0_i32_2108 v4372
  let v4374 : BitVec 32 := Scalar.minsi c1792_i32_2109 v4373
  let v4378 : BitVec 32 := Scalar.muli c1_i32_2113 v4374
  let v4379 : BitVec 32 := Scalar.addi c0_i32_2114 v4378
  let v4382 : Index := Scalar.indexCast v4379
  let c0_2116 : Index := 0#32
  ![v4382.toNat, 0]
def k0_off12 (k0_t2 : Fin k0_t2_loop.trips) (c0_i32_2123 : BitVec 32) : Fin 3 → Nat :=
  let c0_i32_2098 : BitVec 32 := 0#32
  let c1_i32_2100 : BitVec 32 := 1#32
  let arg32 : BitVec 32 := Scf.iv c0_i32_2098 c1_i32_2100 k0_t2
  let v4400 : BitVec 32 := Scalar.addi c0_i32_2123 arg32
  let v4401 : Index := Scalar.indexCast v4400
  let c0_2124 : Index := 0#32
  let c0_2125 : Index := 0#32
  ![v4401.toNat, 0, 0]
def k0_off13 (k0_t2 : Fin k0_t2_loop.trips) : Fin 2 → Nat :=
  let c0_i32_2098 : BitVec 32 := 0#32
  let c1_i32_2100 : BitVec 32 := 1#32
  let arg32 : BitVec 32 := Scf.iv c0_i32_2098 c1_i32_2100 k0_t2
  let c0_i32_2139 : BitVec 32 := 0#32
  let v4436 : BitVec 1 := Scalar.cmpi .sgt arg32 c0_i32_2139
  let v4437 : BitVec 32 := Scalar.extui v4436
  let c0_i32_2140 : BitVec 32 := 0#32
  let v4438 : BitVec 1 := Scalar.cmpi .slt arg32 c0_i32_2140
  let v4439 : BitVec 32 := Scalar.extui v4438
  let v4440 : BitVec 32 := Scalar.subi v4437 v4439
  let c4_i32_2138 : BitVec 32 := 4#32
  let c0_i32_2141 : BitVec 32 := 0#32
  let v4441 : BitVec 1 := Scalar.cmpi .sgt c4_i32_2138 c0_i32_2141
  let v4442 : BitVec 32 := Scalar.extui v4441
  let c0_i32_2142 : BitVec 32 := 0#32
  let v4443 : BitVec 1 := Scalar.cmpi .slt c4_i32_2138 c0_i32_2142
  let v4444 : BitVec 32 := Scalar.extui v4443
  let v4445 : BitVec 32 := Scalar.subi v4442 v4444
  let v4446 : BitVec 1 := Scalar.cmpi .ne v4440 v4445
  let v4447 : BitVec 32 := Scalar.remsi arg32 c4_i32_2138
  let c0_i32_2143 : BitVec 32 := 0#32
  let v4448 : BitVec 1 := Scalar.cmpi .ne v4447 c0_i32_2143
  let v4449 : BitVec 1 := Scalar.andi v4446 v4448
  let v4435 : BitVec 32 := Scalar.divsi arg32 c4_i32_2138
  let c1_i32_2144 : BitVec 32 := 1#32
  let v4450 : BitVec 32 := Scalar.subi v4435 c1_i32_2144
  let v4451 : BitVec 32 := Scalar.select v4449 v4450 v4435
  let c4_i32_2156 : BitVec 32 := 4#32
  let c4_i32_2145 : BitVec 32 := 4#32
  let c0_i32_2146 : BitVec 32 := 0#32
  let v4452 : BitVec 1 := Scalar.cmpi .eq c4_i32_2145 c0_i32_2146
  let c1_i32_2147 : BitVec 32 := 1#32
  let v4453 : BitVec 32 := Scalar.select v4452 c1_i32_2147 c4_i32_2145
  let v4454 : BitVec 32 := Scalar.remsi arg32 v4453
  let c0_i32_2149 : BitVec 32 := 0#32
  let v4456 : BitVec 1 := Scalar.cmpi .slt v4454 c0_i32_2149
  let c0_i32_2150 : BitVec 32 := 0#32
  let v4457 : BitVec 1 := Scalar.cmpi .slt v4453 c0_i32_2150
  let v4458 : BitVec 1 := Scalar.xori v4456 v4457
  let c0_i32_2148 : BitVec 32 := 0#32
  let v4455 : BitVec 1 := Scalar.cmpi .ne v4454 c0_i32_2148
  let v4459 : BitVec 1 := Scalar.andi v4458 v4455
  let v4460 : BitVec 32 := Scalar.addi v4454 v4453
  let v4461 : BitVec 32 := Scalar.select v4459 v4460 v4454
  let c128_i32_2155 : BitVec 32 := 128#32
  let v4466 : BitVec 32 := Scalar.muli v4461 c128_i32_2155
  let v4467 : BitVec 32 := Scalar.muli c4_i32_2156 v4466
  let v4468 : BitVec 32 := Scalar.addi v4451 v4467
  let v4471 : Index := Scalar.indexCast v4468
  let c0_2158 : Index := 0#32
  ![v4471.toNat, 0]
def k0_off14 (k0_t2 : Fin k0_t2_loop.trips) : Fin 2 → Nat :=
  let c0_i32_2098 : BitVec 32 := 0#32
  let c1_i32_2100 : BitVec 32 := 1#32
  let arg32 : BitVec 32 := Scf.iv c0_i32_2098 c1_i32_2100 k0_t2
  let c0_i32_2139 : BitVec 32 := 0#32
  let v4436 : BitVec 1 := Scalar.cmpi .sgt arg32 c0_i32_2139
  let v4437 : BitVec 32 := Scalar.extui v4436
  let c0_i32_2140 : BitVec 32 := 0#32
  let v4438 : BitVec 1 := Scalar.cmpi .slt arg32 c0_i32_2140
  let v4439 : BitVec 32 := Scalar.extui v4438
  let v4440 : BitVec 32 := Scalar.subi v4437 v4439
  let c4_i32_2138 : BitVec 32 := 4#32
  let c0_i32_2141 : BitVec 32 := 0#32
  let v4441 : BitVec 1 := Scalar.cmpi .sgt c4_i32_2138 c0_i32_2141
  let v4442 : BitVec 32 := Scalar.extui v4441
  let c0_i32_2142 : BitVec 32 := 0#32
  let v4443 : BitVec 1 := Scalar.cmpi .slt c4_i32_2138 c0_i32_2142
  let v4444 : BitVec 32 := Scalar.extui v4443
  let v4445 : BitVec 32 := Scalar.subi v4442 v4444
  let v4446 : BitVec 1 := Scalar.cmpi .ne v4440 v4445
  let v4447 : BitVec 32 := Scalar.remsi arg32 c4_i32_2138
  let c0_i32_2143 : BitVec 32 := 0#32
  let v4448 : BitVec 1 := Scalar.cmpi .ne v4447 c0_i32_2143
  let v4449 : BitVec 1 := Scalar.andi v4446 v4448
  let v4435 : BitVec 32 := Scalar.divsi arg32 c4_i32_2138
  let c1_i32_2144 : BitVec 32 := 1#32
  let v4450 : BitVec 32 := Scalar.subi v4435 c1_i32_2144
  let v4451 : BitVec 32 := Scalar.select v4449 v4450 v4435
  let c4_i32_2157 : BitVec 32 := 4#32
  let c256_i32_2154 : BitVec 32 := 256#32
  let c0_i32_2153 : BitVec 32 := 0#32
  let c4_i32_2145 : BitVec 32 := 4#32
  let c0_i32_2146 : BitVec 32 := 0#32
  let v4452 : BitVec 1 := Scalar.cmpi .eq c4_i32_2145 c0_i32_2146
  let c1_i32_2147 : BitVec 32 := 1#32
  let v4453 : BitVec 32 := Scalar.select v4452 c1_i32_2147 c4_i32_2145
  let v4454 : BitVec 32 := Scalar.remsi arg32 v4453
  let c0_i32_2149 : BitVec 32 := 0#32
  let v4456 : BitVec 1 := Scalar.cmpi .slt v4454 c0_i32_2149
  let c0_i32_2150 : BitVec 32 := 0#32
  let v4457 : BitVec 1 := Scalar.cmpi .slt v4453 c0_i32_2150
  let v4458 : BitVec 1 := Scalar.xori v4456 v4457
  let c0_i32_2148 : BitVec 32 := 0#32
  let v4455 : BitVec 1 := Scalar.cmpi .ne v4454 c0_i32_2148
  let v4459 : BitVec 1 := Scalar.andi v4458 v4455
  let v4460 : BitVec 32 := Scalar.addi v4454 v4453
  let v4461 : BitVec 32 := Scalar.select v4459 v4460 v4454
  let c128_i32_2151 : BitVec 32 := 128#32
  let v4462 : BitVec 32 := Scalar.muli v4461 c128_i32_2151
  let c64_i32_2152 : BitVec 32 := 64#32
  let v4463 : BitVec 32 := Scalar.subi v4462 c64_i32_2152
  let v4464 : BitVec 32 := Scalar.maxsi c0_i32_2153 v4463
  let v4465 : BitVec 32 := Scalar.minsi c256_i32_2154 v4464
  let v4469 : BitVec 32 := Scalar.muli c4_i32_2157 v4465
  let v4470 : BitVec 32 := Scalar.addi v4451 v4469
  let v4473 : Index := Scalar.indexCast v4470
  let c0_2159 : Index := 0#32
  ![v4473.toNat, 0]
def k0_off15 (k0_t2 : Fin k0_t2_loop.trips) : Fin 4 → Nat :=
  let c0_2181 : Index := 0#32
  let c0_i32_2098 : BitVec 32 := 0#32
  let c1_i32_2100 : BitVec 32 := 1#32
  let arg32 : BitVec 32 := Scf.iv c0_i32_2098 c1_i32_2100 k0_t2
  let v4526 : Index := Scalar.indexCast arg32
  let c0_2182 : Index := 0#32
  let c0_2183 : Index := 0#32
  ![0, v4526.toNat, 0, 0]
def k0_off16 (k0_t2 : Fin k0_t2_loop.trips) : Fin 2 → Nat :=
  let c0_i32_2098 : BitVec 32 := 0#32
  let c1_i32_2100 : BitVec 32 := 1#32
  let arg32 : BitVec 32 := Scf.iv c0_i32_2098 c1_i32_2100 k0_t2
  let v4541 : Index := Scalar.indexCast arg32
  let c0_2190 : Index := 0#32
  ![v4541.toNat, 0]
def k0_off17 (k0_t2 : Fin k0_t2_loop.trips) : Fin 3 → Nat :=
  let c32_i32_2193 : BitVec 32 := 32#32
  let c0_i32_2098 : BitVec 32 := 0#32
  let c1_i32_2100 : BitVec 32 := 1#32
  let arg32 : BitVec 32 := Scf.iv c0_i32_2098 c1_i32_2100 k0_t2
  let v4549 : BitVec 32 := Scalar.addi c32_i32_2193 arg32
  let v4550 : Index := Scalar.indexCast v4549
  let c0_2194 : Index := 0#32
  let c0_2195 : Index := 0#32
  ![v4550.toNat, 0, 0]
@[reducible] def k0_t3_loop : Scf.Loop 32 :=
  let c0_i32_2102 : BitVec 32 := 0#32
  let c8_i32_2103 : BitVec 32 := 8#32
  let v4370 : BitVec 32 := Scalar.addi c0_i32_2102 c8_i32_2103
  let c1_i32_2104 : BitVec 32 := 1#32
  ⟨c0_i32_2102, v4370, c1_i32_2104⟩
def k0_mult2 (k0_t3 : Fin k0_t3_loop.trips) : BitVec 32 :=
  let c0_i32_2102 : BitVec 32 := 0#32
  let c1_i32_2104 : BitVec 32 := 1#32
  let arg32 : BitVec 32 := Scf.iv c0_i32_2102 c1_i32_2104 k0_t3
  let c256_i32_2106 : BitVec 32 := 256#32
  let v4371 : BitVec 32 := Scalar.muli arg32 c256_i32_2106
  v4371
def k0_off18 (k0_t3 : Fin k0_t3_loop.trips) : Fin 2 → Nat :=
  let c0_i32_2102 : BitVec 32 := 0#32
  let c1_i32_2104 : BitVec 32 := 1#32
  let arg32 : BitVec 32 := Scf.iv c0_i32_2102 c1_i32_2104 k0_t3
  let c256_i32_2106 : BitVec 32 := 256#32
  let v4371 : BitVec 32 := Scalar.muli arg32 c256_i32_2106
  let v4372 : BitVec 32 := v4371
  let v4373 : Index := Scalar.indexCast v4372
  let c0_2107 : Index := 0#32
  ![v4373.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixKernel.lean ====
abbrev S2x2048x3328 : Shape := ⟨3, ![2, 2048, 3328]⟩
abbrev S8 : Shape := ⟨1, ![8]⟩
abbrev S_ : Shape := ⟨0, ![]⟩
abbrev S4x2 : Shape := ⟨2, ![4, 2]⟩
abbrev S4x2x64 : Shape := ⟨3, ![4, 2, 64]⟩
abbrev S4x128 : Shape := ⟨2, ![4, 128]⟩
abbrev S4x1x128 : Shape := ⟨3, ![4, 1, 128]⟩
abbrev S4x8x128 : Shape := ⟨3, ![4, 8, 128]⟩
abbrev S2x2048x1536 : Shape := ⟨3, ![2, 2048, 1536]⟩
abbrev S2x128x16x1536 : Shape := ⟨4, ![2, 128, 16, 1536]⟩
abbrev S2x16x128x1536 : Shape := ⟨4, ![2, 16, 128, 1536]⟩
abbrev S4096x3328 : Shape := ⟨2, ![4096, 3328]⟩
abbrev S4096x512 : Shape := ⟨2, ![4096, 512]⟩
abbrev S1x8x128 : Shape := ⟨3, ![1, 8, 128]⟩
abbrev S2048x128 : Shape := ⟨2, ![2048, 128]⟩
abbrev S1x16x128x128 : Shape := ⟨4, ![1, 16, 128, 128]⟩
abbrev S7x256x256 : Shape := ⟨3, ![7, 256, 256]⟩
abbrev S128x128 : Shape := ⟨2, ![128, 128]⟩
abbrev S128x256 : Shape := ⟨2, ![128, 256]⟩
abbrev S1x1x1 : Shape := ⟨3, ![1, 1, 1]⟩
abbrev S1x1 : Shape := ⟨2, ![1, 1]⟩
abbrev S1x128x256 : Shape := ⟨3, ![1, 128, 256]⟩
abbrev S1x128x128 : Shape := ⟨3, ![1, 128, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S128x1 : Shape := ⟨2, ![128, 1]⟩
abbrev S1x1x128x128 : Shape := ⟨4, ![1, 1, 128, 128]⟩
abbrev S1x256x128 : Shape := ⟨3, ![1, 256, 128]⟩

abbrev nBuf : Space → Nat
  | .hbm => 26
  | .vmem => 28
  | .smem => 0
  | _ => 0

abbrev bufTy : (tb : Table) → Fin (tcTables nBuf tb) → BufTy
  | .hbm, ⟨0, _⟩ => ⟨S2x2048x3328, .f32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4x2, .f32⟩
  | .hbm, ⟨15, _⟩ => ⟨S4x2x64, .f32⟩
  | .hbm, ⟨16, _⟩ => ⟨S4x128, .f32⟩
  | .hbm, ⟨17, _⟩ => ⟨S4x1x128, .f32⟩
  | .hbm, ⟨18, _⟩ => ⟨S4x8x128, .f32⟩
  | .hbm, ⟨19, _⟩ => ⟨S2x2048x1536, .f32⟩
  | .hbm, ⟨20, _⟩ => ⟨S2x128x16x1536, .f32⟩
  | .hbm, ⟨21, _⟩ => ⟨S2x16x128x1536, .f32⟩
  | .hbm, ⟨22, _⟩ => ⟨S2x16x128x1536, .bf16⟩
  | .hbm, ⟨23, _⟩ => ⟨S4096x3328, .f32⟩
  | .hbm, ⟨24, _⟩ => ⟨S4096x512, .f32⟩
  | .hbm, ⟨25, _⟩ => ⟨S4096x512, .f32⟩
  | .local _ .vmem, ⟨0, _⟩ => ⟨S1x8x128, .f32⟩
  | .local _ .vmem, ⟨1, _⟩ => ⟨S1x8x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x16x128x128, .bf16⟩
  | .local _ .vmem, ⟨9, _⟩ => ⟨S1x16x128x128, .bf16⟩
  | .local _ .vmem, ⟨10, _⟩ => ⟨S1x16x128x128, .bf16⟩
  | .local _ .vmem, ⟨11, _⟩ => ⟨S1x16x128x128, .bf16⟩
  | .local _ .vmem, ⟨12, _⟩ => ⟨S1x16x128x128, .bf16⟩
  | .local _ .vmem, ⟨13, _⟩ => ⟨S1x16x128x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S7x256x256, .f32⟩
  | _, _ => ⟨S2x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_off1 (c0_i32_128 : BitVec 32) : Fin 2 → Nat :=
  let c0_i32_141 : BitVec 32 := 0#32
  let c1_i32_140 : BitVec 32 := 1#32
  let c128_i32_139 : BitVec 32 := 128#32
  let v263 : BitVec 32 := Scalar.muli c0_i32_128 c128_i32_139
  let v264 : BitVec 32 := Scalar.muli c1_i32_140 v263
  let v265 : BitVec 32 := Scalar.addi c0_i32_141 v264
  let v268 : Index := Scalar.indexCast v265
  let c0_144 : Index := 0#32
  ![v268.toNat, 0]
def k0_off2 (c0_i32_128 : BitVec 32) : Fin 2 → Nat :=
  let c0_i32_143 : BitVec 32 := 0#32
  let c1_i32_142 : BitVec 32 := 1#32
  let c1792_i32 : BitVec 32 := 1792#32
  let c0_i32_131 : BitVec 32 := 0#32
  let c128_i32_129 : BitVec 32 := 128#32
  let v240 : BitVec 32 := Scalar.muli c0_i32_128 c128_i32_129
  let c64_i32_130 : BitVec 32 := 64#32
  let v241 : BitVec 32 := Scalar.subi v240 c64_i32_130
  let v242 : BitVec 32 := Scalar.maxsi c0_i32_131 v241
  let v243 : BitVec 32 := Scalar.minsi c1792_i32 v242
  let v266 : BitVec 32 := Scalar.muli c1_i32_142 v243
  let v267 : BitVec 32 := Scalar.addi c0_i32_143 v266
  let v271 : Index := Scalar.indexCast v267
  let c0_145 : Index := 0#32
  ![v271.toNat, 0]
def k0_off3 (c0_i32_128 : BitVec 32) : Fin 3 → Nat :=
  let c0_i32_151 : BitVec 32 := 0#32
  let c128_i32_132 : BitVec 32 := 128#32
  let v244 : BitVec 32 := Scalar.muli c0_i32_128 c128_i32_132
  let c1792_i32 : BitVec 32 := 1792#32
  let c0_i32_131 : BitVec 32 := 0#32
  let c128_i32_129 : BitVec 32 := 128#32
  let v240 : BitVec 32 := Scalar.muli c0_i32_128 c128_i32_129
  let c64_i32_130 : BitVec 32 := 64#32
  let v241 : BitVec 32 := Scalar.subi v240 c64_i32_130
  let v242 : BitVec 32 := Scalar.maxsi c0_i32_131 v241
  let v243 : BitVec 32 := Scalar.minsi c1792_i32 v242
  let v245 : BitVec 32 := Scalar.subi v244 v243
  let c0_i32_134 : BitVec 32 := 0#32
  let v247 : BitVec 1 := Scalar.cmpi .sgt v245 c0_i32_134
  let v248 : BitVec 32 := Scalar.extui v247
  let c0_i32_135 : BitVec 32 := 0#32
  let v249 : BitVec 1 := Scalar.cmpi .slt v245 c0_i32_135
  let v250 : BitVec 32 := Scalar.extui v249
  let v251 : BitVec 32 := Scalar.subi v248 v250
  let c64_i32_133 : BitVec 32 := 64#32
  let c0_i32_136 : BitVec 32 := 0#32
  let v252 : BitVec 1 := Scalar.cmpi .sgt c64_i32_133 c0_i32_136
  let v253 : BitVec 32 := Scalar.extui v252
  let c0_i32_137 : BitVec 32 := 0#32
  let v254 : BitVec 1 := Scalar.cmpi .slt c64_i32_133 c0_i32_137
  let v255 : BitVec 32 := Scalar.extui v254
  let v256 : BitVec 32 := Scalar.subi v253 v255
  let v257 : BitVec 1 := Scalar.cmpi .ne v251 v256
  let v258 : BitVec 32 := Scalar.remsi v245 c64_i32_133
  let c0_i32_138 : BitVec 32 := 0#32
  let v259 : BitVec 1 := Scalar.cmpi .ne v258 c0_i32_138
  let v260 : BitVec 1 := Scalar.andi v257 v259
  let v246 : BitVec 32 := Scalar.divsi v245 c64_i32_133
  let c1_i32 : BitVec 32 := 1#32
  let v261 : BitVec 32 := Scalar.subi v246 c1_i32
  let v262 : BitVec 32 := Scalar.select v260 v261 v246
  let v287 : BitVec 32 := Scalar.addi c0_i32_151 v262
  let v288 : Index := Scalar.indexCast v287
  let c0_152 : Index := 0#32
  let c0_153 : Index := 0#32
  ![v288.toNat, 0, 0]
def k0_off4 (c0_i32_128 : BitVec 32) : Fin 2 → Nat :=
  let c0_i32_160 : BitVec 32 := 0#32
  let v332 : BitVec 1 := Scalar.cmpi .sgt c0_i32_128 c0_i32_160
  let v333 : BitVec 32 := Scalar.extui v332
  let c0_i32_161 : BitVec 32 := 0#32
  let v334 : BitVec 1 := Scalar.cmpi .slt c0_i32_128 c0_i32_161
  let v335 : BitVec 32 := Scalar.extui v334
  let v336 : BitVec 32 := Scalar.subi v333 v335
  let c4_i32 : BitVec 32 := 4#32
  let c0_i32_162 : BitVec 32 := 0#32
  let v337 : BitVec 1 := Scalar.cmpi .sgt c4_i32 c0_i32_162
  let v338 : BitVec 32 := Scalar.extui v337
  let c0_i32_163 : BitVec 32 := 0#32
  let v339 : BitVec 1 := Scalar.cmpi .slt c4_i32 c0_i32_163
  let v340 : BitVec 32 := Scalar.extui v339
  let v341 : BitVec 32 := Scalar.subi v338 v340
  let v342 : BitVec 1 := Scalar.cmpi .ne v336 v341
  let v343 : BitVec 32 := Scalar.remsi c0_i32_128 c4_i32
  let c0_i32_164 : BitVec 32 := 0#32
  let v344 : BitVec 1 := Scalar.cmpi .ne v343 c0_i32_164
  let v345 : BitVec 1 := Scalar.andi v342 v344
  let v331 : BitVec 32 := Scalar.divsi c0_i32_128 c4_i32
  let c1_i32_165 : BitVec 32 := 1#32
  let v346 : BitVec 32 := Scalar.subi v331 c1_i32_165
  let v347 : BitVec 32 := Scalar.select v345 v346 v331
  let c4_i32_184 : BitVec 32 := 4#32
  let c4_i32_166 : BitVec 32 := 4#32
  let c0_i32_167 : BitVec 32 := 0#32
  let v348 : BitVec 1 := Scalar.cmpi .eq c4_i32_166 c0_i32_167
  let c1_i32_168 : BitVec 32 := 1#32
  let v349 : BitVec 32 := Scalar.select v348 c1_i32_168 c4_i32_166
  let v350 : BitVec 32 := Scalar.remsi c0_i32_128 v349
  let c0_i32_170 : BitVec 32 := 0#32
  let v352 : BitVec 1 := Scalar.cmpi .slt v350 c0_i32_170
  let c0_i32_171 : BitVec 32 := 0#32
  let v353 : BitVec 1 := Scalar.cmpi .slt v349 c0_i32_171
  let v354 : BitVec 1 := Scalar.xori v352 v353
  let c0_i32_169 : BitVec 32 := 0#32
  let v351 : BitVec 1 := Scalar.cmpi .ne v350 c0_i32_169
  let v355 : BitVec 1 := Scalar.andi v354 v351
  let v356 : BitVec 32 := Scalar.addi v350 v349
  let v357 : BitVec 32 := Scalar.select v355 v356 v350
  let c128_i32_183 : BitVec 32 := 128#32
  let v381 : BitVec 32 := Scalar.muli v357 c128_i32_183
  let v382 : BitVec 32 := Scalar.muli c4_i32_184 v381
  let v383 : BitVec 32 := Scalar.addi v347 v382
  let v386 : Index := Scalar.indexCast v383
  let c0_186 : Index := 0#32
  ![v386.toNat, 0]
def k0_off5 (c0_i32_128 : BitVec 32) : Fin 2 → Nat :=
  let c0_i32_160 : BitVec 32 := 0#32
  let v332 : BitVec 1 := Scalar.cmpi .sgt c0_i32_128 c0_i32_160
  let v333 : BitVec 32 := Scalar.extui v332
  let c0_i32_161 : BitVec 32 := 0#32
  let v334 : BitVec 1 := Scalar.cmpi .slt c0_i32_128 c0_i32_161
  let v335 : BitVec 32 := Scalar.extui v334
  let v336 : BitVec 32 := Scalar.subi v333 v335
  let c4_i32 : BitVec 32 := 4#32
  let c0_i32_162 : BitVec 32 := 0#32
  let v337 : BitVec 1 := Scalar.cmpi .sgt c4_i32 c0_i32_162
  let v338 : BitVec 32 := Scalar.extui v337
  let c0_i32_163 : BitVec 32 := 0#32
  let v339 : BitVec 1 := Scalar.cmpi .slt c4_i32 c0_i32_163
  let v340 : BitVec 32 := Scalar.extui v339
  let v341 : BitVec 32 := Scalar.subi v338 v340
  let v342 : BitVec 1 := Scalar.cmpi .ne v336 v341
  let v343 : BitVec 32 := Scalar.remsi c0_i32_128 c4_i32
  let c0_i32_164 : BitVec 32 := 0#32
  let v344 : BitVec 1 := Scalar.cmpi .ne v343 c0_i32_164
  let v345 : BitVec 1 := Scalar.andi v342 v344
  let v331 : BitVec 32 := Scalar.divsi c0_i32_128 c4_i32
  let c1_i32_165 : BitVec 32 := 1#32
  let v346 : BitVec 32 := Scalar.subi v331 c1_i32_165
  let v347 : BitVec 32 := Scalar.select v345 v346 v331
  let c4_i32_185 : BitVec 32 := 4#32
  let c256_i32 : BitVec 32 := 256#32
  let c0_i32_174 : BitVec 32 := 0#32
  let c4_i32_166 : BitVec 32 := 4#32
  let c0_i32_167 : BitVec 32 := 0#32
  let v348 : BitVec 1 := Scalar.cmpi .eq c4_i32_166 c0_i32_167
  let c1_i32_168 : BitVec 32 := 1#32
  let v349 : BitVec 32 := Scalar.select v348 c1_i32_168 c4_i32_166
  let v350 : BitVec 32 := Scalar.remsi c0_i32_128 v349
  let c0_i32_170 : BitVec 32 := 0#32
  let v352 : BitVec 1 := Scalar.cmpi .slt v350 c0_i32_170
  let c0_i32_171 : BitVec 32 := 0#32
  let v353 : BitVec 1 := Scalar.cmpi .slt v349 c0_i32_171
  let v354 : BitVec 1 := Scalar.xori v352 v353
  let c0_i32_169 : BitVec 32 := 0#32
  let v351 : BitVec 1 := Scalar.cmpi .ne v350 c0_i32_169
  let v355 : BitVec 1 := Scalar.andi v354 v351
  let v356 : BitVec 32 := Scalar.addi v350 v349
  let v357 : BitVec 32 := Scalar.select v355 v356 v350
  let c128_i32_172 : BitVec 32 := 128#32
  let v358 : BitVec 32 := Scalar.muli v357 c128_i32_172
  let c64_i32_173 : BitVec 32 := 64#32
  let v359 : BitVec 32 := Scalar.subi v358 c64_i32_173
  let v360 : BitVec 32 := Scalar.maxsi c0_i32_174 v359
  let v361 : BitVec 32 := Scalar.minsi c256_i32 v360
  let v384 : BitVec 32 := Scalar.muli c4_i32_185 v361
  let v385 : BitVec 32 := Scalar.addi v347 v384
  let v389 : Index := Scalar.indexCast v385
  let c0_187 : Index := 0#32
  ![v389.toNat, 0]
def k0_off6 (c0_i32_128 : BitVec 32) : Fin 3 → Nat :=
  let c3_i32 : BitVec 32 := 3#32
  let c4_i32_166 : BitVec 32 := 4#32
  let c0_i32_167 : BitVec 32 := 0#32
  let v348 : BitVec 1 := Scalar.cmpi .eq c4_i32_166 c0_i32_167
  let c1_i32_168 : BitVec 32 := 1#32
  let v349 : BitVec 32 := Scalar.select v348 c1_i32_168 c4_i32_166
  let v350 : BitVec 32 := Scalar.remsi c0_i32_128 v349
  let c0_i32_170 : BitVec 32 := 0#32
  let v352 : BitVec 1 := Scalar.cmpi .slt v350 c0_i32_170
  let c0_i32_171 : BitVec 32 := 0#32
  let v353 : BitVec 1 := Scalar.cmpi .slt v349 c0_i32_171
  let v354 : BitVec 1 := Scalar.xori v352 v353
  let c0_i32_169 : BitVec 32 := 0#32
  let v351 : BitVec 1 := Scalar.cmpi .ne v350 c0_i32_169
  let v355 : BitVec 1 := Scalar.andi v354 v351
  let v356 : BitVec 32 := Scalar.addi v350 v349
  let v357 : BitVec 32 := Scalar.select v355 v356 v350
  let c128_i32_175 : BitVec 32 := 128#32
  let v362 : BitVec 32 := Scalar.muli v357 c128_i32_175
  let c256_i32 : BitVec 32 := 256#32
  let c0_i32_174 : BitVec 32 := 0#32
  let c128_i32_172 : BitVec 32 := 128#32
  let v358 : BitVec 32 := Scalar.muli v357 c128_i32_172
  let c64_i32_173 : BitVec 32 := 64#32
  let v359 : BitVec 32 := Scalar.subi v358 c64_i32_173
  let v360 : BitVec 32 := Scalar.maxsi c0_i32_174 v359
  let v361 : BitVec 32 := Scalar.minsi c256_i32 v360
  let v363 : BitVec 32 := Scalar.subi v362 v361
  let c0_i32_177 : BitVec 32 := 0#32
  let v365 : BitVec 1 := Scalar.cmpi .sgt v363 c0_i32_177
  let v366 : BitVec 32 := Scalar.extui v365
  let c0_i32_178 : BitVec 32 := 0#32
  let v367 : BitVec 1 := Scalar.cmpi .slt v363 c0_i32_178
  let v368 : BitVec 32 := Scalar.extui v367
  let v369 : BitVec 32 := Scalar.subi v366 v368
  let c64_i32_176 : BitVec 32 := 64#32
  let c0_i32_179 : BitVec 32 := 0#32
  let v370 : BitVec 1 := Scalar.cmpi .sgt c64_i32_176 c0_i32_179
  let v371 : BitVec 32 := Scalar.extui v370
  let c0_i32_180 : BitVec 32 := 0#32
  let v372 : BitVec 1 := Scalar.cmpi .slt c64_i32_176 c0_i32_180
  let v373 : BitVec 32 := Scalar.extui v372
  let v374 : BitVec 32 := Scalar.subi v371 v373
  let v375 : BitVec 1 := Scalar.cmpi .ne v369 v374
  let v376 : BitVec 32 := Scalar.remsi v363 c64_i32_176
  let c0_i32_181 : BitVec 32 := 0#32
  let v377 : BitVec 1 := Scalar.cmpi .ne v376 c0_i32_181
  let v378 : BitVec 1 := Scalar.andi v375 v377
  let v364 : BitVec 32 := Scalar.divsi v363 c64_i32_176
  let c1_i32_182 : BitVec 32 := 1#32
  let v379 : BitVec 32 := Scalar.subi v364 c1_i32_182
  let v380 : BitVec 32 := Scalar.select v378 v379 v364
  let v405 : BitVec 32 := Scalar.addi c3_i32 v380
  let v406 : Index := Scalar.indexCast v405
  let c0_193 : Index := 0#32
  let c0_194 : Index := 0#32
  ![v406.toNat, 0, 0]
@[reducible] def k0_t1_loop : Scf.Loop 32 :=
  let c0_i32_1711 : BitVec 32 := 0#32
  let c8_i32_1712 : BitVec 32 := 8#32
  let v4544 : BitVec 32 := Scalar.addi c0_i32_1711 c8_i32_1712
  let c1_i32_1713 : BitVec 32 := 1#32
  ⟨c0_i32_1711, v4544, c1_i32_1713⟩
def k0_mult1 (k0_t1 : Fin k0_t1_loop.trips) : BitVec 32 :=
  let c0_i32_1711 : BitVec 32 := 0#32
  let c1_i32_1713 : BitVec 32 := 1#32
  let arg21 : BitVec 32 := Scf.iv c0_i32_1711 c1_i32_1713 k0_t1
  let c256_i32_1715 : BitVec 32 := 256#32
  let v4545 : BitVec 32 := Scalar.muli arg21 c256_i32_1715
  v4545
def k0_off7 (k0_t1 : Fin k0_t1_loop.trips) : Fin 2 → Nat :=
  let c0_i32_1711 : BitVec 32 := 0#32
  let c1_i32_1713 : BitVec 32 := 1#32
  let arg21 : BitVec 32 := Scf.iv c0_i32_1711 c1_i32_1713 k0_t1
  let c256_i32_1715 : BitVec 32 := 256#32
  let v4545 : BitVec 32 := Scalar.muli arg21 c256_i32_1715
  let v4546 : BitVec 32 := v4545
  let v4547 : Index := Scalar.indexCast v4546
  let c0_1716 : Index := 0#32
  ![v4547.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixKernelIdeal.lean ====
variable {F : FTy → Type} [FloatOps F] [Named F]
def κ : String → Option EReal := fun
  | "mask" => some ⊥
  | _ => none
-- ==== MixReferenceIdeal.lean ====
abbrev S2x2048x3328 : Shape := ⟨3, ![2, 2048, 3328]⟩
abbrev S2x2048x1536 : Shape := ⟨3, ![2, 2048, 1536]⟩
abbrev S2x2048x512 : Shape := ⟨3, ![2, 2048, 512]⟩
abbrev S2x2048x8x64 : Shape := ⟨4, ![2, 2048, 8, 64]⟩
abbrev S8 : Shape := ⟨1, ![8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048x2048 : Shape := ⟨4, ![2, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8 : Shape := ⟨3, ![2, 2048, 8]⟩
abbrev S2x2048x8x1 : Shape := ⟨4, ![2, 2048, 8, 1]⟩
abbrev S1x2x2048x8 : Shape := ⟨4, ![1, 2, 2048, 8]⟩
abbrev S3x2x2048x8 : Shape := ⟨4, ![3, 2, 2048, 8]⟩
abbrev S3x2x2048x8x1 : Shape := ⟨5, ![3, 2, 2048, 8, 1]⟩
abbrev S1x2x2048x8x64 : Shape := ⟨5, ![1, 2, 2048, 8, 64]⟩
abbrev S3x2x2048x8x64 : Shape := ⟨5, ![3, 2, 2048, 8, 64]⟩
abbrev S4096x512 : Shape := ⟨2, ![4096, 512]⟩

abbrev nBuf : Space → Nat
  | .hbm => 178
  | .vmem => 0
  | .smem => 0
  | _ => 0

abbrev hbmTy0_0 (i : Nat) : BufTy := match i % 128 with
  | 0 => ⟨S2x2048x3328, .f32⟩
  | 1 => ⟨S2x2048x1536, .f32⟩
  | 2 => ⟨S2x2048x512, .f32⟩
  | 3 => ⟨S2x2048x512, .f32⟩
  | 4 => ⟨S2x2048x512, .f32⟩
  | 5 => ⟨S2x2048x8x64, .f32⟩
  | 6 => ⟨S2x2048x8x64, .f32⟩
  | 7 => ⟨S2x2048x8x64, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S2048, .i32⟩
  | 22 => ⟨S1x2048, .i32⟩
  | 23 => ⟨S2048x1, .i32⟩
  | 24 => ⟨S2048x2048, .i32⟩
  | 25 => ⟨S2048x2048, .i32⟩
  | 26 => ⟨S2048x2048, .i32⟩
  | 27 => ⟨S2048x2048, .i32⟩
  | 28 => ⟨S2x8x2048x2048, .f32⟩
  | 29 => ⟨S_, .f32⟩
  | 30 => ⟨S2x8x2048x2048, .f32⟩
  | 31 => ⟨S2x8x2048x2048, .f32⟩
  | 32 => ⟨S8x1x1, .f32⟩
  | 33 => ⟨S2048x2048, .f32⟩
  | 34 => ⟨S1x2048x2048, .f32⟩
  | 35 => ⟨S8x2048x2048, .f32⟩
  | 36 => ⟨S8x2048x2048, .f32⟩
  | 37 => ⟨S8x2048x2048, .f32⟩
  | 38 => ⟨S1x8x2048x2048, .f32⟩
  | 39 => ⟨S2x8x2048x2048, .f32⟩
  | 40 => ⟨S2x8x2048x2048, .f32⟩
  | 41 => ⟨S_, .i32⟩
  | 42 => ⟨S2048x2048, .i32⟩
  | 43 => ⟨S2048x2048, .i1⟩
  | 44 => ⟨S_, .i32⟩
  | 45 => ⟨S2048x2048, .i32⟩
  | 46 => ⟨S2048x2048, .i32⟩
  | 47 => ⟨S_, .i32⟩
  | 48 => ⟨S2048x2048, .i32⟩
  | 49 => ⟨S2048x2048, .i1⟩
  | 50 => ⟨S2048x2048, .i1⟩
  | 51 => ⟨S2x8x2048x2048, .i1⟩
  | 52 => ⟨S_, .f32⟩
  | 53 => ⟨S2x8x2048x2048, .f32⟩
  | 54 => ⟨S2x8x2048x2048, .f32⟩
  | 55 => ⟨S_, .f32⟩
  | 56 => ⟨S2x8x2048, .f32⟩
  | 57 => ⟨S2x8x2048x1, .f32⟩
  | 58 => ⟨S2x8x2048x2048, .f32⟩
  | 59 => ⟨S2x8x2048x2048, .f32⟩
  | 60 => ⟨S2x8x2048x2048, .f32⟩
  | 61 => ⟨S_, .f32⟩
  | 62 => ⟨S2x8x2048, .f32⟩
  | 63 => ⟨S2x8x64x2048, .f32⟩
  | 64 => ⟨S2x2048x8x64, .f32⟩
  | 65 => ⟨S2x2048x8, .f32⟩
  | 66 => ⟨S2x2048x8x1, .f32⟩
  | 67 => ⟨S2x2048x8x64, .f32⟩
  | 68 => ⟨S2x2048x8x64, .f32⟩
  | 69 => ⟨S2x8x2048, .f32⟩
  | 70 => ⟨S2x8x2048, .f32⟩
  | 71 => ⟨S2x8x2048, .f32⟩
  | 72 => ⟨S2x2048x8, .f32⟩
  | 73 => ⟨S_, .i32⟩
  | 74 => ⟨S2048x2048, .i32⟩
  | 75 => ⟨S2048x2048, .i1⟩
  | 76 => ⟨S_, .i32⟩
  | 77 => ⟨S2048x2048, .i32⟩
  | 78 => ⟨S2048x2048, .i32⟩
  | 79 => ⟨S_, .i32⟩
  | 80 => ⟨S2048x2048, .i32⟩
  | 81 => ⟨S2048x2048, .i1⟩
  | 82 => ⟨S2048x2048, .i1⟩
  | 83 => ⟨S2x8x2048x2048, .i1⟩
  | 84 => ⟨S_, .f32⟩
  | 85 => ⟨S2x8x2048x2048, .f32⟩
  | 86 => ⟨S2x8x2048x2048, .f32⟩
  | 87 => ⟨S_, .f32⟩
  | 88 => ⟨S2x8x2048, .f32⟩
  | 89 => ⟨S2x8x2048x1, .f32⟩
  | 90 => ⟨S2x8x2048x2048, .f32⟩
  | 91 => ⟨S2x8x2048x2048, .f32⟩
  | 92 => ⟨S2x8x2048x2048, .f32⟩
  | 93 => ⟨S_, .f32⟩
  | 94 => ⟨S2x8x2048, .f32⟩
  | 95 => ⟨S2x8x64x2048, .f32⟩
  | 96 => ⟨S2x2048x8x64, .f32⟩
  | 97 => ⟨S2x2048x8, .f32⟩
  | 98 => ⟨S2x2048x8x1, .f32⟩
  | 99 => ⟨S2x2048x8x64, .f32⟩
  | 100 => ⟨S2x2048x8x64, .f32⟩
  | 101 => ⟨S2x8x2048, .f32⟩
  | 102 => ⟨S2x8x2048, .f32⟩
  | 103 => ⟨S2x8x2048, .f32⟩
  | 104 => ⟨S2x2048x8, .f32⟩
  | 105 => ⟨S_, .i32⟩
  | 106 => ⟨S2048x2048, .i32⟩
  | 107 => ⟨S2048x2048, .i1⟩
  | 108 => ⟨S_, .i32⟩
  | 109 => ⟨S2048x2048, .i32⟩
  | 110 => ⟨S2048x2048, .i32⟩
  | 111 => ⟨S_, .i32⟩
  | 112 => ⟨S2048x2048, .i32⟩
  | 113 => ⟨S2048x2048, .i1⟩
  | 114 => ⟨S2048x2048, .i1⟩
  | 115 => ⟨S2x8x2048x2048, .i1⟩
  | 116 => ⟨S_, .f32⟩
  | 117 => ⟨S2x8x2048x2048, .f32⟩
  | 118 => ⟨S2x8x2048x2048, .f32⟩
  | 119 => ⟨S_, .f32⟩
  | 120 => ⟨S2x8x2048, .f32⟩
  | 121 => ⟨S2x8x2048x1, .f32⟩
  | 122 => ⟨S2x8x2048x2048, .f32⟩
  | 123 => ⟨S2x8x2048x2048, .f32⟩
  | 124 => ⟨S2x8x2048x2048, .f32⟩
  | 125 => ⟨S_, .f32⟩
  | 126 => ⟨S2x8x2048, .f32⟩
  | 127 => ⟨S2x8x64x2048, .f32⟩
  | _ => ⟨S2x2048x3328, .f32⟩

abbrev hbmTy0_1 (i : Nat) : BufTy := match i % 128 with
  | 0 => ⟨S2x2048x8x64, .f32⟩
  | 1 => ⟨S2x2048x8, .f32⟩
  | 2 => ⟨S2x2048x8x1, .f32⟩
  | 3 => ⟨S2x2048x8x64, .f32⟩
  | 4 => ⟨S2x2048x8x64, .f32⟩
  | 5 => ⟨S2x8x2048, .f32⟩
  | 6 => ⟨S2x8x2048, .f32⟩
  | 7 => ⟨S2x8x2048, .f32⟩
  | 8 => ⟨S2x2048x8, .f32⟩
  | 9 => ⟨S1x2x2048x8, .f32⟩
  | 10 => ⟨S1x2x2048x8, .f32⟩
  | 11 => ⟨S1x2x2048x8, .f32⟩
  | 12 => ⟨S3x2x2048x8, .f32⟩
  | 13 => ⟨S_, .f32⟩
  | 14 => ⟨S2x2048x8, .f32⟩
  | 15 => ⟨S_, .f32⟩
  | 16 => ⟨S2x2048x8, .f32⟩
  | 17 => ⟨S2x2048x8, .f32⟩
  | 18 => ⟨S1x2x2048x8, .f32⟩
  | 19 => ⟨S3x2x2048x8, .f32⟩
  | 20 => ⟨S3x2x2048x8, .f32⟩
  | 21 => ⟨S3x2x2048x8, .f32⟩
  | 22 => ⟨S_, .f32⟩
  | 23 => ⟨S2x2048x8, .f32⟩
  | 24 => ⟨S1x2x2048x8, .f32⟩
  | 25 => ⟨S3x2x2048x8, .f32⟩
  | 26 => ⟨S3x2x2048x8, .f32⟩
  | 27 => ⟨S3x2x2048x8x1, .f32⟩
  | 28 => ⟨S1x2x2048x8x64, .f32⟩
  | 29 => ⟨S1x2x2048x8x64, .f32⟩
  | 30 => ⟨S1x2x2048x8x64, .f32⟩
  | 31 => ⟨S3x2x2048x8x64, .f32⟩
  | 32 => ⟨S3x2x2048x8x64, .f32⟩
  | 33 => ⟨S3x2x2048x8x64, .f32⟩
  | 34 => ⟨S_, .f32⟩
  | 35 => ⟨S2x2048x8x64, .f32⟩
  | 36 => ⟨S_, .f32⟩
  | 37 => ⟨S2x2048x8, .f32⟩
  | 38 => ⟨S1x2x2048x8, .f32⟩
  | 39 => ⟨S3x2x2048x8, .f32⟩
  | 40 => ⟨S3x2x2048x8, .f32⟩
  | 41 => ⟨S3x2x2048x8, .f32⟩
  | 42 => ⟨S_, .f32⟩
  | 43 => ⟨S2x2048x8, .f32⟩
  | 44 => ⟨S2x2048x8, .f32⟩
  | 45 => ⟨S2x2048x8, .f32⟩
  | 46 => ⟨S4096x512, .f32⟩
  | 47 => ⟨S2x2048x8x64, .f32⟩
  | 48 => ⟨S2x2048x512, .f32⟩
  | 49 => ⟨S4096x512, .f32⟩
  | _ => ⟨S2x2048x3328, .f32⟩

abbrev hbmTy (i : Nat) : BufTy := match i / 128 with
  | 0 => hbmTy0_0 i
  | 1 => hbmTy0_1 i
  | _ => ⟨S2x2048x3328, .f32⟩

abbrev bufTy : (tb : Table) → Fin (tcTables nBuf tb) → BufTy
  | .hbm, ⟨i, _⟩ => hbmTy i
  | _, _ => ⟨S2x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_v35 : Ref sig .tc := ⟨.hbm, 42, rfl⟩
abbrev main_v36 : Ref sig .tc := ⟨.hbm, 43, rfl⟩
abbrev main_c_4 : Ref sig .tc := ⟨.hbm, 44, rfl⟩
abbrev main_v37 : Ref sig .tc := ⟨.hbm, 45, rfl⟩
abbrev main_v38 : Ref sig .tc := ⟨.hbm, 46, rfl⟩
abbrev main_c_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_6 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c_9 : Ref sig .tc := ⟨.hbm, 73, rfl⟩
abbrev main_v61 : Ref sig .tc := ⟨.hbm, 74, rfl⟩
abbrev main_v62 : Ref sig .tc := ⟨.hbm, 75, rfl⟩
abbrev main_c_10 : Ref sig .tc := ⟨.hbm, 76, rfl⟩
abbrev main_v63 : Ref sig .tc := ⟨.hbm, 77, rfl⟩
abbrev main_v64 : Ref sig .tc := ⟨.hbm, 78, rfl⟩
abbrev main_c_11 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_12 : Ref sig .tc := ⟨.hbm, 84, rfl⟩
abbrev main_v69 : Ref sig .tc := ⟨.hbm, 85, rfl⟩
abbrev main_v70 : Ref sig .tc := ⟨.hbm, 86, rfl⟩
abbrev main_cst_13 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_14 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_c_15 : Ref sig .tc := ⟨.hbm, 105, rfl⟩
abbrev main_v87 : Ref sig .tc := ⟨.hbm, 106, rfl⟩
abbrev main_v88 : Ref sig .tc := ⟨.hbm, 107, rfl⟩
abbrev main_c_16 : Ref sig .tc := ⟨.hbm, 108, rfl⟩
abbrev main_v89 : Ref sig .tc := ⟨.hbm, 109, rfl⟩
abbrev main_v90 : Ref sig .tc := ⟨.hbm, 110, rfl⟩
abbrev main_c_17 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_18 : Ref sig .tc := ⟨.hbm, 116, rfl⟩
abbrev main_v95 : Ref sig .tc := ⟨.hbm, 117, rfl⟩
abbrev main_v96 : Ref sig .tc := ⟨.hbm, 118, rfl⟩
abbrev main_cst_19 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_20 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_21 : Ref sig .tc := ⟨.hbm, 141, rfl⟩
abbrev main_v117 : Ref sig .tc := ⟨.hbm, 142, rfl⟩
abbrev main_cst_22 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_23 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_24 : Ref sig .tc := ⟨.hbm, 162, rfl⟩
abbrev main_v135 : Ref sig .tc := ⟨.hbm, 163, rfl⟩
abbrev main_cst_25 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_26 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩

abbrev nD : Nat := 1
abbrev τ : Topo := Topo.v7x

variable {F : FTy → Type} [FloatOps F]
-- ==== GateKernel.lean ====
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S4096x3328 : Shape := ⟨2, ![4096, 3328]⟩
abbrev S4096x512 : Shape := ⟨2, ![4096, 512]⟩
abbrev S512x512 : Shape := ⟨2, ![512, 512]⟩
abbrev S4x128x128 : Shape := ⟨3, ![4, 128, 128]⟩
abbrev S4096x1024 : Shape := ⟨2, ![4096, 1024]⟩
abbrev S512x256 : Shape := ⟨2, ![512, 256]⟩
abbrev S256x512 : Shape := ⟨2, ![256, 512]⟩
abbrev S512x1024 : Shape := ⟨2, ![512, 1024]⟩
abbrev S512 : Shape := ⟨1, ![512]⟩
abbrev S512x1 : Shape := ⟨2, ![512, 1]⟩
abbrev S128x512 : Shape := ⟨2, ![128, 512]⟩
abbrev S128x128 : Shape := ⟨2, ![128, 128]⟩
abbrev S1x128x128 : Shape := ⟨3, ![1, 128, 128]⟩
abbrev S256x256 : Shape := ⟨2, ![256, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 15
  | .vmem => 22
  | .smem => 0
  | _ => 0

abbrev bufTy : (tb : Table) → Fin (tcTables nBuf tb) → BufTy
  | .hbm, ⟨0, _⟩ => ⟨S2x2048x3328, .f32⟩
  | .hbm, ⟨1, _⟩ => ⟨S2x2048x512, .f32⟩
  | .hbm, ⟨2, _⟩ => ⟨S2x256x512, .f32⟩
  | .hbm, ⟨3, _⟩ => ⟨S1x4x128x128, .f32⟩
  | .hbm, ⟨4, _⟩ => ⟨S1x4x128, .f32⟩
  | .hbm, ⟨5, _⟩ => ⟨S1x256, .f32⟩
  | .hbm, ⟨6, _⟩ => ⟨S4x128, .f32⟩
  | .hbm, ⟨7, _⟩ => ⟨S128x4, .f32⟩
  | .hbm, ⟨8, _⟩ => ⟨S128x4x64, .f32⟩
  | .hbm, ⟨9, _⟩ => ⟨S128x256, .f32⟩
  | .hbm, ⟨10, _⟩ => ⟨S4096x3328, .f32⟩
  | .hbm, ⟨11, _⟩ => ⟨S4096x512, .f32⟩
  | .hbm, ⟨12, _⟩ => ⟨S512x512, .f32⟩
  | .hbm, ⟨13, _⟩ => ⟨S4x128x128, .f32⟩
  | .hbm, ⟨14, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S256x512, .f32⟩
  | .local _ .vmem, ⟨15, _⟩ => ⟨S256x512, .f32⟩
  | .local _ .vmem, ⟨16, _⟩ => ⟨S4x128x128, .f32⟩
  | .local _ .vmem, ⟨17, _⟩ => ⟨S128x256, .f32⟩
  | .local _ .vmem, ⟨18, _⟩ => ⟨S1x256, .f32⟩
  | .local _ .vmem, ⟨19, _⟩ => ⟨S512x1024, .bf16⟩
  | .local _ .vmem, ⟨20, _⟩ => ⟨S512x1024, .bf16⟩
  | .local _ .vmem, ⟨21, _⟩ => ⟨S512x256, .f32⟩
  | _, _ => ⟨S2x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateReferenceIdeal.lean ====
abbrev S2x2048x3328 : Shape := ⟨3, ![2, 2048, 3328]⟩
abbrev S2x2048x512 : Shape := ⟨3, ![2, 2048, 512]⟩
abbrev S2x256x512 : Shape := ⟨3, ![2, 256, 512]⟩
abbrev S1x4x128x128 : Shape := ⟨4, ![1, 4, 128, 128]⟩
abbrev S1x4x128 : Shape := ⟨3, ![1, 4, 128]⟩
abbrev S1x256 : Shape := ⟨2, ![1, 256]⟩
abbrev S2x2048x1792 : Shape := ⟨3, ![2, 2048, 1792]⟩
abbrev S2x2048x256 : Shape := ⟨3, ![2, 2048, 256]⟩
abbrev S_ : Shape := ⟨0, ![]⟩
abbrev S256 : Shape := ⟨1, ![256]⟩
abbrev S4x128x128 : Shape := ⟨3, ![4, 128, 128]⟩
abbrev S4x128 : Shape := ⟨2, ![4, 128]⟩
abbrev S2x2048 : Shape := ⟨2, ![2, 2048]⟩
abbrev S2x2048x1 : Shape := ⟨3, ![2, 2048, 1]⟩
abbrev S1x1x256 : Shape := ⟨3, ![1, 1, 256]⟩
abbrev S2x16x128x4x64 : Shape := ⟨5, ![2, 16, 128, 4, 64]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S2x256x256 : Shape := ⟨3, ![2, 256, 256]⟩
abbrev S2x2048x4x64 : Shape := ⟨4, ![2, 2048, 4, 64]⟩
abbrev S2x256x4x64 : Shape := ⟨4, ![2, 256, 4, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x1024 : Shape := ⟨3, ![2, 2048, 1024]⟩
abbrev S4096x1024 : Shape := ⟨2, ![4096, 1024]⟩

abbrev nBuf : Space → Nat
  | .hbm => 134
  | .vmem => 0
  | .smem => 0
  | _ => 0

abbrev hbmTy0_0 (i : Nat) : BufTy := match i % 128 with
  | 0 => ⟨S2x2048x3328, .f32⟩
  | 1 => ⟨S2x2048x512, .f32⟩
  | 2 => ⟨S2x256x512, .f32⟩
  | 3 => ⟨S1x4x128x128, .f32⟩
  | 4 => ⟨S1x4x128, .f32⟩
  | 5 => ⟨S1x256, .f32⟩
  | 6 => ⟨S2x2048x1792, .f32⟩
  | 7 => ⟨S2x2048x512, .f32⟩
  | 8 => ⟨S2x2048x256, .f32⟩
  | 9 => ⟨S2x2048x256, .f32⟩
  | 10 => ⟨S2x2048x256, .f32⟩
  | 11 => ⟨S2x2048x256, .f32⟩
  | 12 => ⟨S2x2048x256, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S2x2048x512, .f32⟩
  | 22 => ⟨S2x2048x512, .f32⟩
  | 23 => ⟨S2x2048x256, .f32⟩
  | 24 => ⟨S2x2048x256, .f32⟩
  | 25 => ⟨S_, .f32⟩
  | 26 => ⟨S2x2048x256, .f32⟩
  | 27 => ⟨S2x2048x256, .f32⟩
  | 28 => ⟨S_, .f32⟩
  | 29 => ⟨S2x2048x256, .f32⟩
  | 30 => ⟨S2x2048x256, .f32⟩
  | 31 => ⟨S2x2048x256, .f32⟩
  | 32 => ⟨S2x2048x256, .f32⟩
  | 33 => ⟨S2x2048x256, .f32⟩
  | 34 => ⟨S_, .f32⟩
  | 35 => ⟨S2x2048x256, .f32⟩
  | 36 => ⟨S2x2048x256, .f32⟩
  | 37 => ⟨S2x2048x256, .f32⟩
  | 38 => ⟨S_, .f32⟩
  | 39 => ⟨S2x2048x256, .f32⟩
  | 40 => ⟨S2x2048x256, .f32⟩
  | 41 => ⟨S2x2048x256, .f32⟩
  | 42 => ⟨S_, .f32⟩
  | 43 => ⟨S2x2048x256, .f32⟩
  | 44 => ⟨S2x2048x256, .f32⟩
  | 45 => ⟨S_, .f32⟩
  | 46 => ⟨S2x2048x256, .f32⟩
  | 47 => ⟨S2x2048x256, .f32⟩
  | 48 => ⟨S2x2048x256, .f32⟩
  | 49 => ⟨S2x2048x256, .f32⟩
  | 50 => ⟨S2x2048x256, .f32⟩
  | 51 => ⟨S_, .f32⟩
  | 52 => ⟨S2x2048x256, .f32⟩
  | 53 => ⟨S2x2048x256, .f32⟩
  | 54 => ⟨S2x2048x256, .f32⟩
  | 55 => ⟨S_, .f32⟩
  | 56 => ⟨S2x2048x256, .f32⟩
  | 57 => ⟨S2x2048x256, .f32⟩
  | 58 => ⟨S2x2048x256, .f32⟩
  | 59 => ⟨S_, .f32⟩
  | 60 => ⟨S2x2048x256, .f32⟩
  | 61 => ⟨S2x2048x256, .f32⟩
  | 62 => ⟨S_, .f32⟩
  | 63 => ⟨S2x2048x256, .f32⟩
  | 64 => ⟨S2x2048x256, .f32⟩
  | 65 => ⟨S2x2048x256, .f32⟩
  | 66 => ⟨S256, .f32⟩
  | 67 => ⟨S4x128x128, .f32⟩
  | 68 => ⟨S4x128, .f32⟩
  | 69 => ⟨S2x2048x256, .f32⟩
  | 70 => ⟨S_, .f32⟩
  | 71 => ⟨S2x2048, .f32⟩
  | 72 => ⟨S2x2048x1, .f32⟩
  | 73 => ⟨S_, .f32⟩
  | 74 => ⟨S2x2048x1, .f32⟩
  | 75 => ⟨S2x2048x1, .f32⟩
  | 76 => ⟨S_, .f32⟩
  | 77 => ⟨S2x2048x1, .f32⟩
  | 78 => ⟨S2x2048x1, .f32⟩
  | 79 => ⟨S2x2048x1, .f32⟩
  | 80 => ⟨S2x2048x256, .f32⟩
  | 81 => ⟨S2x2048x256, .f32⟩
  | 82 => ⟨S1x1x256, .f32⟩
  | 83 => ⟨S2x2048x256, .f32⟩
  | 84 => ⟨S2x2048x256, .f32⟩
  | 85 => ⟨S2x16x128x4x64, .f32⟩
  | 86 => ⟨S4x2x16x64x128, .f32⟩
  | 87 => ⟨S2x16x128x4x64, .f32⟩
  | 88 => ⟨S128x4, .f32⟩
  | 89 => ⟨S1x1x128x4x1, .f32⟩
  | 90 => ⟨S2x16x128x4x64, .f32⟩
  | 91 => ⟨S2x16x128x4x64, .f32⟩
  | 92 => ⟨S2x2048x256, .f32⟩
  | 93 => ⟨S2x2048x256, .f32⟩
  | 94 => ⟨S2x2048x256, .f32⟩
  | 95 => ⟨S2x2048x256, .f32⟩
  | 96 => ⟨S2x2048x256, .f32⟩
  | 97 => ⟨S_, .f32⟩
  | 98 => ⟨S2x2048x256, .f32⟩
  | 99 => ⟨S2x2048x256, .f32⟩
  | 100 => ⟨S_, .f32⟩
  | 101 => ⟨S2x2048x256, .f32⟩
  | 102 => ⟨S2x2048x256, .f32⟩
  | 103 => ⟨S2x2048x256, .f32⟩
  | 104 => ⟨S2x256x256, .f32⟩
  | 105 => ⟨S2x256x256, .f32⟩
  | 106 => ⟨S2x2048x4x64, .f32⟩
  | 107 => ⟨S2x256x4x64, .f32⟩
  | 108 => ⟨S2x256x4x64, .f32⟩
  | 109 => ⟨S2x4x2048x256, .f32⟩
  | 110 => ⟨S_, .f32⟩
  | 111 => ⟨S2x4x2048x256, .f32⟩
  | 112 => ⟨S2x4x2048x256, .f32⟩
  | 113 => ⟨S_, .f32⟩
  | 114 => ⟨S2x4x2048, .f32⟩
  | 115 => ⟨S_, .f32⟩
  | 116 => ⟨S2x4x2048, .f32⟩
  | 117 => ⟨S2x4x2048, .f32⟩
  | 118 => ⟨S2x4x2048x1, .f32⟩
  | 119 => ⟨S2x4x2048x256, .f32⟩
  | 120 => ⟨S2x4x2048x256, .f32⟩
  | 121 => ⟨S2x4x2048x256, .f32⟩
  | 122 => ⟨S_, .f32⟩
  | 123 => ⟨S2x4x2048, .f32⟩
  | 124 => ⟨S2x4x2048x1, .f32⟩
  | 125 => ⟨S2x4x2048x256, .f32⟩
  | 126 => ⟨S2x4x2048x256, .f32⟩
  | 127 => ⟨S2x4x64x2048, .f32⟩
  | _ => ⟨S2x2048x3328, .f32⟩

abbrev hbmTy0_1 (i : Nat) : BufTy := match i % 128 with
  | 0 => ⟨S2x2048x4x64, .f32⟩
  | 1 => ⟨S2x2048x256, .f32⟩
  | 2 => ⟨S2x2048x256, .f32⟩
  | 3 => ⟨S2x2048x1024, .f32⟩
  | 4 => ⟨S4096x1024, .f32⟩
  | 5 => ⟨S4096x1024, .bf16⟩
  | _ => ⟨S2x2048x3328, .f32⟩

abbrev hbmTy (i : Nat) : BufTy := match i / 128 with
  | 0 => hbmTy0_0 i
  | 1 => hbmTy0_1 i
  | _ => ⟨S2x2048x3328, .f32⟩

abbrev bufTy : (tb : Table) → Fin (tcTables nBuf tb) → BufTy
  | .hbm, ⟨i, _⟩ => hbmTy i
  | _, _ => ⟨S2x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_10 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_cst_12 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_13 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩

abbrev nD : Nat := 1
abbrev τ : Topo := Topo.v7x

variable {F : FTy → Type} [FloatOps F]
-- ==== KeyKernel.lean ====
abbrev S2x256x1024 : Shape := ⟨3, ![2, 256, 1024]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S512x1024, .f32⟩
  | .hbm, ⟨4, _⟩ => ⟨S1024x512, .bf16⟩
  | .hbm, ⟨5, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KeyReferenceIdeal.lean ====
abbrev S2x256x1024 : Shape := ⟨3, ![2, 256, 1024]⟩
abbrev S1x1024 : Shape := ⟨2, ![1, 1024]⟩
abbrev S1024x512 : Shape := ⟨2, ![1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x512, .f32⟩
  | .hbm, ⟨21, _⟩ => ⟨S512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjKernel.lean ====
abbrev S2x2048x1024 : Shape := ⟨3, ![2, 2048, 1024]⟩
abbrev S1024x3328 : Shape := ⟨2, ![1024, 3328]⟩
abbrev S4096x1024 : Shape := ⟨2, ![4096, 1024]⟩
abbrev S3328x1024 : Shape := ⟨2, ![3328, 1024]⟩
abbrev S_ : Shape := ⟨0, ![]⟩
abbrev S8x128 : Shape := ⟨2, ![8, 128]⟩
abbrev S4096x3328 : Shape := ⟨2, ![4096, 3328]⟩
abbrev S2x16x128x1536 : Shape := ⟨4, ![2, 16, 128, 1536]⟩
abbrev S512x1024 : Shape := ⟨2, ![512, 1024]⟩
abbrev S512x3328 : Shape := ⟨2, ![512, 3328]⟩
abbrev S1x16x32x1536 : Shape := ⟨4, ![1, 16, 32, 1536]⟩
abbrev S256x256 : Shape := ⟨2, ![256, 256]⟩
abbrev S256x1536 : Shape := ⟨2, ![256, 1536]⟩
abbrev S16x1536 : Shape := ⟨2, ![16, 1536]⟩
abbrev S1x1x16x1536 : Shape := ⟨4, ![1, 1, 16, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x3328, .f32⟩
  | .hbm, ⟨2, _⟩ => ⟨S4096x1024, .f32⟩
  | .hbm, ⟨3, _⟩ => ⟨S4096x1024, .bf16⟩
  | .hbm, ⟨4, _⟩ => ⟨S3328x1024, .f32⟩
  | .hbm, ⟨5, _⟩ => ⟨S3328x1024, .bf16⟩
  | .hbm, ⟨6, _⟩ => ⟨S_, .f32⟩
  | .hbm, ⟨7, _⟩ => ⟨S8x128, .f32⟩
  | .hbm, ⟨8, _⟩ => ⟨S4096x3328, .f32⟩
  | .hbm, ⟨9, _⟩ => ⟨S2x16x128x1536, .bf16⟩
  | .local _ .vmem, ⟨0, _⟩ => ⟨S512x1024, .bf16⟩
  | .local _ .vmem, ⟨1, _⟩ => ⟨S512x1024, .bf16⟩
  | .local _ .vmem, ⟨2, _⟩ => ⟨S3328x1024, .bf16⟩
  | .local _ .vmem, ⟨3, _⟩ => ⟨S512x3328, .f32⟩
  | .local _ .vmem, ⟨4, _⟩ => ⟨S512x3328, .f32⟩
  | .local _ .vmem, ⟨5, _⟩ => ⟨S1x16x32x1536, .bf16⟩
  | .local _ .vmem, ⟨6, _⟩ => ⟨S1x16x32x1536, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S2x2048x1024 : Shape := ⟨3, ![2, 2048, 1024]⟩
abbrev S1024x3328 : Shape := ⟨2, ![1024, 3328]⟩
abbrev S2x2048x3328 : Shape := ⟨3, ![2, 2048, 3328]⟩
abbrev S4096x3328 : Shape := ⟨2, ![4096, 3328]⟩
abbrev S2x2048x1536 : Shape := ⟨3, ![2, 2048, 1536]⟩
abbrev S2x128x16x1536 : Shape := ⟨4, ![2, 128, 16, 1536]⟩
abbrev S2x16x128x1536 : Shape := ⟨4, ![2, 16, 128, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3328, .f32⟩
  | .hbm, ⟨2, _⟩ => ⟨S2x2048x3328, .f32⟩
  | .hbm, ⟨3, _⟩ => ⟨S4096x3328, .f32⟩
  | .hbm, ⟨4, _⟩ => ⟨S2x2048x1536, .f32⟩
  | .hbm, ⟨5, _⟩ => ⟨S2x128x16x1536, .f32⟩
  | .hbm, ⟨6, _⟩ => ⟨S2x16x128x1536, .f32⟩
  | .hbm, ⟨7, _⟩ => ⟨S2x16x128x1536, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MemKernel.lean ====
abbrev S2x256x1024 : Shape := ⟨3, ![2, 256, 1024]⟩
abbrev S1x1024 : Shape := ⟨2, ![1, 1024]⟩
abbrev S1024x512 : Shape := ⟨2, ![1024, 512]⟩
abbrev S2x256x512 : Shape := ⟨3, ![2, 256, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S2x256x512, .f32⟩
  | .hbm, ⟨4, _⟩ => ⟨S512x512, .f32⟩
  | .hbm, ⟨5, _⟩ => ⟨S512x1024, .f32⟩
  | .hbm, ⟨6, _⟩ => ⟨S1024x512, .bf16⟩
  | .hbm, ⟨7, _⟩ => ⟨S1024x512, .bf16⟩
  | .hbm, ⟨8, _⟩ => ⟨S1x1024, .f32⟩
  | .local _ .vmem, ⟨0, _⟩ => ⟨S512x512, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemReferenceIdeal.lean ====
abbrev S2x256x1024 : Shape := ⟨3, ![2, 256, 1024]⟩
abbrev S1x1024 : Shape := ⟨2, ![1, 1024]⟩
abbrev S1024x512 : Shape := ⟨2, ![1024, 512]⟩
abbrev S2x256x512 : Shape := ⟨3, ![2, 256, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1024x512, .f32⟩
  | .hbm, ⟨3, _⟩ => ⟨S2x256x512, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x256x512, .f32⟩
  | .hbm, ⟨22, _⟩ => ⟨S512x1024, .f32⟩
  | .hbm, ⟨23, _⟩ => ⟨S1024x512, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S1024, .f32⟩
  | .hbm, ⟨28, _⟩ => ⟨S1x1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Reals.lean ====
/- Real numbers inside the extended reals: a value computed from real numbers by the operations of these programs is again
   a real number, and which one. -/
module

public import proofs.«01_k».proof.Defs
public import Idealize.ShloMosaic.Lib.Pointwise

@[expose] public section

set_option maxRecDepth 16384

noncomputable section

namespace Cert.Reals

open Idealize.ShloMosaic

/-- A finite sum of reals, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe]
  rw [if_neg (not_lt.mpr h.le), if_neg h.ne']

/-- The largest of a nonempty set of reals is a real. -/
theorem fold_max_real_of {ι : Type*} {s : Finset ι} (hs : s.Nonempty) (f : ι → EReal) (hf : ∀ i, ∃ r : ℝ, f i = (r : EReal)) :
    ∃ M : ℝ, s.fold max (⊥ : EReal) f = (M : EReal) := by
  obtain ⟨i, hi, hm⟩ := Finset.exists_max_image s f hs
  obtain ⟨r, hr⟩ := hf i
  refine ⟨r, le_antisymm ?_ ?_⟩
  · exact (Finset.fold_max_le _).mpr ⟨bot_le, fun k hk => hr ▸ hm k hk⟩
  · exact (Finset.le_fold_max _).mpr (Or.inr ⟨i, hi, hr.ge⟩)

/-- Shifting every exponent by the same real leaves the normalised exponentials as they are. -/
theorem softmax_shift {n : ℕ} (f : Fin n → ℝ) (M : ℝ) (i : Fin n) :
    Real.exp (f i - M) / ∑ k, Real.exp (f k - M) = Real.exp (f i) / ∑ k, Real.exp (f k) := by
  simp only [Real.exp_sub, ← Finset.sum_div]
  exact div_div_div_cancel_right₀ (Real.exp_pos M).ne' _ _

/-- A sum of exponentials over a nonempty range is positive. -/
theorem sum_exp_pos {n : ℕ} (hn : 0 < n) (f : Fin n → ℝ) : 0 < ∑ k, Real.exp (f k) :=
  Finset.sum_pos (fun _ _ => Real.exp_pos _) ⟨⟨0, hn⟩, Finset.mem_univ _⟩

/-! ## The words of the programs' literals -/

/-- The two gains of the tanh form of the GELU, as the real numbers their words are. -/
def gC : ℝ := 13386282 / 2 ^ 24

/-- The cubic's coefficient, the exact decimal. -/
def gK : ℝ := 8943 / 200000

/-- The normalisation's epsilon, as the real number its word is. -/
def eps : ℝ := 8796093 / 2 ^ 43

theorem eps_pos : 0 < eps := by unfold eps; positivity

theorem w_zero : Ideal.ofBits .f32 0x00000000#32 = ((0 : ℝ) : EReal) := by
  simp [Ideal.ofBits, Ideal.ieee, -EReal.coe_mul]
theorem w_one : Ideal.ofBits .f32 0x3F800000#32 = ((1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_256 : Ideal.ofBits .f32 0x43800000#32 = ((256 : ℝ) : EReal) := by
  simp [Ideal.ofBits, Ideal.ieee, -EReal.coe_mul]; norm_num
theorem w_gC : Ideal.ofBits .f32 0x3F4C422A#32 = ((gC : ℝ) : EReal) := by
  simp [Ideal.ofBits, Ideal.ieee, gC, -EReal.coe_mul]; norm_num
theorem w_eps : Ideal.ofBits .f32 0x358637BD#32 = ((eps : ℝ) : EReal) := by
  simp [Ideal.ofBits, Ideal.ieee, eps, -EReal.coe_mul]; norm_num
theorem w_gK : Ideal.div (Ideal.ofBits .f32 0x472EAB00#32) (Ideal.ofBits .f32 0x49742400#32) = ((gK : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, div_real _ (by norm_num), EReal.coe_eq_coe_iff, gK]
  norm_num
theorem w_bot : Ideal.ofBits .f32 0xFF800000#32 = (⊥ : EReal) := by
  simp [Ideal.ofBits, Ideal.ieee]

theorem div_256 (x : ℝ) : Ideal.div (x : EReal) ((256 : ℝ) : EReal) = ((x / 256 : ℝ) : EReal) := div_real x (by norm_num)

/-- One over one plus a real exponential. -/
theorem sigmoid_real (x : ℝ) : Ideal.div ((1 : ℝ) : EReal) ((1 + Real.exp x : ℝ) : EReal) = ((1 / (1 + Real.exp x) : ℝ) : EReal) := by
  have h : (1 : ℝ) + Real.exp x ≠ 0 := by have := Real.exp_pos x; positivity
  rw [div_real _ h]

/-- The literals are reals. -/
theorem words : (1 : EReal) = ((1 : ℝ) : EReal) ∧ (0 : EReal) = ((0 : ℝ) : EReal) ∧ Ideal.ofBits .f32 0x3F000000#32 = ((1 / 2 : ℝ) : EReal)
    ∧ Ideal.ofBits .f32 0xBF000000#32 = ((-(1 / 2) : ℝ) : EReal) ∧ Ideal.ofBits .f32 0x3E000000#32 = ((1 / 8 : ℝ) : EReal)
    ∧ Ideal.ofBits .f32 0x40400000#32 = ((3 : ℝ) : EReal) ∧ Ideal.ofBits .f32 0x43800000#32 = ((256 : ℝ) : EReal)
    ∧ Ideal.ofBits .f32 0x3F4C422A#32 = ((gC : ℝ) : EReal)
    ∧ Ideal.div (Ideal.ofBits .f32 0x472EAB00#32) (Ideal.ofBits .f32 0x49742400#32) = ((gK : ℝ) : EReal)
    ∧ Ideal.ofBits .f32 0x358637BD#32 = ((eps : ℝ) : EReal) :=
  ⟨EReal.coe_one.symm, EReal.coe_zero.symm, w_half, w_neg_half, w_eighth, w_three, w_256, w_gC, w_gK, w_eps⟩

/-- The operations on reals give reals. -/
theorem reals : (∀ x : ℝ, Ideal.div ((1 : ℝ) : EReal) ((1 + Real.exp x : ℝ) : EReal) = ((1 / (1 + Real.exp x) : ℝ) : EReal))
    ∧ (∀ x : ℝ, Ideal.exp (x : EReal) = ((Real.exp x : ℝ) : EReal)) ∧ (∀ x : ℝ, Ideal.tanh (x : EReal) = ((Real.tanh x : ℝ) : EReal))
    ∧ (∀ x : ℝ, -(x : EReal) = ((-x : ℝ) : EReal)) ∧ (∀ x y : ℝ, (x : EReal) * (y : EReal) = ((x * y : ℝ) : EReal))
    ∧ (∀ x y : ℝ, (x : EReal) + (y : EReal) = ((x + y : ℝ) : EReal)) ∧ (∀ x y : ℝ, (x : EReal) - (y : EReal) = ((x - y : ℝ) : EReal))
    ∧ (∀ (n : ℕ) (f : Fin n → ℝ), ∑ i : Fin n, (f i : EReal) = ((∑ i : Fin n, f i : ℝ) : EReal))
    ∧ (∀ x : ℝ, Ideal.div (x : EReal) ((256 : ℝ) : EReal) = ((x / 256 : ℝ) : EReal)) :=
  ⟨sigmoid_real, Ideal.exp_coe, Ideal.tanh_coe, fun x => (EReal.coe_neg x).symm, fun x y => (EReal.coe_mul x y).symm,
    fun x y => (EReal.coe_add x y).symm, fun x y => (EReal.coe_sub x y).symm, fun _ f => coe_sum _ f, div_256⟩

end Cert.Reals
-- ==== Proof.Spec.lean ====
/- The gradients of the gated branches as real numbers: every quantity of the backward pass, by its formula, indexed by
   natural numbers. A row counts through both batches: row `b * 2048 + s` is position `s` of batch `b`. -/
module

public import proofs.«01_k».proof.Proof.Reals

@[expose] public section

noncomputable section

namespace Cert.Branch

open Cert.Reals

/-- The real numbers the arguments hold. -/
structure Args where
  ct : ℕ → ℕ → ℝ
  w : ℕ → ℕ → ℝ
  p : ℕ → ℕ → ℝ
  a : ℕ → ℕ → ℝ
  kv : ℕ → ℕ → ℝ
  ws : ℕ → ℕ → ℕ → ℝ
  bs : ℕ → ℕ → ℝ
  gv : ℕ → ℝ

/-! ## Functions of one number -/

def sg (x : ℝ) : ℝ := 1 / (1 + Real.exp (-x))
def si (x : ℝ) : ℝ := x * sg x
def dsi (x : ℝ) : ℝ := sg x * (1 + x * (1 - sg x))
def th (x : ℝ) : ℝ := Real.tanh (gC * (x + gK * (x * x * x)))
def ge (x : ℝ) : ℝ := x * (1 / 2 * (1 + th x))
def dge (x : ℝ) : ℝ := 1 / 2 * (1 + th x) + 1 / 2 * x * (1 - th x * th x) * (gC * (1 + 3 * gK * x * x))

variable (A : Args)

/-! ## The columns of the projection -/

def za (r c : ℕ) : ℝ := A.p r (1536 + c)
def ub (r c : ℕ) : ℝ := A.p r (2048 + c)
def vb (r c : ℕ) : ℝ := A.p r (2304 + c)
def zb (r c : ℕ) : ℝ := A.p r (2560 + c)
def qm (r c : ℕ) : ℝ := A.p r (2816 + c)
def zm (r c : ℕ) : ℝ := A.p r (3072 + c)

/-! ## The gradient of the gated branches, and the SiLU gates -/

/-- The gradient of the joined branches: the cotangent through the output projection. -/
def dg (r j : ℕ) : ℝ := ∑ k : Fin 1024, A.ct r k * A.w j k

def da (r c : ℕ) : ℝ := dg A r c * si (za A r c)
def dza (r c : ℕ) : ℝ := dg A r c * A.a r c * dsi (za A r c)

/-! ## The spatial gating unit -/

def gvb (r c : ℕ) : ℝ := ge (vb A r c)
def ms (r : ℕ) : ℝ := (∑ c : Fin 256, gvb A r c * gvb A r c) / 256 + eps
def rv (r : ℕ) : ℝ := (Real.sqrt (ms A r))⁻¹
def vn (r c : ℕ) : ℝ := gvb A r c * rv A r * A.gv c
def mixed (r c : ℕ) : ℝ :=
  (∑ s : Fin 128, A.ws (c / 64) (r % 128) s * vn A (r / 128 * 128 + s) c) + A.bs (c / 64) (r % 128)
def dsgu (r c : ℕ) : ℝ := dg A r (512 + c) * si (zb A r c)
def dzb (r c : ℕ) : ℝ := dg A r (512 + c) * (ge (ub A r c) * mixed A r c) * dsi (zb A r c)
def dub (r c : ℕ) : ℝ := dsgu A r c * mixed A r c * dge (ub A r c)
def dmix (r c : ℕ) : ℝ := dsgu A r c * ge (ub A r c)
def db (g t : ℕ) : ℝ := ∑ n : Fin 32, ∑ e : Fin 64, dmix A (n * 128 + t) (g * 64 + e)
def dws (g t s : ℕ) : ℝ :=
  ∑ n : Fin 32, ∑ e : Fin 64, dmix A (n * 128 + t) (g * 64 + e) * vn A (n * 128 + s) (g * 64 + e)
def dvn (r c : ℕ) : ℝ := ∑ t : Fin 128, A.ws (c / 64) t (r % 128) * dmix A (r / 128 * 128 + t) c
def dgv (c : ℕ) : ℝ := ∑ r : Fin 4096, dvn A r c * (gvb A r c * rv A r)
def dgvb (r c : ℕ) : ℝ :=
  rv A r * (A.gv c * dvn A r c)
    - gvb A r c * (rv A r * rv A r * rv A r * ((∑ e : Fin 256, A.gv e * dvn A r e * gvb A r e) / 256))
def dvb (r c : ℕ) : ℝ := dgvb A r c * dge (vb A r c)

/-! ## The attention on the memory -/

def km (r m c : ℕ) : ℝ := A.kv (r / 2048 * 256 + m) c
def vm (r m c : ℕ) : ℝ := A.kv (r / 2048 * 256 + m) (256 + c)
def sc (h r m : ℕ) : ℝ := (∑ e : Fin 64, qm A r (h * 64 + e) * km A r m (h * 64 + e)) * (1 / 8)
def pr (h r m : ℕ) : ℝ := Real.exp (sc A h r m) / ∑ k : Fin 256, Real.exp (sc A h r k)
def mo (r c : ℕ) : ℝ := ∑ m : Fin 256, pr A (c / 64) r m * vm A r m c
def dmo (r c : ℕ) : ℝ := dg A r (768 + c) * si (zm A r c)
def dzm (r c : ℕ) : ℝ := dg A r (768 + c) * mo A r c * dsi (zm A r c)
def dp (h r m : ℕ) : ℝ := ∑ e : Fin 64, dmo A r (h * 64 + e) * vm A r m (h * 64 + e)
def ds (h r m : ℕ) : ℝ := pr A h r m * (dp A h r m - ∑ k : Fin 256, pr A h r k * dp A h r k) * (1 / 8)
def dqm (r c : ℕ) : ℝ := ∑ m : Fin 256, ds A (c / 64) r m * km A r m c
def dkm (b m c : ℕ) : ℝ := ∑ s : Fin 2048, ds A (c / 64) (b * 2048 + s) m * qm A (b * 2048 + s) c
def dvm (b m c : ℕ) : ℝ := ∑ s : Fin 2048, pr A (c / 64) (b * 2048 + s) m * dmo A (b * 2048 + s) c

/-! ## The results -/

/-- The gradient of the projection's columns from 1536 on. -/
def dr (r c : ℕ) : ℝ :=
  if c < 512 then dza A r c
  else if c < 768 then dub A r (c - 512)
  else if c < 1024 then dvb A r (c - 768)
  else if c < 1280 then dzb A r (c - 1024)
  else if c < 1536 then dqm A r (c - 1280)
  else dzm A r (c - 1536)

/-- The gradient of the memory's keys and values; row `b * 256 + m`. -/
def dkv (r c : ℕ) : ℝ := if c < 256 then dkm A (r / 256) (r % 256) c else dvm A (r / 256) (r % 256) (c - 256)

/-! ## What the formulas need -/

theorem one_add_exp_pos (x : ℝ) : 0 < 1 + Real.exp x := by have := Real.exp_pos x; linarith

theorem ms_pos (r : ℕ) : 0 < ms A r := by
  unfold ms
  have h : 0 ≤ ∑ c : Fin 256, gvb A r c * gvb A r c := Finset.sum_nonneg fun _ _ => mul_self_nonneg _
  have := eps_pos
  positivity

theorem rv_mul_rv (r : ℕ) : rv A r * rv A r = 1 / ms A r := by
  unfold rv
  rw [← mul_inv, Real.mul_self_sqrt (ms_pos A r).le, one_div]

end Cert.Branch
-- ==== Proof.RefGates.lean ====
/- The reference's arguments as real numbers, and its gates: the SiLU and the GELU of the projection's columns. -/
module

public import proofs.«01_k».proof.Proof.Spec
public import proofs.«01_k».proof.Proof.Gen.ReferenceIdeal.Read

@[expose] public section

set_option maxRecDepth 16384

noncomputable section

namespace Cert.Branch

open Idealize.ShloMosaic Cert.Reals
open Cert.ReferenceIdeal
open Cert.ReferenceIdeal.Read

/-- The arguments hold the real numbers `A`. -/
structure Holds (A : Args) (x0 : Vec Ideal S2x2048x1024 .f32) (x1 : Vec Ideal S1024x1024 .f32) (x2 : Vec Ideal S2x2048x3328 .f32)
    (x3 : Vec Ideal S2x2048x512 .f32) (x4 : Vec Ideal S2x256x512 .f32) (x5 : Vec Ideal S1x4x128x128 .f32)
    (x6 : Vec Ideal S1x4x128 .f32) (x7 : Vec Ideal S1x256 .f32) : Prop where
  ct : ∀ (b : Fin 2) (s : Fin 2048) (c : Fin 1024), x0 (ix3 b s c) = ((A.ct (b * 2048 + s) c : ℝ) : EReal)
  w : ∀ (j : Fin 1024) (k : Fin 1024), x1 (ix2 j k) = ((A.w j k : ℝ) : EReal)
  p : ∀ (b : Fin 2) (s : Fin 2048) (c : Fin 3328), x2 (ix3 b s c) = ((A.p (b * 2048 + s) c : ℝ) : EReal)
  a : ∀ (b : Fin 2) (s : Fin 2048) (c : Fin 512), x3 (ix3 b s c) = ((A.a (b * 2048 + s) c : ℝ) : EReal)
  kv : ∀ (b : Fin 2) (m : Fin 256) (c : Fin 512), x4 (ix3 b m c) = ((A.kv (b * 256 + m) c : ℝ) : EReal)
  ws : ∀ (z : Fin 1) (g : Fin 4) (t s : Fin 128), x5 (ix4 z g t s) = ((A.ws g t s : ℝ) : EReal)
  bs : ∀ (z : Fin 1) (g : Fin 4) (t : Fin 128), x6 (ix3 z g t) = ((A.bs g t : ℝ) : EReal)
  gv : ∀ (z : Fin 1) (c : Fin 256), x7 (ix2 z c) = ((A.gv c : ℝ) : EReal)

variable {A : Args} {x0 : Vec Ideal S2x2048x1024 .f32} {x1 : Vec Ideal S1024x1024 .f32} {x2 : Vec Ideal S2x2048x3328 .f32}
    {x3 : Vec Ideal S2x2048x512 .f32} {x4 : Vec Ideal S2x256x512 .f32} {x5 : Vec Ideal S1x4x128x128 .f32}
    {x6 : Vec Ideal S1x4x128 .f32} {x7 : Vec Ideal S1x256 .f32}
    (h : Holds A x0 x1 x2 x3 x4 x5 x6 x7)
include h

/-- The sigmoid of the attention gate. -/
theorem v7_2_eq (b : Fin 2) (s : Fin 2048) (c : Fin 512) :
    (val_main_v7_2 x2) (ix3 b s c) = ((sg (za A (b * 2048 + s) c) : ℝ) : EReal) := by
  pointwise [val_main_v7_2, val_main_call0_v4, val_main_call0_cst_0, val_main_call0_v3, val_main_call0_v2, val_main_call0_cst, val_main_call0_v1, val_main_call0_v0, val_main_v1, val_main_v0]
  simp only [h.p, words, reals]
  refine congrArg _ ?_
  unfold sg za
  ring_nf

/-- Its derivative. -/
theorem v7_1_eq (b : Fin 2) (s : Fin 2048) (c : Fin 512) :
    (val_main_v7_1 x2) (ix3 b s c) = ((sg (za A (b * 2048 + s) c) * (1 - sg (za A (b * 2048 + s) c)) : ℝ) : EReal) := by
  pointwise [val_main_v7_1, val_main_call0_v7, val_main_call0_v6, val_main_call0_cst_1]
  simp only [v7_2_eq h, words, reals]

/-- The SiLU of the attention gate. -/
theorem v7_0_eq (b : Fin 2) (s : Fin 2048) (c : Fin 512) :
    (val_main_v7_0 x2) (ix3 b s c) = ((si (za A (b * 2048 + s) c) : ℝ) : EReal) := by
  pointwise [val_main_v7_0, val_main_v1, val_main_v0]
  simp only [v7_2_eq h, h.p, words, reals]
  refine congrArg _ ?_
  unfold si za
  ring_nf

/-- The sigmoid of the gating unit's gate. -/
theorem v81_2_eq (b : Fin 2) (s : Fin 2048) (c : Fin 256) :
    (val_main_v81_2 x2) (ix3 b s c) = ((sg (zb A (b * 2048 + s) c) : ℝ) : EReal) := by
  pointwise [val_main_v81_2, val_main_call1_v4, val_main_call1_cst_0, val_main_call1_v3, val_main_call1_v2, val_main_call1_cst, val_main_call1_v1, val_main_call1_v0, val_main_v4, val_main_v0]
  simp only [h.p, words, reals]
  refine congrArg _ ?_
  unfold sg zb
  ring_nf

/-- Its derivative. -/
theorem v81_1_eq (b : Fin 2) (s : Fin 2048) (c : Fin 256) :
    (val_main_v81_1 x2) (ix3 b s c) = ((sg (zb A (b * 2048 + s) c) * (1 - sg (zb A (b * 2048 + s) c)) : ℝ) : EReal) := by
  pointwise [val_main_v81_1, val_main_call1_v7, val_main_call1_v6, val_main_call1_cst_1]
  simp only [v81_2_eq h, words, reals]

/-- The SiLU of the gating unit's gate. -/
theorem v81_0_eq (b : Fin 2) (s : Fin 2048) (c : Fin 256) :
    (val_main_v81_0 x2) (ix3 b s c) = ((si (zb A (b * 2048 + s) c) : ℝ) : EReal) := by
  pointwise [val_main_v81_0, val_main_v4, val_main_v0]
  simp only [v81_2_eq h, h.p, words, reals]
  refine congrArg _ ?_
  unfold si zb
  ring_nf

/-- The sigmoid of the memory's gate. -/
theorem v83_2_eq (b : Fin 2) (s : Fin 2048) (c : Fin 256) :
    (val_main_v83_2 x2) (ix3 b s c) = ((sg (zm A (b * 2048 + s) c) : ℝ) : EReal) := by
  pointwise [val_main_v83_2, val_main_call2_v4, val_main_call2_cst_0, val_main_call2_v3, val_main_call2_v2, val_main_call2_cst, val_main_call2_v1, val_main_call2_v0, val_main_v6, val_main_v0]
  simp only [h.p, words, reals]
  refine congrArg _ ?_
  unfold sg zm
  ring_nf

/-- Its derivative. -/
theorem v83_1_eq (b : Fin 2) (s : Fin 2048) (c : Fin 256) :
    (val_main_v83_1 x2) (ix3 b s c) = ((sg (zm A (b * 2048 + s) c) * (1 - sg (zm A (b * 2048 + s) c)) : ℝ) : EReal) := by
  pointwise [val_main_v83_1, val_main_call2_v7, val_main_call2_v6, val_main_call2_cst_1]
  simp only [v83_2_eq h, words, reals]

/-- The SiLU of the memory's gate. -/
theorem v83_0_eq (b : Fin 2) (s : Fin 2048) (c : Fin 256) :
    (val_main_v83_0 x2) (ix3 b s c) = ((si (zm A (b * 2048 + s) c) : ℝ) : EReal) := by
  pointwise [val_main_v83_0, val_main_v6, val_main_v0]
  simp only [v83_2_eq h, h.p, words, reals]
  refine congrArg _ ?_
  unfold si zm
  ring_nf

/-- The GELU of the gated half. -/
theorem v30_eq (b : Fin 2) (s : Fin 2048) (c : Fin 256) :
    (val_main_v30 x2) (ix3 b s c) = ((ge (ub A (b * 2048 + s) c) : ℝ) : EReal) := by
  pointwise [val_main_v30, val_main_v2, val_main_v0, val_main_v29, val_main_v28, val_main_cst_6, val_main_v27, val_main_v26, val_main_cst_5, val_main_v20, val_main_v19, val_main_v18, val_main_cst_2, val_main_v17, val_main_v16, val_main_v15, val_main_v9, val_main_cst, val_main_cst_0, val_main_v11, val_main_v10]
  simp only [h.p, words, reals]
  refine congrArg _ ?_
  unfold ge th ub
  ring_nf

/-- The GELU of the normalised half. -/
theorem v52_eq (b : Fin 2) (s : Fin 2048) (c : Fin 256) :
    (val_main_v52 x2) (ix3 b s c) = ((gvb A (b * 2048 + s) c : ℝ) : EReal) := by
  pointwise [val_main_v52, val_main_v3, val_main_v0, val_main_v51, val_main_v50, val_main_cst_14, val_main_v49, val_main_v48, val_main_cst_13, val_main_v42, val_main_v41, val_main_v40, val_main_cst_10, val_main_v39, val_main_v38, val_main_v37, val_main_v31, val_main_cst_7, val_main_cst_8, val_main_v33, val_main_v32]
  simp only [h.p, words, reals]
  refine congrArg _ ?_
  unfold gvb ge th vb
  ring_nf

end Cert.Branch
-- ==== Proof.Finite.lean ====
/- The precondition: every element of every argument is a real number. -/
module

public import proofs.«01_k».proof.Proof.RefGates
public import Idealize.ShloMosaic.Lib.ReduceAll

@[expose] public section

set_option maxRecDepth 16384

noncomputable section

namespace Cert.Branch

open Idealize.ShloMosaic

/-- A number whose absolute value is less than the infinity is real. -/
theorem real_of_abs_lt {x : EReal} (h : (Ideal.cmp .olt (max x (-x)) (Ideal.ofBits .f32 0x7F800000#32)) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => rfl

/-- One conjunct of the precondition, read at an index. -/
theorem real_of_all {s t : Shape} {axes : List (Fin s.rank)} [Subsingleton t.Idx] (x : FVec Ideal s .f32) (hb : (⟨0, ![]⟩ : Shape).BroadcastsInDim s (![] : Fin 0 → Fin s.rank))
    (h : s.ReducesTo axes t) {u : Shape} (hu : 0 < u.numel) (init : IVec u 1) (j : t.Idx)
    (e : Host.reduce IntOp.andi (cmpf .olt (Host.absf x) (broadcastInDim s ![] hb (constant (F := Ideal) ⟨0, ![]⟩ .f32 0x7F800000#32))) init h hu j = 1#1) (i : s.Idx) :
    x i = (((x i).toReal : ℝ) : EReal) :=
  real_of_abs_lt (Host.reduce_andi_all _ _ h hu j e i)

/-- The real numbers that the arguments hold. -/
def argsOf (x0 : Vec Ideal ReferenceIdeal.S2x2048x1024 .f32) (x1 : Vec Ideal ReferenceIdeal.S1024x1024 .f32) (x2 : Vec Ideal ReferenceIdeal.S2x2048x3328 .f32)
    (x3 : Vec Ideal ReferenceIdeal.S2x2048x512 .f32) (x4 : Vec Ideal ReferenceIdeal.S2x256x512 .f32) (x5 : Vec Ideal ReferenceIdeal.S1x4x128x128 .f32)
    (x6 : Vec Ideal ReferenceIdeal.S1x4x128 .f32) (x7 : Vec Ideal ReferenceIdeal.S1x256 .f32) : Args where
  ct r k := (x0 (ix3 (Fin.ofNat 2 (r / 2048)) (Fin.ofNat 2048 r) (Fin.ofNat 1024 k))).toReal
  w j k := (x1 (ix2 (Fin.ofNat 1024 j) (Fin.ofNat 1024 k))).toReal
  p r k := (x2 (ix3 (Fin.ofNat 2 (r / 2048)) (Fin.ofNat 2048 r) (Fin.ofNat 3328 k))).toReal
  a r k := (x3 (ix3 (Fin.ofNat 2 (r / 2048)) (Fin.ofNat 2048 r) (Fin.ofNat 512 k))).toReal
  kv r k := (x4 (ix3 (Fin.ofNat 2 (r / 256)) (Fin.ofNat 256 r) (Fin.ofNat 512 k))).toReal
  ws g t s := (x5 (ix4 (0 : Fin 1) (Fin.ofNat 4 g) (Fin.ofNat 128 t) (Fin.ofNat 128 s))).toReal
  bs g t := (x6 (ix3 (0 : Fin 1) (Fin.ofNat 4 g) (Fin.ofNat 128 t))).toReal
  gv k := (x7 (ix2 (0 : Fin 1) (Fin.ofNat 256 k))).toReal

theorem ofNat_val {n : ℕ} [NeZero n] (i : Fin n) : Fin.ofNat n i = i := Fin.ext (Nat.mod_eq_of_lt i.isLt)

theorem ofNat_add {n : ℕ} [NeZero n] (b : ℕ) (i : Fin n) : Fin.ofNat n (b * n + i) = i :=
  Fin.ext (by show (b * n + (i : ℕ)) % n = i; rw [Nat.mul_comm, Nat.mul_add_mod, Nat.mod_eq_of_lt i.isLt])

theorem ofNat_div {k n : ℕ} [NeZero k] (b : Fin k) (i : Fin n) : Fin.ofNat k ((b * n + i) / n) = b :=
  Fin.ext (by
    show ((b : ℕ) * n + (i : ℕ)) / n % k = b
    rw [Nat.mul_comm, Nat.mul_add_div (Nat.zero_lt_of_lt i.isLt), Nat.div_eq_of_lt i.isLt, Nat.add_zero, Nat.mod_eq_of_lt b.isLt])

variable [Cert.Pre_finite.Facts]

/-- Arguments that meet the precondition hold real numbers. -/
theorem holds (x0 : Vec Ideal ReferenceIdeal.S2x2048x1024 .f32) (x1 : Vec Ideal ReferenceIdeal.S1024x1024 .f32) (x2 : Vec Ideal ReferenceIdeal.S2x2048x3328 .f32)
    (x3 : Vec Ideal ReferenceIdeal.S2x2048x512 .f32) (x4 : Vec Ideal ReferenceIdeal.S2x256x512 .f32) (x5 : Vec Ideal ReferenceIdeal.S1x4x128x128 .f32)
    (x6 : Vec Ideal ReferenceIdeal.S1x4x128 .f32) (x7 : Vec Ideal ReferenceIdeal.S1x256 .f32)
    (h : Cert.Pre_finite.fn (F := Ideal) x0 x1 x2 x3 x4 x5 x6 x7 = fun _ => 1#1) : Holds (argsOf x0 x1 x2 x3 x4 x5 x6 x7) x0 x1 x2 x3 x4 x5 x6 x7 := by
  haveI : Subsingleton Cert.Pre_finite.S_.Idx := ⟨fun a b => funext fun k => k.elim0⟩
  have e := congrFun h (fun k => k.elim0)
  unfold Cert.Pre_finite.fn Cert.Pre_finite.fn_part1 Cert.Pre_finite.fn_part2 at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  constructor
  · intro b s k
    simp only [argsOf, ofNat_div, ofNat_add, ofNat_val]
    exact real_of_all x0 _ _ _ _ _ h0 _
  · intro j k
    simp only [argsOf, ofNat_val]
    exact real_of_all x1 _ _ _ _ _ h1 _
  · intro b s k
    simp only [argsOf, ofNat_div, ofNat_add, ofNat_val]
    exact real_of_all x2 _ _ _ _ _ h2 _
  · intro b s k
    simp only [argsOf, ofNat_div, ofNat_add, ofNat_val]
    exact real_of_all x3 _ _ _ _ _ h3 _
  · intro b s k
    simp only [argsOf, ofNat_div, ofNat_add, ofNat_val]
    exact real_of_all x4 _ _ _ _ _ h4 _
  · intro z g t s
    simp only [argsOf, ofNat_val, Fin.isValue, Subsingleton.elim (0 : Fin 1) z]
    exact real_of_all x5 _ _ _ _ _ h5 _
  · intro z g t
    simp only [argsOf, ofNat_val, Fin.isValue, Subsingleton.elim (0 : Fin 1) z]
    exact real_of_all x6 _ _ _ _ _ h6 _
  · intro z k
    simp only [argsOf, ofNat_val, Fin.isValue, Subsingleton.elim (0 : Fin 1) z]
    exact real_of_all x7 _ _ _ _ _ h7 _

end Cert.Branch

end
-- ==== Proof.Loads.lean ====
/- Whole loads of two axes. -/
module

public import Idealize.ShloMosaic.Lib.Pipeline.Value

@[expose] public section

namespace Cert.Loads

open Idealize.ShloMosaic

theorem hz2 : (![0, 0] : Fin 2 → Nat) = fun _ => 0 := funext fun a => by fin_cases a <;> rfl

/-- A load of a whole array of two axes reads it. -/
theorem ld_two {m n : ℕ} {Val : EltTy → Type} {e : EltTy} (inb : ∀ a, (![0, 0] : Fin 2 → Nat) a + (![m, n] : Fin 2 → Nat) a ≤ (![m, n] : Fin 2 → Nat) a)
    (X : (⟨2, ![m, n]⟩ : Shape).Idx → Val e) : View.ld X (Rect.unit (s := (⟨2, ![m, n]⟩ : Shape)) ![0, 0] ![m, n] inb) = X :=
  View.ld_unit_zero (S := ⟨2, ![m, n]⟩) hz2 inb X

end Cert.Loads
-- ==== Proof.Norm.lean ====
/- The root-mean-square norm of a row of 1024 numbers and the gradient it gives back, over the extended reals: the numbers may be
   infinite. -/
module

public import proofs.«01_k».proof.Proof.Reals

@[expose] public section

noncomputable section

namespace Cert.Norm

open Idealize.ShloMosaic Cert.Reals

theorem w_1024 : Ideal.ofBits .f32 0x44800000#32 = ((1024 : ℝ) : EReal) := by
  simp [Ideal.ofBits, Ideal.ieee, -EReal.coe_mul]; norm_num

theorem w_inv1024 : Ideal.ofBits .f32 0x3A800000#32 = ((1 / 1024 : ℝ) : EReal) := by
  simp [Ideal.ofBits, Ideal.ieee, -EReal.coe_mul]; norm_num

/-- A quotient by 1024 is a product. -/
theorem div_1024 (x : EReal) : Ideal.div x ((1024 : ℝ) : EReal) = x * ((1 / 1024 : ℝ) : EReal) := Ideal.div_coe (by norm_num) x

/-- The mean square of a row, plus epsilon. -/
def msq (x : ℕ → EReal) : EReal := (∑ k : Fin 1024, x k * x k) * ((1 / 1024 : ℝ) : EReal) + ((eps : ℝ) : EReal)

/-- The reciprocal root of the mean square. -/
def rr (x : ℕ → EReal) : EReal := Ideal.rsqrt (msq x)

/-- The gradient of the row, from the gradient `d` of the normalised row times the gain `g`. -/
def back (x g d : ℕ → EReal) (k : ℕ) : EReal :=
  rr x * (g k * d k) - x k * (rr x * rr x * rr x * ((∑ e : Fin 1024, g e * d e * x e) * ((1 / 1024 : ℝ) : EReal)))

/-- A square is not negative. -/
theorem sq_nonneg' (x : EReal) : 0 ≤ x * x := by
  induction x with
  | bot => simp
  | top => simp
  | coe r => exact_mod_cast mul_self_nonneg r

/-- The reciprocal root over what it is the root of is its cube. -/
theorem div_root {y : EReal} (hy : 0 ≤ y) :
    Ideal.div (Ideal.rsqrt (y + ((eps : ℝ) : EReal))) (y + ((eps : ℝ) : EReal))
      = Ideal.rsqrt (y + ((eps : ℝ) : EReal)) * Ideal.rsqrt (y + ((eps : ℝ) : EReal)) * Ideal.rsqrt (y + ((eps : ℝ) : EReal)) := by
  induction y with
  | bot => simp at hy
  | top => simp [Ideal.div]
  | coe r =>
    have hr : 0 ≤ r := by exact_mod_cast hy
    have hp : 0 < r + eps := by have := eps_pos; linarith
    have e : 1 / (r + eps) = (Real.sqrt (r + eps))⁻¹ * (Real.sqrt (r + eps))⁻¹ := by
      rw [← mul_inv, Real.mul_self_sqrt hp.le, one_div]
    rw [← EReal.coe_add, rsqrt_real hp, Ideal.div_coe hp.ne', e, ← EReal.coe_mul, ← EReal.coe_mul, ← EReal.coe_mul, mul_assoc]

/-- The derivative of the reciprocal root, as the reference takes it. -/
theorem rr_div (x : ℕ → EReal) : Ideal.div (rr x) (msq x) = rr x * rr x * rr x :=
  div_root (EReal.mul_nonneg (Finset.sum_nonneg fun k _ => sq_nonneg' (x k)) (by exact_mod_cast (by norm_num : (0 : ℝ) ≤ 1 / 1024)))

/-- A number twice. -/
theorem add_self' (y : EReal) : y + y = ((2 : ℝ) : EReal) * y := by
  induction y with
  | bot => rw [EReal.bot_add, EReal.coe_mul_bot_of_pos (by norm_num)]
  | top => rw [EReal.top_add_top, EReal.coe_mul_top_of_pos (by norm_num)]
  | coe r => rw [← EReal.coe_add, ← EReal.coe_mul, two_mul]

/-- The reference's way of adding the three parts of the gradient. -/
theorem back_eq (x g d : ℕ → EReal) (k : ℕ) :
    d k * g k * rr x + x k * ((∑ e : Fin 1024, x e * (d e * g e)) * (((-(1 / 2) : ℝ) : EReal) * Ideal.div (rr x) (msq x)) * ((1 / 1024 : ℝ) : EReal))
      + (∑ e : Fin 1024, x e * (d e * g e)) * (((-(1 / 2) : ℝ) : EReal) * Ideal.div (rr x) (msq x)) * ((1 / 1024 : ℝ) : EReal) * x k = back x g d k := by
  have e1 : (∑ e : Fin 1024, x e * (d e * g e)) = ∑ e : Fin 1024, g e * d e * x e := Finset.sum_congr rfl fun i _ => by ac_rfl
  rw [e1, rr_div]
  unfold back
  generalize (∑ e : Fin 1024, g e * d e * x e) = S
  generalize rr x = r
  generalize ((1 / 1024 : ℝ) : EReal) = c
  have h2 : ((2 : ℝ) : EReal) * ((1 / 2 : ℝ) : EReal) = 1 := by rw [← EReal.coe_mul]; norm_num
  rw [mul_comm _ (x k), add_assoc, add_self', sub_eq_add_neg, EReal.coe_neg]
  refine congrArg₂ _ (by ac_rfl) ?_
  simp only [neg_mul, mul_neg]
  refine congrArg _ ?_
  calc ((2 : ℝ) : EReal) * (x k * (S * (((1 / 2 : ℝ) : EReal) * (r * r * r)) * c))
      = (((2 : ℝ) : EReal) * ((1 / 2 : ℝ) : EReal)) * (x k * (r * r * r * (S * c))) := by ac_rfl
    _ = _ := by rw [h2, one_mul]

/-- A factor that is a real and not negative goes into a sum. -/
theorem mul_sum' {ι : Type*} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

end Cert.Norm

end
-- ==== Proof.SumAxes.lean ====
/- Sums over several axes, read as iterated sums: the host's float sums over two axes of a three-axis array and over
   three axes of a five-axis one, and a product contracted over three axes. -/
module

public import Idealize.ShloMosaic.Lib.Pointwise

@[expose] public section

set_option maxRecDepth 16384

noncomputable section

namespace Cert.SumAxes

open Idealize.ShloMosaic

/-- The host's sum over axes 0 and 1 of an array `[a, b, n]`: at `j` the initial value plus the double sum. -/
theorem hostReduceAdd_r3_a01 {a b n : Nat} (h : (⟨3, ![a, b, n]⟩ : Shape).ReducesTo [0, 1] ⟨1, ![n]⟩)
    (x : (⟨3, ![a, b, n]⟩ : Shape).Idx → EReal) (init : EReal) (j : Fin n) :
    Ideal.hostReduceAdd h x init (ix1 j) = init + ∑ p : Fin a, ∑ q : Fin b, x (ix3 p q j) := by
  have hd : ∀ i : (⟨3, ![a, b, n]⟩ : Shape).Idx, h.drop i = ix1 j ↔ i 2 = j := fun i => by
    have hv : (h.drop i 0 : Nat) = i 2 := Shape.ReducesTo.drop_apply_val h i 0
    constructor
    · intro e; apply Fin.ext; rw [← hv, e]; rfl
    · intro e; funext b0
      match b0 with
      | ⟨0, _⟩ => apply Fin.ext; exact hv.trans (congrArg Fin.val e)
  unfold Ideal.hostReduceAdd
  congr 1
  rw [← Finset.sum_product', Finset.univ_product_univ]
  refine (Finset.sum_bij (fun (p : Fin a × Fin b) _ => (ix3 p.1 p.2 j : (⟨3, ![a, b, n]⟩ : Shape).Idx)) ?_ ?_ ?_ ?_).symm
  · intro p _; rw [Finset.mem_filter]; exact ⟨Finset.mem_univ _, (hd _).2 rfl⟩
  · intro p _ q _ e
    exact Prod.ext (congrFun e 0) (congrFun e 1)
  · intro i hi
    have hi' := (hd i).1 (Finset.mem_filter.1 hi).2
    refine ⟨(i 0, i 1), Finset.mem_univ _, ?_⟩
    funext c
    match c with
    | ⟨0, _⟩ => rfl
    | ⟨1, _⟩ => rfl
    | ⟨2, _⟩ => exact hi'.symm
  · intro p _; rfl

/-- The host's sum over axes 0, 1 and 4 of an array `[a, b, n, g, e]`: at `(t, k)` the initial value plus the triple sum. -/
theorem hostReduceAdd_r5_a014 {a b n g e : Nat} (h : (⟨5, ![a, b, n, g, e]⟩ : Shape).ReducesTo [0, 1, 4] ⟨2, ![n, g]⟩)
    (x : (⟨5, ![a, b, n, g, e]⟩ : Shape).Idx → EReal) (init : EReal) (t : Fin n) (k : Fin g) :
    Ideal.hostReduceAdd h x init (ix2 t k) = init + ∑ p : Fin a, ∑ q : Fin b, ∑ r : Fin e, x (ix5 p q t k r) := by
  have hd : ∀ i : (⟨5, ![a, b, n, g, e]⟩ : Shape).Idx, h.drop i = ix2 t k ↔ i 2 = t ∧ i 3 = k := fun i => by
    have h0 : (h.drop i 0 : Nat) = i 2 := Shape.ReducesTo.drop_apply_val h i 0
    have h1 : (h.drop i 1 : Nat) = i 3 := Shape.ReducesTo.drop_apply_val h i 1
    constructor
    · intro w
      exact ⟨Fin.ext (by rw [← h0, w]; rfl), Fin.ext (by rw [← h1, w]; rfl)⟩
    · rintro ⟨w0, w1⟩
      funext c
      match c with
      | ⟨0, _⟩ => exact Fin.ext (h0.trans (congrArg Fin.val w0))
      | ⟨1, _⟩ => exact Fin.ext (h1.trans (congrArg Fin.val w1))
  unfold Ideal.hostReduceAdd
  congr 1
  simp only [← Fintype.sum_prod_type']
  refine (Finset.sum_bij (fun (p : Fin a × Fin b × Fin e) _ => (ix5 p.1 p.2.1 t k p.2.2 : (⟨5, ![a, b, n, g, e]⟩ : Shape).Idx)) ?_ ?_ ?_ ?_).symm
  · intro p _; rw [Finset.mem_filter]; exact ⟨Finset.mem_univ _, (hd _).2 ⟨rfl, rfl⟩⟩
  · intro p _ q _ w
    exact Prod.ext (congrFun w 0) (Prod.ext (congrFun w 1) (congrFun w 4))
  · intro i hi
    obtain ⟨h0, h1⟩ := (hd i).1 (Finset.mem_filter.1 hi).2
    refine ⟨(i 0, i 1, i 4), Finset.mem_univ _, ?_⟩
    funext c
    match c with
    | ⟨0, _⟩ => rfl
    | ⟨1, _⟩ => rfl
    | ⟨2, _⟩ => exact h0.symm
    | ⟨3, _⟩ => exact h1.symm
    | ⟨4, _⟩ => rfl
  · intro p _; rfl

end Cert.SumAxes

end
-- ==== Proof.DxRef.lean ====
/- The gradient through the input projection and its norm as real numbers, and the reference's values as these numbers. A row
   counts through both batches: row `b * 2048 + s` is position `s` of batch `b`. -/
module

public import proofs.«01_k».proof.Proof.Norm
public import proofs.«01_k».proof.Proof.SumAxes
public import proofs.«01_k».proof.Proof.Gen.DxReferenceIdeal.Read

@[expose] public section

set_option maxRecDepth 16384

noncomputable section

namespace Cert.Dx

open Idealize.ShloMosaic Cert.Reals Cert.Norm

/-- The numbers the arguments hold, infinite ones too. -/
structure Args where
  dq : ℕ → ℕ → EReal
  dk : ℕ → ℕ → EReal
  dv : ℕ → ℕ → EReal
  dr : ℕ → ℕ → EReal
  w : ℕ → ℕ → EReal
  x : ℕ → ℕ → EReal
  g : ℕ → EReal

/-- The gradient of the normalised rows. -/
def dh (A : Args) (r k : ℕ) : EReal :=
  (∑ j : Fin 512, A.dq r j * A.w k j) + (∑ j : Fin 512, A.dk r j * A.w k (512 + j)) + (∑ j : Fin 512, A.dv r j * A.w k (1024 + j))
    + ∑ j : Fin 1792, A.dr r j * A.w k (1536 + j)

/-- What the norm gives back of it. -/
def gx (A : Args) (r k : ℕ) : EReal := back (A.x r) A.g (dh A r) k

/-- The gradient of the gain. -/
def dgn (A : Args) (k : ℕ) : EReal := ∑ r : Fin 4096, dh A r k * (A.x r k * rr (A.x r))

open Cert.DxReferenceIdeal
open Cert.DxReferenceIdeal.Read

/-- The arguments hold the numbers. -/
structure Holds (A : Args) (x0 x1 x2 : Vec Ideal S2x2048x512 .f32) (x3 : Vec Ideal S2x2048x1792 .f32) (x4 : Vec Ideal S1024x3328 .f32)
    (x5 : Vec Ideal S2x2048x1024 .f32) (x7 : Vec Ideal S1x1024 .f32) : Prop where
  dq : ∀ (b : Fin 2) (s : Fin 2048) (k : Fin 512), x0 (ix3 b s k) = (A.dq (b * 2048 + s) k)
  dk : ∀ (b : Fin 2) (s : Fin 2048) (k : Fin 512), x1 (ix3 b s k) = (A.dk (b * 2048 + s) k)
  dv : ∀ (b : Fin 2) (s : Fin 2048) (k : Fin 512), x2 (ix3 b s k) = (A.dv (b * 2048 + s) k)
  dr : ∀ (b : Fin 2) (s : Fin 2048) (k : Fin 1792), x3 (ix3 b s k) = (A.dr (b * 2048 + s) k)
  w : ∀ (j : Fin 1024) (k : Fin 3328), x4 (ix2 j k) = (A.w j k)
  x : ∀ (b : Fin 2) (s : Fin 2048) (k : Fin 1024), x5 (ix3 b s k) = (A.x (b * 2048 + s) k)
  g : ∀ (z : Fin 1) (k : Fin 1024), x7 (ix2 z k) = (A.g k)

/-- A sum over the columns of the projection, by its four parts. -/
theorem sum_parts (f : ℕ → EReal) : ∑ j : Fin 3328, f j
    = (∑ j : Fin 512, f j) + (∑ j : Fin 512, f (512 + j)) + (∑ j : Fin 512, f (1024 + j)) + ∑ j : Fin 1792, f (1536 + j) := by
  have e (n p : ℕ) : (∑ j : Fin n, f (p + j)) = ∑ j ∈ Finset.range n, f (p + j) := Fin.sum_univ_eq_sum_range (fun j => f (p + j)) n
  rw [Fin.sum_univ_eq_sum_range f, Fin.sum_univ_eq_sum_range f, e, e, e, show 3328 = 512 + 512 + 512 + 1792 from rfl,
    Finset.sum_range_add, Finset.sum_range_add, Finset.sum_range_add]

section
variable {A : Args} {x0 x1 x2 : Vec Ideal S2x2048x512 .f32} {x3 : Vec Ideal S2x2048x1792 .f32} {x4 : Vec Ideal S1024x3328 .f32}
    {x5 : Vec Ideal S2x2048x1024 .f32} {x7 : Vec Ideal S1x1024 .f32} (h : Holds A x0 x1 x2 x3 x4 x5 x7)
include h

/-- The mean square plus epsilon. -/
theorem v8_eq (b : Fin 2) (s : Fin 2048) (z : Fin 1) :
    (val_main_v8 x5) (ix3 b s z) = (msq (A.x (b * 2048 + s))) := by
  pointwise [val_main_v8, val_main_v6, val_main_v4, val_main_v3, val_main_v2, val_main_cst, val_main_v5, val_main_cst_0, val_main_v7, val_main_cst_1]
  simp only [h.x, EReal.coe_zero, w_zero, w_1024, w_eps, div_1024, zero_add]
  rfl

/-- The reciprocal root. -/
theorem v9_eq (b : Fin 2) (s : Fin 2048) (z : Fin 1) :
    (val_main_v9 x5) (ix3 b s z) = (rr (A.x (b * 2048 + s))) := by
  pointwise [val_main_v9]
  rw [v8_eq h]
  rfl

/-- Its derivative. -/
theorem v12_eq (b : Fin 2) (s : Fin 2048) (z : Fin 1) :
    (val_main_v12 x5) (ix3 b s z) = (((-(1 / 2) : ℝ) : EReal) * Ideal.div (rr (A.x (b * 2048 + s))) (msq (A.x (b * 2048 + s)))) := by
  pointwise [val_main_v12, val_main_v11, val_main_cst_2, val_main_v10]
  simp only [v8_eq h, v9_eq h, w_neg_half]

/-- The normalised row before its gain. -/
theorem v14_eq (b : Fin 2) (s : Fin 2048) (k : Fin 1024) :
    (val_main_v14 x5) (ix3 b s k) = (A.x (b * 2048 + s) k * rr (A.x (b * 2048 + s))) := by
  pointwise [val_main_v14, val_main_v13]
  simp only [h.x, v9_eq h]

/-- The joined cotangent, by its four parts. -/
theorem v0_eq (b : Fin 2) (s : Fin 2048) (j : Fin 3328) :
    (val_main_v0 x0 x1 x2 x3) (ix3 b s j) = ((fun j => if j < 512 then A.dq (b * 2048 + s) j else if j < 1024 then A.dk (b * 2048 + s) (j - 512)
      else if j < 1536 then A.dv (b * 2048 + s) (j - 1024) else A.dr (b * 2048 + s) (j - 1536)) (j : ℕ)) := by
  pointwise [val_main_v0]
  simp only [h.dq, h.dk, h.dv, h.dr, dite_eq_ite, Nat.sub_sub]
  split_ifs <;> first | rfl | (exfalso; omega)

/-- The gradient of the normalised rows. -/
theorem v19_eq (b : Fin 2) (s : Fin 2048) (k : Fin 1024) :
    (val_main_v19 x0 x1 x2 x3 x4) (ix3 b s k) = (dh A (b * 2048 + s) k) := by
  pointwise [val_main_v19]
  simp only [v0_eq h, h.w]
  refine (sum_parts (fun j => (if j < 512 then A.dq (b * 2048 + s) j else if j < 1024 then A.dk (b * 2048 + s) (j - 512)
      else if j < 1536 then A.dv (b * 2048 + s) (j - 1024) else A.dr (b * 2048 + s) (j - 1536)) * A.w k j)).trans ?_
  unfold dh
  refine congrArg₂ _ (congrArg₂ _ (congrArg₂ _ ?_ ?_) ?_) ?_ <;> refine Finset.sum_congr rfl fun j _ => ?_
  · rw [if_pos j.isLt]
  · rw [if_neg (by omega), if_pos (by omega), Nat.add_sub_cancel_left]
  · rw [if_neg (by omega), if_neg (by omega), if_pos (by omega), Nat.add_sub_cancel_left]
  · rw [if_neg (by omega), if_neg (by omega), if_neg (by omega), Nat.add_sub_cancel_left]

/-- The same through the gain. -/
theorem v24_eq (b : Fin 2) (s : Fin 2048) (k : Fin 1024) :
    (val_main_v24 x0 x1 x2 x3 x4 x7) (ix3 b s k) = (dh A (b * 2048 + s) k * A.g k) := by
  pointwise [val_main_v24, val_main_v23, val_main_v15, val_main_v1]
  simp only [v19_eq h, h.g]

/-- The derivative of the reciprocal root, spread over the row. -/
theorem v36_eq (b : Fin 2) (s : Fin 2048) (k : Fin 1024) :
    (val_main_v36 x0 x1 x2 x3 x4 x5 x7) (ix3 b s k)
      = ((∑ e : Fin 1024, A.x (b * 2048 + s) e * (dh A (b * 2048 + s) e * A.g e))
          * (((-(1 / 2) : ℝ) : EReal) * Ideal.div (rr (A.x (b * 2048 + s))) (msq (A.x (b * 2048 + s)))) * ((1 / 1024 : ℝ) : EReal)) := by
  pointwise [val_main_v36, val_main_v35, val_main_v34, val_main_v33, val_main_cst_6, val_main_cst_7, val_main_v32, val_main_v28, val_main_v27, val_main_v26, val_main_cst_5]
  simp only [h.x, v24_eq h, v12_eq h, w_1024, div_1024, Finset.univ_unique, Finset.sum_singleton]

/-- The first result: what is added last, plus what the norm gives back. -/
theorem v42_eq (x6 : Vec Ideal S2x2048x1024 .f32) (r : Fin 4096) (k : Fin 1024) :
    (val_main_v42 x0 x1 x2 x3 x4 x5 x6 x7) (ix2 r k)
      = x6 (ix3 ⟨r / 2048, by omega⟩ ⟨r % 2048, by omega⟩ k) + (gx A r k) := by
  pointwise [val_main_v42, val_main_v40, val_main_v39, val_main_v38, val_main_v37, val_main_v31, val_main_v30, val_main_v29]
  simp only [v24_eq h, v36_eq h, v9_eq h, h.x, show r.val / 2048 * 2048 + r.val % 2048 = r.val by omega]
  rw [add_assoc, add_assoc]
  exact congrArg _ ((add_assoc _ _ _).symm.trans (back_eq (A.x r) A.g (dh A r) k))

/-- The second result. -/
theorem v41_eq (z : Fin 1) (k : Fin 1024) :
    (val_main_v41 x0 x1 x2 x3 x4 x5) (ix2 z k) = (dgn A k) := by
  pointwise [val_main_v41, val_main_v25, val_main_cst_4, val_main_v22, val_main_v21, val_main_v20, val_main_cst_3, SumAxes.hostReduceAdd_r3_a01]
  simp only [Finset.univ_unique, Finset.sum_singleton]
  simp only [v19_eq h, v14_eq h]
  unfold dgn
  rw [Fin.sum_univ_tiles 2 2048 rfl]
  refine Finset.sum_congr rfl fun p _ => Finset.sum_congr rfl fun q _ => ?_
  exact mul_comm _ _

end

end Cert.Dx
-- ==== Proof.DxKer.lean ====
/- The gradient through the input projection: what one block of 512 rows of the kernel computes. -/
module

public import proofs.«01_k».proof.Proof.Loads
public import proofs.«01_k».proof.Proof.DxRef
public import Idealize.ShloMosaic.Lib.Pipeline.ReadBack
public import Idealize.ShloMosaic.Lib.Pipeline.ValueKit.Geometry
public import proofs.«01_k».proof.Proof.Gen.DxKernelIdeal.Value

@[expose] public section

set_option maxRecDepth 16384

noncomputable section

namespace Cert.Dx

open Idealize.ShloMosaic Cert.Reals Cert.Loads Cert.Norm Idealize.ShloMosaic.Tactic
open Cert.DxKernelIdeal Cert.DxKernelIdeal.Gen

/-- A block holds rows `t * 512 …` of the arguments; the weights are transposed and whole. -/
structure Block (A : Args) (t : ℕ) (x0 x1 x2 : Vec Ideal S512x512 .bf16) (x3 : Vec Ideal S512x1792 .bf16) (x4 : Vec Ideal S3328x1024 .bf16)
    (x5 : Vec Ideal S512x1024 .f32) (x7 : Vec Ideal S1x1024 .f32) : Prop where
  dq : ∀ (ρ : Fin 512) (k : Fin 512), x0 (ix2 ρ k) = (A.dq (t * 512 + ρ) k)
  dk : ∀ (ρ : Fin 512) (k : Fin 512), x1 (ix2 ρ k) = (A.dk (t * 512 + ρ) k)
  dv : ∀ (ρ : Fin 512) (k : Fin 512), x2 (ix2 ρ k) = (A.dv (t * 512 + ρ) k)
  dr : ∀ (ρ : Fin 512) (k : Fin 1792), x3 (ix2 ρ k) = (A.dr (t * 512 + ρ) k)
  w : ∀ (j : Fin 3328) (k : Fin 1024), x4 (ix2 j k) = (A.w k j)
  x : ∀ (ρ : Fin 512) (k : Fin 1024), x5 (ix2 ρ k) = (A.x (t * 512 + ρ) k)
  g : ∀ (z : Fin 1) (k : Fin 1024), x7 (ix2 z k) = (A.g k)

/-- Rows of the weights read from row `a` on. -/
theorem rows {A : Args} {n a : ℕ} {inb} {x4 : Vec Ideal S3328x1024 .bf16} (h : ∀ (j : Fin 3328) (k : Fin 1024), x4 (ix2 j k) = (A.w k j))
    (hn : a + n ≤ 3328) (j : Fin n) (k : Fin 1024) :
    (View.ld x4 (Rect.unit ![a, 0] ![n, 1024] inb) : Vec Ideal ⟨2, ![n, 1024]⟩ .bf16) (ix2 j k) = (A.w k (a + j)) := by
  refine Eq.trans (congrArg x4 (funext fun d => Fin.ext ?_)) (h ⟨a + j, by omega⟩ k)
  match d with
  | ⟨0, _⟩ => exact ValueKit.rect_emb_unit_val (s := S3328x1024) _ _ inb (ix2 j k) 0
  | ⟨1, _⟩ => exact (ValueKit.rect_emb_unit_val (s := S3328x1024) _ _ inb (ix2 j k) 1).trans (Nat.zero_add _)

section
variable {A : Args} {t : ℕ}

/-- The four products: the gradient of the normalised rows. -/
theorem dh_pt {x0 x1 x2 : Vec Ideal S512x512 .bf16} {x3 : Vec Ideal S512x1792 .bf16} {w0 w1 w2 : Vec Ideal S512x1024 .bf16} {w3 : Vec Ideal S1792x1024 .bf16}
    (h0 : ∀ (ρ : Fin 512) (k : Fin 512), x0 (ix2 ρ k) = (A.dq (t * 512 + ρ) k))
    (h1 : ∀ (ρ : Fin 512) (k : Fin 512), x1 (ix2 ρ k) = (A.dk (t * 512 + ρ) k))
    (h2 : ∀ (ρ : Fin 512) (k : Fin 512), x2 (ix2 ρ k) = (A.dv (t * 512 + ρ) k))
    (h3 : ∀ (ρ : Fin 512) (k : Fin 1792), x3 (ix2 ρ k) = (A.dr (t * 512 + ρ) k))
    (e0 : ∀ (j : Fin 512) (k : Fin 1024), w0 (ix2 j k) = (A.w k (0 + j)))
    (e1 : ∀ (j : Fin 512) (k : Fin 1024), w1 (ix2 j k) = (A.w k (512 + j)))
    (e2 : ∀ (j : Fin 512) (k : Fin 1024), w2 (ix2 j k) = (A.w k (1024 + j)))
    (e3 : ∀ (j : Fin 1792) (k : Fin 1024), w3 (ix2 j k) = (A.w k (1536 + j))) (ρ : Fin 512) (k : Fin 1024) :
    (k0_pay5 x0 w0 x1 w1 x2 w2 x3 w3 : FVec Ideal S512x1024 .f32) (ix2 ρ k) = (dh A (t * 512 + ρ) k) := by
  pointwise [k0_pay5]
  simp only [h0, h1, h2, h3, e0, e1, e2, e3, w_zero, EReal.coe_zero, zero_add, add_zero]
  rfl

section
variable {d x : Vec Ideal S512x1024 .f32} {g : Vec Ideal S1x1024 .f32}
variable (hd : ∀ (ρ : Fin 512) (k : Fin 1024), d (ix2 ρ k) = (dh A (t * 512 + ρ) k))
variable (hx : ∀ (ρ : Fin 512) (k : Fin 1024), x (ix2 ρ k) = (A.x (t * 512 + ρ) k))
variable (hg : ∀ (z : Fin 1) (k : Fin 1024), g (ix2 z k) = (A.g k))

include hx in
/-- The reciprocal root of each row's mean square. -/
theorem r_pt (ρ : Fin 512) (z : Fin 1) : (k0_pay1 (k0_pay7 x) k0_pay8 : FVec Ideal S512x1 .f32) (ix2 ρ z) = (rr (A.x (t * 512 + ρ))) := by
  pointwise [k0_pay1, k0_pay7, k0_pay6, k0_pay8]
  simp only [hx, w_1024, w_eps, w_zero, EReal.coe_zero, zero_add, add_zero, div_1024]
  rfl

include hd hx hg in
/-- What is added to the block of the other gradient. -/
theorem gx_pt (p : Vec Ideal S512x1024 .f32) (ρ : Fin 512) (k : Fin 1024) :
    (k0_pay2 d (k0_pay6 x) (k0_pay7 x) k0_pay8 p g : FVec Ideal S512x1024 .f32) (ix2 ρ k) = p (ix2 ρ k) + (gx A (t * 512 + ρ) k) := by
  pointwise [k0_pay2, k0_pay6]
  simp only [hd, hx, hg, r_pt hx, w_1024, w_zero, EReal.coe_zero, zero_add, add_zero, div_1024]
  rfl

include hd hx in
/-- The block's share of the gain's gradient, over what was held before. -/
theorem dgn_pt {q : ℕ → EReal} {p : Vec Ideal S1x1024 .f32} (hp : ∀ (z : Fin 1) (k : Fin 1024), p (ix2 z k) = (q k)) (z : Fin 1) (k : Fin 1024) :
    (k0_pay3 d (k0_pay6 x) (k0_pay7 x) k0_pay8 p : FVec Ideal S1x1024 .f32) (ix2 z k)
      = (q k + ∑ ρ : Fin 512, dh A (t * 512 + ρ) k * (A.x (t * 512 + ρ) k * rr (A.x (t * 512 + ρ)))) := by
  pointwise [k0_pay3, k0_pay6]
  simp only [hp, hd, hx, r_pt hx, w_zero, EReal.coe_zero, zero_add, add_zero]

end

/-- The first block starts the sum at nought. -/
theorem zero_pt (z : Fin 1) (k : Fin 1024) : (k0_pay4 : FVec Ideal S1x1024 .f32) (ix2 z k) = ((fun _ => 0 : ℕ → EReal) k) := by
  pointwise [k0_pay4]

variable {x0 x1 x2 : Vec Ideal S512x512 .bf16} {x3 : Vec Ideal S512x1792 .bf16} {x4 : Vec Ideal S3328x1024 .bf16} {x5 : Vec Ideal S512x1024 .f32} {x7 : Vec Ideal S1x1024 .f32}
variable (hB : Block A t x0 x1 x2 x3 x4 x5 x7)
include hB

/-- The gradient of the normalised rows, from a block. -/
theorem Block.dh_pt {i0 i1 i2 i3} (ρ : Fin 512) (k : Fin 1024) :
    (k0_pay5 x0 (View.ld x4 (Rect.unit ![0, 0] ![512, 1024] i0)) x1 (View.ld x4 (Rect.unit ![512, 0] ![512, 1024] i1)) x2 (View.ld x4 (Rect.unit ![1024, 0] ![512, 1024] i2))
      x3 (View.ld x4 (Rect.unit ![1536, 0] ![1792, 1024] i3)) : FVec Ideal S512x1024 .f32) (ix2 ρ k) = (dh A (t * 512 + ρ) k) :=
  Dx.dh_pt hB.dq hB.dk hB.dv hB.dr (rows hB.w (by decide)) (rows hB.w (by decide)) (rows hB.w (by decide)) (rows hB.w (by decide)) ρ k

end

/-- One block's share of the gain's gradient. -/
def dgnT (A : Args) (T k : ℕ) : EReal := ∑ ρ : Fin 512, dh A (T * 512 + ρ) k * (A.x (T * 512 + ρ) k * rr (A.x (T * 512 + ρ)))

section
variable {A : Args} {t : ℕ} (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S3328x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S1x1024 .f32) (harg11 : arg11.IsWhole) (hc0 : cond0_0 i) (x0 : Vec Ideal S512x512 .bf16) (x1 : Vec Ideal S512x512 .bf16) (x2 : Vec Ideal S512x512 .bf16) (x3 : Vec Ideal S512x1792 .bf16) (x4 : Vec Ideal S3328x1024 .bf16) (x5 : Vec Ideal S512x1024 .f32) (x6 : Vec Ideal S512x1024 .f32) (x7 : Vec Ideal S1x1024 .f32)
variable (hB : Block A t x0 x1 x2 x3 x4 x5 x7)
include hB

/-- The block of the first result. -/
theorem caseA_8 (ρ : Fin 512) (k : Fin 1024) :
    out0_A_8 c i arg1 harg1 arg2 harg2 arg3 harg3 arg4 harg4 arg5 harg5 arg6 harg6 arg7 harg7 arg8 harg8 arg10 harg10 arg11 harg11 hc0 x0 x1 x2 x3 x4 x5 x6 x7 (ix2 ρ k) = x6 (ix2 ρ k) + (gx A (t * 512 + ρ) k) := by
  unfold out0_A_8
  rw [View.read_writes_eq_canon _ _ _ (fun _ => cover0_A_8 ..)]
  unfold kernelRun0_A
  dsimp only
  sl_unfold_words
  simp only [View.readAt_eq_ld, Memref.IsWhole.read_unread, ld_two, shapeCast_self]
  rw [View.canon_unit_zero hz2]
  exact gx_pt hB.dh_pt hB.x hB.g _ ρ k

/-- The gain's gradient, started. -/
theorem caseA_9 (z : Fin 1) (k : Fin 1024) :
    out0_A_9 c i arg1 harg1 arg2 harg2 arg3 harg3 arg4 harg4 arg5 harg5 arg6 harg6 arg7 harg7 arg8 harg8 arg10 harg10 arg11 harg11 hc0 x0 x1 x2 x3 x4 x5 x6 x7 (ix2 z k) = (0 + dgnT A t k) := by
  unfold out0_A_9
  rw [View.read_writes_eq_canon _ _ _ (fun _ => cover0_A_9 ..)]
  unfold kernelRun0_A
  dsimp only
  sl_unfold_words
  simp only [View.readAt_eq_ld, Memref.IsWhole.read_unread, ld_two, shapeCast_self]
  rw [View.canon_cons_unit_zero (S := S1x1024) hz2, View.readCov_cons_toLoadRect arg11.view]
  exact dgn_pt (q := fun _ => 0) hB.dh_pt hB.x zero_pt z k

end

section
variable {A : Args} {t : ℕ} (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1792 .bf16) (harg4 : arg4.IsWhole) (arg5 : Memref sig .tc .vmem S3328x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S1x1024 .f32) (harg11 : arg11.IsWhole) (hc0 : ¬cond0_0 i) (x0 : Vec Ideal S512x512 .bf16) (x1 : Vec Ideal S512x512 .bf16) (x2 : Vec Ideal S512x512 .bf16) (x3 : Vec Ideal S512x1792 .bf16) (x4 : Vec Ideal S3328x1024 .bf16) (x5 : Vec Ideal S512x1024 .f32) (x6 : Vec Ideal S512x1024 .f32) (x7 : Vec Ideal S1x1024 .f32) (xo9 : Vec Ideal S1x1024 .f32)
variable (hB : Block A t x0 x1 x2 x3 x4 x5 x7)
include hB

/-- The block of the first result. -/
theorem caseB_8 (ρ : Fin 512) (k : Fin 1024) :
    out0_B_8 c i arg1 harg1 arg2 harg2 arg3 harg3 arg4 harg4 arg5 harg5 arg6 harg6 arg7 harg7 arg8 harg8 arg10 harg10 arg11 harg11 hc0 x0 x1 x2 x3 x4 x5 x6 x7 xo9 (ix2 ρ k) = x6 (ix2 ρ k) + (gx A (t * 512 + ρ) k) := by
  unfold out0_B_8
  rw [View.read_writes_eq_canon _ _ _ (fun _ => cover0_B_8 ..)]
  unfold kernelRun0_B
  dsimp only
  sl_unfold_words
  simp only [View.readAt_eq_ld, Memref.IsWhole.read_unread, ld_two, shapeCast_self]
  rw [View.canon_unit_zero hz2]
  exact gx_pt hB.dh_pt hB.x hB.g _ ρ k

/-- The gain's gradient, carried on. -/
theorem caseB_9 {q : ℕ → EReal} (hq : ∀ (z : Fin 1) (k : Fin 1024), xo9 (ix2 z k) = (q k)) (z : Fin 1) (k : Fin 1024) :
    out0_B_9 c i arg1 harg1 arg2 harg2 arg3 harg3 arg4 harg4 arg5 harg5 arg6 harg6 arg7 harg7 arg8 harg8 arg10 harg10 arg11 harg11 hc0 x0 x1 x2 x3 x4 x5 x6 x7 xo9 (ix2 z k) = (q k + dgnT A t k) := by
  unfold out0_B_9
  rw [View.read_writes_eq_canon _ _ _ (fun _ => cover0_B_9 ..)]
  unfold kernelRun0_B
  dsimp only
  sl_unfold_words
  simp only [View.readAt_eq_ld, Memref.IsWhole.read_unread, ld_two, shapeCast_self]
  rw [View.canon_unit_zero hz2]
  exact dgn_pt hB.dh_pt hB.x hq z k

end

end Cert.Dx

end
-- ==== Proof.DxArr.lean ====
/- The gradient through the input projection: the two arrays the kernel leaves. -/
module

public import proofs.«01_k».proof.Proof.DxKer

@[expose] public section

set_option maxRecDepth 16384

noncomputable section

namespace Cert.Dx

open Idealize.ShloMosaic Cert.Reals Cert.Norm Idealize.ShloMosaic.Tactic
open Cert.DxKernelIdeal Cert.DxKernelIdeal.Gen
open Idealize.ShloMosaic.TcCoe

variable (m : (ℓ : Loc nD τ sig) → Buf (Elt Ideal) ℓ) (c : Dev nD)

/-! ## What the host prepares -/

theorem V_dq : V m c main_v1 = (show FVec Ideal S4096x512 .bf16 from truncf .bf16 (shapeCast S4096x512 (m ((c : Thread nD τ).loc main_arg0)) shapeCasts_S2x2048x512_S4096x512 : FVec Ideal S4096x512 .f32) bitsLt_bf16_f32) := by
  unfold V hostOps0
  after_results <;> rfl

theorem V_dk : V m c main_v3 = (show FVec Ideal S4096x512 .bf16 from truncf .bf16 (shapeCast S4096x512 (m ((c : Thread nD τ).loc main_arg1)) shapeCasts_S2x2048x512_S4096x512 : FVec Ideal S4096x512 .f32) bitsLt_bf16_f32) := by
  unfold V hostOps0
  after_results <;> rfl

theorem V_dv : V m c main_v5 = (show FVec Ideal S4096x512 .bf16 from truncf .bf16 (shapeCast S4096x512 (m ((c : Thread nD τ).loc main_arg2)) shapeCasts_S2x2048x512_S4096x512 : FVec Ideal S4096x512 .f32) bitsLt_bf16_f32) := by
  unfold V hostOps0
  after_results <;> rfl

theorem V_dr : V m c main_v7 = (show FVec Ideal S4096x1792 .bf16 from truncf .bf16 (shapeCast S4096x1792 (m ((c : Thread nD τ).loc main_arg3)) shapeCasts_S2x2048x1792_S4096x1792 : FVec Ideal S4096x1792 .f32) bitsLt_bf16_f32) := by
  unfold V hostOps0
  after_results <;> rfl

theorem V_w : V m c main_v9 = (show FVec Ideal S3328x1024 .bf16 from truncf .bf16 (transpose S3328x1024 [1, 0] (m ((c : Thread nD τ).loc main_arg4)) transposes_S1024x3328_S3328x1024_1_0 : FVec Ideal S3328x1024 .f32) bitsLt_bf16_f32) := by
  unfold V hostOps0
  after_results <;> rfl

theorem V_x : V m c main_v10 = (show FVec Ideal S4096x1024 .f32 from shapeCast S4096x1024 (m ((c : Thread nD τ).loc main_arg5)) shapeCasts_S2x2048x1024_S4096x1024) := by
  unfold V hostOps0
  after_results <;> rfl

theorem V_p : V m c main_v11 = (show FVec Ideal S4096x1024 .f32 from shapeCast S4096x1024 (m ((c : Thread nD τ).loc main_arg6)) shapeCasts_S2x2048x1024_S4096x1024) := by
  unfold V hostOps0
  after_results <;> rfl

/-! ## What the host's reshapes hold -/

theorem cast_h {f : ℕ → ℕ → EReal} {x : Vec Ideal S2x2048x512 .f32} (hx : ∀ (b : Fin 2) (s : Fin 2048) (k : Fin 512), x (ix3 b s k) = (f (b * 2048 + s) k)) (r : Fin 4096) (k : Fin 512) :
    (show FVec Ideal S4096x512 .bf16 from truncf .bf16 (shapeCast S4096x512 x shapeCasts_S2x2048x512_S4096x512 : FVec Ideal S4096x512 .f32) bitsLt_bf16_f32) (ix2 r k) = (f r k) := by
  pointwise []
  rw [hx]
  simp only [show (r : ℕ) / 2048 * 2048 + (r : ℕ) % 2048 = r by omega]

theorem cast_r {f : ℕ → ℕ → EReal} {x : Vec Ideal S2x2048x1792 .f32} (hx : ∀ (b : Fin 2) (s : Fin 2048) (k : Fin 1792), x (ix3 b s k) = (f (b * 2048 + s) k)) (r : Fin 4096) (k : Fin 1792) :
    (show FVec Ideal S4096x1792 .bf16 from truncf .bf16 (shapeCast S4096x1792 x shapeCasts_S2x2048x1792_S4096x1792 : FVec Ideal S4096x1792 .f32) bitsLt_bf16_f32) (ix2 r k) = (f r k) := by
  pointwise []
  rw [hx]
  simp only [show (r : ℕ) / 2048 * 2048 + (r : ℕ) % 2048 = r by omega]

theorem cast_w {f : ℕ → ℕ → EReal} {x : Vec Ideal S1024x3328 .f32} (hx : ∀ (j : Fin 1024) (k : Fin 3328), x (ix2 j k) = (f j k)) (j : Fin 3328) (k : Fin 1024) :
    (show FVec Ideal S3328x1024 .bf16 from truncf .bf16 (transpose S3328x1024 [1, 0] x transposes_S1024x3328_S3328x1024_1_0 : FVec Ideal S3328x1024 .f32) bitsLt_bf16_f32) (ix2 j k) = (f k j) := by
  pointwise []
  exact hx k j

theorem cast_p (x : Vec Ideal S2x2048x1024 .f32) (r : Fin 4096) (k : Fin 1024) :
    (shapeCast S4096x1024 x shapeCasts_S2x2048x1024_S4096x1024 : FVec Ideal S4096x1024 .f32) (ix2 r k) = x (ix3 ⟨r / 2048, by omega⟩ ⟨r % 2048, by omega⟩ k) := by
  pointwise []

/-! ## The blocks -/

variable (t : Fin cfg0.N)

theorem pt_lt : (t : ℕ) < 8 := lt_of_lt_of_eq t.isLt (show cfg0.N = 8 from N_0)

/-- What is held after block `n`, where the block of the other gradient is `p`. -/
structure Inv (A : Args) (n : ℕ) (p : Vec Ideal S512x1024 .f32) (s : Vec Ideal S512x1024 .f32 × Vec Ideal S1x1024 .f32) : Prop where
  gx : ∀ (ρ : Fin 512) (k : Fin 1024), s.1 (ix2 ρ k) = p (ix2 ρ k) + (gx A (n * 512 + ρ) k)
  dg : ∀ (z : Fin 1) (k : Fin 1024), s.2 (ix2 z k) = (∑ T ∈ Finset.range (n + 1), dgnT A T k)

/-- The same, of two values given one by one. -/
theorem Inv.of {A : Args} {n : ℕ} {p a1 : Vec Ideal S512x1024 .f32} {a2 : Vec Ideal S1x1024 .f32}
    (gx : ∀ (ρ : Fin 512) (k : Fin 1024), a1 (ix2 ρ k) = p (ix2 ρ k) + (Dx.gx A (n * 512 + ρ) k))
    (dg : ∀ (z : Fin 1) (k : Fin 1024), a2 (ix2 z k) = (∑ T ∈ Finset.range (n + 1), dgnT A T k)) : Inv A n p (a1, a2) :=
  ⟨gx, dg⟩

/-- The grid's last point. -/
abbrev last : Fin cfg0.N := ⟨7, lt_of_lt_of_eq (by decide) N_0.symm⟩

theorem blk0 (ρ : Fin 512) (k : Fin 512) : iblk m c 0 t (ix2 ρ k) = V m c main_v1 (ix2 ⟨t * 512 + ρ, by have := pt_lt t; omega⟩ k) := by
  have h : win0_0.index t (0 : Fin 2) = t ∧ win0_0.index t (1 : Fin 2) = 0 :=
    (by decide +kernel : ∀ t : Fin grid0.N, win0_0.index t (0 : Fin 2) = t ∧ win0_0.index t (1 : Fin 2) = 0) t
  show V m c main_v1 (((cfg0.win 0).blk t).view.emb (ix2 ρ k)) = _
  refine congrArg _ (funext fun a => Fin.ext ?_)
  match a with
  | ⟨0, _⟩ =>
    show win0_0.index t (0 : Fin 2) * 512 + 1 * (ρ : ℕ) = t * 512 + ρ
    rw [h.1, Nat.one_mul]
  | ⟨1, _⟩ =>
    show win0_0.index t (1 : Fin 2) * 512 + 1 * (k : ℕ) = k
    rw [h.2, Nat.one_mul, Nat.zero_mul, Nat.zero_add]

theorem blk1 (ρ : Fin 512) (k : Fin 512) : iblk m c 1 t (ix2 ρ k) = V m c main_v3 (ix2 ⟨t * 512 + ρ, by have := pt_lt t; omega⟩ k) := by
  have h : win0_1.index t (0 : Fin 2) = t ∧ win0_1.index t (1 : Fin 2) = 0 :=
    (by decide +kernel : ∀ t : Fin grid0.N, win0_1.index t (0 : Fin 2) = t ∧ win0_1.index t (1 : Fin 2) = 0) t
  show V m c main_v3 (((cfg0.win 1).blk t).view.emb (ix2 ρ k)) = _
  refine congrArg _ (funext fun a => Fin.ext ?_)
  match a with
  | ⟨0, _⟩ =>
    show win0_1.index t (0 : Fin 2) * 512 + 1 * (ρ : ℕ) = t * 512 + ρ
    rw [h.1, Nat.one_mul]
  | ⟨1, _⟩ =>
    show win0_1.index t (1 : Fin 2) * 512 + 1 * (k : ℕ) = k
    rw [h.2, Nat.one_mul, Nat.zero_mul, Nat.zero_add]

theorem blk2 (ρ : Fin 512) (k : Fin 512) : iblk m c 2 t (ix2 ρ k) = V m c main_v5 (ix2 ⟨t * 512 + ρ, by have := pt_lt t; omega⟩ k) := by
  have h : win0_2.index t (0 : Fin 2) = t ∧ win0_2.index t (1 : Fin 2) = 0 :=
    (by decide +kernel : ∀ t : Fin grid0.N, win0_2.index t (0 : Fin 2) = t ∧ win0_2.index t (1 : Fin 2) = 0) t
  show V m c main_v5 (((cfg0.win 2).blk t).view.emb (ix2 ρ k)) = _
  refine congrArg _ (funext fun a => Fin.ext ?_)
  match a with
  | ⟨0, _⟩ =>
    show win0_2.index t (0 : Fin 2) * 512 + 1 * (ρ : ℕ) = t * 512 + ρ
    rw [h.1, Nat.one_mul]
  | ⟨1, _⟩ =>
    show win0_2.index t (1 : Fin 2) * 512 + 1 * (k : ℕ) = k
    rw [h.2, Nat.one_mul, Nat.zero_mul, Nat.zero_add]

theorem blk3 (ρ : Fin 512) (k : Fin 1792) : iblk m c 3 t (ix2 ρ k) = V m c main_v7 (ix2 ⟨t * 512 + ρ, by have := pt_lt t; omega⟩ k) := by
  have h : win0_3.index t (0 : Fin 2) = t ∧ win0_3.index t (1 : Fin 2) = 0 :=
    (by decide +kernel : ∀ t : Fin grid0.N, win0_3.index t (0 : Fin 2) = t ∧ win0_3.index t (1 : Fin 2) = 0) t
  show V m c main_v7 (((cfg0.win 3).blk t).view.emb (ix2 ρ k)) = _
  refine congrArg _ (funext fun a => Fin.ext ?_)
  match a with
  | ⟨0, _⟩ =>
    show win0_3.index t (0 : Fin 2) * 512 + 1 * (ρ : ℕ) = t * 512 + ρ
    rw [h.1, Nat.one_mul]
  | ⟨1, _⟩ =>
    show win0_3.index t (1 : Fin 2) * 1792 + 1 * (k : ℕ) = k
    rw [h.2, Nat.one_mul, Nat.zero_mul, Nat.zero_add]

theorem blk5 (ρ : Fin 512) (k : Fin 1024) : iblk m c 5 t (ix2 ρ k) = V m c main_v10 (ix2 ⟨t * 512 + ρ, by have := pt_lt t; omega⟩ k) := by
  have h : win0_5.index t (0 : Fin 2) = t ∧ win0_5.index t (1 : Fin 2) = 0 :=
    (by decide +kernel : ∀ t : Fin grid0.N, win0_5.index t (0 : Fin 2) = t ∧ win0_5.index t (1 : Fin 2) = 0) t
  show V m c main_v10 (((cfg0.win 5).blk t).view.emb (ix2 ρ k)) = _
  refine congrArg _ (funext fun a => Fin.ext ?_)
  match a with
  | ⟨0, _⟩ =>
    show win0_5.index t (0 : Fin 2) * 512 + 1 * (ρ : ℕ) = t * 512 + ρ
    rw [h.1, Nat.one_mul]
  | ⟨1, _⟩ =>
    show win0_5.index t (1 : Fin 2) * 1024 + 1 * (k : ℕ) = k
    rw [h.2, Nat.one_mul, Nat.zero_mul, Nat.zero_add]

theorem blk6 (ρ : Fin 512) (k : Fin 1024) : iblk m c 6 t (ix2 ρ k) = V m c main_v11 (ix2 ⟨t * 512 + ρ, by have := pt_lt t; omega⟩ k) := by
  have h : win0_6.index t (0 : Fin 2) = t ∧ win0_6.index t (1 : Fin 2) = 0 :=
    (by decide +kernel : ∀ t : Fin grid0.N, win0_6.index t (0 : Fin 2) = t ∧ win0_6.index t (1 : Fin 2) = 0) t
  show V m c main_v11 (((cfg0.win 6).blk t).view.emb (ix2 ρ k)) = _
  refine congrArg _ (funext fun a => Fin.ext ?_)
  match a with
  | ⟨0, _⟩ =>
    show win0_6.index t (0 : Fin 2) * 512 + 1 * (ρ : ℕ) = t * 512 + ρ
    rw [h.1, Nat.one_mul]
  | ⟨1, _⟩ =>
    show win0_6.index t (1 : Fin 2) * 1024 + 1 * (k : ℕ) = k
    rw [h.2, Nat.one_mul, Nat.zero_mul, Nat.zero_add]

theorem blk4 : iblk m c 4 t = V m c main_v9 := by
  have h := (by decide +kernel : ∀ t : Fin grid0.N, (fun a => win0_4.index t a * main_v9.ty.shape.size a) = fun _ => 0) t
  exact Memref.read_access_unit_zero (Elt Ideal) main_v9 h (fun a => by rw [congrFun h a]; simp) _

theorem blk7 : iblk m c 7 t = V m c main_arg7 := by
  have h := (by decide +kernel : ∀ t : Fin grid0.N, (fun a => win0_7.index t a * main_arg7.ty.shape.size a) = fun _ => 0) t
  exact Memref.read_access_unit_zero (Elt Ideal) main_arg7 h (fun a => by rw [congrFun h a]; simp) _

section
variable {A : Args} (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)))
include h

/-- Each point's block holds its rows. -/
theorem blocks : Block A t (iblk m c 0 t) (iblk m c 1 t) (iblk m c 2 t) (iblk m c 3 t) (iblk m c 4 t) (iblk m c 5 t) (iblk m c 7 t) where
  dq ρ k := by rw [blk0, V_dq]; exact cast_h h.dq _ _
  dk ρ k := by rw [blk1, V_dk]; exact cast_h h.dk _ _
  dv ρ k := by rw [blk2, V_dv]; exact cast_h h.dv _ _
  dr ρ k := by rw [blk3, V_dr]; exact cast_r h.dr _ _
  w j k := by rw [blk4, V_w]; exact cast_w h.w _ _
  x ρ k := by
    rw [blk5, V_x]
    have := pt_lt t
    refine (cast_p _ _ _).trans ((h.x _ _ _).trans ?_)
    show (A.x ((t * 512 + ρ) / 2048 * 2048 + (t * 512 + ρ) % 2048) k) = _
    rw [show ((t : ℕ) * 512 + ρ) / 2048 * 2048 + (t * 512 + ρ) % 2048 = t * 512 + ρ by omega]
  g z k := by rw [blk7, V_main_arg7]; exact h.g _ _

/-- What is held after block `n`: the block's rows of the first result, and the sum so far of the second. -/
theorem inv (n : ℕ) (hn : n < cfg0.N) : Inv A n (iblk m c 6 ⟨n, hn⟩) (outsAt0 m c n hn) := by
  have hN : n < 8 := lt_of_lt_of_eq hn (show cfg0.N = 8 from N_0)
  induction n with
  | zero =>
    have hB : Block A 0 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 7 ⟨0, hn⟩) := blocks m c ⟨0, hn⟩ h
    rw [show outsAt0 m c 0 hn = _ from outsAt0_A m c ⟨0, hn⟩ rfl]
    refine Inv.of ?_ ?_
    · exact fun ρ k => caseA_8 (hB := hB) ..
    · exact fun z k => (caseA_9 (hB := hB) ..).trans (by rw [Finset.sum_range_one, zero_add])
  | succ n ih =>
    have h0 : ¬(n + 1) % 8 = 0 := by omega
    have hi := ih (by omega) (by omega)
    have hB : Block A (n + 1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 7 ⟨n + 1, hn⟩) := blocks m c ⟨n + 1, hn⟩ h
    rw [show outsAt0 m c (n + 1) hn = _ from outsAt0_B m c ⟨n + 1, hn⟩ h0]
    refine Inv.of ?_ ?_
    · exact fun ρ k => caseB_8 (hB := hB) ..
    · exact fun z k => (caseB_9 (hB := hB) (q := fun k => ∑ T ∈ Finset.range (n + 1), dgnT A T k) (hq := hi.dg) ..).trans (by rw [Finset.sum_range_succ _ (n + 1)])

/-! ## The arrays -/

/-- The first array: what is added last, plus what the norm gives back. -/
theorem arr8 (r : Fin 4096) (k : Fin 1024) :
    (dats m 0 c).arrAt 8 cfg0.N (ix2 r k) = (show Vec Ideal S2x2048x1024 .f32 from m ((c : Thread nD τ).loc main_arg6)) (ix3 ⟨r / 2048, by omega⟩ ⟨r % 2048, by omega⟩ k) + (gx A r k) := by
  have hn : (r : ℕ) / 512 < cfg0.N := lt_of_lt_of_eq (by omega) N_0.symm
  have hw : win0_8.index ⟨(r : ℕ) / 512, hn⟩ (0 : Fin 2) = (r : ℕ) / 512 ∧ win0_8.index ⟨(r : ℕ) / 512, hn⟩ (1 : Fin 2) = 0 :=
    (by decide +kernel : ∀ t : Fin grid0.N, win0_8.index t (0 : Fin 2) = t ∧ win0_8.index t (1 : Fin 2) = 0) ⟨(r : ℕ) / 512, hn⟩
  have e : (dats m 0 c).arrAt 8 cfg0.N (((cfg0.win 8).blk ⟨(r : ℕ) / 512, hn⟩).view.emb (ix2 ⟨(r : ℕ) % 512, by omega⟩ k)) = (outsAt0 m c ((r : ℕ) / 512) hn).1 (ix2 ⟨(r : ℕ) % 512, by omega⟩ k) :=
    congrFun ((DxKernelIdeal.Value.blocks8 m c ⟨(r : ℕ) / 512, hn⟩ (flush0_8 _)).trans (DxKernelIdeal.Value.flushed8 m c ⟨(r : ℕ) / 512, hn⟩)) (ix2 ⟨(r : ℕ) % 512, by omega⟩ k)
  have e2 : ((cfg0.win 8).blk ⟨(r : ℕ) / 512, hn⟩).view.emb (ix2 ⟨(r : ℕ) % 512, by omega⟩ k) = ix2 r k := by
    refine funext fun a => Fin.ext ?_
    match a with
    | ⟨0, _⟩ =>
      show win0_8.index ⟨(r : ℕ) / 512, hn⟩ (0 : Fin 2) * 512 + 1 * ((r : ℕ) % 512) = r
      rw [hw.1]
      omega
    | ⟨1, _⟩ =>
      show win0_8.index ⟨(r : ℕ) / 512, hn⟩ (1 : Fin 2) * 1024 + 1 * (k : ℕ) = k
      rw [hw.2, Nat.one_mul, Nat.zero_mul, Nat.zero_add]
  rw [e2] at e
  refine e.trans (((inv m c h _ hn).gx _ _).trans ?_)
  rw [blk6, V_p]
  refine congrArg₂ _ ((cast_p _ _ _).trans ?_) ?_
  · show (m ((c : Thread nD τ).loc main_arg6)) (ix3 ⟨((r : ℕ) / 512 * 512 + (r : ℕ) % 512) / 2048, _⟩ ⟨((r : ℕ) / 512 * 512 + (r : ℕ) % 512) % 2048, _⟩ k) = _
    simp only [show (r : ℕ) / 512 * 512 + (r : ℕ) % 512 = r by omega]
  · show (gx A ((r : ℕ) / 512 * 512 + (r : ℕ) % 512) k) = _
    rw [show (r : ℕ) / 512 * 512 + (r : ℕ) % 512 = r by omega]

omit h in
/-- The blocks' shares add up to the gain's gradient. -/
theorem dgn_all (k : ℕ) : ∑ T ∈ Finset.range 8, dgnT A T k = dgn A k := by
  unfold dgnT dgn
  rw [Finset.sum_range, Fin.sum_univ_tiles 8 512 rfl]

/-- The second array. -/
theorem arr9 : (dats m 0 c).arrAt 9 cfg0.N = (fun i => (dgn A (i 1)) : Vec Ideal S1x1024 .f32) := by
  refine (dats m 0 c).arrAt_eq_of_cover 9 _ (fun t hf => ?_) fun (i : S1x1024.Idx) => ⟨last, (flush0_9 _).mpr rfl, ?_⟩
  · have ht : (t : ℕ) = 7 := by have := (flush0_9 t).mp hf; have := pt_lt t; omega
    rw [DxKernelIdeal.Value.flushed9]
    have hw : (fun a => win0_9.index t a * main_v13_1.ty.shape.size a) = fun _ => 0 :=
      (by decide +kernel : ∀ t : Fin grid0.N, (fun a => win0_9.index t a * main_v13_1.ty.shape.size a) = fun _ => 0) t
    refine Eq.trans ?_ (Memref.read_access_unit_zero (Elt Ideal) main_v13_1 hw (fun a => by rw [congrFun hw a]; simp) _).symm
    show (outsAt0 m c t.val t.isLt).2 = _
    funext i
    rw [eq_ix2 i, (inv m c h t.val t.isLt).dg (i 0) (i 1), ht, dgn_all]
    rfl
  · show i ∈ ((View.whole main_v13_1).slice (win0_9.rect last)).set
    rw [View.set_slice_whole, Rect.mem_set_unit]
    intro a
    exact ⟨((by decide +kernel : ∀ (t : Fin grid0.N) (a : Fin 2), win0_9.index t a * win0_9.size a = 0) last a).trans_le (Nat.zero_le _),
      lt_of_lt_of_eq (i a).isLt ((by decide +kernel : ∀ (t : Fin grid0.N) (a : Fin 2), S1x1024.size a = win0_9.index t a * win0_9.size a + win0_9.xsize (grid0.coords t) a) last a)⟩

end

end Cert.Dx

end
-- ==== Proof.Dx.lean ====
/- The claims of the gradient through the input projection and its norm. -/
module

public import proofs.«01_k».proof.Proof.Finite
public import proofs.«01_k».proof.Proof.DxArr

@[expose] public section

set_option maxRecDepth 16384

noncomputable section

namespace Cert.Dx

open Idealize.ShloMosaic Idealize.ShloMosaic.TcCoe

/-- The reference runs, keeps its arguments and has no semaphore. -/
theorem frame_reference : Cert.quiescent_DxReferenceIdeal := fun m ρ _ =>
  (θ_run Cert.DxReferenceIdeal.defs _ _).mono (fun r h => ⟨fun c => (h c).2.2, sem_eq_zero_of_no_sems (by decide) r.2⟩)
    (Cert.DxReferenceIdeal.Value.run (F := Ideal) m ρ)

/-- The numbers that the arguments hold. -/
def argsOf (x0 : Vec Ideal DxReferenceIdeal.S2x2048x512 .f32) (x1 : Vec Ideal DxReferenceIdeal.S2x2048x512 .f32) (x2 : Vec Ideal DxReferenceIdeal.S2x2048x512 .f32) (x3 : Vec Ideal DxReferenceIdeal.S2x2048x1792 .f32) (x4 : Vec Ideal DxReferenceIdeal.S1024x3328 .f32) (x5 : Vec Ideal DxReferenceIdeal.S2x2048x1024 .f32) (x7 : Vec Ideal DxReferenceIdeal.S1x1024 .f32) : Args where
  dq r k := x0 (ix3 (Fin.ofNat 2 (r / 2048)) (Fin.ofNat 2048 r) (Fin.ofNat 512 k))
  dk r k := x1 (ix3 (Fin.ofNat 2 (r / 2048)) (Fin.ofNat 2048 r) (Fin.ofNat 512 k))
  dv r k := x2 (ix3 (Fin.ofNat 2 (r / 2048)) (Fin.ofNat 2048 r) (Fin.ofNat 512 k))
  dr r k := x3 (ix3 (Fin.ofNat 2 (r / 2048)) (Fin.ofNat 2048 r) (Fin.ofNat 1792 k))
  w j k := x4 (ix2 (Fin.ofNat 1024 j) (Fin.ofNat 3328 k))
  x r k := x5 (ix3 (Fin.ofNat 2 (r / 2048)) (Fin.ofNat 2048 r) (Fin.ofNat 1024 k))
  g k := x7 (ix2 (0 : Fin 1) (Fin.ofNat 1024 k))

open Branch in
/-- Arguments hold the numbers read off them. -/
theorem holds (x0 : Vec Ideal DxReferenceIdeal.S2x2048x512 .f32) (x1 : Vec Ideal DxReferenceIdeal.S2x2048x512 .f32) (x2 : Vec Ideal DxReferenceIdeal.S2x2048x512 .f32) (x3 : Vec Ideal DxReferenceIdeal.S2x2048x1792 .f32) (x4 : Vec Ideal DxReferenceIdeal.S1024x3328 .f32) (x5 : Vec Ideal DxReferenceIdeal.S2x2048x1024 .f32) (x7 : Vec Ideal DxReferenceIdeal.S1x1024 .f32) :
    Holds (argsOf x0 x1 x2 x3 x4 x5 x7) x0 x1 x2 x3 x4 x5 x7 := by
  constructor <;> intros <;> simp only [argsOf, ofNat_div, ofNat_add, ofNat_val]
  rename_i z k
  rw [Subsingleton.elim z (0 : Fin 1)]

open Cert.DxKernelIdeal Cert.DxKernelIdeal.Gen
open Cert.DxReferenceIdeal.Read

section Results

variable (m : (ℓ : Loc nD τ sig) → Buf (Elt Ideal) ℓ) (c : Dev nD) {A : Args}
variable (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)))
include h

/-- The first result. -/
theorem final_gx : (dats m 0 c).arrAt 8 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [eq_ix2 i]
  exact (arr8 m c h _ _).trans (v42_eq h _ _ _).symm

/-- The second result. -/
theorem final_dgn : (dats m 0 c).arrAt 9 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr9 m c h]
  funext i
  rw [eq_ix2 i]
  exact (v41_eq h _ _).symm

end Results

/-- The kernel and the reference agree, both results, on memories that agree on the arguments. -/
theorem algebraic : Cert.algebraic_DxKernelIdeal_DxReferenceIdeal := by
  intro m g m' g' _ hm
  refine ⟨fun c => val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run defs _ _).mono (fun r h c => ?_) (Cert.DxKernelIdeal.Value.run_blocks m g)
    obtain ⟨h0, h1, hk⟩ := h c
    have hh := holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
    exact ⟨h0.trans (final_gx m c hh), h1.trans (final_dgn m c hh), hk⟩
  · refine (θ_run Cert.DxReferenceIdeal.defs _ _).mono (fun r h c => ?_) (Cert.DxReferenceIdeal.Value.run m' g')
    obtain ⟨h0, h1, hk⟩ := h c
    obtain ⟨e0, e1, e2, e3, e4, e5, e6, e7⟩ := hm c
    refine ⟨(h0.trans (val_main_v42_eq _ _)).trans ?_, (h1.trans (val_main_v41_eq _ _ _ _ _ _)).trans ?_, hk⟩
    · show val_main_v42 (F := Ideal) (m' ((c : Thread nD τ).loc DxReferenceIdeal.main_arg0)) (m' ((c : Thread nD τ).loc DxReferenceIdeal.main_arg1)) (m' ((c : Thread nD τ).loc DxReferenceIdeal.main_arg2)) (m' ((c : Thread nD τ).loc DxReferenceIdeal.main_arg3)) (m' ((c : Thread nD τ).loc DxReferenceIdeal.main_arg4)) (m' ((c : Thread nD τ).loc DxReferenceIdeal.main_arg5)) (m' ((c : Thread nD τ).loc DxReferenceIdeal.main_arg6)) (m' ((c : Thread nD τ).loc DxReferenceIdeal.main_arg7)) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      rw [e0, e1, e2, e3, e4, e5, e6, e7]
    · show val_main_v41 (F := Ideal) (m' ((c : Thread nD τ).loc DxReferenceIdeal.main_arg0)) (m' ((c : Thread nD τ).loc DxReferenceIdeal.main_arg1)) (m' ((c : Thread nD τ).loc DxReferenceIdeal.main_arg2)) (m' ((c : Thread nD τ).loc DxReferenceIdeal.main_arg3)) (m' ((c : Thread nD τ).loc DxReferenceIdeal.main_arg4)) (m' ((c : Thread nD τ).loc DxReferenceIdeal.main_arg5)) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      rw [e0, e1, e2, e3, e4, e5]

end Cert.Dx

end
-- ==== Proof.AttnLoop.lean ====
module

public import proofs.«01_k».proof.Proof.Gen.AttnKernel.Loops
public import proofs.«01_k».proof.Proof.Gen.AttnKernel.Frame

@[expose] public section

set_option maxRecDepth 16384
set_option maxHeartbeats 8000000

noncomputable section

namespace Cert.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnKernel Cert.AttnKernel.Gen

variable {F : FTy → Type} [FloatOps F]

local notation "𝕄" => MT nD τ sig Unit (Elt F) ℕ (UR sig nD τ) ℕ

set_option warn.classDefReducibility false in
/-- The loop over the sixteen row blocks adds a block's products into the nine accumulators.  It reads the operands and the
    two tables of weights and keeps them; an accumulator is held at some contents before every trip. -/
@[sl_loop] def gradsLoop (𝒱 : Variants) (c : Dev nD) (bd : Option 𝒱.V) (E : Set ℕ) (i : grid0.Coords) (arg2 : Memref sig .tc .vmem S1x8x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x16x128x128 .bf16) (harg6 : arg6.IsWhole) (arg7 : Memref sig .tc .vmem S1x16x128x128 .bf16) (harg7 : arg7.IsWhole) (arg8 : Memref sig .tc .vmem S1x16x128x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S7x256x256 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S48x256x256 .bf16) (harg30 : arg30.IsWhole) (arg31 : Memref sig .tc .vmem S48x256x256 .bf16) (harg31 : arg31.IsWhole) (v2 : IVec S128x128 1) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (X_arg9 : BufTy.Contents (Elt F) arg9.view.ty) (X_arg30 : BufTy.Contents (Elt F) arg30.view.ty) (X_arg31 : BufTy.Contents (Elt F) arg31.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v2 where
  inv := fun k acc => iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} X_arg9) ∗ (arg30.view.loc (c : Thread nD τ) ↦[arg30.view.set]{fullShare} X_arg30) ∗ (arg31.view.loc (c : Thread nD τ) ↦[arg31.view.set]{fullShare} X_arg31) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)))
  step := fun k acc => by
    have hk : k.val < 16 := Nat.lt_of_lt_of_le k.isLt k0_t2_abs.2.1
    unfold k0_t2_body
    iintro ⟨Rarg3, Rarg4, Rarg6, Rarg7, Rarg9, Rarg30, Rarg31, ⟨%farg16, Warg16⟩, ⟨%farg17, Warg17⟩, ⟨%farg18, Warg18⟩, ⟨%farg19, Warg19⟩, ⟨%farg20, Warg20⟩, ⟨%farg21, Warg21⟩, ⟨%farg22, Warg22⟩, ⟨%farg23, Warg23⟩, ⟨%farg24, Warg24⟩⟩
    sl_exec
    sl_step
    isplitl [Rarg3]; · iexact Rarg3
    isplitl [Rarg4]; · iexact Rarg4
    isplitl [Rarg6]; · iexact Rarg6
    isplitl [Rarg7]; · iexact Rarg7
    isplitl [Rarg9]; · iexact Rarg9
    isplitl [Rarg30]; · iexact Rarg30
    isplitl [Rarg31]; · iexact Rarg31
    isplitl [Warg16]; · iexists _; iexact Warg16
    isplitl [Warg17]; · iexists _; iexact Warg17
    isplitl [Warg18]; · iexists _; iexact Warg18
    isplitl [Warg19]; · iexists _; iexact Warg19
    isplitl [Warg20]; · iexists _; iexact Warg20
    isplitl [Warg21]; · iexists _; iexact Warg21
    isplitl [Warg22]; · iexists _; iexact Warg22
    isplitl [Warg23]; · iexists _; iexact Warg23
    iexists _; iexact Warg24

end Cert.AttnFrame

end
-- ==== Proof.AttnBody.lean ====
module

public import proofs.«01_k».proof.Proof.AttnLoop

@[expose] public section

set_option maxRecDepth 16384
set_option maxHeartbeats 8000000

noncomputable section

namespace Cert.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnKernel Cert.AttnKernel.Gen

variable {F : FTy → Type} [FloatOps F]

local notation "𝕄" => MT nD τ sig Unit (Elt F) ℕ (UR sig nD τ) ℕ

set_option maxHeartbeats 400000000 in
/-- The body on whole buffers, the operands' at their contents and every other at anything, runs to its end and leaves the
    operands as they were and every other buffer at something. -/
theorem body_run (c : Dev nD) (i : grid0.Coords) (arg2 : Memref sig .tc .vmem S1x8x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x16x128x128 .bf16) (harg6 : arg6.IsWhole) (arg7 : Memref sig .tc .vmem S1x16x128x128 .bf16) (harg7 : arg7.IsWhole) (arg8 : Memref sig .tc .vmem S1x16x128x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .hbm S8x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S7x256x256 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole) (arg29 : Memref sig .tc .vmem S2048x128 .f32) (harg29 : arg29.IsWhole) (arg30 : Memref sig .tc .vmem S48x256x256 .bf16) (harg30 : arg30.IsWhole) (arg31 : Memref sig .tc .vmem S48x256x256 .bf16) (harg31 : arg31.IsWhole)
    (x0 : Vec F S1x8x128 .f32) (x1 : Vec F S2048x128 .f32) (x2 : Vec F S2048x128 .f32) (x3 : Vec F S2048x128 .f32) (x4 : Vec F S1x16x128x128 .bf16) (x5 : Vec F S1x16x128x128 .bf16) (x6 : Vec F S1x16x128x128 .bf16) (x7 : Vec F S2048x128 .f32) (x8 : Vec F S2048x128 .f32) (x9 : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%darg13, %farg13, -, Warg13⟩, ⟨%darg14, %farg14, -, Warg14⟩, ⟨%darg15, %farg15, -, Warg15⟩, ⟨%darg16, %farg16, -, Warg16⟩, ⟨%darg17, %farg17, -, Warg17⟩, ⟨%darg18, %farg18, -, Warg18⟩, ⟨%darg19, %farg19, -, Warg19⟩, ⟨%darg20, %farg20, -, Warg20⟩, ⟨%darg21, %farg21, -, Warg21⟩, ⟨%darg22, %farg22, -, Warg22⟩, ⟨%darg23, %farg23, -, Warg23⟩, ⟨%darg24, %farg24, -, Warg24⟩, ⟨%darg25, %farg25, -, Warg25⟩, ⟨%darg26, %farg26, -, Warg26⟩, ⟨%darg27, %farg27, -, Warg27⟩, ⟨%darg28, %farg28, -, Warg28⟩, ⟨%darg29, %farg29, -, Warg29⟩, ⟨%darg30, %farg30, -, Warg30⟩, ⟨%darg31, %farg31, -, Warg31⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  iapply Hk
  isplitl [H0]; · iexists _; isplitr; (· ipureintro; exact harg2.read_unread _); iexact H0
  isplitl [H1]; · iexists _; isplitr; (· ipureintro; exact harg3.read_unread _); iexact H1
  isplitl [H2]; · iexists _; isplitr; (· ipureintro; exact harg4.read_unread _); iexact H2
  isplitl [H3]; · iexists _; isplitr; (· ipureintro; exact harg5.read_unread _); iexact H3
  isplitl [H4]; · iexists _; isplitr; (· ipureintro; exact harg6.read_unread _); iexact H4
  isplitl [H5]; · iexists _; isplitr; (· ipureintro; exact harg7.read_unread _); iexact H5
  isplitl [H6]; · iexists _; isplitr; (· ipureintro; exact harg8.read_unread _); iexact H6
  isplitl [H7]; · iexists _; isplitr; (· ipureintro; exact harg9.read_unread _); iexact H7
  isplitl [H8]; · iexists _; isplitr; (· ipureintro; exact harg10.read_unread _); iexact H8
  isplitl [H9]; · iexists _; isplitr; (· ipureintro; exact harg11.read_unread _); iexact H9
  isplitl [Warg13]; · iexists _; iexists _; isplitr; swap; (· iexact Warg13); ipureintro; rfl
  isplitl [Warg14]; · iexists _; iexists _; isplitr; swap; (· iexact Warg14); ipureintro; rfl
  isplitl [Warg15]; · iexists _; iexists _; isplitr; swap; (· iexact Warg15); ipureintro; rfl
  isplitl [Warg16]; · iexists _; iexists _; isplitr; swap; (· iexact Warg16); ipureintro; rfl
  isplitl [Warg17]; · iexists _; iexists _; isplitr; swap; (· iexact Warg17); ipureintro; rfl
  isplitl [Warg18]; · iexists _; iexists _; isplitr; swap; (· iexact Warg18); ipureintro; rfl
  isplitl [Warg19]; · iexists _; iexists _; isplitr; swap; (· iexact Warg19); ipureintro; rfl
  isplitl [Warg20]; · iexists _; iexists _; isplitr; swap; (· iexact Warg20); ipureintro; rfl
  isplitl [Warg21]; · iexists _; iexists _; isplitr; swap; (· iexact Warg21); ipureintro; rfl
  isplitl [Warg22]; · iexists _; iexists _; isplitr; swap; (· iexact Warg22); ipureintro; rfl
  isplitl [Warg23]; · iexists _; iexists _; isplitr; swap; (· iexact Warg23); ipureintro; rfl
  isplitl [Warg24]; · iexists _; iexists _; isplitr; swap; (· iexact Warg24); ipureintro; rfl
  isplitl [Warg25]; · iexists _; iexists _; isplitr; swap; (· iexact Warg25); ipureintro; rfl
  isplitl [Warg26]; · iexists _; iexists _; isplitr; swap; (· iexact Warg26); ipureintro; rfl
  isplitl [Warg27]; · iexists _; iexists _; isplitr; swap; (· iexact Warg27); ipureintro; rfl
  isplitl [Warg28]; · iexists _; iexists _; isplitr; swap; (· iexact Warg28); ipureintro; rfl
  isplitl [Warg29]; · iexists _; iexists _; isplitr; swap; (· iexact Warg29); ipureintro; rfl
  isplitl [Warg30]; · iexists _; iexists _; isplitr; swap; (· iexact Warg30); ipureintro; rfl
  iexists _; iexists _; isplitr; swap; (· iexact Warg31); ipureintro; rfl

end Cert.AttnFrame

end
-- ==== Proof.AttnFrame.lean ====
module

public import proofs.«01_k».proof.Proof.AttnBody

@[expose] public section

set_option maxRecDepth 16384
set_option maxHeartbeats 8000000

/-! The launch of the attention's backward call: nothing is named of what the body leaves in its three results, so the proof
    data names the ten operands' blocks alone, and the body's run of `body_run` serves at every point of the grid. -/

noncomputable section

namespace Cert.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnKernel Cert.AttnKernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is named: the three results. -/
def unsaid : Fin 13 → Bool := fun w => decide (10 ≤ w.val)

/-- What is named along the grid: the operands' arrays as launched, their blocks left in place by the body, every scratch
    buffer at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q := Pipeline.shareOf spec0
  owed _ := 0

/-- The arrays are the launch's. -/
theorem A_eq (c : Dev nD) (w : Fin cfg0.W) : (dats m 0 c).A w = V m c (Pipeline.arrRef spec0 w) := by
  dsimp only [dats]

/-- Operand 0 is left as it was, -/
theorem after_0 (c : Dev nD) (t : Fin cfg0.N) : (dats m 0 c).after 0 t = iblk m c 0 t := by dsimp only [dats]
/-- and found as its block. -/
theorem before_0 (c : Dev nD) (t : Fin cfg0.N) (d) : (dats m 0 c).before 0 t d = iblk m c 0 t :=
  before0_0_of m (dats m 0 c) (A_eq m c 0) (after_0 m c) t d
/-- Operand 1 is left as it was, -/
theorem after_1 (c : Dev nD) (t : Fin cfg0.N) : (dats m 0 c).after 1 t = iblk m c 1 t := by dsimp only [dats]
/-- and found as its block. -/
theorem before_1 (c : Dev nD) (t : Fin cfg0.N) (d) : (dats m 0 c).before 1 t d = iblk m c 1 t :=
  before0_1_of m (dats m 0 c) (A_eq m c 1) (after_1 m c) t d
/-- Operand 2 is left as it was, -/
theorem after_2 (c : Dev nD) (t : Fin cfg0.N) : (dats m 0 c).after 2 t = iblk m c 2 t := by dsimp only [dats]
/-- and found as its block. -/
theorem before_2 (c : Dev nD) (t : Fin cfg0.N) (d) : (dats m 0 c).before 2 t d = iblk m c 2 t :=
  before0_2_of m (dats m 0 c) (A_eq m c 2) (after_2 m c) t d
/-- Operand 3 is left as it was, -/
theorem after_3 (c : Dev nD) (t : Fin cfg0.N) : (dats m 0 c).after 3 t = iblk m c 3 t := by dsimp only [dats]
/-- and found as its block. -/
theorem before_3 (c : Dev nD) (t : Fin cfg0.N) (d) : (dats m 0 c).before 3 t d = iblk m c 3 t :=
  before0_3_of m (dats m 0 c) (A_eq m c 3) (after_3 m c) t d
/-- Operand 4 is left as it was, -/
theorem after_4 (c : Dev nD) (t : Fin cfg0.N) : (dats m 0 c).after 4 t = iblk m c 4 t := by dsimp only [dats]
/-- and found as its block. -/
theorem before_4 (c : Dev nD) (t : Fin cfg0.N) (d) : (dats m 0 c).before 4 t d = iblk m c 4 t :=
  before0_4_of m (dats m 0 c) (A_eq m c 4) (after_4 m c) t d
/-- Operand 5 is left as it was, -/
theorem after_5 (c : Dev nD) (t : Fin cfg0.N) : (dats m 0 c).after 5 t = iblk m c 5 t := by dsimp only [dats]
/-- and found as its block. -/
theorem before_5 (c : Dev nD) (t : Fin cfg0.N) (d) : (dats m 0 c).before 5 t d = iblk m c 5 t :=
  before0_5_of m (dats m 0 c) (A_eq m c 5) (after_5 m c) t d
/-- Operand 6 is left as it was, -/
theorem after_6 (c : Dev nD) (t : Fin cfg0.N) : (dats m 0 c).after 6 t = iblk m c 6 t := by dsimp only [dats]
/-- and found as its block. -/
theorem before_6 (c : Dev nD) (t : Fin cfg0.N) (d) : (dats m 0 c).before 6 t d = iblk m c 6 t :=
  before0_6_of m (dats m 0 c) (A_eq m c 6) (after_6 m c) t d
/-- Operand 7 is left as it was, -/
theorem after_7 (c : Dev nD) (t : Fin cfg0.N) : (dats m 0 c).after 7 t = iblk m c 7 t := by dsimp only [dats]
/-- and found as its block. -/
theorem before_7 (c : Dev nD) (t : Fin cfg0.N) (d) : (dats m 0 c).before 7 t d = iblk m c 7 t :=
  before0_7_of m (dats m 0 c) (A_eq m c 7) (after_7 m c) t d
/-- Operand 8 is left as it was, -/
theorem after_8 (c : Dev nD) (t : Fin cfg0.N) : (dats m 0 c).after 8 t = iblk m c 8 t := by dsimp only [dats]
/-- and found as its block. -/
theorem before_8 (c : Dev nD) (t : Fin cfg0.N) (d) : (dats m 0 c).before 8 t d = iblk m c 8 t :=
  before0_8_of m (dats m 0 c) (A_eq m c 8) (after_8 m c) t d
/-- Operand 9 is left as it was, -/
theorem after_9 (c : Dev nD) (t : Fin cfg0.N) : (dats m 0 c).after 9 t = iblk m c 9 t := by dsimp only [dats]
/-- and found as its block. -/
theorem before_9 (c : Dev nD) (t : Fin cfg0.N) (d) : (dats m 0 c).before 9 t d = iblk m c 9 t :=
  before0_9_of m (dats m 0 c) (A_eq m c 9) (after_9 m c) t d

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d))

/-- Between points: every scratch buffer at anything, and the generator's register. -/
theorem rest_eq (c : Dev nD) : (Pipeline.ΦA spec0 c : sProp 𝕄)
    = iprop(((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ d, owns (c : Thread nD τ) (Memref.whole cc0_scratch6) fullShare d)
    ∗ (∃ d, owns (c : Thread nD τ) (Memref.whole cc0_scratch7) fullShare d)
    ∗ (∃ d, owns (c : Thread nD τ) (Memref.whole cc0_scratch8) fullShare d)
    ∗ (∃ d, owns (c : Thread nD τ) (Memref.whole cc0_scratch9) fullShare d)
    ∗ (∃ d, owns (c : Thread nD τ) (Memref.whole cc0_scratch10) fullShare d)
    ∗ (∃ d, owns (c : Thread nD τ) (Memref.whole cc0_scratch11) fullShare d)
    ∗ (∃ d, owns (c : Thread nD τ) (Memref.whole cc0_scratch12) fullShare d)
    ∗ (∃ d, owns (c : Thread nD τ) (Memref.whole cc0_scratch13) fullShare d)
    ∗ (∃ d, owns (c : Thread nD τ) (Memref.whole cc0_scratch14) fullShare d)
    ∗ (∃ d, owns (c : Thread nD τ) (Memref.whole cc0_scratch15) fullShare d))
    ∗ ∃ r, prngReg c r) := by
  unfold Pipeline.ΦA; rw [scopedRest0_eq]; simp only [owns_whole]; try rfl

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, rest_eq]
  iintro ⟨⟨⟨S0, S1, S2, S3, S4, S5, S6, S7, S8, S9, S10, S11, S12, S13, S14, S15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, H6, H7, H8, H9, H10, H11, H12, S0, S1, S2, S3, S4, S5, S6, S7, S8, S9, S10, S11, S12, S13, S14, S15⟩
  isplitl [S0 S1 S2 S3 S4 S5 S6 S7 S8 S9 S10 S11 S12 S13 S14 S15 Hg]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body's row of the table, at a point's buffers. -/
theorem row_eq (t : Fin cfg0.N) :
    (defs₀ (F := F)) .tc cfg0.body (cfg0.bodyArgs t (cfg0.slots t)) = bodyAt0 t := by
  unfold defs₀; rw [Defs.onTc_tc]

/-- The body meets what the grid asks of it. -/
theorem body_obligation (c : Dev nD) : BodyObligation (dats (F := F) m 0 c) (defs₀ (F := F)) Variants.none () Set.univ unsaid := fun t => by
  rw [bigSep_W0, bigSep_W0, row_eq]
  exact triple_restated (sound_body m c t) rfl .rfl fun _ => .rfl

set_option backward.isDefEq.respectTransparency.types false in
/-- The run: the operands' arrays as launched, every other buffer outside the call as it was, every counter at zero. -/
theorem run_main : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m) (hΦ := fun _ _ => rfl)

/-- The frame: every run of the call ends, its seven arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hz⟩ => ⟨fun c => ⟨(Pipeline.RDat.FramePost.arr_in h c 3 rfl).trans ((A_eq m c 3).trans (V_main_arg0 m c)),
      (Pipeline.RDat.FramePost.arr_in h c 6 rfl).trans ((A_eq m c 6).trans (V_main_arg1 m c)),
      (Pipeline.RDat.FramePost.arr_in h c 0 rfl).trans ((A_eq m c 0).trans (V_main_arg2 m c)),
      (Pipeline.RDat.FramePost.arr_in h c 7 rfl).trans ((A_eq m c 7).trans (V_main_arg3 m c)),
      (Pipeline.RDat.FramePost.arr_in h c 8 rfl).trans ((A_eq m c 8).trans (V_main_arg4 m c)),
      (Pipeline.RDat.FramePost.arr_in h c 9 rfl).trans ((A_eq m c 9).trans (V_main_arg5 m c)),
      ((h c).2 main_arg6 (Pipeline.mem_restRefs_of main_arg6 (by decide) (by decide))).trans (V_main_arg6 m c)⟩, hz⟩) (run_main m ρ)

end Cert.AttnFrame

end
-- ==== Proof.OutRef.lean ====
/- The output projection, the final norm and the loss as extended real numbers, and the reference's values as these numbers. A row counts
   through both batches: row `b * 2048 + s` is position `s` of batch `b`. -/
module

public import proofs.«01_k».proof.Proof.Norm
public import proofs.«01_k».proof.Proof.SumAxes
public import proofs.«01_k».proof.Proof.Gen.OutReferenceIdeal.Read

@[expose] public section

set_option maxRecDepth 16384

noncomputable section

namespace Cert.Out

open Idealize.ShloMosaic Cert.Reals Cert.Norm

/-- The numbers the arguments hold: the gated rows, the projection, the rows it is added to, the target, the gain. -/
structure Args where
  a : ℕ → ℕ → EReal
  w : ℕ → ℕ → EReal
  x : ℕ → ℕ → EReal
  t : ℕ → ℕ → EReal
  g : ℕ → EReal

/-- The rows before the final norm. -/
def hid (A : Args) (r k : ℕ) : EReal := A.x r k + ∑ j : Fin 1024, A.a r j * A.w j k

/-- The final norm's output less the target. -/
def err (A : Args) (r k : ℕ) : EReal := hid A r k * rr (hid A r) * A.g k - A.t r k

/-- A row's mean square error. -/
def rowLoss (A : Args) (r : ℕ) : EReal := (∑ k : Fin 1024, err A r k * err A r k) * ((1 / 1024 : ℝ) : EReal)

/-- The loss. -/
def loss (A : Args) : EReal := ((1 / 2 : ℝ) : EReal) * ∑ r : Fin 4096, rowLoss A r

/-- The loss's gradient at the final norm's output. -/
def dy (A : Args) (r k : ℕ) : EReal := err A r k * ((1 / 1024 : ℝ) : EReal)

/-- The gradient of the rows before the norm. -/
def dh (A : Args) (r k : ℕ) : EReal := back (hid A r) A.g (dy A r) k

/-- The gradient of the gain. -/
def dg (A : Args) (k : ℕ) : EReal := ∑ r : Fin 4096, dy A r k * (hid A r k * rr (hid A r))

/-- The gradient of the projection. -/
def dw (A : Args) (j k : ℕ) : EReal := ∑ r : Fin 4096, A.a r j * dh A r k

theorem w_two : Ideal.ofBits .f32 0x40000000#32 = ((2 : ℝ) : EReal) := by
  simp [Ideal.ofBits, Ideal.ieee, -EReal.coe_mul]; norm_num

open Cert.OutReferenceIdeal
open Cert.OutReferenceIdeal.Read

/-- The arguments hold the numbers. -/
structure Holds (A : Args) (x0 : Vec Ideal S2x2048x1024 .f32) (x1 : Vec Ideal S1024x1024 .f32) (x2 x3 : Vec Ideal S2x2048x1024 .f32)
    (x4 : Vec Ideal S1024 .f32) : Prop where
  a : ∀ (b : Fin 2) (s : Fin 2048) (k : Fin 1024), x0 (ix3 b s k) = (A.a (b * 2048 + s) k)
  w : ∀ (j : Fin 1024) (k : Fin 1024), x1 (ix2 j k) = (A.w j k)
  x : ∀ (b : Fin 2) (s : Fin 2048) (k : Fin 1024), x2 (ix3 b s k) = (A.x (b * 2048 + s) k)
  t : ∀ (b : Fin 2) (s : Fin 2048) (k : Fin 1024), x3 (ix3 b s k) = (A.t (b * 2048 + s) k)
  g : ∀ (k : Fin 1024), x4 (ix1 k) = (A.g k)

section
variable {A : Args} {x0 : Vec Ideal S2x2048x1024 .f32} {x1 : Vec Ideal S1024x1024 .f32} {x2 x3 : Vec Ideal S2x2048x1024 .f32}
    {x4 : Vec Ideal S1024 .f32} (h : Holds A x0 x1 x2 x3 x4)
include h

/-- The rows before the norm. -/
theorem v1_eq (b : Fin 2) (s : Fin 2048) (k : Fin 1024) :
    (val_main_v1 x0 x1 x2) (ix3 b s k) = (hid A (b * 2048 + s) k) := by
  pointwise [val_main_v1, val_main_v0]
  simp only [h.a, h.w, h.x]
  rfl

/-- The mean square plus epsilon. -/
theorem v8_eq (b : Fin 2) (s : Fin 2048) (z : Fin 1) :
    (val_main_v8 x0 x1 x2) (ix3 b s z) = (msq (hid A (b * 2048 + s))) := by
  pointwise [val_main_v8, val_main_v6, val_main_v4, val_main_v3, val_main_v2, val_main_cst, val_main_v5, val_main_cst_0, val_main_v7, val_main_cst_1]
  simp only [v1_eq h, EReal.coe_zero, w_zero, w_1024, w_eps, div_1024, zero_add]
  rfl

/-- The reciprocal root. -/
theorem v9_eq (b : Fin 2) (s : Fin 2048) (z : Fin 1) :
    (val_main_v9 x0 x1 x2) (ix3 b s z) = (rr (hid A (b * 2048 + s))) := by
  pointwise [val_main_v9]
  rw [v8_eq h]
  rfl

/-- Its derivative. -/
theorem v12_eq (b : Fin 2) (s : Fin 2048) (z : Fin 1) :
    (val_main_v12 x0 x1 x2) (ix3 b s z) = (((-(1 / 2) : ℝ) : EReal) * Ideal.div (rr (hid A (b * 2048 + s))) (msq (hid A (b * 2048 + s)))) := by
  pointwise [val_main_v12, val_main_v11, val_main_cst_2, val_main_v10]
  simp only [v8_eq h, v9_eq h, w_neg_half]

/-- The normalised row before its gain. -/
theorem v14_eq (b : Fin 2) (s : Fin 2048) (k : Fin 1024) :
    (val_main_v14 x0 x1 x2) (ix3 b s k) = (hid A (b * 2048 + s) k * rr (hid A (b * 2048 + s))) := by
  pointwise [val_main_v14, val_main_v13]
  simp only [v1_eq h, v9_eq h]

/-- The error. -/
theorem v18_eq (b : Fin 2) (s : Fin 2048) (k : Fin 1024) :
    (val_main_v18 x0 x1 x2 x3 x4) (ix3 b s k) = (err A (b * 2048 + s) k) := by
  pointwise [val_main_v18, val_main_v17, val_main_v16, val_main_v15]
  simp only [v14_eq h, h.g, h.t]
  rfl

/-- A row's mean square error. -/
theorem v24_eq (b : Fin 2) (s : Fin 2048) :
    (val_main_v24 x0 x1 x2 x3 x4) (ix2 b s) = (rowLoss A (b * 2048 + s)) := by
  pointwise [val_main_v24, val_main_v22, val_main_cst_4, val_main_v19, val_main_v23, val_main_cst_5]
  simp only [v18_eq h, w_zero, w_1024, EReal.coe_zero, zero_add, div_1024]
  rfl

/-- The loss, at every place of its block. -/
theorem v56_eq (i : Fin 8) (j : Fin 128) :
    (val_main_v56 x0 x1 x2 x3 x4) (ix2 i j) = (loss A) := by
  pointwise [val_main_v56, val_main_v26, val_main_cst_7, val_main_v25, val_main_cst_6]
  simp only [v24_eq h, w_half, w_zero, EReal.coe_zero, zero_add]
  unfold loss
  rw [Fin.sum_univ_tiles 2 2048 rfl]

/-- The gradient at the norm's output. -/
theorem v32_eq (b : Fin 2) (s : Fin 2048) (k : Fin 1024) :
    (val_main_v32 x0 x1 x2 x3 x4) (ix3 b s k) = (dy A (b * 2048 + s) k) := by
  pointwise [val_main_v32, val_main_v31, val_main_v30, val_main_v29, val_main_v28, val_main_v27, val_main_cst_8, val_main_cst_9, val_main_cst_10, val_main_v21, val_main_v20, val_main_cst_3]
  simp only [v18_eq h, w_half, w_one, w_two, w_1024, div_1024]
  unfold dy
  rw [← mul_assoc, ← EReal.coe_mul, ← EReal.coe_mul, mul_comm]
  norm_num

/-- The same through the gain. -/
theorem v37_eq (b : Fin 2) (s : Fin 2048) (k : Fin 1024) :
    (val_main_v37 x0 x1 x2 x3 x4) (ix3 b s k) = (dy A (b * 2048 + s) k * A.g k) := by
  pointwise [val_main_v37, val_main_v36, val_main_v15]
  simp only [v32_eq h, h.g]

/-- The derivative of the reciprocal root, spread over the row. -/
theorem v48_eq (b : Fin 2) (s : Fin 2048) (k : Fin 1024) :
    (val_main_v48 x0 x1 x2 x3 x4) (ix3 b s k)
      = ((∑ e : Fin 1024, hid A (b * 2048 + s) e * (dy A (b * 2048 + s) e * A.g e))
          * (((-(1 / 2) : ℝ) : EReal) * Ideal.div (rr (hid A (b * 2048 + s))) (msq (hid A (b * 2048 + s)))) * ((1 / 1024 : ℝ) : EReal)) := by
  pointwise [val_main_v48, val_main_v47, val_main_cst_15, val_main_v46, val_main_v45, val_main_cst_14, val_main_v44, val_main_v41, val_main_v40, val_main_cst_13, val_main_v39]
  simp only [v1_eq h, v37_eq h, v12_eq h, w_zero, w_1024, EReal.coe_zero, zero_add, div_1024, Finset.univ_unique, Finset.sum_singleton]

/-- The gradient of the rows before the norm. -/
theorem v52_eq (b : Fin 2) (s : Fin 2048) (k : Fin 1024) :
    (val_main_v52 x0 x1 x2 x3 x4) (ix3 b s k) = (dh A (b * 2048 + s) k) := by
  pointwise [val_main_v52, val_main_v51, val_main_v50, val_main_v49, val_main_v43, val_main_v42]
  simp only [v37_eq h, v48_eq h, v9_eq h, v1_eq h, back_eq]
  rfl

/-- The first result. -/
theorem v55_eq (r : Fin 4096) (k : Fin 1024) :
    (val_main_v55 x0 x1 x2 x3 x4) (ix2 r k) = (dh A r k) := by
  pointwise [val_main_v55]
  rw [v52_eq h]
  simp only [show r.val / 2048 * 2048 + r.val % 2048 = r.val by omega]

/-- The gradient of the gain. -/
theorem v57_eq (z : Fin 1) (k : Fin 1024) :
    (val_main_v57 x0 x1 x2 x3 x4) (ix2 z k) = (dg A k) := by
  pointwise [val_main_v57, val_main_v38, val_main_cst_12, val_main_v35, val_main_v34, val_main_v33, val_main_cst_11, SumAxes.hostReduceAdd_r3_a01]
  simp only [Finset.univ_unique, Finset.sum_singleton]
  simp only [v32_eq h, v14_eq h, w_zero, EReal.coe_zero, zero_add]
  unfold dg
  rw [Fin.sum_univ_tiles 2 2048 rfl]
  refine Finset.sum_congr rfl fun p _ => Finset.sum_congr rfl fun q _ => ?_
  exact mul_comm _ _

/-- The gradient of the projection. -/
theorem v58_eq (j k : Fin 1024) :
    (val_main_v58 x0 x1 x2 x3 x4) (ix2 j k) = (dw A j k) := by
  pointwise [val_main_v58, val_main_v54, val_main_v53]
  simp only [v52_eq h, h.a]
  unfold dw
  rw [Fin.sum_univ_tiles 2 2048 rfl]
  refine Finset.sum_congr rfl fun p _ => Finset.sum_congr rfl fun q _ => ?_
  exact mul_comm _ _

end

end Cert.Out

end
-- ==== Proof.OutKer.lean ====
/- The output projection, the final norm and the loss: what one block of 512 rows of the kernel computes. -/
module

public import proofs.«01_k».proof.Proof.Loads
public import proofs.«01_k».proof.Proof.OutRef
public import Idealize.ShloMosaic.Lib.Pipeline.ReadBack
public import Idealize.ShloMosaic.Lib.Pipeline.ValueKit.Geometry
public import proofs.«01_k».proof.Proof.Gen.OutKernelIdeal.Value

@[expose] public section

set_option maxRecDepth 16384

noncomputable section

namespace Cert.Out

open Idealize.ShloMosaic Cert.Reals Cert.Loads Cert.Norm Idealize.ShloMosaic.Tactic
open Cert.OutKernelIdeal Cert.OutKernelIdeal.Gen

/-- A block holds rows `t * 512 …` of the arguments; the projection is whole. -/
structure Block (A : Args) (t : ℕ) (x0 : Vec Ideal S512x1024 .bf16) (x1 : Vec Ideal S1024x1024 .bf16) (x2 x3 : Vec Ideal S512x1024 .f32)
    (x4 : Vec Ideal S1x1024 .f32) : Prop where
  a : ∀ (ρ : Fin 512) (k : Fin 1024), x0 (ix2 ρ k) = A.a (t * 512 + ρ) k
  w : ∀ (j : Fin 1024) (k : Fin 1024), x1 (ix2 j k) = A.w j k
  x : ∀ (ρ : Fin 512) (k : Fin 1024), x2 (ix2 ρ k) = A.x (t * 512 + ρ) k
  t : ∀ (ρ : Fin 512) (k : Fin 1024), x3 (ix2 ρ k) = A.t (t * 512 + ρ) k
  g : ∀ (z : Fin 1) (k : Fin 1024), x4 (ix2 z k) = A.g k

/-- One block's share of the loss. -/
def lossT (A : Args) (T : ℕ) : EReal := ((1 / 2 : ℝ) : EReal) * ∑ ρ : Fin 512, rowLoss A (T * 512 + ρ)

/-- One block's share of the gain's gradient. -/
def dgT (A : Args) (T k : ℕ) : EReal := ∑ ρ : Fin 512, dy A (T * 512 + ρ) k * (hid A (T * 512 + ρ) k * rr (hid A (T * 512 + ρ)))

/-- One block's share of the projection's gradient. -/
def dwT (A : Args) (T j k : ℕ) : EReal := ∑ ρ : Fin 512, A.a (T * 512 + ρ) j * dh A (T * 512 + ρ) k

section
variable {A : Args} {t : ℕ} {x0 : Vec Ideal S512x1024 .bf16} {x1 : Vec Ideal S1024x1024 .bf16} {x2 x3 : Vec Ideal S512x1024 .f32} {x4 : Vec Ideal S1x1024 .f32}
variable (hB : Block A t x0 x1 x2 x3 x4)
include hB

/-- The rows before the norm. -/
theorem hid_pt (ρ : Fin 512) (k : Fin 1024) : (k0_pay7 x0 x2 x1 : FVec Ideal S512x1024 .f32) (ix2 ρ k) = hid A (t * 512 + ρ) k := by
  pointwise [k0_pay7, k0_pay6]
  simp only [hB.a, hB.w, hB.x, w_zero, EReal.coe_zero, zero_add, add_zero]
  rfl

/-- The reciprocal root of each row's mean square. -/
theorem r_pt (ρ : Fin 512) (z : Fin 1) : (k0_pay8 x0 x2 x1 : FVec Ideal S512x1 .f32) (ix2 ρ z) = rr (hid A (t * 512 + ρ)) := by
  pointwise [k0_pay8]
  simp only [hid_pt hB, w_1024, w_eps, w_zero, EReal.coe_zero, zero_add, add_zero, div_1024]
  rfl

/-- The error. -/
theorem err_pt (ρ : Fin 512) (k : Fin 1024) : (k0_pay10 x0 x2 x1 x4 x3 : FVec Ideal S512x1024 .f32) (ix2 ρ k) = err A (t * 512 + ρ) k := by
  pointwise [k0_pay10, k0_pay9]
  simp only [hid_pt hB, r_pt hB, hB.g, hB.t]
  rfl

/-- The block's share of the loss, over what was held before. -/
theorem loss_pt {q : EReal} {p : Vec Ideal S8x128 .f32} (hp : ∀ (i : Fin 8) (j : Fin 128), p (ix2 i j) = q) (i : Fin 8) (j : Fin 128) :
    (k0_pay13 (k0_pay11 p) (k0_pay12 x0 x2 x1 x4 x3) : FVec Ideal S8x128 .f32) (ix2 i j) = q + lossT A t := by
  pointwise [k0_pay13, k0_pay11, k0_pay12]
  simp only [hp, err_pt hB, w_1024, w_half, w_zero, EReal.coe_zero, zero_add, add_zero, div_1024, Finset.univ_unique, Finset.sum_singleton]
  rfl

/-- The gradient of the rows before the norm. -/
theorem dh_pt (ρ : Fin 512) (k : Fin 1024) :
    (k0_pay15 (k0_pay7 x0 x2 x1) (k0_pay8 x0 x2 x1) (k0_pay9 x4) (k0_pay10 x0 x2 x1 x4 x3) : FVec Ideal S512x1024 .f32) (ix2 ρ k) = dh A (t * 512 + ρ) k := by
  pointwise [k0_pay15, k0_pay14, k0_pay9]
  simp only [hid_pt hB, r_pt hB, err_pt hB, hB.g, w_1024, w_inv1024, w_zero, EReal.coe_zero, zero_add, add_zero, div_1024]
  rfl

/-- The block's share of the gain's gradient, over what was held before. -/
theorem dg_pt {q : ℕ → EReal} {p : Vec Ideal S1x1024 .f32} (hp : ∀ (z : Fin 1) (k : Fin 1024), p (ix2 z k) = q k) (z : Fin 1) (k : Fin 1024) :
    (k0_pay16 (k0_pay7 x0 x2 x1) (k0_pay8 x0 x2 x1) (k0_pay10 x0 x2 x1 x4 x3) p : FVec Ideal S1x1024 .f32) (ix2 z k) = q k + dgT A t k := by
  pointwise [k0_pay16, k0_pay14]
  simp only [hp, hid_pt hB, r_pt hB, err_pt hB, w_inv1024, w_zero, EReal.coe_zero, zero_add, add_zero]
  rfl

/-- The block's share of the projection's gradient, over what was held before. -/
theorem dw_pt {q : ℕ → ℕ → EReal} {p : Vec Ideal S1024x1024 .f32} (hp : ∀ j k : Fin 1024, p (ix2 j k) = q j k) (j k : Fin 1024) :
    (k0_pay17 (k0_pay6 x0) (k0_pay7 x0 x2 x1) (k0_pay8 x0 x2 x1) (k0_pay9 x4) (k0_pay10 x0 x2 x1 x4 x3) p : FVec Ideal S1024x1024 .f32) (ix2 j k)
      = q j k + dwT A t j k := by
  pointwise [k0_pay17, k0_pay6]
  simp only [hp, hB.a, dh_pt hB, w_zero, EReal.coe_zero, zero_add, add_zero]
  rfl

end

/-- The first block starts the loss at nought. -/
theorem zero6 (i : Fin 8) (j : Fin 128) : (k0_pay3 : FVec Ideal S8x128 .f32) (ix2 i j) = 0 := by
  pointwise [k0_pay3]

/-- The first block starts the gain's gradient at nought. -/
theorem zero7 (z : Fin 1) (k : Fin 1024) : (k0_pay4 : FVec Ideal S1x1024 .f32) (ix2 z k) = (fun _ => 0 : ℕ → EReal) k := by
  pointwise [k0_pay4]

/-- The first block starts the projection's gradient at nought. -/
theorem zero9 (j k : Fin 1024) : (k0_pay5 : FVec Ideal S1024x1024 .f32) (ix2 j k) = (fun _ _ => 0 : ℕ → ℕ → EReal) j k := by
  pointwise [k0_pay5]

section
variable (𝒱 : Variants) (c : Dev nD) (bd : Option 𝒱.V) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S8x128 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole) (k0_h2 : k0_cond2 i = 1#1) (X_arg10 : BufTy.Contents (Elt Ideal) arg10.view.ty)

/-- What one trip of the loop that copies the accumulator out stores: blocks of the accumulator. -/
theorem trip_copies (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 k0_h2 X_arg10 k, ∀ x : p.1.shape.Idx, p.2 x = (arg10.view.read (Elt Ideal) X_arg10 : Vec Ideal S1024x1024 .f32) (p.1.emb x) := by
  unfold tripL_k0_t1 trip_k0_t1
  dsimp only
  intro p hp x
  rw [List.mem_singleton] at hp
  subst hp
  rfl

/-- The same of all trips together. -/
theorem loop_copies (n : ℕ) :
    ∀ p ∈ pb_k0_t1 (F := Ideal) 𝒱 c bd i arg1 harg1 arg2 harg2 arg3 harg3 arg4 harg4 arg5 harg5 arg6 harg6 arg7 harg7 arg8 harg8 arg9 harg9 arg10 harg10 k0_h2 X_arg10 n, ∀ x : p.1.shape.Idx, p.2 x = (arg10.view.read (Elt Ideal) X_arg10 : Vec Ideal S1024x1024 .f32) (p.1.emb x) := by
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rcases List.mem_append.mp hp with hp | hp
      · exact trip_copies 𝒱 c bd i arg1 harg1 arg2 harg2 arg3 harg3 arg4 harg4 arg5 harg5 arg6 harg6 arg7 harg7 arg8 harg8 arg9 harg9 arg10 harg10 k0_h2 X_arg10 _ p hp
      · exact ih p hp
    · exact ih p hp

end

section
variable {A : Args} {t : ℕ} (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S8x128 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32)
variable (hB : Block A t x0 x1 x2 x3 x4)
include hB

/-- The block of the first result. -/
theorem caseA_5 (ρ : Fin 512) (k : Fin 1024) :
    out0_A_5 c i arg1 harg1 arg2 harg2 arg3 harg3 arg4 harg4 arg5 harg5 arg6 harg6 arg7 harg7 arg8 harg8 arg9 harg9 arg10 harg10 hc0 hc1 x0 x1 x2 x3 x4 (ix2 ρ k) = dh A (t * 512 + ρ) k := by
  unfold out0_A_5
  rw [View.read_writes_eq_canon _ _ _ (fun _ => cover0_A_5 ..)]
  unfold kernelRun0_A
  dsimp only
  sl_unfold_words
  simp only [View.readAt_eq_ld, Memref.IsWhole.read_unread, ld_two, shapeCast_self]
  rw [View.canon_unit_zero hz2]
  exact dh_pt hB ρ k

/-- The loss, started. -/
theorem caseA_6 (l : Fin 8) (e : Fin 128) :
    out0_A_6 c i arg1 harg1 arg2 harg2 arg3 harg3 arg4 harg4 arg5 harg5 arg6 harg6 arg7 harg7 arg8 harg8 arg9 harg9 arg10 harg10 hc0 hc1 x0 x1 x2 x3 x4 (ix2 l e) = 0 + lossT A t := by
  unfold out0_A_6
  rw [View.read_writes_eq_canon _ _ _ (fun _ => cover0_A_6 ..)]
  unfold kernelRun0_A
  dsimp only
  sl_unfold_words
  simp only [View.readAt_eq_ld, Memref.IsWhole.read_unread, ld_two, shapeCast_self]
  rw [View.canon_cons_unit_zero (S := S8x128) hz2, View.readCov_cons_toLoadRect arg7.view]
  exact loss_pt hB (q := 0) zero6 l e

/-- The gain's gradient, started. -/
theorem caseA_7 (z : Fin 1) (k : Fin 1024) :
    out0_A_7 c i arg1 harg1 arg2 harg2 arg3 harg3 arg4 harg4 arg5 harg5 arg6 harg6 arg7 harg7 arg8 harg8 arg9 harg9 arg10 harg10 hc0 hc1 x0 x1 x2 x3 x4 (ix2 z k) = 0 + dgT A t k := by
  unfold out0_A_7
  rw [View.read_writes_eq_canon _ _ _ (fun _ => cover0_A_7 ..)]
  unfold kernelRun0_A
  dsimp only
  sl_unfold_words
  simp only [View.readAt_eq_ld, Memref.IsWhole.read_unread, ld_two, shapeCast_self]
  rw [View.canon_cons_unit_zero (S := S1x1024) hz2, View.readCov_cons_toLoadRect arg8.view]
  exact dg_pt hB (q := fun _ => 0) zero7 z k

/-- The projection's gradient, started. -/
theorem caseA_s0 (j k : Fin 1024) :
    sout0_A_0 c i arg1 harg1 arg2 harg2 arg3 harg3 arg4 harg4 arg5 harg5 arg6 harg6 arg7 harg7 arg8 harg8 arg9 harg9 arg10 harg10 hc0 hc1 x0 x1 x2 x3 x4 (ix2 j k) = 0 + dwT A t j k := by
  unfold sout0_A_0
  rw [View.read_writes_eq_canon _ _ _ (fun _ => scover0_A_0 ..)]
  unfold kernelRun0_A
  dsimp only
  sl_unfold_words
  simp only [View.readAt_eq_ld, Memref.IsWhole.read_unread, ld_two, shapeCast_self]
  rw [View.canon_cons_unit_zero (S := S1024x1024) hz2, View.readCov_cons_toLoadRect arg10.view]
  unfold k0_pay1
  simp only [shapeCast_self]
  exact dw_pt hB (q := fun _ _ => 0) zero9 j k

end

section
variable {A : Args} {t : ℕ} (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S8x128 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i) (x0 : Vec Ideal S512x1024 .bf16) (x1 : Vec Ideal S1024x1024 .bf16) (x2 : Vec Ideal S512x1024 .f32) (x3 : Vec Ideal S512x1024 .f32) (x4 : Vec Ideal S1x1024 .f32) (xo6 : Vec Ideal S8x128 .f32) (xo7 : Vec Ideal S1x1024 .f32) (xs0 : Vec Ideal S1024x1024 .f32)
variable (hB : Block A t x0 x1 x2 x3 x4)
include hB

/-- The block of the first result. -/
theorem caseB_5 (ρ : Fin 512) (k : Fin 1024) :
    out0_B_5 c i arg1 harg1 arg2 harg2 arg3 harg3 arg4 harg4 arg5 harg5 arg6 harg6 arg7 harg7 arg8 harg8 arg9 harg9 arg10 harg10 hc0 hc1 x0 x1 x2 x3 x4 xo6 xo7 xs0 (ix2 ρ k) = dh A (t * 512 + ρ) k := by
  unfold out0_B_5
  rw [View.read_writes_eq_canon _ _ _ (fun _ => cover0_B_5 ..)]
  unfold kernelRun0_B
  dsimp only
  sl_unfold_words
  simp only [View.readAt_eq_ld, Memref.IsWhole.read_unread, ld_two, shapeCast_self]
  rw [View.canon_unit_zero hz2]
  exact dh_pt hB ρ k

/-- The loss, carried on. -/
theorem caseB_6 {q : EReal} (hq : ∀ (i : Fin 8) (j : Fin 128), xo6 (ix2 i j) = q) (l : Fin 8) (e : Fin 128) :
    out0_B_6 c i arg1 harg1 arg2 harg2 arg3 harg3 arg4 harg4 arg5 harg5 arg6 harg6 arg7 harg7 arg8 harg8 arg9 harg9 arg10 harg10 hc0 hc1 x0 x1 x2 x3 x4 xo6 xo7 xs0 (ix2 l e) = q + lossT A t := by
  unfold out0_B_6
  rw [View.read_writes_eq_canon _ _ _ (fun _ => cover0_B_6 ..)]
  unfold kernelRun0_B
  dsimp only
  sl_unfold_words
  simp only [View.readAt_eq_ld, Memref.IsWhole.read_unread, ld_two, shapeCast_self]
  rw [View.canon_unit_zero hz2]
  exact loss_pt hB hq l e

/-- The gain's gradient, carried on. -/
theorem caseB_7 {q : ℕ → EReal} (hq : ∀ (z : Fin 1) (k : Fin 1024), xo7 (ix2 z k) = q k) (z : Fin 1) (k : Fin 1024) :
    out0_B_7 c i arg1 harg1 arg2 harg2 arg3 harg3 arg4 harg4 arg5 harg5 arg6 harg6 arg7 harg7 arg8 harg8 arg9 harg9 arg10 harg10 hc0 hc1 x0 x1 x2 x3 x4 xo6 xo7 xs0 (ix2 z k) = q k + dgT A t k := by
  unfold out0_B_7
  rw [View.read_writes_eq_canon _ _ _ (fun _ => cover0_B_7 ..)]
  unfold kernelRun0_B
  dsimp only
  sl_unfold_words
  simp only [View.readAt_eq_ld, Memref.IsWhole.read_unread, ld_two, shapeCast_self]
  rw [View.canon_unit_zero hz2]
  exact dg_pt hB hq z k

/-- The projection's gradient, carried on. -/
theorem caseB_s0 {q : ℕ → ℕ → EReal} (hq : ∀ j k : Fin 1024, xs0 (ix2 j k) = q j k) (j k : Fin 1024) :
    sout0_B_0 c i arg1 harg1 arg2 harg2 arg3 harg3 arg4 harg4 arg5 harg5 arg6 harg6 arg7 harg7 arg8 harg8 arg9 harg9 arg10 harg10 hc0 hc1 x0 x1 x2 x3 x4 xo6 xo7 xs0 (ix2 j k) = q j k + dwT A t j k := by
  unfold sout0_B_0
  rw [View.read_writes_eq_canon _ _ _ (fun _ => scover0_B_0 ..)]
  unfold kernelRun0_B
  dsimp only
  sl_unfold_words
  simp only [View.readAt_eq_ld, Memref.IsWhole.read_unread, ld_two, shapeCast_self]
  rw [View.canon_unit_zero hz2]
  unfold k0_pay1
  simp only [shapeCast_self]
  exact dw_pt hB hq j k

end

section
variable {A : Args} {t : ℕ} (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S8x128 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i) (x0 : Vec Ideal S512x1024 .bf16) (x1 : Vec Ideal S1024x1024 .bf16) (x2 : Vec Ideal S512x1024 .f32) (x3 : Vec Ideal S512x1024 .f32) (x4 : Vec Ideal S1x1024 .f32) (xo6 : Vec Ideal S8x128 .f32) (xo7 : Vec Ideal S1x1024 .f32) (xs0 : Vec Ideal S1024x1024 .f32)
variable (hB : Block A t x0 x1 x2 x3 x4)
include hB

/-- The block of the first result. -/
theorem caseC_5 (ρ : Fin 512) (k : Fin 1024) :
    out0_C_5 c i arg1 harg1 arg2 harg2 arg3 harg3 arg4 harg4 arg5 harg5 arg6 harg6 arg7 harg7 arg8 harg8 arg9 harg9 arg10 harg10 hc0 hc1 x0 x1 x2 x3 x4 xo6 xo7 xs0 (ix2 ρ k) = dh A (t * 512 + ρ) k := by
  unfold out0_C_5
  rw [View.read_writes_eq_canon _ _ _ (fun _ => cover0_C_5 ..)]
  unfold kernelRun0_C
  dsimp only
  sl_unfold_words
  simp only [View.readAt_eq_ld, Memref.IsWhole.read_unread, ld_two, shapeCast_self]
  rw [View.canon_unit_zero hz2]
  exact dh_pt hB ρ k

/-- The loss, carried on. -/
theorem caseC_6 {q : EReal} (hq : ∀ (i : Fin 8) (j : Fin 128), xo6 (ix2 i j) = q) (l : Fin 8) (e : Fin 128) :
    out0_C_6 c i arg1 harg1 arg2 harg2 arg3 harg3 arg4 harg4 arg5 harg5 arg6 harg6 arg7 harg7 arg8 harg8 arg9 harg9 arg10 harg10 hc0 hc1 x0 x1 x2 x3 x4 xo6 xo7 xs0 (ix2 l e) = q + lossT A t := by
  unfold out0_C_6
  rw [View.read_writes_eq_canon _ _ _ (fun _ => cover0_C_6 ..)]
  unfold kernelRun0_C
  dsimp only
  sl_unfold_words
  simp only [View.readAt_eq_ld, Memref.IsWhole.read_unread, ld_two, shapeCast_self]
  rw [View.canon_unit_zero hz2]
  exact loss_pt hB hq l e

/-- The gain's gradient, carried on. -/
theorem caseC_7 {q : ℕ → EReal} (hq : ∀ (z : Fin 1) (k : Fin 1024), xo7 (ix2 z k) = q k) (z : Fin 1) (k : Fin 1024) :
    out0_C_7 c i arg1 harg1 arg2 harg2 arg3 harg3 arg4 harg4 arg5 harg5 arg6 harg6 arg7 harg7 arg8 harg8 arg9 harg9 arg10 harg10 hc0 hc1 x0 x1 x2 x3 x4 xo6 xo7 xs0 (ix2 z k) = q k + dgT A t k := by
  unfold out0_C_7
  rw [View.read_writes_eq_canon _ _ _ (fun _ => cover0_C_7 ..)]
  unfold kernelRun0_C
  dsimp only
  sl_unfold_words
  simp only [View.readAt_eq_ld, Memref.IsWhole.read_unread, ld_two, shapeCast_self]
  rw [View.canon_unit_zero hz2]
  exact dg_pt hB hq z k

/-- The projection's gradient, carried on. -/
theorem caseC_s0 {q : ℕ → ℕ → EReal} (hq : ∀ j k : Fin 1024, xs0 (ix2 j k) = q j k) (j k : Fin 1024) :
    sout0_C_0 c i arg1 harg1 arg2 harg2 arg3 harg3 arg4 harg4 arg5 harg5 arg6 harg6 arg7 harg7 arg8 harg8 arg9 harg9 arg10 harg10 hc0 hc1 x0 x1 x2 x3 x4 xo6 xo7 xs0 (ix2 j k) = q j k + dwT A t j k := by
  unfold sout0_C_0
  rw [View.read_writes_eq_canon _ _ _ (fun _ => scover0_C_0 ..)]
  unfold kernelRun0_C
  dsimp only
  sl_unfold_words
  simp only [View.readAt_eq_ld, Memref.IsWhole.read_unread, ld_two, shapeCast_self]
  rw [View.canon_unit_zero hz2]
  unfold k0_pay1
  simp only [shapeCast_self]
  exact dw_pt hB hq j k

/-- The projection's gradient, copied out by blocks of 256 rows. -/
theorem caseC_8 {q : ℕ → ℕ → EReal} (hq : ∀ j k : Fin 1024, xs0 (ix2 j k) = q j k) (j k : Fin 1024) :
    out0_C_8 c i arg1 harg1 arg2 harg2 arg3 harg3 arg4 harg4 arg5 harg5 arg6 harg6 arg7 harg7 arg8 harg8 arg9 harg9 arg10 harg10 hc0 hc1 x0 x1 x2 x3 x4 xo6 xo7 xs0 (ix2 j k) = q j k + dwT A t j k := by
  unfold out0_C_8
  rw [View.read_writes_eq_canon _ _ _ (fun _ => cover0_C_8 ..)]
  refine View.canon_apply_of_pieces (Val := Elt Ideal) (fun y : S1024x1024.Idx => q (y 0) (y 1) + dwT A t (y 0) (y 1)) _ ?_ _ (cover0_C_8 ..)
  unfold kernelRun0_C
  dsimp only
  sl_unfold_words
  intro p hp x
  refine (loop_copies _ _ _ _ _ _ _ _ _ _ _ _ _ _ _ _ _ _ _ _ _ _ _ _ _ _ _ p hp x).trans ?_
  generalize p.1.emb x = y
  simp only [View.readAt_eq_ld, Memref.IsWhole.read_unread, ld_two, shapeCast_self]
  rw [View.read_writes_junk_eq_canon, View.canon_unit_zero hz2]
  unfold k0_pay1
  simp only [shapeCast_self]
  rw [eq_ix2 y]
  exact dw_pt hB hq _ _

end

end Cert.Out

end
-- ==== Proof.OutArr.lean ====
/- The output projection, the final norm and the loss: the four arrays the kernel leaves. -/
module

public import proofs.«01_k».proof.Proof.OutKer

@[expose] public section

set_option maxRecDepth 16384

noncomputable section

namespace Cert.Out

open Idealize.ShloMosaic Cert.Reals Cert.Norm Idealize.ShloMosaic.Tactic
open Cert.OutKernelIdeal Cert.OutKernelIdeal.Gen
open Idealize.ShloMosaic.TcCoe

variable (m : (ℓ : Loc nD τ sig) → Buf (Elt Ideal) ℓ) (c : Dev nD)

/-! ## What the host prepares -/

theorem V_a : V m c main_v1 = (show FVec Ideal S4096x1024 .bf16 from truncf .bf16 (shapeCast S4096x1024 (m ((c : Thread nD τ).loc main_arg0)) shapeCasts_S2x2048x1024_S4096x1024 : FVec Ideal S4096x1024 .f32) bitsLt_bf16_f32) := by
  unfold V hostOps0
  after_results <;> rfl

theorem V_w : V m c main_v2 = (show FVec Ideal S1024x1024 .bf16 from truncf .bf16 (show FVec Ideal S1024x1024 .f32 from (m ((c : Thread nD τ).loc main_arg1))) bitsLt_bf16_f32) := by
  unfold V hostOps0
  after_results <;> rfl

theorem V_x : V m c main_v3 = (show FVec Ideal S4096x1024 .f32 from shapeCast S4096x1024 (m ((c : Thread nD τ).loc main_arg2)) shapeCasts_S2x2048x1024_S4096x1024) := by
  unfold V hostOps0
  after_results <;> rfl

theorem V_t : V m c main_v4 = (show FVec Ideal S4096x1024 .f32 from shapeCast S4096x1024 (m ((c : Thread nD τ).loc main_arg3)) shapeCasts_S2x2048x1024_S4096x1024) := by
  unfold V hostOps0
  after_results <;> rfl

theorem V_g : V m c main_v5 = (show FVec Ideal S1x1024 .f32 from shapeCast S1x1024 (m ((c : Thread nD τ).loc main_arg4)) shapeCasts_S1024_S1x1024) := by
  unfold V hostOps0
  after_results <;> rfl

/-! ## What the host's reshapes hold -/

theorem cast_x {f : ℕ → ℕ → EReal} {x : Vec Ideal S2x2048x1024 .f32} (hx : ∀ (b : Fin 2) (s : Fin 2048) (k : Fin 1024), x (ix3 b s k) = f (b * 2048 + s) k) (r : Fin 4096) (k : Fin 1024) :
    (shapeCast S4096x1024 x shapeCasts_S2x2048x1024_S4096x1024 : FVec Ideal S4096x1024 .f32) (ix2 r k) = f r k := by
  pointwise []
  rw [hx]
  simp only [show (r : ℕ) / 2048 * 2048 + (r : ℕ) % 2048 = r by omega]

theorem cast_g {f : ℕ → EReal} {x : Vec Ideal S1024 .f32} (hx : ∀ k : Fin 1024, x (ix1 k) = f k) (z : Fin 1) (k : Fin 1024) :
    (shapeCast S1x1024 x shapeCasts_S1024_S1x1024 : FVec Ideal S1x1024 .f32) (ix2 z k) = f k := by
  pointwise []
  exact hx k

/-! ## The blocks -/

variable (t : Fin cfg0.N)

theorem pt_lt : (t : ℕ) < 8 := lt_of_lt_of_eq t.isLt (show cfg0.N = 8 from N_0)

/-- What is held after block `n`: the block's rows of the first result, the sums so far of the others, the last one copied out at the end. -/
structure Inv (A : Args) (n : ℕ) (s : Vec Ideal S512x1024 .f32 × Vec Ideal S8x128 .f32 × Vec Ideal S1x1024 .f32 × Vec Ideal S1024x1024 .bf16 × Vec Ideal S1024x1024 .f32) : Prop where
  dh : ∀ (ρ : Fin 512) (k : Fin 1024), s.1 (ix2 ρ k) = dh A (n * 512 + ρ) k
  lo : ∀ (l : Fin 8) (e : Fin 128), s.2.1 (ix2 l e) = ∑ T ∈ Finset.range (n + 1), lossT A T
  dg : ∀ (z : Fin 1) (k : Fin 1024), s.2.2.1 (ix2 z k) = ∑ T ∈ Finset.range (n + 1), dgT A T k
  wo : n = 7 → ∀ j k : Fin 1024, s.2.2.2.1 (ix2 j k) = ∑ T ∈ Finset.range (n + 1), dwT A T j k
  dw : ∀ j k : Fin 1024, s.2.2.2.2 (ix2 j k) = ∑ T ∈ Finset.range (n + 1), dwT A T j k

/-- The same, of five values given one by one. -/
theorem Inv.of {A : Args} {n : ℕ} {a1 : Vec Ideal S512x1024 .f32} {a2 : Vec Ideal S8x128 .f32} {a3 : Vec Ideal S1x1024 .f32} {a4 : Vec Ideal S1024x1024 .bf16} {a5 : Vec Ideal S1024x1024 .f32}
    (h1 : ∀ (ρ : Fin 512) (k : Fin 1024), a1 (ix2 ρ k) = Out.dh A (n * 512 + ρ) k)
    (h2 : ∀ (l : Fin 8) (e : Fin 128), a2 (ix2 l e) = ∑ T ∈ Finset.range (n + 1), lossT A T)
    (h3 : ∀ (z : Fin 1) (k : Fin 1024), a3 (ix2 z k) = ∑ T ∈ Finset.range (n + 1), dgT A T k)
    (h4 : n = 7 → ∀ j k : Fin 1024, a4 (ix2 j k) = ∑ T ∈ Finset.range (n + 1), dwT A T j k)
    (h5 : ∀ j k : Fin 1024, a5 (ix2 j k) = ∑ T ∈ Finset.range (n + 1), dwT A T j k) : Inv A n (a1, a2, a3, a4, a5) :=
  ⟨h1, h2, h3, h4, h5⟩

/-- The grid's last point. -/
abbrev last : Fin cfg0.N := ⟨7, lt_of_lt_of_eq (by decide) N_0.symm⟩

theorem blk0 (ρ : Fin 512) (k : Fin 1024) : iblk m c 0 t (ix2 ρ k) = V m c main_v1 (ix2 ⟨t * 512 + ρ, by have := pt_lt t; omega⟩ k) := by
  have h : win0_0.index t (0 : Fin 2) = t ∧ win0_0.index t (1 : Fin 2) = 0 :=
    (by decide +kernel : ∀ t : Fin grid0.N, win0_0.index t (0 : Fin 2) = t ∧ win0_0.index t (1 : Fin 2) = 0) t
  show V m c main_v1 (((cfg0.win 0).blk t).view.emb (ix2 ρ k)) = _
  refine congrArg _ (funext fun a => Fin.ext ?_)
  match a with
  | ⟨0, _⟩ =>
    show win0_0.index t (0 : Fin 2) * 512 + 1 * (ρ : ℕ) = t * 512 + ρ
    rw [h.1, Nat.one_mul]
  | ⟨1, _⟩ =>
    show win0_0.index t (1 : Fin 2) * 1024 + 1 * (k : ℕ) = k
    rw [h.2, Nat.one_mul, Nat.zero_mul, Nat.zero_add]

theorem blk2 (ρ : Fin 512) (k : Fin 1024) : iblk m c 2 t (ix2 ρ k) = V m c main_v3 (ix2 ⟨t * 512 + ρ, by have := pt_lt t; omega⟩ k) := by
  have h : win0_2.index t (0 : Fin 2) = t ∧ win0_2.index t (1 : Fin 2) = 0 :=
    (by decide +kernel : ∀ t : Fin grid0.N, win0_2.index t (0 : Fin 2) = t ∧ win0_2.index t (1 : Fin 2) = 0) t
  show V m c main_v3 (((cfg0.win 2).blk t).view.emb (ix2 ρ k)) = _
  refine congrArg _ (funext fun a => Fin.ext ?_)
  match a with
  | ⟨0, _⟩ =>
    show win0_2.index t (0 : Fin 2) * 512 + 1 * (ρ : ℕ) = t * 512 + ρ
    rw [h.1, Nat.one_mul]
  | ⟨1, _⟩ =>
    show win0_2.index t (1 : Fin 2) * 1024 + 1 * (k : ℕ) = k
    rw [h.2, Nat.one_mul, Nat.zero_mul, Nat.zero_add]

theorem blk3 (ρ : Fin 512) (k : Fin 1024) : iblk m c 3 t (ix2 ρ k) = V m c main_v4 (ix2 ⟨t * 512 + ρ, by have := pt_lt t; omega⟩ k) := by
  have h : win0_3.index t (0 : Fin 2) = t ∧ win0_3.index t (1 : Fin 2) = 0 :=
    (by decide +kernel : ∀ t : Fin grid0.N, win0_3.index t (0 : Fin 2) = t ∧ win0_3.index t (1 : Fin 2) = 0) t
  show V m c main_v4 (((cfg0.win 3).blk t).view.emb (ix2 ρ k)) = _
  refine congrArg _ (funext fun a => Fin.ext ?_)
  match a with
  | ⟨0, _⟩ =>
    show win0_3.index t (0 : Fin 2) * 512 + 1 * (ρ : ℕ) = t * 512 + ρ
    rw [h.1, Nat.one_mul]
  | ⟨1, _⟩ =>
    show win0_3.index t (1 : Fin 2) * 1024 + 1 * (k : ℕ) = k
    rw [h.2, Nat.one_mul, Nat.zero_mul, Nat.zero_add]

theorem blk1 : iblk m c 1 t = V m c main_v2 := by
  have h := (by decide +kernel : ∀ t : Fin grid0.N, (fun a => win0_1.index t a * main_v2.ty.shape.size a) = fun _ => 0) t
  exact Memref.read_access_unit_zero (Elt Ideal) main_v2 h (fun a => by rw [congrFun h a]; simp) _

theorem blk4 : iblk m c 4 t = V m c main_v5 := by
  have h := (by decide +kernel : ∀ t : Fin grid0.N, (fun a => win0_4.index t a * main_v5.ty.shape.size a) = fun _ => 0) t
  exact Memref.read_access_unit_zero (Elt Ideal) main_v5 h (fun a => by rw [congrFun h a]; simp) _

section
variable {A : Args} (h : Holds A (m ((c : Thread nD τ).loc main_arg0)) (m ((c : Thread nD τ).loc main_arg1)) (m ((c : Thread nD τ).loc main_arg2)) (m ((c : Thread nD τ).loc main_arg3)) (m ((c : Thread nD τ).loc main_arg4)))
include h

/-- Each point's block holds its rows. -/
theorem blocks : Block A t (iblk m c 0 t) (iblk m c 1 t) (iblk m c 2 t) (iblk m c 3 t) (iblk m c 4 t) where
  a ρ k := by rw [blk0, V_a]; exact cast_x h.a _ _
  w j k := by rw [blk1, V_w]; exact h.w _ _
  x ρ k := by rw [blk2, V_x]; exact cast_x h.x _ _
  t ρ k := by rw [blk3, V_t]; exact cast_x h.t _ _
  g z k := by rw [blk4, V_g]; exact cast_g h.g _ _

/-- What is held after block `n`. -/
theorem inv (n : ℕ) (hn : n < cfg0.N) : Inv A n (outsAt0 m c n hn) := by
  have hN : n < 8 := lt_of_lt_of_eq hn (show cfg0.N = 8 from N_0)
  induction n with
  | zero =>
    have hB : Block A 0 (iblk m c 0 ⟨0, hn⟩) (iblk m c 1 ⟨0, hn⟩) (iblk m c 2 ⟨0, hn⟩) (iblk m c 3 ⟨0, hn⟩) (iblk m c 4 ⟨0, hn⟩) := blocks m c ⟨0, hn⟩ h
    rw [show outsAt0 m c 0 hn = _ from outsAt0_A m c ⟨0, hn⟩ rfl (show ¬(0 % 8 = 7) by decide)]
    refine Inv.of ?_ ?_ ?_ ?_ ?_
    · exact fun ρ k => caseA_5 (hB := hB) ..
    · exact fun l e => (caseA_6 (hB := hB) ..).trans (by rw [Finset.sum_range_one, zero_add])
    · exact fun z k => (caseA_7 (hB := hB) ..).trans (by rw [Finset.sum_range_one, zero_add])
    · exact fun h7 => absurd h7 (by decide)
    · exact fun j k => (caseA_s0 (hB := hB) ..).trans (by rw [Finset.sum_range_one, zero_add])
  | succ n ih =>
    have h0 : ¬(n + 1) % 8 = 0 := by omega
    have hi := ih (by omega) (by omega)
    have hB : Block A (n + 1) (iblk m c 0 ⟨n + 1, hn⟩) (iblk m c 1 ⟨n + 1, hn⟩) (iblk m c 2 ⟨n + 1, hn⟩) (iblk m c 3 ⟨n + 1, hn⟩) (iblk m c 4 ⟨n + 1, hn⟩) := blocks m c ⟨n + 1, hn⟩ h
    by_cases h1 : (n + 1) % 8 = 7
    · rw [show outsAt0 m c (n + 1) hn = _ from outsAt0_C m c ⟨n + 1, hn⟩ h0 h1]
      refine Inv.of ?_ ?_ ?_ ?_ ?_
      · exact fun ρ k => caseC_5 (hB := hB) ..
      · exact fun l e => (caseC_6 (hB := hB) (q := ∑ T ∈ Finset.range (n + 1), lossT A T) (hq := hi.lo) ..).trans (by rw [Finset.sum_range_succ _ (n + 1)])
      · exact fun z k => (caseC_7 (hB := hB) (q := fun k => ∑ T ∈ Finset.range (n + 1), dgT A T k) (hq := hi.dg) ..).trans (by rw [Finset.sum_range_succ _ (n + 1)])
      · exact fun _ j k => (caseC_8 (hB := hB) (q := fun j k => ∑ T ∈ Finset.range (n + 1), dwT A T j k) (hq := hi.dw) ..).trans (by rw [Finset.sum_range_succ _ (n + 1)])
      · exact fun j k => (caseC_s0 (hB := hB) (q := fun j k => ∑ T ∈ Finset.range (n + 1), dwT A T j k) (hq := hi.dw) ..).trans (by rw [Finset.sum_range_succ _ (n + 1)])
    · rw [show outsAt0 m c (n + 1) hn = _ from outsAt0_B m c ⟨n + 1, hn⟩ h0 h1]
      refine Inv.of ?_ ?_ ?_ ?_ ?_
      · exact fun ρ k => caseB_5 (hB := hB) ..
      · exact fun l e => (caseB_6 (hB := hB) (q := ∑ T ∈ Finset.range (n + 1), lossT A T) (hq := hi.lo) ..).trans (by rw [Finset.sum_range_succ _ (n + 1)])
      · exact fun z k => (caseB_7 (hB := hB) (q := fun k => ∑ T ∈ Finset.range (n + 1), dgT A T k) (hq := hi.dg) ..).trans (by rw [Finset.sum_range_succ _ (n + 1)])
      · exact fun h7 => absurd h7 (by omega)
      · exact fun j k => (caseB_s0 (hB := hB) (q := fun j k => ∑ T ∈ Finset.range (n + 1), dwT A T j k) (hq := hi.dw) ..).trans (by rw [Finset.sum_range_succ _ (n + 1)])

/-! ## The arrays -/

/-- The first array: the gradient of the rows before the norm. -/
theorem arr5 (r : Fin 4096) (k : Fin 1024) : (dats m 0 c).arrAt 5 cfg0.N (ix2 r k) = dh A r k := by
  have hn : (r : ℕ) / 512 < cfg0.N := lt_of_lt_of_eq (by omega) N_0.symm
  have hw : win0_5.index ⟨(r : ℕ) / 512, hn⟩ (0 : Fin 2) = (r : ℕ) / 512 ∧ win0_5.index ⟨(r : ℕ) / 512, hn⟩ (1 : Fin 2) = 0 :=
    (by decide +kernel : ∀ t : Fin grid0.N, win0_5.index t (0 : Fin 2) = t ∧ win0_5.index t (1 : Fin 2) = 0) ⟨(r : ℕ) / 512, hn⟩
  have e : (dats m 0 c).arrAt 5 cfg0.N (((cfg0.win 5).blk ⟨(r : ℕ) / 512, hn⟩).view.emb (ix2 ⟨(r : ℕ) % 512, by omega⟩ k)) = (outsAt0 m c ((r : ℕ) / 512) hn).1 (ix2 ⟨(r : ℕ) % 512, by omega⟩ k) :=
    congrFun ((OutKernelIdeal.Value.blocks5 m c ⟨(r : ℕ) / 512, hn⟩ (flush0_5 _)).trans (OutKernelIdeal.Value.flushed5 m c ⟨(r : ℕ) / 512, hn⟩)) (ix2 ⟨(r : ℕ) % 512, by omega⟩ k)
  have e2 : ((cfg0.win 5).blk ⟨(r : ℕ) / 512, hn⟩).view.emb (ix2 ⟨(r : ℕ) % 512, by omega⟩ k) = ix2 r k := by
    refine funext fun a => Fin.ext ?_
    match a with
    | ⟨0, _⟩ =>
      show win0_5.index ⟨(r : ℕ) / 512, hn⟩ (0 : Fin 2) * 512 + 1 * ((r : ℕ) % 512) = r
      rw [hw.1]
      omega
    | ⟨1, _⟩ =>
      show win0_5.index ⟨(r : ℕ) / 512, hn⟩ (1 : Fin 2) * 1024 + 1 * (k : ℕ) = k
      rw [hw.2, Nat.one_mul, Nat.zero_mul, Nat.zero_add]
  rw [e2] at e
  refine e.trans (((inv m c h _ hn).dh _ _).trans ?_)
  show dh A ((r : ℕ) / 512 * 512 + (r : ℕ) % 512) k = _
  rw [show (r : ℕ) / 512 * 512 + (r : ℕ) % 512 = r by omega]

omit h in
/-- The blocks' shares add up to the loss. -/
theorem loss_all : ∑ T ∈ Finset.range 8, lossT A T = loss A := by
  unfold lossT loss
  rw [← mul_sum' _ _ (by norm_num : (0 : ℝ) ≤ 1 / 2), Finset.sum_range, Fin.sum_univ_tiles 8 512 rfl]

omit h in
/-- The blocks' shares add up to the gain's gradient. -/
theorem dg_all (k : ℕ) : ∑ T ∈ Finset.range 8, dgT A T k = dg A k := by
  unfold dgT dg
  rw [Finset.sum_range, Fin.sum_univ_tiles 8 512 rfl]

omit h in
/-- The blocks' shares add up to the projection's gradient. -/
theorem dw_all (j k : ℕ) : ∑ T ∈ Finset.range 8, dwT A T j k = dw A j k := by
  unfold dwT dw
  rw [Finset.sum_range, Fin.sum_univ_tiles 8 512 rfl]

/-- The second array: the loss, everywhere. -/
theorem arr6 : (dats m 0 c).arrAt 6 cfg0.N = (fun i => loss A : Vec Ideal S8x128 .f32) := by
  refine (dats m 0 c).arrAt_eq_of_cover 6 _ (fun t hf => ?_) fun (i : S8x128.Idx) => ⟨last, (flush0_6 _).mpr rfl, ?_⟩
  · have ht : (t : ℕ) = 7 := by have := (flush0_6 t).mp hf; have := pt_lt t; omega
    rw [OutKernelIdeal.Value.flushed6]
    have hw : (fun a => win0_6.index t a * main_v6_1.ty.shape.size a) = fun _ => 0 :=
      (by decide +kernel : ∀ t : Fin grid0.N, (fun a => win0_6.index t a * main_v6_1.ty.shape.size a) = fun _ => 0) t
    refine Eq.trans ?_ (Memref.read_access_unit_zero (Elt Ideal) main_v6_1 hw (fun a => by rw [congrFun hw a]; simp) _).symm
    show (outsAt0 m c t.val t.isLt).2.1 = _
    funext i
    rw [eq_ix2 i, (inv m c h t.val t.isLt).lo (i 0) (i 1), ht, loss_all]

  · show i ∈ ((View.whole main_v6_1).slice (win0_6.rect last)).set
    rw [View.set_slice_whole, Rect.mem_set_unit]
    intro a
    exact ⟨((by decide +kernel : ∀ (t : Fin grid0.N) (a : Fin 2), win0_6.index t a * win0_6.size a = 0) last a).trans_le (Nat.zero_le _),
      lt_of_lt_of_eq (i a).isLt ((by decide +kernel : ∀ (t : Fin grid0.N) (a : Fin 2), S8x128.size a = win0_6.index t a * win0_6.size a + win0_6.xsize (grid0.coords t) a) last a)⟩

/-- The third array: the gain's gradient. -/
theorem arr7 : (dats m 0 c).arrAt 7 cfg0.N = (fun i => dg A (i 1) : Vec Ideal S1x1024 .f32) := by
  refine (dats m 0 c).arrAt_eq_of_cover 7 _ (fun t hf => ?_) fun (i : S1x1024.Idx) => ⟨last, (flush0_7 _).mpr rfl, ?_⟩
  · have ht : (t : ℕ) = 7 := by have := (flush0_7 t).mp hf; have := pt_lt t; omega
    rw [OutKernelIdeal.Value.flushed7]
    have hw : (fun a => win0_7.index t a * main_v6_2.ty.shape.size a) = fun _ => 0 :=
      (by decide +kernel : ∀ t : Fin grid0.N, (fun a => win0_7.index t a * main_v6_2.ty.shape.size a) = fun _ => 0) t
    refine Eq.trans ?_ (Memref.read_access_unit_zero (Elt Ideal) main_v6_2 hw (fun a => by rw [congrFun hw a]; simp) _).symm
    show (outsAt0 m c t.val t.isLt).2.2.1 = _
    funext i
    rw [eq_ix2 i, (inv m c h t.val t.isLt).dg (i 0) (i 1), ht, dg_all]
    rfl
  · show i ∈ ((View.whole main_v6_2).slice (win0_7.rect last)).set
    rw [View.set_slice_whole, Rect.mem_set_unit]
    intro a
    exact ⟨((by decide +kernel : ∀ (t : Fin grid0.N) (a : Fin 2), win0_7.index t a * win0_7.size a = 0) last a).trans_le (Nat.zero_le _),
      lt_of_lt_of_eq (i a).isLt ((by decide +kernel : ∀ (t : Fin grid0.N) (a : Fin 2), S1x1024.size a = win0_7.index t a * win0_7.size a + win0_7.xsize (grid0.coords t) a) last a)⟩

/-- The fourth array: the projection's gradient. -/
theorem arr8 : (dats m 0 c).arrAt 8 cfg0.N = (fun i => dw A (i 0) (i 1) : Vec Ideal S1024x1024 .bf16) := by
  refine (dats m 0 c).arrAt_eq_of_cover 8 _ (fun t hf => ?_) fun (i : S1024x1024.Idx) => ⟨last, (flush0_8 _).mpr rfl, ?_⟩
  · have ht : (t : ℕ) = 7 := by have := (flush0_8 t).mp hf; have := pt_lt t; omega
    rw [OutKernelIdeal.Value.flushed8]
    have hw : (fun a => win0_8.index t a * main_v6_3.ty.shape.size a) = fun _ => 0 :=
      (by decide +kernel : ∀ t : Fin grid0.N, (fun a => win0_8.index t a * main_v6_3.ty.shape.size a) = fun _ => 0) t
    refine Eq.trans ?_ (Memref.read_access_unit_zero (Elt Ideal) main_v6_3 hw (fun a => by rw [congrFun hw a]; simp) _).symm
    show (outsAt0 m c t.val t.isLt).2.2.2.1 = _
    funext i
    rw [eq_ix2 i, (inv m c h t.val t.isLt).wo ht (i 0) (i 1), ht, dw_all]
    rfl
  · show i ∈ ((View.whole main_v6_3).slice (win0_8.rect last)).set
    rw [View.set_slice_whole, Rect.mem_set_unit]
    intro a
    exact ⟨((by decide +kernel : ∀ (t : Fin grid0.N) (a : Fin 2), win0_8.index t a * win0_8.size a = 0) last a).trans_le (Nat.zero_le _),
      lt_of_lt_of_eq (i a).isLt ((by decide +kernel : ∀ (t : Fin grid0.N) (a : Fin 2), S1024x1024.size a = win0_8.index t a * win0_8.size a + win0_8.xsize (grid0.coords t) a) last a)⟩

end

end Cert.Out

end
-- ==== Proof.Out.lean ====
/- The claims of the output projection, the final norm and the loss. -/
module

public import proofs.«01_k».proof.Proof.Finite
public import proofs.«01_k».proof.Proof.OutArr

@[expose] public section

set_option maxRecDepth 16384

noncomputable section

namespace Cert.Out

open Idealize.ShloMosaic Idealize.ShloMosaic.TcCoe

/-- The reference runs, keeps its arguments and has no semaphore. -/
theorem frame_reference : Cert.quiescent_OutReferenceIdeal := fun m ρ _ =>
  (θ_run Cert.OutReferenceIdeal.defs _ _).mono (fun r h => ⟨fun c => (h c).2.2.2.2, sem_eq_zero_of_no_sems (by decide) r.2⟩)
    (Cert.OutReferenceIdeal.Value.run (F := Ideal) m ρ)

/-- What the arguments hold, by row and column. -/
def argsOf (x0 : Vec Ideal OutReferenceIdeal.S2x2048x1024 .f32) (x1 : Vec Ideal OutReferenceIdeal.S1024x1024 .f32) (x2 : Vec Ideal OutReferenceIdeal.S2x2048x1024 .f32) (x3 : Vec Ideal OutReferenceIdeal.S2x2048x1024 .f32) (x4 : Vec Ideal OutReferenceIdeal.S1024 .f32) : Args where
  a r k := x0 (ix3 (Fin.ofNat 2 (r / 2048)) (Fin.ofNat 2048 r) (Fin.ofNat 1024 k))
  w j k := x1 (ix2 (Fin.ofNat 1024 j) (Fin.ofNat 1024 k))
  x r k := x2 (ix3 (Fin.ofNat 2 (r / 2048)) (Fin.ofNat 2048 r) (Fin.ofNat 1024 k))
  t r k := x3 (ix3 (Fin.ofNat 2 (r / 2048)) (Fin.ofNat 2048 r) (Fin.ofNat 1024 k))
  g k := x4 (ix1 (Fin.ofNat 1024 k))

open Branch in
/-- Arguments hold what is read off them. -/
theorem holds (x0 : Vec Ideal OutReferenceIdeal.S2x2048x1024 .f32) (x1 : Vec Ideal OutReferenceIdeal.S1024x1024 .f32) (x2 : Vec Ideal OutReferenceIdeal.S2x2048x1024 .f32) (x3 : Vec Ideal OutReferenceIdeal.S2x2048x1024 .f32) (x4 : Vec Ideal OutReferenceIdeal.S1024 .f32) :
    Holds (argsOf x0 x1 x2 x3 x4) x0 x1 x2 x3 x4 := by
  constructor <;> intros <;> simp only [argsOf, ofNat_div, ofNat_add, ofNat_val]

open Cert.OutKernelIdeal Cert.OutKernelIdeal.Gen
open Cert.OutReferenceIdeal.Read

section Results

variable (m : (ℓ : Loc nD τ sig) → Buf (Elt Ideal) ℓ) (c : Dev nD) {A : Args}
variable (h : Holds A (m ((c : Thread nD τ).loc main_arg0)) (m ((c : Thread nD τ).loc main_arg1)) (m ((c : Thread nD τ).loc main_arg2)) (m ((c : Thread nD τ).loc main_arg3)) (m ((c : Thread nD τ).loc main_arg4)))
include h

/-- The gradient of the rows before the norm. -/
theorem final_dh : (dats m 0 c).arrAt 5 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [eq_ix2 i]
  exact (arr5 m c h _ _).trans (v55_eq h _ _).symm

/-- The loss. -/
theorem final_loss : (dats m 0 c).arrAt 6 cfg0.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr6 m c h]
  funext i
  rw [eq_ix2 i]
  exact (v56_eq h _ _).symm

/-- The gain's gradient. -/
theorem final_dg : (dats m 0 c).arrAt 7 cfg0.N = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr7 m c h]
  funext i
  rw [eq_ix2 i]
  exact (v57_eq h _ _).symm

/-- The projection's gradient. -/
theorem final_dw : (dats m 0 c).arrAt 8 cfg0.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr8 m c h]
  funext i
  rw [eq_ix2 i]
  exact (v58_eq h _ _).symm

end Results

/-- The kernel and the reference agree, all four results, on memories that agree on the arguments. -/
theorem algebraic : Cert.algebraic_OutKernelIdeal_OutReferenceIdeal := by
  intro m g m' g' _ hm
  refine ⟨fun c => val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Cert.OutKernelIdeal.Value.run_blocks m g)
    obtain ⟨h0, h1, h2, h3, hk⟩ := h c
    have hh := holds (m ((c : Thread nD τ).loc main_arg0)) (m ((c : Thread nD τ).loc main_arg1)) (m ((c : Thread nD τ).loc main_arg2)) (m ((c : Thread nD τ).loc main_arg3)) (m ((c : Thread nD τ).loc main_arg4))
    exact ⟨h0.trans (final_dh m c hh), h1.trans (final_loss m c hh), h2.trans (final_dg m c hh), h3.trans (final_dw m c hh), hk⟩
  · refine (θ_run Cert.OutReferenceIdeal.defs _ _).mono (fun r h c => ?_) (Cert.OutReferenceIdeal.Value.run m' g')
    obtain ⟨h0, h1, h2, h3, hk⟩ := h c
    obtain ⟨e0, e1, e2, e3, e4⟩ := hm c
    refine ⟨(h0.trans (val_main_v55_eq _ _)).trans ?_, (h1.trans (val_main_v56_eq _ _ _ _ _)).trans ?_,
      (h2.trans (val_main_v57_eq _ _ _ _ _)).trans ?_, (h3.trans (val_main_v58_eq _ _)).trans ?_, hk⟩
    · show val_main_v55 (F := Ideal) (m' ((c : Thread nD τ).loc OutReferenceIdeal.main_arg0)) (m' ((c : Thread nD τ).loc OutReferenceIdeal.main_arg1)) (m' ((c : Thread nD τ).loc OutReferenceIdeal.main_arg2)) (m' ((c : Thread nD τ).loc OutReferenceIdeal.main_arg3)) (m' ((c : Thread nD τ).loc OutReferenceIdeal.main_arg4)) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      rw [e0, e1, e2, e3, e4]
    · show val_main_v56 (F := Ideal) (m' ((c : Thread nD τ).loc OutReferenceIdeal.main_arg0)) (m' ((c : Thread nD τ).loc OutReferenceIdeal.main_arg1)) (m' ((c : Thread nD τ).loc OutReferenceIdeal.main_arg2)) (m' ((c : Thread nD τ).loc OutReferenceIdeal.main_arg3)) (m' ((c : Thread nD τ).loc OutReferenceIdeal.main_arg4)) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      rw [e0, e1, e2, e3, e4]
    · show val_main_v57 (F := Ideal) (m' ((c : Thread nD τ).loc OutReferenceIdeal.main_arg0)) (m' ((c : Thread nD τ).loc OutReferenceIdeal.main_arg1)) (m' ((c : Thread nD τ).loc OutReferenceIdeal.main_arg2)) (m' ((c : Thread nD τ).loc OutReferenceIdeal.main_arg3)) (m' ((c : Thread nD τ).loc OutReferenceIdeal.main_arg4)) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      rw [e0, e1, e2, e3, e4]
    · show val_main_v58 (F := Ideal) (m' ((c : Thread nD τ).loc OutReferenceIdeal.main_arg0)) (m' ((c : Thread nD τ).loc OutReferenceIdeal.main_arg1)) (m' ((c : Thread nD τ).loc OutReferenceIdeal.main_arg2)) (m' ((c : Thread nD τ).loc OutReferenceIdeal.main_arg3)) (m' ((c : Thread nD τ).loc OutReferenceIdeal.main_arg4)) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      rw [e0, e1, e2, e3, e4]

end Cert.Out

end
-- ==== Proof.MemKv.lean ====
/- The gradients of the memory's key/value projection: what the kernel's two stores hold, equal to the derivative of the
   normalised product at every index. -/
module

public import proofs.«01_k».proof.Defs
public import proofs.«01_k».proof.Proof.SumAxes
public import proofs.«01_k».proof.Proof.Gen.MemKernelIdeal.Value
public import proofs.«01_k».proof.Proof.Gen.MemReferenceIdeal.Read

@[expose] public section

set_option maxRecDepth 16384

noncomputable section

namespace Cert.MemKv

open Idealize.ShloMosaic
open Cert.MemKernelIdeal Cert.MemKernelIdeal.Gen
open Cert.MemReferenceIdeal.Read

/-- The weight gradient: the kernel sums over the 512 rows, the reference over the two batches of 256. -/
theorem dw_eq (x : Vec Ideal S2x256x1024 .f32) (g : Vec Ideal S1x1024 .f32) (d : Vec Ideal S2x256x512 .f32) :
    (k0_pay4 (shapeCast S512x1024 x shapeCasts_S2x256x1024_S512x1024) (shapeCast S512x512 d shapeCasts_S2x256x512_S512x512) g : Vec Ideal S1024x512 .bf16)
      = val_main_v23 x g d := by
  funext j
  idx_vars j
  pointwise [k0_pay4, k0_pay3, k0_pay2, k0_pay1, val_main_v23, val_main_v16, val_main_v15, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [Fin.sum_univ_tiles 2 256 rfl]
  pointwise
  refine Finset.sum_congr rfl fun a _ => Finset.sum_congr rfl fun b _ => ?_
  have e1 : (a.val * 256 + b.val) / 256 = a.val := by have := b.isLt; omega
  have e2 : (a.val * 256 + b.val) % 256 = b.val := by have := b.isLt; omega
  simp only [e1, e2, Fin.eta]
  exact mul_comm _ _

/-- The gain's gradient. -/
theorem dg_eq (x : Vec Ideal S2x256x1024 .f32) (w : Vec Ideal S1024x512 .f32) (d : Vec Ideal S2x256x512 .f32) :
    (k0_pay5 (shapeCast S512x1024 x shapeCasts_S2x256x1024_S512x1024) (shapeCast S512x512 d shapeCasts_S2x256x512_S512x512) (show FVec Ideal S1024x512 .bf16 from truncf .bf16 w bitsLt_bf16_f32) : Vec Ideal S1x1024 .f32)
      = val_main_v22 x w d := by
  funext j
  idx_vars j
  pointwise [k0_pay5, k0_pay3, k0_pay2, k0_pay1, val_main_v22, val_main_v21, val_main_v20, val_main_v19, val_main_v18, val_main_v17, val_main_v10, val_main_v9, val_main_v8, val_main_v7, val_main_v6, val_main_v5, val_main_v4, val_main_v3, val_main_v2, val_main_v1, val_main_v0, val_main_cst, val_main_cst_0, val_main_cst_1, val_main_cst_2, val_main_cst_3, SumAxes.hostReduceAdd_r3_a01]
  simp only [Finset.univ_unique, Finset.sum_singleton]
  rw [Fin.sum_univ_tiles 2 256 rfl]
  pointwise
  refine Finset.sum_congr rfl fun a _ => Finset.sum_congr rfl fun b _ => ?_
  have e1 : (a.val * 256 + b.val) / 256 = a.val := by have := b.isLt; omega
  have e2 : (a.val * 256 + b.val) % 256 = b.val := by have := b.isLt; omega
  simp only [e1, e2, Fin.eta]
  exact mul_comm _ _

/-! ## The kernel's run -/

section Run

open Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid's one point. -/
abbrev pt : Fin cfg0.N := ⟨0, by rw [show cfg0.N = 1 from N_0]; exact Nat.one_pos⟩

/-- The kernel reads the memory as 512 rows. -/
theorem V_mem (c : Dev nD) : V m c main_v1 = shapeCast S512x1024 (m ((c : Thread nD τ).loc main_arg0)) shapeCasts_S2x256x1024_S512x1024 := by
  unfold V hostOps0
  after_results <;> rfl

/-- … the cotangent as 512 rows … -/
theorem V_dkv (c : Dev nD) : V m c main_v0 = shapeCast S512x512 (m ((c : Thread nD τ).loc main_arg3)) shapeCasts_S2x256x512_S512x512 := by
  unfold V hostOps0
  after_results <;> rfl

/-- … and the weights in the narrower format. -/
theorem V_w (c : Dev nD) : V m c main_v2 = (show FVec Ideal S1024x512 .bf16 from truncf .bf16 (m ((c : Thread nD τ).loc main_arg2)) bitsLt_bf16_f32) := by
  unfold V hostOps0
  after_results <;> rfl

/-- The cotangent's one block is the whole array. -/
theorem blk_dkv (c : Dev nD) (t : Fin cfg0.N) : iblk m c 0 t = V m c main_v0 := by
  have h := (by decide +kernel : ∀ t : Fin grid0.N, (fun a => win0_0.index t a * main_v0.ty.shape.size a) = fun _ => 0) t
  exact Memref.read_access_unit_zero (Elt Ideal) main_v0 h (fun a => by rw [congrFun h a]; simp) _

/-- So is the memory's, -/
theorem blk_mem (c : Dev nD) (t : Fin cfg0.N) : iblk m c 1 t = V m c main_v1 := by
  have h := (by decide +kernel : ∀ t : Fin grid0.N, (fun a => win0_1.index t a * main_v1.ty.shape.size a) = fun _ => 0) t
  exact Memref.read_access_unit_zero (Elt Ideal) main_v1 h (fun a => by rw [congrFun h a]; simp) _

/-- the gain's, -/
theorem blk_g (c : Dev nD) (t : Fin cfg0.N) : iblk m c 2 t = V m c main_arg1 := by
  have h := (by decide +kernel : ∀ t : Fin grid0.N, (fun a => win0_2.index t a * main_arg1.ty.shape.size a) = fun _ => 0) t
  exact Memref.read_access_unit_zero (Elt Ideal) main_arg1 h (fun a => by rw [congrFun h a]; simp) _

/-- and the weights'. -/
theorem blk_w (c : Dev nD) (t : Fin cfg0.N) : iblk m c 3 t = V m c main_v2 := by
  have h := (by decide +kernel : ∀ t : Fin grid0.N, (fun a => win0_3.index t a * main_v2.ty.shape.size a) = fun _ => 0) t
  exact Memref.read_access_unit_zero (Elt Ideal) main_v2 h (fun a => by rw [congrFun h a]; simp) _

/-- After the run the first result array holds the reference's weight gradient. -/
theorem final_dw (c : Dev nD) : (dats m 0 c).arrAt 4 cfg0.N = val_main_v23 (m ((c : Thread nD τ).loc main_arg0)) (m ((c : Thread nD τ).loc main_arg1)) (m ((c : Thread nD τ).loc main_arg3)) := by
  refine (dats m 0 c).arrAt_eq_of_cover 4 _ (fun t _ => ?_) fun (i : S1024x512.Idx) => ⟨pt, flush0_4 _, ?_⟩
  · rw [Cert.MemKernelIdeal.Value.flushed4, blk_dkv, blk_mem, blk_g, blk_w, V_mem, V_dkv, V_w, V_main_arg1]
    unfold out0_4
    rw [View.canon_unit_zero hz]
    simp only [View.ld_unit_zero (S := S512x1024) hz, View.ld_unit_zero (S := S512x512) hz, View.ld_unit_zero (S := S1x1024) hz, View.ld_unit_zero (S := S1024x512) hz]
    rw [dw_eq]
    have h := (by decide +kernel : ∀ t : Fin grid0.N, (fun a => win0_4.index t a * main_v3_0.ty.shape.size a) = fun _ => 0) t
    exact (Memref.read_access_unit_zero (Elt Ideal) main_v3_0 h (fun a => by rw [congrFun h a]; simp) _).symm
  · show i ∈ ((View.whole main_v3_0).slice (win0_4.rect pt)).set
    rw [View.set_slice_whole, Rect.mem_set_unit]
    intro a
    exact ⟨((by decide +kernel : ∀ (t : Fin grid0.N) (a : Fin 2), win0_4.index t a * win0_4.size a = 0) pt a).trans_le (Nat.zero_le _),
      lt_of_lt_of_eq (i a).isLt ((by decide +kernel : ∀ (t : Fin grid0.N) (a : Fin 2), S1024x512.size a = win0_4.index t a * win0_4.size a + win0_4.xsize (grid0.coords t) a) pt a)⟩

/-- … and the second its gain gradient. -/
theorem final_dg (c : Dev nD) : (dats m 0 c).arrAt 5 cfg0.N = val_main_v22 (m ((c : Thread nD τ).loc main_arg0)) (m ((c : Thread nD τ).loc main_arg2)) (m ((c : Thread nD τ).loc main_arg3)) := by
  refine (dats m 0 c).arrAt_eq_of_cover 5 _ (fun t _ => ?_) fun (i : S1x1024.Idx) => ⟨pt, flush0_5 _, ?_⟩
  · rw [Cert.MemKernelIdeal.Value.flushed5, blk_dkv, blk_mem, blk_g, blk_w, V_mem, V_dkv, V_w, V_main_arg1]
    unfold out0_5
    rw [View.canon_unit_zero hz]
    simp only [View.ld_unit_zero (S := S512x1024) hz, View.ld_unit_zero (S := S512x512) hz, View.ld_unit_zero (S := S1x1024) hz, View.ld_unit_zero (S := S1024x512) hz]
    rw [dg_eq]
    have h := (by decide +kernel : ∀ t : Fin grid0.N, (fun a => win0_5.index t a * main_v3_1.ty.shape.size a) = fun _ => 0) t
    exact (Memref.read_access_unit_zero (Elt Ideal) main_v3_1 h (fun a => by rw [congrFun h a]; simp) _).symm
  · show i ∈ ((View.whole main_v3_1).slice (win0_5.rect pt)).set
    rw [View.set_slice_whole, Rect.mem_set_unit]
    intro a
    exact ⟨((by decide +kernel : ∀ (t : Fin grid0.N) (a : Fin 2), win0_5.index t a * win0_5.size a = 0) pt a).trans_le (Nat.zero_le _),
      lt_of_lt_of_eq (i a).isLt ((by decide +kernel : ∀ (t : Fin grid0.N) (a : Fin 2), S1x1024.size a = win0_5.index t a * win0_5.size a + win0_5.xsize (grid0.coords t) a) pt a)⟩

/-- The reference runs, keeps its arguments and has no semaphore. -/
theorem frame_reference : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

/-- The kernel and the reference agree, both results, on memories that agree on the arguments. -/
theorem algebraic : Cert.algebraic_MemKernelIdeal_MemReferenceIdeal := by
  intro m g m' g' _ hm
  refine ⟨fun c => val_main_v23 (m ((c : Thread nD τ).loc main_arg0)) (m ((c : Thread nD τ).loc main_arg1)) (m ((c : Thread nD τ).loc main_arg3)),
    fun c => val_main_v22 (m ((c : Thread nD τ).loc main_arg0)) (m ((c : Thread nD τ).loc main_arg2)) (m ((c : Thread nD τ).loc main_arg3)), ?_, ?_⟩
  · refine (θ_run defs _ _).mono (fun r h c => ?_) (Cert.MemKernelIdeal.Value.run_blocks m g)
    obtain ⟨h0, h1, hk⟩ := h c
    exact ⟨h0.trans (final_dw m c), h1.trans (final_dg m c), hk⟩
  · refine (θ_run Cert.MemReferenceIdeal.defs _ _).mono (fun r h c => ?_) (Cert.MemReferenceIdeal.Value.run m' g')
    obtain ⟨h0, h1, hk⟩ := h c
    obtain ⟨e0, e1, e2, e3⟩ := hm c
    rw [e0, e1, e3] at h0
    rw [e0, e2, e3] at h1
    exact ⟨h0, h1, hk⟩

end Run

end Cert.MemKv

end
-- ==== Proof.KerGates.lean ====
/- The kernel's gates on one block of 512 rows as real numbers: the SiLU and the GELU with their derivatives, and the
   normalised half. -/
module

public import proofs.«01_k».proof.Proof.Spec
public import proofs.«01_k».proof.Proof.Gen.KernelIdeal.Skeleton

@[expose] public section

set_option maxRecDepth 16384

noncomputable section

namespace Cert.Branch

open Idealize.ShloMosaic Cert.Reals
open Cert.KernelIdeal Cert.KernelIdeal.Gen

theorem named_gK : (Named.named (F := Ideal) Cert.KernelIdeal.κ "gelu_k" (φ := .f32) 0x3D372713#32 : EReal) = ((gK : ℝ) : EReal) := rfl

theorem named_g3K : (Named.named (F := Ideal) Cert.KernelIdeal.κ "gelu_3k" (φ := .f32) 0x3E095D4F#32 : EReal) = ((3 * gK : ℝ) : EReal) := by
  refine Eq.trans (b := ((26829 / 200000 : ℝ) : EReal)) rfl (congrArg _ ?_)
  unfold gK
  norm_num

variable {A : Args} {t : ℕ}

/-- The gradient of the joined branches. -/
theorem dg_pt {x : Vec Ideal S512x1024 .f32} (hx : ∀ ρ c, x (ix2 ρ c) = ((A.ct (t * 512 + ρ) c : ℝ) : EReal)) {w : Vec Ideal S1024x1024 .bf16} (hw : ∀ j k, w (ix2 j k) = ((A.w j k : ℝ) : EReal)) (ρ : Fin 512) (c : Fin 1024) :
    (k0_pay8 x w : Vec Ideal S512x1024 .f32) (ix2 ρ c) = ((dg A (t * 512 + ρ) c : ℝ) : EReal) := by
  pointwise [k0_pay8]
  simp only [hx, hw, words, named_gK, named_g3K, reals]
  rfl

/-- The gradient of the attention's output. -/
theorem da_pt {g : Vec Ideal S512x1024 .f32} (hg : ∀ ρ c, g (ix2 ρ c) = ((dg A (t * 512 + ρ) c : ℝ) : EReal)) {z : Vec Ideal S512x512 .f32} (hz : ∀ ρ c, z (ix2 ρ c) = ((za A (t * 512 + ρ) c : ℝ) : EReal)) (ρ : Fin 512) (c : Fin 512) :
    (k0_pay14 g (k0_pay11 z) : Vec Ideal S512x512 .f32) (ix2 ρ c) = ((da A (t * 512 + ρ) c : ℝ) : EReal) := by
  pointwise [k0_pay14, k0_pay13, k0_pay11, k0_pay9, k0_pay10]
  simp only [hg, hz, words, named_gK, named_g3K, reals]
  refine congrArg _ ?_
  unfold da si sg
  ring_nf

/-- The gradient of the attention's gate. -/
theorem dza_pt {g : Vec Ideal S512x1024 .f32} (hg : ∀ ρ c, g (ix2 ρ c) = ((dg A (t * 512 + ρ) c : ℝ) : EReal)) {z : Vec Ideal S512x512 .f32} (hz : ∀ ρ c, z (ix2 ρ c) = ((za A (t * 512 + ρ) c : ℝ) : EReal)) {a : Vec Ideal S512x512 .f32} (ha : ∀ ρ c, a (ix2 ρ c) = ((A.a (t * 512 + ρ) c : ℝ) : EReal)) (ρ : Fin 512) (c : Fin 512) :
    (k0_pay15 g (k0_pay10 z) (k0_pay12 z) (Scalar.ofBits .f32 0x3F800000#32) a : Vec Ideal S512x512 .bf16) (ix2 ρ c) = ((dza A (t * 512 + ρ) c : ℝ) : EReal) := by
  pointwise [k0_pay15, k0_pay13, k0_pay10, k0_pay9, k0_pay12]
  simp only [hg, hz, ha, words, named_gK, named_g3K, reals]
  refine congrArg _ ?_
  unfold dza dsi sg
  ring_nf

/-- The GELU of the gated half. -/
theorem gu_pt {u : Vec Ideal S512x256 .f32} (hu : ∀ ρ c, u (ix2 ρ c) = ((ub A (t * 512 + ρ) c : ℝ) : EReal)) (ρ : Fin 512) (c : Fin 256) :
    (k0_pay20 u : Vec Ideal S512x256 .f32) (ix2 ρ c) = ((ge (ub A (t * 512 + ρ) c) : ℝ) : EReal) := by
  pointwise [k0_pay20, k0_pay16, k0_pay19, k0_pay18]
  simp only [hu, words, named_gK, named_g3K, reals]
  refine congrArg _ ?_
  unfold ge th
  ring_nf

/-- Its derivative. -/
theorem dgu_pt {u : Vec Ideal S512x256 .f32} (hu : ∀ ρ c, u (ix2 ρ c) = ((ub A (t * 512 + ρ) c : ℝ) : EReal)) (ρ : Fin 512) (c : Fin 256) :
    (k0_pay23 (k0_pay19 u) (k0_pay21 u) (k0_pay22 u) : Vec Ideal S512x256 .f32) (ix2 ρ c) = ((dge (ub A (t * 512 + ρ) c) : ℝ) : EReal) := by
  pointwise [k0_pay23, k0_pay19, k0_pay18, k0_pay16, k0_pay21, k0_pay22]
  simp only [hu, words, named_gK, named_g3K, reals]
  refine congrArg _ ?_
  unfold dge th
  ring_nf

/-- The normalised half, read. -/
theorem vb_pt {v : Vec Ideal S512x256 .f32} (hv : ∀ ρ c, v (ix2 ρ c) = ((vb A (t * 512 + ρ) c : ℝ) : EReal)) (ρ : Fin 512) (c : Fin 256) :
    (k0_pay17 v : Vec Ideal S512x256 .f32) (ix2 ρ c) = ((vb A (t * 512 + ρ) c : ℝ) : EReal) := by
  pointwise [k0_pay17]
  simp only [hv, words, named_gK, named_g3K, reals]

/-- The GELU of the normalised half. -/
theorem gvb_pt {v : Vec Ideal S512x256 .f32} (hv : ∀ ρ c, v (ix2 ρ c) = ((vb A (t * 512 + ρ) c : ℝ) : EReal)) (ρ : Fin 512) (c : Fin 256) :
    (k0_pay26 v : FVec Ideal S512x256 .f32) (ix2 ρ c) = ((gvb A (t * 512 + ρ) c : ℝ) : EReal) := by
  pointwise [k0_pay26, k0_pay25, k0_pay24]
  simp only [hv, words, named_gK, named_g3K, reals]
  refine congrArg _ ?_
  unfold gvb ge th
  ring_nf

/-- Its derivative. -/
theorem dgev_pt {v : Vec Ideal S512x256 .f32} (hv : ∀ ρ c, v (ix2 ρ c) = ((vb A (t * 512 + ρ) c : ℝ) : EReal)) (ρ : Fin 512) (c : Fin 256) :
    (k0_pay27 v : FVec Ideal S512x256 .f32) (ix2 ρ c) = ((dge (vb A (t * 512 + ρ) c) : ℝ) : EReal) := by
  pointwise [k0_pay27, k0_pay24, k0_pay25]
  simp only [hv, words, named_gK, named_g3K, reals]
  refine congrArg _ ?_
  unfold dge th
  ring_nf

/-- The reciprocal root. -/
theorem rv_pt {v : Vec Ideal S512x256 .f32} (hv : ∀ ρ c, v (ix2 ρ c) = ((vb A (t * 512 + ρ) c : ℝ) : EReal)) (ρ : Fin 512) (c : Fin 1) : (k0_pay28 v : FVec Ideal S512x1 .f32) (ix2 ρ c) = ((rv A (t * 512 + ρ) : ℝ) : EReal) := by
  have h26 := gvb_pt hv
  generalize hG : (k0_pay26 v : FVec Ideal S512x256 .f32) = G at h26
  pointwise [k0_pay28]
  rw [hG]
  pointwise
  simp only [h26, words, reals]
  exact rsqrt_real (ms_pos A _)

/-- The normalised half. -/
theorem vn_pt {v : Vec Ideal S512x256 .f32} (hv : ∀ ρ c, v (ix2 ρ c) = ((vb A (t * 512 + ρ) c : ℝ) : EReal)) {y : Vec Ideal S1x256 .f32} (hy : ∀ r c, y (ix2 r c) = ((A.gv c : ℝ) : EReal)) (ρ : Fin 512) (c : Fin 256) : (k0_pay29 v y : Vec Ideal S512x256 .f32) (ix2 ρ c) = ((vn A (t * 512 + ρ) c : ℝ) : EReal) := by
  have h26 := gvb_pt hv
  have h28 := rv_pt hv
  generalize hG : (k0_pay26 v : FVec Ideal S512x256 .f32) = G at h26
  generalize hR : (k0_pay28 v : FVec Ideal S512x1 .f32) = R at h28
  pointwise [k0_pay29]
  rw [hG, hR]
  simp only [h26, h28, hy, reals]
  rfl

end Cert.Branch
-- ==== Proof.KerMix.lean ====
/- The kernel's mixing of the chunks of one block: the two groups whose lanes share a 128-column tile are computed
   over all its lanes and selected by a lane mask, forwards and transposed. -/
module

public import proofs.«01_k».proof.Proof.KerGates

@[expose] public section

set_option maxRecDepth 16384

noncomputable section

namespace Cert.Branch

open Idealize.ShloMosaic Cert.Reals
open Cert.KernelIdeal Cert.KernelIdeal.Gen

/-- The lane mask: a chunk's column lies in the first 64 of its tile of 128. -/
@[reducible] def loM (n : ℕ) : BitVec 1 :=
  IntOp.cmpi CmpIPredicate.slt
    (Scalar.select
      (IntOp.andi
        (IntOp.xori
          (IntOp.cmpi CmpIPredicate.slt
            (IntOp.remsi ArithUnit.vector (BitVec.ofNat 32 n) (Scalar.select (Scalar.cmpi CmpIPredicate.eq 128#32 0#32) 1#32 128#32))
            0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 n) (Scalar.select (Scalar.cmpi CmpIPredicate.eq 128#32 0#32) 1#32 128#32))
          0#32))
      (IntOp.addi
        (IntOp.remsi ArithUnit.vector (BitVec.ofNat 32 n) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 n) (Scalar.select (Scalar.cmpi CmpIPredicate.eq 128#32 0#32) 1#32 128#32)))
    64#32

/-- The mask over the lanes of the four chunks. -/
theorem loM_eq : ∀ l : Fin 512, loM l = if (l : ℕ) % 128 < 64 then 1#1 else 0#1 := by decide +kernel

/-- The mask on the lanes of one chunk. -/
theorem loM_chunk (j : Fin 4) (c : Fin 128) : loM (j * 128 + c) = if (c : ℕ) < 64 then 1#1 else 0#1 := by
  have h := loM_eq ⟨j * 128 + c, by omega⟩
  rw [show ((⟨j * 128 + c, by omega⟩ : Fin 512) : ℕ) % 128 = c by simp only []; omega] at h
  exact h

/-- The mask at lane `n`, which is lane `c` of chunk `j`. -/
theorem loM_at (n : ℕ) (j : Fin 4) (c : Fin 128) (h : n = j * 128 + c) : loM n = if (c : ℕ) < 64 then 1#1 else 0#1 := h ▸ loM_chunk j c

/-! Which of four chunks laid side by side a lane lies in. -/

theorem lane1 (c : Fin 128) : ¬ 128 + (c : ℕ) < 128 ∧ (c : ℕ) < 128 ∧ 128 + (c : ℕ) - 128 = c := by omega
theorem lane2 (c : Fin 128) : ¬ 256 + (c : ℕ) < 128 ∧ ¬ 256 + (c : ℕ) - 128 < 128 ∧ (c : ℕ) < 128 ∧ 256 + (c : ℕ) - 128 - 128 = c := by omega
theorem lane3 (c : Fin 128) : ¬ 384 + (c : ℕ) < 128 ∧ ¬ 384 + (c : ℕ) - 128 < 128 ∧ ¬ 384 + (c : ℕ) - 128 - 128 < 128 ∧ 384 + (c : ℕ) - 128 - 128 - 128 = c := by omega

theorem select_one {α : Type} (a b : α) : Scalar.select 1#1 a b = a := rfl
theorem select_zero {α : Type} (a b : α) : Scalar.select 0#1 a b = b := rfl

/-- The mixing without its bias. -/
def mix0 (A : Args) (r c : ℕ) : ℝ := ∑ s : Fin 128, A.ws (c / 64) (r % 128) s * vn A (r / 128 * 128 + s) c

theorem mix0_chunk (A : Args) (t j g : ℕ) (r : Fin 128) (c : ℕ) (hj : j < 4) (hg : c / 64 = g) :
    mix0 A (t * 512 + (j * 128 + r)) c = ∑ s : Fin 128, A.ws g r s * vn A (t * 512 + (j * 128 + s)) c := by
  unfold mix0
  rw [hg, show (t * 512 + (j * 128 + (r : ℕ))) % 128 = r by omega, show (t * 512 + (j * 128 + (r : ℕ))) / 128 * 128 = t * 512 + j * 128 by omega]
  simp only [Nat.add_assoc]

theorem dvn_chunk (A : Args) (t j g : ℕ) (r : Fin 128) (c : ℕ) (hj : j < 4) (hg : c / 64 = g) :
    dvn A (t * 512 + (j * 128 + r)) c = ∑ s : Fin 128, A.ws g s r * dmix A (t * 512 + (j * 128 + s)) c := by
  unfold dvn
  rw [hg, show (t * 512 + (j * 128 + (r : ℕ))) % 128 = r by omega, show (t * 512 + (j * 128 + (r : ℕ))) / 128 * 128 = t * 512 + j * 128 by omega]
  simp only [Nat.add_assoc]

/-- The masked choice between two heads is the head of the column. -/
theorem mix_sel (A : Args) (t j g : ℕ) (r c : Fin 128) (k : ℕ) (hj : j < 4) (h0 : (c : ℕ) < 64 → k / 64 = g) (h1 : ¬ (c : ℕ) < 64 → k / 64 = g + 1) :
    Scalar.select (if (c : ℕ) < 64 then 1#1 else 0#1) ((∑ s : Fin 128, A.ws g r s * vn A (t * 512 + (j * 128 + s)) k : ℝ) : EReal)
      ((∑ s : Fin 128, A.ws (g + 1) r s * vn A (t * 512 + (j * 128 + s)) k : ℝ) : EReal) = ((mix0 A (t * 512 + (j * 128 + r)) k : ℝ) : EReal) := by
  by_cases hc : (c : ℕ) < 64
  · rw [if_pos hc, select_one, mix0_chunk A t j g r k hj (h0 hc)]
  · rw [if_neg hc, select_zero, mix0_chunk A t j (g + 1) r k hj (h1 hc)]

/-- The masked choice between two heads is the head of the column. -/
theorem dvn_sel (A : Args) (t j g : ℕ) (r c : Fin 128) (k : ℕ) (hj : j < 4) (h0 : (c : ℕ) < 64 → k / 64 = g) (h1 : ¬ (c : ℕ) < 64 → k / 64 = g + 1) :
    Scalar.select (if (c : ℕ) < 64 then 1#1 else 0#1) ((∑ s : Fin 128, A.ws g s r * dmix A (t * 512 + (j * 128 + s)) k : ℝ) : EReal)
      ((∑ s : Fin 128, A.ws (g + 1) s r * dmix A (t * 512 + (j * 128 + s)) k : ℝ) : EReal) = ((dvn A (t * 512 + (j * 128 + r)) k : ℝ) : EReal) := by
  by_cases hc : (c : ℕ) < 64
  · rw [if_pos hc, select_one, dvn_chunk A t j g r k hj (h0 hc)]
  · rw [if_neg hc, select_zero, dvn_chunk A t j (g + 1) r k hj (h1 hc)]

variable {A : Args} {t : ℕ}

section
variable {n : FVec Ideal S512x256 .f32} (hn : ∀ ρ c, n (ix2 ρ c) = ((vn A (t * 512 + ρ) c : ℝ) : EReal))
    {a b : Vec Ideal S1x128x128 .f32} (ha : ∀ z r s, a (ix3 z r s) = ((A.ws 0 r s : ℝ) : EReal)) (hb : ∀ z r s, b (ix3 z r s) = ((A.ws 1 r s : ℝ) : EReal)) (r c : Fin 128)
include hn ha hb

/-- Chunk 0 of the mixed half, columns 0 to 127. -/
theorem mix_pt00 : (k0_pay33 n a b : FVec Ideal S128x128 .f32) (ix2 r c) = ((mix0 A (t * 512 + (0 * 128 + r)) c : ℝ) : EReal) := by
  pointwise [k0_pay33, k0_pay32, k0_pay30, k0_pay31]
  change Scalar.select (loM (↑c)) _ _ = _
  simp only [loM_at (↑c) 0 c (by simp), ha, hb, hn, ← EReal.coe_mul, coe_sum]
  simpa only [Nat.zero_mul, Nat.zero_add] using mix_sel A t 0 0 r c c (by omega) (by omega) (by omega)

/-- Chunk 1 of the mixed half, columns 0 to 127. -/
theorem mix_pt01 : (k0_pay35 (k0_pay34 n a b) : FVec Ideal S128x128 .f32) (ix2 r c) = ((mix0 A (t * 512 + (1 * 128 + r)) c : ℝ) : EReal) := by
  pointwise [k0_pay35, k0_pay34, k0_pay32, k0_pay30, k0_pay31]
  change Scalar.select (loM (128 + ↑c)) _ _ = _
  obtain ⟨n1, p, q⟩ := lane1 c
  simp only [loM_at (128 + ↑c) 1 c (by simp), ha, hb, hn, dif_neg n1, dif_pos p, q, ← EReal.coe_mul, coe_sum]
  exact mix_sel A t 1 0 r c c (by omega) (by omega) (by omega)

/-- Chunk 2 of the mixed half, columns 0 to 127. -/
theorem mix_pt02 : (k0_pay36 (k0_pay32 n a b) : FVec Ideal S128x128 .f32) (ix2 r c) = ((mix0 A (t * 512 + (2 * 128 + r)) c : ℝ) : EReal) := by
  pointwise [k0_pay36, k0_pay32, k0_pay30, k0_pay31]
  change Scalar.select (loM (256 + ↑c)) _ _ = _
  obtain ⟨n1, n2, p, q⟩ := lane2 c
  simp only [loM_at (256 + ↑c) 2 c (by simp), ha, hb, hn, dif_neg n1, dif_neg n2, dif_pos p, q, ← EReal.coe_mul, coe_sum]
  exact mix_sel A t 2 0 r c c (by omega) (by omega) (by omega)

/-- Chunk 3 of the mixed half, columns 0 to 127. -/
theorem mix_pt03 : (k0_pay37 (k0_pay32 n a b) : FVec Ideal S128x128 .f32) (ix2 r c) = ((mix0 A (t * 512 + (3 * 128 + r)) c : ℝ) : EReal) := by
  pointwise [k0_pay37, k0_pay32, k0_pay30, k0_pay31]
  change Scalar.select (loM (384 + ↑c)) _ _ = _
  obtain ⟨n1, n2, n3, q⟩ := lane3 c
  simp only [loM_at (384 + ↑c) 3 c (by simp), ha, hb, hn, dif_neg n1, dif_neg n2, dif_neg n3, q, ← EReal.coe_mul, coe_sum]
  exact mix_sel A t 3 0 r c c (by omega) (by omega) (by omega)

end

section
variable {n : FVec Ideal S512x256 .f32} (hn : ∀ ρ c, n (ix2 ρ c) = ((dmix A (t * 512 + ρ) c : ℝ) : EReal))
    {a b : Vec Ideal S1x128x128 .f32} (ha : ∀ z r s, a (ix3 z r s) = ((A.ws 0 r s : ℝ) : EReal)) (hb : ∀ z r s, b (ix3 z r s) = ((A.ws 1 r s : ℝ) : EReal)) (r c : Fin 128)
include hn ha hb

/-- Chunk 0 of the transposed mixing, columns 0 to 127. -/
theorem dvn_pt00 : (k0_pay65 (k0_pay58 (Scalar.select (Scalar.cmpi .eq 128#32 0#32) 1#32 128#32) k0_pay55 k0_pay56 k0_pay57) (k0_pay59 n) (k0_pay63 a) b : FVec Ideal S128x128 .f32) (ix2 r c) = ((dvn A (t * 512 + (0 * 128 + r)) c : ℝ) : EReal) := by
  pointwise [k0_pay65, k0_pay64, k0_pay58, k0_pay55, k0_pay56, k0_pay57, k0_pay59, k0_pay63]
  change Scalar.select (loM (↑c)) _ _ = _
  simp only [loM_at (↑c) 0 c (by simp), ha, hb, hn, ← EReal.coe_mul, coe_sum]
  simpa only [Nat.zero_mul, Nat.zero_add] using dvn_sel A t 0 0 r c c (by omega) (by omega) (by omega)

/-- Chunk 1 of the transposed mixing, columns 0 to 127. -/
theorem dvn_pt01 : (k0_pay66 (k0_pay58 (Scalar.select (Scalar.cmpi .eq 128#32 0#32) 1#32 128#32) k0_pay55 k0_pay56 k0_pay57) (k0_pay59 n) (k0_pay63 a) b : FVec Ideal S128x128 .f32) (ix2 r c) = ((dvn A (t * 512 + (1 * 128 + r)) c : ℝ) : EReal) := by
  pointwise [k0_pay66, k0_pay64, k0_pay58, k0_pay55, k0_pay56, k0_pay57, k0_pay59, k0_pay63]
  change Scalar.select (loM (128 + ↑c)) _ _ = _
  obtain ⟨n1, p, q⟩ := lane1 c
  simp only [loM_at (128 + ↑c) 1 c (by simp), ha, hb, hn, dif_neg n1, dif_pos p, q, ← EReal.coe_mul, coe_sum]
  exact dvn_sel A t 1 0 r c c (by omega) (by omega) (by omega)

/-- Chunk 2 of the transposed mixing, columns 0 to 127. -/
theorem dvn_pt02 : (k0_pay67 (k0_pay58 (Scalar.select (Scalar.cmpi .eq 128#32 0#32) 1#32 128#32) k0_pay55 k0_pay56 k0_pay57) (k0_pay59 n) (k0_pay63 a) b : FVec Ideal S128x128 .f32) (ix2 r c) = ((dvn A (t * 512 + (2 * 128 + r)) c : ℝ) : EReal) := by
  pointwise [k0_pay67, k0_pay64, k0_pay58, k0_pay55, k0_pay56, k0_pay57, k0_pay59, k0_pay63]
  change Scalar.select (loM (256 + ↑c)) _ _ = _
  obtain ⟨n1, n2, p, q⟩ := lane2 c
  simp only [loM_at (256 + ↑c) 2 c (by simp), ha, hb, hn, dif_neg n1, dif_neg n2, dif_pos p, q, ← EReal.coe_mul, coe_sum]
  exact dvn_sel A t 2 0 r c c (by omega) (by omega) (by omega)

/-- Chunk 3 of the transposed mixing, columns 0 to 127. -/
theorem dvn_pt03 : (k0_pay68 (k0_pay58 (Scalar.select (Scalar.cmpi .eq 128#32 0#32) 1#32 128#32) k0_pay55 k0_pay56 k0_pay57) (k0_pay59 n) (k0_pay63 a) b : FVec Ideal S128x128 .f32) (ix2 r c) = ((dvn A (t * 512 + (3 * 128 + r)) c : ℝ) : EReal) := by
  pointwise [k0_pay68, k0_pay64, k0_pay58, k0_pay55, k0_pay56, k0_pay57, k0_pay59, k0_pay63]
  change Scalar.select (loM (384 + ↑c)) _ _ = _
  obtain ⟨n1, n2, n3, q⟩ := lane3 c
  simp only [loM_at (384 + ↑c) 3 c (by simp), ha, hb, hn, dif_neg n1, dif_neg n2, dif_neg n3, q, ← EReal.coe_mul, coe_sum]
  exact dvn_sel A t 3 0 r c c (by omega) (by omega) (by omega)

end

section
variable {n : FVec Ideal S512x256 .f32} (hn : ∀ ρ c, n (ix2 ρ c) = ((vn A (t * 512 + ρ) c : ℝ) : EReal))
    {a b : Vec Ideal S1x128x128 .f32} (ha : ∀ z r s, a (ix3 z r s) = ((A.ws 2 r s : ℝ) : EReal)) (hb : ∀ z r s, b (ix3 z r s) = ((A.ws 3 r s : ℝ) : EReal)) (r c : Fin 128)
include hn ha hb

/-- Chunk 0 of the mixed half, columns 128 to 255. -/
theorem mix_pt10 : (k0_pay39 (k0_pay30 n) k0_pay31 a b : FVec Ideal S128x128 .f32) (ix2 r c) = ((mix0 A (t * 512 + (0 * 128 + r)) (128 + c) : ℝ) : EReal) := by
  pointwise [k0_pay39, k0_pay38, k0_pay31, k0_pay30]
  change Scalar.select (loM (↑c)) _ _ = _
  simp only [loM_at (↑c) 0 c (by simp), ha, hb, hn, ← EReal.coe_mul, coe_sum]
  simpa only [Nat.zero_mul, Nat.zero_add] using mix_sel A t 0 2 r c (128 + c) (by omega) (by omega) (by omega)

/-- Chunk 1 of the mixed half, columns 128 to 255. -/
theorem mix_pt11 : (k0_pay40 (k0_pay30 n) k0_pay31 a b : FVec Ideal S128x128 .f32) (ix2 r c) = ((mix0 A (t * 512 + (1 * 128 + r)) (128 + c) : ℝ) : EReal) := by
  pointwise [k0_pay40, k0_pay38, k0_pay31, k0_pay30]
  change Scalar.select (loM (128 + ↑c)) _ _ = _
  obtain ⟨n1, p, q⟩ := lane1 c
  simp only [loM_at (128 + ↑c) 1 c (by simp), ha, hb, hn, dif_neg n1, dif_pos p, q, ← EReal.coe_mul, coe_sum]
  exact mix_sel A t 1 2 r c (128 + c) (by omega) (by omega) (by omega)

/-- Chunk 2 of the mixed half, columns 128 to 255. -/
theorem mix_pt12 : (k0_pay41 (k0_pay30 n) k0_pay31 a b : FVec Ideal S128x128 .f32) (ix2 r c) = ((mix0 A (t * 512 + (2 * 128 + r)) (128 + c) : ℝ) : EReal) := by
  pointwise [k0_pay41, k0_pay38, k0_pay31, k0_pay30]
  change Scalar.select (loM (256 + ↑c)) _ _ = _
  obtain ⟨n1, n2, p, q⟩ := lane2 c
  simp only [loM_at (256 + ↑c) 2 c (by simp), ha, hb, hn, dif_neg n1, dif_neg n2, dif_pos p, q, ← EReal.coe_mul, coe_sum]
  exact mix_sel A t 2 2 r c (128 + c) (by omega) (by omega) (by omega)

/-- Chunk 3 of the mixed half, columns 128 to 255. -/
theorem mix_pt13 : (k0_pay42 (k0_pay38 (k0_pay30 n) k0_pay31 a b) : FVec Ideal S128x128 .f32) (ix2 r c) = ((mix0 A (t * 512 + (3 * 128 + r)) (128 + c) : ℝ) : EReal) := by
  pointwise [k0_pay42, k0_pay38, k0_pay31, k0_pay30]
  change Scalar.select (loM (384 + ↑c)) _ _ = _
  obtain ⟨n1, n2, n3, q⟩ := lane3 c
  simp only [loM_at (384 + ↑c) 3 c (by simp), ha, hb, hn, dif_neg n1, dif_neg n2, dif_neg n3, q, ← EReal.coe_mul, coe_sum]
  exact mix_sel A t 3 2 r c (128 + c) (by omega) (by omega) (by omega)

end

section
variable {n : FVec Ideal S512x256 .f32} (hn : ∀ ρ c, n (ix2 ρ c) = ((dmix A (t * 512 + ρ) c : ℝ) : EReal))
    {a b : Vec Ideal S1x128x128 .f32} (ha : ∀ z r s, a (ix3 z r s) = ((A.ws 2 r s : ℝ) : EReal)) (hb : ∀ z r s, b (ix3 z r s) = ((A.ws 3 r s : ℝ) : EReal)) (r c : Fin 128)
include hn ha hb

/-- Chunk 0 of the transposed mixing, columns 128 to 255. -/
theorem dvn_pt10 : (k0_pay76 (k0_pay58 (Scalar.select (Scalar.cmpi .eq 128#32 0#32) 1#32 128#32) k0_pay55 k0_pay56 k0_pay57) (k0_pay69 n) a b : FVec Ideal S128x128 .f32) (ix2 r c) = ((dvn A (t * 512 + (0 * 128 + r)) (128 + c) : ℝ) : EReal) := by
  pointwise [k0_pay76, k0_pay75, k0_pay58, k0_pay55, k0_pay56, k0_pay57, k0_pay69, k0_pay63]
  change Scalar.select (loM (↑c)) _ _ = _
  simp only [loM_at (↑c) 0 c (by simp), ha, hb, hn, ← EReal.coe_mul, coe_sum]
  simpa only [Nat.zero_mul, Nat.zero_add] using dvn_sel A t 0 2 r c (128 + c) (by omega) (by omega) (by omega)

/-- Chunk 1 of the transposed mixing, columns 128 to 255. -/
theorem dvn_pt11 : (k0_pay78 (k0_pay77 (k0_pay58 (Scalar.select (Scalar.cmpi .eq 128#32 0#32) 1#32 128#32) k0_pay55 k0_pay56 k0_pay57) (k0_pay69 n) a b) : FVec Ideal S128x128 .f32) (ix2 r c) = ((dvn A (t * 512 + (1 * 128 + r)) (128 + c) : ℝ) : EReal) := by
  pointwise [k0_pay78, k0_pay77, k0_pay75, k0_pay58, k0_pay55, k0_pay56, k0_pay57, k0_pay69, k0_pay63]
  change Scalar.select (loM (128 + ↑c)) _ _ = _
  obtain ⟨n1, p, q⟩ := lane1 c
  simp only [loM_at (128 + ↑c) 1 c (by simp), ha, hb, hn, dif_neg n1, dif_pos p, q, ← EReal.coe_mul, coe_sum]
  exact dvn_sel A t 1 2 r c (128 + c) (by omega) (by omega) (by omega)

/-- Chunk 2 of the transposed mixing, columns 128 to 255. -/
theorem dvn_pt12 : (k0_pay79 (k0_pay75 (k0_pay58 (Scalar.select (Scalar.cmpi .eq 128#32 0#32) 1#32 128#32) k0_pay55 k0_pay56 k0_pay57) (k0_pay69 n) a b) : FVec Ideal S128x128 .f32) (ix2 r c) = ((dvn A (t * 512 + (2 * 128 + r)) (128 + c) : ℝ) : EReal) := by
  pointwise [k0_pay79, k0_pay75, k0_pay58, k0_pay55, k0_pay56, k0_pay57, k0_pay69, k0_pay63]
  change Scalar.select (loM (256 + ↑c)) _ _ = _
  obtain ⟨n1, n2, p, q⟩ := lane2 c
  simp only [loM_at (256 + ↑c) 2 c (by simp), ha, hb, hn, dif_neg n1, dif_neg n2, dif_pos p, q, ← EReal.coe_mul, coe_sum]
  exact dvn_sel A t 2 2 r c (128 + c) (by omega) (by omega) (by omega)

/-- Chunk 3 of the transposed mixing, columns 128 to 255. -/
theorem dvn_pt13 : (k0_pay80 (k0_pay75 (k0_pay58 (Scalar.select (Scalar.cmpi .eq 128#32 0#32) 1#32 128#32) k0_pay55 k0_pay56 k0_pay57) (k0_pay69 n) a b) : FVec Ideal S128x128 .f32) (ix2 r c) = ((dvn A (t * 512 + (3 * 128 + r)) (128 + c) : ℝ) : EReal) := by
  pointwise [k0_pay80, k0_pay75, k0_pay58, k0_pay55, k0_pay56, k0_pay57, k0_pay69, k0_pay63]
  change Scalar.select (loM (384 + ↑c)) _ _ = _
  obtain ⟨n1, n2, n3, q⟩ := lane3 c
  simp only [loM_at (384 + ↑c) 3 c (by simp), ha, hb, hn, dif_neg n1, dif_neg n2, dif_neg n3, q, ← EReal.coe_mul, coe_sum]
  exact dvn_sel A t 3 2 r c (128 + c) (by omega) (by omega) (by omega)

end

end Cert.Branch
-- ==== Proof.KerSgu.lean ====
/- The gradients of the gated unit on one block of the kernel, and what the block adds to the gradients of the mixing
   weights, of the biases and of the norm's gain. -/
module

public import proofs.«01_k».proof.Proof.KerMix

@[expose] public section

set_option maxRecDepth 16384

noncomputable section

namespace Cert.Branch

open Idealize.ShloMosaic Cert.Reals
open Cert.KernelIdeal Cert.KernelIdeal.Gen

/-- What block `t` adds to the gradient of the mixing weights. -/
def dwsT (A : Args) (t g r s : ℕ) : ℝ :=
  ∑ j : Fin 4, ∑ e : Fin 64, dmix A (t * 512 + (j * 128 + r)) (g * 64 + e) * vn A (t * 512 + (j * 128 + s)) (g * 64 + e)

/-- What block `t` adds to the gradient of the gain. -/
def dgvT (A : Args) (t c : ℕ) : ℝ := ∑ ρ : Fin 512, dvn A (t * 512 + ρ) c * (gvb A (t * 512 + ρ) c * rv A (t * 512 + ρ))

/-- What block `t` adds to the sum of the mixed half's gradient over the chunks. -/
def dbT (A : Args) (t r c : ℕ) : ℝ := ∑ j : Fin 4, dmix A (t * 512 + (j * 128 + r)) c

/-- The lanes of the first half of every tile of 128. -/
theorem sum_lo (f : ℕ → ℕ → ℝ) : (∑ l : Fin 512, if (l : ℕ) % 128 < 64 then f (l / 128) (l % 128) else 0) = ∑ j : Fin 4, ∑ e : Fin 64, f j e := by
  rw [Fin.sum_univ_tiles 4 128 (by norm_num)]
  refine Finset.sum_congr rfl fun j _ => ?_
  rw [Fin.sum_univ_tiles 2 64 (by norm_num), Fin.sum_univ_two]
  refine (congrArg₂ (· + ·) (Finset.sum_congr rfl fun e _ => ?_) (Finset.sum_eq_zero fun e _ => ?_)).trans (add_zero _)
  · have h1 : ((j : ℕ) * 128 + (((0 : Fin 2) : ℕ) * 64 + (e : ℕ))) % 128 = e := by simp; omega
    have h2 : ((j : ℕ) * 128 + (((0 : Fin 2) : ℕ) * 64 + (e : ℕ))) / 128 = j := by simp; omega
    simp only [h1, h2]
    exact if_pos e.isLt
  · have h1 : ((j : ℕ) * 128 + (((1 : Fin 2) : ℕ) * 64 + (e : ℕ))) % 128 = 64 + e := by simp; omega
    simp only [h1]
    exact if_neg (by omega)

/-- The lanes of the second half of every tile of 128. -/
theorem sum_hi (f : ℕ → ℕ → ℝ) : (∑ l : Fin 512, if (l : ℕ) % 128 < 64 then 0 else f (l / 128) (l % 128)) = ∑ j : Fin 4, ∑ e : Fin 64, f j (64 + e) := by
  rw [Fin.sum_univ_tiles 4 128 (by norm_num)]
  refine Finset.sum_congr rfl fun j _ => ?_
  rw [Fin.sum_univ_tiles 2 64 (by norm_num), Fin.sum_univ_two]
  refine (congrArg₂ (· + ·) (Finset.sum_eq_zero fun e _ => ?_) (Finset.sum_congr rfl fun e _ => ?_)).trans (zero_add _)
  · have h1 : ((j : ℕ) * 128 + (((0 : Fin 2) : ℕ) * 64 + (e : ℕ))) % 128 = e := by simp; omega
    simp only [h1]
    exact if_pos e.isLt
  · have h1 : ((j : ℕ) * 128 + (((1 : Fin 2) : ℕ) * 64 + (e : ℕ))) % 128 = 64 + e := by simp; omega
    have h2 : ((j : ℕ) * 128 + (((1 : Fin 2) : ℕ) * 64 + (e : ℕ))) / 128 = j := by simp; omega
    simp only [h1, h2]
    exact if_neg (by omega)

variable {A : Args} {t : ℕ}

/-- The mixed half with its bias. -/
theorem mixed_pt {x : Vec Ideal S512x256 .f32} (hx : ∀ ρ c, x (ix2 ρ c) = ((mix0 A (t * 512 + ρ) c : ℝ) : EReal)) {e : Vec Ideal S128x256 .f32} (he : ∀ ρ c, e (ix2 ρ c) = ((A.bs (c / 64) ρ : ℝ) : EReal)) (ρ : Fin 512) (c : Fin 256) : (k0_pay43 x e : FVec Ideal S512x256 .f32) (ix2 ρ c) = ((mixed A (t * 512 + ρ) c : ℝ) : EReal) := by
  pointwise [k0_pay43]
  simp only [hx, he, reals]
  split_ifs <;>
  · refine (EReal.coe_add _ _).symm.trans (congrArg _ ?_)
    unfold mixed mix0
    refine congrArg₂ (· + ·) rfl (congrArg (A.bs _) ?_)
    have := ρ.isLt
    omega

/-- The gradient of the gated half. -/
theorem dub_pt {g : FVec Ideal S512x1024 .f32} (hg : ∀ ρ c, g (ix2 ρ c) = ((dg A (t * 512 + ρ) c : ℝ) : EReal)) {d : FVec Ideal S512x256 .f32} (hd : ∀ ρ c, d (ix2 ρ c) = ((dge (ub A (t * 512 + ρ) c) : ℝ) : EReal)) {x : Vec Ideal S512x256 .f32} (hx : ∀ ρ c, x (ix2 ρ c) = ((mix0 A (t * 512 + ρ) c : ℝ) : EReal)) {e : Vec Ideal S128x256 .f32} (he : ∀ ρ c, e (ix2 ρ c) = ((A.bs (c / 64) ρ : ℝ) : EReal)) {z : Vec Ideal S512x256 .f32} (hz : ∀ ρ c, z (ix2 ρ c) = ((zb A (t * 512 + ρ) c : ℝ) : EReal)) (ρ : Fin 512) (c : Fin 256) : (k0_pay48 g d x e z : FVec Ideal S512x256 .bf16) (ix2 ρ c) = ((dub A (t * 512 + ρ) c : ℝ) : EReal) := by
  have hm := mixed_pt hx he
  generalize hM : (k0_pay43 x e : FVec Ideal S512x256 .f32) = M at hm
  pointwise [k0_pay48, k0_pay47, k0_pay44, k0_pay45, k0_pay46]
  rw [hM]
  simp only [hm, hg, hd, hz, words, reals]
  refine congrArg _ ?_
  unfold dub dsgu si sg
  ring_nf

/-- The gradient of the unit's gate. -/
theorem dzb_pt {g : FVec Ideal S512x1024 .f32} (hg : ∀ ρ c, g (ix2 ρ c) = ((dg A (t * 512 + ρ) c : ℝ) : EReal)) {u : FVec Ideal S512x256 .f32} (hu : ∀ ρ c, u (ix2 ρ c) = ((ge (ub A (t * 512 + ρ) c) : ℝ) : EReal)) {x : Vec Ideal S512x256 .f32} (hx : ∀ ρ c, x (ix2 ρ c) = ((mix0 A (t * 512 + ρ) c : ℝ) : EReal)) {e : Vec Ideal S128x256 .f32} (he : ∀ ρ c, e (ix2 ρ c) = ((A.bs (c / 64) ρ : ℝ) : EReal)) {z : Vec Ideal S512x256 .f32} (hz : ∀ ρ c, z (ix2 ρ c) = ((zb A (t * 512 + ρ) c : ℝ) : EReal)) (ρ : Fin 512) (c : Fin 256) : (k0_pay49 g u x e z : FVec Ideal S512x256 .bf16) (ix2 ρ c) = ((dzb A (t * 512 + ρ) c : ℝ) : EReal) := by
  have hm := mixed_pt hx he
  generalize hM : (k0_pay43 x e : FVec Ideal S512x256 .f32) = M at hm
  pointwise [k0_pay49, k0_pay45, k0_pay44, k0_pay46]
  rw [hM]
  simp only [hm, hg, hu, hz, words, reals]
  refine congrArg _ ?_
  unfold dzb dsi sg
  ring_nf

/-- The gradient of the mixed half. -/
theorem dmix_pt {g : FVec Ideal S512x1024 .f32} (hg : ∀ ρ c, g (ix2 ρ c) = ((dg A (t * 512 + ρ) c : ℝ) : EReal)) {u : FVec Ideal S512x256 .f32} (hu : ∀ ρ c, u (ix2 ρ c) = ((ge (ub A (t * 512 + ρ) c) : ℝ) : EReal)) {z : Vec Ideal S512x256 .f32} (hz : ∀ ρ c, z (ix2 ρ c) = ((zb A (t * 512 + ρ) c : ℝ) : EReal)) (ρ : Fin 512) (c : Fin 256) : (k0_pay50 g u z : FVec Ideal S512x256 .f32) (ix2 ρ c) = ((dmix A (t * 512 + ρ) c : ℝ) : EReal) := by
  pointwise [k0_pay50, k0_pay47, k0_pay44, k0_pay45, k0_pay46]
  simp only [hg, hu, hz, words, reals]
  refine congrArg _ ?_
  unfold dmix dsgu si sg
  ring_nf

/-- The block's sum over its chunks, added to what was there. -/
theorem dmsum_pt {n : FVec Ideal S512x256 .f32} (hn : ∀ ρ c, n (ix2 ρ c) = ((dmix A (t * 512 + ρ) c : ℝ) : EReal)) {p : Vec Ideal S128x256 .f32} {q : ℝ} (r : Fin 128) (c : Fin 256) (hp : p (ix2 r c) = (q : EReal)) :
    (k0_pay54 n (k0_pay53 n (k0_pay52 n (k0_pay51 n p))) : FVec Ideal S128x256 .f32) (ix2 r c) = ((q + dbT A t r c : ℝ) : EReal) := by
  pointwise [k0_pay51, k0_pay52, k0_pay53, k0_pay54]
  simp only [hn, hp, reals]
  refine congrArg _ ?_
  unfold dbT
  rw [Fin.sum_univ_four]
  simp only [Fin.val_zero, Fin.val_one, Fin.val_two, show ((3 : Fin 4) : ℕ) = 3 from rfl, Nat.zero_mul, Nat.zero_add]
  ring_nf

/-- The four chunks side by side. -/
theorem dmcat0 {n : FVec Ideal S512x256 .f32} (hn : ∀ ρ c, n (ix2 ρ c) = ((dmix A (t * 512 + ρ) c : ℝ) : EReal)) (r : Fin 128) (l : Fin 512) :
    (k0_pay59 n : FVec Ideal S128x512 .f32) (ix2 r l) = ((dmix A (t * 512 + (l / 128 * 128 + r)) (l % 128) : ℝ) : EReal) := by
  pointwise [k0_pay59]
  simp only [hn]
  have := l.isLt
  split_ifs <;>
  · refine congrArg _ (congrArg₂ (dmix A) ?_ ?_) <;> omega

/-- The four chunks side by side. -/
theorem dmcat1 {n : FVec Ideal S512x256 .f32} (hn : ∀ ρ c, n (ix2 ρ c) = ((dmix A (t * 512 + ρ) c : ℝ) : EReal)) (r : Fin 128) (l : Fin 512) :
    (k0_pay69 n : FVec Ideal S128x512 .f32) (ix2 r l) = ((dmix A (t * 512 + (l / 128 * 128 + r)) (128 + l % 128) : ℝ) : EReal) := by
  pointwise [k0_pay69]
  simp only [hn]
  have := l.isLt
  split_ifs <;>
  · refine congrArg _ (congrArg₂ (dmix A) ?_ ?_) <;> omega

/-- The four chunks side by side. -/
theorem vncat0 {n : FVec Ideal S512x256 .bf16} (hn : ∀ ρ c, n (ix2 ρ c) = ((vn A (t * 512 + ρ) c : ℝ) : EReal)) (r : Fin 128) (l : Fin 512) :
    (k0_pay60 n : FVec Ideal S128x512 .bf16) (ix2 r l) = ((vn A (t * 512 + (l / 128 * 128 + r)) (l % 128) : ℝ) : EReal) := by
  pointwise [k0_pay60]
  simp only [hn]
  have := l.isLt
  split_ifs <;>
  · refine congrArg _ (congrArg₂ (vn A) ?_ ?_) <;> omega

/-- The four chunks side by side. -/
theorem vncat1 {n : FVec Ideal S512x256 .bf16} (hn : ∀ ρ c, n (ix2 ρ c) = ((vn A (t * 512 + ρ) c : ℝ) : EReal)) (r : Fin 128) (l : Fin 512) :
    (k0_pay70 n : FVec Ideal S128x512 .bf16) (ix2 r l) = ((vn A (t * 512 + (l / 128 * 128 + r)) (128 + l % 128) : ℝ) : EReal) := by
  pointwise [k0_pay70]
  simp only [hn]
  have := l.isLt
  split_ifs <;>
  · refine congrArg _ (congrArg₂ (vn A) ?_ ?_) <;> omega

/-- The mask of the lower lanes, as the kernel builds it the second time. -/
theorem mask_pt (r : Fin 128) (l : Fin 512) : (k0_pay58 (Scalar.select (Scalar.cmpi .eq 128#32 0#32) 1#32 128#32) k0_pay55 k0_pay56 k0_pay57) (ix2 r l) = if (l : ℕ) % 128 < 64 then 1#1 else 0#1 := by
  pointwise [k0_pay58, k0_pay55, k0_pay56, k0_pay57]
  exact loM_eq l

theorem select_ite {p : Prop} [Decidable p] (a b : EReal) : Scalar.select (if p then 1#1 else 0#1) a b = if p then a else b := by
  split_ifs <;> rfl

theorem coe_ite {p : Prop} [Decidable p] (a b : ℝ) : (if p then (a : EReal) else (b : EReal)) = ((if p then a else b : ℝ) : EReal) := by
  split_ifs <;> rfl

section
variable {n : FVec Ideal S512x256 .f32} (hn : ∀ ρ c, n (ix2 ρ c) = ((dmix A (t * 512 + ρ) c : ℝ) : EReal)) {m : FVec Ideal S512x256 .bf16} (hm : ∀ ρ c, m (ix2 ρ c) = ((vn A (t * 512 + ρ) c : ℝ) : EReal))
    {p : Vec Ideal S1x128x128 .f32} {q : ℝ} (z : Fin 1) (r s : Fin 128) (hp : p (ix3 z r s) = (q : EReal))
include hn hm hp

/-- What the block adds to the mixing weights of group 0. -/
theorem dws_pt0 : (k0_pay61 m n (Scalar.select (Scalar.cmpi .eq 128#32 0#32) 1#32 128#32) k0_pay55 k0_pay56 k0_pay57 p : FVec Ideal S1x128x128 .f32) (ix3 z r s) = ((q + dwsT A t 0 r s : ℝ) : EReal) := by
  have h1 := dmcat0 hn
  have h2 := vncat0 hm
  have h3 := mask_pt
  generalize hD : k0_pay59 n = D at h1
  generalize hV : k0_pay60 m = V at h2
  generalize hK : (k0_pay58 (Scalar.select (Scalar.cmpi .eq 128#32 0#32) 1#32 128#32) k0_pay55 k0_pay56 k0_pay57) = K at h3
  obtain rfl : z = 0 := Subsingleton.elim _ _
  pointwise [k0_pay61]
  try simp only [hD, hV, hK]
  pointwise
  simp only [h1, h2, h3, hp, select_ite, coe_ite, words, reals, mul_ite, ite_mul, mul_zero, zero_mul]
  rw [sum_lo fun j e => dmix A (t * 512 + (j * 128 + r)) (e) * vn A (t * 512 + (j * 128 + s)) (e)]
  simp only [dwsT, Nat.reduceMul, Nat.zero_add, ← Nat.add_assoc, Nat.reduceAdd]

/-- What the block adds to the mixing weights of group 1. -/
theorem dws_pt1 : (k0_pay62 m n (Scalar.select (Scalar.cmpi .eq 128#32 0#32) 1#32 128#32) k0_pay55 k0_pay56 k0_pay57 p : FVec Ideal S1x128x128 .f32) (ix3 z r s) = ((q + dwsT A t 1 r s : ℝ) : EReal) := by
  have h1 := dmcat0 hn
  have h2 := vncat0 hm
  have h3 := mask_pt
  generalize hD : k0_pay59 n = D at h1
  generalize hV : k0_pay60 m = V at h2
  generalize hK : (k0_pay58 (Scalar.select (Scalar.cmpi .eq 128#32 0#32) 1#32 128#32) k0_pay55 k0_pay56 k0_pay57) = K at h3
  obtain rfl : z = 0 := Subsingleton.elim _ _
  pointwise [k0_pay62]
  try simp only [hD, hV, hK]
  pointwise
  simp only [h1, h2, h3, hp, select_ite, coe_ite, words, reals, mul_ite, ite_mul, mul_zero, zero_mul]
  rw [sum_hi fun j e => dmix A (t * 512 + (j * 128 + r)) (e) * vn A (t * 512 + (j * 128 + s)) (e)]
  simp only [dwsT, Nat.reduceMul, Nat.zero_add, ← Nat.add_assoc, Nat.reduceAdd]

/-- What the block adds to the mixing weights of group 2. -/
theorem dws_pt2 : (k0_pay73 (k0_pay70 m) (k0_pay71 p) (k0_pay72 n (k0_pay58 (Scalar.select (Scalar.cmpi .eq 128#32 0#32) 1#32 128#32) k0_pay55 k0_pay56 k0_pay57)) : FVec Ideal S1x128x128 .f32) (ix3 z r s) = ((q + dwsT A t 2 r s : ℝ) : EReal) := by
  have h1 := dmcat1 hn
  have h2 := vncat1 hm
  have h3 := mask_pt
  generalize hD : k0_pay69 n = D at h1
  generalize hV : k0_pay70 m = V at h2
  generalize hK : (k0_pay58 (Scalar.select (Scalar.cmpi .eq 128#32 0#32) 1#32 128#32) k0_pay55 k0_pay56 k0_pay57) = K at h3
  obtain rfl : z = 0 := Subsingleton.elim _ _
  pointwise [k0_pay73, k0_pay71, k0_pay72]
  try simp only [hD, hV, hK]
  pointwise
  simp only [h1, h2, h3, hp, select_ite, coe_ite, words, reals, mul_ite, ite_mul, mul_zero, zero_mul]
  rw [sum_lo fun j e => dmix A (t * 512 + (j * 128 + r)) (128 + e) * vn A (t * 512 + (j * 128 + s)) (128 + e)]
  simp only [dwsT, Nat.reduceMul, Nat.zero_add, ← Nat.add_assoc, Nat.reduceAdd]

/-- What the block adds to the mixing weights of group 3. -/
theorem dws_pt3 : (k0_pay74 (k0_pay58 (Scalar.select (Scalar.cmpi .eq 128#32 0#32) 1#32 128#32) k0_pay55 k0_pay56 k0_pay57) (k0_pay69 n) (k0_pay70 m) p : FVec Ideal S1x128x128 .f32) (ix3 z r s) = ((q + dwsT A t 3 r s : ℝ) : EReal) := by
  have h1 := dmcat1 hn
  have h2 := vncat1 hm
  have h3 := mask_pt
  generalize hD : k0_pay69 n = D at h1
  generalize hV : k0_pay70 m = V at h2
  generalize hK : (k0_pay58 (Scalar.select (Scalar.cmpi .eq 128#32 0#32) 1#32 128#32) k0_pay55 k0_pay56 k0_pay57) = K at h3
  obtain rfl : z = 0 := Subsingleton.elim _ _
  pointwise [k0_pay74]
  try simp only [hD, hV, hK]
  pointwise
  simp only [h1, h2, h3, hp, select_ite, coe_ite, words, reals, mul_ite, ite_mul, mul_zero, zero_mul]
  rw [sum_hi fun j e => dmix A (t * 512 + (j * 128 + r)) (128 + e) * vn A (t * 512 + (j * 128 + s)) (128 + e)]
  simp only [dwsT, Nat.reduceMul, Nat.zero_add, ← Nat.add_assoc, Nat.reduceAdd]

end

/-- What the block adds to the gradient of the gain. -/
theorem dgv_pt {b : FVec Ideal S512x256 .f32} (hb : ∀ ρ c, b (ix2 ρ c) = ((gvb A (t * 512 + ρ) c : ℝ) : EReal)) {v : FVec Ideal S512x1 .f32} (hv : ∀ ρ c, v (ix2 ρ c) = ((rv A (t * 512 + ρ) : ℝ) : EReal)) {w : Vec Ideal S512x256 .f32} (hw : ∀ ρ c, w (ix2 ρ c) = ((dvn A (t * 512 + ρ) c : ℝ) : EReal)) {p : Vec Ideal S1x256 .f32} {q : ℝ} (z : Fin 1) (c : Fin 256) (hp : p (ix2 z c) = (q : EReal)) :
    (k0_pay81 b v w p : FVec Ideal S1x256 .f32) (ix2 z c) = ((q + dgvT A t c : ℝ) : EReal) := by
  obtain rfl : z = 0 := Subsingleton.elim _ _
  pointwise [k0_pay81]
  simp only [hb, hv, hw, hp, words, reals]
  rfl

/-- The gradient of the normalised half's input. -/
theorem dvb_pt {b : FVec Ideal S512x256 .f32} (hb : ∀ ρ c, b (ix2 ρ c) = ((gvb A (t * 512 + ρ) c : ℝ) : EReal)) {d : FVec Ideal S512x256 .f32} (hd : ∀ ρ c, d (ix2 ρ c) = ((dge (vb A (t * 512 + ρ) c) : ℝ) : EReal)) {v : FVec Ideal S512x1 .f32} (hv : ∀ ρ c, v (ix2 ρ c) = ((rv A (t * 512 + ρ) : ℝ) : EReal)) {y : Vec Ideal S1x256 .f32} (hy : ∀ r c, y (ix2 r c) = ((A.gv c : ℝ) : EReal)) {w : Vec Ideal S512x256 .f32} (hw : ∀ ρ c, w (ix2 ρ c) = ((dvn A (t * 512 + ρ) c : ℝ) : EReal)) (ρ : Fin 512) (c : Fin 256) :
    (k0_pay82 b d v y w : FVec Ideal S512x256 .bf16) (ix2 ρ c) = ((dvb A (t * 512 + ρ) c : ℝ) : EReal) := by
  pointwise [k0_pay82]
  simp only [hb, hd, hv, hy, hw, words, reals]
  refine congrArg _ ?_
  unfold dvb dgvb
  ring_nf

end Cert.Branch
-- ==== Proof.KerMem.lean ====
/- The kernel's attention on the memory for one block: the four heads' queries stacked into 2048 rows, each row keeping
   only its head's 64 lanes, so that one product gives all heads' scores. -/
module

public import proofs.«01_k».proof.Proof.KerSgu

@[expose] public section

set_option maxRecDepth 16384

noncomputable section

namespace Cert.Branch

open Idealize.ShloMosaic Cert.Reals
open Cert.KernelIdeal Cert.KernelIdeal.Gen

/-- The head of a lane, as the kernel computes it: the quotient by 64, rounded down. -/
@[reducible] def hdW (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem hd_0 : ∀ l : Fin 256, IntOp.cmpi CmpIPredicate.eq (hdW l) 0#32 = if (l : ℕ) / 64 = 0 then 1#1 else 0#1 := by decide +kernel

theorem hd_1 : ∀ l : Fin 256, IntOp.cmpi CmpIPredicate.eq (hdW l) 1#32 = if (l : ℕ) / 64 = 1 then 1#1 else 0#1 := by decide +kernel

theorem hd_2 : ∀ l : Fin 256, IntOp.cmpi CmpIPredicate.eq (hdW l) 2#32 = if (l : ℕ) / 64 = 2 then 1#1 else 0#1 := by decide +kernel

theorem hd_3 : ∀ l : Fin 256, IntOp.cmpi CmpIPredicate.eq (hdW l) 3#32 = if (l : ℕ) / 64 = 3 then 1#1 else 0#1 := by decide +kernel

theorem hd_any : ∀ (l : Fin 256) (k : Fin 4), IntOp.cmpi CmpIPredicate.eq (hdW l) (BitVec.ofNat 32 k) = if (l : ℕ) / 64 = k then 1#1 else 0#1 := by
  decide +kernel

theorem sitofp_ite {p : Prop} [Decidable p] :
    FloatOps.sitofp (F := Ideal) FTy.f32 (BitVec.setWidth 32 (if p then 1#1 else 0#1)) = if p then ((1 : ℝ) : EReal) else ((0 : ℝ) : EReal) := by
  split_ifs
  · change ((((BitVec.setWidth 32 1#1).toInt : ℤ) : ℝ) : EReal) = _
    rw [show (BitVec.setWidth 32 1#1).toInt = 1 by decide, Int.cast_one]
  · change ((((BitVec.setWidth 32 0#1).toInt : ℤ) : ℝ) : EReal) = _
    rw [show (BitVec.setWidth 32 0#1).toInt = 0 by decide, Int.cast_zero]

/-- A row of the stack keeps its head's lanes: a choice by the row is a choice by the head. -/
theorem stack_ite (R : Fin 2048) (n : ℕ) (f : ℕ → ℝ) :
    (if (R : ℕ) < 512 then (if n = 0 then f R else 0)
      else if (R : ℕ) - 512 < 512 then (if n = 1 then f (R - 512) else 0)
      else if (R : ℕ) - 512 - 512 < 512 then (if n = 2 then f (R - 512 - 512) else 0)
      else (if n = 3 then f (R - 512 - 512 - 512) else 0)) = if n = R / 512 then f (R % 512) else 0 := by
  have := R.isLt
  split_ifs <;> first | rfl | omega | (refine congrArg f ?_; omega)

/-- Only the head's 64 lanes of a masked sum over 256 lanes are left. -/
theorem sum_head (h : ℕ) (hh : h < 4) (f : ℕ → ℝ) : (∑ l : Fin 256, if (l : ℕ) / 64 = h then f l else 0) = ∑ e : Fin 64, f (h * 64 + e) := by
  rw [Fin.sum_univ_tiles 4 64 (by norm_num)]
  refine (Finset.sum_eq_single (⟨h, hh⟩ : Fin 4) (fun j _ hj => Finset.sum_eq_zero fun e _ => ?_) (fun h => absurd (Finset.mem_univ _) h)).trans
    (Finset.sum_congr rfl fun e _ => ?_)
  · refine if_neg fun h2 => hj (Fin.ext ?_)
    simp only [] at h2 ⊢
    omega
  · refine if_pos ?_
    simp only []
    omega

/-- Only the head's 512 rows of a masked sum over the stack are left. -/
theorem sum_stack (h : ℕ) (hh : h < 4) (f : ℕ → ℝ) : (∑ R : Fin 2048, if h = (R : ℕ) / 512 then f (R % 512) else 0) = ∑ ρ : Fin 512, f ρ := by
  rw [Fin.sum_univ_tiles 4 512 (by norm_num)]
  refine (Finset.sum_eq_single (⟨h, hh⟩ : Fin 4) (fun j _ hj => Finset.sum_eq_zero fun e _ => ?_) (fun h => absurd (Finset.mem_univ _) h)).trans
    (Finset.sum_congr rfl fun e _ => ?_)
  · refine if_neg fun h2 => hj (Fin.ext ?_)
    simp only [] at h2 ⊢
    omega
  · simp only []
    rw [if_pos (by omega)]
    refine congrArg f ?_
    omega

/-- What block `t` adds to the gradients of its batch's keys and values. -/
def dkmT (A : Args) (t m c : ℕ) : ℝ := ∑ ρ : Fin 512, ds A (c / 64) (t * 512 + ρ) m * qm A (t * 512 + ρ) c
def dvmT (A : Args) (t m c : ℕ) : ℝ := ∑ ρ : Fin 512, pr A (c / 64) (t * 512 + ρ) m * dmo A (t * 512 + ρ) c

variable {A : Args} {t : ℕ}

/-- The output's gate. -/
theorem sim_pt {z : Vec Ideal S512x256 .f32} (hz : ∀ ρ c, z (ix2 ρ c) = ((zm A (t * 512 + ρ) c : ℝ) : EReal)) (ρ : Fin 512) (c : Fin 256) : (k0_pay85 z : FVec Ideal S512x256 .f32) (ix2 ρ c) = ((si (zm A (t * 512 + ρ) c) : ℝ) : EReal) := by
  pointwise [k0_pay85, k0_pay83, k0_pay84]
  simp only [hz, words, reals]
  refine congrArg _ ?_
  unfold si sg
  ring_nf

theorem dsim_pt {z : Vec Ideal S512x256 .f32} (hz : ∀ ρ c, z (ix2 ρ c) = ((zm A (t * 512 + ρ) c : ℝ) : EReal)) (ρ : Fin 512) (c : Fin 256) : (k0_pay86 z : FVec Ideal S512x256 .f32) (ix2 ρ c) = ((dsi (zm A (t * 512 + ρ) c) : ℝ) : EReal) := by
  pointwise [k0_pay86, k0_pay84, k0_pay83]
  simp only [hz, words, reals]
  refine congrArg _ ?_
  unfold dsi sg
  ring_nf

theorem dgm_pt {g : FVec Ideal S512x1024 .f32} (hg : ∀ ρ c, g (ix2 ρ c) = ((dg A (t * 512 + ρ) c : ℝ) : EReal)) (ρ : Fin 512) (c : Fin 256) : (k0_pay87 g : FVec Ideal S512x256 .f32) (ix2 ρ c) = ((dg A (t * 512 + ρ) (768 + c) : ℝ) : EReal) := by
  pointwise [k0_pay87]
  exact hg _ _

/-- The stacked queries. -/
theorem qs_pt {q : FVec Ideal S512x256 .f32} (hq : ∀ ρ c, q (ix2 ρ c) = ((qm A (t * 512 + ρ) c : ℝ) : EReal)) (R : Fin 2048) (l : Fin 256) :
    (k0_pay94 q k0_pay91 k0_pay92 k0_pay93 : FVec Ideal S2048x256 .bf16) (ix2 R l) = ((if (l : ℕ) / 64 = R / 512 then qm A (t * 512 + R % 512) l else 0 : ℝ) : EReal) := by
  pointwise [k0_pay94, k0_pay91, k0_pay92, k0_pay93]
  simp only [hq, hd_0, hd_1, hd_2, hd_3, select_ite, words, coe_ite, dite_eq_ite]
  exact congrArg _ (stack_ite R (l / 64) fun ρ => qm A (t * 512 + ρ) l)

/-- The stacked gradient of the heads' outputs. -/
theorem os_pt {y : FVec Ideal S512x256 .f32} (hy : ∀ ρ c, y (ix2 ρ c) = ((si (zm A (t * 512 + ρ) c) : ℝ) : EReal)) {g : FVec Ideal S512x256 .f32} (hg : ∀ ρ c, g (ix2 ρ c) = ((dg A (t * 512 + ρ) (768 + c) : ℝ) : EReal)) (R : Fin 2048) (l : Fin 256) :
    (k0_pay99 (k0_pay96 y g) (iota .tc S512x256 32 [1] iota_S512x256_d1_w32) 64#32 k0_pay97 k0_pay98 : FVec Ideal S2048x256 .bf16) (ix2 R l)
      = ((if (l : ℕ) / 64 = R / 512 then dmo A (t * 512 + R % 512) l else 0 : ℝ) : EReal) := by
  pointwise [k0_pay99, k0_pay96, k0_pay97, k0_pay98]
  simp only [hy, hg, hd_0, hd_1, hd_2, hd_3, select_ite, words, reals, coe_ite, dite_eq_ite]
  exact congrArg _ (stack_ite R (l / 64) fun ρ => dmo A (t * 512 + ρ) l)

/-- The scores of the stack. -/
noncomputable def scores (s : FVec Ideal S2048x256 .bf16) (k : FVec Ideal S256x256 .bf16) : FVec Ideal S2048x256 .f32 :=
  mulf (matmul dot_S2048x256_S256x256_S2048x256_1_1_0_0_n_n none s k (constant S2048x256 .f32 0x00000000#32))
    (broadcast S2048x256 (Scalar.ofBits .f32 0x3E000000#32))

/-- A row's largest score. -/
noncomputable def rowMax (x : FVec Ideal S2048x256 .f32) : FVec Ideal S2048 .f32 :=
  multiReduction .maximumf [1] S2048 x 0xFF800000#32 reduces_S2048x256_S2048 (.inl rfl) rfl

/-- The exponentials of the shifted scores over their row's sum. -/
noncomputable def softRows (x : FVec Ideal S2048x256 .f32) (m : FVec Ideal S2048 .f32) : FVec Ideal S2048x256 .f32 :=
  have e : FVec Ideal S2048x256 .f32 :=
    exp (subf x (broadcastTo S2048x256 (shapeCast S2048x1 m shapeCasts_S2048_S2048x1) broadcasts_S2048x1_S2048x256))
  have l : FVec Ideal S2048x1 .f32 :=
    shapeCast S2048x1 (multiReduction .add [1] S2048 e 0x00000000#32 reduces_S2048x256_S2048 (.inl rfl) rfl) shapeCasts_S2048_S2048x1
  mulf e (broadcastTo S2048x256 (divf (broadcast S2048x1 (Scalar.ofBits .f32 0x3F800000#32)) l) broadcasts_S2048x1_S2048x256)

theorem probs_unfold (k : FVec Ideal S256x256 .bf16) (q : FVec Ideal S512x256 .f32) (a b c) :
    k0_pay95 k q a b c = softRows (scores (k0_pay94 q a b c) k) (rowMax (scores (k0_pay94 q a b c) k)) := rfl

theorem scores_pt {s : FVec Ideal S2048x256 .bf16} (hs : ∀ R c, s (ix2 R c) = ((if (c : ℕ) / 64 = R / 512 then qm A (t * 512 + R % 512) c else 0 : ℝ) : EReal)) {k : FVec Ideal S256x256 .bf16} (hk : ∀ m c, k (ix2 m c) = ((A.kv (t / 4 * 256 + m) c : ℝ) : EReal)) (ht : t < 8) (R : Fin 2048) (m : Fin 256) :
    scores s k (ix2 R m) = ((sc A (R / 512) (t * 512 + R % 512) m : ℝ) : EReal) := by
  pointwise [scores]
  simp only [hs, hk, words, reals]
  refine congrArg _ ?_
  unfold sc km
  have hR := R.isLt
  rw [show (t * 512 + (R : ℕ) % 512) / 2048 = t / 4 by omega,
    ← sum_head (R / 512) (by omega) fun l => qm A (t * 512 + R % 512) l * A.kv (t / 4 * 256 + m) l]
  refine congrArg (· * _) (Finset.sum_congr rfl fun l _ => ?_)
  split_ifs <;> simp

theorem rowMax_pt {x : FVec Ideal S2048x256 .f32} {f : ℕ → ℕ → ℝ} (hx : ∀ R m, x (ix2 R m) = ((f R m : ℝ) : EReal)) (j : S2048.Idx) :
    ∃ M : ℝ, rowMax x j = (M : EReal) := by
  refine (fun (h : rowMax x j = _) => (h ▸ ?_ : ∃ M : ℝ, rowMax x j = (M : EReal)))
    (Ideal.multiReduction_maximumf_single x 0xFF800000#32 reduces_S2048x256_S2048 (.inl rfl) rfl j)
  rw [show (FloatOps.ofBits (F := Ideal) FTy.f32 0xFF800000#32 : EReal) = ⊥ from w_bot]
  refine fold_max_real_of ⟨(0 : Fin 256), Finset.mem_univ _⟩ _ fun i => ?_
  change ∃ r : ℝ, x (reduces_S2048x256_S2048.lift j i) = (r : EReal)
  generalize reduces_S2048x256_S2048.lift j i = y
  have e : y = ix2 (y 0) (y 1) := by
    funext c
    match c with
    | ⟨0, _⟩ => rfl
    | ⟨1, _⟩ => rfl
  rw [e]
  exact ⟨_, hx (y 0) (y 1)⟩

theorem softRows_pt {x : FVec Ideal S2048x256 .f32} {f : ℕ → ℕ → ℝ} (hx : ∀ R m, x (ix2 R m) = ((f R m : ℝ) : EReal))
    {m : FVec Ideal S2048 .f32} {M : Fin 2048 → ℝ} (hm : ∀ R, m (ix1 R) = ((M R : ℝ) : EReal)) (R : Fin 2048) (c : Fin 256) :
    softRows x m (ix2 R c) = ((Real.exp (f R c) / ∑ k : Fin 256, Real.exp (f R k) : ℝ) : EReal) := by
  pointwise [softRows]
  simp only [hx, hm, words, reals]
  rw [div_real _ (sum_exp_pos (by norm_num) _).ne', ← EReal.coe_mul]
  refine congrArg _ ?_
  rw [mul_one_div]
  exact softmax_shift (fun k : Fin 256 => f R k) (M R) c

/-- The probabilities of the stack. -/
theorem pr_pt {q : FVec Ideal S512x256 .f32} (hq : ∀ ρ c, q (ix2 ρ c) = ((qm A (t * 512 + ρ) c : ℝ) : EReal)) {k : FVec Ideal S256x256 .bf16} (hk : ∀ m c, k (ix2 m c) = ((A.kv (t / 4 * 256 + m) c : ℝ) : EReal)) (ht : t < 8) (R : Fin 2048) (m : Fin 256) :
    (k0_pay95 k q k0_pay91 k0_pay92 k0_pay93 : FVec Ideal S2048x256 .f32) (ix2 R m) = ((pr A (R / 512) (t * 512 + R % 512) m : ℝ) : EReal) := by
  have hs := qs_pt hq
  rw [probs_unfold]
  generalize (k0_pay94 q k0_pay91 k0_pay92 k0_pay93 : FVec Ideal S2048x256 .bf16) = s at hs ⊢
  have hx := scores_pt hs hk ht
  have hM := fun R : Fin 2048 => rowMax_pt (f := fun R m => sc A (R / 512) (t * 512 + R % 512) m) hx (ix1 R)
  choose M hM using hM
  exact softRows_pt (f := fun R m => sc A (R / 512) (t * 512 + R % 512) m) hx hM R m

/-- The heads' outputs, all lanes of every head's row. -/
theorem mo_pt {p : FVec Ideal S2048x256 .f32} (hp : ∀ R m, p (ix2 R m) = ((pr A (R / 512) (t * 512 + R % 512) m : ℝ) : EReal)) {v : FVec Ideal S256x256 .bf16} (hv : ∀ m c, v (ix2 m c) = ((A.kv (t / 4 * 256 + m) (256 + c) : ℝ) : EReal)) (R : Fin 2048) (c : Fin 256) :
    (k0_pay100 v p : FVec Ideal S2048x256 .f32) (ix2 R c) = ((∑ m : Fin 256, pr A (R / 512) (t * 512 + R % 512) m * A.kv (t / 4 * 256 + m) (256 + c) : ℝ) : EReal) := by
  pointwise [k0_pay100]
  simp only [hp, hv, reals]

/-- Of the four heads' rows the lane's own is taken. -/
theorem pick_ite (l : Fin 256) (ρ : ℕ) (hρ : ρ < 512) (f : ℕ → ℝ) :
    (if (l : ℕ) / 64 = 3 then f (1536 + ρ) else if (l : ℕ) / 64 = 2 then f (1024 + ρ) else if (l : ℕ) / 64 = 1 then f (512 + ρ) else f ρ)
      = f ((l : ℕ) / 64 * 512 + ρ) := by
  have := l.isLt
  split_ifs <;> (refine congrArg f ?_; omega)

/-- The gradient of the memory's gate. -/
theorem dzm_pt {y : FVec Ideal S512x256 .f32} (hy : ∀ ρ c, y (ix2 ρ c) = ((dsi (zm A (t * 512 + ρ) c) : ℝ) : EReal)) {g : FVec Ideal S512x256 .f32} (hg : ∀ ρ c, g (ix2 ρ c) = ((dg A (t * 512 + ρ) (768 + c) : ℝ) : EReal)) {x : FVec Ideal S2048x256 .f32} (hx : ∀ R c, x (ix2 R c) = ((∑ m : Fin 256, pr A (R / 512) (t * 512 + R % 512) m * A.kv (t / 4 * 256 + m) (256 + c) : ℝ) : EReal)) (ht : t < 8) (ρ : Fin 512) (c : Fin 256) :
    (k0_pay102 y g x (iota .tc S512x256 32 [1] iota_S512x256_d1_w32) 64#32 k0_pay101 0#32 : FVec Ideal S512x256 .bf16) (ix2 ρ c) = ((dzm A (t * 512 + ρ) c : ℝ) : EReal) := by
  pointwise [k0_pay102, k0_pay101]
  simp only [hy, hg, hx, hd_0, hd_1, hd_2, hd_3, select_ite, words, reals, coe_ite]
  refine congrArg _ ?_
  rw [pick_ite c ρ ρ.isLt fun R => ∑ m : Fin 256, pr A (R / 512) (t * 512 + R % 512) m * A.kv (t / 4 * 256 + m) (256 + c)]
  unfold dzm mo vm
  have hρ := ρ.isLt
  rw [show (t * 512 + (ρ : ℕ)) / 2048 = t / 4 by omega, show ((c : ℕ) / 64 * 512 + (ρ : ℕ)) / 512 = c / 64 by omega,
    show ((c : ℕ) / 64 * 512 + (ρ : ℕ)) % 512 = ρ by omega]

/-- The gradient of the scores. -/
theorem ds_pt {p : FVec Ideal S2048x256 .f32} (hp : ∀ R m, p (ix2 R m) = ((pr A (R / 512) (t * 512 + R % 512) m : ℝ) : EReal)) {o : FVec Ideal S2048x256 .bf16} (ho : ∀ R c, o (ix2 R c) = ((if (c : ℕ) / 64 = R / 512 then dmo A (t * 512 + R % 512) c else 0 : ℝ) : EReal)) {v : FVec Ideal S256x256 .bf16} (hv : ∀ m c, v (ix2 m c) = ((A.kv (t / 4 * 256 + m) (256 + c) : ℝ) : EReal)) (ht : t < 8) (R : Fin 2048) (m : Fin 256) :
    (k0_pay104 (k0_pay103 v p o) (Scalar.ofBits .f32 0x3E000000#32) : FVec Ideal S2048x256 .bf16) (ix2 R m) = ((ds A (R / 512) (t * 512 + R % 512) m : ℝ) : EReal) := by
  pointwise [k0_pay104, k0_pay103]
  simp only [hp, ho, hv, words, reals]
  refine congrArg _ ?_
  have hR := R.isLt
  have e : ∀ n : Fin 256, (∑ l : Fin 256, (if (l : ℕ) / 64 = R / 512 then dmo A (t * 512 + R % 512) l else 0) * A.kv (t / 4 * 256 + n) (256 + l))
      = dp A (R / 512) (t * 512 + R % 512) n := fun n => by
    unfold dp vm
    rw [show (t * 512 + (R : ℕ) % 512) / 2048 = t / 4 by omega,
      ← sum_head (R / 512) (by omega) fun l => dmo A (t * 512 + R % 512) l * A.kv (t / 4 * 256 + n) (256 + l)]
    refine Finset.sum_congr rfl fun l _ => ?_
    split_ifs <;> simp
  simp only [e]
  rfl

/-- The gradient of the queries. -/
theorem dqm_pt {x : FVec Ideal S2048x256 .f32} (hd : ∀ R m, (k0_pay104 x (Scalar.ofBits .f32 0x3E000000#32) : FVec Ideal S2048x256 .bf16) (ix2 R m) = ((ds A (R / 512) (t * 512 + R % 512) m : ℝ) : EReal))
    {k : FVec Ideal S256x256 .bf16} (hk : ∀ m c, k (ix2 m c) = ((A.kv (t / 4 * 256 + m) c : ℝ) : EReal)) (ht : t < 8) (ρ : Fin 512) (c : Fin 256) :
    (k0_pay105 k x (Scalar.ofBits .f32 0x3E000000#32) : FVec Ideal S512x256 .bf16) (ix2 ρ c) = ((dqm A (t * 512 + ρ) c : ℝ) : EReal) := by
  generalize hD : (k0_pay104 x (Scalar.ofBits .f32 0x3E000000#32) : FVec Ideal S2048x256 .bf16) = D at hd
  unfold k0_pay105
  rw [hD]
  pointwise
  simp only [hd, hk, hd_0, hd_1, hd_2, hd_3, select_ite, words, reals, coe_ite]
  refine congrArg _ ?_
  rw [pick_ite c ρ ρ.isLt fun R => ∑ m : Fin 256, ds A (R / 512) (t * 512 + R % 512) m * A.kv (t / 4 * 256 + m) c]
  unfold dqm km
  have hρ := ρ.isLt
  rw [show (t * 512 + (ρ : ℕ)) / 2048 = t / 4 by omega, show ((c : ℕ) / 64 * 512 + (ρ : ℕ)) / 512 = c / 64 by omega,
    show ((c : ℕ) / 64 * 512 + (ρ : ℕ)) % 512 = ρ by omega]

/-- What the block adds to the gradient of the keys. -/
theorem dkm_pt {s : FVec Ideal S2048x256 .bf16} (hs : ∀ R c, s (ix2 R c) = ((if (c : ℕ) / 64 = R / 512 then qm A (t * 512 + R % 512) c else 0 : ℝ) : EReal)) {d : FVec Ideal S2048x256 .bf16} (hd : ∀ R m, d (ix2 R m) = ((ds A (R / 512) (t * 512 + R % 512) m : ℝ) : EReal)) {p : Vec Ideal S256x256 .f32} {q : ℝ} (m c : Fin 256) (hp : p (ix2 m c) = (q : EReal)) :
    (k0_pay1 s d p : FVec Ideal S256x256 .f32) (ix2 m c) = ((q + dkmT A t m c : ℝ) : EReal) := by
  pointwise [k0_pay1]
  simp only [hs, hd, hp, words, reals]
  refine congrArg (fun x : ℝ => (x : EReal)) (congrArg (q + ·) ?_)
  unfold dkmT
  rw [← sum_stack (c / 64) (by omega) fun ρ => ds A (c / 64) (t * 512 + ρ) m * qm A (t * 512 + ρ) c]
  refine Finset.sum_congr rfl fun R _ => ?_
  split_ifs with h
  · rw [h]
  · simp

/-- What the block adds to the gradient of the values. -/
theorem dvm_pt {p : FVec Ideal S2048x256 .f32} (hp : ∀ R m, p (ix2 R m) = ((pr A (R / 512) (t * 512 + R % 512) m : ℝ) : EReal)) {o : FVec Ideal S2048x256 .bf16} (ho : ∀ R c, o (ix2 R c) = ((if (c : ℕ) / 64 = R / 512 then dmo A (t * 512 + R % 512) c else 0 : ℝ) : EReal)) {w : Vec Ideal S256x256 .f32} {q : ℝ} (m c : Fin 256) (hw : w (ix2 m c) = (q : EReal)) :
    (k0_pay2 p o w : FVec Ideal S256x256 .f32) (ix2 m c) = ((q + dvmT A t m c : ℝ) : EReal) := by
  pointwise [k0_pay2]
  simp only [hp, ho, hw, words, reals]
  refine congrArg (fun x : ℝ => (x : EReal)) (congrArg (q + ·) ?_)
  unfold dvmT
  rw [← sum_stack (c / 64) (by omega) fun ρ => pr A (c / 64) (t * 512 + ρ) m * dmo A (t * 512 + ρ) c]
  refine Finset.sum_congr rfl fun R _ => ?_
  split_ifs with h
  · rw [h]
  · simp

/-- The gradient of the biases from the sum over the chunks. -/
theorem db_pt {f : ℕ → ℕ → ℝ} {x : Vec Ideal S128x256 .f32} (hx : ∀ r c, x (ix2 r c) = ((f r c : ℝ) : EReal)) (g : Fin 4) (s : Fin 128) :
    (k0_pay3 x : FVec Ideal S4x128 .f32) (ix2 g s) = ((∑ e : Fin 64, f s (g * 64 + e) : ℝ) : EReal) := by
  pointwise [k0_pay3]
  simp only [hx, hd_any, sitofp_ite, words, reals, coe_ite, sub_self, zero_mul, Finset.sum_const_zero, add_zero]
  refine congrArg _ ?_
  rw [← sum_head g g.isLt fun l => f s l]
  refine Finset.sum_congr rfl fun l _ => ?_
  split_ifs <;> simp

end Cert.Branch
-- ==== Proof.KerBlock.lean ====
/- The pieces a block's stores leave, read back: each list of stores is given by its payloads, and every element of what
   they leave is a real number of the specification. -/
module

public import proofs.«01_k».proof.Proof.Loads
public import proofs.«01_k».proof.Proof.KerMem
public import proofs.«01_k».proof.Proof.Gen.KernelIdeal.Value
public import Idealize.ShloMosaic.Lib.Pipeline.ReadBack
public import Idealize.ShloMosaic.Lib.Pipeline.ValueKit.Geometry

@[expose] public section

set_option maxRecDepth 16384

noncomputable section

namespace Cert.Branch

open Idealize.ShloMosaic Cert.Reals Cert.Loads Idealize.ShloMosaic.Tactic
open Cert.KernelIdeal Cert.KernelIdeal.Gen

/-- What the blocks of the inputs hold at point `t` of the grid. -/
structure Block (A : Args) (t : ℕ) (x0 : Vec Ideal S512x1024 .f32) (x1 : Vec Ideal S1024x1024 .bf16) (x2 : Vec Ideal S512x512 .f32)
    (x3 x4 x5 x6 x7 : Vec Ideal S512x256 .f32) (x8 : Vec Ideal S512x512 .f32) (x9 : Vec Ideal S256x512 .f32)
    (x10 : Vec Ideal S4x128x128 .f32) (x11 : Vec Ideal S128x256 .f32) (x12 : Vec Ideal S1x256 .f32) : Prop where
  lt : t < 8
  ct : ∀ (ρ : Fin 512) (k : Fin 1024), x0 (ix2 ρ k) = ((A.ct (t * 512 + ρ) k : ℝ) : EReal)
  w : ∀ (j : Fin 1024) (k : Fin 1024), x1 (ix2 j k) = ((A.w j k : ℝ) : EReal)
  za : ∀ (ρ : Fin 512) (c : Fin 512), x2 (ix2 ρ c) = ((za A (t * 512 + ρ) c : ℝ) : EReal)
  ub : ∀ (ρ : Fin 512) (c : Fin 256), x3 (ix2 ρ c) = ((ub A (t * 512 + ρ) c : ℝ) : EReal)
  vb : ∀ (ρ : Fin 512) (c : Fin 256), x4 (ix2 ρ c) = ((vb A (t * 512 + ρ) c : ℝ) : EReal)
  zb : ∀ (ρ : Fin 512) (c : Fin 256), x5 (ix2 ρ c) = ((zb A (t * 512 + ρ) c : ℝ) : EReal)
  qm : ∀ (ρ : Fin 512) (c : Fin 256), x6 (ix2 ρ c) = ((qm A (t * 512 + ρ) c : ℝ) : EReal)
  zm : ∀ (ρ : Fin 512) (c : Fin 256), x7 (ix2 ρ c) = ((zm A (t * 512 + ρ) c : ℝ) : EReal)
  a : ∀ (ρ : Fin 512) (c : Fin 512), x8 (ix2 ρ c) = ((A.a (t * 512 + ρ) c : ℝ) : EReal)
  kv : ∀ (m : Fin 256) (c : Fin 512), x9 (ix2 m c) = ((A.kv (t / 4 * 256 + m) c : ℝ) : EReal)
  ws : ∀ (g : Fin 4) (r s : Fin 128), x10 (ix3 g r s) = ((A.ws g r s : ℝ) : EReal)
  bs : ∀ (r : Fin 128) (c : Fin 256), x11 (ix2 r c) = ((A.bs (c / 64) r : ℝ) : EReal)
  gv : ∀ (z : Fin 1) (c : Fin 256), x12 (ix2 z c) = ((A.gv c : ℝ) : EReal)

/-- A piece at `(a, b)` is the block there of `f`, when its payload is `f` shifted. -/
theorem piece2 {M N m n : ℕ} {f : ℕ → ℕ → ℝ} {a b : ℕ} {inb} {w : (⟨2, ![m, n]⟩ : Shape).Idx → EReal}
    (h : ∀ (r : Fin m) (c : Fin n), w (ix2 r c) = ((f (a + r) (b + c) : ℝ) : EReal)) (x : (⟨2, ![m, n]⟩ : Shape).Idx) :
    w x = ((f ((Rect.unit (s := (⟨2, ![M, N]⟩ : Shape)) ![a, b] ![m, n] inb).emb x 0) ((Rect.unit (s := (⟨2, ![M, N]⟩ : Shape)) ![a, b] ![m, n] inb).emb x 1) : ℝ) : EReal) := by
  rw [ValueKit.rect_emb_unit_val, ValueKit.rect_emb_unit_val, eq_ix2 x]
  exact h (x 0) (x 1)

theorem piece3 {L M N l m n : ℕ} {f : ℕ → ℕ → ℕ → ℝ} {k a b : ℕ} {inb} {w : (⟨3, ![l, m, n]⟩ : Shape).Idx → EReal}
    (h : ∀ (z : Fin l) (r : Fin m) (c : Fin n), w (ix3 z r c) = ((f (k + z) (a + r) (b + c) : ℝ) : EReal)) (x : (⟨3, ![l, m, n]⟩ : Shape).Idx) :
    w x = ((f ((Rect.unit (s := (⟨3, ![L, M, N]⟩ : Shape)) ![k, a, b] ![l, m, n] inb).emb x 0) ((Rect.unit (s := (⟨3, ![L, M, N]⟩ : Shape)) ![k, a, b] ![l, m, n] inb).emb x 1)
      ((Rect.unit (s := (⟨3, ![L, M, N]⟩ : Shape)) ![k, a, b] ![l, m, n] inb).emb x 2) : ℝ) : EReal) := by
  rw [ValueKit.rect_emb_unit_val, ValueKit.rect_emb_unit_val, ValueKit.rect_emb_unit_val, eq_ix3 x]
  exact h (x 0) (x 1) (x 2)

/-- A tile of 128 by 128 in the block `t` of 512 rows. -/
theorem tile {M N : ℕ} {f : ℕ → ℕ → ℝ} {t a b : ℕ} {inb} {w : (⟨2, ![128, 128]⟩ : Shape).Idx → EReal} {row col : Fin 128 → ℕ}
    (h : ∀ r c, w (ix2 r c) = ((f (t * 512 + row r) (col c) : ℝ) : EReal)) (hr : ∀ r, row r = a + r := by intro r; omega)
    (hc : ∀ c, col c = b + c := by intro c; omega) (x : (⟨2, ![128, 128]⟩ : Shape).Idx) :
    w x = ((f (t * 512 + ((Rect.unit (s := (⟨2, ![M, N]⟩ : Shape)) ![a, b] ![128, 128] inb).emb x 0 : ℕ))
      ((Rect.unit (s := (⟨2, ![M, N]⟩ : Shape)) ![a, b] ![128, 128] inb).emb x 1) : ℝ) : EReal) :=
  piece2 (f := fun r c => f (t * 512 + r) c) (fun r c => by rw [h, hr, hc]) x

/-- A load at `(a, b)` of a matrix. -/
theorem ld2 {M N m n : ℕ} {e : EltTy} {a b : ℕ} {inb} (X : (⟨2, ![M, N]⟩ : Shape).Idx → Elt Ideal e) (r : Fin m) (c : Fin n) (ha : a + r < M) (hb : b + c < N) :
    (View.ld X (Rect.unit ![a, b] ![m, n] inb) : (⟨2, ![m, n]⟩ : Shape).Idx → Elt Ideal e) (ix2 r c) = X (ix2 ⟨a + r, ha⟩ ⟨b + c, hb⟩) := by
  refine congrArg X (funext fun d => Fin.ext ?_)
  match d with
  | ⟨0, _⟩ => exact ValueKit.rect_emb_unit_val (s := (⟨2, ![M, N]⟩ : Shape)) _ _ inb (ix2 r c) 0
  | ⟨1, _⟩ => exact ValueKit.rect_emb_unit_val (s := (⟨2, ![M, N]⟩ : Shape)) _ _ inb (ix2 r c) 1

theorem ld3 {L M N l m n : ℕ} {e : EltTy} {k a b : ℕ} {inb} (X : (⟨3, ![L, M, N]⟩ : Shape).Idx → Elt Ideal e) (z : Fin l) (r : Fin m) (c : Fin n)
    (hk : k + z < L) (ha : a + r < M) (hb : b + c < N) :
    (View.ld X (Rect.unit ![k, a, b] ![l, m, n] inb) : (⟨3, ![l, m, n]⟩ : Shape).Idx → Elt Ideal e) (ix3 z r c) = X (ix3 ⟨k + z, hk⟩ ⟨a + r, ha⟩ ⟨b + c, hb⟩) := by
  refine congrArg X (funext fun d => Fin.ext ?_)
  match d with
  | ⟨0, _⟩ => exact ValueKit.rect_emb_unit_val (s := (⟨3, ![L, M, N]⟩ : Shape)) _ _ inb (ix3 z r c) 0
  | ⟨1, _⟩ => exact ValueKit.rect_emb_unit_val (s := (⟨3, ![L, M, N]⟩ : Shape)) _ _ inb (ix3 z r c) 1
  | ⟨2, _⟩ => exact ValueKit.rect_emb_unit_val (s := (⟨3, ![L, M, N]⟩ : Shape)) _ _ inb (ix3 z r c) 2

variable {A : Args} {t : ℕ}

/-- One head's slice of an array of four. -/
theorem ws_slice {x10 : Vec Ideal S4x128x128 .f32} {q : ℕ → ℕ → ℕ → ℝ} (h : ∀ (g : Fin 4) (r s : Fin 128), x10 (ix3 g r s) = ((q g r s : ℝ) : EReal))
    (g : ℕ) (hg : g < 4) (inb) (z : Fin 1) (r s : Fin 128) :
    (View.ld x10 (Rect.unit ![g, 0, 0] ![1, 128, 128] inb) : Vec Ideal S1x128x128 .f32) (ix3 z r s) = ((q g r s : ℝ) : EReal) := by
  refine (ld3 x10 z r s (by omega) (by omega) (by omega)).trans ((h _ _ _).trans ?_)
  obtain rfl : z = 0 := Subsingleton.elim _ _
  simp only [Nat.zero_add, Fin.val_zero, Nat.add_zero]

/-- One head's mixing weights, as they are loaded. -/
abbrev hd (x10 : Vec Ideal S4x128x128 .f32) (g : ℕ) (inb : ∀ a, (![g, 0, 0] : Fin 3 → ℕ) a + (![1, 128, 128] : Fin 3 → ℕ) a ≤ S4x128x128.size a) : Vec Ideal S1x128x128 .f32 := View.ld x10 (Rect.unit ![g, 0, 0] ![1, 128, 128] inb)

/-- The stores of the mixed half: eight tiles. -/
def mixL (n : FVec Ideal S512x256 .f32) (x10 : Vec Ideal S4x128x128 .f32) : List (View.Piece (Elt Ideal) S512x256 .f32) :=
  [⟨Rect.unit ![384, 128] ![128, 128] inb_S512x256_S128x128_384_128, k0_pay42 (k0_pay38 (k0_pay30 n) k0_pay31 (hd x10 2 inb_S4x128x128_S1x128x128_2_0_0) (hd x10 3 inb_S4x128x128_S1x128x128_3_0_0))⟩,
   ⟨Rect.unit ![256, 128] ![128, 128] inb_S512x256_S128x128_256_128, k0_pay41 (k0_pay30 n) k0_pay31 (hd x10 2 inb_S4x128x128_S1x128x128_2_0_0) (hd x10 3 inb_S4x128x128_S1x128x128_3_0_0)⟩,
   ⟨Rect.unit ![128, 128] ![128, 128] inb_S512x256_S128x128_128_128, k0_pay40 (k0_pay30 n) k0_pay31 (hd x10 2 inb_S4x128x128_S1x128x128_2_0_0) (hd x10 3 inb_S4x128x128_S1x128x128_3_0_0)⟩,
   ⟨Rect.unit ![0, 128] ![128, 128] inb_S512x256_S128x128_0_128, k0_pay39 (k0_pay30 n) k0_pay31 (hd x10 2 inb_S4x128x128_S1x128x128_2_0_0) (hd x10 3 inb_S4x128x128_S1x128x128_3_0_0)⟩,
   ⟨Rect.unit ![384, 0] ![128, 128] inb_S512x256_S128x128_384_0, k0_pay37 (k0_pay32 n (hd x10 0 inb_S4x128x128_S1x128x128_0_0_0) (hd x10 1 inb_S4x128x128_S1x128x128_1_0_0))⟩,
   ⟨Rect.unit ![256, 0] ![128, 128] inb_S512x256_S128x128_256_0, k0_pay36 (k0_pay32 n (hd x10 0 inb_S4x128x128_S1x128x128_0_0_0) (hd x10 1 inb_S4x128x128_S1x128x128_1_0_0))⟩,
   ⟨Rect.unit ![128, 0] ![128, 128] inb_S512x256_S128x128_128_0, k0_pay35 (k0_pay34 n (hd x10 0 inb_S4x128x128_S1x128x128_0_0_0) (hd x10 1 inb_S4x128x128_S1x128x128_1_0_0))⟩,
   ⟨Rect.unit ![0, 0] ![128, 128] inb_S512x256_S128x128_0_0, k0_pay33 n (hd x10 0 inb_S4x128x128_S1x128x128_0_0_0) (hd x10 1 inb_S4x128x128_S1x128x128_1_0_0)⟩]

/-- The stores of the gradient of the normalised half: eight tiles. -/
def dvnL (n : FVec Ideal S512x256 .f32) (x10 : Vec Ideal S4x128x128 .f32) : List (View.Piece (Elt Ideal) S512x256 .f32) :=
  [⟨Rect.unit ![384, 128] ![128, 128] inb_S512x256_S128x128_384_128, k0_pay80 (k0_pay75 (k0_pay58 128#32 k0_pay55 k0_pay56 k0_pay57) (k0_pay69 n) (hd x10 2 inb_S4x128x128_S1x128x128_2_0_0) (hd x10 3 inb_S4x128x128_S1x128x128_3_0_0))⟩,
   ⟨Rect.unit ![256, 128] ![128, 128] inb_S512x256_S128x128_256_128, k0_pay79 (k0_pay75 (k0_pay58 128#32 k0_pay55 k0_pay56 k0_pay57) (k0_pay69 n) (hd x10 2 inb_S4x128x128_S1x128x128_2_0_0) (hd x10 3 inb_S4x128x128_S1x128x128_3_0_0))⟩,
   ⟨Rect.unit ![128, 128] ![128, 128] inb_S512x256_S128x128_128_128, k0_pay78 (k0_pay77 (k0_pay58 128#32 k0_pay55 k0_pay56 k0_pay57) (k0_pay69 n) (hd x10 2 inb_S4x128x128_S1x128x128_2_0_0) (hd x10 3 inb_S4x128x128_S1x128x128_3_0_0))⟩,
   ⟨Rect.unit ![0, 128] ![128, 128] inb_S512x256_S128x128_0_128, k0_pay76 (k0_pay58 128#32 k0_pay55 k0_pay56 k0_pay57) (k0_pay69 n) (hd x10 2 inb_S4x128x128_S1x128x128_2_0_0) (hd x10 3 inb_S4x128x128_S1x128x128_3_0_0)⟩,
   ⟨Rect.unit ![384, 0] ![128, 128] inb_S512x256_S128x128_384_0, k0_pay68 (k0_pay58 128#32 k0_pay55 k0_pay56 k0_pay57) (k0_pay59 n) (k0_pay63 (hd x10 0 inb_S4x128x128_S1x128x128_0_0_0)) (hd x10 1 inb_S4x128x128_S1x128x128_1_0_0)⟩,
   ⟨Rect.unit ![256, 0] ![128, 128] inb_S512x256_S128x128_256_0, k0_pay67 (k0_pay58 128#32 k0_pay55 k0_pay56 k0_pay57) (k0_pay59 n) (k0_pay63 (hd x10 0 inb_S4x128x128_S1x128x128_0_0_0)) (hd x10 1 inb_S4x128x128_S1x128x128_1_0_0)⟩,
   ⟨Rect.unit ![128, 0] ![128, 128] inb_S512x256_S128x128_128_0, k0_pay66 (k0_pay58 128#32 k0_pay55 k0_pay56 k0_pay57) (k0_pay59 n) (k0_pay63 (hd x10 0 inb_S4x128x128_S1x128x128_0_0_0)) (hd x10 1 inb_S4x128x128_S1x128x128_1_0_0)⟩,
   ⟨Rect.unit ![0, 0] ![128, 128] inb_S512x256_S128x128_0_0, k0_pay65 (k0_pay58 128#32 k0_pay55 k0_pay56 k0_pay57) (k0_pay59 n) (k0_pay63 (hd x10 0 inb_S4x128x128_S1x128x128_0_0_0)) (hd x10 1 inb_S4x128x128_S1x128x128_1_0_0)⟩]

/-- What they leave, read whole. -/
theorem mix_read {n : FVec Ideal S512x256 .f32} (hn : ∀ ρ c, n (ix2 ρ c) = ((vn A (t * 512 + ρ) c : ℝ) : EReal))
    {x10 : Vec Ideal S4x128x128 .f32} (hw : ∀ (g : Fin 4) (r s : Fin 128), x10 (ix3 g r s) = ((A.ws g r s : ℝ) : EReal))
    {κ : Kind} {sp : Space} (v : View sig κ sp S512x256 .f32) (ρ : Fin 512) (c : Fin 256) :
    (v.readCov (mixL n x10) (Rect.unit (s := S512x256) ![0, 0] ![512, 256] inb_S512x256_S512x256_0_0).toLoadRect : Vec Ideal S512x256 .f32) (ix2 ρ c) = ((mix0 A (t * 512 + ρ) c : ℝ) : EReal) := by
  have hcov : ∀ y, ∃ p ∈ mixL n x10, y ∈ p.1.set := View.cover_of_tiledBy _ ![128, 128] (by sl_kernel_rfl)
  rw [View.readCov_eq_canon_ld v _ _ hcov, View.ld_unit_zero (S := S512x256) hz2]
  have hp : View.PiecesOf (fun y : S512x256.Idx => ((mix0 A (t * 512 + (y 0 : ℕ)) (y 1 : ℕ) : ℝ) : EReal)) (mixL n x10) := by
    have w0 := ws_slice hw 0 (by omega) inb_S4x128x128_S1x128x128_0_0_0
    have w1 := ws_slice hw 1 (by omega) inb_S4x128x128_S1x128x128_1_0_0
    have w2 := ws_slice hw 2 (by omega) inb_S4x128x128_S1x128x128_2_0_0
    have w3 := ws_slice hw 3 (by omega) inb_S4x128x128_S1x128x128_3_0_0
    exact ⟨tile (inb := inb_S512x256_S128x128_384_128) (mix_pt13 hn w2 w3), tile (inb := inb_S512x256_S128x128_256_128) (mix_pt12 hn w2 w3), tile (inb := inb_S512x256_S128x128_128_128) (mix_pt11 hn w2 w3), tile (inb := inb_S512x256_S128x128_0_128) (mix_pt10 hn w2 w3), tile (inb := inb_S512x256_S128x128_384_0) (mix_pt03 hn w0 w1), tile (inb := inb_S512x256_S128x128_256_0) (mix_pt02 hn w0 w1), tile (inb := inb_S512x256_S128x128_128_0) (mix_pt01 hn w0 w1), tile (inb := inb_S512x256_S128x128_0_0) (mix_pt00 hn w0 w1), trivial⟩
  exact View.canon_apply_of_pieces (fun y : S512x256.Idx => ((mix0 A (t * 512 + (y 0 : ℕ)) (y 1 : ℕ) : ℝ) : EReal)) _ hp.mem _ (hcov _)

/-- What they leave, read whole. -/
theorem dvn_read {n : FVec Ideal S512x256 .f32} (hn : ∀ ρ c, n (ix2 ρ c) = ((dmix A (t * 512 + ρ) c : ℝ) : EReal))
    {x10 : Vec Ideal S4x128x128 .f32} (hw : ∀ (g : Fin 4) (r s : Fin 128), x10 (ix3 g r s) = ((A.ws g r s : ℝ) : EReal))
    {κ : Kind} {sp : Space} (v : View sig κ sp S512x256 .f32) (ρ : Fin 512) (c : Fin 256) :
    (v.readCov (dvnL n x10) (Rect.unit (s := S512x256) ![0, 0] ![512, 256] inb_S512x256_S512x256_0_0).toLoadRect : Vec Ideal S512x256 .f32) (ix2 ρ c) = ((dvn A (t * 512 + ρ) c : ℝ) : EReal) := by
  have hcov : ∀ y, ∃ p ∈ dvnL n x10, y ∈ p.1.set := View.cover_of_tiledBy _ ![128, 128] (by sl_kernel_rfl)
  rw [View.readCov_eq_canon_ld v _ _ hcov, View.ld_unit_zero (S := S512x256) hz2]
  have hp : View.PiecesOf (fun y : S512x256.Idx => ((dvn A (t * 512 + (y 0 : ℕ)) (y 1 : ℕ) : ℝ) : EReal)) (dvnL n x10) := by
    have w0 := ws_slice hw 0 (by omega) inb_S4x128x128_S1x128x128_0_0_0
    have w1 := ws_slice hw 1 (by omega) inb_S4x128x128_S1x128x128_1_0_0
    have w2 := ws_slice hw 2 (by omega) inb_S4x128x128_S1x128x128_2_0_0
    have w3 := ws_slice hw 3 (by omega) inb_S4x128x128_S1x128x128_3_0_0
    exact ⟨tile (inb := inb_S512x256_S128x128_384_128) (dvn_pt13 hn w2 w3), tile (inb := inb_S512x256_S128x128_256_128) (dvn_pt12 hn w2 w3), tile (inb := inb_S512x256_S128x128_128_128) (dvn_pt11 hn w2 w3), tile (inb := inb_S512x256_S128x128_0_128) (dvn_pt10 hn w2 w3), tile (inb := inb_S512x256_S128x128_384_0) (dvn_pt03 hn w0 w1), tile (inb := inb_S512x256_S128x128_256_0) (dvn_pt02 hn w0 w1), tile (inb := inb_S512x256_S128x128_128_0) (dvn_pt01 hn w0 w1), tile (inb := inb_S512x256_S128x128_0_0) (dvn_pt00 hn w0 w1), trivial⟩
  exact View.canon_apply_of_pieces (fun y : S512x256.Idx => ((dvn A (t * 512 + (y 0 : ℕ)) (y 1 : ℕ) : ℝ) : EReal)) _ hp.mem _ (hcov _)

end Cert.Branch
-- ==== Proof.KerOut.lean ====
/- What one block of the grid leaves in each result, from the blocks of the inputs and the sums carried so far. -/
module

public import proofs.«01_k».proof.Proof.KerBlock

@[expose] public section

set_option maxRecDepth 16384

noncomputable section

namespace Cert.Branch

open Idealize.ShloMosaic Cert.Reals Idealize.ShloMosaic.Tactic
open Cert.KernelIdeal Cert.KernelIdeal.Gen

/-! ## The values that several stores share -/

section
variable (x0 : Vec Ideal S512x1024 .f32) (x1 : Vec Ideal S1024x1024 .bf16) (x2 : Vec Ideal S512x512 .f32)
    (x3 x4 x5 x6 x7 : Vec Ideal S512x256 .f32) (x8 : Vec Ideal S512x512 .f32) (x9 : Vec Ideal S256x512 .f32)
    (x10 : Vec Ideal S4x128x128 .f32) (x11 : Vec Ideal S128x256 .f32) (x12 : Vec Ideal S1x256 .f32)

/-- The gradient of the mixed half. -/
def dmixV : FVec Ideal S512x256 .f32 := k0_pay50 (k0_pay8 x0 x1) (k0_pay20 x3) x5

/-- The normalised half. -/
def vnV : FVec Ideal S512x256 .f32 := k0_pay29 (k0_pay17 x4) x12

/-- The memory's keys and values, the queries, the probabilities, the stacked gradient of the attention's output. -/
def keyV : FVec Ideal S256x256 .bf16 := k0_pay88 (View.ld x9 (Rect.unit ![0, 0] ![256, 256] inb_S256x512_S256x256_0_0))

def valV : FVec Ideal S256x256 .bf16 := k0_pay89 (View.ld x9 (Rect.unit ![0, 256] ![256, 256] inb_S256x512_S256x256_0_256))

def prV : FVec Ideal S2048x256 .f32 := k0_pay95 (keyV x9) (k0_pay90 x6) k0_pay91 k0_pay92 k0_pay93

def osV : FVec Ideal S2048x256 .bf16 :=
  k0_pay99 (k0_pay96 (k0_pay85 x7) (k0_pay87 (k0_pay8 x0 x1))) (iota .tc S512x256 32 [1] iota_S512x256_d1_w32) 64#32 k0_pay97 k0_pay98

def dsV : FVec Ideal S2048x256 .f32 := k0_pay103 (valV x9) (prV x6 x9) (osV x0 x1 x7)

/-! ## The stores -/

/-- The six column pieces of the projection's gradient; `mx` and `dv` are the mixed half and its gradient as read back. -/
def drL (mx dv : Vec Ideal S512x256 .f32) : List (View.Piece (Elt Ideal) S512x1792 .bf16) :=
  [⟨Rect.unit ![0, 1280] ![512, 256] inb_S512x1792_S512x256_0_1280, k0_pay105 (keyV x9) (dsV x0 x1 x6 x7 x9) (Scalar.ofBits .f32 0x3E000000#32)⟩,
   ⟨Rect.unit ![0, 1536] ![512, 256] inb_S512x1792_S512x256_0_1536, k0_pay102 (k0_pay86 x7) (k0_pay87 (k0_pay8 x0 x1)) (k0_pay100 (valV x9) (prV x6 x9)) (iota .tc S512x256 32 [1] iota_S512x256_d1_w32) 64#32 k0_pay101 0#32⟩,
   ⟨Rect.unit ![0, 768] ![512, 256] inb_S512x1792_S512x256_0_768, k0_pay82 (k0_pay26 (k0_pay17 x4)) (k0_pay27 (k0_pay17 x4)) (k0_pay28 (k0_pay17 x4)) x12 dv⟩,
   ⟨Rect.unit ![0, 1024] ![512, 256] inb_S512x1792_S512x256_0_1024, k0_pay49 (k0_pay8 x0 x1) (k0_pay20 x3) mx x11 x5⟩,
   ⟨Rect.unit ![0, 512] ![512, 256] inb_S512x1792_S512x256_0_512, k0_pay48 (k0_pay8 x0 x1) (k0_pay23 (k0_pay19 x3) (k0_pay21 x3) (k0_pay22 x3)) mx x11 x5⟩,
   ⟨Rect.unit ![0, 0] ![512, 512] inb_S512x1792_S512x512_0_0, k0_pay15 (k0_pay8 x0 x1) (k0_pay10 x2) (k0_pay12 x2) (Scalar.ofBits .f32 0x3F800000#32) x8⟩]

/-- The two column pieces of the memory's gradient, added to what was there. -/
def kvL (p : Vec Ideal S256x512 .f32) : List (View.Piece (Elt Ideal) S256x512 .f32) :=
  [⟨Rect.unit ![0, 256] ![256, 256] inb_S256x512_S256x256_0_256, k0_pay2 (prV x6 x9) (osV x0 x1 x7) (View.ld p (Rect.unit ![0, 256] ![256, 256] inb_S256x512_S256x256_0_256))⟩,
   ⟨Rect.unit ![0, 0] ![256, 256] inb_S256x512_S256x256_0_0, k0_pay1 (k0_pay94 (k0_pay90 x6) k0_pay91 k0_pay92 k0_pay93) (k0_pay104 (dsV x0 x1 x6 x7 x9) (Scalar.ofBits .f32 0x3E000000#32)) (View.ld p (Rect.unit ![0, 0] ![256, 256] inb_S256x512_S256x256_0_0))⟩]

/-- The four heads' gradients of the mixing weights, added to what was there. -/
def wsL (p : Vec Ideal S4x128x128 .f32) : List (View.Piece (Elt Ideal) S4x128x128 .f32) :=
  [⟨Rect.unit ![3, 0, 0] ![1, 128, 128] inb_S4x128x128_S1x128x128_3_0_0, k0_pay74 (k0_pay58 128#32 k0_pay55 k0_pay56 k0_pay57) (k0_pay69 (dmixV x0 x1 x3 x5)) (k0_pay70 (k0_pay30 (vnV x4 x12))) (hd p 3 inb_S4x128x128_S1x128x128_3_0_0)⟩,
   ⟨Rect.unit ![2, 0, 0] ![1, 128, 128] inb_S4x128x128_S1x128x128_2_0_0, k0_pay73 (k0_pay70 (k0_pay30 (vnV x4 x12))) (k0_pay71 (hd p 2 inb_S4x128x128_S1x128x128_2_0_0)) (k0_pay72 (dmixV x0 x1 x3 x5) (k0_pay58 128#32 k0_pay55 k0_pay56 k0_pay57))⟩,
   ⟨Rect.unit ![1, 0, 0] ![1, 128, 128] inb_S4x128x128_S1x128x128_1_0_0, k0_pay62 (k0_pay30 (vnV x4 x12)) (dmixV x0 x1 x3 x5) 128#32 k0_pay55 k0_pay56 k0_pay57 (hd p 1 inb_S4x128x128_S1x128x128_1_0_0)⟩,
   ⟨Rect.unit ![0, 0, 0] ![1, 128, 128] inb_S4x128x128_S1x128x128_0_0_0, k0_pay61 (k0_pay30 (vnV x4 x12)) (dmixV x0 x1 x3 x5) 128#32 k0_pay55 k0_pay56 k0_pay57 (hd p 0 inb_S4x128x128_S1x128x128_0_0_0)⟩]

/-- The gain's gradient, added to what was there. -/
def gvV (dv : Vec Ideal S512x256 .f32) (p : Vec Ideal S1x256 .f32) : FVec Ideal S1x256 .f32 :=
  k0_pay81 (k0_pay26 (k0_pay17 x4)) (k0_pay28 (k0_pay17 x4)) dv p

/-- The sum over the chunks of the mixed half's gradient, added to what was there. -/
def sumV (p : Vec Ideal S128x256 .f32) : FVec Ideal S128x256 .f32 :=
  k0_pay54 (dmixV x0 x1 x3 x5) (k0_pay53 (dmixV x0 x1 x3 x5) (k0_pay52 (dmixV x0 x1 x3 x5) (k0_pay51 (dmixV x0 x1 x3 x5) p)))

end

/-! ## Where the sums start -/

theorem reset15 (m : Fin 256) (k : Fin 512) : (k0_pay7 : FVec Ideal S256x512 .f32) (ix2 m k) = ((0 : ℝ) : EReal) := by
  pointwise [k0_pay7]
  exact EReal.coe_zero.symm

theorem reset16 (g : Fin 4) (r s : Fin 128) : (k0_pay4 : FVec Ideal S4x128x128 .f32) (ix3 g r s) = ((0 : ℝ) : EReal) := by
  pointwise [k0_pay4]
  exact EReal.coe_zero.symm

theorem reset18 (z : Fin 1) (k : Fin 256) : (k0_pay5 : FVec Ideal S1x256 .f32) (ix2 z k) = ((0 : ℝ) : EReal) := by
  pointwise [k0_pay5]
  exact EReal.coe_zero.symm

theorem reset2 (r : Fin 128) (k : Fin 256) : (k0_pay6 : FVec Ideal S128x256 .f32) (ix2 r k) = ((0 : ℝ) : EReal) := by
  unfold k0_pay6
  simp only [shapeCast_self]
  pointwise []
  exact EReal.coe_zero.symm

/-! ## Their values -/

section
variable {A : Args} {t : ℕ} {x0 : Vec Ideal S512x1024 .f32} {x1 : Vec Ideal S1024x1024 .bf16} {x2 : Vec Ideal S512x512 .f32}
    {x3 x4 x5 x6 x7 : Vec Ideal S512x256 .f32} {x8 : Vec Ideal S512x512 .f32} {x9 : Vec Ideal S256x512 .f32}
    {x10 : Vec Ideal S4x128x128 .f32} {x11 : Vec Ideal S128x256 .f32} {x12 : Vec Ideal S1x256 .f32}
    (hB : Block A t x0 x1 x2 x3 x4 x5 x6 x7 x8 x9 x10 x11 x12)
include hB

theorem Block.dg (ρ : Fin 512) (c : Fin 1024) : (k0_pay8 x0 x1 : FVec Ideal S512x1024 .f32) (ix2 ρ c) = ((dg A (t * 512 + ρ) c : ℝ) : EReal) :=
  dg_pt hB.ct hB.w ρ c

theorem Block.vb' (ρ : Fin 512) (c : Fin 256) : (k0_pay17 x4 : FVec Ideal S512x256 .f32) (ix2 ρ c) = ((Branch.vb A (t * 512 + ρ) c : ℝ) : EReal) :=
  vb_pt hB.vb ρ c

theorem Block.dmix (ρ : Fin 512) (c : Fin 256) : dmixV x0 x1 x3 x5 (ix2 ρ c) = ((dmix A (t * 512 + ρ) c : ℝ) : EReal) :=
  dmix_pt hB.dg (gu_pt hB.ub) hB.zb ρ c

theorem Block.vn (ρ : Fin 512) (c : Fin 256) : vnV x4 x12 (ix2 ρ c) = ((vn A (t * 512 + ρ) c : ℝ) : EReal) :=
  vn_pt hB.vb' hB.gv ρ c

theorem Block.vnb (ρ : Fin 512) (c : Fin 256) : (k0_pay30 (vnV x4 x12) : FVec Ideal S512x256 .bf16) (ix2 ρ c) = ((Branch.vn A (t * 512 + ρ) c : ℝ) : EReal) := by
  have h := hB.vn ρ c
  generalize (vnV x4 x12 : FVec Ideal S512x256 .f32) = v at h
  pointwise [k0_pay30]
  exact h

theorem Block.key (m c : Fin 256) : keyV x9 (ix2 m c) = ((A.kv (t / 4 * 256 + m) c : ℝ) : EReal) := by
  have h := (ld2 (e := .f32) (a := 0) (b := 0) (m := 256) (n := 256) (inb := inb_S256x512_S256x256_0_0) x9 m c (by omega) (by omega)).trans (hB.kv _ _)
  unfold keyV
  generalize (View.ld x9 (Rect.unit (s := S256x512) ![0, 0] ![256, 256] inb_S256x512_S256x256_0_0) : Vec Ideal S256x256 .f32) = v at h
  pointwise [k0_pay88]
  exact h.trans (by simp only [Nat.zero_add])

theorem Block.val (m c : Fin 256) : valV x9 (ix2 m c) = ((A.kv (t / 4 * 256 + m) (256 + c) : ℝ) : EReal) := by
  have h := (ld2 (e := .f32) (a := 0) (b := 256) (m := 256) (n := 256) (inb := inb_S256x512_S256x256_0_256) x9 m c (by omega) (by omega)).trans (hB.kv _ _)
  unfold valV
  generalize (View.ld x9 (Rect.unit (s := S256x512) ![0, 256] ![256, 256] inb_S256x512_S256x256_0_256) : Vec Ideal S256x256 .f32) = v at h
  pointwise [k0_pay89]
  exact h.trans (by simp only [Nat.zero_add])

theorem Block.q (ρ : Fin 512) (c : Fin 256) : (k0_pay90 x6 : FVec Ideal S512x256 .f32) (ix2 ρ c) = ((Branch.qm A (t * 512 + ρ) c : ℝ) : EReal) := by
  have h := hB.qm ρ c
  pointwise [k0_pay90]
  exact h

theorem Block.pr (R : Fin 2048) (m : Fin 256) : prV x6 x9 (ix2 R m) = ((pr A (R / 512) (t * 512 + R % 512) m : ℝ) : EReal) :=
  pr_pt hB.q hB.key hB.lt R m

theorem Block.os (R : Fin 2048) (l : Fin 256) : osV x0 x1 x7 (ix2 R l) = ((if (l : ℕ) / 64 = R / 512 then dmo A (t * 512 + R % 512) l else 0 : ℝ) : EReal) :=
  os_pt (sim_pt hB.zm) (dgm_pt hB.dg) R l

theorem Block.ds (R : Fin 2048) (m : Fin 256) : (k0_pay104 (dsV x0 x1 x6 x7 x9) (Scalar.ofBits .f32 0x3E000000#32) : FVec Ideal S2048x256 .bf16) (ix2 R m) = ((ds A (R / 512) (t * 512 + R % 512) m : ℝ) : EReal) :=
  ds_pt hB.pr hB.os hB.val hB.lt R m

/-- The gradient of the attention's output. -/
theorem Block.out_da (ρ c : Fin 512) : (k0_pay14 (k0_pay8 x0 x1) (k0_pay11 x2) : FVec Ideal S512x512 .f32) (ix2 ρ c) = ((da A (t * 512 + ρ) c : ℝ) : EReal) :=
  da_pt hB.dg hB.za ρ c

/-- The gradient of the projection. -/
theorem Block.out_dr {mx dv : Vec Ideal S512x256 .f32} (hm : ∀ ρ c, mx (ix2 ρ c) = ((mix0 A (t * 512 + ρ) c : ℝ) : EReal))
    (hd : ∀ ρ c, dv (ix2 ρ c) = ((dvn A (t * 512 + ρ) c : ℝ) : EReal)) (ρ : Fin 512) (c : Fin 1792) :
    (View.canon (drL x0 x1 x2 x3 x4 x5 x6 x7 x8 x9 x11 x12 mx dv) : Vec Ideal S512x1792 .bf16) (ix2 ρ c) = ((dr A (t * 512 + ρ) c : ℝ) : EReal) := by
  have hcov : ∀ y, ∃ p ∈ drL x0 x1 x2 x3 x4 x5 x6 x7 x8 x9 x11 x12 mx dv, y ∈ p.1.set := View.cover_of_tiledBy _ ![512, 256] (by sl_kernel_rfl)
  have hp : View.PiecesOf (fun y : S512x1792.Idx => ((dr A (t * 512 + (y 0 : ℕ)) (y 1 : ℕ) : ℝ) : EReal)) (drL x0 x1 x2 x3 x4 x5 x6 x7 x8 x9 x11 x12 mx dv) := by
    refine ⟨?_, ?_, ?_, ?_, ?_, ?_, trivial⟩
    · intro x
      refine piece2 (f := fun ρ c => dr A (t * 512 + ρ) c) (inb := inb_S512x1792_S512x256_0_1280) (fun r c => ?_) x
      refine (dqm_pt hB.ds hB.key hB.lt r c).trans ?_
      simp only [dr, Nat.zero_add, if_neg (show ¬ 1280 + (c : ℕ) < 512 by omega), if_neg (show ¬ 1280 + (c : ℕ) < 768 by omega), if_neg (show ¬ 1280 + (c : ℕ) < 1024 by omega), if_neg (show ¬ 1280 + (c : ℕ) < 1280 by omega), if_pos (show 1280 + (c : ℕ) < 1536 by omega), Nat.add_sub_cancel_left]
    · intro x
      refine piece2 (f := fun ρ c => dr A (t * 512 + ρ) c) (inb := inb_S512x1792_S512x256_0_1536) (fun r c => ?_) x
      refine (dzm_pt (dsim_pt hB.zm) (dgm_pt hB.dg) (mo_pt hB.pr hB.val) hB.lt r c).trans ?_
      simp only [dr, Nat.zero_add, if_neg (show ¬ 1536 + (c : ℕ) < 512 by omega), if_neg (show ¬ 1536 + (c : ℕ) < 768 by omega), if_neg (show ¬ 1536 + (c : ℕ) < 1024 by omega), if_neg (show ¬ 1536 + (c : ℕ) < 1280 by omega), if_neg (show ¬ 1536 + (c : ℕ) < 1536 by omega), Nat.add_sub_cancel_left]
    · intro x
      refine piece2 (f := fun ρ c => dr A (t * 512 + ρ) c) (inb := inb_S512x1792_S512x256_0_768) (fun r c => ?_) x
      refine (dvb_pt (gvb_pt hB.vb') (dgev_pt hB.vb') (rv_pt hB.vb') hB.gv hd r c).trans ?_
      simp only [dr, Nat.zero_add, if_neg (show ¬ 768 + (c : ℕ) < 512 by omega), if_neg (show ¬ 768 + (c : ℕ) < 768 by omega), if_pos (show 768 + (c : ℕ) < 1024 by omega), Nat.add_sub_cancel_left]
    · intro x
      refine piece2 (f := fun ρ c => dr A (t * 512 + ρ) c) (inb := inb_S512x1792_S512x256_0_1024) (fun r c => ?_) x
      refine (dzb_pt hB.dg (gu_pt hB.ub) hm hB.bs hB.zb r c).trans ?_
      simp only [dr, Nat.zero_add, if_neg (show ¬ 1024 + (c : ℕ) < 512 by omega), if_neg (show ¬ 1024 + (c : ℕ) < 768 by omega), if_neg (show ¬ 1024 + (c : ℕ) < 1024 by omega), if_pos (show 1024 + (c : ℕ) < 1280 by omega), Nat.add_sub_cancel_left]
    · intro x
      refine piece2 (f := fun ρ c => dr A (t * 512 + ρ) c) (inb := inb_S512x1792_S512x256_0_512) (fun r c => ?_) x
      refine (dub_pt hB.dg (dgu_pt hB.ub) hm hB.bs hB.zb r c).trans ?_
      simp only [dr, Nat.zero_add, if_neg (show ¬ 512 + (c : ℕ) < 512 by omega), if_pos (show 512 + (c : ℕ) < 768 by omega), Nat.add_sub_cancel_left]
    · intro x
      refine piece2 (f := fun ρ c => dr A (t * 512 + ρ) c) (inb := inb_S512x1792_S512x512_0_0) (fun r c => ?_) x
      refine (dza_pt hB.dg hB.za hB.a r c).trans ?_
      simp only [dr, Nat.zero_add, if_pos c.isLt]
  exact View.canon_apply_of_pieces (fun y : S512x1792.Idx => ((dr A (t * 512 + (y 0 : ℕ)) (y 1 : ℕ) : ℝ) : EReal)) _ hp.mem _ (hcov _)

/-- The gradient of the memory's keys and values: the block's share is added. -/
theorem Block.out_kv {p : Vec Ideal S256x512 .f32} {q : ℕ → ℕ → ℝ} (hq : ∀ (m : Fin 256) (c : Fin 512), p (ix2 m c) = ((q m c : ℝ) : EReal))
    (L : List (View.Piece (Elt Ideal) S256x512 .f32)) (m : Fin 256) (c : Fin 512) :
    (View.canon (kvL x0 x1 x6 x7 x9 p ++ L) : Vec Ideal S256x512 .f32) (ix2 m c)
      = ((q m c + (if (c : ℕ) < 256 then dkmT A t m c else dvmT A t m (c - 256)) : ℝ) : EReal) := by
  have hcov : ∀ y, ∃ pc ∈ kvL x0 x1 x6 x7 x9 p, y ∈ pc.1.set := View.cover_of_tiledBy _ ![256, 256] (by sl_kernel_rfl)
  have hp : View.PiecesOf (fun y : S256x512.Idx => ((q (y 0 : ℕ) (y 1 : ℕ) + (if (y 1 : ℕ) < 256 then dkmT A t (y 0 : ℕ) (y 1 : ℕ) else dvmT A t (y 0 : ℕ) ((y 1 : ℕ) - 256)) : ℝ) : EReal)) (kvL x0 x1 x6 x7 x9 p) := by
    refine ⟨?_, ?_, trivial⟩
    · intro x
      refine piece2 (f := fun r c => q r c + (if c < 256 then dkmT A t r c else dvmT A t r (c - 256))) (inb := inb_S256x512_S256x256_0_256) (fun r c => ?_) x
      have h := dvm_pt hB.pr hB.os (q := q r (256 + c)) r c ((ld2 (e := .f32) (a := 0) (b := 256) (m := 256) (n := 256) (inb := inb_S256x512_S256x256_0_256) p r c (by omega) (by omega)).trans ((hq _ _).trans (by simp only [Nat.zero_add])))
      refine h.trans ?_
      simp only [Nat.zero_add, if_neg (show ¬ 256 + (c : ℕ) < 256 by omega), Nat.add_sub_cancel_left]
    · intro x
      refine piece2 (f := fun r c => q r c + (if c < 256 then dkmT A t r c else dvmT A t r (c - 256))) (inb := inb_S256x512_S256x256_0_0) (fun r c => ?_) x
      have h := dkm_pt (qs_pt hB.q) hB.ds (q := q r c) r c ((ld2 (e := .f32) (a := 0) (b := 0) (m := 256) (n := 256) (inb := inb_S256x512_S256x256_0_0) p r c (by omega) (by omega)).trans ((hq _ _).trans (by simp only [Nat.zero_add])))
      refine h.trans ?_
      simp only [Nat.zero_add, if_pos c.isLt]
  exact View.canon_append_of_piecesOf _ L _ hp _ (hcov _)

/-- The gradient of the mixing weights: the block's share is added. -/
theorem Block.out_ws {p : Vec Ideal S4x128x128 .f32} {q : ℕ → ℕ → ℕ → ℝ} (hq : ∀ (g : Fin 4) (r s : Fin 128), p (ix3 g r s) = ((q g r s : ℝ) : EReal))
    (L : List (View.Piece (Elt Ideal) S4x128x128 .f32)) (g : Fin 4) (r s : Fin 128) :
    (View.canon (wsL x0 x1 x3 x4 x5 x12 p ++ L) : Vec Ideal S4x128x128 .f32) (ix3 g r s) = ((q g r s + dwsT A t g r s : ℝ) : EReal) := by
  have hcov : ∀ y, ∃ pc ∈ wsL x0 x1 x3 x4 x5 x12 p, y ∈ pc.1.set := View.cover_of_tiledBy _ ![1, 128, 128] (by sl_kernel_rfl)
  have hp : View.PiecesOf (fun y : S4x128x128.Idx => ((q (y 0 : ℕ) (y 1 : ℕ) (y 2 : ℕ) + dwsT A t (y 0 : ℕ) (y 1 : ℕ) (y 2 : ℕ) : ℝ) : EReal)) (wsL x0 x1 x3 x4 x5 x12 p) := by
    have e : ∀ (g : ℕ) (z : Fin 1) (r s : Fin 128), q g r s + dwsT A t g r s = q (g + z) (0 + r) (0 + s) + dwsT A t (g + z) (0 + r) (0 + s) := fun g z r s => by
      obtain rfl : z = 0 := Subsingleton.elim _ _
      simp only [Nat.zero_add, Fin.val_zero, Nat.add_zero]
    exact ⟨piece3 (f := fun g r s => q g r s + dwsT A t g r s) (inb := inb_S4x128x128_S1x128x128_3_0_0) fun z r s => (dws_pt3 hB.dmix hB.vnb z r s (ws_slice hq 3 (by omega) inb_S4x128x128_S1x128x128_3_0_0 z r s)).trans (congrArg _ (e 3 z r s)),
      piece3 (f := fun g r s => q g r s + dwsT A t g r s) (inb := inb_S4x128x128_S1x128x128_2_0_0) fun z r s => (dws_pt2 hB.dmix hB.vnb z r s (ws_slice hq 2 (by omega) inb_S4x128x128_S1x128x128_2_0_0 z r s)).trans (congrArg _ (e 2 z r s)),
      piece3 (f := fun g r s => q g r s + dwsT A t g r s) (inb := inb_S4x128x128_S1x128x128_1_0_0) fun z r s => (dws_pt1 hB.dmix hB.vnb z r s (ws_slice hq 1 (by omega) inb_S4x128x128_S1x128x128_1_0_0 z r s)).trans (congrArg _ (e 1 z r s)),
      piece3 (f := fun g r s => q g r s + dwsT A t g r s) (inb := inb_S4x128x128_S1x128x128_0_0_0) fun z r s => (dws_pt0 hB.dmix hB.vnb z r s (ws_slice hq 0 (by omega) inb_S4x128x128_S1x128x128_0_0_0 z r s)).trans (congrArg _ (e 0 z r s)), trivial⟩
  exact View.canon_append_of_piecesOf _ L _ hp _ (hcov _)

/-- The gradient of the gain: the block's share is added. -/
theorem Block.out_gv {dv : Vec Ideal S512x256 .f32} (hd : ∀ ρ c, dv (ix2 ρ c) = ((dvn A (t * 512 + ρ) c : ℝ) : EReal))
    {p : Vec Ideal S1x256 .f32} {q : ℕ → ℝ} (hq : ∀ (z : Fin 1) (c : Fin 256), p (ix2 z c) = ((q c : ℝ) : EReal)) (z : Fin 1) (c : Fin 256) :
    gvV x4 dv p (ix2 z c) = ((q c + dgvT A t c : ℝ) : EReal) :=
  dgv_pt (gvb_pt hB.vb') (rv_pt hB.vb') hd z c (hq z c)

/-- The sum over the chunks: the block's share is added. -/
theorem Block.out_sum {p : Vec Ideal S128x256 .f32} {q : ℕ → ℕ → ℝ} (hq : ∀ (r : Fin 128) (c : Fin 256), p (ix2 r c) = ((q r c : ℝ) : EReal))
    (r : Fin 128) (c : Fin 256) : sumV x0 x1 x3 x5 p (ix2 r c) = ((q r c + dbT A t r c : ℝ) : EReal) :=
  dmsum_pt hB.dmix r c (hq r c)

end

end Cert.Branch
-- ==== Proof.KerCaseA.lean ====
/- The values left by the first block of the grid, which starts every sum. -/
module

public import proofs.«01_k».proof.Proof.KerOut

@[expose] public section

set_option maxRecDepth 16384

noncomputable section

namespace Cert.Branch

open Idealize.ShloMosaic Cert.Reals Cert.Loads Idealize.ShloMosaic.Tactic
open Cert.KernelIdeal Cert.KernelIdeal.Gen

section
variable (v : View sig .tc .vmem S4x128x128 .f32) (w3 w2 w1 w0 : Vec Ideal S1x128x128 .f32) (Z : Vec Ideal S4x128x128 .f32)

/-- After the whole was filled and the heads before it were stored, head 3 still holds the fill. -/
theorem head3 : v.readCov [⟨(Rect.unit (s := S4x128x128) ![2, 0, 0] ![1, 128, 128] inb_S4x128x128_S1x128x128_2_0_0), w2⟩, ⟨(Rect.unit (s := S4x128x128) ![1, 0, 0] ![1, 128, 128] inb_S4x128x128_S1x128x128_1_0_0), w1⟩, ⟨(Rect.unit (s := S4x128x128) ![0, 0, 0] ![1, 128, 128] inb_S4x128x128_S1x128x128_0_0_0), w0⟩, (⟨Rect.unit (s := S4x128x128) ![0, 0, 0] ![4, 128, 128] inb_S4x128x128_S4x128x128_0_0_0, Z⟩ : View.Piece (Elt Ideal) S4x128x128 .f32)] (Rect.unit (s := S4x128x128) ![3, 0, 0] ![1, 128, 128] inb_S4x128x128_S1x128x128_3_0_0).toLoadRect = View.ld Z (Rect.unit (s := S4x128x128) ![3, 0, 0] ![1, 128, 128] inb_S4x128x128_S1x128x128_3_0_0) := by
  rw [View.readCov_skip _ _ _ _ _ (by sl_kernel_rfl), View.readCov_skip _ _ _ _ _ (by sl_kernel_rfl), View.readCov_skip _ _ _ _ _ (by sl_kernel_rfl), View.readCov_fill _ _ _ _ _ (by intro a; fin_cases a <;> rfl)]

/-- After the whole was filled and the heads before it were stored, head 2 still holds the fill. -/
theorem head2 : v.readCov [⟨(Rect.unit (s := S4x128x128) ![1, 0, 0] ![1, 128, 128] inb_S4x128x128_S1x128x128_1_0_0), w1⟩, ⟨(Rect.unit (s := S4x128x128) ![0, 0, 0] ![1, 128, 128] inb_S4x128x128_S1x128x128_0_0_0), w0⟩, (⟨Rect.unit (s := S4x128x128) ![0, 0, 0] ![4, 128, 128] inb_S4x128x128_S4x128x128_0_0_0, Z⟩ : View.Piece (Elt Ideal) S4x128x128 .f32)] (Rect.unit (s := S4x128x128) ![2, 0, 0] ![1, 128, 128] inb_S4x128x128_S1x128x128_2_0_0).toLoadRect = View.ld Z (Rect.unit (s := S4x128x128) ![2, 0, 0] ![1, 128, 128] inb_S4x128x128_S1x128x128_2_0_0) := by
  rw [View.readCov_skip _ _ _ _ _ (by sl_kernel_rfl), View.readCov_skip _ _ _ _ _ (by sl_kernel_rfl), View.readCov_fill _ _ _ _ _ (by intro a; fin_cases a <;> rfl)]

/-- After the whole was filled and the heads before it were stored, head 1 still holds the fill. -/
theorem head1 : v.readCov [⟨(Rect.unit (s := S4x128x128) ![0, 0, 0] ![1, 128, 128] inb_S4x128x128_S1x128x128_0_0_0), w0⟩, (⟨Rect.unit (s := S4x128x128) ![0, 0, 0] ![4, 128, 128] inb_S4x128x128_S4x128x128_0_0_0, Z⟩ : View.Piece (Elt Ideal) S4x128x128 .f32)] (Rect.unit (s := S4x128x128) ![1, 0, 0] ![1, 128, 128] inb_S4x128x128_S1x128x128_1_0_0).toLoadRect = View.ld Z (Rect.unit (s := S4x128x128) ![1, 0, 0] ![1, 128, 128] inb_S4x128x128_S1x128x128_1_0_0) := by
  rw [View.readCov_skip _ _ _ _ _ (by sl_kernel_rfl), View.readCov_fill _ _ _ _ _ (by intro a; fin_cases a <;> rfl)]

/-- After the whole was filled and the heads before it were stored, head 0 still holds the fill. -/
theorem head0 : v.readCov [(⟨Rect.unit (s := S4x128x128) ![0, 0, 0] ![4, 128, 128] inb_S4x128x128_S4x128x128_0_0_0, Z⟩ : View.Piece (Elt Ideal) S4x128x128 .f32)] (Rect.unit (s := S4x128x128) ![0, 0, 0] ![1, 128, 128] inb_S4x128x128_S1x128x128_0_0_0).toLoadRect = View.ld Z (Rect.unit (s := S4x128x128) ![0, 0, 0] ![1, 128, 128] inb_S4x128x128_S1x128x128_0_0_0) := by
  rw [View.readCov_fill _ _ _ _ _ (by intro a; fin_cases a <;> rfl)]

end

section
variable {A : Args} {t : ℕ} (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x512 .f32) (harg9 : arg9.IsWhole) (arg10 : Memref sig .tc .vmem S256x512 .f32) (harg10 : arg10.IsWhole) (arg11 : Memref sig .tc .vmem S4x128x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S512x512 .f32) (harg14 : arg14.IsWhole) (arg15 : Memref sig .tc .vmem S512x1792 .bf16) (harg15 : arg15.IsWhole) (arg16 : Memref sig .tc .vmem S256x512 .f32) (harg16 : arg16.IsWhole) (arg17 : Memref sig .tc .vmem S4x128x128 .f32) (harg17 : arg17.IsWhole) (arg18 : Memref sig .tc .vmem S4x128 .f32) (harg18 : arg18.IsWhole) (arg19 : Memref sig .tc .vmem S1x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S128x256 .f32) (harg22 : arg22.IsWhole) (hc0 : cond0_0 i) (hc1 : cond0_1 i) (hc2 : ¬cond0_2 i) (x0 : Vec Ideal S512x1024 .f32) (x1 : Vec Ideal S1024x1024 .bf16) (x2 : Vec Ideal S512x512 .f32) (x3 : Vec Ideal S512x256 .f32) (x4 : Vec Ideal S512x256 .f32) (x5 : Vec Ideal S512x256 .f32) (x6 : Vec Ideal S512x256 .f32) (x7 : Vec Ideal S512x256 .f32) (x8 : Vec Ideal S512x512 .f32) (x9 : Vec Ideal S256x512 .f32) (x10 : Vec Ideal S4x128x128 .f32) (x11 : Vec Ideal S128x256 .f32) (x12 : Vec Ideal S1x256 .f32)
    (hB : Block A t x0 x1 x2 x3 x4 x5 x6 x7 x8 x9 x10 x11 x12)
include hB

/-- The gradient of the attention's output. -/
theorem caseA_13 (ρ k : Fin 512) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix2 ρ k) = ((da A (t * 512 + ρ) k : ℝ) : EReal) := by
  unfold out0_A_13
  rw [View.read_writes_eq_canon _ _ _ (fun _ => cover0_A_13 ..)]
  unfold kernelRun0_A
  dsimp only
  sl_unfold_words
  simp only [View.readAt_eq_ld, Memref.IsWhole.read_unread, ld_two, shapeCast_self]
  rw [View.canon_unit_zero hz2]
  exact hB.out_da ρ k

/-- The gradient of the projection. -/
theorem caseA_14 (ρ : Fin 512) (k : Fin 1792) :
    (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix2 ρ k) = ((dr A (t * 512 + ρ) k : ℝ) : EReal) := by
  unfold out0_A_14
  rw [View.read_writes_eq_canon _ _ _ (fun _ => cover0_A_14 ..)]
  unfold kernelRun0_A
  dsimp only
  sl_unfold_words
  simp only [View.readAt_eq_ld, Memref.IsWhole.read_unread, ld_two, shapeCast_self]
  exact hB.out_dr (mix_read hB.vn hB.ws _) (dvn_read hB.dmix hB.ws _) ρ k

/-- The gradient of the memory's keys and values. -/
theorem caseA_15  (m : Fin 256) (k : Fin 512) :
    (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix2 m k) = ((0 + (if (k : ℕ) < 256 then dkmT A t m k else dvmT A t m (k - 256)) : ℝ) : EReal) := by
  unfold out0_A_15
  rw [View.read_writes_eq_canon _ _ _ (fun _ => cover0_A_15 ..)]
  unfold kernelRun0_A
  dsimp only
  sl_unfold_words
  simp only [View.readAt_eq_ld, Memref.IsWhole.read_unread, ld_two, shapeCast_self]
  rw [View.readCov_skip _ _ _ _ _ (by sl_kernel_rfl), View.readCov_fill _ _ _ _ _ (by intro a; fin_cases a <;> rfl), View.readCov_fill _ _ _ _ _ (by intro a; fin_cases a <;> rfl)]
  exact hB.out_kv (q := fun _ _ => 0) reset15 [⟨Rect.unit ![0, 0] ![256, 512] inb_S256x512_S256x512_0_0, (k0_pay7 : FVec Ideal S256x512 .f32)⟩] m k

/-- The gradient of the mixing weights. -/
theorem caseA_16  (g : Fin 4) (r s : Fin 128) :
    (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix3 g r s) = ((0 + dwsT A t g r s : ℝ) : EReal) := by
  unfold out0_A_16
  rw [View.read_writes_eq_canon _ _ _ (fun _ => cover0_A_16 ..)]
  unfold kernelRun0_A
  dsimp only
  sl_unfold_words
  simp only [View.readAt_eq_ld, Memref.IsWhole.read_unread, ld_two, shapeCast_self]
  simp only [head3, head2, head1, head0]
  exact hB.out_ws (q := fun _ _ _ => 0) reset16 [⟨Rect.unit ![0, 0, 0] ![4, 128, 128] inb_S4x128x128_S4x128x128_0_0_0, (k0_pay4 : FVec Ideal S4x128x128 .f32)⟩] g r s

/-- The gradient of the gain. -/
theorem caseA_18  (z : Fin 1) (k : Fin 256) :
    (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix2 z k) = ((0 + dgvT A t k : ℝ) : EReal) := by
  unfold out0_A_18
  rw [View.read_writes_eq_canon _ _ _ (fun _ => cover0_A_18 ..)]
  unfold kernelRun0_A
  dsimp only
  sl_unfold_words
  simp only [View.readAt_eq_ld, Memref.IsWhole.read_unread, ld_two, shapeCast_self]
  rw [View.canon_cons_unit_zero (S := S1x256) hz2, View.readCov_cons_toLoadRect arg19.view]
  exact hB.out_gv (dvn_read hB.dmix hB.ws _) (q := fun _ => 0) reset18 z k

/-- The sum over the chunks of the mixed half's gradient. -/
theorem caseA_s  (r : Fin 128) (k : Fin 256) :
    (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 ) (ix2 r k) = ((0 + dbT A t r k : ℝ) : EReal) := by
  unfold sout0_A_2
  rw [View.read_writes_eq_canon _ _ _ (fun _ => scover0_A_2 ..)]
  unfold kernelRun0_A
  dsimp only
  sl_unfold_words
  simp only [View.readAt_eq_ld, Memref.IsWhole.read_unread, ld_two, shapeCast_self]
  rw [View.canon_cons_unit_zero (S := S128x256) hz2]
  simp only [View.readCov_cons_toLoadRect]
  exact hB.out_sum (q := fun _ _ => 0) reset2 r k

end

end Cert.Branch
-- ==== Proof.KerCaseB.lean ====
/- The values left by a block that adds to every sum. -/
module

public import proofs.«01_k».proof.Proof.KerOut

@[expose] public section

set_option maxRecDepth 16384

noncomputable section

namespace Cert.Branch

open Idealize.ShloMosaic Cert.Reals Cert.Loads Idealize.ShloMosaic.Tactic
open Cert.KernelIdeal Cert.KernelIdeal.Gen

section
variable {A : Args} {t : ℕ} (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x512 .f32) (harg9 : arg9.IsWhole) (arg10 : Memref sig .tc .vmem S256x512 .f32) (harg10 : arg10.IsWhole) (arg11 : Memref sig .tc .vmem S4x128x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S512x512 .f32) (harg14 : arg14.IsWhole) (arg15 : Memref sig .tc .vmem S512x1792 .bf16) (harg15 : arg15.IsWhole) (arg16 : Memref sig .tc .vmem S256x512 .f32) (harg16 : arg16.IsWhole) (arg17 : Memref sig .tc .vmem S4x128x128 .f32) (harg17 : arg17.IsWhole) (arg18 : Memref sig .tc .vmem S4x128 .f32) (harg18 : arg18.IsWhole) (arg19 : Memref sig .tc .vmem S1x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S128x256 .f32) (harg22 : arg22.IsWhole) (hc0 : ¬cond0_0 i) (hc1 : ¬cond0_1 i) (hc2 : ¬cond0_2 i) (x0 : Vec Ideal S512x1024 .f32) (x1 : Vec Ideal S1024x1024 .bf16) (x2 : Vec Ideal S512x512 .f32) (x3 : Vec Ideal S512x256 .f32) (x4 : Vec Ideal S512x256 .f32) (x5 : Vec Ideal S512x256 .f32) (x6 : Vec Ideal S512x256 .f32) (x7 : Vec Ideal S512x256 .f32) (x8 : Vec Ideal S512x512 .f32) (x9 : Vec Ideal S256x512 .f32) (x10 : Vec Ideal S4x128x128 .f32) (x11 : Vec Ideal S128x256 .f32) (x12 : Vec Ideal S1x256 .f32) (xo15 : Vec Ideal S256x512 .f32) (xo16 : Vec Ideal S4x128x128 .f32) (xo18 : Vec Ideal S1x256 .f32) (xs2 : Vec Ideal S128x256 .f32)
    (hB : Block A t x0 x1 x2 x3 x4 x5 x6 x7 x8 x9 x10 x11 x12)
include hB

/-- The gradient of the attention's output. -/
theorem caseB_13 (ρ k : Fin 512) :
    (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 ρ k) = ((da A (t * 512 + ρ) k : ℝ) : EReal) := by
  unfold out0_B_13
  rw [View.read_writes_eq_canon _ _ _ (fun _ => cover0_B_13 ..)]
  unfold kernelRun0_B
  dsimp only
  sl_unfold_words
  simp only [View.readAt_eq_ld, Memref.IsWhole.read_unread, ld_two, shapeCast_self]
  rw [View.canon_unit_zero hz2]
  exact hB.out_da ρ k

/-- The gradient of the projection. -/
theorem caseB_14 (ρ : Fin 512) (k : Fin 1792) :
    (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 ρ k) = ((dr A (t * 512 + ρ) k : ℝ) : EReal) := by
  unfold out0_B_14
  rw [View.read_writes_eq_canon _ _ _ (fun _ => cover0_B_14 ..)]
  unfold kernelRun0_B
  dsimp only
  sl_unfold_words
  simp only [View.readAt_eq_ld, Memref.IsWhole.read_unread, ld_two, shapeCast_self]
  exact hB.out_dr (mix_read hB.vn hB.ws _) (dvn_read hB.dmix hB.ws _) ρ k

/-- The gradient of the memory's keys and values. -/
theorem caseB_15 {q15 : ℕ → ℕ → ℝ} (hq15 : ∀ (m : Fin 256) (k : Fin 512), xo15 (ix2 m k) = ((q15 m k : ℝ) : EReal)) (m : Fin 256) (k : Fin 512) :
    (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 m k) = ((q15 m k + (if (k : ℕ) < 256 then dkmT A t m k else dvmT A t m (k - 256)) : ℝ) : EReal) := by
  unfold out0_B_15
  rw [View.read_writes_eq_canon _ _ _ (fun _ => cover0_B_15 ..)]
  unfold kernelRun0_B
  dsimp only
  sl_unfold_words
  simp only [View.readAt_eq_ld, Memref.IsWhole.read_unread, ld_two, shapeCast_self]
  exact hB.out_kv hq15 [] m k

/-- The gradient of the mixing weights. -/
theorem caseB_16 {q16 : ℕ → ℕ → ℕ → ℝ} (hq16 : ∀ (g : Fin 4) (r s : Fin 128), xo16 (ix3 g r s) = ((q16 g r s : ℝ) : EReal)) (g : Fin 4) (r s : Fin 128) :
    (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix3 g r s) = ((q16 g r s + dwsT A t g r s : ℝ) : EReal) := by
  unfold out0_B_16
  rw [View.read_writes_eq_canon _ _ _ (fun _ => cover0_B_16 ..)]
  unfold kernelRun0_B
  dsimp only
  sl_unfold_words
  simp only [View.readAt_eq_ld, Memref.IsWhole.read_unread, ld_two, shapeCast_self]
  exact hB.out_ws hq16 [] g r s

/-- The gradient of the gain. -/
theorem caseB_18 {q18 : ℕ → ℝ} (hq18 : ∀ (z : Fin 1) (k : Fin 256), xo18 (ix2 z k) = ((q18 k : ℝ) : EReal)) (z : Fin 1) (k : Fin 256) :
    (out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 z k) = ((q18 k + dgvT A t k : ℝ) : EReal) := by
  unfold out0_B_18
  rw [View.read_writes_eq_canon _ _ _ (fun _ => cover0_B_18 ..)]
  unfold kernelRun0_B
  dsimp only
  sl_unfold_words
  simp only [View.readAt_eq_ld, Memref.IsWhole.read_unread, ld_two, shapeCast_self]
  rw [View.canon_unit_zero hz2]
  exact hB.out_gv (dvn_read hB.dmix hB.ws _) hq18 z k

/-- The sum over the chunks of the mixed half's gradient. -/
theorem caseB_s {q2 : ℕ → ℕ → ℝ} (hq2 : ∀ (r : Fin 128) (k : Fin 256), xs2 (ix2 r k) = ((q2 r k : ℝ) : EReal)) (r : Fin 128) (k : Fin 256) :
    (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 r k) = ((q2 r k + dbT A t r k : ℝ) : EReal) := by
  unfold sout0_B_2
  rw [View.read_writes_eq_canon _ _ _ (fun _ => scover0_B_2 ..)]
  unfold kernelRun0_B
  dsimp only
  sl_unfold_words
  simp only [View.readAt_eq_ld, Memref.IsWhole.read_unread, ld_two, shapeCast_self]
  rw [View.canon_cons_unit_zero (S := S128x256) hz2]
  simp only [View.readCov_cons_toLoadRect]
  exact hB.out_sum hq2 r k

end

end Cert.Branch
-- ==== Proof.KerCaseC.lean ====
/- The values left by the first block of the second batch, which starts the memory's sum again. -/
module

public import proofs.«01_k».proof.Proof.KerOut

@[expose] public section

set_option maxRecDepth 16384

noncomputable section

namespace Cert.Branch

open Idealize.ShloMosaic Cert.Reals Cert.Loads Idealize.ShloMosaic.Tactic
open Cert.KernelIdeal Cert.KernelIdeal.Gen

section
variable {A : Args} {t : ℕ} (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x512 .f32) (harg9 : arg9.IsWhole) (arg10 : Memref sig .tc .vmem S256x512 .f32) (harg10 : arg10.IsWhole) (arg11 : Memref sig .tc .vmem S4x128x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S512x512 .f32) (harg14 : arg14.IsWhole) (arg15 : Memref sig .tc .vmem S512x1792 .bf16) (harg15 : arg15.IsWhole) (arg16 : Memref sig .tc .vmem S256x512 .f32) (harg16 : arg16.IsWhole) (arg17 : Memref sig .tc .vmem S4x128x128 .f32) (harg17 : arg17.IsWhole) (arg18 : Memref sig .tc .vmem S4x128 .f32) (harg18 : arg18.IsWhole) (arg19 : Memref sig .tc .vmem S1x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S128x256 .f32) (harg22 : arg22.IsWhole) (hc0 : ¬cond0_0 i) (hc1 : cond0_1 i) (hc2 : ¬cond0_2 i) (x0 : Vec Ideal S512x1024 .f32) (x1 : Vec Ideal S1024x1024 .bf16) (x2 : Vec Ideal S512x512 .f32) (x3 : Vec Ideal S512x256 .f32) (x4 : Vec Ideal S512x256 .f32) (x5 : Vec Ideal S512x256 .f32) (x6 : Vec Ideal S512x256 .f32) (x7 : Vec Ideal S512x256 .f32) (x8 : Vec Ideal S512x512 .f32) (x9 : Vec Ideal S256x512 .f32) (x10 : Vec Ideal S4x128x128 .f32) (x11 : Vec Ideal S128x256 .f32) (x12 : Vec Ideal S1x256 .f32) (xo16 : Vec Ideal S4x128x128 .f32) (xo18 : Vec Ideal S1x256 .f32) (xs2 : Vec Ideal S128x256 .f32)
    (hB : Block A t x0 x1 x2 x3 x4 x5 x6 x7 x8 x9 x10 x11 x12)
include hB

/-- The gradient of the attention's output. -/
theorem caseC_13 (ρ k : Fin 512) :
    (out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix2 ρ k) = ((da A (t * 512 + ρ) k : ℝ) : EReal) := by
  unfold out0_C_13
  rw [View.read_writes_eq_canon _ _ _ (fun _ => cover0_C_13 ..)]
  unfold kernelRun0_C
  dsimp only
  sl_unfold_words
  simp only [View.readAt_eq_ld, Memref.IsWhole.read_unread, ld_two, shapeCast_self]
  rw [View.canon_unit_zero hz2]
  exact hB.out_da ρ k

/-- The gradient of the projection. -/
theorem caseC_14 (ρ : Fin 512) (k : Fin 1792) :
    (out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix2 ρ k) = ((dr A (t * 512 + ρ) k : ℝ) : EReal) := by
  unfold out0_C_14
  rw [View.read_writes_eq_canon _ _ _ (fun _ => cover0_C_14 ..)]
  unfold kernelRun0_C
  dsimp only
  sl_unfold_words
  simp only [View.readAt_eq_ld, Memref.IsWhole.read_unread, ld_two, shapeCast_self]
  exact hB.out_dr (mix_read hB.vn hB.ws _) (dvn_read hB.dmix hB.ws _) ρ k

/-- The gradient of the memory's keys and values. -/
theorem caseC_15  (m : Fin 256) (k : Fin 512) :
    (out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix2 m k) = ((0 + (if (k : ℕ) < 256 then dkmT A t m k else dvmT A t m (k - 256)) : ℝ) : EReal) := by
  unfold out0_C_15
  rw [View.read_writes_eq_canon _ _ _ (fun _ => cover0_C_15 ..)]
  unfold kernelRun0_C
  dsimp only
  sl_unfold_words
  simp only [View.readAt_eq_ld, Memref.IsWhole.read_unread, ld_two, shapeCast_self]
  rw [View.readCov_skip _ _ _ _ _ (by sl_kernel_rfl), View.readCov_fill _ _ _ _ _ (by intro a; fin_cases a <;> rfl), View.readCov_fill _ _ _ _ _ (by intro a; fin_cases a <;> rfl)]
  exact hB.out_kv (q := fun _ _ => 0) reset15 [⟨Rect.unit ![0, 0] ![256, 512] inb_S256x512_S256x512_0_0, (k0_pay7 : FVec Ideal S256x512 .f32)⟩] m k

/-- The gradient of the mixing weights. -/
theorem caseC_16 {q16 : ℕ → ℕ → ℕ → ℝ} (hq16 : ∀ (g : Fin 4) (r s : Fin 128), xo16 (ix3 g r s) = ((q16 g r s : ℝ) : EReal)) (g : Fin 4) (r s : Fin 128) :
    (out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix3 g r s) = ((q16 g r s + dwsT A t g r s : ℝ) : EReal) := by
  unfold out0_C_16
  rw [View.read_writes_eq_canon _ _ _ (fun _ => cover0_C_16 ..)]
  unfold kernelRun0_C
  dsimp only
  sl_unfold_words
  simp only [View.readAt_eq_ld, Memref.IsWhole.read_unread, ld_two, shapeCast_self]
  exact hB.out_ws hq16 [] g r s

/-- The gradient of the gain. -/
theorem caseC_18 {q18 : ℕ → ℝ} (hq18 : ∀ (z : Fin 1) (k : Fin 256), xo18 (ix2 z k) = ((q18 k : ℝ) : EReal)) (z : Fin 1) (k : Fin 256) :
    (out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix2 z k) = ((q18 k + dgvT A t k : ℝ) : EReal) := by
  unfold out0_C_18
  rw [View.read_writes_eq_canon _ _ _ (fun _ => cover0_C_18 ..)]
  unfold kernelRun0_C
  dsimp only
  sl_unfold_words
  simp only [View.readAt_eq_ld, Memref.IsWhole.read_unread, ld_two, shapeCast_self]
  rw [View.canon_unit_zero hz2]
  exact hB.out_gv (dvn_read hB.dmix hB.ws _) hq18 z k

/-- The sum over the chunks of the mixed half's gradient. -/
theorem caseC_s {q2 : ℕ → ℕ → ℝ} (hq2 : ∀ (r : Fin 128) (k : Fin 256), xs2 (ix2 r k) = ((q2 r k : ℝ) : EReal)) (r : Fin 128) (k : Fin 256) :
    (sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo16 xo18 xs2) (ix2 r k) = ((q2 r k + dbT A t r k : ℝ) : EReal) := by
  unfold sout0_C_2
  rw [View.read_writes_eq_canon _ _ _ (fun _ => scover0_C_2 ..)]
  unfold kernelRun0_C
  dsimp only
  sl_unfold_words
  simp only [View.readAt_eq_ld, Memref.IsWhole.read_unread, ld_two, shapeCast_self]
  rw [View.canon_cons_unit_zero (S := S128x256) hz2]
  simp only [View.readCov_cons_toLoadRect]
  exact hB.out_sum hq2 r k

end

end Cert.Branch
-- ==== Proof.KerCaseD.lean ====
/- The values left by the last block of the grid, which also sums the chunks over each head. -/
module

public import proofs.«01_k».proof.Proof.KerOut

@[expose] public section

set_option maxRecDepth 16384

noncomputable section

namespace Cert.Branch

open Idealize.ShloMosaic Cert.Reals Cert.Loads Idealize.ShloMosaic.Tactic
open Cert.KernelIdeal Cert.KernelIdeal.Gen

section
variable {A : Args} {t : ℕ} (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x512 .f32) (harg9 : arg9.IsWhole) (arg10 : Memref sig .tc .vmem S256x512 .f32) (harg10 : arg10.IsWhole) (arg11 : Memref sig .tc .vmem S4x128x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S512x512 .f32) (harg14 : arg14.IsWhole) (arg15 : Memref sig .tc .vmem S512x1792 .bf16) (harg15 : arg15.IsWhole) (arg16 : Memref sig .tc .vmem S256x512 .f32) (harg16 : arg16.IsWhole) (arg17 : Memref sig .tc .vmem S4x128x128 .f32) (harg17 : arg17.IsWhole) (arg18 : Memref sig .tc .vmem S4x128 .f32) (harg18 : arg18.IsWhole) (arg19 : Memref sig .tc .vmem S1x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S128x256 .f32) (harg22 : arg22.IsWhole) (hc0 : ¬cond0_0 i) (hc1 : ¬cond0_1 i) (hc2 : cond0_2 i) (x0 : Vec Ideal S512x1024 .f32) (x1 : Vec Ideal S1024x1024 .bf16) (x2 : Vec Ideal S512x512 .f32) (x3 : Vec Ideal S512x256 .f32) (x4 : Vec Ideal S512x256 .f32) (x5 : Vec Ideal S512x256 .f32) (x6 : Vec Ideal S512x256 .f32) (x7 : Vec Ideal S512x256 .f32) (x8 : Vec Ideal S512x512 .f32) (x9 : Vec Ideal S256x512 .f32) (x10 : Vec Ideal S4x128x128 .f32) (x11 : Vec Ideal S128x256 .f32) (x12 : Vec Ideal S1x256 .f32) (xo15 : Vec Ideal S256x512 .f32) (xo16 : Vec Ideal S4x128x128 .f32) (xo18 : Vec Ideal S1x256 .f32) (xs2 : Vec Ideal S128x256 .f32)
    (hB : Block A t x0 x1 x2 x3 x4 x5 x6 x7 x8 x9 x10 x11 x12)
include hB

/-- The gradient of the attention's output. -/
theorem caseD_13 (ρ k : Fin 512) :
    (out0_D_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 ρ k) = ((da A (t * 512 + ρ) k : ℝ) : EReal) := by
  unfold out0_D_13
  rw [View.read_writes_eq_canon _ _ _ (fun _ => cover0_D_13 ..)]
  unfold kernelRun0_D
  dsimp only
  sl_unfold_words
  simp only [View.readAt_eq_ld, Memref.IsWhole.read_unread, ld_two, shapeCast_self]
  rw [View.canon_unit_zero hz2]
  exact hB.out_da ρ k

/-- The gradient of the projection. -/
theorem caseD_14 (ρ : Fin 512) (k : Fin 1792) :
    (out0_D_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 ρ k) = ((dr A (t * 512 + ρ) k : ℝ) : EReal) := by
  unfold out0_D_14
  rw [View.read_writes_eq_canon _ _ _ (fun _ => cover0_D_14 ..)]
  unfold kernelRun0_D
  dsimp only
  sl_unfold_words
  simp only [View.readAt_eq_ld, Memref.IsWhole.read_unread, ld_two, shapeCast_self]
  exact hB.out_dr (mix_read hB.vn hB.ws _) (dvn_read hB.dmix hB.ws _) ρ k

/-- The gradient of the memory's keys and values. -/
theorem caseD_15 {q15 : ℕ → ℕ → ℝ} (hq15 : ∀ (m : Fin 256) (k : Fin 512), xo15 (ix2 m k) = ((q15 m k : ℝ) : EReal)) (m : Fin 256) (k : Fin 512) :
    (out0_D_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 m k) = ((q15 m k + (if (k : ℕ) < 256 then dkmT A t m k else dvmT A t m (k - 256)) : ℝ) : EReal) := by
  unfold out0_D_15
  rw [View.read_writes_eq_canon _ _ _ (fun _ => cover0_D_15 ..)]
  unfold kernelRun0_D
  dsimp only
  sl_unfold_words
  simp only [View.readAt_eq_ld, Memref.IsWhole.read_unread, ld_two, shapeCast_self]
  exact hB.out_kv hq15 [] m k

/-- The gradient of the mixing weights. -/
theorem caseD_16 {q16 : ℕ → ℕ → ℕ → ℝ} (hq16 : ∀ (g : Fin 4) (r s : Fin 128), xo16 (ix3 g r s) = ((q16 g r s : ℝ) : EReal)) (g : Fin 4) (r s : Fin 128) :
    (out0_D_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix3 g r s) = ((q16 g r s + dwsT A t g r s : ℝ) : EReal) := by
  unfold out0_D_16
  rw [View.read_writes_eq_canon _ _ _ (fun _ => cover0_D_16 ..)]
  unfold kernelRun0_D
  dsimp only
  sl_unfold_words
  simp only [View.readAt_eq_ld, Memref.IsWhole.read_unread, ld_two, shapeCast_self]
  exact hB.out_ws hq16 [] g r s

/-- The gradient of the gain. -/
theorem caseD_18 {q18 : ℕ → ℝ} (hq18 : ∀ (z : Fin 1) (k : Fin 256), xo18 (ix2 z k) = ((q18 k : ℝ) : EReal)) (z : Fin 1) (k : Fin 256) :
    (out0_D_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 z k) = ((q18 k + dgvT A t k : ℝ) : EReal) := by
  unfold out0_D_18
  rw [View.read_writes_eq_canon _ _ _ (fun _ => cover0_D_18 ..)]
  unfold kernelRun0_D
  dsimp only
  sl_unfold_words
  simp only [View.readAt_eq_ld, Memref.IsWhole.read_unread, ld_two, shapeCast_self]
  rw [View.canon_unit_zero hz2]
  exact hB.out_gv (dvn_read hB.dmix hB.ws _) hq18 z k

/-- The sum over the chunks of the mixed half's gradient. -/
theorem caseD_s {q2 : ℕ → ℕ → ℝ} (hq2 : ∀ (r : Fin 128) (k : Fin 256), xs2 (ix2 r k) = ((q2 r k : ℝ) : EReal)) (r : Fin 128) (k : Fin 256) :
    (sout0_D_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 r k) = ((q2 r k + dbT A t r k : ℝ) : EReal) := by
  unfold sout0_D_2
  rw [View.read_writes_eq_canon _ _ _ (fun _ => scover0_D_2 ..)]
  unfold kernelRun0_D
  dsimp only
  sl_unfold_words
  simp only [View.readAt_eq_ld, Memref.IsWhole.read_unread, ld_two, shapeCast_self]
  rw [View.canon_cons_unit_zero (S := S128x256) hz2]
  simp only [View.readCov_cons_toLoadRect]
  exact hB.out_sum hq2 r k

/-- The gradient of the bias. -/
theorem caseD_17 {q2 : ℕ → ℕ → ℝ} (hq2 : ∀ (r : Fin 128) (k : Fin 256), xs2 (ix2 r k) = ((q2 r k : ℝ) : EReal)) (g : Fin 4) (s : Fin 128) :
    (out0_D_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 xo15 xo16 xo18 xs2) (ix2 g s) = ((∑ k : Fin 64, (q2 s (g * 64 + k) + dbT A t s (g * 64 + k)) : ℝ) : EReal) := by
  unfold out0_D_17
  rw [View.read_writes_eq_canon _ _ _ (fun _ => cover0_D_17 ..)]
  unfold kernelRun0_D
  dsimp only
  sl_unfold_words
  simp only [View.readAt_eq_ld, Memref.IsWhole.read_unread, ld_two, shapeCast_self]
  rw [View.canon_unit_zero hz2]
  simp only [View.readCov_cons_toLoadRect]
  exact db_pt (f := fun r k => q2 r k + dbT A t r k) (hB.out_sum hq2) g s

end

end Cert.Branch
-- ==== Proof.KerInv.lean ====
/- The sums that the grid carries from block to block, and the arrays they leave. -/
module

public import proofs.«01_k».proof.Proof.KerCaseA
public import proofs.«01_k».proof.Proof.KerCaseB
public import proofs.«01_k».proof.Proof.KerCaseC
public import proofs.«01_k».proof.Proof.KerCaseD

@[expose] public section

set_option maxRecDepth 16384

noncomputable section

namespace Cert.Branch

open Idealize.ShloMosaic Cert.Reals Idealize.ShloMosaic.Tactic
open Cert.KernelIdeal Cert.KernelIdeal.Gen

open Cert.KernelIdeal.Value

/-- One block's share of the gradient of the memory's keys and values. -/
def dkvT (A : Args) (T m k : ℕ) : ℝ := if k < 256 then dkmT A T m k else dvmT A T m (k - 256)

/-- What is held after block `n`: the block's own rows of the first two results, and the sums so far of the others. -/
structure Inv (A : Args) (n : ℕ) (s : Vec Ideal S512x512 .f32 × Vec Ideal S512x1792 .bf16 × Vec Ideal S256x512 .f32 × Vec Ideal S4x128x128 .f32 × Vec Ideal S4x128 .f32 × Vec Ideal S1x256 .f32 × Vec Ideal S128x256 .f32) : Prop where
  da : ∀ (ρ k : Fin 512), s.1 (ix2 ρ k) = ((da A (n * 512 + ρ) k : ℝ) : EReal)
  dr : ∀ (ρ : Fin 512) (k : Fin 1792), s.2.1 (ix2 ρ k) = ((dr A (n * 512 + ρ) k : ℝ) : EReal)
  dkv : ∀ (m : Fin 256) (k : Fin 512), s.2.2.1 (ix2 m k) = ((∑ T ∈ Finset.Ico (n / 4 * 4) (n + 1), dkvT A T m k : ℝ) : EReal)
  dws : ∀ (g : Fin 4) (r s' : Fin 128), s.2.2.2.1 (ix3 g r s') = ((∑ T ∈ Finset.range (n + 1), dwsT A T g r s' : ℝ) : EReal)
  db : n = 7 → ∀ (g : Fin 4) (s' : Fin 128), s.2.2.2.2.1 (ix2 g s') = ((∑ k : Fin 64, ∑ T ∈ Finset.range 8, dbT A T s' (g * 64 + k) : ℝ) : EReal)
  dgv : ∀ (z : Fin 1) (k : Fin 256), s.2.2.2.2.2.1 (ix2 z k) = ((∑ T ∈ Finset.range (n + 1), dgvT A T k : ℝ) : EReal)
  sum : ∀ (r : Fin 128) (k : Fin 256), s.2.2.2.2.2.2 (ix2 r k) = ((∑ T ∈ Finset.range (n + 1), dbT A T r k : ℝ) : EReal)

/-- The same, of seven values given one by one. -/
theorem Inv.of {A : Args} {n : ℕ} {a1 : Vec Ideal S512x512 .f32} {a2 : Vec Ideal S512x1792 .bf16} {a3 : Vec Ideal S256x512 .f32} {a4 : Vec Ideal S4x128x128 .f32} {a5 : Vec Ideal S4x128 .f32} {a6 : Vec Ideal S1x256 .f32} {a7 : Vec Ideal S128x256 .f32}
    (da : ∀ (ρ k : Fin 512), a1 (ix2 ρ k) = ((Branch.da A (n * 512 + ρ) k : ℝ) : EReal))
    (dr : ∀ (ρ : Fin 512) (k : Fin 1792), a2 (ix2 ρ k) = ((Branch.dr A (n * 512 + ρ) k : ℝ) : EReal))
    (dkv : ∀ (m : Fin 256) (k : Fin 512), a3 (ix2 m k) = ((∑ T ∈ Finset.Ico (n / 4 * 4) (n + 1), dkvT A T m k : ℝ) : EReal))
    (dws : ∀ (g : Fin 4) (r s' : Fin 128), a4 (ix3 g r s') = ((∑ T ∈ Finset.range (n + 1), dwsT A T g r s' : ℝ) : EReal))
    (db : n = 7 → ∀ (g : Fin 4) (s' : Fin 128), a5 (ix2 g s') = ((∑ k : Fin 64, ∑ T ∈ Finset.range 8, dbT A T s' (g * 64 + k) : ℝ) : EReal))
    (dgv : ∀ (z : Fin 1) (k : Fin 256), a6 (ix2 z k) = ((∑ T ∈ Finset.range (n + 1), dgvT A T k : ℝ) : EReal))
    (sum : ∀ (r : Fin 128) (k : Fin 256), a7 (ix2 r k) = ((∑ T ∈ Finset.range (n + 1), dbT A T r k : ℝ) : EReal)) :
    Inv A n (a1, a2, a3, a4, a5, a6, a7) :=
  ⟨da, dr, dkv, dws, db, dgv, sum⟩

variable (m : (ℓ : Loc nD τ sig) → Buf (Elt Ideal) ℓ) (c : Dev nD) {A : Args}
  (hb : ∀ t : Fin cfg0.N, Block A t (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t))
include hb

/-- One block carries the sums on. -/
theorem inv_step (n : ℕ) (hn : n < cfg0.N) (acc) (hacc : n ≠ 0 → Inv A (n - 1) acc) : Inv A n (stAt0 m c n hn acc) := by
  have hN : n < 8 := lt_of_lt_of_eq hn (show cfg0.N = 8 from N_0)
  have hB := hb ⟨n, hn⟩
  have up : ∀ (f : ℕ → ℝ), n ≠ 0 → (∑ T ∈ Finset.range (n - 1 + 1), f T) + f n = ∑ T ∈ Finset.range (n + 1), f T := fun f h => by
    rw [Nat.sub_add_cancel (by omega : 1 ≤ n), ← Finset.sum_range_succ]
  have upI : ∀ (f : ℕ → ℝ), n % 4 ≠ 0 → (∑ T ∈ Finset.Ico ((n - 1) / 4 * 4) (n - 1 + 1), f T) + f n = ∑ T ∈ Finset.Ico (n / 4 * 4) (n + 1), f T := fun f h => by
    rw [Nat.sub_add_cancel (by omega : 1 ≤ n), show (n - 1) / 4 * 4 = n / 4 * 4 by omega, ← Finset.sum_Ico_succ_top (by omega)]
  have oneI : ∀ (f : ℕ → ℝ), n % 4 = 0 → 0 + f n = ∑ T ∈ Finset.Ico (n / 4 * 4) (n + 1), f T := fun f h => by
    rw [show n / 4 * 4 = n by omega, Nat.Ico_succ_singleton, Finset.sum_singleton, zero_add]
  have one : ∀ (f : ℕ → ℝ), n = 0 → 0 + f n = ∑ T ∈ Finset.range (n + 1), f T := fun f h => by
    subst h
    rw [Finset.sum_range_one, zero_add]
  by_cases h0 : n % 8 = 0
  · have h1 : n % 4 = 0 := by omega
    have h2 : ¬n % 8 = 7 := by omega
    have e := stAt0_A m c ⟨n, hn⟩ acc h0 h1 h2
    rw [show stAt0 m c n hn acc = _ from e]
    refine Inv.of ?_ ?_ ?_ ?_ ?_ ?_ ?_
    · exact fun ρ k => caseA_13 (hB := hB) ..
    · exact fun ρ k => caseA_14 (hB := hB) ..
    · exact fun m k => (caseA_15 (hB := hB) ..).trans (congrArg Real.toEReal (oneI (fun T => dkvT A T m k) (by omega)))
    · exact fun g r s' => (caseA_16 (hB := hB) ..).trans (congrArg Real.toEReal (one (fun T => dwsT A T g r s') (by omega)))
    · exact fun h => absurd h (by omega)
    · exact fun z k => (caseA_18 (hB := hB) ..).trans (congrArg Real.toEReal (one (fun T => dgvT A T k) (by omega)))
    · exact fun r k => (caseA_s (hB := hB) ..).trans (congrArg Real.toEReal (one (fun T => dbT A T r k) (by omega)))
  · by_cases h1 : n % 4 = 0
    · have h2 : ¬n % 8 = 7 := by omega
      have e := stAt0_C m c ⟨n, hn⟩ acc h0 h1 h2
      rw [show stAt0 m c n hn acc = _ from e]
      have hi := hacc (by omega)
      refine Inv.of ?_ ?_ ?_ ?_ ?_ ?_ ?_
      · exact fun ρ k => caseC_13 (hB := hB) ..
      · exact fun ρ k => caseC_14 (hB := hB) ..
      · exact fun m k => (caseC_15 (hB := hB) ..).trans (congrArg Real.toEReal (oneI (fun T => dkvT A T m k) (by omega)))
      · exact fun g r s' => (caseC_16 (hB := hB) (q16 := fun g r s' => ∑ T ∈ Finset.range (n - 1 + 1), dwsT A T g r s') (hq16 := hi.dws) ..).trans (congrArg Real.toEReal (up (fun T => dwsT A T g r s') (by omega)))
      · exact fun h => absurd h (by omega)
      · exact fun z k => (caseC_18 (hB := hB) (q18 := fun k => ∑ T ∈ Finset.range (n - 1 + 1), dgvT A T k) (hq18 := hi.dgv) ..).trans (congrArg Real.toEReal (up (fun T => dgvT A T k) (by omega)))
      · exact fun r k => (caseC_s (hB := hB) (q2 := fun r k => ∑ T ∈ Finset.range (n - 1 + 1), dbT A T r k) (hq2 := hi.sum) ..).trans (congrArg Real.toEReal (up (fun T => dbT A T r k) (by omega)))
    · by_cases h2 : n % 8 = 7
      · have e := stAt0_D m c ⟨n, hn⟩ acc h0 h1 h2
        rw [show stAt0 m c n hn acc = _ from e]
        have hi := hacc (by omega)
        refine Inv.of ?_ ?_ ?_ ?_ ?_ ?_ ?_
        · exact fun ρ k => caseD_13 (hB := hB) ..
        · exact fun ρ k => caseD_14 (hB := hB) ..
        · exact fun m k => (caseD_15 (hB := hB) (q15 := fun m k => ∑ T ∈ Finset.Ico ((n - 1) / 4 * 4) (n - 1 + 1), dkvT A T m k) (hq15 := hi.dkv) ..).trans (congrArg Real.toEReal (upI (fun T => dkvT A T m k) (by omega)))
        · exact fun g r s' => (caseD_16 (hB := hB) (q16 := fun g r s' => ∑ T ∈ Finset.range (n - 1 + 1), dwsT A T g r s') (hq16 := hi.dws) ..).trans (congrArg Real.toEReal (up (fun T => dwsT A T g r s') (by omega)))
        · exact fun _ g s' => (caseD_17 (hB := hB) (q2 := fun r k => ∑ T ∈ Finset.range (n - 1 + 1), dbT A T r k) (hq2 := hi.sum) ..).trans (congrArg Real.toEReal (Finset.sum_congr rfl fun k _ => (up (fun T => dbT A T s' (g * 64 + k)) (by omega)).trans (by rw [show n + 1 = 8 by omega])))
        · exact fun z k => (caseD_18 (hB := hB) (q18 := fun k => ∑ T ∈ Finset.range (n - 1 + 1), dgvT A T k) (hq18 := hi.dgv) ..).trans (congrArg Real.toEReal (up (fun T => dgvT A T k) (by omega)))
        · exact fun r k => (caseD_s (hB := hB) (q2 := fun r k => ∑ T ∈ Finset.range (n - 1 + 1), dbT A T r k) (hq2 := hi.sum) ..).trans (congrArg Real.toEReal (up (fun T => dbT A T r k) (by omega)))
      · have e := stAt0_B m c ⟨n, hn⟩ acc h0 h1 h2
        rw [show stAt0 m c n hn acc = _ from e]
        have hi := hacc (by omega)
        refine Inv.of ?_ ?_ ?_ ?_ ?_ ?_ ?_
        · exact fun ρ k => caseB_13 (hB := hB) ..
        · exact fun ρ k => caseB_14 (hB := hB) ..
        · exact fun m k => (caseB_15 (hB := hB) (q15 := fun m k => ∑ T ∈ Finset.Ico ((n - 1) / 4 * 4) (n - 1 + 1), dkvT A T m k) (hq15 := hi.dkv) ..).trans (congrArg Real.toEReal (upI (fun T => dkvT A T m k) (by omega)))
        · exact fun g r s' => (caseB_16 (hB := hB) (q16 := fun g r s' => ∑ T ∈ Finset.range (n - 1 + 1), dwsT A T g r s') (hq16 := hi.dws) ..).trans (congrArg Real.toEReal (up (fun T => dwsT A T g r s') (by omega)))
        · exact fun h => absurd h (by omega)
        · exact fun z k => (caseB_18 (hB := hB) (q18 := fun k => ∑ T ∈ Finset.range (n - 1 + 1), dgvT A T k) (hq18 := hi.dgv) ..).trans (congrArg Real.toEReal (up (fun T => dgvT A T k) (by omega)))
        · exact fun r k => (caseB_s (hB := hB) (q2 := fun r k => ∑ T ∈ Finset.range (n - 1 + 1), dbT A T r k) (hq2 := hi.sum) ..).trans (congrArg Real.toEReal (up (fun T => dbT A T r k) (by omega)))

/-- So the sums hold after every block. -/
theorem inv_fold (j : ℕ) (h : 0 + j < cfg0.N) :
    Inv A j (Pipeline.accAt (fun n h => stAt0 m c n h junk0) (stAt0 m c) 0 j h) := by
  suffices hs : Inv A (0 + j) (Pipeline.accAt (fun n h => stAt0 m c n h junk0) (stAt0 m c) 0 j h) by
    rwa [Nat.zero_add] at hs
  induction j with
  | zero => exact inv_step m c hb 0 _ junk0 (fun h => absurd rfl h)
  | succ j ih => exact inv_step m c hb (0 + (j + 1)) h _ fun _ => ih _

end Cert.Branch
-- ==== Proof.KerArr.lean ====
/- The six arrays the kernel leaves, as the formulas of the gradient. -/
module

public import proofs.«01_k».proof.Proof.KerInv

@[expose] public section

set_option maxRecDepth 16384

noncomputable section

namespace Cert.Branch

open Idealize.ShloMosaic Cert.Reals Idealize.ShloMosaic.Tactic
open Cert.KernelIdeal Cert.KernelIdeal.Gen

open Cert.KernelIdeal.Value

/-! ## Sums over the blocks are sums over the rows -/

theorem tiles (J T : ℕ) (f : ℕ → ℝ) : ∑ n ∈ Finset.range J, ∑ j : Fin T, f (n * T + j) = ∑ k : Fin (J * T), f k := by
  rw [Finset.sum_range, Fin.sum_univ_tiles J T rfl]

theorem dws_all (A : Args) (g r s : ℕ) : ∑ T ∈ Finset.range 8, dwsT A T g r s = dws A g r s := by
  unfold dwsT dws
  refine Eq.trans ?_ (tiles 8 4 fun n => ∑ e : Fin 64, dmix A (n * 128 + r) (g * 64 + e) * vn A (n * 128 + s) (g * 64 + e))
  refine Finset.sum_congr rfl fun T _ => Finset.sum_congr rfl fun j _ => Finset.sum_congr rfl fun e _ => ?_
  rw [show T * 512 + ((j : ℕ) * 128 + r) = (T * 4 + j) * 128 + r by ring, show T * 512 + ((j : ℕ) * 128 + s) = (T * 4 + j) * 128 + s by ring]

theorem dgv_all (A : Args) (k : ℕ) : ∑ T ∈ Finset.range 8, dgvT A T k = dgv A k :=
  tiles 8 512 fun r => dvn A r k * (gvb A r k * rv A r)

theorem db_all (A : Args) (g s : ℕ) : ∑ k : Fin 64, ∑ T ∈ Finset.range 8, dbT A T s (g * 64 + k) = db A g s := by
  unfold dbT db
  rw [Finset.sum_comm (s := (Finset.univ : Finset (Fin 32)))]
  refine Finset.sum_congr rfl fun k _ => ?_
  refine Eq.trans ?_ (tiles 8 4 fun n => dmix A (n * 128 + s) (g * 64 + k))
  refine Finset.sum_congr rfl fun T _ => Finset.sum_congr rfl fun j _ => ?_
  rw [show T * 512 + ((j : ℕ) * 128 + s) = (T * 4 + j) * 128 + s by ring]

theorem dkv_batch (f : ℕ → ℝ) (b : ℕ) : ∑ T ∈ Finset.Ico (b * 4) (b * 4 + 4), ∑ ρ : Fin 512, f (T * 512 + ρ) = ∑ s : Fin 2048, f (b * 2048 + s) := by
  rw [Finset.sum_Ico_eq_sum_range, Nat.add_sub_cancel_left]
  refine Eq.trans ?_ (tiles 4 512 fun s => f (b * 2048 + s))
  refine Finset.sum_congr rfl fun T _ => Finset.sum_congr rfl fun j _ => ?_
  rw [show (b * 4 + T) * 512 + (j : ℕ) = b * 2048 + (T * 512 + j) by ring]

theorem dkv_all (A : Args) (r k : ℕ) : ∑ T ∈ Finset.Ico (r / 256 * 4) (r / 256 * 4 + 4), dkvT A T (r % 256) k = dkv A r k := by
  unfold dkvT dkv
  by_cases hk : k < 256
  · simp only [if_pos hk]
    exact dkv_batch (fun x => ds A (k / 64) x (r % 256) * qm A x k) (r / 256)
  · simp only [if_neg hk]
    exact dkv_batch (fun x => pr A ((k - 256) / 64) x (r % 256) * dmo A x (k - 256)) (r / 256)

/-! ## The arrays -/

variable (m : (ℓ : Loc nD τ sig) → Buf (Elt Ideal) ℓ) (c : Dev nD) {A : Args}
  (hb : ∀ t : Fin cfg0.N, Block A t (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t))
include hb

/-- The gradient of the attention's output. -/
theorem arr_da (r : Fin 4096) (k : Fin 512) : G13 m c (ix2 r k) = ((da A r k : ℝ) : EReal) := by
  have hp : pt13Of (ix2 r k) = r / 512 := by
    show 1 * ((r : ℕ) / 512 - 0) + 1 * ((k : ℕ) / 512 - 0) = _
    omega
  have hn : pt13Of (ix2 r k) < cfg0.N := by rw [hp]; exact lt_of_lt_of_eq (by omega) N_0.symm
  unfold G13
  rw [dif_pos hn, eq_ix2 (loc13Of (ix2 r k))]
  refine ((inv_fold m c hb _ _).da _ _).trans ?_
  rw [hp]
  show ((da A ((r : ℕ) / 512 * 512 + (r : ℕ) % 512) ((k : ℕ) % 512) : ℝ) : EReal) = _
  rw [show (r : ℕ) / 512 * 512 + (r : ℕ) % 512 = r by omega, Nat.mod_eq_of_lt k.isLt]

/-- The gradient of the projection. -/
theorem arr_dr (r : Fin 4096) (k : Fin 1792) : G14 m c (ix2 r k) = ((dr A r k : ℝ) : EReal) := by
  have hp : pt14Of (ix2 r k) = r / 512 := by
    show 1 * ((r : ℕ) / 512 - 0) + 1 * ((k : ℕ) / 1792 - 0) = _
    omega
  have hn : pt14Of (ix2 r k) < cfg0.N := by rw [hp]; exact lt_of_lt_of_eq (by omega) N_0.symm
  unfold G14
  rw [dif_pos hn, eq_ix2 (loc14Of (ix2 r k))]
  refine ((inv_fold m c hb _ _).dr _ _).trans ?_
  rw [hp]
  show ((dr A ((r : ℕ) / 512 * 512 + (r : ℕ) % 512) ((k : ℕ) % 1792) : ℝ) : EReal) = _
  rw [show (r : ℕ) / 512 * 512 + (r : ℕ) % 512 = r by omega, Nat.mod_eq_of_lt k.isLt]

/-- The gradient of the memory's keys and values. -/
theorem arr_dkv (r k : Fin 512) : G15 m c (ix2 r k) = ((dkv A r k : ℝ) : EReal) := by
  have hp : pt15Of (ix2 r k) = r / 256 * 4 + 3 := by
    show 4 * (1 * ((r : ℕ) / 256 - 0) + 1 * ((k : ℕ) / 512 - 0)) + 3 = _
    omega
  have hn : pt15Of (ix2 r k) < cfg0.N := by rw [hp]; exact lt_of_lt_of_eq (by omega) N_0.symm
  unfold G15
  rw [dif_pos hn, eq_ix2 (loc15Of (ix2 r k))]
  refine ((inv_fold m c hb _ _).dkv _ _).trans ?_
  rw [hp, ← dkv_all]
  show ((∑ T ∈ Finset.Ico (((r : ℕ) / 256 * 4 + 3) / 4 * 4) ((r : ℕ) / 256 * 4 + 3 + 1), dkvT A T ((r : ℕ) % 256) ((k : ℕ) % 512) : ℝ) : EReal) = _
  rw [show ((r : ℕ) / 256 * 4 + 3) / 4 * 4 = (r : ℕ) / 256 * 4 by omega, Nat.mod_eq_of_lt k.isLt]

/-- The gradient of the mixing weights. -/
theorem arr_dws (g : Fin 4) (r s : Fin 128) : G16 m c (ix3 g r s) = ((dws A g r s : ℝ) : EReal) := by
  rw [G16_last]
  refine ((inv_fold m c hb 7 (lt_of_lt_of_eq (by decide) N_0.symm)).dws g r s).trans ?_
  rw [← dws_all]

/-- The gradient of the bias. -/
theorem arr_db (g : Fin 4) (s : Fin 128) : G17 m c (ix2 g s) = ((db A g s : ℝ) : EReal) := by
  rw [G17_last]
  refine ((inv_fold m c hb 7 (lt_of_lt_of_eq (by decide) N_0.symm)).db rfl g s).trans ?_
  rw [← db_all]

/-- The gradient of the gain. -/
theorem arr_dgv (z : Fin 1) (k : Fin 256) : G18 m c (ix2 z k) = ((dgv A k : ℝ) : EReal) := by
  rw [G18_last]
  refine ((inv_fold m c hb 7 (lt_of_lt_of_eq (by decide) N_0.symm)).dgv z k).trans ?_
  rw [← dgv_all]

end Cert.Branch
-- ==== Proof.KerIn.lean ====
/- What the blocks of the inputs hold, from what the arguments hold. -/
module

public import proofs.«01_k».proof.Proof.RefGates
public import proofs.«01_k».proof.Proof.KerArr

@[expose] public section

set_option maxRecDepth 16384

noncomputable section

namespace Cert.Branch

open Idealize.ShloMosaic Cert.Reals Idealize.ShloMosaic.Tactic
open Cert.KernelIdeal Cert.KernelIdeal.Gen

open Idealize.ShloMosaic.TcCoe

variable (m : (ℓ : Loc nD τ sig) → Buf (Elt Ideal) ℓ) (c : Dev nD)

/-! ## What the host prepares -/

theorem V_ct : V m c main_v4 = shapeCast S4096x1024 (m ((c : Thread nD τ).loc main_arg0)) shapeCasts_S2x2048x1024_S4096x1024 := by
  unfold V hostOps0
  after_results <;> rfl

theorem V_w : V m c main_v5 = (show FVec Ideal S1024x1024 .bf16 from truncf .bf16 (m ((c : Thread nD τ).loc main_arg1)) bitsLt_bf16_f32) := by
  unfold V hostOps0
  after_results <;> rfl

theorem V_p : V m c main_v6 = shapeCast S4096x3328 (m ((c : Thread nD τ).loc main_arg2)) shapeCasts_S2x2048x3328_S4096x3328 := by
  unfold V hostOps0
  after_results <;> rfl

theorem V_a : V m c main_v7 = shapeCast S4096x512 (m ((c : Thread nD τ).loc main_arg3)) shapeCasts_S2x2048x512_S4096x512 := by
  unfold V hostOps0
  after_results <;> rfl

theorem V_kv : V m c main_v8 = shapeCast S512x512 (m ((c : Thread nD τ).loc main_arg4)) shapeCasts_S2x256x512_S512x512 := by
  unfold V hostOps0
  after_results <;> rfl

theorem V_ws : V m c main_v9 = shapeCast S4x128x128 (m ((c : Thread nD τ).loc main_arg5)) shapeCasts_S1x4x128x128_S4x128x128 := by
  unfold V hostOps0
  after_results <;> rfl

theorem V_bs : V m c main_v3 = shapeCast S128x256 (broadcastInDim S128x4x64 ![0, 1] bcast_S128x4_S128x4x64_0_1 (transpose S128x4 [1, 0] (shapeCast S4x128 (m ((c : Thread nD τ).loc main_arg6)) shapeCasts_S1x4x128_S4x128) transposes_S4x128_S128x4_1_0)) shapeCasts_S128x4x64_S128x256 := by
  unfold V hostOps0
  after_results <;> rfl

/-! ## What the host's reshapes hold -/

theorem cast_ct {f : ℕ → ℕ → ℝ} {x : Vec Ideal S2x2048x1024 .f32} (hx : ∀ (b : Fin 2) (s : Fin 2048) (k : Fin 1024), x (ix3 b s k) = ((f (b * 2048 + s) k : ℝ) : EReal)) (r : Fin 4096) (k : Fin 1024) :
    (shapeCast S4096x1024 x shapeCasts_S2x2048x1024_S4096x1024 : Vec Ideal S4096x1024 .f32) (ix2 r k) = ((f r k : ℝ) : EReal) := by
  pointwise []
  rw [hx]
  simp only [show (r : ℕ) / 2048 * 2048 + (r : ℕ) % 2048 = r by omega]

theorem cast_p {f : ℕ → ℕ → ℝ} {x : Vec Ideal S2x2048x3328 .f32} (hx : ∀ (b : Fin 2) (s : Fin 2048) (k : Fin 3328), x (ix3 b s k) = ((f (b * 2048 + s) k : ℝ) : EReal)) (r : Fin 4096) (k : Fin 3328) :
    (shapeCast S4096x3328 x shapeCasts_S2x2048x3328_S4096x3328 : Vec Ideal S4096x3328 .f32) (ix2 r k) = ((f r k : ℝ) : EReal) := by
  pointwise []
  rw [hx]
  simp only [show (r : ℕ) / 2048 * 2048 + (r : ℕ) % 2048 = r by omega]

theorem cast_a {f : ℕ → ℕ → ℝ} {x : Vec Ideal S2x2048x512 .f32} (hx : ∀ (b : Fin 2) (s : Fin 2048) (k : Fin 512), x (ix3 b s k) = ((f (b * 2048 + s) k : ℝ) : EReal)) (r : Fin 4096) (k : Fin 512) :
    (shapeCast S4096x512 x shapeCasts_S2x2048x512_S4096x512 : Vec Ideal S4096x512 .f32) (ix2 r k) = ((f r k : ℝ) : EReal) := by
  pointwise []
  rw [hx]
  simp only [show (r : ℕ) / 2048 * 2048 + (r : ℕ) % 2048 = r by omega]

theorem cast_kv {f : ℕ → ℕ → ℝ} {x : Vec Ideal S2x256x512 .f32} (hx : ∀ (b : Fin 2) (s : Fin 256) (k : Fin 512), x (ix3 b s k) = ((f (b * 256 + s) k : ℝ) : EReal)) (r : Fin 512) (k : Fin 512) :
    (shapeCast S512x512 x shapeCasts_S2x256x512_S512x512 : Vec Ideal S512x512 .f32) (ix2 r k) = ((f r k : ℝ) : EReal) := by
  pointwise []
  rw [hx]
  simp only [show (r : ℕ) / 256 * 256 + (r : ℕ) % 256 = r by omega]

theorem cast_w {f : ℕ → ℕ → ℝ} {x : Vec Ideal S1024x1024 .f32} (hx : ∀ (j k : Fin 1024), x (ix2 j k) = ((f j k : ℝ) : EReal)) (j k : Fin 1024) :
    (show FVec Ideal S1024x1024 .bf16 from truncf .bf16 x bitsLt_bf16_f32) (ix2 j k) = ((f j k : ℝ) : EReal) := by
  pointwise []
  exact hx j k

theorem cast_ws {f : ℕ → ℕ → ℕ → ℝ} {x : Vec Ideal S1x4x128x128 .f32} (hx : ∀ (z : Fin 1) (g : Fin 4) (r s : Fin 128), x (ix4 z g r s) = ((f g r s : ℝ) : EReal)) (g : Fin 4) (r s : Fin 128) :
    (shapeCast S4x128x128 x shapeCasts_S1x4x128x128_S4x128x128 : Vec Ideal S4x128x128 .f32) (ix3 g r s) = ((f g r s : ℝ) : EReal) := by
  pointwise []
  rw [hx]

theorem cast_bs {f : ℕ → ℕ → ℝ} {x : Vec Ideal S1x4x128 .f32} (hx : ∀ (z : Fin 1) (g : Fin 4) (r : Fin 128), x (ix3 z g r) = ((f g r : ℝ) : EReal)) (r : Fin 128) (k : Fin 256) :
    (shapeCast S128x256 (broadcastInDim S128x4x64 ![0, 1] bcast_S128x4_S128x4x64_0_1 (transpose S128x4 [1, 0] (shapeCast S4x128 x shapeCasts_S1x4x128_S4x128) transposes_S4x128_S128x4_1_0)) shapeCasts_S128x4x64_S128x256 : Vec Ideal S128x256 .f32) (ix2 r k) = ((f (k / 64) r : ℝ) : EReal) := by
  pointwise []
  rw [hx]

/-! ## The blocks -/

variable (t : Fin cfg0.N)

theorem pt_lt : (t : ℕ) < 8 := lt_of_lt_of_eq t.isLt (show cfg0.N = 8 from N_0)

theorem blk0 (ρ : Fin 512) (k : Fin 1024) : iblk m c 0 t (ix2 ρ k) = V m c main_v4 (ix2 ⟨t * 512 + ρ, by have := pt_lt t; omega⟩ ⟨0 + k, by omega⟩) := by
  have h : win0_0.index t (0 : Fin 2) = t ∧ win0_0.index t (1 : Fin 2) = 0 :=
    (by decide +kernel : ∀ t : Fin grid0.N, win0_0.index t (0 : Fin 2) = t ∧ win0_0.index t (1 : Fin 2) = 0) t
  show V m c main_v4 (((cfg0.win 0).blk t).view.emb (ix2 ρ k)) = _
  refine congrArg _ (funext fun a => Fin.ext ?_)
  match a with
  | ⟨0, _⟩ =>
    show win0_0.index t (0 : Fin 2) * 512 + 1 * (ρ : ℕ) = t * 512 + ρ
    rw [h.1, Nat.one_mul]
  | ⟨1, _⟩ =>
    show win0_0.index t (1 : Fin 2) * 1024 + 1 * (k : ℕ) = 0 + k
    rw [h.2, Nat.one_mul]

theorem blk2 (ρ : Fin 512) (k : Fin 512) : X0_2 m c t (ix2 ρ k) = V m c main_v6 (ix2 ⟨t * 512 + ρ, by have := pt_lt t; omega⟩ ⟨1536 + k, by omega⟩) := by
  have h : win0_2.index t (0 : Fin 2) = t ∧ win0_2.index t (1 : Fin 2) = 3 :=
    (by decide +kernel : ∀ t : Fin grid0.N, win0_2.index t (0 : Fin 2) = t ∧ win0_2.index t (1 : Fin 2) = 3) t
  unfold X0_2 Pipeline.Window.fill
  rw [dif_pos (moved0_2 t _)]
  show V m c main_v6 _ = _
  refine congrArg _ (funext fun a => Fin.ext ?_)
  match a with
  | ⟨0, _⟩ =>
    show win0_2.index t (0 : Fin 2) * 512 + 1 * (ρ : ℕ) = t * 512 + ρ
    rw [h.1, Nat.one_mul]
  | ⟨1, _⟩ =>
    show win0_2.index t (1 : Fin 2) * 512 + 1 * (k : ℕ) = 1536 + k
    rw [h.2, Nat.one_mul]

theorem blk3 (ρ : Fin 512) (k : Fin 256) : iblk m c 3 t (ix2 ρ k) = V m c main_v6 (ix2 ⟨t * 512 + ρ, by have := pt_lt t; omega⟩ ⟨2048 + k, by omega⟩) := by
  have h : win0_3.index t (0 : Fin 2) = t ∧ win0_3.index t (1 : Fin 2) = 8 :=
    (by decide +kernel : ∀ t : Fin grid0.N, win0_3.index t (0 : Fin 2) = t ∧ win0_3.index t (1 : Fin 2) = 8) t
  show V m c main_v6 (((cfg0.win 3).blk t).view.emb (ix2 ρ k)) = _
  refine congrArg _ (funext fun a => Fin.ext ?_)
  match a with
  | ⟨0, _⟩ =>
    show win0_3.index t (0 : Fin 2) * 512 + 1 * (ρ : ℕ) = t * 512 + ρ
    rw [h.1, Nat.one_mul]
  | ⟨1, _⟩ =>
    show win0_3.index t (1 : Fin 2) * 256 + 1 * (k : ℕ) = 2048 + k
    rw [h.2, Nat.one_mul]

theorem blk4 (ρ : Fin 512) (k : Fin 256) : iblk m c 4 t (ix2 ρ k) = V m c main_v6 (ix2 ⟨t * 512 + ρ, by have := pt_lt t; omega⟩ ⟨2304 + k, by omega⟩) := by
  have h : win0_4.index t (0 : Fin 2) = t ∧ win0_4.index t (1 : Fin 2) = 9 :=
    (by decide +kernel : ∀ t : Fin grid0.N, win0_4.index t (0 : Fin 2) = t ∧ win0_4.index t (1 : Fin 2) = 9) t
  show V m c main_v6 (((cfg0.win 4).blk t).view.emb (ix2 ρ k)) = _
  refine congrArg _ (funext fun a => Fin.ext ?_)
  match a with
  | ⟨0, _⟩ =>
    show win0_4.index t (0 : Fin 2) * 512 + 1 * (ρ : ℕ) = t * 512 + ρ
    rw [h.1, Nat.one_mul]
  | ⟨1, _⟩ =>
    show win0_4.index t (1 : Fin 2) * 256 + 1 * (k : ℕ) = 2304 + k
    rw [h.2, Nat.one_mul]

theorem blk5 (ρ : Fin 512) (k : Fin 256) : iblk m c 5 t (ix2 ρ k) = V m c main_v6 (ix2 ⟨t * 512 + ρ, by have := pt_lt t; omega⟩ ⟨2560 + k, by omega⟩) := by
  have h : win0_5.index t (0 : Fin 2) = t ∧ win0_5.index t (1 : Fin 2) = 10 :=
    (by decide +kernel : ∀ t : Fin grid0.N, win0_5.index t (0 : Fin 2) = t ∧ win0_5.index t (1 : Fin 2) = 10) t
  show V m c main_v6 (((cfg0.win 5).blk t).view.emb (ix2 ρ k)) = _
  refine congrArg _ (funext fun a => Fin.ext ?_)
  match a with
  | ⟨0, _⟩ =>
    show win0_5.index t (0 : Fin 2) * 512 + 1 * (ρ : ℕ) = t * 512 + ρ
    rw [h.1, Nat.one_mul]
  | ⟨1, _⟩ =>
    show win0_5.index t (1 : Fin 2) * 256 + 1 * (k : ℕ) = 2560 + k
    rw [h.2, Nat.one_mul]

theorem blk6 (ρ : Fin 512) (k : Fin 256) : iblk m c 6 t (ix2 ρ k) = V m c main_v6 (ix2 ⟨t * 512 + ρ, by have := pt_lt t; omega⟩ ⟨2816 + k, by omega⟩) := by
  have h : win0_6.index t (0 : Fin 2) = t ∧ win0_6.index t (1 : Fin 2) = 11 :=
    (by decide +kernel : ∀ t : Fin grid0.N, win0_6.index t (0 : Fin 2) = t ∧ win0_6.index t (1 : Fin 2) = 11) t
  show V m c main_v6 (((cfg0.win 6).blk t).view.emb (ix2 ρ k)) = _
  refine congrArg _ (funext fun a => Fin.ext ?_)
  match a with
  | ⟨0, _⟩ =>
    show win0_6.index t (0 : Fin 2) * 512 + 1 * (ρ : ℕ) = t * 512 + ρ
    rw [h.1, Nat.one_mul]
  | ⟨1, _⟩ =>
    show win0_6.index t (1 : Fin 2) * 256 + 1 * (k : ℕ) = 2816 + k
    rw [h.2, Nat.one_mul]

theorem blk7 (ρ : Fin 512) (k : Fin 256) : iblk m c 7 t (ix2 ρ k) = V m c main_v6 (ix2 ⟨t * 512 + ρ, by have := pt_lt t; omega⟩ ⟨3072 + k, by omega⟩) := by
  have h : win0_7.index t (0 : Fin 2) = t ∧ win0_7.index t (1 : Fin 2) = 12 :=
    (by decide +kernel : ∀ t : Fin grid0.N, win0_7.index t (0 : Fin 2) = t ∧ win0_7.index t (1 : Fin 2) = 12) t
  show V m c main_v6 (((cfg0.win 7).blk t).view.emb (ix2 ρ k)) = _
  refine congrArg _ (funext fun a => Fin.ext ?_)
  match a with
  | ⟨0, _⟩ =>
    show win0_7.index t (0 : Fin 2) * 512 + 1 * (ρ : ℕ) = t * 512 + ρ
    rw [h.1, Nat.one_mul]
  | ⟨1, _⟩ =>
    show win0_7.index t (1 : Fin 2) * 256 + 1 * (k : ℕ) = 3072 + k
    rw [h.2, Nat.one_mul]

theorem blk8 (ρ : Fin 512) (k : Fin 512) : iblk m c 8 t (ix2 ρ k) = V m c main_v7 (ix2 ⟨t * 512 + ρ, by have := pt_lt t; omega⟩ ⟨0 + k, by omega⟩) := by
  have h : win0_8.index t (0 : Fin 2) = t ∧ win0_8.index t (1 : Fin 2) = 0 :=
    (by decide +kernel : ∀ t : Fin grid0.N, win0_8.index t (0 : Fin 2) = t ∧ win0_8.index t (1 : Fin 2) = 0) t
  show V m c main_v7 (((cfg0.win 8).blk t).view.emb (ix2 ρ k)) = _
  refine congrArg _ (funext fun a => Fin.ext ?_)
  match a with
  | ⟨0, _⟩ =>
    show win0_8.index t (0 : Fin 2) * 512 + 1 * (ρ : ℕ) = t * 512 + ρ
    rw [h.1, Nat.one_mul]
  | ⟨1, _⟩ =>
    show win0_8.index t (1 : Fin 2) * 512 + 1 * (k : ℕ) = 0 + k
    rw [h.2, Nat.one_mul]

theorem blk9 (ρ : Fin 256) (k : Fin 512) : iblk m c 9 t (ix2 ρ k) = V m c main_v8 (ix2 ⟨(t : ℕ) / 4 * 256 + ρ, by have := pt_lt t; omega⟩ ⟨0 + k, by omega⟩) := by
  have h : win0_9.index t (0 : Fin 2) = (t : ℕ) / 4 ∧ win0_9.index t (1 : Fin 2) = 0 :=
    (by decide +kernel : ∀ t : Fin grid0.N, win0_9.index t (0 : Fin 2) = (t : ℕ) / 4 ∧ win0_9.index t (1 : Fin 2) = 0) t
  show V m c main_v8 (((cfg0.win 9).blk t).view.emb (ix2 ρ k)) = _
  refine congrArg _ (funext fun a => Fin.ext ?_)
  match a with
  | ⟨0, _⟩ =>
    show win0_9.index t (0 : Fin 2) * 256 + 1 * (ρ : ℕ) = (t : ℕ) / 4 * 256 + ρ
    rw [h.1, Nat.one_mul]
  | ⟨1, _⟩ =>
    show win0_9.index t (1 : Fin 2) * 512 + 1 * (k : ℕ) = 0 + k
    rw [h.2, Nat.one_mul]

theorem blk1 : iblk m c 1 t = V m c main_v5 := by
  have h := (by decide +kernel : ∀ t : Fin grid0.N, (fun a => win0_1.index t a * main_v5.ty.shape.size a) = fun _ => 0) t
  exact Memref.read_access_unit_zero (Elt Ideal) main_v5 h (fun a => by rw [congrFun h a]; simp) _

theorem blk10 : iblk m c 10 t = V m c main_v9 := by
  have h := (by decide +kernel : ∀ t : Fin grid0.N, (fun a => win0_10.index t a * main_v9.ty.shape.size a) = fun _ => 0) t
  exact Memref.read_access_unit_zero (Elt Ideal) main_v9 h (fun a => by rw [congrFun h a]; simp) _

theorem blk11 : iblk m c 11 t = V m c main_v3 := by
  have h := (by decide +kernel : ∀ t : Fin grid0.N, (fun a => win0_11.index t a * main_v3.ty.shape.size a) = fun _ => 0) t
  exact Memref.read_access_unit_zero (Elt Ideal) main_v3 h (fun a => by rw [congrFun h a]; simp) _

theorem blk12 : iblk m c 12 t = V m c main_arg7 := by
  have h := (by decide +kernel : ∀ t : Fin grid0.N, (fun a => win0_12.index t a * main_arg7.ty.shape.size a) = fun _ => 0) t
  exact Memref.read_access_unit_zero (Elt Ideal) main_arg7 h (fun a => by rw [congrFun h a]; simp) _

/-! ## Every block -/

variable {A : Args}
  (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
include h

/-- At every point the blocks hold the specification's numbers. -/
theorem blocks : Block A t (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) where
  lt := pt_lt t
  ct := fun ρ k => by
    rw [blk0, V_ct, cast_ct h.ct]
    simp only [Nat.zero_add]
  w := fun j k => by
    rw [blk1, V_w]
    exact cast_w h.w j k
  za := fun ρ k => by
    rw [blk2, V_p]
    exact cast_p h.p _ _
  ub := fun ρ k => by
    rw [blk3, V_p]
    exact cast_p h.p _ _
  vb := fun ρ k => by
    rw [blk4, V_p]
    exact cast_p h.p _ _
  zb := fun ρ k => by
    rw [blk5, V_p]
    exact cast_p h.p _ _
  qm := fun ρ k => by
    rw [blk6, V_p]
    exact cast_p h.p _ _
  zm := fun ρ k => by
    rw [blk7, V_p]
    exact cast_p h.p _ _
  a := fun ρ k => by
    rw [blk8, V_a, cast_a h.a]
    simp only [Nat.zero_add]
  kv := fun r k => by
    rw [blk9, V_kv, cast_kv h.kv]
    simp only [Nat.zero_add]
  ws := fun g r s => by
    rw [blk10, V_ws]
    exact cast_ws h.ws g r s
  bs := fun r k => by
    rw [blk11, V_bs]
    exact cast_bs h.bs r k
  gv := fun z k => by
    rw [blk12, V_main_arg7]
    exact h.gv z k

end Cert.Branch
-- ==== Proof.DotAxes.lean ====
/- The reference's product contracted over three axes (the gradient of the mixing weights), read as an iterated sum. -/
module

public import proofs.«01_k».proof.Defs
public import Idealize.ShloMosaic.Lib.Pointwise

@[expose] public section

set_option maxRecDepth 16384

noncomputable section

namespace Cert.SumAxes

open Idealize.ShloMosaic
open Cert.ReferenceIdeal

/-- `[g, p, q, e, t]` against `[p, q, s, g, e]`, contracted over `p`, `q` and `e`. -/
theorem dot_weights [Cert.ReferenceIdeal.Facts]
    (L : S4x2x16x64x128.Idx → EReal) (R : S2x16x128x4x64.Idx → EReal) (g : Fin 4) (t s : Fin 128) :
    Ideal.matmul dot_S4x2x16x64x128_S2x16x128x4x64_S4x128x128_123_014_4_2_0_3 L R (fun _ => 0) (ix3 g t s)
      = ∑ p : Fin 2, ∑ q : Fin 16, ∑ e : Fin 64, L (ix5 g p q e t) * R (ix5 p q s g e) := by
  refine (zero_add _).trans ?_
  simp only [← Fintype.sum_prod_type']
  let D := dot_S4x2x16x64x128_S2x16x128x4x64_S4x128x128_123_014_4_2_0_3
  refine (Finset.sum_bij (fun (p : Fin 2 × Fin 16 × Fin 64) _ => (fun a => match a with
    | ⟨0, _⟩ => p.1 | ⟨1, _⟩ => p.2.1 | ⟨2, _⟩ => p.2.2 : D.contr.Idx)) ?_ ?_ ?_ ?_).symm
  · intro p _; exact Finset.mem_univ _
  · intro p _ q _ w
    exact Prod.ext (congrFun w ⟨0, (by decide : 0 < 3)⟩) (Prod.ext (congrFun w ⟨1, (by decide : 1 < 3)⟩) (congrFun w ⟨2, (by decide : 2 < 3)⟩))
  · intro k _
    refine ⟨(k ⟨0, (by decide : 0 < 3)⟩, k ⟨1, (by decide : 1 < 3)⟩, k ⟨2, (by decide : 2 < 3)⟩), Finset.mem_univ _, ?_⟩
    funext c
    match c with
    | ⟨0, _⟩ => rfl
    | ⟨1, _⟩ => rfl
    | ⟨2, _⟩ => rfl
  · intro p _
    refine congrArg₂ (· * ·) (congrArg L ?_) (congrArg R ?_)
    · funext c
      match c with
      | ⟨0, _⟩ => rfl
      | ⟨1, _⟩ => rfl
      | ⟨2, _⟩ => rfl
      | ⟨3, _⟩ => rfl
      | ⟨4, _⟩ => rfl
    · funext c
      match c with
      | ⟨0, _⟩ => rfl
      | ⟨1, _⟩ => rfl
      | ⟨2, _⟩ => rfl
      | ⟨3, _⟩ => rfl
      | ⟨4, _⟩ => rfl

end Cert.SumAxes

end
-- ==== Proof.RefSgu.lean ====
/- The reference's spatial gating unit as real numbers: the normalised half, its mixing over the positions of a chunk, and the
   gradients behind it. -/
module

public import proofs.«01_k».proof.Proof.RefGates
public import proofs.«01_k».proof.Proof.SumAxes
public import proofs.«01_k».proof.Proof.DotAxes

@[expose] public section

set_option maxRecDepth 16384

noncomputable section

namespace Cert.Branch

open Idealize.ShloMosaic Cert.Reals
open Cert.ReferenceIdeal
open Cert.ReferenceIdeal.Read
variable {A : Args} {x0 : Vec Ideal S2x2048x1024 .f32} {x1 : Vec Ideal S1024x1024 .f32} {x2 : Vec Ideal S2x2048x3328 .f32}
    {x3 : Vec Ideal S2x2048x512 .f32} {x4 : Vec Ideal S2x256x512 .f32} {x5 : Vec Ideal S1x4x128x128 .f32}
    {x6 : Vec Ideal S1x4x128 .f32} {x7 : Vec Ideal S1x256 .f32}
    (h : Holds A x0 x1 x2 x3 x4 x5 x6 x7)
include h

/-- The mean square plus epsilon. -/
theorem v62_eq (b : Fin 2) (s : Fin 2048) (z : Fin 1) :
    (val_main_v62 x2) (ix3 b s z) = ((ms A (b * 2048 + s) : ℝ) : EReal) := by
  pointwise [val_main_v62, val_main_v60, val_main_v58, val_main_v57, val_main_v56, val_main_cst_15, val_main_v59, val_main_cst_16, val_main_v61, val_main_cst_17]
  simp only [v52_eq h, words, reals]
  rfl

/-- The reciprocal root. -/
theorem v63_eq (b : Fin 2) (s : Fin 2048) (z : Fin 1) : (val_main_v63 x2) (ix3 b s z) = ((rv A (b * 2048 + s) : ℝ) : EReal) := by
  pointwise [val_main_v63]
  rw [v62_eq h, rsqrt_real (ms_pos A _)]
  rfl

/-- The derivative of the reciprocal root. -/
theorem v66_eq (b : Fin 2) (s : Fin 2048) (z : Fin 1) : (val_main_v66 x2) (ix3 b s z) = ((-(1 / 2) * (rv A (b * 2048 + s) / ms A (b * 2048 + s)) : ℝ) : EReal) := by
  pointwise [val_main_v66, val_main_v65, val_main_cst_18, val_main_v64]
  simp only [v62_eq h, v63_eq h, div_real _ (ms_pos A _).ne', w_neg_half, ← EReal.coe_mul]

/-- The normalised half before its gain. -/
theorem v68_eq (b : Fin 2) (s : Fin 2048) (c : Fin 256) :
    (val_main_v68 x2) (ix3 b s c) = ((gvb A (b * 2048 + s) c * rv A (b * 2048 + s) : ℝ) : EReal) := by
  pointwise [val_main_v68, val_main_v67]
  simp only [v52_eq h, v63_eq h, words, reals]

/-- The normalised half. -/
theorem v71_eq (b : Fin 2) (s : Fin 2048) (c : Fin 256) :
    (val_main_v71 x2 x7) (ix3 b s c) = ((vn A (b * 2048 + s) c : ℝ) : EReal) := by
  pointwise [val_main_v71, val_main_v70, val_main_v69, val_main_v53]
  simp only [v68_eq h, h.gv, words, reals]
  rfl

/-- The mixing of the positions of a chunk. -/
theorem v79_eq (b : Fin 2) (s : Fin 2048) (c : Fin 256) :
    (val_main_v79 x2 x5 x6 x7) (ix3 b s c) = ((mixed A (b * 2048 + s) c : ℝ) : EReal) := by
  pointwise [val_main_v79, val_main_v78, val_main_v74, val_main_v73, val_main_v72, val_main_v54, val_main_v77, val_main_v76, val_main_v75, val_main_v55]
  simp only [v71_eq h, h.ws, h.bs, words, reals]
  refine congrArg _ ?_
  have e1 : (b.val * 2048 + s.val) / 128 * 128 = b.val * 2048 + s.val / 128 * 128 := by omega
  have e2 : (b.val * 2048 + s.val) % 128 = s.val % 128 := by omega
  unfold mixed
  rw [e1, e2]
  refine congrArg (· + _) ?_
  refine Finset.sum_congr rfl fun i _ => ?_
  rw [mul_comm, Nat.add_assoc]

/-- The gradient of the joined branches. -/
theorem v126_eq (b : Fin 2) (s : Fin 2048) (c : Fin 1024) :
    (val_main_v126 x0 x1) (ix3 b s c) = ((dg A (b * 2048 + s) c : ℝ) : EReal) := by
  pointwise [val_main_v126]
  simp only [h.ct, h.w, words, reals]
  rfl

/-- The gradient of the gating unit. -/
theorem v160_eq (b : Fin 2) (s : Fin 2048) (c : Fin 256) :
    (val_main_v160 x0 x1 x2) (ix3 b s c) = ((dsgu A (b * 2048 + s) c : ℝ) : EReal) := by
  pointwise [val_main_v160, val_main_v128]
  simp only [v126_eq h, v81_0_eq h, words, reals]
  refine congrArg _ ?_
  unfold dsgu
  ring_nf

/-- The gradient of the gating unit's gate. -/
theorem v162_eq (b : Fin 2) (s : Fin 2048) (c : Fin 256) :
    (val_main_v162 x0 x1 x2 x5 x6 x7) (ix3 b s c) = ((dzb A (b * 2048 + s) c : ℝ) : EReal) := by
  pointwise [val_main_v162, val_main_call4_v1, val_main_v161, val_main_v128, val_main_v80, val_main_call4_v2, val_main_call4_v0, val_main_v4, val_main_v0]
  simp only [v126_eq h, v81_1_eq h, v81_2_eq h, v79_eq h, v30_eq h, h.p, words, reals]
  refine congrArg _ ?_
  unfold dzb dsi zb
  ring_nf

/-- The gradient of the mixed half. -/
theorem v163_eq (b : Fin 2) (s : Fin 2048) (c : Fin 256) :
    (val_main_v163 x0 x1 x2) (ix3 b s c) = ((dmix A (b * 2048 + s) c : ℝ) : EReal) := by
  pointwise [val_main_v163]
  simp only [v160_eq h, v30_eq h, words, reals]
  refine congrArg _ ?_
  unfold dmix
  ring_nf

/-- The gradient of the gated half. -/
theorem v221_eq (b : Fin 2) (s : Fin 2048) (c : Fin 256) :
    (val_main_v221 x0 x1 x2 x5 x6 x7) (ix3 b s c) = ((dub A (b * 2048 + s) c : ℝ) : EReal) := by
  pointwise [val_main_v221, val_main_v217, val_main_v211, val_main_v164, val_main_v29, val_main_v28, val_main_cst_6, val_main_v27, val_main_v26, val_main_cst_5, val_main_v20, val_main_v19, val_main_v18, val_main_cst_2, val_main_v17, val_main_v2, val_main_v0, val_main_v16, val_main_v15, val_main_v9, val_main_cst, val_main_cst_0, val_main_v11, val_main_v10, val_main_v216, val_main_v215, val_main_cst_43, val_main_v214, val_main_v213, val_main_v212, val_main_cst_42, val_main_v210, val_main_v25, val_main_v22, val_main_v21, val_main_cst_3, val_main_v24, val_main_v23, val_main_cst_4, val_main_v220, val_main_v219, val_main_v218, val_main_v14, val_main_v13, val_main_cst_1, val_main_v12]
  simp only [v160_eq h, v79_eq h, h.p, words, reals]
  refine congrArg _ ?_
  unfold dub dge th ub
  ring_nf

/-- The gradient of the normalised half. -/
theorem v174_eq (b : Fin 2) (s : Fin 2048) (c : Fin 256) :
    (val_main_v174 x0 x1 x2 x5) (ix3 b s c) = ((dvn A (b * 2048 + s) c : ℝ) : EReal) := by
  pointwise [val_main_v174, val_main_v173, val_main_v172, val_main_v170, val_main_v165, val_main_v54]
  simp only [v163_eq h, h.ws, words, reals]
  refine congrArg _ ?_
  have e1 : (b.val * 2048 + s.val) / 128 * 128 = b.val * 2048 + s.val / 128 * 128 := by omega
  have e2 : (b.val * 2048 + s.val) % 128 = s.val % 128 := by omega
  unfold dvn
  rw [e1, e2]
  refine Finset.sum_congr rfl fun i _ => ?_
  rw [mul_comm, Nat.add_assoc]

/-- The same through the gain. -/
theorem v179_eq (b : Fin 2) (s : Fin 2048) (c : Fin 256) :
    (val_main_v179 x0 x1 x2 x5 x7) (ix3 b s c) = ((A.gv c * dvn A (b * 2048 + s) c : ℝ) : EReal) := by
  pointwise [val_main_v179, val_main_v178, val_main_v69, val_main_v53]
  simp only [v174_eq h, h.gv, words, reals]
  refine congrArg _ ?_
  ring_nf

/-- The gradient of the GELU of the normalised half. -/
theorem v194_eq (b : Fin 2) (s : Fin 2048) (c : Fin 256) :
    (val_main_v194 x0 x1 x2 x5 x7) (ix3 b s c) = ((dgvb A (b * 2048 + s) c : ℝ) : EReal) := by
  pointwise [val_main_v194, val_main_v192, val_main_v185, val_main_v184, val_main_v191, val_main_v190, val_main_v189, val_main_v188, val_main_v186, val_main_v183, val_main_v182, val_main_v181, val_main_cst_37, val_main_v187, val_main_cst_38, val_main_cst_39, val_main_v193]
  simp only [v179_eq h, v52_eq h, v63_eq h, v66_eq h, words, reals]
  refine congrArg _ ?_
  have e1 : (∑ i : Fin 256, gvb A (b * 2048 + s) i * (A.gv i * dvn A (b * 2048 + s) i))
      = ∑ i : Fin 256, A.gv i * dvn A (b * 2048 + s) i * gvb A (b * 2048 + s) i := Finset.sum_congr rfl fun i _ => mul_comm _ _
  have e2 : rv A (b * 2048 + s) / ms A (b * 2048 + s)
      = rv A (b * 2048 + s) * (rv A (b * 2048 + s) * rv A (b * 2048 + s)) := by rw [rv_mul_rv, mul_one_div]
  simp only [Finset.univ_unique, Finset.sum_singleton]
  rw [e1, e2]
  unfold dgvb
  ring

/-- The gradient of the normalised half's projection. -/
theorem v209_eq (b : Fin 2) (s : Fin 2048) (c : Fin 256) :
    (val_main_v209 x0 x1 x2 x5 x7) (ix3 b s c) = ((dvb A (b * 2048 + s) c : ℝ) : EReal) := by
  pointwise [val_main_v209, val_main_v205, val_main_v199, val_main_v51, val_main_v50, val_main_cst_14, val_main_v49, val_main_v48, val_main_cst_13, val_main_v42, val_main_v41, val_main_v40, val_main_cst_10, val_main_v39, val_main_v3, val_main_v0, val_main_v38, val_main_v37, val_main_v31, val_main_cst_7, val_main_cst_8, val_main_v33, val_main_v32, val_main_v204, val_main_v203, val_main_cst_41, val_main_v202, val_main_v201, val_main_v200, val_main_cst_40, val_main_v198, val_main_v47, val_main_v44, val_main_v43, val_main_cst_11, val_main_v46, val_main_v45, val_main_cst_12, val_main_v208, val_main_v207, val_main_v206, val_main_v36, val_main_v35, val_main_cst_9, val_main_v34]
  simp only [v194_eq h, h.p, words, reals]
  refine congrArg _ ?_
  unfold dvb dge th vb
  ring_nf

/-- The gradient of the mixing's bias. -/
theorem v231_eq (g : Fin 4) (t : Fin 128) : (val_main_v231 x0 x1 x2) (ix2 g t) = ((db A g t : ℝ) : EReal) := by
  pointwise [val_main_v231, val_main_v195, val_main_v169, val_main_v168, val_main_v167, val_main_v166, val_main_v165, val_main_cst_33, val_main_cst_34, SumAxes.hostReduceAdd_r5_a014]
  simp only [Finset.univ_unique, Finset.sum_singleton]
  simp only [v163_eq h, coe_sum]
  refine congrArg _ ?_
  unfold db
  rw [Fin.sum_univ_tiles 2 16 rfl]
  refine Finset.sum_congr rfl fun p _ => Finset.sum_congr rfl fun q _ => Finset.sum_congr rfl fun e _ => ?_
  rw [show p.val * 2048 + (q.val * 128 + t.val) = (p.val * 16 + q.val) * 128 + t.val by ring]

/-- The gradient of the mixing's weights. -/
theorem v230_eq (g : Fin 4) (t s : Fin 128) : (val_main_v230 x0 x1 x2 x7) (ix3 g t s) = ((dws A g t s : ℝ) : EReal) := by
  pointwise [val_main_v230, val_main_v196, val_main_v171, val_main_v170, val_main_v165, val_main_v72, SumAxes.dot_weights]
  simp only [v163_eq h, v71_eq h, ← EReal.coe_mul, coe_sum]
  refine congrArg _ ?_
  unfold dws
  rw [Fin.sum_univ_tiles 2 16 rfl]
  refine Finset.sum_congr rfl fun p _ => Finset.sum_congr rfl fun q _ => Finset.sum_congr rfl fun e _ => ?_
  rw [show p.val * 2048 + (q.val * 128 + t.val) = (p.val * 16 + q.val) * 128 + t.val by ring,
    show p.val * 2048 + (q.val * 128 + s.val) = (p.val * 16 + q.val) * 128 + s.val by ring]

/-- The gradient of the normalisation's gain. -/
theorem v197_eq (z : Fin 1) (c : Fin 256) : (val_main_v197 x0 x1 x2 x5) (ix2 z c) = ((dgv A c : ℝ) : EReal) := by
  pointwise [val_main_v197, val_main_v180, val_main_v177, val_main_v176, val_main_v175, val_main_cst_35, val_main_cst_36, SumAxes.hostReduceAdd_r3_a01]
  simp only [Finset.univ_unique, Finset.sum_singleton]
  simp only [v174_eq h, v68_eq h, ← EReal.coe_mul, coe_sum]
  refine congrArg _ ?_
  unfold dgv
  rw [Fin.sum_univ_tiles 2 2048 rfl]
  refine Finset.sum_congr rfl fun p _ => Finset.sum_congr rfl fun q _ => ?_
  exact mul_comm _ _

end Cert.Branch
-- ==== Proof.RefMem.lean ====
/- The reference's attention on the memory as real numbers, and the gradients behind it. -/
module

public import proofs.«01_k».proof.Proof.RefSgu

@[expose] public section

set_option maxRecDepth 16384

noncomputable section

namespace Cert.Branch

open Idealize.ShloMosaic Cert.Reals
open Cert.ReferenceIdeal
open Cert.ReferenceIdeal.Read
variable {A : Args} {x0 : Vec Ideal S2x2048x1024 .f32} {x1 : Vec Ideal S1024x1024 .f32} {x2 : Vec Ideal S2x2048x3328 .f32}
    {x3 : Vec Ideal S2x2048x512 .f32} {x4 : Vec Ideal S2x256x512 .f32} {x5 : Vec Ideal S1x4x128x128 .f32}
    {x6 : Vec Ideal S1x4x128 .f32} {x7 : Vec Ideal S1x256 .f32}
    (h : Holds A x0 x1 x2 x3 x4 x5 x6 x7)
include h

/-- The scores. -/
theorem v91_eq (b : Fin 2) (h4 : Fin 4) (s : Fin 2048) (m : Fin 256) :
    (val_main_v91 x2 x4) (ix4 b h4 s m) = ((sc A h4 (b * 2048 + s) m : ℝ) : EReal) := by
  pointwise [val_main_v91, val_main_v89, val_main_v86, val_main_v5, val_main_v0, val_main_v87, val_main_v84, val_main_v90, val_main_cst_19]
  simp only [h.p, h.kv, words, reals]
  refine congrArg _ ?_
  unfold sc qm km
  have e : (b.val * 2048 + s.val) / 2048 = b.val := by have := s.isLt; omega
  rw [e]
  refine congrArg (· * _) (Finset.sum_congr rfl fun i _ => ?_)
  rw [← Nat.add_assoc]

/-- The scores' largest along a row is some real number. -/
theorem v92_eq (j : S2x4x2048.Idx) : ∃ M : ℝ, (val_main_v92 x2 x4) j = (M : EReal) := by
  unfold val_main_v92
  rw [show (FloatOps.maximumf (F := Ideal) (φ := .f32)) = (max : EReal → EReal → EReal) from rfl, Host.reduce_eq_fold,
    show val_main_cst_20 (F := Ideal) _ = (⊥ : EReal) from w_bot]
  refine fold_max_real_of ?_ _ fun i => ?_
  · refine ⟨ix4 (j 0) (j 1) (j 2) (0 : Fin 256), Finset.mem_filter.mpr ⟨Finset.mem_univ _, ?_⟩⟩
    funext c
    match c with
    | ⟨0, _⟩ => exact Fin.ext (Shape.ReducesTo.drop_apply_val _ _ 0)
    | ⟨1, _⟩ => exact Fin.ext (Shape.ReducesTo.drop_apply_val _ _ 1)
    | ⟨2, _⟩ => exact Fin.ext (Shape.ReducesTo.drop_apply_val _ _ 2)
  · have e : i = ix4 (i 0) (i 1) (i 2) (i 3) := by
      funext c
      match c with
      | ⟨0, _⟩ => rfl
      | ⟨1, _⟩ => rfl
      | ⟨2, _⟩ => rfl
      | ⟨3, _⟩ => rfl
    rw [e]
    exact ⟨_, v91_eq h (i 0) (i 1) (i 2) (i 3)⟩

/-- So is the shift of a row's exponents. -/
theorem v99_eq (b : Fin 2) (h4 : Fin 4) (s : Fin 2048) : ∃ M : ℝ, (val_main_v99 x2 x4) (ix3 b h4 s) = (M : EReal) := by
  obtain ⟨M, hM⟩ := v92_eq h (ix3 b h4 s)
  refine ⟨M, ?_⟩
  rw [val_main_v99_apply, hM, val_main_v98_apply, val_main_cst_22_apply, Ideal.ofBits_def, w_bot]
  exact max_eq_right bot_le

/-- The probabilities. -/
theorem v116_eq (b : Fin 2) (h4 : Fin 4) (s : Fin 2048) (m : Fin 256) : (val_main_v116 x2 x4) (ix4 b h4 s m) = ((pr A h4 (b * 2048 + s) m : ℝ) : EReal) := by
  obtain ⟨M, hM⟩ := v99_eq h b h4 s
  pointwise [val_main_v116, val_main_v112, val_main_v111, val_main_v110, val_main_v109, val_main_v115, val_main_v114, val_main_v113, val_main_cst_28]
  simp only [v91_eq h, hM, Ideal.exp_coe, ← EReal.coe_sub, coe_sum]
  rw [div_real _ (sum_exp_pos (by norm_num) _).ne']
  exact congrArg _ (softmax_shift (fun k : Fin 256 => sc A h4 (b * 2048 + s) k) M m)

/-- The attention. -/
theorem v122_eq (b : Fin 2) (s : Fin 2048) (c : Fin 256) :
    (val_main_v122 x2 x4) (ix3 b s c) = ((mo A (b * 2048 + s) c : ℝ) : EReal) := by
  pointwise [val_main_v122, val_main_v121, val_main_v120, val_main_v88, val_main_v85]
  simp only [v116_eq h, h.kv, words, reals]
  refine congrArg _ ?_
  unfold mo vm
  have e : (b.val * 2048 + s.val) / 2048 = b.val := by have := s.isLt; omega
  rw [e]
  exact Finset.sum_congr rfl fun i _ => mul_comm _ _

/-- The gradient of the attention. -/
theorem v130_eq (b : Fin 2) (s : Fin 2048) (c : Fin 256) :
    (val_main_v130 x0 x1 x2) (ix3 b s c) = ((dmo A (b * 2048 + s) c : ℝ) : EReal) := by
  pointwise [val_main_v130, val_main_v129]
  simp only [v126_eq h, v83_0_eq h, words, reals]
  refine congrArg _ ?_
  unfold dmo
  ring_nf

/-- The gradient of the memory's gate. -/
theorem v159_eq (b : Fin 2) (s : Fin 2048) (c : Fin 256) :
    (val_main_v159 x0 x1 x2 x4) (ix3 b s c) = ((dzm A (b * 2048 + s) c : ℝ) : EReal) := by
  pointwise [val_main_v159, val_main_call3_v1, val_main_v131, val_main_v129, val_main_call3_v2, val_main_call3_v0, val_main_v6, val_main_v0]
  simp only [v126_eq h, v122_eq h, v83_1_eq h, v83_2_eq h, h.p, words, reals]
  refine congrArg _ ?_
  unfold dzm dsi zm
  ring_nf

/-- The gradient of the probabilities. -/
theorem v134_eq (b : Fin 2) (h4 : Fin 4) (s : Fin 2048) (m : Fin 256) :
    (val_main_v134 x0 x1 x2 x4) (ix4 b h4 s m) = ((dp A h4 (b * 2048 + s) m : ℝ) : EReal) := by
  pointwise [val_main_v134, val_main_v133, val_main_v132, val_main_v88, val_main_v85]
  simp only [v130_eq h, h.kv, words, reals]
  refine congrArg _ ?_
  unfold dp vm
  have e : (b.val * 2048 + s.val) / 2048 = b.val := by have := s.isLt; omega
  rw [e]

/-- The gradient of the scores before the scale. -/
theorem v150_eq (b : Fin 2) (h4 : Fin 4) (s : Fin 2048) (m : Fin 256) : (val_main_v150 x0 x1 x2 x4) (ix4 b h4 s m) = ((ds A h4 (b * 2048 + s) m : ℝ) : EReal) := by
  obtain ⟨M, hM⟩ := v99_eq h b h4 s
  pointwise [val_main_v150, val_main_v148, val_main_v147, val_main_v144, val_main_v143, val_main_v114, val_main_v113, val_main_v112, val_main_v111, val_main_v110, val_main_v109, val_main_cst_28, val_main_v146, val_main_v145, val_main_v142, val_main_v141, val_main_v140, val_main_v139, val_main_v138, val_main_v137, val_main_v119, val_main_v118, val_main_cst_29, val_main_v117, val_main_cst_30, val_main_cst_31, val_main_v149, val_main_cst_32]
  simp only [v91_eq h, v134_eq h, hM, Ideal.exp_coe, ← EReal.coe_sub, coe_sum]
  have hL := sum_exp_pos (n := 256) (by norm_num) fun i => sc A h4 (b * 2048 + s) i - M
  have hp : ∀ x : Fin 256, Real.exp (sc A h4 (b * 2048 + s) x - M)
      = pr A h4 (b * 2048 + s) x * ∑ i : Fin 256, Real.exp (sc A h4 (b * 2048 + s) i - M) := fun x => by
    have e := softmax_shift (fun k : Fin 256 => sc A h4 (b * 2048 + s) k) M x
    unfold pr
    rw [← e, div_mul_cancel₀ _ hL.ne']
  generalize (∑ i : Fin 256, Real.exp (sc A h4 (b * 2048 + s) i - M)) = L at hL hp ⊢
  simp only [hp, ← EReal.coe_one, w_eighth, ← EReal.coe_mul, div_real _ hL.ne', div_real _ (mul_pos hL hL).ne', coe_sum,
    ← EReal.coe_neg, ← EReal.coe_add, Finset.univ_unique, Finset.sum_singleton]
  refine congrArg _ ?_
  have e : (∑ x : Fin 256, dp A h4 (b * 2048 + s) x * (1 / (L * L)) * (pr A h4 (b * 2048 + s) x * L))
      = (∑ x : Fin 256, pr A h4 (b * 2048 + s) x * dp A h4 (b * 2048 + s) x) / L := by
    rw [Finset.sum_div]
    refine Finset.sum_congr rfl fun x _ => ?_
    field_simp
  rw [e]
  unfold ds
  field_simp
  ring

/-- The gradient of the queries. -/
theorem v157_eq (b : Fin 2) (s : Fin 2048) (c : Fin 256) :
    (val_main_v157 x0 x1 x2 x4) (ix3 b s c) = ((dqm A (b * 2048 + s) c : ℝ) : EReal) := by
  pointwise [val_main_v157, val_main_v154, val_main_v153, val_main_v87, val_main_v84]
  simp only [v150_eq h, h.kv, words, reals]
  refine congrArg _ ?_
  unfold dqm km
  have e : (b.val * 2048 + s.val) / 2048 = b.val := by have := s.isLt; omega
  rw [e]

/-- The gradient of the keys. -/
theorem v156_eq (b : Fin 2) (m : Fin 256) (c : Fin 256) :
    (val_main_v156 x0 x1 x2 x4) (ix3 b m c) = ((dkm A b m c : ℝ) : EReal) := by
  pointwise [val_main_v156, val_main_v152, val_main_v151, val_main_v86, val_main_v5, val_main_v0]
  simp only [v150_eq h, h.p, words, reals]
  refine congrArg _ ?_
  unfold dkm qm
  refine Finset.sum_congr rfl fun i _ => ?_
  rw [← Nat.add_assoc]

/-- The gradient of the values. -/
theorem v155_eq (b : Fin 2) (m : Fin 256) (c : Fin 256) :
    (val_main_v155 x0 x1 x2 x4) (ix3 b m c) = ((dvm A b m c : ℝ) : EReal) := by
  pointwise [val_main_v155, val_main_v136, val_main_v135, val_main_v133, val_main_v132]
  simp only [v116_eq h, v130_eq h, words, reals]
  refine congrArg _ ?_
  unfold dvm
  exact Finset.sum_congr rfl fun i _ => mul_comm _ _

end Cert.Branch
-- ==== Proof.RefOut.lean ====
/- The reference's results, index by index. -/
module

public import proofs.«01_k».proof.Proof.RefMem

@[expose] public section

set_option maxRecDepth 16384

noncomputable section

namespace Cert.Branch

open Idealize.ShloMosaic Cert.Reals
open Cert.ReferenceIdeal
open Cert.ReferenceIdeal.Read
variable {A : Args} {x0 : Vec Ideal S2x2048x1024 .f32} {x1 : Vec Ideal S1024x1024 .f32} {x2 : Vec Ideal S2x2048x3328 .f32}
    {x3 : Vec Ideal S2x2048x512 .f32} {x4 : Vec Ideal S2x256x512 .f32} {x5 : Vec Ideal S1x4x128x128 .f32}
    {x6 : Vec Ideal S1x4x128 .f32} {x7 : Vec Ideal S1x256 .f32}
    (h : Holds A x0 x1 x2 x3 x4 x5 x6 x7)
include h

/-- The gradient of the attention's output. -/
theorem v222_eq (b : Fin 2) (s : Fin 2048) (c : Fin 512) :
    (val_main_v222 x0 x1 x2) (ix3 b s c) = ((da A (b * 2048 + s) c : ℝ) : EReal) := by
  pointwise [val_main_v222, val_main_v127]
  simp only [v126_eq h, v7_0_eq h, words, reals]
  refine congrArg _ ?_
  unfold da
  ring_nf

/-- The gradient of the attention's gate. -/
theorem v224_eq (b : Fin 2) (s : Fin 2048) (c : Fin 512) :
    (val_main_v224 x0 x1 x2 x3) (ix3 b s c) = ((dza A (b * 2048 + s) c : ℝ) : EReal) := by
  pointwise [val_main_v224, val_main_call5_v1, val_main_v223, val_main_v127, val_main_call5_v2, val_main_call5_v0, val_main_v1, val_main_v0]
  simp only [v126_eq h, v7_1_eq h, v7_2_eq h, h.p, h.a, words, reals]
  refine congrArg _ ?_
  unfold dza dsi za
  ring_nf

/-- The first result. -/
theorem v226_eq (r : Fin 4096) (c : Fin 512) : (val_main_v226 x0 x1 x2) (ix2 r c) = ((da A r c : ℝ) : EReal) := by
  pointwise [val_main_v226]
  simp only [v222_eq h]
  rw [show r.val / 2048 * 2048 + r.val % 2048 = r.val by omega]

/-- The second result. -/
theorem v228_eq (r : Fin 4096) (c : Fin 1792) : (val_main_v228 x0 x1 x2 x3 x4 x5 x6 x7) (ix2 r c) = ((dr A r c : ℝ) : EReal) := by
  pointwise [val_main_v228, val_main_v227, val_main_v225]
  simp only [v224_eq h, v221_eq h, v209_eq h, v162_eq h, v157_eq h, v159_eq h, dite_eq_ite, Nat.sub_sub,
    show r.val / 2048 * 2048 + r.val % 2048 = r.val by omega]
  unfold dr
  split_ifs <;> first | rfl | (exfalso; omega)

/-- The third result. -/
theorem v229_eq (r : Fin 512) (c : Fin 512) : (val_main_v229 x0 x1 x2 x4) (ix2 r c) = ((dkv A r c : ℝ) : EReal) := by
  pointwise [val_main_v229, val_main_v158]
  simp only [v156_eq h, v155_eq h, dite_eq_ite]
  unfold dkv
  split_ifs <;> rfl

end Cert.Branch
-- ==== Proof.Branch.lean ====
/- The claims of the backward pass of the branches: the reference's run, and the agreement of the two programs. -/
module

public import proofs.«01_k».proof.Proof.Finite
public import proofs.«01_k».proof.Proof.KerIn
public import proofs.«01_k».proof.Proof.RefOut

@[expose] public section

set_option maxRecDepth 16384

noncomputable section

namespace Cert.Branch

open Idealize.ShloMosaic Idealize.ShloMosaic.TcCoe
open Cert.KernelIdeal Cert.KernelIdeal.Value
open Cert.ReferenceIdeal.Read

/-- The reference runs, keeps its arguments and has no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The two named constants are the values the kernel's rounded coefficients stand for. -/
theorem preserves : Cert.preserves_Kernel_KernelIdeal :=
  ⟨IdealRules.named_const.statement Cert.KernelIdeal.κ "gelu_k" .f32 0x3D372713#32 ((8943/200000 : ℝ) : EReal) rfl,
    IdealRules.named_const.statement Cert.KernelIdeal.κ "gelu_3k" .f32 0x3E095D4F#32 ((26829/200000 : ℝ) : EReal) rfl⟩

section Results

variable (m : (ℓ : Loc nD τ sig) → Buf (Elt Ideal) ℓ) (c : Dev nD) {A : Args}
variable (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
include h

/-- The first result. -/
theorem final_da : G13 m c = val_main_v226 (F := Ideal) (m ((c : Thread nD τ).loc main_arg0)) (m ((c : Thread nD τ).loc main_arg1)) (m ((c : Thread nD τ).loc main_arg2)) := by
  funext i
  rw [eq_ix2 i]
  exact (arr_da m c (fun t => blocks m c t h) _ _).trans (v226_eq h _ _).symm

/-- The second result. -/
theorem final_dr : G14 m c = val_main_v228 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [eq_ix2 i]
  exact (arr_dr m c (fun t => blocks m c t h) _ _).trans (v228_eq h _ _).symm

/-- The third result. -/
theorem final_dkv : G15 m c = val_main_v229 (F := Ideal) (m ((c : Thread nD τ).loc main_arg0)) (m ((c : Thread nD τ).loc main_arg1)) (m ((c : Thread nD τ).loc main_arg2)) (m ((c : Thread nD τ).loc main_arg4)) := by
  funext i
  rw [eq_ix2 i]
  exact (arr_dkv m c (fun t => blocks m c t h) _ _).trans (v229_eq h _ _).symm

/-- The fourth result. -/
theorem final_dws : G16 m c = val_main_v230 (F := Ideal) (m ((c : Thread nD τ).loc main_arg0)) (m ((c : Thread nD τ).loc main_arg1)) (m ((c : Thread nD τ).loc main_arg2)) (m ((c : Thread nD τ).loc main_arg7)) := by
  funext i
  rw [eq_ix3 i]
  exact (arr_dws m c (fun t => blocks m c t h) _ _ _).trans (v230_eq h _ _ _).symm

/-- The fifth result. -/
theorem final_db : G17 m c = val_main_v231 (F := Ideal) (m ((c : Thread nD τ).loc main_arg0)) (m ((c : Thread nD τ).loc main_arg1)) (m ((c : Thread nD τ).loc main_arg2)) := by
  funext i
  rw [eq_ix2 i]
  exact (arr_db m c (fun t => blocks m c t h) _ _).trans (v231_eq h _ _).symm

/-- The sixth result. -/
theorem final_dgv : G18 m c = val_main_v197 (F := Ideal) (m ((c : Thread nD τ).loc main_arg0)) (m ((c : Thread nD τ).loc main_arg1)) (m ((c : Thread nD τ).loc main_arg2)) (m ((c : Thread nD τ).loc main_arg5)) := by
  funext i
  rw [eq_ix2 i]
  exact (arr_dgv m c (fun t => blocks m c t h) _ _).trans (v197_eq h _ _).symm

end Results

variable [Cert.Pre_finite.Facts]

/-- The kernel and the reference agree, all six results, on memories that agree on the arguments. -/
theorem algebraic : Cert.algebraic_KernelIdeal_ReferenceIdeal_pre_finite := by
  intro m g m' g' hpre hm
  refine ⟨fun c => val_main_v226 (F := Ideal) (m ((c : Thread nD τ).loc main_arg0)) (m ((c : Thread nD τ).loc main_arg1)) (m ((c : Thread nD τ).loc main_arg2)),
    fun c => val_main_v228 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => val_main_v229 (F := Ideal) (m ((c : Thread nD τ).loc main_arg0)) (m ((c : Thread nD τ).loc main_arg1)) (m ((c : Thread nD τ).loc main_arg2)) (m ((c : Thread nD τ).loc main_arg4)),
    fun c => val_main_v230 (F := Ideal) (m ((c : Thread nD τ).loc main_arg0)) (m ((c : Thread nD τ).loc main_arg1)) (m ((c : Thread nD τ).loc main_arg2)) (m ((c : Thread nD τ).loc main_arg7)),
    fun c => val_main_v231 (F := Ideal) (m ((c : Thread nD τ).loc main_arg0)) (m ((c : Thread nD τ).loc main_arg1)) (m ((c : Thread nD τ).loc main_arg2)),
    fun c => val_main_v197 (F := Ideal) (m ((c : Thread nD τ).loc main_arg0)) (m ((c : Thread nD τ).loc main_arg1)) (m ((c : Thread nD τ).loc main_arg2)) (m ((c : Thread nD τ).loc main_arg5)), ?_, ?_⟩
  · refine (θ_run defs _ _).mono (fun r h c => ?_) (Cert.KernelIdeal.Value.run m g)
    obtain ⟨h0, h1, h2, h3, h4, h5, hk⟩ := h c
    have hh := holds _ _ _ _ _ _ _ _ (hpre c)
    exact ⟨h0.trans (final_da m c hh), h1.trans (final_dr m c hh), h2.trans (final_dkv m c hh), h3.trans (final_dws m c hh), h4.trans (final_db m c hh), h5.trans (final_dgv m c hh), hk⟩
  · refine (θ_run Cert.ReferenceIdeal.defs _ _).mono (fun r h c => ?_) (Cert.ReferenceIdeal.Value.run m' g')
    obtain ⟨h0, h1, h2, h3, h4, h5, hk⟩ := h c
    obtain ⟨e0, e1, e2, e3, e4, e5, e6, e7⟩ := hm c
    refine ⟨(h0.trans (val_main_v226_eq _)).trans ?_, (h1.trans (val_main_v228_eq _)).trans ?_, (h2.trans (val_main_v229_eq _)).trans ?_, (h3.trans (val_main_v230_eq _)).trans ?_, (h4.trans (val_main_v231_eq _)).trans ?_, (h5.trans (val_main_v197_eq _)).trans ?_, hk⟩
    · show val_main_v226 (F := Ideal) (m' ((c : Thread nD τ).loc ReferenceIdeal.main_arg0)) (m' ((c : Thread nD τ).loc ReferenceIdeal.main_arg1)) (m' ((c : Thread nD τ).loc ReferenceIdeal.main_arg2)) = val_main_v226 (F := Ideal) (m ((c : Thread nD τ).loc main_arg0)) (m ((c : Thread nD τ).loc main_arg1)) (m ((c : Thread nD τ).loc main_arg2))
      rw [e0, e1, e2]
    · show val_main_v228 (F := Ideal) (m' ((c : Thread nD τ).loc ReferenceIdeal.main_arg0)) (m' ((c : Thread nD τ).loc ReferenceIdeal.main_arg1)) (m' ((c : Thread nD τ).loc ReferenceIdeal.main_arg2)) (m' ((c : Thread nD τ).loc ReferenceIdeal.main_arg3)) (m' ((c : Thread nD τ).loc ReferenceIdeal.main_arg4)) (m' ((c : Thread nD τ).loc ReferenceIdeal.main_arg5)) (m' ((c : Thread nD τ).loc ReferenceIdeal.main_arg6)) (m' ((c : Thread nD τ).loc ReferenceIdeal.main_arg7)) = val_main_v228 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      rw [e0, e1, e2, e3, e4, e5, e6, e7]
    · show val_main_v229 (F := Ideal) (m' ((c : Thread nD τ).loc ReferenceIdeal.main_arg0)) (m' ((c : Thread nD τ).loc ReferenceIdeal.main_arg1)) (m' ((c : Thread nD τ).loc ReferenceIdeal.main_arg2)) (m' ((c : Thread nD τ).loc ReferenceIdeal.main_arg4)) = val_main_v229 (F := Ideal) (m ((c : Thread nD τ).loc main_arg0)) (m ((c : Thread nD τ).loc main_arg1)) (m ((c : Thread nD τ).loc main_arg2)) (m ((c : Thread nD τ).loc main_arg4))
      rw [e0, e1, e2, e4]
    · show val_main_v230 (F := Ideal) (m' ((c : Thread nD τ).loc ReferenceIdeal.main_arg0)) (m' ((c : Thread nD τ).loc ReferenceIdeal.main_arg1)) (m' ((c : Thread nD τ).loc ReferenceIdeal.main_arg2)) (m' ((c : Thread nD τ).loc ReferenceIdeal.main_arg7)) = val_main_v230 (F := Ideal) (m ((c : Thread nD τ).loc main_arg0)) (m ((c : Thread nD τ).loc main_arg1)) (m ((c : Thread nD τ).loc main_arg2)) (m ((c : Thread nD τ).loc main_arg7))
      rw [e0, e1, e2, e7]
    · show val_main_v231 (F := Ideal) (m' ((c : Thread nD τ).loc ReferenceIdeal.main_arg0)) (m' ((c : Thread nD τ).loc ReferenceIdeal.main_arg1)) (m' ((c : Thread nD τ).loc ReferenceIdeal.main_arg2)) = val_main_v231 (F := Ideal) (m ((c : Thread nD τ).loc main_arg0)) (m ((c : Thread nD τ).loc main_arg1)) (m ((c : Thread nD τ).loc main_arg2))
      rw [e0, e1, e2]
    · show val_main_v197 (F := Ideal) (m' ((c : Thread nD τ).loc ReferenceIdeal.main_arg0)) (m' ((c : Thread nD τ).loc ReferenceIdeal.main_arg1)) (m' ((c : Thread nD τ).loc ReferenceIdeal.main_arg2)) (m' ((c : Thread nD τ).loc ReferenceIdeal.main_arg5)) = val_main_v197 (F := Ideal) (m ((c : Thread nD τ).loc main_arg0)) (m ((c : Thread nD τ).loc main_arg1)) (m ((c : Thread nD τ).loc main_arg2)) (m ((c : Thread nD τ).loc main_arg5))
      rw [e0, e1, e2, e5]

end Cert.Branch

end
-- ==== Proof.GateRef.lean ====
/- The gated branches of the forward pass, by their formulas over the extended reals; the scores of the attention on the memory
   are real numbers. The reference's result is these formulas. -/
module

public import proofs.«01_k».proof.Proof.Reals
public import proofs.«01_k».proof.Proof.SumAxes
public import proofs.«01_k».proof.Proof.DotAxes
public import proofs.«01_k».proof.Proof.Gen.GateReferenceIdeal.Read

@[expose] public section

set_option maxRecDepth 16384

noncomputable section

namespace Cert.Gate

open Idealize.ShloMosaic Cert.Reals
open Cert.GateReferenceIdeal Cert.GateReferenceIdeal.Read

/-- What the arguments hold. The queries and the keys are the real numbers `q` and `k`. -/
structure Args where
  p : ℕ → ℕ → EReal
  a : ℕ → ℕ → EReal
  kv : ℕ → ℕ → EReal
  ws : ℕ → ℕ → ℕ → EReal
  bs : ℕ → ℕ → EReal
  gv : ℕ → EReal
  q : ℕ → ℕ → ℝ
  k : ℕ → ℕ → ℝ

/-- The SiLU. -/
def si (x : EReal) : EReal := x * Ideal.div 1 (1 + Ideal.exp (-x))

/-- The GELU, by its approximation with the hyperbolic tangent. -/
def ge (x : EReal) : EReal :=
  x * (Ideal.ofBits .f32 0x3F000000#32 * (1 + Ideal.tanh (Ideal.ofBits .f32 0x3F4C422A#32 * (x + Ideal.ofBits .f32 0x3D372713#32 * (x * x * x)))))

variable (A : Args)

/-- The normalised half before the norm. -/
def gvb (r c : ℕ) : EReal := ge (A.p r (2304 + c))

/-- The reciprocal root of its mean square. -/
def rv (r : ℕ) : EReal :=
  Ideal.rsqrt (Ideal.div (∑ c : Fin 256, gvb A r c * gvb A r c) (Ideal.ofBits .f32 0x43800000#32) + Ideal.ofBits .f32 0x358637BD#32)

/-- The normalised half. -/
def vn (r c : ℕ) : EReal := gvb A r c * rv A r * A.gv c

/-- Its mixing over the positions of a chunk, before the bias. -/
def mix0 (r c : ℕ) : EReal := ∑ s : Fin 128, A.ws (c / 64) (r % 128) s * vn A (r / 128 * 128 + s) c

/-- The gating unit's output. -/
def sgu (r c : ℕ) : EReal := si (A.p r (2560 + c)) * (ge (A.p r (2048 + c)) * (mix0 A r c + A.bs (c / 64) (r % 128)))

/-- A score: row, memory position, head. -/
def sc (h r m : ℕ) : ℝ := (∑ e : Fin 64, A.q r (h * 64 + e) * A.k (r / 2048 * 256 + m) (h * 64 + e)) * (1 / 8)

/-- A probability. -/
def pr (h r m : ℕ) : ℝ := Real.exp (sc A h r m) / ∑ k : Fin 256, Real.exp (sc A h r k)

/-- The attention on the memory. -/
def mo (r c : ℕ) : EReal := ∑ m : Fin 256, ((pr A (c / 64) r m : ℝ) : EReal) * A.kv (r / 2048 * 256 + m) (256 + c)

/-- The joined branches. -/
def res (r c : ℕ) : EReal :=
  if c < 512 then si (A.p r (1536 + c)) * A.a r c
  else if c < 768 then sgu A r (c - 512)
  else si (A.p r (3072 + (c - 768))) * mo A r (c - 768)

variable {A}

/-- The arguments hold `A`. -/
structure Holds (A : Args) (x0 : Vec Ideal S2x2048x3328 .f32) (x1 : Vec Ideal S2x2048x512 .f32) (x2 : Vec Ideal S2x256x512 .f32)
    (x3 : Vec Ideal S1x4x128x128 .f32) (x4 : Vec Ideal S1x4x128 .f32) (x5 : Vec Ideal S1x256 .f32) : Prop where
  p : ∀ (b : Fin 2) (s : Fin 2048) (c : Fin 3328), x0 (ix3 b s c) = A.p (b * 2048 + s) c
  a : ∀ (b : Fin 2) (s : Fin 2048) (c : Fin 512), x1 (ix3 b s c) = A.a (b * 2048 + s) c
  kv : ∀ (b : Fin 2) (m : Fin 256) (c : Fin 512), x2 (ix3 b m c) = A.kv (b * 256 + m) c
  ws : ∀ (z : Fin 1) (g : Fin 4) (t s : Fin 128), x3 (ix4 z g t s) = A.ws g t s
  bs : ∀ (z : Fin 1) (g : Fin 4) (t : Fin 128), x4 (ix3 z g t) = A.bs g t
  gv : ∀ (z : Fin 1) (c : Fin 256), x5 (ix2 z c) = A.gv c
  q : ∀ (b : Fin 2) (s : Fin 2048) (c : Fin 256), A.p (b * 2048 + s) (2816 + c) = ((A.q (b * 2048 + s) c : ℝ) : EReal)
  k : ∀ (b : Fin 2) (m : Fin 256) (c : Fin 256), A.kv (b * 256 + m) c = ((A.k (b * 256 + m) c : ℝ) : EReal)

variable {x0 : Vec Ideal S2x2048x3328 .f32} {x1 : Vec Ideal S2x2048x512 .f32} {x2 : Vec Ideal S2x256x512 .f32}
    {x3 : Vec Ideal S1x4x128x128 .f32} {x4 : Vec Ideal S1x4x128 .f32} {x5 : Vec Ideal S1x256 .f32} (h : Holds A x0 x1 x2 x3 x4 x5)
include h

/-- The queries. -/
theorem v5_eq (b : Fin 2) (s : Fin 2048) (c : Fin 256) : (val_main_v5 x0) (ix3 b s c) = ((A.q (b * 2048 + s) c : ℝ) : EReal) := by
  pointwise [val_main_v5, val_main_v0]
  simp only [h.p]
  refine Eq.trans (congrArg (A.p _) ?_) (h.q b s c)
  omega

/-- The keys. -/
theorem v63_eq (b : Fin 2) (m c : Fin 256) : (val_main_v63 x2) (ix3 b m c) = ((A.k (b * 256 + m) c : ℝ) : EReal) := by
  pointwise [val_main_v63]
  simp only [h.kv]
  exact h.k b m c

/-- The SiLU of the attention gate. -/
theorem v7_eq (b : Fin 2) (s : Fin 2048) (c : Fin 512) :
    (val_main_v7 x0) (ix3 b s c) = si (A.p (b * 2048 + s) (1536 + c)) := by
  pointwise [val_main_v7, val_main_call0_v5, val_main_call0_v4, val_main_call0_cst_0, val_main_call0_v3, val_main_call0_v2, val_main_call0_cst, val_main_call0_v1, val_main_call0_v0, val_main_v1, val_main_v0]
  simp only [h.p, w_zero, EReal.coe_zero, zero_add, Nat.reduceAdd]
  rfl

/-- The SiLU of the gating unit. -/
theorem v9_eq (b : Fin 2) (s : Fin 2048) (c : Fin 256) :
    (val_main_v9 x0) (ix3 b s c) = si (A.p (b * 2048 + s) (2560 + c)) := by
  pointwise [val_main_v9, val_main_call1_v5, val_main_call1_v4, val_main_call1_cst_0, val_main_call1_v3, val_main_call1_v2, val_main_call1_cst, val_main_call1_v1, val_main_call1_v0, val_main_v4, val_main_v0]
  simp only [h.p, ← Nat.add_assoc, w_zero, EReal.coe_zero, zero_add, Nat.reduceAdd]
  rfl

/-- The SiLU of the memory's gate. -/
theorem v62_eq (b : Fin 2) (s : Fin 2048) (c : Fin 256) :
    (val_main_v62 x0) (ix3 b s c) = si (A.p (b * 2048 + s) (3072 + c)) := by
  pointwise [val_main_v62, val_main_call2_v5, val_main_call2_v4, val_main_call2_cst_0, val_main_call2_v3, val_main_call2_v2, val_main_call2_cst, val_main_call2_v1, val_main_call2_v0, val_main_v6, val_main_v0]
  simp only [h.p, ← Nat.add_assoc, w_zero, EReal.coe_zero, zero_add, Nat.reduceAdd]
  rfl

/-- The GELU of the gated half. -/
theorem v22_eq (b : Fin 2) (s : Fin 2048) (c : Fin 256) :
    (val_main_v22 x0) (ix3 b s c) = ge (A.p (b * 2048 + s) (2048 + c)) := by
  pointwise [val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, val_main_v2, val_main_v0]
  simp only [h.p, ← Nat.add_assoc, w_zero, EReal.coe_zero, zero_add, Nat.reduceAdd]
  rfl

/-- The GELU of the normalised half. -/
theorem v35_eq (b : Fin 2) (s : Fin 2048) (c : Fin 256) :
    (val_main_v35 x0) (ix3 b s c) = gvb A (b * 2048 + s) c := by
  pointwise [val_main_v23, val_main_v24, val_main_v25, val_main_v26, val_main_v27, val_main_v28, val_main_v29, val_main_v30, val_main_v31, val_main_v32, val_main_v33, val_main_v34, val_main_v35, val_main_cst_3, val_main_cst_4, val_main_cst_5, val_main_cst_6, val_main_v3, val_main_v0]
  simp only [h.p, ← Nat.add_assoc, w_zero, EReal.coe_zero, zero_add, Nat.reduceAdd]
  rfl

/-- The reciprocal root. -/
theorem v46_eq (b : Fin 2) (s : Fin 2048) (z : Fin 1) :
    (val_main_v46 x0) (ix3 b s z) = rv A (b * 2048 + s) := by
  pointwise [val_main_v39, val_main_v40, val_main_v41, val_main_v42, val_main_v43, val_main_v44, val_main_v45, val_main_v46, val_main_cst_7, val_main_cst_8, val_main_cst_9]
  simp only [v35_eq h, w_zero, EReal.coe_zero, zero_add, Nat.reduceAdd]
  rfl

/-- The normalised half. -/
theorem v51_eq (b : Fin 2) (s : Fin 2048) (c : Fin 256) :
    (val_main_v51 x0 x5) (ix3 b s c) = vn A (b * 2048 + s) c := by
  pointwise [val_main_v47, val_main_v48, val_main_v49, val_main_v50, val_main_v51, val_main_v36]
  simp only [v35_eq h, v46_eq h, h.gv, w_zero, EReal.coe_zero, zero_add, Nat.reduceAdd]
  rfl

/-- The mixing of the positions of a chunk, with its bias. -/
theorem v59_eq (b : Fin 2) (s : Fin 2048) (c : Fin 256) :
    (val_main_v59 x0 x3 x4 x5) (ix3 b s c) = mix0 A (b * 2048 + s) c + A.bs (c / 64) ((b * 2048 + s) % 128) := by
  pointwise [val_main_v52, val_main_v53, val_main_v54, val_main_v55, val_main_v56, val_main_v57, val_main_v58, val_main_v59, val_main_v37, val_main_v38]
  simp only [v51_eq h, h.ws, h.bs, w_zero, EReal.coe_zero, zero_add, Nat.reduceAdd]
  have e1 : (b.val * 2048 + s.val) / 128 * 128 = b.val * 2048 + s.val / 128 * 128 := by omega
  have e2 : (b.val * 2048 + s.val) % 128 = s.val % 128 := by omega
  unfold mix0
  rw [e1, e2]
  refine congrArg (· + _) ?_
  refine Finset.sum_congr rfl fun i _ => ?_
  rw [mul_comm, Nat.add_assoc]

/-- The scores. -/
theorem v70_eq (b : Fin 2) (h4 : Fin 4) (s : Fin 2048) (m : Fin 256) :
    (val_main_v70 x0 x2) (ix4 b h4 s m) = ((sc A h4 (b * 2048 + s) m : ℝ) : EReal) := by
  pointwise [val_main_v70, val_main_v68, val_main_v65, val_main_v66, val_main_v69, val_main_cst_10]
  simp only [v5_eq h, v63_eq h, w_eighth, ← EReal.coe_mul, coe_sum]
  refine congrArg _ ?_
  unfold sc
  have e : (b.val * 2048 + s.val) / 2048 = b.val := by have := s.isLt; omega
  rw [e]

/-- The scores' largest along a row is some real number. -/
theorem v71_eq (j : S2x4x2048.Idx) : ∃ M : ℝ, (val_main_v71 x0 x2) j = (M : EReal) := by
  unfold val_main_v71
  rw [show (FloatOps.maximumf (F := Ideal) (φ := .f32)) = (max : EReal → EReal → EReal) from rfl, Host.reduce_eq_fold,
    show val_main_cst_11 (F := Ideal) _ = (⊥ : EReal) from w_bot]
  refine fold_max_real_of ?_ _ fun i => ?_
  · refine ⟨ix4 (j 0) (j 1) (j 2) (0 : Fin 256), Finset.mem_filter.mpr ⟨Finset.mem_univ _, ?_⟩⟩
    funext c
    match c with
    | ⟨0, _⟩ => exact Fin.ext (Shape.ReducesTo.drop_apply_val _ _ 0)
    | ⟨1, _⟩ => exact Fin.ext (Shape.ReducesTo.drop_apply_val _ _ 1)
    | ⟨2, _⟩ => exact Fin.ext (Shape.ReducesTo.drop_apply_val _ _ 2)
  · have e : i = ix4 (i 0) (i 1) (i 2) (i 3) := by
      funext c
      match c with
      | ⟨0, _⟩ => rfl
      | ⟨1, _⟩ => rfl
      | ⟨2, _⟩ => rfl
      | ⟨3, _⟩ => rfl
    rw [e]
    exact ⟨_, v70_eq h (i 0) (i 1) (i 2) (i 3)⟩

/-- So is the shift of a row's exponents. -/
theorem v73_eq (b : Fin 2) (h4 : Fin 4) (s : Fin 2048) : ∃ M : ℝ, (val_main_v73 x0 x2) (ix3 b h4 s) = (M : EReal) := by
  obtain ⟨M, hM⟩ := v71_eq h (ix3 b h4 s)
  refine ⟨M, ?_⟩
  rw [val_main_v73_apply, hM, val_main_v72_apply, val_main_cst_12_apply, Ideal.ofBits_def, w_bot]
  exact max_eq_right bot_le

/-- The probabilities. -/
theorem v81_eq (b : Fin 2) (h4 : Fin 4) (s : Fin 2048) (m : Fin 256) : (val_main_v81 x0 x2) (ix4 b h4 s m) = ((pr A h4 (b * 2048 + s) m : ℝ) : EReal) := by
  obtain ⟨M, hM⟩ := v73_eq h b h4 s
  pointwise [val_main_v81, val_main_v80, val_main_v79, val_main_v78, val_main_cst_13, val_main_v77, val_main_v76, val_main_v75, val_main_v74]
  simp only [v70_eq h, hM, Ideal.exp_coe, ← EReal.coe_sub, coe_sum, w_zero, EReal.coe_zero, zero_add]
  rw [div_real _ (sum_exp_pos (by norm_num) _).ne']
  exact congrArg _ (softmax_shift (fun k : Fin 256 => sc A h4 (b * 2048 + s) k) M m)

/-- The attention on the memory. -/
theorem v84_eq (b : Fin 2) (s : Fin 2048) (c : Fin 256) : (val_main_v84 x0 x2) (ix3 b s c) = mo A (b * 2048 + s) c := by
  pointwise [val_main_v84, val_main_v83, val_main_v82, val_main_v67, val_main_v64]
  simp only [v81_eq h, h.kv]
  unfold mo
  have e : (b.val * 2048 + s.val) / 2048 = b.val := by have := s.isLt; omega
  rw [e]
  refine Finset.sum_congr rfl fun i _ => ?_
  rw [mul_comm]

/-- The result. -/
theorem v88_eq (r : Fin 4096) (c : Fin 1024) : (val_main_v88 x0 x1 x2 x3 x4 x5) (ix2 r c) = res A r c := by
  pointwise [val_main_v88, val_main_v87, val_main_v86, val_main_v8, val_main_v60, val_main_v61, val_main_v85]
  simp only [v7_eq h, v9_eq h, v62_eq h, v22_eq h, v59_eq h, v84_eq h, h.a]
  have e : (r : ℕ) / 2048 * 2048 + (r : ℕ) % 2048 = r := by omega
  simp only [e]
  unfold res sgu
  split_ifs <;> first | rfl | omega | (simp only [Nat.sub_sub]; done)

end Cert.Gate

end
-- ==== Proof.GateKer.lean ====
/- The kernel of the gates and the memory, one block of 512 rows: every payload of the body is an element of the
   specification of `GateRef`. -/
module

public import proofs.«01_k».proof.Proof.GateRef
public import proofs.«01_k».proof.Proof.KerBlock
public import proofs.«01_k».proof.Proof.Gen.GateKernelIdeal.Value

@[expose] public section

set_option maxRecDepth 16384

noncomputable section

namespace Cert.Gate

open Idealize.ShloMosaic Cert.Reals Cert.Loads
open Idealize.ShloMosaic.Tactic
open Cert.GateKernelIdeal Cert.GateKernelIdeal.Gen
open Branch (hd hdW hd_0 hd_1 hd_2 hd_3 loM loM_at lane1 lane2 lane3 select_one select_zero select_ite coe_ite stack_ite sum_head ld2 ld3)

/-- What the blocks of the inputs hold at point `t` of the grid. -/
structure Block (A : Args) (t : ℕ) (x0 : Vec Ideal S512x512 .f32) (x1 x2 x3 x4 x5 : Vec Ideal S512x256 .f32) (x6 : Vec Ideal S512x512 .f32)
    (x7 : Vec Ideal S256x512 .f32) (x8 : Vec Ideal S4x128x128 .f32) (x9 : Vec Ideal S128x256 .f32) (x10 : Vec Ideal S1x256 .f32) : Prop where
  za : ∀ (ρ : Fin 512) (c : Fin 512), x0 (ix2 ρ c) = A.p (t * 512 + ρ) (1536 + c)
  ub : ∀ (ρ : Fin 512) (c : Fin 256), x1 (ix2 ρ c) = A.p (t * 512 + ρ) (2048 + c)
  vb : ∀ (ρ : Fin 512) (c : Fin 256), x2 (ix2 ρ c) = A.p (t * 512 + ρ) (2304 + c)
  zb : ∀ (ρ : Fin 512) (c : Fin 256), x3 (ix2 ρ c) = A.p (t * 512 + ρ) (2560 + c)
  qm : ∀ (ρ : Fin 512) (c : Fin 256), x4 (ix2 ρ c) = ((A.q (t * 512 + ρ) c : ℝ) : EReal)
  zm : ∀ (ρ : Fin 512) (c : Fin 256), x5 (ix2 ρ c) = A.p (t * 512 + ρ) (3072 + c)
  a : ∀ (ρ : Fin 512) (c : Fin 512), x6 (ix2 ρ c) = A.a (t * 512 + ρ) c
  km : ∀ (m : Fin 256) (c : Fin 256), x7 (ix2 m ⟨c, by omega⟩) = ((A.k (t / 4 * 256 + m) c : ℝ) : EReal)
  kv : ∀ (m : Fin 256) (c : Fin 512), x7 (ix2 m c) = A.kv (t / 4 * 256 + m) c
  ws : ∀ (g : Fin 4) (r s : Fin 128), x8 (ix3 g r s) = A.ws g r s
  bs : ∀ (r : Fin 128) (c : Fin 256), x9 (ix2 r c) = A.bs (c / 64) r
  gv : ∀ (z : Fin 1) (c : Fin 256), x10 (ix2 z c) = A.gv c

/-- A piece at `(a, b)` is the block there of `f`, when its payload is `f` shifted. -/
theorem piece {M N m n : ℕ} {f : ℕ → ℕ → EReal} {a b : ℕ} {inb} {w : (⟨2, ![m, n]⟩ : Shape).Idx → EReal}
    (h : ∀ (r : Fin m) (c : Fin n), w (ix2 r c) = f (a + r) (b + c)) (x : (⟨2, ![m, n]⟩ : Shape).Idx) :
    w x = f ((Rect.unit (s := (⟨2, ![M, N]⟩ : Shape)) ![a, b] ![m, n] inb).emb x 0) ((Rect.unit (s := (⟨2, ![M, N]⟩ : Shape)) ![a, b] ![m, n] inb).emb x 1) := by
  rw [ValueKit.rect_emb_unit_val, ValueKit.rect_emb_unit_val, eq_ix2 x]
  exact h (x 0) (x 1)

/-- Of four rows' values the lane's own is taken. -/
theorem pick_lane {α : Type} (l : Fin 256) (ρ : ℕ) (f : ℕ → α) :
    (if (l : ℕ) / 64 = 3 then f (1536 + ρ) else if (l : ℕ) / 64 = 2 then f (1024 + ρ) else if (l : ℕ) / 64 = 1 then f (512 + ρ) else f ρ)
      = f ((l : ℕ) / 64 * 512 + ρ) := by
  have := l.isLt
  split_ifs <;> (refine congrArg f ?_; omega)

theorem mix0_chunk (A : Args) (t j g : ℕ) (r : Fin 128) (c : ℕ) (hj : j < 4) (hg : c / 64 = g) :
    mix0 A (t * 512 + (j * 128 + r)) c = ∑ s : Fin 128, A.ws g r s * vn A (t * 512 + (j * 128 + s)) c := by
  unfold mix0
  rw [hg, show (t * 512 + (j * 128 + (r : ℕ))) % 128 = r by omega, show (t * 512 + (j * 128 + (r : ℕ))) / 128 * 128 = t * 512 + j * 128 by omega]
  simp only [Nat.add_assoc]

/-- The masked choice between two groups is the group of the column. -/
theorem mix_sel (A : Args) (t j g : ℕ) (r c : Fin 128) (k : ℕ) (hj : j < 4) (h0 : (c : ℕ) < 64 → k / 64 = g) (h1 : ¬ (c : ℕ) < 64 → k / 64 = g + 1) :
    Scalar.select (if (c : ℕ) < 64 then 1#1 else 0#1) (∑ s : Fin 128, A.ws g r s * vn A (t * 512 + (j * 128 + s)) k)
      (∑ s : Fin 128, A.ws (g + 1) r s * vn A (t * 512 + (j * 128 + s)) k) = mix0 A (t * 512 + (j * 128 + r)) k := by
  by_cases hc : (c : ℕ) < 64
  · rw [if_pos hc, select_one, mix0_chunk A t j g r k hj (h0 hc)]
  · rw [if_neg hc, select_zero, mix0_chunk A t j (g + 1) r k hj (h1 hc)]

variable {A : Args} {t : ℕ}

/-- One group's slice of the mixing weights. -/
theorem ws_slice {x8 : Vec Ideal S4x128x128 .f32} (h : ∀ (g : Fin 4) (r s : Fin 128), x8 (ix3 g r s) = A.ws g r s)
    (g : ℕ) (hg : g < 4) (inb) (z : Fin 1) (r s : Fin 128) :
    (View.ld x8 (Rect.unit ![g, 0, 0] ![1, 128, 128] inb) : Vec Ideal S1x128x128 .f32) (ix3 z r s) = A.ws g r s := by
  refine (ld3 x8 z r s (by omega) (by omega) (by omega)).trans ((h _ _ _).trans ?_)
  obtain rfl : z = 0 := Subsingleton.elim _ _
  simp only [Nat.zero_add, Fin.val_zero, Nat.add_zero]

/-- The gated attention. -/
theorem ga_pt {z a : Vec Ideal S512x512 .f32} (hz : ∀ ρ c, z (ix2 ρ c) = A.p (t * 512 + ρ) (1536 + c)) (ha : ∀ ρ c, a (ix2 ρ c) = A.a (t * 512 + ρ) c)
    (ρ c : Fin 512) : (k0_pay2 z a : FVec Ideal S512x512 .bf16) (ix2 ρ c) = si (A.p (t * 512 + ρ) (1536 + c)) * A.a (t * 512 + ρ) c := by
  pointwise [k0_pay2]
  simp only [hz, ha, w_zero, EReal.coe_zero, zero_sub]
  rfl

/-- The gate of the mixing. -/
theorem gu_pt {u : Vec Ideal S512x256 .f32} (hu : ∀ ρ c, u (ix2 ρ c) = A.p (t * 512 + ρ) (2048 + c)) (ρ : Fin 512) (c : Fin 256) :
    (k0_pay3 u : FVec Ideal S512x256 .f32) (ix2 ρ c) = ge (A.p (t * 512 + ρ) (2048 + c)) := by
  pointwise [k0_pay3]
  simp only [hu]
  rfl

/-- The normalised half. -/
theorem vn_pt {v : Vec Ideal S512x256 .f32} (hv : ∀ ρ c, v (ix2 ρ c) = A.p (t * 512 + ρ) (2304 + c)) {g : Vec Ideal S1x256 .f32} (hg : ∀ z c, g (ix2 z c) = A.gv c)
    (ρ : Fin 512) (c : Fin 256) : (k0_pay6 (k0_pay4 v) (k0_pay5 v) g : FVec Ideal S512x256 .bf16) (ix2 ρ c) = vn A (t * 512 + ρ) c := by
  pointwise [k0_pay6, k0_pay5, k0_pay4]
  simp only [hv, hg, w_zero, EReal.coe_zero, zero_add]
  rfl

section
variable {v w : FVec Ideal S512x256 .f32} {g : Vec Ideal S1x256 .f32} (hn : ∀ ρ c, (k0_pay6 v w g : FVec Ideal S512x256 .bf16) (ix2 ρ c) = vn A (t * 512 + ρ) c)
    {a b : Vec Ideal S1x128x128 .f32} (ha : ∀ z r s, a (ix3 z r s) = A.ws 0 r s) (hb : ∀ z r s, b (ix3 z r s) = A.ws 1 r s) (r c : Fin 128)
include hn ha hb

/-- Chunk 0 of the mixed half, columns 0 to 127. -/
theorem mix_pt00 : (k0_pay10 k0_pay7 (k0_pay8 v w g) a b : FVec Ideal S128x128 .f32) (ix2 r c) = mix0 A (t * 512 + (0 * 128 + r)) c := by
  generalize hN : k0_pay6 v w g = N at hn
  rw [k0_pay8, hN]
  pointwise [k0_pay10, k0_pay9, k0_pay8, k0_pay7]
  change Scalar.select (loM (↑c)) _ _ = _
  simp only [loM_at (↑c) 0 c (by simp), ha, hb, hn, w_zero, EReal.coe_zero, zero_add]
  simpa only [Nat.zero_mul, Nat.zero_add] using mix_sel A t 0 0 r c c (by omega) (by omega) (by omega)

/-- Chunk 1 of the mixed half, columns 0 to 127. -/
theorem mix_pt01 : (k0_pay11 k0_pay7 (k0_pay8 v w g) a b : FVec Ideal S128x128 .f32) (ix2 r c) = mix0 A (t * 512 + (1 * 128 + r)) c := by
  generalize hN : k0_pay6 v w g = N at hn
  rw [k0_pay8, hN]
  pointwise [k0_pay11, k0_pay9, k0_pay8, k0_pay7]
  change Scalar.select (loM (128 + ↑c)) _ _ = _
  obtain ⟨n1, p, q⟩ := lane1 c
  simp only [loM_at (128 + ↑c) 1 c (by simp), ha, hb, hn, dif_neg n1, dif_pos p, q, w_zero, EReal.coe_zero, zero_add]
  exact mix_sel A t 1 0 r c c (by omega) (by omega) (by omega)

/-- Chunk 2 of the mixed half, columns 0 to 127. -/
theorem mix_pt02 : (k0_pay12 k0_pay7 (k0_pay8 v w g) a b : FVec Ideal S128x128 .f32) (ix2 r c) = mix0 A (t * 512 + (2 * 128 + r)) c := by
  generalize hN : k0_pay6 v w g = N at hn
  rw [k0_pay8, hN]
  pointwise [k0_pay12, k0_pay9, k0_pay8, k0_pay7]
  change Scalar.select (loM (256 + ↑c)) _ _ = _
  obtain ⟨n1, n2, p, q⟩ := lane2 c
  simp only [loM_at (256 + ↑c) 2 c (by simp), ha, hb, hn, dif_neg n1, dif_neg n2, dif_pos p, q, w_zero, EReal.coe_zero, zero_add]
  exact mix_sel A t 2 0 r c c (by omega) (by omega) (by omega)

/-- Chunk 3 of the mixed half, columns 0 to 127. -/
theorem mix_pt03 : (k0_pay13 k0_pay7 (k0_pay8 v w g) a b : FVec Ideal S128x128 .f32) (ix2 r c) = mix0 A (t * 512 + (3 * 128 + r)) c := by
  generalize hN : k0_pay6 v w g = N at hn
  rw [k0_pay8, hN]
  pointwise [k0_pay13, k0_pay9, k0_pay8, k0_pay7]
  change Scalar.select (loM (384 + ↑c)) _ _ = _
  obtain ⟨n1, n2, n3, q⟩ := lane3 c
  simp only [loM_at (384 + ↑c) 3 c (by simp), ha, hb, hn, dif_neg n1, dif_neg n2, dif_neg n3, q, w_zero, EReal.coe_zero, zero_add]
  exact mix_sel A t 3 0 r c c (by omega) (by omega) (by omega)

end

section
variable {v w : FVec Ideal S512x256 .f32} {g : Vec Ideal S1x256 .f32} (hn : ∀ ρ c, (k0_pay6 v w g : FVec Ideal S512x256 .bf16) (ix2 ρ c) = vn A (t * 512 + ρ) c)
    {a b : Vec Ideal S1x128x128 .f32} (ha : ∀ z r s, a (ix3 z r s) = A.ws 2 r s) (hb : ∀ z r s, b (ix3 z r s) = A.ws 3 r s) (r c : Fin 128)
include hn ha hb

/-- Chunk 0 of the mixed half, columns 128 to 255. -/
theorem mix_pt10 : (k0_pay17 k0_pay7 (k0_pay14 (k0_pay6 v w g)) (k0_pay15 (k0_pay6 v w g) a) b : FVec Ideal S128x128 .f32) (ix2 r c) = mix0 A (t * 512 + (0 * 128 + r)) (128 + c) := by
  generalize hN : k0_pay6 v w g = N at hn
  pointwise [k0_pay17, k0_pay16, k0_pay15, k0_pay14, k0_pay7]
  change Scalar.select (loM (↑c)) _ _ = _
  simp only [loM_at (↑c) 0 c (by simp), ha, hb, hn, w_zero, EReal.coe_zero, zero_add]
  simpa only [Nat.zero_mul, Nat.zero_add] using mix_sel A t 0 2 r c (128 + c) (by omega) (by omega) (by omega)

/-- Chunk 1 of the mixed half, columns 128 to 255. -/
theorem mix_pt11 : (k0_pay18 k0_pay7 (k0_pay14 (k0_pay6 v w g)) (k0_pay15 (k0_pay6 v w g) a) b : FVec Ideal S128x128 .f32) (ix2 r c) = mix0 A (t * 512 + (1 * 128 + r)) (128 + c) := by
  generalize hN : k0_pay6 v w g = N at hn
  pointwise [k0_pay18, k0_pay16, k0_pay15, k0_pay14, k0_pay7]
  change Scalar.select (loM (128 + ↑c)) _ _ = _
  obtain ⟨n1, p, q⟩ := lane1 c
  simp only [loM_at (128 + ↑c) 1 c (by simp), ha, hb, hn, dif_neg n1, dif_pos p, q, w_zero, EReal.coe_zero, zero_add]
  exact mix_sel A t 1 2 r c (128 + c) (by omega) (by omega) (by omega)

/-- Chunk 2 of the mixed half, columns 128 to 255. -/
theorem mix_pt12 : (k0_pay19 k0_pay7 (k0_pay14 (k0_pay6 v w g)) (k0_pay15 (k0_pay6 v w g) a) b : FVec Ideal S128x128 .f32) (ix2 r c) = mix0 A (t * 512 + (2 * 128 + r)) (128 + c) := by
  generalize hN : k0_pay6 v w g = N at hn
  pointwise [k0_pay19, k0_pay16, k0_pay15, k0_pay14, k0_pay7]
  change Scalar.select (loM (256 + ↑c)) _ _ = _
  obtain ⟨n1, n2, p, q⟩ := lane2 c
  simp only [loM_at (256 + ↑c) 2 c (by simp), ha, hb, hn, dif_neg n1, dif_neg n2, dif_pos p, q, w_zero, EReal.coe_zero, zero_add]
  exact mix_sel A t 2 2 r c (128 + c) (by omega) (by omega) (by omega)

/-- Chunk 3 of the mixed half, columns 128 to 255. -/
theorem mix_pt13 : (k0_pay20 k0_pay7 (k0_pay14 (k0_pay6 v w g)) (k0_pay15 (k0_pay6 v w g) a) b : FVec Ideal S128x128 .f32) (ix2 r c) = mix0 A (t * 512 + (3 * 128 + r)) (128 + c) := by
  generalize hN : k0_pay6 v w g = N at hn
  pointwise [k0_pay20, k0_pay16, k0_pay15, k0_pay14, k0_pay7]
  change Scalar.select (loM (384 + ↑c)) _ _ = _
  obtain ⟨n1, n2, n3, q⟩ := lane3 c
  simp only [loM_at (384 + ↑c) 3 c (by simp), ha, hb, hn, dif_neg n1, dif_neg n2, dif_neg n3, q, w_zero, EReal.coe_zero, zero_add]
  exact mix_sel A t 3 2 r c (128 + c) (by omega) (by omega) (by omega)

end

/-- The stores of the mixed half: eight tiles. -/
def mixL (v w : FVec Ideal S512x256 .f32) (g : Vec Ideal S1x256 .f32) (x8 : Vec Ideal S4x128x128 .f32) : List (View.Piece (Elt Ideal) S512x256 .f32) :=
  [⟨Rect.unit ![384, 128] ![128, 128] inb_S512x256_S128x128_384_128, k0_pay20 k0_pay7 (k0_pay14 (k0_pay6 v w g)) (k0_pay15 (k0_pay6 v w g) (hd x8 2 inb_S4x128x128_S1x128x128_2_0_0)) (hd x8 3 inb_S4x128x128_S1x128x128_3_0_0)⟩,
   ⟨Rect.unit ![256, 128] ![128, 128] inb_S512x256_S128x128_256_128, k0_pay19 k0_pay7 (k0_pay14 (k0_pay6 v w g)) (k0_pay15 (k0_pay6 v w g) (hd x8 2 inb_S4x128x128_S1x128x128_2_0_0)) (hd x8 3 inb_S4x128x128_S1x128x128_3_0_0)⟩,
   ⟨Rect.unit ![128, 128] ![128, 128] inb_S512x256_S128x128_128_128, k0_pay18 k0_pay7 (k0_pay14 (k0_pay6 v w g)) (k0_pay15 (k0_pay6 v w g) (hd x8 2 inb_S4x128x128_S1x128x128_2_0_0)) (hd x8 3 inb_S4x128x128_S1x128x128_3_0_0)⟩,
   ⟨Rect.unit ![0, 128] ![128, 128] inb_S512x256_S128x128_0_128, k0_pay17 k0_pay7 (k0_pay14 (k0_pay6 v w g)) (k0_pay15 (k0_pay6 v w g) (hd x8 2 inb_S4x128x128_S1x128x128_2_0_0)) (hd x8 3 inb_S4x128x128_S1x128x128_3_0_0)⟩,
   ⟨Rect.unit ![384, 0] ![128, 128] inb_S512x256_S128x128_384_0, k0_pay13 k0_pay7 (k0_pay8 v w g) (hd x8 0 inb_S4x128x128_S1x128x128_0_0_0) (hd x8 1 inb_S4x128x128_S1x128x128_1_0_0)⟩,
   ⟨Rect.unit ![256, 0] ![128, 128] inb_S512x256_S128x128_256_0, k0_pay12 k0_pay7 (k0_pay8 v w g) (hd x8 0 inb_S4x128x128_S1x128x128_0_0_0) (hd x8 1 inb_S4x128x128_S1x128x128_1_0_0)⟩,
   ⟨Rect.unit ![128, 0] ![128, 128] inb_S512x256_S128x128_128_0, k0_pay11 k0_pay7 (k0_pay8 v w g) (hd x8 0 inb_S4x128x128_S1x128x128_0_0_0) (hd x8 1 inb_S4x128x128_S1x128x128_1_0_0)⟩,
   ⟨Rect.unit ![0, 0] ![128, 128] inb_S512x256_S128x128_0_0, k0_pay10 k0_pay7 (k0_pay8 v w g) (hd x8 0 inb_S4x128x128_S1x128x128_0_0_0) (hd x8 1 inb_S4x128x128_S1x128x128_1_0_0)⟩]

/-- A tile of the mixed half. -/
theorem tile {a b : ℕ} {inb} {w : S128x128.Idx → EReal} {row col : Fin 128 → ℕ} (h : ∀ r c, w (ix2 r c) = mix0 A (t * 512 + row r) (col c))
    (hr : ∀ r, row r = a + r := by intro r; omega) (hc : ∀ c, col c = b + c := by intro c; omega) (x : S128x128.Idx) :
    w x = mix0 A (t * 512 + ((Rect.unit (s := S512x256) ![a, b] ![128, 128] inb).emb x 0 : ℕ)) ((Rect.unit (s := S512x256) ![a, b] ![128, 128] inb).emb x 1) :=
  piece (f := fun ρ c => mix0 A (t * 512 + ρ) c) (inb := inb) (fun r c => by rw [h, hr, hc]) x

/-- What they leave, read whole. -/
theorem mix_read {v w : FVec Ideal S512x256 .f32} {g : Vec Ideal S1x256 .f32} (hn : ∀ ρ c, (k0_pay6 v w g : FVec Ideal S512x256 .bf16) (ix2 ρ c) = vn A (t * 512 + ρ) c)
    {x8 : Vec Ideal S4x128x128 .f32} (hw : ∀ (g : Fin 4) (r s : Fin 128), x8 (ix3 g r s) = A.ws g r s)
    {κ : Kind} {sp : Space} (V : View sig κ sp S512x256 .f32) (ρ : Fin 512) (c : Fin 256) :
    (V.readCov (mixL v w g x8) (Rect.unit (s := S512x256) ![0, 0] ![512, 256] inb_S512x256_S512x256_0_0).toLoadRect : Vec Ideal S512x256 .f32) (ix2 ρ c) = mix0 A (t * 512 + ρ) c := by
  have hcov : ∀ y, ∃ p ∈ mixL v w g x8, y ∈ p.1.set := View.cover_of_tiledBy _ ![128, 128] (by sl_kernel_rfl)
  rw [View.readCov_eq_canon_ld V _ _ hcov, View.ld_unit_zero (S := S512x256) hz2]
  have hp : View.PiecesOf (fun y : S512x256.Idx => mix0 A (t * 512 + (y 0 : ℕ)) (y 1 : ℕ)) (mixL v w g x8) := by
    have w0 := ws_slice hw 0 (by omega) inb_S4x128x128_S1x128x128_0_0_0
    have w1 := ws_slice hw 1 (by omega) inb_S4x128x128_S1x128x128_1_0_0
    have w2 := ws_slice hw 2 (by omega) inb_S4x128x128_S1x128x128_2_0_0
    have w3 := ws_slice hw 3 (by omega) inb_S4x128x128_S1x128x128_3_0_0
    exact ⟨tile (inb := inb_S512x256_S128x128_384_128) (mix_pt13 hn w2 w3),
      tile (inb := inb_S512x256_S128x128_256_128) (mix_pt12 hn w2 w3),
      tile (inb := inb_S512x256_S128x128_128_128) (mix_pt11 hn w2 w3),
      tile (inb := inb_S512x256_S128x128_0_128) (mix_pt10 hn w2 w3),
      tile (inb := inb_S512x256_S128x128_384_0) (mix_pt03 hn w0 w1),
      tile (inb := inb_S512x256_S128x128_256_0) (mix_pt02 hn w0 w1),
      tile (inb := inb_S512x256_S128x128_128_0) (mix_pt01 hn w0 w1),
      tile (inb := inb_S512x256_S128x128_0_0) (mix_pt00 hn w0 w1), trivial⟩
  exact View.canon_apply_of_pieces (fun y : S512x256.Idx => mix0 A (t * 512 + (y 0 : ℕ)) (y 1 : ℕ)) _ hp.mem _ (hcov _)

/-- The gated mixing. -/
theorem gb_pt {u x : FVec Ideal S512x256 .f32} {be : Vec Ideal S128x256 .f32} {z : Vec Ideal S512x256 .f32} (hu : ∀ ρ c, u (ix2 ρ c) = ge (A.p (t * 512 + ρ) (2048 + c)))
    (hx : ∀ ρ c, x (ix2 ρ c) = mix0 A (t * 512 + ρ) c) (hb : ∀ r c, be (ix2 r c) = A.bs (c / 64) r) (hz : ∀ ρ c, z (ix2 ρ c) = A.p (t * 512 + ρ) (2560 + c))
    (ρ : Fin 512) (c : Fin 256) : (k0_pay21 u x be z : FVec Ideal S512x256 .bf16) (ix2 ρ c) = sgu A (t * 512 + ρ) c := by
  pointwise [k0_pay21]
  simp only [hu, hx, hb, hz, w_zero, EReal.coe_zero, zero_sub, dite_eq_ite]
  unfold sgu
  have e : (if (ρ : ℕ) < 128 then A.bs (c / 64) ρ else if (ρ : ℕ) - 128 < 128 then A.bs (c / 64) (ρ - 128)
      else if (ρ : ℕ) - 128 - 128 < 128 then A.bs (c / 64) (ρ - 128 - 128) else A.bs (c / 64) (ρ - 128 - 128 - 128)) = A.bs (c / 64) ((t * 512 + ρ) % 128) := by
    have := ρ.isLt
    split_ifs <;> (refine congrArg _ ?_; omega)
  rw [e]
  rfl

/-- The stacked queries: each row keeps its head's 64 lanes. -/
def stack (q : Vec Ideal S512x256 .f32) : FVec Ideal S2048x256 .bf16 :=
  truncf .bf16 (concatenate S2048x256 0
    [⟨S512x256, k0_pay25 q⟩, ⟨S512x256, k0_pay26 q⟩, ⟨S512x256, select k0_pay27 (k0_pay22 q) (broadcast S512x256 (FloatOps.ofBits FTy.f32 0#32))⟩,
      ⟨S512x256, select (cmpi .eq k0_pay24 (broadcast S512x256 3#32)) (k0_pay22 q) (broadcast S512x256 (Scalar.ofBits .f32 0x00000000#32))⟩]
    concatenates_S512x256_S512x256_S512x256_S512x256_S2048x256_d0) bitsLt_bf16_f32

/-- The heads' outputs from the probabilities. -/
def outs (p : FVec Ideal S2048x256 .f32) (v : Vec Ideal S256x256 .f32) : FVec Ideal S2048x256 .f32 :=
  matmul dot_S2048x256_S256x256_S2048x256_1_0_0_1_n_n none (truncf .bf16 p bitsLt_bf16_f32) (truncf .bf16 v bitsLt_bf16_f32) (constant S2048x256 .f32 0x00000000#32)

theorem heads_unfold (q : Vec Ideal S512x256 .f32) (k v : Vec Ideal S256x256 .f32) :
    k0_pay28 (k0_pay22 q) (k0_pay23 k) k0_pay24 (k0_pay25 q) (k0_pay26 q) k0_pay27 (FloatOps.ofBits FTy.f32 0#32) v
      = outs (Branch.softRows (Branch.scores (stack q) (truncf .bf16 k bitsLt_bf16_f32)) (Branch.rowMax (Branch.scores (stack q) (truncf .bf16 k bitsLt_bf16_f32)))) v := by
  unfold k0_pay28 k0_pay23
  rw [shapeCast_self, shapeCast_self]
  rfl

theorem stack_pt {q : Vec Ideal S512x256 .f32} (hq : ∀ ρ c, q (ix2 ρ c) = ((A.q (t * 512 + ρ) c : ℝ) : EReal)) (R : Fin 2048) (l : Fin 256) :
    stack q (ix2 R l) = ((if (l : ℕ) / 64 = R / 512 then A.q (t * 512 + R % 512) l else 0 : ℝ) : EReal) := by
  pointwise [stack, k0_pay22, k0_pay25, k0_pay26, k0_pay27, k0_pay24]
  simp only [hq, hd_0, hd_1, hd_2, hd_3, select_ite, w_zero, ← EReal.coe_zero, coe_ite, dite_eq_ite]
  exact congrArg _ (stack_ite R (l / 64) fun ρ => A.q (t * 512 + ρ) l)

theorem scores_pt {s : FVec Ideal S2048x256 .bf16} (hs : ∀ R c, s (ix2 R c) = ((if (c : ℕ) / 64 = R / 512 then A.q (t * 512 + R % 512) c else 0 : ℝ) : EReal))
    {k : FVec Ideal S256x256 .bf16} (hk : ∀ m c, k (ix2 m c) = ((A.k (t / 4 * 256 + m) c : ℝ) : EReal)) (R : Fin 2048) (m : Fin 256) :
    Branch.scores s k (ix2 R m) = ((sc A (R / 512) (t * 512 + R % 512) m : ℝ) : EReal) := by
  pointwise [Branch.scores]
  simp only [hs, hk, w_zero, w_eighth, ← EReal.coe_mul, ← EReal.coe_add, coe_sum]
  refine congrArg _ ?_
  unfold sc
  have hR := R.isLt
  rw [show (t * 512 + (R : ℕ) % 512) / 2048 = t / 4 by omega,
    ← sum_head (R / 512) (by omega) fun l => A.q (t * 512 + R % 512) l * A.k (t / 4 * 256 + m) l]
  refine congrArg₂ (· * ·) (Finset.sum_congr rfl fun l _ => ?_) (by norm_num)
  split_ifs <;> simp

/-- The heads' outputs: all lanes of every head's row. -/
theorem heads_pt {q : Vec Ideal S512x256 .f32} (hq : ∀ ρ c, q (ix2 ρ c) = ((A.q (t * 512 + ρ) c : ℝ) : EReal))
    {k v : Vec Ideal S256x256 .f32} (hk : ∀ m c, k (ix2 m c) = ((A.k (t / 4 * 256 + m) c : ℝ) : EReal))
    (hv : ∀ m c, v (ix2 m c) = A.kv (t / 4 * 256 + m) (256 + c)) (R : Fin 2048) (c : Fin 256) :
    (k0_pay28 (k0_pay22 q) (k0_pay23 k) k0_pay24 (k0_pay25 q) (k0_pay26 q) k0_pay27 (FloatOps.ofBits FTy.f32 0#32) v : FVec Ideal S2048x256 .f32) (ix2 R c)
      = ∑ m : Fin 256, ((pr A (R / 512) (t * 512 + R % 512) m : ℝ) : EReal) * A.kv (t / 4 * 256 + m) (256 + c) := by
  rw [heads_unfold]
  have hs := stack_pt hq
  generalize stack q = s at hs ⊢
  have hx := scores_pt hs (k := truncf .bf16 k bitsLt_bf16_f32) hk
  have hM := fun R : Fin 2048 => Branch.rowMax_pt (f := fun R m => sc A (R / 512) (t * 512 + R % 512) m) hx (ix1 R)
  choose M hM using hM
  have hp := Branch.softRows_pt (f := fun R m => sc A (R / 512) (t * 512 + R % 512) m) hx hM
  generalize Branch.softRows _ _ = p at hp ⊢
  pointwise [outs]
  simp only [hv, w_zero, EReal.coe_zero, zero_add]
  exact Finset.sum_congr rfl fun m _ => congrArg (· * _) (hp R m)

/-- The gated memory. -/
theorem gm_pt {x : FVec Ideal S2048x256 .f32} (hx : ∀ R c, x (ix2 R c) = ∑ m : Fin 256, ((pr A (R / 512) (t * 512 + R % 512) m : ℝ) : EReal) * A.kv (t / 4 * 256 + m) (256 + c))
    {z : Vec Ideal S512x256 .f32} (hz : ∀ ρ c, z (ix2 ρ c) = A.p (t * 512 + ρ) (3072 + c)) (ρ : Fin 512) (c : Fin 256) :
    (k0_pay1 x (iota .tc S512x256 32 [1] iota_S512x256_d1_w32) 64#32 k0_pay29 k0_pay30 z : FVec Ideal S512x256 .bf16) (ix2 ρ c)
      = si (A.p (t * 512 + ρ) (3072 + c)) * mo A (t * 512 + ρ) c := by
  pointwise [k0_pay1, k0_pay29, k0_pay30]
  simp only [hz, hx, hd_0, hd_1, hd_2, hd_3, select_ite, w_zero, EReal.coe_zero, zero_sub]
  rw [pick_lane c ρ fun R => ∑ m : Fin 256, ((pr A (R / 512) (t * 512 + R % 512) m : ℝ) : EReal) * A.kv (t / 4 * 256 + m) (256 + c)]
  unfold mo
  have hρ := ρ.isLt
  rw [show (t * 512 + (ρ : ℕ)) / 2048 = t / 4 by omega, show ((c : ℕ) / 64 * 512 + (ρ : ℕ)) / 512 = c / 64 by omega,
    show ((c : ℕ) / 64 * 512 + (ρ : ℕ)) % 512 = ρ by omega]
  rfl

/-- The three column blocks of the result. -/
def resL (ga : FVec Ideal S512x512 .bf16) (gb gm : FVec Ideal S512x256 .bf16) : List (View.Piece (Elt Ideal) S512x1024 .bf16) :=
  [⟨Rect.unit ![0, 768] ![512, 256] inb_S512x1024_S512x256_0_768, gm⟩, ⟨Rect.unit ![0, 512] ![512, 256] inb_S512x1024_S512x256_0_512, gb⟩,
    ⟨Rect.unit ![0, 0] ![512, 512] inb_S512x1024_S512x512_0_0, ga⟩]

theorem res_pt {ga : FVec Ideal S512x512 .bf16} {gb gm : FVec Ideal S512x256 .bf16} (ha : ∀ ρ c, ga (ix2 ρ c) = si (A.p (t * 512 + ρ) (1536 + c)) * A.a (t * 512 + ρ) c)
    (hb : ∀ ρ c, gb (ix2 ρ c) = sgu A (t * 512 + ρ) c) (hm : ∀ ρ c, gm (ix2 ρ c) = si (A.p (t * 512 + ρ) (3072 + c)) * mo A (t * 512 + ρ) c) (ρ : Fin 512) (k : Fin 1024) :
    (View.canon (resL ga gb gm) : Vec Ideal S512x1024 .bf16) (ix2 ρ k) = res A (t * 512 + ρ) k := by
  have hcov : ∀ y, ∃ p ∈ resL ga gb gm, y ∈ p.1.set := View.cover_of_tiledBy _ ![512, 256] (by sl_kernel_rfl)
  have hp : View.PiecesOf (fun y : S512x1024.Idx => res A (t * 512 + (y 0 : ℕ)) (y 1 : ℕ)) (resL ga gb gm) := by
    refine ⟨?_, ?_, ?_, trivial⟩
    · intro x
      refine piece (f := fun r c => res A (t * 512 + r) c) (inb := inb_S512x1024_S512x256_0_768) (fun r c => ?_) x
      refine (hm r c).trans ?_
      rw [Nat.zero_add, res, if_neg (by omega), if_neg (by omega), Nat.add_sub_cancel_left]
    · intro x
      refine piece (f := fun r c => res A (t * 512 + r) c) (inb := inb_S512x1024_S512x256_0_512) (fun r c => ?_) x
      refine (hb r c).trans ?_
      rw [Nat.zero_add, res, if_neg (by omega), if_pos (by omega), Nat.add_sub_cancel_left]
    · intro x
      refine piece (f := fun r c => res A (t * 512 + r) c) (inb := inb_S512x1024_S512x512_0_0) (fun r c => ?_) x
      refine (ha r c).trans ?_
      rw [Nat.zero_add, Nat.zero_add, res, if_pos c.isLt]
  exact View.canon_apply_of_pieces (fun y : S512x1024.Idx => res A (t * 512 + (y 0 : ℕ)) (y 1 : ℕ)) _ hp.mem _ (hcov _)

section
variable {A : Args} {t : ℕ} (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x512 .f32) (harg7 : arg7.IsWhole) (arg8 : Memref sig .tc .vmem S256x512 .f32) (harg8 : arg8.IsWhole) (arg9 : Memref sig .tc .vmem S4x128x128 .f32) (harg9 : arg9.IsWhole) (arg10 : Memref sig .tc .vmem S128x256 .f32) (harg10 : arg10.IsWhole) (arg11 : Memref sig .tc .vmem S1x256 .f32) (harg11 : arg11.IsWhole) (arg12 : Memref sig .tc .vmem S512x1024 .bf16) (harg12 : arg12.IsWhole) (arg13 : Memref sig .tc .vmem S512x256 .f32) (harg13 : arg13.IsWhole)
    (x0 : Vec Ideal S512x512 .f32) (x1 : Vec Ideal S512x256 .f32) (x2 : Vec Ideal S512x256 .f32) (x3 : Vec Ideal S512x256 .f32) (x4 : Vec Ideal S512x256 .f32) (x5 : Vec Ideal S512x256 .f32) (x6 : Vec Ideal S512x512 .f32) (x7 : Vec Ideal S256x512 .f32) (x8 : Vec Ideal S4x128x128 .f32) (x9 : Vec Ideal S128x256 .f32) (x10 : Vec Ideal S1x256 .f32)

/-- One block of the result. -/
theorem case11 (B : Block A t x0 x1 x2 x3 x4 x5 x6 x7 x8 x9 x10) (ρ : Fin 512) (k : Fin 1024) :
    (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10) (ix2 ρ k) = res A (t * 512 + ρ) k := by
  unfold out0_A_11
  rw [View.read_writes_eq_canon _ _ _ (fun _ => cover0_A_11 ..)]
  unfold kernelRun0_A
  dsimp only
  sl_unfold_words
  simp only [View.readAt_eq_ld, Memref.IsWhole.read_unread, ld_two, shapeCast_self]
  have hk : ∀ m c, (View.ld x7 (Rect.unit ![0, 0] ![256, 256] inb_S256x512_S256x256_0_0) : Vec Ideal S256x256 .f32) (ix2 m c) = ((A.k (t / 4 * 256 + m) c : ℝ) : EReal) := fun m c => by
    refine (ld2 x7 m c (by omega) (by omega)).trans ?_
    simp only [Nat.zero_add]
    exact B.km m c
  have hv : ∀ m c, (View.ld x7 (Rect.unit ![0, 256] ![256, 256] inb_S256x512_S256x256_0_256) : Vec Ideal S256x256 .f32) (ix2 m c) = A.kv (t / 4 * 256 + m) (256 + c) := fun m c => by
    refine (ld2 x7 m c (by omega) (by omega)).trans ?_
    simp only [Nat.zero_add]
    exact B.kv m ⟨256 + c, by omega⟩
  exact res_pt (ga_pt B.za B.a) (gb_pt (gu_pt B.ub) (mix_read (vn_pt B.vb B.gv) B.ws arg13.view) B.bs B.zb) (gm_pt (heads_pt B.qm hk hv) B.zm) ρ k
end
end Cert.Gate
end
-- ==== Proof.GateArr.lean ====
/- What the blocks of the gates' inputs hold, and the array the kernel leaves. -/
module

public import proofs.«01_k».proof.Proof.GateKer

@[expose] public section

set_option maxRecDepth 16384

noncomputable section

namespace Cert.Gate

open Idealize.ShloMosaic Cert.Reals
open Idealize.ShloMosaic.Tactic Idealize.ShloMosaic.TcCoe
open Cert.GateKernelIdeal Cert.GateKernelIdeal.Gen

variable (m : (ℓ : Loc nD τ sig) → Buf (Elt Ideal) ℓ) (c : Dev nD)

/-! ## What the host prepares -/

theorem V_p : V m c main_v4 = shapeCast S4096x3328 (m ((c : Thread nD τ).loc main_arg0)) shapeCasts_S2x2048x3328_S4096x3328 := by
  unfold V hostOps0
  after_results <;> rfl

theorem V_a : V m c main_v5 = shapeCast S4096x512 (m ((c : Thread nD τ).loc main_arg1)) shapeCasts_S2x2048x512_S4096x512 := by
  unfold V hostOps0
  after_results <;> rfl

theorem V_kv : V m c main_v6 = shapeCast S512x512 (m ((c : Thread nD τ).loc main_arg2)) shapeCasts_S2x256x512_S512x512 := by
  unfold V hostOps0
  after_results <;> rfl

theorem V_ws : V m c main_v7 = shapeCast S4x128x128 (m ((c : Thread nD τ).loc main_arg3)) shapeCasts_S1x4x128x128_S4x128x128 := by
  unfold V hostOps0
  after_results <;> rfl

theorem V_bs : V m c main_v3 = shapeCast S128x256 (broadcastInDim S128x4x64 ![0, 1] bcast_S128x4_S128x4x64_0_1 (transpose S128x4 [1, 0] (shapeCast S4x128 (m ((c : Thread nD τ).loc main_arg4)) shapeCasts_S1x4x128_S4x128) transposes_S4x128_S128x4_1_0)) shapeCasts_S128x4x64_S128x256 := by
  unfold V hostOps0
  after_results <;> rfl

theorem V_gv : V m c main_arg5 = (m ((c : Thread nD τ).loc main_arg5)) := by
  unfold V hostOps0
  after_results <;> rfl

/-! ## What the host's reshapes hold -/

theorem cast_p {f : ℕ → ℕ → EReal} {x : Vec Ideal S2x2048x3328 .f32} (hx : ∀ (b : Fin 2) (s : Fin 2048) (k : Fin 3328), x (ix3 b s k) = f (b * 2048 + s) k) (r : Fin 4096) (k : Fin 3328) :
    (shapeCast S4096x3328 x shapeCasts_S2x2048x3328_S4096x3328 : Vec Ideal S4096x3328 .f32) (ix2 r k) = f r k := by
  pointwise []
  rw [hx]
  simp only [show (r : ℕ) / 2048 * 2048 + (r : ℕ) % 2048 = r by omega]

theorem cast_a {f : ℕ → ℕ → EReal} {x : Vec Ideal S2x2048x512 .f32} (hx : ∀ (b : Fin 2) (s : Fin 2048) (k : Fin 512), x (ix3 b s k) = f (b * 2048 + s) k) (r : Fin 4096) (k : Fin 512) :
    (shapeCast S4096x512 x shapeCasts_S2x2048x512_S4096x512 : Vec Ideal S4096x512 .f32) (ix2 r k) = f r k := by
  pointwise []
  rw [hx]
  simp only [show (r : ℕ) / 2048 * 2048 + (r : ℕ) % 2048 = r by omega]

theorem cast_kv {f : ℕ → ℕ → EReal} {x : Vec Ideal S2x256x512 .f32} (hx : ∀ (b : Fin 2) (s : Fin 256) (k : Fin 512), x (ix3 b s k) = f (b * 256 + s) k) (r : Fin 512) (k : Fin 512) :
    (shapeCast S512x512 x shapeCasts_S2x256x512_S512x512 : Vec Ideal S512x512 .f32) (ix2 r k) = f r k := by
  pointwise []
  rw [hx]
  simp only [show (r : ℕ) / 256 * 256 + (r : ℕ) % 256 = r by omega]

theorem cast_ws {f : ℕ → ℕ → ℕ → EReal} {x : Vec Ideal S1x4x128x128 .f32} (hx : ∀ (z : Fin 1) (g : Fin 4) (r s : Fin 128), x (ix4 z g r s) = f g r s) (g : Fin 4) (r s : Fin 128) :
    (shapeCast S4x128x128 x shapeCasts_S1x4x128x128_S4x128x128 : Vec Ideal S4x128x128 .f32) (ix3 g r s) = f g r s := by
  pointwise []
  rw [hx]

theorem cast_bs {f : ℕ → ℕ → EReal} {x : Vec Ideal S1x4x128 .f32} (hx : ∀ (z : Fin 1) (g : Fin 4) (r : Fin 128), x (ix3 z g r) = f g r) (r : Fin 128) (k : Fin 256) :
    (shapeCast S128x256 (broadcastInDim S128x4x64 ![0, 1] bcast_S128x4_S128x4x64_0_1 (transpose S128x4 [1, 0] (shapeCast S4x128 x shapeCasts_S1x4x128_S4x128) transposes_S4x128_S128x4_1_0)) shapeCasts_S128x4x64_S128x256 : Vec Ideal S128x256 .f32) (ix2 r k) = f (k / 64) r := by
  pointwise []
  rw [hx]

/-! ## The blocks -/

variable (t : Fin cfg0.N)

theorem pt_lt : (t : ℕ) < 8 := lt_of_lt_of_eq t.isLt (show cfg0.N = 8 from N_0)

theorem blk0 (ρ : Fin 512) (k : Fin 512) : X0_0 m c t (ix2 ρ k) = V m c main_v4 (ix2 ⟨t * 512 + ρ, by have := pt_lt t; omega⟩ ⟨1536 + k, by omega⟩) := by
  have h : win0_0.index t (0 : Fin 2) = t ∧ win0_0.index t (1 : Fin 2) = 3 :=
    (by decide +kernel : ∀ t : Fin grid0.N, win0_0.index t (0 : Fin 2) = t ∧ win0_0.index t (1 : Fin 2) = 3) t
  unfold X0_0 Pipeline.Window.fill
  rw [dif_pos (moved0_0 t _)]
  show V m c main_v4 _ = _
  refine congrArg _ (funext fun a => Fin.ext ?_)
  match a with
  | ⟨0, _⟩ =>
    show win0_0.index t (0 : Fin 2) * 512 + 1 * (ρ : ℕ) = t * 512 + ρ
    rw [h.1, Nat.one_mul]
  | ⟨1, _⟩ =>
    show win0_0.index t (1 : Fin 2) * 512 + 1 * (k : ℕ) = 1536 + k
    rw [h.2, Nat.one_mul]

theorem blk1 (ρ : Fin 512) (k : Fin 256) : iblk m c 1 t (ix2 ρ k) = V m c main_v4 (ix2 ⟨t * 512 + ρ, by have := pt_lt t; omega⟩ ⟨2048 + k, by omega⟩) := by
  have h : win0_1.index t (0 : Fin 2) = t ∧ win0_1.index t (1 : Fin 2) = 8 :=
    (by decide +kernel : ∀ t : Fin grid0.N, win0_1.index t (0 : Fin 2) = t ∧ win0_1.index t (1 : Fin 2) = 8) t
  show V m c main_v4 (((cfg0.win 1).blk t).view.emb (ix2 ρ k)) = _
  refine congrArg _ (funext fun a => Fin.ext ?_)
  match a with
  | ⟨0, _⟩ =>
    show win0_1.index t (0 : Fin 2) * 512 + 1 * (ρ : ℕ) = t * 512 + ρ
    rw [h.1, Nat.one_mul]
  | ⟨1, _⟩ =>
    show win0_1.index t (1 : Fin 2) * 256 + 1 * (k : ℕ) = 2048 + k
    rw [h.2, Nat.one_mul]

theorem blk2 (ρ : Fin 512) (k : Fin 256) : iblk m c 2 t (ix2 ρ k) = V m c main_v4 (ix2 ⟨t * 512 + ρ, by have := pt_lt t; omega⟩ ⟨2304 + k, by omega⟩) := by
  have h : win0_2.index t (0 : Fin 2) = t ∧ win0_2.index t (1 : Fin 2) = 9 :=
    (by decide +kernel : ∀ t : Fin grid0.N, win0_2.index t (0 : Fin 2) = t ∧ win0_2.index t (1 : Fin 2) = 9) t
  show V m c main_v4 (((cfg0.win 2).blk t).view.emb (ix2 ρ k)) = _
  refine congrArg _ (funext fun a => Fin.ext ?_)
  match a with
  | ⟨0, _⟩ =>
    show win0_2.index t (0 : Fin 2) * 512 + 1 * (ρ : ℕ) = t * 512 + ρ
    rw [h.1, Nat.one_mul]
  | ⟨1, _⟩ =>
    show win0_2.index t (1 : Fin 2) * 256 + 1 * (k : ℕ) = 2304 + k
    rw [h.2, Nat.one_mul]

theorem blk3 (ρ : Fin 512) (k : Fin 256) : iblk m c 3 t (ix2 ρ k) = V m c main_v4 (ix2 ⟨t * 512 + ρ, by have := pt_lt t; omega⟩ ⟨2560 + k, by omega⟩) := by
  have h : win0_3.index t (0 : Fin 2) = t ∧ win0_3.index t (1 : Fin 2) = 10 :=
    (by decide +kernel : ∀ t : Fin grid0.N, win0_3.index t (0 : Fin 2) = t ∧ win0_3.index t (1 : Fin 2) = 10) t
  show V m c main_v4 (((cfg0.win 3).blk t).view.emb (ix2 ρ k)) = _
  refine congrArg _ (funext fun a => Fin.ext ?_)
  match a with
  | ⟨0, _⟩ =>
    show win0_3.index t (0 : Fin 2) * 512 + 1 * (ρ : ℕ) = t * 512 + ρ
    rw [h.1, Nat.one_mul]
  | ⟨1, _⟩ =>
    show win0_3.index t (1 : Fin 2) * 256 + 1 * (k : ℕ) = 2560 + k
    rw [h.2, Nat.one_mul]

theorem blk4 (ρ : Fin 512) (k : Fin 256) : iblk m c 4 t (ix2 ρ k) = V m c main_v4 (ix2 ⟨t * 512 + ρ, by have := pt_lt t; omega⟩ ⟨2816 + k, by omega⟩) := by
  have h : win0_4.index t (0 : Fin 2) = t ∧ win0_4.index t (1 : Fin 2) = 11 :=
    (by decide +kernel : ∀ t : Fin grid0.N, win0_4.index t (0 : Fin 2) = t ∧ win0_4.index t (1 : Fin 2) = 11) t
  show V m c main_v4 (((cfg0.win 4).blk t).view.emb (ix2 ρ k)) = _
  refine congrArg _ (funext fun a => Fin.ext ?_)
  match a with
  | ⟨0, _⟩ =>
    show win0_4.index t (0 : Fin 2) * 512 + 1 * (ρ : ℕ) = t * 512 + ρ
    rw [h.1, Nat.one_mul]
  | ⟨1, _⟩ =>
    show win0_4.index t (1 : Fin 2) * 256 + 1 * (k : ℕ) = 2816 + k
    rw [h.2, Nat.one_mul]

theorem blk5 (ρ : Fin 512) (k : Fin 256) : iblk m c 5 t (ix2 ρ k) = V m c main_v4 (ix2 ⟨t * 512 + ρ, by have := pt_lt t; omega⟩ ⟨3072 + k, by omega⟩) := by
  have h : win0_5.index t (0 : Fin 2) = t ∧ win0_5.index t (1 : Fin 2) = 12 :=
    (by decide +kernel : ∀ t : Fin grid0.N, win0_5.index t (0 : Fin 2) = t ∧ win0_5.index t (1 : Fin 2) = 12) t
  show V m c main_v4 (((cfg0.win 5).blk t).view.emb (ix2 ρ k)) = _
  refine congrArg _ (funext fun a => Fin.ext ?_)
  match a with
  | ⟨0, _⟩ =>
    show win0_5.index t (0 : Fin 2) * 512 + 1 * (ρ : ℕ) = t * 512 + ρ
    rw [h.1, Nat.one_mul]
  | ⟨1, _⟩ =>
    show win0_5.index t (1 : Fin 2) * 256 + 1 * (k : ℕ) = 3072 + k
    rw [h.2, Nat.one_mul]

theorem blk6 (ρ : Fin 512) (k : Fin 512) : iblk m c 6 t (ix2 ρ k) = V m c main_v5 (ix2 ⟨t * 512 + ρ, by have := pt_lt t; omega⟩ ⟨0 + k, by omega⟩) := by
  have h : win0_6.index t (0 : Fin 2) = t ∧ win0_6.index t (1 : Fin 2) = 0 :=
    (by decide +kernel : ∀ t : Fin grid0.N, win0_6.index t (0 : Fin 2) = t ∧ win0_6.index t (1 : Fin 2) = 0) t
  show V m c main_v5 (((cfg0.win 6).blk t).view.emb (ix2 ρ k)) = _
  refine congrArg _ (funext fun a => Fin.ext ?_)
  match a with
  | ⟨0, _⟩ =>
    show win0_6.index t (0 : Fin 2) * 512 + 1 * (ρ : ℕ) = t * 512 + ρ
    rw [h.1, Nat.one_mul]
  | ⟨1, _⟩ =>
    show win0_6.index t (1 : Fin 2) * 512 + 1 * (k : ℕ) = 0 + k
    rw [h.2, Nat.one_mul]

theorem blk7 (ρ : Fin 256) (k : Fin 512) : iblk m c 7 t (ix2 ρ k) = V m c main_v6 (ix2 ⟨(t : ℕ) / 4 * 256 + ρ, by have := pt_lt t; omega⟩ ⟨0 + k, by omega⟩) := by
  have h : win0_7.index t (0 : Fin 2) = (t : ℕ) / 4 ∧ win0_7.index t (1 : Fin 2) = 0 :=
    (by decide +kernel : ∀ t : Fin grid0.N, win0_7.index t (0 : Fin 2) = (t : ℕ) / 4 ∧ win0_7.index t (1 : Fin 2) = 0) t
  show V m c main_v6 (((cfg0.win 7).blk t).view.emb (ix2 ρ k)) = _
  refine congrArg _ (funext fun a => Fin.ext ?_)
  match a with
  | ⟨0, _⟩ =>
    show win0_7.index t (0 : Fin 2) * 256 + 1 * (ρ : ℕ) = (t : ℕ) / 4 * 256 + ρ
    rw [h.1, Nat.one_mul]
  | ⟨1, _⟩ =>
    show win0_7.index t (1 : Fin 2) * 512 + 1 * (k : ℕ) = 0 + k
    rw [h.2, Nat.one_mul]

theorem blk8 : iblk m c 8 t = V m c main_v7 := by
  have h := (by decide +kernel : ∀ t : Fin grid0.N, (fun a => win0_8.index t a * main_v7.ty.shape.size a) = fun _ => 0) t
  exact Memref.read_access_unit_zero (Elt Ideal) main_v7 h (fun a => by rw [congrFun h a]; simp) _

theorem blk9 : iblk m c 9 t = V m c main_v3 := by
  have h := (by decide +kernel : ∀ t : Fin grid0.N, (fun a => win0_9.index t a * main_v3.ty.shape.size a) = fun _ => 0) t
  exact Memref.read_access_unit_zero (Elt Ideal) main_v3 h (fun a => by rw [congrFun h a]; simp) _

theorem blk10 : iblk m c 10 t = V m c main_arg5 := by
  have h := (by decide +kernel : ∀ t : Fin grid0.N, (fun a => win0_10.index t a * main_arg5.ty.shape.size a) = fun _ => 0) t
  exact Memref.read_access_unit_zero (Elt Ideal) main_arg5 h (fun a => by rw [congrFun h a]; simp) _

section
variable {A : Args} (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
include h

/-- Each point's block holds its rows. -/
theorem blocks : Block A t (X0_0 m c t) (iblk m c 1 t) (iblk m c 2 t) (iblk m c 3 t) (iblk m c 4 t) (iblk m c 5 t) (iblk m c 6 t) (iblk m c 7 t) (iblk m c 8 t) (iblk m c 9 t) (iblk m c 10 t) where
  za ρ k := by rw [blk0, V_p]; exact cast_p h.p _ _
  ub ρ k := by rw [blk1, V_p]; exact cast_p h.p _ _
  vb ρ k := by rw [blk2, V_p]; exact cast_p h.p _ _
  zb ρ k := by rw [blk3, V_p]; exact cast_p h.p _ _
  qm ρ k := by
    have := pt_lt t
    rw [blk4, V_p, cast_p h.p]
    have e := h.q ⟨(t : ℕ) / 4, by omega⟩ ⟨((t : ℕ) * 512 + ρ) % 2048, by omega⟩ k
    simp only [show (t : ℕ) / 4 * 2048 + ((t : ℕ) * 512 + (ρ : ℕ)) % 2048 = t * 512 + ρ by omega] at e
    exact e
  zm ρ k := by rw [blk5, V_p]; exact cast_p h.p _ _
  a ρ k := by
    rw [blk6, V_a]
    refine (cast_a h.a _ _).trans ?_
    simp only [Nat.zero_add]
  km μ k := by
    have := pt_lt t
    rw [blk7, V_kv, cast_kv h.kv]
    simp only [Nat.zero_add]
    exact h.k ⟨(t : ℕ) / 4, by omega⟩ μ k
  kv μ k := by
    rw [blk7, V_kv]
    refine (cast_kv h.kv _ _).trans ?_
    simp only [Nat.zero_add]
  ws g r s := by rw [blk8, V_ws]; exact cast_ws h.ws _ _ _
  bs r k := by rw [blk9, V_bs]; exact cast_bs h.bs _ _
  gv z k := by rw [blk10, V_gv]; exact h.gv _ _

/-- The array the kernel leaves. -/
theorem arr11 (r : Fin 4096) (k : Fin 1024) : (dats m 0 c).arrAt 11 cfg0.N (ix2 r k) = res A r k := by
  obtain ⟨t, ht⟩ : ∃ t : Fin cfg0.N, (t : ℕ) = r / 512 := ⟨⟨r / 512, lt_of_lt_of_eq (by omega) N_0.symm⟩, rfl⟩
  have hw : win0_11.index t (0 : Fin 2) = t ∧ win0_11.index t (1 : Fin 2) = 0 :=
    (by decide +kernel : ∀ t : Fin grid0.N, win0_11.index t (0 : Fin 2) = t ∧ win0_11.index t (1 : Fin 2) = 0) t
  have e : (dats m 0 c).arrAt 11 cfg0.N (((cfg0.win 11).blk t).view.emb (ix2 ⟨(r : ℕ) % 512, by omega⟩ k)) = outsAt0 m c t (ix2 ⟨(r : ℕ) % 512, by omega⟩ k) :=
    congrFun ((GateKernelIdeal.Value.blocks11 m c t (flush0_11 _)).trans (GateKernelIdeal.Value.flushed11 m c t)) (ix2 ⟨(r : ℕ) % 512, by omega⟩ k)
  have e2 : ((cfg0.win 11).blk t).view.emb (ix2 ⟨(r : ℕ) % 512, by omega⟩ k) = ix2 r k := by
    refine funext fun a => Fin.ext ?_
    match a with
    | ⟨0, _⟩ =>
      show win0_11.index t (0 : Fin 2) * 512 + 1 * ((r : ℕ) % 512) = r
      omega
    | ⟨1, _⟩ =>
      show win0_11.index t (1 : Fin 2) * 1024 + 1 * (k : ℕ) = k
      rw [hw.2, Nat.one_mul, Nat.zero_mul, Nat.zero_add]
  rw [e2] at e
  refine e.trans ((case11 (B := blocks m c t h) ..).trans ?_)
  show res A (t * 512 + (r : ℕ) % 512) k = _
  rw [show t * 512 + (r : ℕ) % 512 = r by omega]

end

end Cert.Gate

end
-- ==== Proof.Gate.lean ====
/- The claims of the gates and the memory's attention, forward. -/
module

public import proofs.«01_k».proof.Proof.Finite
public import proofs.«01_k».proof.Proof.GateArr

@[expose] public section

set_option maxRecDepth 16384

noncomputable section

namespace Cert.Gate

open Idealize.ShloMosaic Idealize.ShloMosaic.TcCoe

/-- The reference runs, keeps its arguments and has no semaphore. -/
theorem frame_reference : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

/-- What the arguments hold, by row and column, and the real numbers among them. -/
def argsOf (x0 : Vec Ideal GateReferenceIdeal.S2x2048x3328 .f32) (x1 : Vec Ideal GateReferenceIdeal.S2x2048x512 .f32) (x2 : Vec Ideal GateReferenceIdeal.S2x256x512 .f32) (x3 : Vec Ideal GateReferenceIdeal.S1x4x128x128 .f32) (x4 : Vec Ideal GateReferenceIdeal.S1x4x128 .f32) (x5 : Vec Ideal GateReferenceIdeal.S1x256 .f32) : Args where
  p r k := x0 (ix3 (Fin.ofNat 2 (r / 2048)) (Fin.ofNat 2048 r) (Fin.ofNat 3328 k))
  a r k := x1 (ix3 (Fin.ofNat 2 (r / 2048)) (Fin.ofNat 2048 r) (Fin.ofNat 512 k))
  kv r k := x2 (ix3 (Fin.ofNat 2 (r / 256)) (Fin.ofNat 256 r) (Fin.ofNat 512 k))
  ws g t s := x3 (ix4 (0 : Fin 1) (Fin.ofNat 4 g) (Fin.ofNat 128 t) (Fin.ofNat 128 s))
  bs g t := x4 (ix3 (0 : Fin 1) (Fin.ofNat 4 g) (Fin.ofNat 128 t))
  gv k := x5 (ix2 (0 : Fin 1) (Fin.ofNat 256 k))
  q r k := (x0 (ix3 (Fin.ofNat 2 (r / 2048)) (Fin.ofNat 2048 r) (Fin.ofNat 3328 (2816 + k)))).toReal
  k r k := (x2 (ix3 (Fin.ofNat 2 (r / 256)) (Fin.ofNat 256 r) (Fin.ofNat 512 k))).toReal

section
variable [Cert.Pre_finite_gates.Facts]

open Branch in
/-- Arguments that meet the precondition hold real queries and keys. -/
theorem holds (x0 : Vec Ideal GateReferenceIdeal.S2x2048x3328 .f32) (x1 : Vec Ideal GateReferenceIdeal.S2x2048x512 .f32) (x2 : Vec Ideal GateReferenceIdeal.S2x256x512 .f32) (x3 : Vec Ideal GateReferenceIdeal.S1x4x128x128 .f32) (x4 : Vec Ideal GateReferenceIdeal.S1x4x128 .f32) (x5 : Vec Ideal GateReferenceIdeal.S1x256 .f32)
    (h : Cert.Pre_finite_gates.fn (F := Ideal) x0 x1 x2 x3 x4 x5 = fun _ => 1#1) : Holds (argsOf x0 x1 x2 x3 x4 x5) x0 x1 x2 x3 x4 x5 := by
  haveI : Subsingleton Cert.Pre_finite_gates.S_.Idx := ⟨fun a b => funext fun k => k.elim0⟩
  have e := congrFun h (fun k => k.elim0)
  unfold Cert.Pre_finite_gates.fn at e
  obtain ⟨hq, hk⟩ := IntOp.andi_eq_one.1 e
  constructor
  · intro b s k
    simp only [argsOf, ofNat_div, ofNat_add, ofNat_val]
  · intro b s k
    simp only [argsOf, ofNat_div, ofNat_add, ofNat_val]
  · intro b s k
    simp only [argsOf, ofNat_div, ofNat_add, ofNat_val]
  · intro z g t s
    simp only [argsOf, ofNat_val, Subsingleton.elim (0 : Fin 1) z]
  · intro z g t
    simp only [argsOf, ofNat_val, Subsingleton.elim (0 : Fin 1) z]
  · intro z k
    simp only [argsOf, ofNat_val, Subsingleton.elim (0 : Fin 1) z]
  · intro b s k
    have e := real_of_all _ _ _ _ _ _ hq (ix3 b s k)
    have hs : ∀ w, (extractStridedSlice Cert.Pre_finite_gates.S2x2048x256 ![0, 0, 2816] x0 w : Vec Ideal Cert.Pre_finite_gates.S2x2048x256 .f32) (ix3 b s k) = x0 (ix3 b s ⟨2816 + k, by omega⟩) := fun w => by pointwise []
    simp only [hs] at e
    simp only [argsOf, ofNat_div, ofNat_add]
    rw [show Fin.ofNat 3328 (2816 + (k : ℕ)) = ⟨2816 + k, by omega⟩ from Fin.ext (Nat.mod_eq_of_lt (by omega))]
    exact e
  · intro b s k
    have e := real_of_all _ _ _ _ _ _ hk (ix3 b s k)
    have hs : ∀ w, (extractStridedSlice Cert.Pre_finite_gates.S2x256x256 ![0, 0, 0] x2 w : Vec Ideal Cert.Pre_finite_gates.S2x256x256 .f32) (ix3 b s k) = x2 (ix3 b s ⟨k, by omega⟩) := fun w => by pointwise []
    simp only [hs] at e
    simp only [argsOf, ofNat_div, ofNat_add]
    rw [show Fin.ofNat 512 (k : ℕ) = ⟨k, by omega⟩ from Fin.ext (Nat.mod_eq_of_lt (by omega))]
    exact e
end

open Cert.GateKernelIdeal Cert.GateKernelIdeal.Gen
open Cert.GateReferenceIdeal.Read

/-- The result. -/
theorem final (m : (ℓ : Loc nD τ sig) → Buf (Elt Ideal) ℓ) (c : Dev nD) {A : Args} (h : Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    (dats m 0 c).arrAt 11 cfg0.N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  rw [eq_ix2 i]
  exact (arr11 m c h _ _).trans (v88_eq h _ _).symm

variable [Cert.Pre_finite_gates.Facts]

/-- The kernel and the reference agree on memories that agree on the arguments. -/
theorem algebraic : Cert.algebraic_GateKernelIdeal_GateReferenceIdeal_pre_finite_gates := by
  intro m g m' g' hpre hm
  refine ⟨fun c => val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run defs _ _).mono (fun r h c => ?_) (Cert.GateKernelIdeal.Value.run_blocks m g)
    obtain ⟨h0, hk⟩ := h c
    exact ⟨h0.trans (final m c (holds _ _ _ _ _ _ (hpre c))), hk⟩
  · refine (θ_run Cert.GateReferenceIdeal.defs _ _).mono (fun r h c => ?_) (Cert.GateReferenceIdeal.Value.run m' g')
    obtain ⟨h0, hk⟩ := h c
    obtain ⟨e0, e1, e2, e3, e4, e5⟩ := hm c
    refine ⟨(h0.trans (val_main_v88_eq _ _)).trans ?_, hk⟩
    show val_main_v88 (F := Ideal) (m' ((c : Thread nD τ).loc GateReferenceIdeal.main_arg0)) (m' ((c : Thread nD τ).loc GateReferenceIdeal.main_arg1)) (m' ((c : Thread nD τ).loc GateReferenceIdeal.main_arg2)) (m' ((c : Thread nD τ).loc GateReferenceIdeal.main_arg3)) (m' ((c : Thread nD τ).loc GateReferenceIdeal.main_arg4)) (m' ((c : Thread nD τ).loc GateReferenceIdeal.main_arg5)) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    rw [e0, e1, e2, e3, e4, e5]

end Cert.Gate

end
-- ==== Proof.Key.lean ====
/- The memory's keys and values: the kernel's one store holds the normalised product at every index. -/
module

public import proofs.«01_k».proof.Defs
public import proofs.«01_k».proof.Proof.SumAxes
public import proofs.«01_k».proof.Proof.Gen.KeyKernelIdeal.Value
public import proofs.«01_k».proof.Proof.Gen.KeyReferenceIdeal.Read

@[expose] public section

set_option maxRecDepth 16384

noncomputable section

namespace Cert.Key

open Idealize.ShloMosaic Idealize.ShloMosaic.TcCoe
open Cert.KeyKernelIdeal Cert.KeyKernelIdeal.Gen
open Cert.KeyReferenceIdeal.Read

/-- The kernel's row of the 512 is the reference's row of one of the two batches. -/
theorem kv_eq (x : Vec Ideal S2x256x1024 .f32) (g : Vec Ideal S1x1024 .f32) (w : Vec Ideal S1024x512 .f32) :
    (k0_pay1 (shapeCast S512x1024 x shapeCasts_S2x256x1024_S512x1024) g (show FVec Ideal S1024x512 .bf16 from truncf .bf16 w bitsLt_bf16_f32) : Vec Ideal S512x512 .f32)
      = val_main_v15 x g w := by
  funext j
  idx_vars j
  pointwise [k0_pay1, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

variable (m : (ℓ : Loc nD τ sig) → Buf (Elt Ideal) ℓ) (ρ : Dev nD → PrngReg)

theorem hz : (![0, 0] : Fin 2 → Nat) = fun _ => 0 := funext fun a => by fin_cases a <;> rfl

/-- The grid's one point. -/
abbrev pt : Fin cfg0.N := ⟨0, by rw [show cfg0.N = 1 from N_0]; exact Nat.one_pos⟩

/-- The kernel reads the memory as 512 rows … -/
theorem V_mem (c : Dev nD) : V m c main_v0 = shapeCast S512x1024 (m ((c : Thread nD τ).loc main_arg0)) shapeCasts_S2x256x1024_S512x1024 := by
  unfold V hostOps0
  after_results <;> rfl

/-- … and the weights in the narrower format. -/
theorem V_w (c : Dev nD) : V m c main_v1 = (show FVec Ideal S1024x512 .bf16 from truncf .bf16 (m ((c : Thread nD τ).loc main_arg2)) bitsLt_bf16_f32) := by
  unfold V hostOps0
  after_results <;> rfl

/-- The memory's one block is the whole array. -/
theorem blk_mem (c : Dev nD) (t : Fin cfg0.N) : iblk m c 0 t = V m c main_v0 := by
  have h := (by decide +kernel : ∀ t : Fin grid0.N, (fun a => win0_0.index t a * main_v0.ty.shape.size a) = fun _ => 0) t
  exact Memref.read_access_unit_zero (Elt Ideal) main_v0 h (fun a => by rw [congrFun h a]; simp) _

/-- So is the gain's, -/
theorem blk_g (c : Dev nD) (t : Fin cfg0.N) : iblk m c 1 t = V m c main_arg1 := by
  have h := (by decide +kernel : ∀ t : Fin grid0.N, (fun a => win0_1.index t a * main_arg1.ty.shape.size a) = fun _ => 0) t
  exact Memref.read_access_unit_zero (Elt Ideal) main_arg1 h (fun a => by rw [congrFun h a]; simp) _

/-- and the weights'. -/
theorem blk_w (c : Dev nD) (t : Fin cfg0.N) : iblk m c 2 t = V m c main_v1 := by
  have h := (by decide +kernel : ∀ t : Fin grid0.N, (fun a => win0_2.index t a * main_v1.ty.shape.size a) = fun _ => 0) t
  exact Memref.read_access_unit_zero (Elt Ideal) main_v1 h (fun a => by rw [congrFun h a]; simp) _

/-- After the run the result array holds the reference's keys and values. -/
theorem final_kv (c : Dev nD) : (dats m 0 c).arrAt 3 cfg0.N = val_main_v15 (m ((c : Thread nD τ).loc main_arg0)) (m ((c : Thread nD τ).loc main_arg1)) (m ((c : Thread nD τ).loc main_arg2)) := by
  refine (dats m 0 c).arrAt_eq_of_cover 3 _ (fun t _ => ?_) fun (i : S512x512.Idx) => ⟨pt, flush0_3 _, ?_⟩
  · rw [Cert.KeyKernelIdeal.Value.flushed3, blk_mem, blk_g, blk_w, V_mem, V_w, V_main_arg1]
    unfold out0_3
    rw [View.canon_unit_zero hz]
    simp only [View.ld_unit_zero (S := S512x1024) hz, View.ld_unit_zero (S := S1x1024) hz, View.ld_unit_zero (S := S1024x512) hz]
    rw [kv_eq]
    have h := (by decide +kernel : ∀ t : Fin grid0.N, (fun a => win0_3.index t a * main_v2.ty.shape.size a) = fun _ => 0) t
    exact (Memref.read_access_unit_zero (Elt Ideal) main_v2 h (fun a => by rw [congrFun h a]; simp) _).symm
  · show i ∈ ((View.whole main_v2).slice (win0_3.rect pt)).set
    rw [View.set_slice_whole, Rect.mem_set_unit]
    intro a
    exact ⟨((by decide +kernel : ∀ (t : Fin grid0.N) (a : Fin 2), win0_3.index t a * win0_3.size a = 0) pt a).trans_le (Nat.zero_le _),
      lt_of_lt_of_eq (i a).isLt ((by decide +kernel : ∀ (t : Fin grid0.N) (a : Fin 2), S512x512.size a = win0_3.index t a * win0_3.size a + win0_3.xsize (grid0.coords t) a) pt a)⟩

/-- The reference runs, keeps its arguments and has no semaphore. -/
theorem frame_reference : Cert.quiescent_KeyReferenceIdeal := fun m ρ _ =>
  (θ_run Cert.KeyReferenceIdeal.defs _ _).mono (fun r h => ⟨fun c => (h c).2, sem_eq_zero_of_no_sems (by decide) r.2⟩)
    (Cert.KeyReferenceIdeal.Value.run (F := Ideal) m ρ)

/-- The kernel and the reference agree on memories that agree on the arguments. -/
theorem algebraic : Cert.algebraic_KeyKernelIdeal_KeyReferenceIdeal := by
  intro m g m' g' _ hm
  refine ⟨fun c => val_main_v15 (m ((c : Thread nD τ).loc main_arg0)) (m ((c : Thread nD τ).loc main_arg1)) (m ((c : Thread nD τ).loc main_arg2)), ?_, ?_⟩
  · refine (θ_run defs _ _).mono (fun r h c => ?_) (Cert.KeyKernelIdeal.Value.run_blocks m g)
    obtain ⟨h0, hk⟩ := h c
    exact ⟨h0.trans (final_kv m c), hk⟩
  · refine (θ_run Cert.KeyReferenceIdeal.defs _ _).mono (fun r h c => ?_) (Cert.KeyReferenceIdeal.Value.run m' g')
    obtain ⟨h0, hk⟩ := h c
    obtain ⟨e0, e1, e2⟩ := hm c
    rw [e0, e1, e2] at h0
    exact ⟨h0, hk⟩

end Cert.Key

end
-- ==== Proof.Proj.lean ====
/- The input projection: the product, and its columns of the attention once more by residue class modulo 16. -/
module

public import proofs.«01_k».proof.Proof.GateKer
public import proofs.«01_k».proof.Proof.Gen.ProjKernelIdeal.Value
public import proofs.«01_k».proof.Proof.Gen.ProjReferenceIdeal.Read

@[expose] public section

set_option maxRecDepth 16384

noncomputable section

namespace Cert.Proj

open Idealize.ShloMosaic Idealize.ShloMosaic.TcCoe Idealize.ShloMosaic.Tactic Cert.Loads
open Cert.ProjKernelIdeal Cert.ProjKernelIdeal.Gen
open Cert.ProjReferenceIdeal.Read

/-- The matrix that groups 256 rows by residue class: a one where the column is the place that the row comes from. -/
def pick : FVec Ideal S256x256 .bf16 :=
  k0_pay7 (iota .tc S256x256 32 [0] iota_S256x256_d0_w32) (iota .tc S256x256 32 [1] iota_S256x256_d1_w32) k0_pay4 16#32 k0_pay5 k0_pay6 1#32 0#32

/-- A comparison of two small words, as a number. -/
theorem one_hot {a b : ℕ} (ha : a < 256) (hb : b < 256) {w : BitVec 32} (hw : w = BitVec.ofNat 32 b) :
    FloatOps.sitofp (F := Ideal) FTy.f32 (BitVec.setWidth 32 (IntOp.cmpi CmpIPredicate.eq (BitVec.ofNat 32 a) w)) = if a = b then 1 else 0 := by
  have e : ∀ a b : Fin 256, IntOp.cmpi CmpIPredicate.eq (BitVec.ofNat 32 a) (BitVec.ofNat 32 b) = if (a : ℕ) = b then 1#1 else 0#1 := by decide +kernel
  rw [hw, e ⟨a, ha⟩ ⟨b, hb⟩]
  exact Branch.sitofp_ite

theorem pick_pt (r j : Fin 256) : pick (ix2 r j) = if j.1 = 16 * (r.1 % 16) + r.1 / 16 then 1 else 0 := by
  pointwise [pick, k0_pay7, k0_pay6, k0_pay5, k0_pay4]
  refine one_hot j.isLt (by omega) ?_
  clear j
  revert r
  decide +kernel

/-- A sum with a one at one place. -/
theorem sum_pick {n : ℕ} (hn : n < 256) (f : Fin 256 → EReal) : (∑ x : Fin 256, (if x.1 = n then 1 else 0) * f x) = f ⟨n, hn⟩ := by
  rw [Finset.sum_eq_single ⟨n, hn⟩ (fun b _ h => by rw [if_neg fun e => h (Fin.ext e), zero_mul]) (by simp), if_pos rfl, one_mul]

/-- Both groupings: the product with the matrix moves rows. -/
theorem low (X : FVec Ideal S512x3328 .f32) (r : Fin 256) (k : Fin 1536) :
    (k0_pay8 X (iota .tc S256x256 32 [0] iota_S256x256_d0_w32) (iota .tc S256x256 32 [1] iota_S256x256_d1_w32) k0_pay4 16#32 k0_pay5 k0_pay6 1#32 0#32 : FVec Ideal S256x1536 .bf16) (ix2 r k)
      = X (ix2 ⟨256 * 0 + (16 * (r % 16) + r / 16), by omega⟩ ⟨k, by omega⟩) := by
  show (matmul dot_S256x256_S256x1536_S256x1536_1_0_0_1_n_n none pick _ _ : FVec Ideal S256x1536 .f32) (ix2 r k) = _
  pointwise []
  simp only [pick_pt]
  refine (sum_pick (by omega) fun x => X (ix2 ⟨x, by omega⟩ ⟨k, by omega⟩)).trans ?_
  simp only [Nat.mul_zero, Nat.zero_add]

theorem high (X : FVec Ideal S512x3328 .f32) (r : Fin 256) (k : Fin 1536) :
    (k0_pay27 X pick : FVec Ideal S256x1536 .bf16) (ix2 r k) = X (ix2 ⟨256 + (16 * (r % 16) + r / 16), by omega⟩ ⟨k, by omega⟩) := by
  pointwise [k0_pay27]
  simp only [pick_pt]
  exact sum_pick (by omega) fun x => X (ix2 ⟨256 + x, by omega⟩ ⟨k, by omega⟩)

/-- The first columns of a block by residue class. -/
def grouped (X : FVec Ideal S512x3328 .f32) (y : S1x16x32x1536.Idx) : EReal :=
  X (ix2 ⟨16 * (y 2).1 + (y 1).1, by have h : (y 1).1 < 16 := (y 1).isLt; have h' : (y 2).1 < 32 := (y 2).isLt; omega⟩
    ⟨(y 3).1, by have h : (y 3).1 < 1536 := (y 3).isLt; omega⟩)

theorem slices {ρ : ℕ} (h : ρ < 16) : S256x1536.Slices ![16 * ρ, 0] S16x1536 :=
  (by decide : ∀ ρ : Fin 16, S256x1536.Slices ![16 * ρ, 0] S16x1536) ⟨ρ, h⟩

/-- The rows of one residue class are a tile of the result. -/
theorem tile {X : FVec Ideal S512x3328 .f32} {g : FVec Ideal S256x1536 .bf16} (p : ℕ) {ρ : ℕ} {L : List (View.Piece (Elt Ideal) S1x16x32x1536 .bf16)}
    (hp : p < 2) (hρ : ρ < 16)
    (hg : ∀ (r : Fin 256) (k : Fin 1536), g (ix2 r k) = X (ix2 ⟨256 * p + (16 * (r % 16) + r / 16), by omega⟩ ⟨k, by omega⟩))
    {inb} {v : FVec Ideal S1x1x16x1536 .bf16}
    (hv : v = shapeCast S1x1x16x1536 (extractStridedSlice S16x1536 ![16 * ρ, 0] g (slices hρ) : FVec Ideal S16x1536 .bf16) shapeCasts_S16x1536_S1x1x16x1536) (hL : View.PiecesOf (grouped X) L) :
    View.PiecesOf (grouped X) (⟨Rect.unit (s := S1x16x32x1536) ![0, ρ, 16 * p, 0] ![1, 1, 16, 1536] inb, v⟩ :: L) := by
  refine ⟨fun (x : S1x1x16x1536.Idx) => ?_, hL⟩
  show v x = grouped X ((Rect.unit (s := S1x16x32x1536) ![0, ρ, 16 * p, 0] ![1, 1, 16, 1536] inb).emb x)
  obtain ⟨a, b, s, k, rfl⟩ : ∃ (a b : Fin 1) (s : Fin 16) (k : Fin 1536), x = ix4 a b s k := ⟨x 0, x 1, x 2, x 3, eq_ix4 x⟩
  subst hv
  pointwise []
  rw [hg]
  have hb := b.isLt
  refine congrArg X ((ix2_inj _ _ _ _).2 ⟨Fin.ext ?_, Fin.ext ?_⟩)
  · show 256 * p + (16 * ((16 * ρ + (s : ℕ)) % 16) + (16 * ρ + (s : ℕ)) / 16) = 16 * (16 * p + 1 * (s : ℕ)) + (ρ + 1 * (b : ℕ))
    omega
  · show (k : ℕ) = 0 + 1 * (k : ℕ)
    omega

theorem prod (x0 : FVec Ideal S512x1024 .bf16) (x1 : FVec Ideal S3328x1024 .bf16) (ρ : Fin 512) (k : Fin 3328) :
    (k0_pay3 x0 x1 : FVec Ideal S512x3328 .f32) (ix2 ρ k) = ∑ q : Fin 1024, x0 (ix2 ρ q) * x1 (ix2 k q) := by
  pointwise [k0_pay3]

/-- The arguments as the kernel takes them. -/
theorem h_pt (x : FVec Ideal S2x2048x1024 .f32) (r : Fin 4096) (q : Fin 1024) :
    (truncf .bf16 (shapeCast S4096x1024 x shapeCasts_S2x2048x1024_S4096x1024 : FVec Ideal S4096x1024 .f32) bitsLt_bf16_f32 : FVec Ideal S4096x1024 .bf16) (ix2 r q)
      = x (ix3 (⟨r / 2048, by omega⟩ : Fin 2) (⟨r % 2048, by omega⟩ : Fin 2048) q) := by
  pointwise []

theorem w_pt (x : FVec Ideal S1024x3328 .f32) (k : Fin 3328) (q : Fin 1024) :
    (truncf .bf16 (transpose S3328x1024 [1, 0] x transposes_S1024x3328_S3328x1024_1_0 : FVec Ideal S3328x1024 .f32) bitsLt_bf16_f32 : FVec Ideal S3328x1024 .bf16) (ix2 k q) = x (ix2 q k) := by
  pointwise []

theorem ref_pt (x0 : FVec Ideal S2x2048x1024 .f32) (x1 : FVec Ideal S1024x3328 .f32) (r : Fin 4096) (k : Fin 3328) :
    val_main_v1 (F := Ideal) x0 x1 (ix2 r k) = (∑ q : Fin 1024, x0 (ix3 (⟨r / 2048, by omega⟩ : Fin 2) (⟨r % 2048, by omega⟩ : Fin 2048) q) * x1 (ix2 q k) : EReal) := by
  pointwise [val_main_v1, val_main_v0]

variable (m : (ℓ : Loc nD τ sig) → Buf (Elt Ideal) ℓ) (c : Dev nD) (t : Fin cfg0.N)

theorem pt_lt : (t : ℕ) < 8 := lt_of_lt_of_eq t.isLt (show cfg0.N = 8 from N_0)

theorem V_h : V m c main_v1 = (show FVec Ideal S4096x1024 .bf16 from truncf .bf16 (shapeCast S4096x1024 (m ((c : Thread nD τ).loc main_arg0)) shapeCasts_S2x2048x1024_S4096x1024 : FVec Ideal S4096x1024 .f32) bitsLt_bf16_f32) := by
  unfold V hostOps0
  after_results <;> rfl

theorem V_w : V m c main_v3 = (show FVec Ideal S3328x1024 .bf16 from truncf .bf16 (transpose S3328x1024 [1, 0] (m ((c : Thread nD τ).loc main_arg1)) transposes_S1024x3328_S3328x1024_1_0 : FVec Ideal S3328x1024 .f32) bitsLt_bf16_f32) := by
  unfold V hostOps0
  after_results <;> rfl

theorem blk0 (ρ : Fin 512) (k : Fin 1024) : iblk m c 0 t (ix2 ρ k) = V m c main_v1 (ix2 ⟨t * 512 + ρ, by have := pt_lt t; omega⟩ k) := by
  have h : win0_0.index t (0 : Fin 2) = t ∧ win0_0.index t (1 : Fin 2) = 0 :=
    (by decide +kernel : ∀ t : Fin grid0.N, win0_0.index t (0 : Fin 2) = t ∧ win0_0.index t (1 : Fin 2) = 0) t
  show V m c main_v1 (((cfg0.win 0).blk t).view.emb (ix2 ρ k)) = _
  refine congrArg _ (funext fun a => Fin.ext ?_)
  match a with
  | ⟨0, _⟩ =>
    show win0_0.index t (0 : Fin 2) * 512 + 1 * (ρ : ℕ) = t * 512 + ρ
    rw [h.1, Nat.one_mul]
  | ⟨1, _⟩ =>
    show win0_0.index t (1 : Fin 2) * 1024 + 1 * (k : ℕ) = k
    rw [h.2, Nat.one_mul, Nat.zero_mul, Nat.zero_add]

theorem blk1 : iblk m c 1 t = V m c main_v3 := by
  have h := (by decide +kernel : ∀ t : Fin grid0.N, (fun a => win0_1.index t a * main_v3.ty.shape.size a) = fun _ => 0) t
  exact Memref.read_access_unit_zero (Elt Ideal) main_v3 h (fun a => by rw [congrFun h a]; simp) _

/-- The reference's results. -/
abbrev prj := val_main_v1 (F := Ideal) (m ((c : Thread nD τ).loc main_arg0)) (m ((c : Thread nD τ).loc main_arg1))
abbrev cls := val_main_v5 (F := Ideal) (m ((c : Thread nD τ).loc main_arg0)) (m ((c : Thread nD τ).loc main_arg1))

/-- One block's product holds the reference's rows. -/
theorem x_pt (ρ : Fin 512) (k : Fin 3328) : (k0_pay3 (iblk m c 0 t) (iblk m c 1 t) : FVec Ideal S512x3328 .f32) (ix2 ρ k)
    = prj m c (ix2 ⟨t * 512 + ρ, by have := pt_lt t; omega⟩ k) := by
  rw [prod, prj, ref_pt]
  refine Finset.sum_congr rfl fun q _ => ?_
  rw [blk0, blk1, V_h, V_w]
  exact congrArg₂ _ (h_pt _ _ _) (w_pt _ _ _)

theorem out3 : (outsAt0 m c t).2 = grouped (k0_pay3 (iblk m c 0 t) (iblk m c 1 t)) := by
  unfold outsAt0 out0_A_3
  dsimp only
  rw [View.read_writes_eq_canon _ _ _ (fun _ => cover0_A_3 ..)]
  funext y
  have hc := cover0_A_3 c (grid0.coords t) (ms0_0 t) (hs0_0 t) (ms0_1 t) (hs0_1 t) (ms0_2 t) (hs0_2 t) (ms0_3 t) (hs0_3 t) (iblk m c 0 t) (iblk m c 1 t) y
  refine View.canon_apply_of_pieces (grouped (k0_pay3 (iblk m c 0 t) (iblk m c 1 t))) _ (View.PiecesOf.mem ?_) _ hc
  clear hc
  unfold kernelRun0_A
  dsimp only
  sl_unfold_words
  simp only [View.readAt_eq_ld, Memref.IsWhole.read_unread, ld_two]
  generalize iblk m c 0 t = x0
  generalize iblk m c 1 t = x1
  generalize k0_pay3 x0 x1 = X
  iterate 16 refine tile 1 (by decide) (by decide) (high X) rfl ?_
  iterate 16 refine tile 0 (by decide) (by decide) (low X) rfl ?_
  trivial

theorem out2 : (outsAt0 m c t).1 = k0_pay3 (iblk m c 0 t) (iblk m c 1 t) := by
  unfold outsAt0 out0_A_2
  dsimp only
  rw [View.read_writes_eq_canon _ _ _ (fun _ => cover0_A_2 ..)]
  unfold kernelRun0_A
  dsimp only
  sl_unfold_words
  simp only [View.readAt_eq_ld, Memref.IsWhole.read_unread, ld_two]
  exact View.canon_unit_zero hz2 ..

/-- The product the kernel leaves. -/
theorem arr2 : (dats m 0 c).arrAt 2 cfg0.N = prj m c := by
  funext (i : S4096x3328.Idx)
  obtain ⟨r, k, rfl⟩ : ∃ (r : Fin 4096) (k : Fin 3328), i = ix2 r k := ⟨i 0, i 1, eq_ix2 i⟩
  obtain ⟨t, ht⟩ : ∃ t : Fin cfg0.N, (t : ℕ) = r / 512 := ⟨⟨r / 512, lt_of_lt_of_eq (by omega) N_0.symm⟩, rfl⟩
  have hw : win0_2.index t (0 : Fin 2) = t ∧ win0_2.index t (1 : Fin 2) = 0 :=
    (by decide +kernel : ∀ t : Fin grid0.N, win0_2.index t (0 : Fin 2) = t ∧ win0_2.index t (1 : Fin 2) = 0) t
  have e : (dats m 0 c).arrAt 2 cfg0.N (((cfg0.win 2).blk t).view.emb (ix2 ⟨r % 512, by omega⟩ k)) = (outsAt0 m c t).1 (ix2 ⟨r % 512, by omega⟩ k) :=
    congrFun ((ProjKernelIdeal.Value.blocks2 m c t (flush0_2 _)).trans (ProjKernelIdeal.Value.flushed2 m c t)) (ix2 ⟨r % 512, by omega⟩ k)
  have e2 : ((cfg0.win 2).blk t).view.emb (ix2 ⟨r % 512, by omega⟩ k) = ix2 r k := by
    refine funext fun a => Fin.ext ?_
    match a with
    | ⟨0, _⟩ =>
      show win0_2.index t (0 : Fin 2) * 512 + 1 * (r % 512 : ℕ) = r
      omega
    | ⟨1, _⟩ =>
      show win0_2.index t (1 : Fin 2) * 3328 + 1 * (k : ℕ) = k
      omega
  rw [e2, out2, x_pt] at e
  exact e.trans (congrArg _ ((ix2_inj _ _ _ _).2 ⟨Fin.ext (show t * 512 + (r % 512 : ℕ) = r by omega), rfl⟩))

theorem v5_pt (x0 : FVec Ideal S2x2048x1024 .f32) (x1 : FVec Ideal S1024x3328 .f32) (b : Fin 2) (ρ : Fin 16) (s : Fin 128) (k : Fin 1536) :
    val_main_v5 (F := Ideal) x0 x1 (ix4 b ρ s k) = val_main_v1 (F := Ideal) x0 x1 (ix2 ⟨b * 2048 + (16 * s + ρ), by omega⟩ ⟨k, by omega⟩) := by
  pointwise [val_main_v5, val_main_v4, val_main_v3, val_main_v2, val_main_v1]
  exact congrArg _ ((ix3_inj _ _ _ _ _ _).2 ⟨rfl, Fin.ext (show (s * 16 + ρ : ℕ) = (b * 2048 + (16 * s + ρ)) % 2048 by omega), rfl⟩)

/-- The regrouped columns. -/
theorem arr3 : (dats m 0 c).arrAt 3 cfg0.N = cls m c := by
  funext (i : S2x16x128x1536.Idx)
  obtain ⟨b, ρ, s, k, rfl⟩ : ∃ (b : Fin 2) (ρ : Fin 16) (s : Fin 128) (k : Fin 1536), i = ix4 b ρ s k := ⟨i 0, i 1, i 2, i 3, eq_ix4 i⟩
  obtain ⟨t, ht⟩ : ∃ t : Fin cfg0.N, (t : ℕ) = b * 4 + s / 32 := ⟨⟨b * 4 + s / 32, lt_of_lt_of_eq (by omega) N_0.symm⟩, rfl⟩
  have hw : win0_3.index t (0 : Fin 4) = t / 4 ∧ win0_3.index t (1 : Fin 4) = 0 ∧ win0_3.index t (2 : Fin 4) = t % 4 ∧ win0_3.index t (3 : Fin 4) = 0 :=
    (by decide +kernel : ∀ t : Fin grid0.N, win0_3.index t (0 : Fin 4) = t / 4 ∧ win0_3.index t (1 : Fin 4) = 0 ∧ win0_3.index t (2 : Fin 4) = t % 4 ∧ win0_3.index t (3 : Fin 4) = 0) t
  have e : (dats m 0 c).arrAt 3 cfg0.N (((cfg0.win 3).blk t).view.emb (ix4 0 ρ ⟨s % 32, by omega⟩ k)) = (outsAt0 m c t).2 (ix4 0 ρ ⟨s % 32, by omega⟩ k) :=
    congrFun ((ProjKernelIdeal.Value.blocks3 m c t (flush0_3 _)).trans (ProjKernelIdeal.Value.flushed3 m c t)) (ix4 0 ρ ⟨s % 32, by omega⟩ k)
  have e2 : ((cfg0.win 3).blk t).view.emb (ix4 0 ρ ⟨s % 32, by omega⟩ k) = ix4 b ρ s k := by
    refine funext fun a => Fin.ext ?_
    match a with
    | ⟨0, _⟩ =>
      show win0_3.index t (0 : Fin 4) * 1 + 1 * 0 = (b : ℕ)
      omega
    | ⟨1, _⟩ =>
      show win0_3.index t (1 : Fin 4) * 16 + 1 * (ρ : ℕ) = ρ
      omega
    | ⟨2, _⟩ =>
      show win0_3.index t (2 : Fin 4) * 32 + 1 * (s % 32 : ℕ) = s
      omega
    | ⟨3, _⟩ =>
      show win0_3.index t (3 : Fin 4) * 1536 + 1 * (k : ℕ) = k
      omega
  rw [e2, out3] at e
  refine e.trans ((x_pt m c t ⟨16 * (s % 32) + ρ, by omega⟩ ⟨k, by omega⟩).trans ?_)
  rw [cls, v5_pt]
  exact congrArg _ ((ix2_inj _ _ _ _).2 ⟨Fin.ext (show t * 512 + (16 * (s % 32) + ρ : ℕ) = b * 2048 + (16 * s + ρ) by omega), rfl⟩)

/-- The reference runs, keeps its arguments and has no semaphore. -/
theorem frame_reference : Cert.quiescent_ProjReferenceIdeal := fun m ρ _ =>
  (θ_run Cert.ProjReferenceIdeal.defs _ _).mono (fun r h => ⟨fun c => (h c).2.2, sem_eq_zero_of_no_sems (by decide) r.2⟩)
    (ProjReferenceIdeal.Value.run (F := Ideal) m ρ)

/-- The kernel and the reference agree on memories that agree on the arguments. -/
theorem algebraic : Cert.algebraic_ProjKernelIdeal_ProjReferenceIdeal := by
  intro m g m' g' _ hm
  refine ⟨prj m, cls m, ?_, ?_⟩
  · refine (θ_run defs _ _).mono (fun r h c => ?_) (ProjKernelIdeal.Value.run_blocks m g)
    obtain ⟨h0, h1, hk⟩ := h c
    exact ⟨h0.trans (arr2 m c), h1.trans (arr3 m c), hk⟩
  · refine (θ_run Cert.ProjReferenceIdeal.defs _ _).mono (fun r h c => ?_) (ProjReferenceIdeal.Value.run m' g')
    obtain ⟨h0, h1, hk⟩ := h c
    obtain ⟨e0, e1⟩ := hm c
    rw [e0, e1] at h0 h1
    exact ⟨h0, h1, hk⟩

end Cert.Proj

end
-- ==== Proof.MixRaw.lean ====
module

public import proofs.«01_k».proof.Proof.Gen.MixKernel.Loops
public import proofs.«01_k».proof.Proof.Gen.MixKernel.Frame

@[expose] public section

set_option maxRecDepth 16384
set_option maxHeartbeats 8000000

noncomputable section

namespace Cert.MixFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.MixKernel Cert.MixKernel.Gen

variable {F : FTy → Type} [FloatOps F]

local notation "𝕄" => MT nD τ sig Unit (Elt F) ℕ (UR sig nD τ) ℕ

set_option maxHeartbeats 400000000 in
/-- The body on whole buffers, the operands' at their contents and every other at anything, runs to its end and leaves the
    operands as they were and every other buffer at something. -/
theorem body_run (c : Dev nD) (i : grid0.Coords) (arg2 : Memref sig .tc .vmem S1x8x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x16x128x128 .bf16) (harg6 : arg6.IsWhole) (arg7 : Memref sig .tc .vmem S1x16x128x128 .bf16) (harg7 : arg7.IsWhole) (arg8 : Memref sig .tc .vmem S1x16x128x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S7x256x256 .f32) (harg20 : arg20.IsWhole)
    (x0 : Vec F S1x8x128 .f32) (x1 : Vec F S2048x128 .f32) (x2 : Vec F S2048x128 .f32) (x3 : Vec F S2048x128 .f32) (x4 : Vec F S1x16x128x128 .bf16) (x5 : Vec F S1x16x128x128 .bf16) (x6 : Vec F S1x16x128x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) -∗ K ⟨⟩))
      ⊢ wp frame (wpE (defs₀ (F := F)) Variants.none (c : Thread nD τ) none) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attn_fwd_eq_skeleton]; unfold cc0_attn_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%darg9, %farg9, -, Warg9⟩, ⟨%darg10, %farg10, -, Warg10⟩, ⟨%darg11, %farg11, -, Warg11⟩, ⟨%darg12, %farg12, -, Warg12⟩, ⟨%darg13, %farg13, -, Warg13⟩, ⟨%darg14, %farg14, -, Warg14⟩, ⟨%darg15, %farg15, -, Warg15⟩, ⟨%darg16, %farg16, -, Warg16⟩, ⟨%darg17, %farg17, -, Warg17⟩, ⟨%darg18, %farg18, -, Warg18⟩, ⟨%darg19, %farg19, -, Warg19⟩, ⟨%darg20, %farg20, -, Warg20⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]; · iexists _; isplitr; (· ipureintro; exact harg2.read_unread _); iexact H0
  isplitl [H1]; · iexists _; isplitr; (· ipureintro; exact harg3.read_unread _); iexact H1
  isplitl [H2]; · iexists _; isplitr; (· ipureintro; exact harg4.read_unread _); iexact H2
  isplitl [H3]; · iexists _; isplitr; (· ipureintro; exact harg5.read_unread _); iexact H3
  isplitl [H4]; · iexists _; isplitr; (· ipureintro; exact harg6.read_unread _); iexact H4
  isplitl [H5]; · iexists _; isplitr; (· ipureintro; exact harg7.read_unread _); iexact H5
  isplitl [H6]; · iexists _; isplitr; (· ipureintro; exact harg8.read_unread _); iexact H6
  isplitl [Warg9]; · iexists _; iexists _; isplitr; swap; (· iexact Warg9); ipureintro; rfl
  isplitl [Warg10]; · iexists _; iexists _; isplitr; swap; (· iexact Warg10); ipureintro; rfl
  isplitl [Warg11]; · iexists _; iexists _; isplitr; swap; (· iexact Warg11); ipureintro; rfl
  isplitl [Warg12]; · iexists _; iexists _; isplitr; swap; (· iexact Warg12); ipureintro; rfl
  isplitl [Warg13]; · iexists _; iexists _; isplitr; swap; (· iexact Warg13); ipureintro; rfl
  isplitl [Warg14]; · iexists _; iexists _; isplitr; swap; (· iexact Warg14); ipureintro; rfl
  isplitl [Warg15]; · iexists _; iexists _; isplitr; swap; (· iexact Warg15); ipureintro; rfl
  isplitl [Warg16]; · iexists _; iexists _; isplitr; swap; (· iexact Warg16); ipureintro; rfl
  isplitl [Warg17]; · iexists _; iexists _; isplitr; swap; (· iexact Warg17); ipureintro; rfl
  isplitl [Warg18]; · iexists _; iexists _; isplitr; swap; (· iexact Warg18); ipureintro; rfl
  isplitl [Warg19]; · iexists _; iexists _; isplitr; swap; (· iexact Warg19); ipureintro; rfl
  iexists _; iexists _; isplitr; swap; (· iexact Warg20); ipureintro; rfl

end Cert.MixFrame

end
-- ==== Proof.MixBlock.lean ====
module

public import proofs.«01_k».proof.Proof.Gen.MixKernelIdeal.Loops
public import proofs.«01_k».proof.Proof.Gen.MixKernelIdeal.Frame
public import Idealize.ShloMosaic.Lib.Pipeline.Value

@[expose] public section

set_option maxRecDepth 16384
set_option maxHeartbeats 8000000

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixKernelIdeal Cert.MixKernelIdeal.Gen

variable {F : FTy → Type} [FloatOps F] [Named F]

/-! The attention's forward body in a few functions of vectors: one block of 128 query rows of both heads against its window of
    keys, and the merge of the three dilations' blocks. -/

/-- The two heads' rows one under the other, scaled, each head's with the other's lanes at nought. -/
def heads (q : FVec F S128x128 .f32) : FVec F S256x128 .bf16 :=
  truncf .bf16 (concatenate S256x128 0
    [⟨S128x128, select k0_pay9 (mulf q (broadcast S128x128 (Scalar.ofBits .f32 0x3E000000#32))) (broadcast S128x128 (Scalar.ofBits .f32 0x00000000#32))⟩,
     ⟨S128x128, select k0_pay9 (broadcast S128x128 (Scalar.ofBits .f32 0x00000000#32)) (mulf q (broadcast S128x128 (Scalar.ofBits .f32 0x3E000000#32)))⟩]
    concatenates_S128x128_S128x128_S256x128_d0) bitsLt_bf16_f32

/-- A row's one number, head by head, along the lanes of its head. -/
def lanes (z : FVec F S256x1 .f32) : FVec F S128x128 .f32 :=
  shapeCast S128x128 (select k0_pay9
    (broadcastTo S128x128 (shapeCast S128x1 (extractStridedSlice S128x1 ![0, 0] z slices_S256x1_o0_0_S128x1) shapeCasts_S128x1_S128x1) broadcasts_S128x1_S128x128)
    (broadcastTo S128x128 (shapeCast S128x1 (extractStridedSlice S128x1 ![128, 0] z slices_S256x1_o128_0_S128x1) shapeCasts_S128x1_S128x1) broadcasts_S128x1_S128x128))
    shapeCasts_S128x128_S128x128

/-- The two heads' outputs, each at its own lanes. -/
def unstack (o : FVec F S256x128 .f32) : FVec F S128x128 .f32 :=
  shapeCast S128x128 (select k0_pay9 (extractStridedSlice S128x128 ![0, 0] o slices_S256x128_o0_0_S128x128)
    (extractStridedSlice S128x128 ![128, 0] o slices_S256x128_o128_0_S128x128)) shapeCasts_S128x128_S128x128

/-- The scores against a window of 256 keys, with the table of distances added. -/
def scoreW (q : FVec F S128x128 .f32) (k : FVec F S256x128 .bf16) (b : FVec F S256x256 .f32) : FVec F S256x256 .f32 :=
  addf (matmul dot_S256x128_S256x128_S256x256_1_1_0_0_n_n none (heads q) k (constant S256x256 .f32 0x00000000#32)) b

/-- The greatest score of each row. -/
def topW (s : FVec F S256x256 .f32) : FVec F S256x1 .f32 :=
  shapeCast S256x1 (multiReduction .maximumf [1] S256 s 0xFF800000#32 reduces_S256x256_S256 (.inl rfl) rfl) shapeCasts_S256_S256x1

/-- The exponentials over the greatest. -/
def expW (s : FVec F S256x256 .f32) : FVec F S256x256 .f32 := exp (subf s (broadcastTo S256x256 (topW s) broadcasts_S256x1_S256x256))

/-- Their sum, row by row. -/
def sumW (s : FVec F S256x256 .f32) : FVec F S256x1 .f32 :=
  shapeCast S256x1 (multiReduction .add [1] S256 (expW s) 0x00000000#32 reduces_S256x256_S256 (.inl rfl) rfl) shapeCasts_S256_S256x1

/-- Their product with the values. -/
def outW (s : FVec F S256x256 .f32) (v : FVec F S256x128 .bf16) : FVec F S256x128 .f32 :=
  matmul dot_S256x256_S256x128_S256x128_1_0_0_1_n_n none (truncf .bf16 (expW s) bitsLt_bf16_f32) v (constant S256x128 .f32 0x00000000#32)

/-- The scores against all 128 keys of a residue. -/
def scoreN (q : FVec F S128x128 .f32) (k : FVec F S128x128 .bf16) (b : FVec F S256x128 .f32) : FVec F S256x128 .f32 :=
  addf (matmul dot_S256x128_S128x128_S256x128_1_1_0_0_n_n none (heads q) k (constant S256x128 .f32 0x00000000#32)) b

/-- The greatest score of each row. -/
def topN (s : FVec F S256x128 .f32) : FVec F S256x1 .f32 :=
  shapeCast S256x1 (multiReduction .maximumf [1] S256 s 0xFF800000#32 reduces_S256x128_S256 (.inl rfl) rfl) shapeCasts_S256_S256x1

/-- The exponentials over the greatest. -/
def expN (s : FVec F S256x128 .f32) : FVec F S256x128 .f32 := exp (subf s (broadcastTo S256x128 (topN s) broadcasts_S256x1_S256x128))

/-- Their sum, row by row. -/
def sumN (s : FVec F S256x128 .f32) : FVec F S256x1 .f32 :=
  shapeCast S256x1 (multiReduction .add [1] S256 (expN s) 0x00000000#32 reduces_S256x128_S256 (.inl rfl) rfl) shapeCasts_S256_S256x1

/-- Their product with the values. -/
def outN (s : FVec F S256x128 .f32) (v : FVec F S128x128 .bf16) : FVec F S256x128 .f32 :=
  matmul dot_S256x128_S128x128_S256x128_1_0_0_1_n_n none (truncf .bf16 (expN s) bitsLt_bf16_f32) v (constant S256x128 .f32 0x00000000#32)

/-! The tables of distances: the head's slope times the distance within the window, the mask without. -/

/-- How far row and column of a table stand apart, along the residue. -/
def relW (w : BitVec 32) : IVec S128x256 32 :=
  absi (addi (subi (iota .tc S128x256 32 [0] iota_S128x256_d0_w32) (iota .tc S128x256 32 [1] iota_S128x256_d1_w32)) (broadcast S128x256 w))

/-- One head's table of 256 columns. -/
def tabW (w d : BitVec 32) (sl : Vec F S1x1x1 .f32) : FVec F S128x256 .f32 :=
  select (cmpi .sle (relW w) (broadcast S128x256 64#32))
    (mulf (broadcastTo S128x256 (subf (broadcast S1x1 (Scalar.ofBits .f32 0x00000000#32)) (shapeCast S1x1 sl shapeCasts_S1x1x1_S1x1)) broadcasts_S1x1_S128x256)
      (mulf (sitofp .f32 (relW w)) (broadcast S128x256 (Scalar.ofBits .f32 d))))
    (broadcast S128x256 (Named.named κ "mask" 0xF149F2CA#32))

/-- How far they stand apart in the narrow table. -/
def relN : IVec S128x128 32 :=
  absi (addi (subi (iota .tc S128x128 32 [0] iota_S128x128_d0_w32) (iota .tc S128x128 32 [1] iota_S128x128_d1_w32)) (broadcast S128x128 0#32))

/-- One head's table of 128 columns. -/
def tabN (sl : Vec F S1x1x1 .f32) : FVec F S128x128 .f32 :=
  select (cmpi .sle relN (broadcast S128x128 64#32))
    (mulf (broadcastTo S128x128 (subf (broadcast S1x1 (Scalar.ofBits .f32 0x00000000#32)) (shapeCast S1x1 sl shapeCasts_S1x1x1_S1x1)) broadcasts_S1x1_S128x128)
      (mulf (sitofp .f32 relN) (broadcast S128x128 (Scalar.ofBits .f32 0x41800000#32))))
    (broadcast S128x128 (Named.named κ "mask" 0xF149F2CA#32))

/-- Where a head's slope lies. -/
def slopeR (h : Fin 2) : Rect S1x8x128 := Rect.unit ![0, 0, 64 * h.val] S1x1x1.size fun a => by
  fin_cases a
  · show 0 + 1 ≤ 1; omega
  · show 0 + 1 ≤ 8; omega
  · show 64 * h.val + 1 ≤ 128; omega

/-- Where a head's rows of table `n` lie, -/
def tR (n : Fin 7) (h : Fin 2) : Rect S7x256x256 := Rect.unit ![n.val, 128 * h.val, 0] S1x128x256.size fun a => by
  fin_cases a
  · show n.val + 1 ≤ 7; omega
  · show 128 * h.val + 128 ≤ 256; omega
  · show 0 + 256 ≤ 256; omega

/-- and in the narrow one. -/
def tRn (h : Fin 2) : Rect S7x256x256 := Rect.unit ![6, 128 * h.val, 0] S1x128x128.size fun a => by
  fin_cases a
  · show 6 + 1 ≤ 7; omega
  · show 128 * h.val + 128 ≤ 256; omega
  · show 0 + 128 ≤ 256; omega

/-- One store of a table of 256 columns, -/
def tP (X0 : Vec F S1x8x128 .f32) (n : Fin 7) (w d : BitVec 32) (h : Fin 2) : View.Piece (Elt F) S7x256x256 .f32 :=
  ⟨tR n h, (shapeCast S1x128x256 (tabW w d (View.ld (e' := .f32) X0 (slopeR h))) shapeCasts_S128x256_S1x128x256 : FVec F S1x128x256 .f32)⟩

/-- and of the narrow one. -/
def tPn (X0 : Vec F S1x8x128 .f32) (h : Fin 2) : View.Piece (Elt F) S7x256x256 .f32 :=
  ⟨tRn h, (shapeCast S1x128x128 (tabN (View.ld (e' := .f32) X0 (slopeR h))) shapeCasts_S128x128_S1x128x128 : FVec F S1x128x128 .f32)⟩

/-- The stores that fill the tables, the last first. -/
def tables (X0 : Vec F S1x8x128 .f32) : List (View.Piece (Elt F) S7x256x256 .f32) :=
  [tPn X0 1, tPn X0 0,
   tP X0 5 128#32 0x40800000#32 1, tP X0 5 128#32 0x40800000#32 0, tP X0 4 64#32 0x40800000#32 1, tP X0 4 64#32 0x40800000#32 0,
   tP X0 3 0#32 0x40800000#32 1, tP X0 3 0#32 0x40800000#32 0, tP X0 2 128#32 0x3F800000#32 1, tP X0 2 128#32 0x3F800000#32 0,
   tP X0 1 64#32 0x3F800000#32 1, tP X0 1 64#32 0x3F800000#32 0, tP X0 0 0#32 0x3F800000#32 1, tP X0 0 0#32 0x3F800000#32 0]

/-! Where block `k` of a dilation lies: its query rows, its window of keys, its table. -/

/-- Undilated: 128 rows on end. -/
def rows0 (k : Fin 16) : Rect S2048x128 := Rect.unit ![128 * k.val, 0] S128x128.size fun a => by
  fin_cases a
  · show 128 * k.val + 128 ≤ 2048; omega
  · show 0 + 128 ≤ 128; omega

/-- Every fourth row. -/
def rows1 (k : Fin 16) : Rect S2048x128 := ⟨⟨![k.val / 4 + 512 * (k.val % 4), 0], S128x128.size, ![4, 1], fun a => by
  fin_cases a
  · right; show k.val / 4 + 512 * (k.val % 4) + 4 * 127 < 2048; omega
  · right; show 0 + 1 * 127 < 128; omega⟩, spos_4_1⟩

/-- Every sixteenth row. -/
def rows2 (k : Fin 16) : Rect S2048x128 := ⟨⟨![k.val, 0], S128x128.size, ![16, 1], fun a => by
  fin_cases a
  · right; show k.val + 16 * 127 < 2048; omega
  · right; show 0 + 1 * 127 < 128; omega⟩, spos_16_1⟩

/-- Where the window of undilated block `k` starts. -/
def start0 (k : ℕ) : ℕ := min (128 * k - 64) 1792

/-- Where the window of block `i` of a residue starts, along the residue. -/
def start1 (i : ℕ) : ℕ := min (128 * i - 64) 256

/-- The window of an undilated block. -/
def keys0 (k : Fin 16) : Rect S2048x128 := Rect.unit ![start0 k.val, 0] S256x128.size fun a => by
  fin_cases a
  · show start0 k.val + 256 ≤ 2048; unfold start0; omega
  · show 0 + 128 ≤ 128; omega

/-- The window of a block of every fourth row. -/
def keys1 (k : Fin 16) : Rect S2048x128 := ⟨⟨![k.val / 4 + 4 * start1 (k.val % 4), 0], S256x128.size, ![4, 1], fun a => by
  fin_cases a
  · right; show k.val / 4 + 4 * start1 (k.val % 4) + 4 * 255 < 2048; unfold start1; omega
  · right; show 0 + 1 * 127 < 128; omega⟩, spos_4_1⟩

/-- A residue's rows in the array split by residues. -/
def rows16 (k : Fin 16) : Rect S1x16x128x128 := Rect.unit ![0, k.val, 0, 0] S1x1x128x128.size fun a => by
  fin_cases a
  · show 0 + 1 ≤ 1; omega
  · show k.val + 1 ≤ 16; omega
  · show 0 + 128 ≤ 128; omega
  · show 0 + 128 ≤ 128; omega

/-- Table `n`, whole, -/
def tableW (n : Fin 7) : Rect S7x256x256 := Rect.unit ![n.val, 0, 0] S1x256x256.size fun a => by
  fin_cases a
  · show n.val + 1 ≤ 7; omega
  · show 0 + 256 ≤ 256; omega
  · show 0 + 256 ≤ 256; omega

/-- and its first 128 columns. -/
def tableN (n : Fin 7) : Rect S7x256x256 := Rect.unit ![n.val, 0, 0] S1x256x128.size fun a => by
  fin_cases a
  · show n.val + 1 ≤ 7; omega
  · show 0 + 256 ≤ 256; omega
  · show 0 + 128 ≤ 256; omega

/-- The table an undilated block uses: by where its rows lie in its window. -/
def var0 (k : Fin 16) : Fin 7 := ⟨(128 * k.val - start0 k.val) / 64, by unfold start0; omega⟩

/-- The table a block of every fourth row uses. -/
def var1 (k : Fin 16) : Fin 7 := ⟨3 + (128 * (k.val % 4) - start1 (k.val % 4)) / 64, by unfold start1; omega⟩

section
variable (X1 X2 X3 : Vec F S2048x128 .f32) (X4 X5 X6 : Vec F S1x16x128x128 .bf16) (Tb : Fin 7 → Vec F S1x256x256 .f32) (Tn : Vec F S1x256x128 .f32)

/-- Block `k`'s scores, undilated, -/
def s0 (k : Fin 16) : FVec F S256x256 .f32 :=
  scoreW (shapeCast S128x128 (View.ld (e' := .f32) X1 (rows0 k)) shapeCasts_S128x128_S128x128)
    (truncf .bf16 (shapeCast S256x128 (View.ld (e' := .f32) X2 (keys0 k)) shapeCasts_S256x128_S256x128) bitsLt_bf16_f32)
    (shapeCast S256x256 (Tb (var0 k)) shapeCasts_S1x256x256_S256x256)

/-- of every fourth row, -/
def s1 (k : Fin 16) : FVec F S256x256 .f32 :=
  scoreW (shapeCast S128x128 (View.ld (e' := .f32) X1 (rows1 k)) shapeCasts_S128x128_S128x128)
    (truncf .bf16 (shapeCast S256x128 (View.ld (e' := .f32) X2 (keys1 k)) shapeCasts_S256x128_S256x128) bitsLt_bf16_f32)
    (shapeCast S256x256 (Tb (var1 k)) shapeCasts_S1x256x256_S256x256)

/-- of every sixteenth. -/
def s2 (k : Fin 16) : FVec F S256x128 .f32 :=
  scoreN (extf .f32 (shapeCast S128x128 (View.ld (e' := .bf16) X4 (rows16 k)) shapeCasts_S1x1x128x128_S128x128) bitsLt_bf16_f32)
    (shapeCast S128x128 (View.ld (e' := .bf16) X5 (rows16 k)) shapeCasts_S1x1x128x128_S128x128)
    (shapeCast S256x128 Tn shapeCasts_S1x256x128_S256x128)

/-- Block `k`'s weighted values, undilated, -/
def o0 (k : Fin 16) : FVec F S128x128 .f32 := unstack (outW (s0 X1 X2 Tb k)
  (truncf .bf16 (shapeCast S256x128 (View.ld (e' := .f32) X3 (keys0 k)) shapeCasts_S256x128_S256x128) bitsLt_bf16_f32))

/-- of every fourth row, -/
def o1 (k : Fin 16) : FVec F S128x128 .f32 := unstack (outW (s1 X1 X2 Tb k)
  (truncf .bf16 (shapeCast S256x128 (View.ld (e' := .f32) X3 (keys1 k)) shapeCasts_S256x128_S256x128) bitsLt_bf16_f32))

/-- of every sixteenth. -/
def o2 (k : Fin 16) : FVec F S128x128 .f32 := unstack (outN (s2 X4 X5 Tn k)
  (shapeCast S128x128 (View.ld (e' := .bf16) X6 (rows16 k)) shapeCasts_S1x1x128x128_S128x128))

end

/-! Sixteen blocks stored, and read back whole. -/

/-- The sixteen stores, the last first. -/
def pcs (R : Fin 16 → Rect S2048x128) (P : (k : Fin 16) → (R k).shape.Idx → Elt F .f32) : List (View.Piece (Elt F) S2048x128 .f32) :=
  [⟨R 15, P 15⟩, ⟨R 14, P 14⟩, ⟨R 13, P 13⟩, ⟨R 12, P 12⟩, ⟨R 11, P 11⟩, ⟨R 10, P 10⟩, ⟨R 9, P 9⟩, ⟨R 8, P 8⟩, ⟨R 7, P 7⟩,
   ⟨R 6, P 6⟩, ⟨R 5, P 5⟩, ⟨R 4, P 4⟩, ⟨R 3, P 3⟩, ⟨R 2, P 2⟩, ⟨R 1, P 1⟩, ⟨R 0, P 0⟩]

/-- Each is one of them, -/
theorem pcs_mem (R : Fin 16 → Rect S2048x128) (P : (k : Fin 16) → (R k).shape.Idx → Elt F .f32) (k : Fin 16) :
    (⟨R k, P k⟩ : View.Piece (Elt F) S2048x128 .f32) ∈ pcs R P := by
  unfold pcs; fin_cases k <;> simp

/-- and there is no other. -/
theorem of_pcs (R : Fin 16 → Rect S2048x128) (P : (k : Fin 16) → (R k).shape.Idx → Elt F .f32) (p : View.Piece (Elt F) S2048x128 .f32)
    (h : p ∈ pcs R P) : ∃ k, p = ⟨R k, P k⟩ := by
  simp only [pcs, List.mem_cons, List.not_mem_nil, or_false] at h
  rcases h with h | h | h | h | h | h | h | h | h | h | h | h | h | h | h | h <;> exact ⟨_, h⟩

/-- What the sixteen leave: the index's own block at its own place, where blocks and places are told by `b` and `x`. -/
theorem read_pcs {κ : Kind} {sp : Space} (v : View sig κ sp S2048x128 .f32) (f : v.ty.Contents (Elt F))
    (R : Fin 16 → Rect S2048x128) (P : (k : Fin 16) → (R k).shape.Idx → Elt F .f32)
    (G : S2048x128.Idx → Elt F .f32) (hG : ∀ k x, P k x = G ((R k).emb x)) (hc : ∀ y, ∃ k, y ∈ (R k).set) :
    v.read (Elt F) (v.writes (Elt F) f (pcs R P)) = G := by
  have hcov : ∀ y, ∃ p ∈ pcs R P, y ∈ p.1.set := fun y => by
    obtain ⟨k, hk⟩ := hc y
    exact ⟨_, pcs_mem R P k, hk⟩
  rw [View.read_writes_eq_canon _ _ _ hcov]
  funext y
  exact View.canon_apply_of_pieces G _ (fun p hp x => by obtain ⟨k, rfl⟩ := of_pcs R P p hp; exact hG k x) _ (hcov y)

end Cert.Mix

end
-- ==== Proof.MixMerge.lean ====
module

public import proofs.«01_k».proof.Proof.MixBlock
public import Idealize.ShloMosaic.Lib.Pointwise.Index

@[expose] public section

set_option maxRecDepth 16384
set_option maxHeartbeats 8000000

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixKernelIdeal Cert.MixKernelIdeal.Gen

variable {F : FTy → Type} [FloatOps F] [Named F]

/-! What the sixteen blocks of each dilation leave in an accumulator, and what the merging loop makes of the nine. -/

/-- An array told by its blocks of 128 rows on end, -/
def sp0 (P : Fin 16 → FVec F S128x128 .f32) : Vec F S2048x128 .f32 := fun y =>
  P ⟨(y 0).val / 128, by have : (y 0).val < 2048 := (y 0).isLt; omega⟩ (ix2 (⟨(y 0).val % 128, by omega⟩ : Fin 128) (y 1))

/-- of every fourth row, -/
def sp1 (P : Fin 16 → FVec F S128x128 .f32) : Vec F S2048x128 .f32 := fun y =>
  P ⟨4 * ((y 0).val % 4) + (y 0).val / 512, by have : (y 0).val < 2048 := (y 0).isLt; omega⟩
    (ix2 (⟨(y 0).val / 4 % 128, by omega⟩ : Fin 128) (y 1))

/-- of every sixteenth. -/
def sp2 (P : Fin 16 → FVec F S128x128 .f32) : Vec F S2048x128 .f32 := fun y =>
  P ⟨(y 0).val % 16, by omega⟩ (ix2 (⟨(y 0).val / 16, by have : (y 0).val < 2048 := (y 0).isLt; omega⟩ : Fin 128) (y 1))

/-- A block's element, by the values of its coordinates. -/
theorem at_eq (P : Fin 16 → FVec F S128x128 .f32) {k k' : Fin 16} {r r' j j' : Fin 128} (hk : k.val = k'.val) (hr : r.val = r'.val)
    (hj : j.val = j'.val) : P k (ix2 r j) = P k' (ix2 r' j') := by
  obtain rfl := Fin.ext hk
  obtain rfl := Fin.ext hr
  obtain rfl := Fin.ext hj
  rfl

/-- Every index is its two coordinates'. -/
theorem idx_split (x : S128x128.Idx) : ∃ r j : Fin 128, x = ix2 r j := ⟨x 0, x 1, by funext d; fin_cases d <;> rfl⟩

/-- Stored block by block and read back, undilated, -/
theorem st0 {κ : Kind} {sp : Space} (v : View sig κ sp S2048x128 .f32) (f : v.ty.Contents (Elt F)) (P : Fin 16 → FVec F S128x128 .f32) :
    v.read (Elt F) (v.writes (Elt F) f (pcs rows0 P)) = sp0 P := by
  refine read_pcs v f rows0 P _ (fun k x => ?_) (fun y => ?_)
  · obtain ⟨r, j, rfl⟩ := idx_split x
    have hr := r.isLt
    have hk := k.isLt
    exact at_eq P (by show k.val = (128 * k.val + 1 * r.val) / 128; omega) (by show r.val = (128 * k.val + 1 * r.val) % 128; omega)
      (by show j.val = 0 + 1 * j.val; omega)
  · have hy : (y 0).val < 2048 := (y 0).isLt
    refine ⟨⟨(y 0).val / 128, by omega⟩, ?_⟩
    refine (LoadRect.mem_set _).mpr fun a => ?_
    fin_cases a
    · exact ⟨(y 0).val % 128, Nat.mod_lt _ (by decide), (by show (y 0).val = 128 * ((y 0).val / 128) + 1 * ((y 0).val % 128); omega)⟩
    · exact ⟨(y 1).val, (y 1).isLt, (by show (y 1).val = 0 + 1 * (y 1).val; omega)⟩

/-- of every fourth row, -/
theorem st1 {κ : Kind} {sp : Space} (v : View sig κ sp S2048x128 .f32) (f : v.ty.Contents (Elt F)) (P : Fin 16 → FVec F S128x128 .f32) :
    v.read (Elt F) (v.writes (Elt F) f (pcs rows1 P)) = sp1 P := by
  refine read_pcs v f rows1 P _ (fun k x => ?_) (fun y => ?_)
  · obtain ⟨r, j, rfl⟩ := idx_split x
    have hr := r.isLt
    have hk := k.isLt
    have hq : (k.val / 4 + 512 * (k.val % 4) + 4 * r.val) / 4 = 128 * (k.val % 4) + r.val := by
      generalize hi : k.val % 4 = i
      generalize hρ : k.val / 4 = ρ
      omega
    have hm : (k.val / 4 + 512 * (k.val % 4) + 4 * r.val) % 4 = k.val / 4 := by omega
    have hd : (k.val / 4 + 512 * (k.val % 4) + 4 * r.val) / 512 = k.val % 4 := by
      generalize hi : k.val % 4 = i
      generalize hρ : k.val / 4 = ρ
      omega
    exact at_eq P (by show k.val = 4 * ((k.val / 4 + 512 * (k.val % 4) + 4 * r.val) % 4) + (k.val / 4 + 512 * (k.val % 4) + 4 * r.val) / 512; rw [hm, hd]; omega)
      (by show r.val = (k.val / 4 + 512 * (k.val % 4) + 4 * r.val) / 4 % 128; rw [hq]; omega) (by show j.val = 0 + 1 * j.val; omega)
  · have hy : (y 0).val < 2048 := (y 0).isLt
    refine ⟨⟨4 * ((y 0).val % 4) + (y 0).val / 512, by omega⟩, ?_⟩
    refine (LoadRect.mem_set _).mpr fun a => ?_
    fin_cases a
    · exact ⟨(y 0).val / 4 % 128, Nat.mod_lt _ (by decide), (by
        show (y 0).val = (4 * ((y 0).val % 4) + (y 0).val / 512) / 4 + 512 * ((4 * ((y 0).val % 4) + (y 0).val / 512) % 4) + 4 * ((y 0).val / 4 % 128)
        have h1 : (y 0).val / 4 / 128 = (y 0).val / 512 := Nat.div_div_eq_div_mul _ _ _
        have h2 : (4 * ((y 0).val % 4) + (y 0).val / 512) / 4 = (y 0).val % 4 := by omega
        have h3 : (4 * ((y 0).val % 4) + (y 0).val / 512) % 4 = (y 0).val / 512 := by omega
        rw [h2, h3]; omega)⟩
    · exact ⟨(y 1).val, (y 1).isLt, (by show (y 1).val = 0 + 1 * (y 1).val; omega)⟩

/-- of every sixteenth. -/
theorem st2 {κ : Kind} {sp : Space} (v : View sig κ sp S2048x128 .f32) (f : v.ty.Contents (Elt F)) (P : Fin 16 → FVec F S128x128 .f32) :
    v.read (Elt F) (v.writes (Elt F) f (pcs rows2 P)) = sp2 P := by
  refine read_pcs v f rows2 P _ (fun k x => ?_) (fun y => ?_)
  · obtain ⟨r, j, rfl⟩ := idx_split x
    have hr := r.isLt
    have hk := k.isLt
    exact at_eq P (by show k.val = (k.val + 16 * r.val) % 16; omega) (by show r.val = (k.val + 16 * r.val) / 16; omega)
      (by show j.val = 0 + 1 * j.val; omega)
  · have hy : (y 0).val < 2048 := (y 0).isLt
    refine ⟨⟨(y 0).val % 16, by omega⟩, ?_⟩
    refine (LoadRect.mem_set _).mpr fun a => ?_
    fin_cases a
    · exact ⟨(y 0).val / 16, (by show _ < 128; omega), (by show (y 0).val = (y 0).val % 16 + 16 * ((y 0).val / 16); omega)⟩
    · exact ⟨(y 1).val, (y 1).isLt, (by show (y 1).val = 0 + 1 * (y 1).val; omega)⟩

section
variable {S : Shape} (m0 m1 m2 l0 l1 l2 o0 o1 o2 : FVec F S .f32)

/-- The greatest of the three. -/
def mTop : FVec F S .f32 := maximumf (maximumf m0 m1) m2

/-- Three sums, each over its own greatest, brought to the common one and added. -/
def mSum : FVec F S .f32 :=
  addf (addf (mulf l0 (exp (subf m0 (mTop m0 m1 m2)))) (mulf l1 (exp (subf m1 (mTop m0 m1 m2))))) (mulf l2 (exp (subf m2 (mTop m0 m1 m2))))

/-- The merged output. -/
def mOut : FVec F S .f32 := divf (mSum m0 m1 m2 o0 o1 o2) (mSum m0 m1 m2 l0 l1 l2)

/-- The merged logarithm of the sums. -/
def mLse : FVec F S .f32 := addf (mTop m0 m1 m2) (log (mSum m0 m1 m2 l0 l1 l2))

end

/-- A trip's rows. -/
theorem off7_mem (y : S2048x128.Idx) (k : Fin k0_t1_loop.trips) (hk : k.val = (y 0).val / 256) :
    y ∈ (Rect.unit (s := S2048x128) (k0_off7 k) S256x128.size (k0_off7_inb k)).set := by
  have e : k0_off7 k = ![256 * k.val, 0] := by clear hk; revert k; decide
  refine (LoadRect.mem_set _).mpr fun a => ?_
  fin_cases a
  · exact ⟨(y 0).val % 256, Nat.mod_lt _ (by decide), (by show (y 0).val = k0_off7 k 0 + 1 * ((y 0).val % 256); rw [e]; show (y 0).val = 256 * k.val + _; omega)⟩
  · exact ⟨(y 1).val, (y 1).isLt, (by show (y 1).val = k0_off7 k 1 + 1 * (y 1).val; rw [e]; show (y 1).val = 0 + _; omega)⟩

/-- A loop's pieces, gathered trip by trip: each is some trip's, and every trip's are among them. -/
theorem gathered {α : Type _} {N : ℕ} (tr : Fin N → List α) (pb : ℕ → List α) (h0 : pb 0 = [])
    (hs : ∀ n, pb (n + 1) = if h : n < N then tr ⟨n, h⟩ ++ pb n else pb n) (n : ℕ) :
    (∀ p ∈ pb n, ∃ k, p ∈ tr k) ∧ ∀ k : Fin N, k.val < n → ∀ p ∈ tr k, p ∈ pb n := by
  induction n with
  | zero => exact ⟨fun p hp => absurd (h0 ▸ hp) List.not_mem_nil, fun k hk => absurd hk (Nat.not_lt_zero _)⟩
  | succ n ih =>
    rw [hs]
    split
    · refine ⟨fun p hp => (List.mem_append.mp hp).elim (fun hp => ⟨_, hp⟩) (ih.1 p), fun k hk p hp => List.mem_append.mpr ?_⟩
      rcases Nat.lt_succ_iff_lt_or_eq.mp hk with hk | hk
      · exact .inr (ih.2 k hk p hp)
      · subst hk; exact .inl hp
    · exact ⟨ih.1, fun k hk p hp => ih.2 k (by have := k.isLt; omega) p hp⟩

/-- What a loop leaves whose trips store 256 rows each of one array: that array. -/
theorem by_trips {κ : Kind} {sp : Space} (v : View sig κ sp S2048x128 .f32) (f : v.ty.Contents (Elt F)) (g : Vec F S2048x128 .f32)
    (tr : Fin k0_t1_loop.trips → List (View.Piece (Elt F) S2048x128 .f32)) (pb : ℕ → List (View.Piece (Elt F) S2048x128 .f32)) (h0 : pb 0 = [])
    (hs : ∀ n, pb (n + 1) = if h : n < k0_t1_loop.trips then tr ⟨n, h⟩ ++ pb n else pb n)
    (ht : ∀ k, ∃ p, tr k = [p] ∧ p.1.set = (Rect.unit (s := S2048x128) (k0_off7 k) S256x128.size (k0_off7_inb k)).set ∧ ∀ x : p.1.shape.Idx, p.2 x = g (p.1.emb x)) :
    v.read (Elt F) (v.writes (Elt F) f (pb k0_t1_loop.trips)) = g := by
  obtain ⟨ha, hb⟩ := gathered tr pb h0 hs k0_t1_loop.trips
  have hc : ∀ y, ∃ p ∈ pb k0_t1_loop.trips, y ∈ p.1.set := fun y => by
    have hy : (y 0).val < 2048 := (y 0).isLt
    have h8 : k0_t1_loop.trips = 8 := by decide
    have hk : (y 0).val / 256 < k0_t1_loop.trips := by omega
    obtain ⟨p, e, es, -⟩ := ht ⟨_, hk⟩
    exact ⟨p, hb ⟨_, hk⟩ hk p (by rw [e]; exact List.mem_singleton.mpr rfl), by rw [es]; exact off7_mem y _ rfl⟩
  rw [View.read_writes_eq_canon _ _ _ hc]
  funext y
  refine View.canon_apply_of_pieces _ _ (fun p hp => ?_) _ (hc y)
  obtain ⟨k, hk⟩ := ha p hp
  obtain ⟨q, e, -, hq⟩ := ht k
  rw [e, List.mem_singleton] at hk
  subst hk
  exact hq

section
variable (𝒱 : Variants) (c : Dev nD) (bd : Option 𝒱.V) (i : grid0.Coords) (arg2 : Memref sig .tc .vmem S1x8x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x16x128x128 .bf16) (harg6 : arg6.IsWhole) (arg7 : Memref sig .tc .vmem S1x16x128x128 .bf16) (harg7 : arg7.IsWhole) (arg8 : Memref sig .tc .vmem S1x16x128x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S7x256x256 .f32) (harg20 : arg20.IsWhole) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)

/-- What the merging loop leaves: the merged output and logarithm. -/
theorem merged :
    let pb := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg11 X_arg12 X_arg13 X_arg14 X_arg15 X_arg16 X_arg17 X_arg18 X_arg19 (Scf.trips k0_t1_loop.lb k0_t1_loop.ub k0_t1_loop.st)
    (∀ f, arg9.view.read (Elt F) (arg9.view.writes (Elt F) f pb.1) = mOut (arg14.view.read (Elt F) X_arg14) (arg15.view.read (Elt F) X_arg15) (arg16.view.read (Elt F) X_arg16) (arg17.view.read (Elt F) X_arg17) (arg18.view.read (Elt F) X_arg18) (arg19.view.read (Elt F) X_arg19) (arg11.view.read (Elt F) X_arg11) (arg12.view.read (Elt F) X_arg12) (arg13.view.read (Elt F) X_arg13)) ∧
      ∀ f, arg10.view.read (Elt F) (arg10.view.writes (Elt F) f pb.2) = mLse (arg14.view.read (Elt F) X_arg14) (arg15.view.read (Elt F) X_arg15) (arg16.view.read (Elt F) X_arg16) (arg17.view.read (Elt F) X_arg17) (arg18.view.read (Elt F) X_arg18) (arg19.view.read (Elt F) X_arg19) := by
  intro pb
  let P := fun n => pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg11 X_arg12 X_arg13 X_arg14 X_arg15 X_arg16 X_arg17 X_arg18 X_arg19 n
  let T := fun k => tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg11 X_arg12 X_arg13 X_arg14 X_arg15 X_arg16 X_arg17 X_arg18 X_arg19 k
  have h0 : P 0 = ([], []) := by show pb_k0_t1 .. = _; rw [pb_k0_t1.eq_1]
  have hs : ∀ n, P (n + 1) = if h : n < k0_t1_loop.trips then ((T ⟨n, h⟩).1 ++ (P n).1, (T ⟨n, h⟩).2 ++ (P n).2) else P n := fun n => by
    show pb_k0_t1 .. = _
    rw [pb_k0_t1.eq_2]
    unfold pb_k0_t1Step
    rfl
  refine ⟨fun f => by_trips arg9.view f _ (fun k => (T k).1) (fun n => (P n).1) (by show (P 0).1 = _; rw [h0]) (fun n => ?_) (fun k => ?_),
    fun f => by_trips arg10.view f _ (fun k => (T k).2) (fun n => (P n).2) (by show (P 0).2 = _; rw [h0]) (fun n => ?_) (fun k => ?_)⟩
  · show (P (n + 1)).1 = _
    rw [hs]; split <;> rfl
  · show ∃ p, (tripL_k0_t1 ..).1 = [p] ∧ _
    unfold tripL_k0_t1 trip_k0_t1
    exact ⟨_, rfl, rfl, fun x => rfl⟩
  · show (P (n + 1)).2 = _
    rw [hs]; split <;> rfl
  · show ∃ p, (tripL_k0_t1 ..).2 = [p] ∧ _
    unfold tripL_k0_t1 trip_k0_t1
    exact ⟨_, rfl, rfl, fun x => rfl⟩

end

end Cert.Mix

end
-- ==== Proof.MixBody.lean ====
module

public import proofs.«01_k».proof.Proof.MixMerge

@[expose] public section

set_option maxRecDepth 16384
set_option maxHeartbeats 8000000

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixKernelIdeal Cert.MixKernelIdeal.Gen

variable {F : FTy → Type} [FloatOps F] [Named F]

local notation "𝕄" => MT nD τ sig Unit (Elt F) ℕ (UR sig nD τ) ℕ

section
variable (x0 : Vec F S1x8x128 .f32) (x1 : Vec F S2048x128 .f32) (x2 : Vec F S2048x128 .f32) (x3 : Vec F S2048x128 .f32) (x4 : Vec F S1x16x128x128 .bf16) (x5 : Vec F S1x16x128x128 .bf16) (x6 : Vec F S1x16x128x128 .bf16)

/-- The tables' blocks as the undilated and fourfold dilations read them, -/
def tabs : Fin 7 → Vec F S1x256x256 .f32 := fun n => View.ld (e' := .f32) (View.canon (tables x0)) (tableW n)

/-- and as the sixteenfold does. -/
def tab6 : Vec F S1x256x128 .f32 := View.ld (e' := .f32) (View.canon (tables x0)) (tableN 6)

/-- The greatest score of each row, dilation by dilation; -/
def mA : Vec F S2048x128 .f32 := sp0 fun k => lanes (topW (s0 x1 x2 (tabs x0) k))
def mB : Vec F S2048x128 .f32 := sp1 fun k => lanes (topW (s1 x1 x2 (tabs x0) k))
def mC : Vec F S2048x128 .f32 := sp2 fun k => lanes (topN (s2 x4 x5 (tab6 x0) k))

/-- the sums of the exponentials over it; -/
def lA : Vec F S2048x128 .f32 := sp0 fun k => lanes (sumW (s0 x1 x2 (tabs x0) k))
def lB : Vec F S2048x128 .f32 := sp1 fun k => lanes (sumW (s1 x1 x2 (tabs x0) k))
def lC : Vec F S2048x128 .f32 := sp2 fun k => lanes (sumN (s2 x4 x5 (tab6 x0) k))

/-- the values they weigh. -/
def oA : Vec F S2048x128 .f32 := sp0 fun k => o0 x1 x2 x3 (tabs x0) k
def oB : Vec F S2048x128 .f32 := sp1 fun k => o1 x1 x2 x3 (tabs x0) k
def oC : Vec F S2048x128 .f32 := sp2 fun k => o2 x4 x5 x6 (tab6 x0) k

/-- The block of the output, -/
def aOut : Vec F S2048x128 .f32 := mOut (mA x0 x1 x2) (mB x0 x1 x2) (mC x0 x4 x5) (lA x0 x1 x2) (lB x0 x1 x2) (lC x0 x4 x5)
  (oA x0 x1 x2 x3) (oB x0 x1 x2 x3) (oC x0 x4 x5 x6)

/-- and of the logarithm of the sums. -/
def lseOut : Vec F S2048x128 .f32 := mLse (mA x0 x1 x2) (mB x0 x1 x2) (mC x0 x4 x5) (lA x0 x1 x2) (lB x0 x1 x2) (lC x0 x4 x5)

end

/-- Equal arguments, six at once, -/
theorem congr6 {α β : Type} (f : α → α → α → α → α → α → β) {a a' b b' c c' d d' e e' g g' : α} (ha : a = a') (hb : b = b') (hc : c = c')
    (hd : d = d') (he : e = e') (hg : g = g') : f a b c d e g = f a' b' c' d' e' g' := by
  subst ha hb hc hd he hg; rfl

/-- or nine. -/
theorem congr9 {α β : Type} (f : α → α → α → α → α → α → α → α → α → β) {a a' b b' c c' d d' e e' g g' h h' i i' j j' : α} (ha : a = a')
    (hb : b = b') (hc : c = c') (hd : d = d') (he : e = e') (hg : g = g') (hh : h = h') (hi : i = i') (hj : j = j') :
    f a b c d e g h i j = f a' b' c' d' e' g' h' i' j' := by
  subst ha hb hc hd he hg hh hi hj; rfl

set_option maxHeartbeats 400000000 in
/-- The body on whole buffers, the operands' at their contents and every other at anything, runs to its end, leaves the operands
    as they were, the results' buffers at the merged output and logarithm, and every other at something. -/
theorem body_run (c : Dev nD) (i : grid0.Coords) (arg2 : Memref sig .tc .vmem S1x8x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1x16x128x128 .bf16) (harg6 : arg6.IsWhole) (arg7 : Memref sig .tc .vmem S1x16x128x128 .bf16) (harg7 : arg7.IsWhole) (arg8 : Memref sig .tc .vmem S1x16x128x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S7x256x256 .f32) (harg20 : arg20.IsWhole)
    (x0 : Vec F S1x8x128 .f32) (x1 : Vec F S2048x128 .f32) (x2 : Vec F S2048x128 .f32) (x3 : Vec F S2048x128 .f32) (x4 : Vec F S1x16x128x128 .bf16) (x5 : Vec F S1x16x128x128 .bf16) (x6 : Vec F S1x16x128x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (aOut x0 x1 x2 x3 x4 x5 x6) ∗ owns (c : Thread nD τ) arg10 fullShare (lseOut x0 x1 x2 x4 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) -∗ K ⟨⟩))
      ⊢ wp frame (wpE (defs₀ (F := F)) Variants.none (c : Thread nD τ) none) E (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_attn_fwd_eq_skeleton]; unfold cc0_attn_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%darg9, %farg9, -, Warg9⟩, ⟨%darg10, %farg10, -, Warg10⟩, ⟨%darg11, %farg11, -, Warg11⟩, ⟨%darg12, %farg12, -, Warg12⟩, ⟨%darg13, %farg13, -, Warg13⟩, ⟨%darg14, %farg14, -, Warg14⟩, ⟨%darg15, %farg15, -, Warg15⟩, ⟨%darg16, %farg16, -, Warg16⟩, ⟨%darg17, %farg17, -, Warg17⟩, ⟨%darg18, %farg18, -, Warg18⟩, ⟨%darg19, %farg19, -, Warg19⟩, ⟨%darg20, %farg20, -, Warg20⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  let X1 := arg3.view.read (Elt F) (harg3.unread x1)
  let X2 := arg4.view.read (Elt F) (harg4.unread x2)
  let X3 := arg5.view.read (Elt F) (harg5.unread x3)
  let X4 := arg6.view.read (Elt F) (harg6.unread x4)
  let X5 := arg7.view.read (Elt F) (harg7.unread x5)
  let X6 := arg8.view.read (Elt F) (harg8.unread x6)
  let TW := fun n => arg20.view.readCov (tables (arg2.view.read (Elt F) (harg2.unread x0))) (tableW n).toLoadRect
  let TN := arg20.view.readCov (tables (arg2.view.read (Elt F) (harg2.unread x0))) (tableN 6).toLoadRect
  have e14 := fun f => st0 arg14.view f (fun k => lanes (topW (s0 X1 X2 TW k)))
  have e15 := fun f => st1 arg15.view f (fun k => lanes (topW (s1 X1 X2 TW k)))
  have e16 := fun f => st2 arg16.view f (fun k => lanes (topN (s2 X4 X5 TN k)))
  have e17 := fun f => st0 arg17.view f (fun k => lanes (sumW (s0 X1 X2 TW k)))
  have e18 := fun f => st1 arg18.view f (fun k => lanes (sumW (s1 X1 X2 TW k)))
  have e19 := fun f => st2 arg19.view f (fun k => lanes (sumN (s2 X4 X5 TN k)))
  have e11 := fun f => st0 arg11.view f (fun k => o0 X1 X2 X3 TW k)
  have e12 := fun f => st1 arg12.view f (fun k => o1 X1 X2 X3 TW k)
  have e13 := fun f => st2 arg13.view f (fun k => o2 X4 X5 X6 TN k)
  isplitl [H0]; · iexists _; isplitr; (· ipureintro; exact harg2.read_unread _); iexact H0
  isplitl [H1]; · iexists _; isplitr; (· ipureintro; exact harg3.read_unread _); iexact H1
  isplitl [H2]; · iexists _; isplitr; (· ipureintro; exact harg4.read_unread _); iexact H2
  isplitl [H3]; · iexists _; isplitr; (· ipureintro; exact harg5.read_unread _); iexact H3
  isplitl [H4]; · iexists _; isplitr; (· ipureintro; exact harg6.read_unread _); iexact H4
  isplitl [H5]; · iexists _; isplitr; (· ipureintro; exact harg7.read_unread _); iexact H5
  isplitl [H6]; · iexists _; isplitr; (· ipureintro; exact harg8.read_unread _); iexact H6
  isplitl [Warg9]
  · iexists _; isplitr; swap; (· iexact Warg9)
    ipureintro
    refine (((merged ..).1 _).trans (congr9 mOut (e14 _) (e15 _) (e16 _) (e17 _) (e18 _) (e19 _) (e11 _) (e12 _) (e13 _))).trans ?_
    simp only [X1, X2, X3, X4, X5, X6, TW, TN, View.readCov_eq_canon', Memref.IsWhole.read_unread]
    rfl
  isplitl [Warg10]
  · iexists _; isplitr; swap; (· iexact Warg10)
    ipureintro
    refine (((merged ..).2 _).trans (congr6 mLse (e14 _) (e15 _) (e16 _) (e17 _) (e18 _) (e19 _))).trans ?_
    simp only [X1, X2, X3, X4, X5, X6, TW, TN, View.readCov_eq_canon', Memref.IsWhole.read_unread]
    rfl
  isplitl [Warg11]; · iexists _; iexists _; isplitr; swap; (· iexact Warg11); ipureintro; rfl
  isplitl [Warg12]; · iexists _; iexists _; isplitr; swap; (· iexact Warg12); ipureintro; rfl
  isplitl [Warg13]; · iexists _; iexists _; isplitr; swap; (· iexact Warg13); ipureintro; rfl
  isplitl [Warg14]; · iexists _; iexists _; isplitr; swap; (· iexact Warg14); ipureintro; rfl
  isplitl [Warg15]; · iexists _; iexists _; isplitr; swap; (· iexact Warg15); ipureintro; rfl
  isplitl [Warg16]; · iexists _; iexists _; isplitr; swap; (· iexact Warg16); ipureintro; rfl
  isplitl [Warg17]; · iexists _; iexists _; isplitr; swap; (· iexact Warg17); ipureintro; rfl
  isplitl [Warg18]; · iexists _; iexists _; isplitr; swap; (· iexact Warg18); ipureintro; rfl
  isplitl [Warg19]; · iexists _; iexists _; isplitr; swap; (· iexact Warg19); ipureintro; rfl
  iexists _; iexists _; isplitr; swap; (· iexact Warg20); ipureintro; rfl

end Cert.Mix

end
-- ==== Proof.MixRow.lean ====
/- A row of masked scores over the reals: its greatest, the sum of its exponentials and what they weigh; and the words that say how
   far two tokens stand apart. -/
module

public import proofs.«01_k».proof.Proof.Norm

@[expose] public section

set_option maxRecDepth 16384

noncomputable section

namespace Cert.Mix

open Idealize.ShloMosaic Cert.Reals

/-! ## Distances -/

/-- How far two tokens stand apart. -/
def far (t u : ℕ) : ℕ := (t - u) + (u - t)

/-- The difference of two words, without its sign. -/
theorem abs_word (a b : ℕ) (ha : a < 4096) (hb : b < 4096) :
    IntOp.absi (IntOp.subi (BitVec.ofNat 32 a) (BitVec.ofNat 32 b)) = BitVec.ofNat 32 (far a b) := by
  unfold IntOp.absi IntOp.subi far
  rcases Nat.lt_or_ge a b with h | h
  · have e : (BitVec.ofNat 32 a - BitVec.ofNat 32 b).msb = true := by
      rw [BitVec.msb_eq_true_iff_two_mul_ge]; simp only [BitVec.toNat_sub, BitVec.toNat_ofNat]; omega
    rw [if_pos e]
    apply BitVec.eq_of_toNat_eq
    simp only [BitVec.toNat_neg, BitVec.toNat_sub, BitVec.toNat_ofNat]; omega
  · have e : (BitVec.ofNat 32 a - BitVec.ofNat 32 b).msb = false := by
      rw [BitVec.msb_eq_false_iff_two_mul_lt]; simp only [BitVec.toNat_sub, BitVec.toNat_ofNat]; omega
    rw [if_neg (by rw [e]; decide)]
    apply BitVec.eq_of_toNat_eq
    simp only [BitVec.toNat_sub, BitVec.toNat_ofNat]; omega

/-- The same after a shift of the difference. -/
theorem abs_word_add (a b w : ℕ) (ha : a + w < 4096) (hb : b < 4096) :
    IntOp.absi (IntOp.addi (IntOp.subi (BitVec.ofNat 32 a) (BitVec.ofNat 32 b)) (BitVec.ofNat 32 w)) = BitVec.ofNat 32 (far (a + w) b) := by
  rw [← abs_word (a + w) b ha hb]
  congr 1
  apply BitVec.eq_of_toNat_eq
  simp only [IntOp.addi, IntOp.subi, BitVec.toNat_add, BitVec.toNat_sub, BitVec.toNat_ofNat]; omega

/-- A small word's own number, signed. -/
theorem toInt_small (n : ℕ) (h : n < 2 ^ 31) : (BitVec.ofNat 32 n).toInt = n := by
  rw [BitVec.toInt_eq_toNat_cond, BitVec.toNat_ofNat]; omega

/-- Small words are ordered as their numbers. -/
theorem sle_word (n m : ℕ) (h : n < 2 ^ 31) (hm : m < 2 ^ 31) :
    IntOp.cmpi .sle (BitVec.ofNat 32 n) (BitVec.ofNat 32 m) = if n ≤ m then 1#1 else 0#1 := by
  have e : (BitVec.ofNat 32 n).sle (BitVec.ofNat 32 m) = decide (n ≤ m) := by
    rw [BitVec.sle_eq_decide, toInt_small n h, toInt_small m hm]; simp
  simp only [IntOp.cmpi, e]
  by_cases g : n ≤ m <;> simp [g]

/-- A small word as a real. -/
theorem sitofp_word (n : ℕ) (h : n < 2 ^ 31) : (FloatOps.sitofp FTy.f32 (BitVec.ofNat 32 n) : Ideal .f32) = ((n : ℝ) : EReal) := by
  show (((BitVec.ofNat 32 n).toInt : ℝ) : EReal) = _
  rw [toInt_small n h]; simp

theorem w_four : Ideal.ofBits .f32 0x40800000#32 = ((4 : ℝ) : EReal) := by
  simp [Ideal.ofBits, Ideal.ieee, -EReal.coe_mul]; norm_num
theorem w_sixteen : Ideal.ofBits .f32 0x41800000#32 = ((16 : ℝ) : EReal) := by
  simp [Ideal.ofBits, Ideal.ieee, -EReal.coe_mul]; norm_num

/-! ## Rows -/

/-- The greatest of a masked row of reals is real, and a row's exponential over it is the masked exponential times one factor. -/
theorem masked {n : ℕ} (x : Fin n → ℝ) (ok : Fin n → Prop) [DecidablePred ok] (h : ∃ j, ok j) :
    ∃ M : ℝ, Finset.univ.fold max (⊥ : EReal) (fun j => if ok j then (x j : EReal) else ⊥) = (M : EReal) ∧
      ∀ j, Ideal.exp ((if ok j then (x j : EReal) else ⊥) - (M : EReal)) = (((if ok j then Real.exp (x j) else 0) * Real.exp (-M) : ℝ) : EReal) := by
  obtain ⟨j0, h0⟩ := h
  obtain ⟨i, hi, hm⟩ := Finset.exists_max_image Finset.univ (fun j => if ok j then (x j : EReal) else ⊥) ⟨j0, Finset.mem_univ _⟩
  have hok : ok i := by
    by_contra hn
    have := hm j0 (Finset.mem_univ _)
    simp only [if_pos h0, if_neg hn, le_bot_iff] at this
    exact EReal.coe_ne_bot _ this
  refine ⟨x i, le_antisymm ?_ ?_, fun j => ?_⟩
  · exact (Finset.fold_max_le _).mpr ⟨bot_le, fun k hk => (hm k hk).trans (if_pos hok).le⟩
  · exact (Finset.le_fold_max _).mpr (Or.inr ⟨i, hi, (if_pos hok).ge⟩)
  · by_cases hj : ok j
    · rw [if_pos hj, if_pos hj, ← EReal.coe_sub, Ideal.exp_coe, ← Real.exp_add, sub_eq_add_neg]
    · rw [if_neg hj, if_neg hj, EReal.bot_sub, Ideal.exp_bot, zero_mul, EReal.coe_zero]

/-- A masked row's greatest, its sum and one lane of what it weighs, from how each is computed. -/
theorem row {n : ℕ} (s : Fin n → EReal) (x : Fin n → ℝ) (ok : Fin n → Prop) [DecidablePred ok] (h : ∃ j, ok j)
    (hs : ∀ j, s j = if ok j then (x j : EReal) else ⊥) (v : Fin n → EReal)
    {top sum out : EReal} (htop : top = Finset.univ.fold max (⊥ : EReal) s) (hsum : sum = ∑ j, Ideal.exp (s j - top))
    (hout : out = ∑ j, Ideal.exp (s j - top) * v j) :
    ∃ M : ℝ, top = (M : EReal) ∧ sum = (((∑ j, if ok j then Real.exp (x j) else 0) * Real.exp (-M) : ℝ) : EReal) ∧
      out = (∑ j, if ok j then (Real.exp (x j) : EReal) * v j else 0) * (Real.exp (-M) : EReal) := by
  obtain rfl : s = fun j => if ok j then (x j : EReal) else ⊥ := funext hs
  obtain ⟨M, hM, he⟩ := masked x ok h
  rw [hM] at htop
  subst htop
  refine ⟨M, rfl, ?_, ?_⟩
  · rw [hsum, Finset.sum_mul, ← coe_sum]
    exact Finset.sum_congr rfl fun j _ => he j
  · rw [hout, mul_comm _ (Real.exp (-M) : EReal), Norm.mul_sum' _ _ (Real.exp_pos _).le]
    refine Finset.sum_congr rfl fun j _ => ?_
    rw [he j]
    split_ifs
    · rw [mul_comm (Real.exp (x j)), EReal.coe_mul, mul_assoc]
    · rw [zero_mul, EReal.coe_zero, zero_mul, mul_zero]

/-- A sum over the cells of a window is the masked sum over all tokens, where the window holds every token the mask lets through. -/
theorem window {n : ℕ} {M : Type*} [AddCommMonoid M] (e : Fin n → ℕ) (inj : Function.Injective e) (he : ∀ j, e j < 2048) (ok : Fin n → Prop) [DecidablePred ok]
    (near : ℕ → Prop) [DecidablePred near] (hok : ∀ j, ok j ↔ near (e j)) (hc : ∀ u < 2048, near u → ∃ j, e j = u) (f : ℕ → M) :
    (∑ j, if ok j then f (e j) else 0) = ∑ u : Fin 2048, if near u then f u else 0 := by
  refine Finset.sum_of_injOn (fun j => (⟨e j, he j⟩ : Fin 2048)) (fun a _ b _ h => inj (congrArg Fin.val h)) (fun _ _ => Finset.mem_univ _)
    (fun u _ hu => if_neg fun hn => hu ?_) (fun j _ => if_congr (hok j) rfl rfl)
  obtain ⟨j, hj⟩ := hc u u.isLt hn
  exact ⟨j, by simp, Fin.ext hj⟩

/-- A number that is not negative multiplies a sum of three. -/
theorem add_three {a b c : EReal} {r : ℝ} (hr : 0 ≤ r) : a * (r : EReal) + b * (r : EReal) + c * (r : EReal) = (a + b + c) * (r : EReal) := by
  have h : (0 : EReal) ≤ r := by exact_mod_cast hr
  rw [EReal.right_distrib_of_nonneg_of_ne_top h (EReal.coe_ne_top r), EReal.right_distrib_of_nonneg_of_ne_top h (EReal.coe_ne_top r)]

/-- Three dilations merged: the common factor of each cancels. -/
theorem merge (M0 M1 M2 Z0 Z1 Z2 : ℝ) (N0 N1 N2 : EReal) (h0 : 0 < Z0) (h1 : 0 < Z1) (h2 : 0 < Z2) :
    let T := max (max (M0 : EReal) M1) M2
    let w (l0 l1 l2 : EReal) := l0 * Ideal.exp (M0 - T) + l1 * Ideal.exp (M1 - T) + l2 * Ideal.exp (M2 - T)
    let Z := w ((Z0 * Real.exp (-M0) : ℝ) : EReal) ((Z1 * Real.exp (-M1) : ℝ) : EReal) ((Z2 * Real.exp (-M2) : ℝ) : EReal)
    let N := w (N0 * (Real.exp (-M0) : EReal)) (N1 * (Real.exp (-M1) : EReal)) (N2 * (Real.exp (-M2) : EReal))
    Ideal.div N Z = (N0 + N1 + N2) * ((1 / (Z0 + Z1 + Z2) : ℝ) : EReal) ∧ T + Ideal.log Z = ((Real.log (Z0 + Z1 + Z2) : ℝ) : EReal) := by
  intro T w Z N
  obtain ⟨t, ht⟩ : ∃ t : ℝ, T = (t : EReal) := ⟨max (max M0 M1) M2, by
    simp only [T, (EReal.coe_strictMono.monotone).map_max]⟩
  have key : ∀ a b c : EReal, w (a * (Real.exp (-M0) : EReal)) (b * (Real.exp (-M1) : EReal)) (c * (Real.exp (-M2) : EReal))
      = (a + b + c) * (Real.exp (-t) : EReal) := by
    intro a b c
    simp only [w, ht, ← EReal.coe_sub, Ideal.exp_coe, mul_assoc, ← EReal.coe_mul]
    have e : ∀ m : ℝ, Real.exp (-m) * Real.exp (m - t) = Real.exp (-t) := fun m => by rw [← Real.exp_add]; congr 1; ring
    rw [e, e, e, add_three (Real.exp_pos _).le]
  have hZ : 0 < Z0 + Z1 + Z2 := by positivity
  have ht' := Real.exp_pos (-t)
  constructor
  · simp only [N, Z, EReal.coe_mul, key, ← EReal.coe_add]
    rw [← EReal.coe_mul, Ideal.div_coe (mul_pos hZ ht').ne', mul_assoc, ← EReal.coe_mul]
    congr 2
    field_simp
  · simp only [Z, EReal.coe_mul, key, ← EReal.coe_add]
    rw [ht, ← EReal.coe_mul, Ideal.log_coe, if_neg (not_le.mpr (mul_pos hZ ht')), Real.log_mul hZ.ne' ht'.ne', Real.log_exp, ← EReal.coe_add]
    congr 1; ring

end Cert.Mix

end
-- ==== Proof.MixVal.lean ====
/- One block of the attention's forward over the reals: what its tables, its windows and its merge are worth. -/
module

public import proofs.«01_k».proof.Proof.MixBody
public import proofs.«01_k».proof.Proof.MixRow

@[expose] public section

set_option maxRecDepth 16384

noncomputable section

namespace Cert.Mix

open Idealize.ShloMosaic Cert.Reals
open Idealize.ShloMosaic.Tactic
open Cert.MixKernelIdeal Cert.MixKernelIdeal.Gen

/-! ## What is computed, over the reals -/

/-- The queries, keys and values of two heads, by token and lane, and the heads' slopes. -/
structure Two where
  q : ℕ → ℕ → ℝ
  k : ℕ → ℕ → ℝ
  v : ℕ → ℕ → EReal
  sg : ℕ → ℝ

/-- Dilation `d` lets through the tokens within 64 steps of `d`. -/
def near (d t u : ℕ) : Prop := far t u ≤ 64 * d ∧ far t u % d = 0

instance (d t u : ℕ) : Decidable (near d t u) := inferInstanceAs (Decidable (_ ∧ _))

namespace Two

variable (A : Two)

/-- The score of head `h`'s query at `t` against its key at `u`. -/
def S (h t u : ℕ) : ℝ := (∑ e : Fin 64, A.q t (h * 64 + e) * A.k u (h * 64 + e)) * (1 / 8) - A.sg h * far t u

/-- The sum of a dilation's exponentials, -/
def Z (d h t : ℕ) : ℝ := ∑ u : Fin 2048, if near d t u then Real.exp (A.S h t u) else 0

/-- and what they weigh. -/
def N (d h t l : ℕ) : EReal := ∑ u : Fin 2048, if near d t u then (Real.exp (A.S h t u) : EReal) * A.v u l else 0

theorem Z_pos (d h t : ℕ) (ht : t < 2048) : 0 < A.Z d h t :=
  Finset.sum_pos' (fun u _ => by split_ifs <;> first | exact (Real.exp_pos _).le | exact le_rfl)
    ⟨⟨t, ht⟩, Finset.mem_univ _, by rw [if_pos (by unfold near far; simp)]; exact Real.exp_pos _⟩

end Two

/-- What a dilation leaves at head `h`'s row `t`, lane `l`: the row's greatest, and sum and output over it. -/
def Leaves (A : Two) (d h t l : ℕ) (m s o : EReal) : Prop :=
  ∃ M : ℝ, m = (M : EReal) ∧ s = ((A.Z d h t * Real.exp (-M) : ℝ) : EReal) ∧ o = A.N d h t l * (Real.exp (-M) : EReal)

/-! ## Scores -/

/-- The lanes of the first head. -/
theorem lane_first : ∀ l : Fin 128, IntOp.cmpi CmpIPredicate.slt (BitVec.ofNat 32 l) 64#32 = if (l : ℕ) < 64 then 1#1 else 0#1 := by
  decide +kernel

theorem select_if {p : Prop} [Decidable p] (a b : EReal) : Scalar.select (if p then 1#1 else 0#1) a b = if p then a else b := by
  split_ifs <;> rfl

/-- Only the head's 64 lanes of a masked sum over 128 lanes are left. -/
theorem sum_two (h : ℕ) (hh : h < 2) (f : ℕ → ℝ) : (∑ l : Fin 128, if (l : ℕ) / 64 = h then f l else 0) = ∑ e : Fin 64, f (h * 64 + e) := by
  rw [Fin.sum_univ_tiles 2 64 (by norm_num)]
  refine (Finset.sum_eq_single (⟨h, hh⟩ : Fin 2) (fun j _ hj => Finset.sum_eq_zero fun e _ => ?_) (fun h => absurd (Finset.mem_univ _) h)).trans
    (Finset.sum_congr rfl fun e _ => ?_)
  · refine if_neg fun h2 => hj (Fin.ext ?_)
    simp only [] at h2 ⊢
    omega
  · refine if_pos ?_
    simp only []
    omega

/-- A head's row of the stacked queries: scaled, and nought at the other head's lanes. -/
theorem heads_real (Q : FVec Ideal S128x128 .f32) (q : ℕ → ℝ) (h : Fin 2) (r : Fin 128) (i : Fin 256) (hi : i.val = 128 * h.val + r.val)
    (hQ : ∀ l : Fin 128, Q (ix2 r l) = ((q l : ℝ) : EReal)) (l : Fin 128) :
    heads Q (ix2 i l) = ((if (l : ℕ) / 64 = h then q l * (1 / 8) else 0 : ℝ) : EReal) := by
  have hl := l.isLt
  pointwise [heads, k0_pay9]
  rw [lane_first]
  fin_cases h
  · have e : i.val < 128 := by have := r.isLt; simp only [] at hi; omega
    have er : (⟨i.val, e⟩ : Fin 128) = r := Fin.ext (by simp only [] at hi ⊢; omega)
    rw [dif_pos e, er, hQ, select_if, w_eighth, ← EReal.coe_mul]
    by_cases hl2 : (l : ℕ) < 64
    · rw [if_pos hl2, if_pos (by show (l : ℕ) / 64 = 0; omega)]
    · rw [if_neg hl2, if_neg (by show ¬ (l : ℕ) / 64 = 0; omega)]; first | rfl | exact w_zero
  · have e : ¬ i.val < 128 := by simp only [] at hi; omega
    have er : ∀ hh, (⟨i.val - 128, hh⟩ : Fin 128) = r := fun hh => Fin.ext (by simp only [] at hi ⊢; omega)
    rw [dif_neg e, er, hQ, select_if, w_eighth, ← EReal.coe_mul]
    by_cases hl2 : (l : ℕ) < 64
    · rw [if_pos hl2, if_neg (by show ¬ (l : ℕ) / 64 = 1; omega)]; first | rfl | exact w_zero
    · rw [if_neg hl2, if_pos (by show (l : ℕ) / 64 = 1; omega)]

/-- A masked score: a head's product of query and key, scaled, with its table added. -/
theorem score_real (A : Two) (hq : FVec Ideal S256x128 .bf16) (h : Fin 2) (i : Fin 256) (t u d D : ℕ) (hD : far t u = D * d) (kk : Fin 128 → EReal)
    (hQ : ∀ l : Fin 128, hq (ix2 i l) = ((if (l : ℕ) / 64 = h then A.q t l * (1 / 8) else 0 : ℝ) : EReal))
    (hK : ∀ l : Fin 128, kk l = ((A.k u l : ℝ) : EReal)) :
    (∑ l : Fin 128, hq (ix2 i l) * kk l) + (if D ≤ 64 then ((-(A.sg h * (D * d : ℝ)) : ℝ) : EReal) else ⊥)
      = if D ≤ 64 then ((A.S h t u : ℝ) : EReal) else ⊥ := by
  have e : (∑ l : Fin 128, hq (ix2 i l) * kk l) = (((∑ e : Fin 64, A.q t (h * 64 + e) * A.k u (h * 64 + e)) * (1 / 8) : ℝ) : EReal) := by
    rw [Finset.sum_mul]
    have := sum_two h h.isLt fun l => A.q t l * A.k u l * (1 / 8)
    rw [← this, ← coe_sum]
    refine Finset.sum_congr rfl fun l _ => ?_
    rw [hQ, hK, ← EReal.coe_mul]
    congr 1
    split_ifs <;> ring
  rw [e]
  split_ifs
  · rw [← EReal.coe_add]
    congr 1
    simp only [Two.S, hD, Nat.cast_mul]; ring
  · exact EReal.add_bot _

/-! ## The tables -/

/-- A head's first lane. -/
def lane0 (h : Fin 2) : Fin 128 := ⟨64 * h.val, by omega⟩

/-- What table `n` holds at a row and column. -/
def tabG (sg : ℕ → ℝ) (n i j : ℕ) : EReal :=
  if far (i % 128 + 64 * (n % 3)) j ≤ 64 then
    ((-(sg (i / 128) * (far (i % 128 + 64 * (n % 3)) j * (if n < 3 then 1 else if n < 6 then 4 else 16 : ℕ) : ℝ)) : ℝ) : EReal) else ⊥

section
variable (X0 : Vec Ideal S1x8x128 .f32) (sg : ℕ → ℝ) (hsg : ∀ h : Fin 2, X0 (ix3 0 0 (lane0 h)) = ((sg h : ℝ) : EReal))
include hsg

theorem slope_at (h : Fin 2) : View.ld (e' := .f32) X0 (slopeR h) (ix3 0 0 0) = ((sg h : ℝ) : EReal) := by
  rw [← hsg h]
  exact congrArg X0 (by funext a; apply Fin.ext; fin_cases a <;> rfl)

/-- A store of a wide table holds it. -/
theorem tP_holds (n : Fin 7) (w dd : ℕ) (d : BitVec 32) (h : Fin 2) (hw : w = 64 * (n.val % 3)) (hd : Ideal.ofBits .f32 d = ((dd : ℝ) : EReal))
    (hdd : dd = if n.val < 3 then 1 else if n.val < 6 then 4 else 16) (x : S1x128x256.Idx) :
    (tP X0 n (BitVec.ofNat 32 w) d h).2 x = tabG sg ((tR n h).emb x 0).val ((tR n h).emb x 1).val ((tR n h).emb x 2).val := by
  obtain ⟨a, i, j, rfl⟩ : ∃ (a : Fin 1) (i : Fin 128) (j : Fin 256), x = ix3 a i j := ⟨x 0, x 1, x 2, by funext b; fin_cases b <;> rfl⟩
  obtain rfl : a = 0 := Subsingleton.elim _ _
  have e0 : ((tR n h).emb (ix3 0 i j) 0).val = n.val := by show n.val + 1 * 0 = _; omega
  have e1 : ((tR n h).emb (ix3 0 i j) 1).val = 128 * h.val + i.val := by show 128 * h.val + 1 * i.val = _; omega
  have e2 : ((tR n h).emb (ix3 0 i j) 2).val = j.val := by show 0 + 1 * j.val = _; omega
  rw [e0, e1, e2]
  have hi := i.isLt
  have hj := j.isLt
  have f1 : (128 * h.val + i.val) % 128 = i.val := by omega
  have f2 : (128 * h.val + i.val) / 128 = h.val := by omega
  have hw' : w ≤ 128 := by omega
  suffices key : ∀ sl : Vec Ideal S1x1x1 .f32, sl (ix3 0 0 0) = ((sg h : ℝ) : EReal) →
      (shapeCast S1x128x256 (tabW (BitVec.ofNat 32 w) d sl) shapeCasts_S128x256_S1x128x256 : FVec Ideal S1x128x256 .f32) (ix3 0 i j) = tabG sg n (128 * h.val + i.val) j from
    key _ (slope_at X0 sg hsg h)
  intro sl hsl
  pointwise [tabW, relW]
  rw [hsl, abs_word_add _ _ _ (by omega) (by omega), sle_word _ 64 (by unfold far; omega) (by decide), select_if, hd,
    sitofp_word _ (by unfold far; omega)]
  unfold tabG
  rw [f1, f2, ← hw, ← hdd, ← EReal.coe_mul, ← EReal.coe_zero, ← EReal.coe_sub, ← EReal.coe_mul, zero_sub, neg_mul]
  rfl

/-- A store of the narrow table holds it. -/
theorem tPn_holds (h : Fin 2) (x : S1x128x128.Idx) :
    (tPn X0 h).2 x = tabG sg ((tRn h).emb x 0).val ((tRn h).emb x 1).val ((tRn h).emb x 2).val := by
  obtain ⟨a, i, j, rfl⟩ : ∃ (a : Fin 1) (i : Fin 128) (j : Fin 128), x = ix3 a i j := ⟨x 0, x 1, x 2, by funext b; fin_cases b <;> rfl⟩
  obtain rfl : a = 0 := Subsingleton.elim _ _
  have e0 : ((tRn h).emb (ix3 0 i j) 0).val = 6 := by show 6 + 1 * 0 = _; omega
  have e1 : ((tRn h).emb (ix3 0 i j) 1).val = 128 * h.val + i.val := by show 128 * h.val + 1 * i.val = _; omega
  have e2 : ((tRn h).emb (ix3 0 i j) 2).val = j.val := by show 0 + 1 * j.val = _; omega
  rw [e0, e1, e2]
  have hi := i.isLt
  have hj := j.isLt
  have f1 : (128 * h.val + i.val) % 128 = i.val := by omega
  have f2 : (128 * h.val + i.val) / 128 = h.val := by omega
  suffices key : ∀ sl : Vec Ideal S1x1x1 .f32, sl (ix3 0 0 0) = ((sg h : ℝ) : EReal) →
      (shapeCast S1x128x128 (tabN sl) shapeCasts_S128x128_S1x128x128 : FVec Ideal S1x128x128 .f32) (ix3 0 i j) = tabG sg 6 (128 * h.val + i.val) j from
    key _ (slope_at X0 sg hsg h)
  intro sl hsl
  pointwise [tabN, relN]
  rw [hsl, abs_word_add _ _ 0 (by omega) (by omega), sle_word _ 64 (by unfold far; omega) (by decide), select_if, w_sixteen,
    sitofp_word _ (by unfold far; omega)]
  unfold tabG
  rw [f1, f2, ← EReal.coe_mul, ← EReal.coe_zero, ← EReal.coe_sub, ← EReal.coe_mul, zero_sub, neg_mul]
  simp only [Nat.add_zero, Nat.cast_ofNat, show 6 % 3 = 0 from rfl, Nat.mul_zero, show ¬ 6 < 3 from by decide, show ¬ 6 < 6 from by decide, if_false]
  rfl

/-- The tables, read where they were stored. -/
theorem tables_at (y : S7x256x256.Idx) (hy : (y 0).val < 6 ∨ (y 2).val < 128) :
    View.canon (tables X0) y = tabG sg (y 0).val (y 1).val (y 2).val := by
  have w1 : Ideal.ofBits .f32 0x3F800000#32 = (((1 : ℕ) : ℝ) : EReal) := by rw [w_one]; norm_num
  have w4 : Ideal.ofBits .f32 0x40800000#32 = (((4 : ℕ) : ℝ) : EReal) := by rw [w_four]; norm_num
  have h0 : (y 0).val < 7 := (y 0).isLt
  have h1 : (y 1).val < 256 := (y 1).isLt
  have h2 : (y 2).val < 256 := (y 2).isLt
  refine View.canon_apply_of_pieces (Val := Elt Ideal) (e := .f32) (fun y : S7x256x256.Idx => tabG sg (y 0).val (y 1).val (y 2).val) _ (fun p hp x => ?_) y ?_
  · simp only [tables, List.mem_cons, List.not_mem_nil, or_false] at hp
    rcases hp with rfl | rfl | rfl | rfl | rfl | rfl | rfl | rfl | rfl | rfl | rfl | rfl | rfl | rfl
    · exact tPn_holds X0 sg hsg 1 x
    · exact tPn_holds X0 sg hsg 0 x
    · exact tP_holds X0 sg hsg 5 128 4 _ 1 rfl w4 rfl x
    · exact tP_holds X0 sg hsg 5 128 4 _ 0 rfl w4 rfl x
    · exact tP_holds X0 sg hsg 4 64 4 _ 1 rfl w4 rfl x
    · exact tP_holds X0 sg hsg 4 64 4 _ 0 rfl w4 rfl x
    · exact tP_holds X0 sg hsg 3 0 4 _ 1 rfl w4 rfl x
    · exact tP_holds X0 sg hsg 3 0 4 _ 0 rfl w4 rfl x
    · exact tP_holds X0 sg hsg 2 128 1 _ 1 rfl w1 rfl x
    · exact tP_holds X0 sg hsg 2 128 1 _ 0 rfl w1 rfl x
    · exact tP_holds X0 sg hsg 1 64 1 _ 1 rfl w1 rfl x
    · exact tP_holds X0 sg hsg 1 64 1 _ 0 rfl w1 rfl x
    · exact tP_holds X0 sg hsg 0 0 1 _ 1 rfl w1 rfl x
    · exact tP_holds X0 sg hsg 0 0 1 _ 0 rfl w1 rfl x
  · have inR : ∀ (n : Fin 7) (h : Fin 2), (y 0).val = n.val → (y 1).val / 128 = h.val → y ∈ (tR n h).set := fun n h hn hh =>
      (LoadRect.mem_set _).mpr fun a => by
        fin_cases a
        · exact ⟨0, by show 0 < 1; omega, by show (y 0).val = n.val + 1 * 0; omega⟩
        · exact ⟨(y 1).val % 128, Nat.mod_lt _ (by decide), by show (y 1).val = 128 * h.val + 1 * ((y 1).val % 128); omega⟩
        · exact ⟨(y 2).val, h2, by show (y 2).val = 0 + 1 * (y 2).val; omega⟩
    have inN : ∀ (h : Fin 2), (y 0).val = 6 → (y 1).val / 128 = h.val → y ∈ (tRn h).set := fun h hn hh =>
      (LoadRect.mem_set _).mpr fun a => by
        fin_cases a
        · exact ⟨0, by show 0 < 1; omega, by show (y 0).val = 6 + 1 * 0; omega⟩
        · exact ⟨(y 1).val % 128, Nat.mod_lt _ (by decide), by show (y 1).val = 128 * h.val + 1 * ((y 1).val % 128); omega⟩
        · exact ⟨(y 2).val, by show (y 2).val < 128; omega, by show (y 2).val = 0 + 1 * (y 2).val; omega⟩
    have hh : (y 1).val / 128 = 0 ∨ (y 1).val / 128 = 1 := by omega
    have hn : (y 0).val = 0 ∨ (y 0).val = 1 ∨ (y 0).val = 2 ∨ (y 0).val = 3 ∨ (y 0).val = 4 ∨ (y 0).val = 5 ∨ (y 0).val = 6 := by omega
    have mem : ∀ (n : Fin 7) (w d : BitVec 32) (h : Fin 2), tP X0 n w d h ∈ tables X0 → (y 0).val = n.val → (y 1).val / 128 = h.val →
        ∃ p ∈ tables X0, y ∈ p.1.set := fun n w d h hm hn hh => ⟨_, hm, inR n h hn hh⟩
    rcases hh with hh | hh <;> rcases hn with hn | hn | hn | hn | hn | hn | hn
    · exact mem 0 0#32 0x3F800000#32 0 (by simp [tables]) hn hh
    · exact mem 1 64#32 0x3F800000#32 0 (by simp [tables]) hn hh
    · exact mem 2 128#32 0x3F800000#32 0 (by simp [tables]) hn hh
    · exact mem 3 0#32 0x40800000#32 0 (by simp [tables]) hn hh
    · exact mem 4 64#32 0x40800000#32 0 (by simp [tables]) hn hh
    · exact mem 5 128#32 0x40800000#32 0 (by simp [tables]) hn hh
    · exact ⟨_, (by simp [tables] : tPn X0 0 ∈ tables X0), inN 0 hn hh⟩
    · exact mem 0 0#32 0x3F800000#32 1 (by simp [tables]) hn hh
    · exact mem 1 64#32 0x3F800000#32 1 (by simp [tables]) hn hh
    · exact mem 2 128#32 0x3F800000#32 1 (by simp [tables]) hn hh
    · exact mem 3 0#32 0x40800000#32 1 (by simp [tables]) hn hh
    · exact mem 4 64#32 0x40800000#32 1 (by simp [tables]) hn hh
    · exact mem 5 128#32 0x40800000#32 1 (by simp [tables]) hn hh
    · exact ⟨_, (by simp [tables] : tPn X0 1 ∈ tables X0), inN 1 hn hh⟩

/-- A wide table as the bodies read it, -/
theorem tabs_at (n : Fin 7) (hn : n.val < 6) (i j : Fin 256) : tabs X0 n (ix3 0 i j) = tabG sg n i j := by
  have e : (tableW n).idx (ix3 0 i j) = ix3 n i j := by
    funext a; apply Fin.ext; fin_cases a
    · show n.val + 1 * 0 = n.val; omega
    · show 0 + 1 * i.val = i.val; omega
    · show 0 + 1 * j.val = j.val; omega
  show View.canon (tables X0) ((tableW n).idx (ix3 0 i j)) = _
  rw [e]
  exact tables_at X0 sg hsg _ (Or.inl hn)

/-- and the narrow one. -/
theorem tab6_at (i : Fin 256) (j : Fin 128) : tab6 X0 (ix3 0 i j) = tabG sg 6 i j := by
  have e : (tableN 6).idx (ix3 0 i j) = ix3 (6 : Fin 7) i (⟨j.val, by omega⟩ : Fin 256) := by
    funext a; apply Fin.ext; fin_cases a
    · rfl
    · show 0 + 1 * i.val = i.val; omega
    · show 0 + 1 * j.val = j.val; omega
  show View.canon (tables X0) ((tableN 6).idx (ix3 0 i j)) = _
  rw [e]
  exact tables_at X0 sg hsg _ (Or.inr j.isLt)

end

end Cert.Mix

end
-- ==== Proof.MixDil.lean ====
/- The three dilations of one block of the attention's forward over the reals, and what their merge is. -/
module

public import proofs.«01_k».proof.Proof.MixVal

@[expose] public section

set_option maxRecDepth 16384

noncomputable section

namespace Cert.Mix

open Idealize.ShloMosaic Cert.Reals
open Idealize.ShloMosaic.Tactic
open Cert.MixKernelIdeal Cert.MixKernelIdeal.Gen

/-! ## The parts, at an index -/

theorem lanes_at (z : FVec Ideal S256x1 .f32) (h : Fin 2) (r j : Fin 128) (i : Fin 256) (hj : j.val / 64 = h.val) (hi : i.val = 128 * h.val + r.val) :
    lanes z (ix2 r j) = z (ix2 i 0) := by
  have hl := j.isLt
  pointwise [lanes, k0_pay9]
  rw [lane_first, select_if]
  split_ifs
  · exact congrArg (fun k : Fin 256 => z (ix2 k 0)) (Fin.ext (by show r.val = i.val; omega))
  · exact congrArg (fun k : Fin 256 => z (ix2 k 0)) (Fin.ext (by show 128 + r.val = i.val; omega))

theorem unstack_at (o : FVec Ideal S256x128 .f32) (h : Fin 2) (r j : Fin 128) (i : Fin 256) (hj : j.val / 64 = h.val) (hi : i.val = 128 * h.val + r.val) :
    unstack o (ix2 r j) = o (ix2 i j) := by
  have hl := j.isLt
  pointwise [unstack, k0_pay9]
  rw [lane_first, select_if]
  split_ifs
  · exact congrArg (fun k : Fin 256 => o (ix2 k j)) (Fin.ext (by show r.val = i.val; omega))
  · exact congrArg (fun k : Fin 256 => o (ix2 k j)) (Fin.ext (by show 128 + r.val = i.val; omega))

/-- What a dilation leaves, from how a row of a window is computed. -/
theorem leaves {n : ℕ} (A : Two) (d h t l : ℕ) (ht : t < 2048) (e D : Fin n → ℕ) (inj : Function.Injective e) (he : ∀ c, e c < 2048)
    (hok : ∀ c, D c ≤ 64 ↔ near d t (e c)) (hc : ∀ u < 2048, near d t u → ∃ c, e c = u) (s : Fin n → EReal)
    (hs : ∀ c, s c = if D c ≤ 64 then ((A.S h t (e c) : ℝ) : EReal) else ⊥) (v : Fin n → EReal) (hv : ∀ c, v c = A.v (e c) l)
    {top sum out : EReal} (htop : top = Finset.univ.fold max (⊥ : EReal) s) (hsum : sum = ∑ j, Ideal.exp (s j - top))
    (hout : out = ∑ j, Ideal.exp (s j - top) * v j) : Leaves A d h t l top sum out := by
  obtain ⟨c0, h0⟩ := hc t ht (by unfold near far; simp)
  obtain ⟨M, a, b, c⟩ := row s (fun j => A.S h t (e j)) (fun j => D j ≤ 64) ⟨c0, (hok c0).mpr (by rw [h0]; unfold near far; simp)⟩ hs v
    htop hsum hout
  refine ⟨M, a, ?_, ?_⟩
  · rw [b, window e inj he (fun j => D j ≤ 64) (near d t) hok hc fun u => Real.exp (A.S h t u)]; rfl
  · rw [c]
    simp only [hv]
    rw [window e inj he (fun j => D j ≤ 64) (near d t) hok hc fun u => (Real.exp (A.S h t u) : EReal) * A.v u l]; rfl

section
variable (A : Two) (d : ℕ) (h : Fin 2) (t : ℕ) (r j : Fin 128) (i : Fin 256) (hj : j.val / 64 = h.val) (hi : i.val = 128 * h.val + r.val) (ht : t < 2048)
include hj hi ht

/-- A block against a window of 256 keys, -/
theorem leavesW (e D : Fin 256 → ℕ) (inj : Function.Injective e) (he : ∀ c, e c < 2048)
    (hok : ∀ c, D c ≤ 64 ↔ near d t (e c)) (hc : ∀ u < 2048, near d t u → ∃ c, e c = u) (s : FVec Ideal S256x256 .f32)
    (hs : ∀ c, s (ix2 i c) = if D c ≤ 64 then ((A.S h t (e c) : ℝ) : EReal) else ⊥) (v : FVec Ideal S256x128 .bf16)
    (hv : ∀ c, v (ix2 c j) = A.v (e c) j) :
    Leaves A d h t j (lanes (topW s) (ix2 r j)) (lanes (sumW s) (ix2 r j)) (unstack (outW s v) (ix2 r j)) := by
  rw [lanes_at _ h r j i hj hi, lanes_at _ h r j i hj hi, unstack_at _ h r j i hj hi]
  refine leaves A d h t j ht e D inj he hok hc (fun c => s (ix2 i c)) hs (fun c => v (ix2 c j)) hv ?_ ?_ ?_
  · pointwise [topW]; rw [w_bot]
  · pointwise [sumW, expW]
  · pointwise [outW, expW]

/-- and of 128. -/
theorem leavesN (e D : Fin 128 → ℕ) (inj : Function.Injective e) (he : ∀ c, e c < 2048)
    (hok : ∀ c, D c ≤ 64 ↔ near d t (e c)) (hc : ∀ u < 2048, near d t u → ∃ c, e c = u) (s : FVec Ideal S256x128 .f32)
    (hs : ∀ c, s (ix2 i c) = if D c ≤ 64 then ((A.S h t (e c) : ℝ) : EReal) else ⊥) (v : FVec Ideal S128x128 .bf16)
    (hv : ∀ c, v (ix2 c j) = A.v (e c) j) :
    Leaves A d h t j (lanes (topN s) (ix2 r j)) (lanes (sumN s) (ix2 r j)) (unstack (outN s v) (ix2 r j)) := by
  rw [lanes_at _ h r j i hj hi, lanes_at _ h r j i hj hi, unstack_at _ h r j i hj hi]
  refine leaves A d h t j ht e D inj he hok hc (fun c => s (ix2 i c)) hs (fun c => v (ix2 c j)) hv ?_ ?_ ?_
  · pointwise [topN]; rw [w_bot]
  · pointwise [sumN, expN]
  · pointwise [outN, expN]

end

/-! ## The operands of a block -/

/-- The seven operands hold the two heads' numbers. -/
structure Ops (A : Two) (x0 : Vec Ideal S1x8x128 .f32) (x1 x2 x3 : Vec Ideal S2048x128 .f32) (x4 x5 x6 : Vec Ideal S1x16x128x128 .bf16) : Prop where
  sg : ∀ h : Fin 2, x0 (ix3 0 0 (lane0 h)) = ((A.sg h : ℝ) : EReal)
  q : ∀ i, x1 i = ((A.q (i 0).val (i 1).val : ℝ) : EReal)
  k : ∀ i, x2 i = ((A.k (i 0).val (i 1).val : ℝ) : EReal)
  v : ∀ i, x3 i = A.v (i 0).val (i 1).val
  q16 : ∀ i, x4 i = ((A.q ((i 1).val + 16 * (i 2).val) (i 3).val : ℝ) : EReal)
  k16 : ∀ i, x5 i = ((A.k ((i 1).val + 16 * (i 2).val) (i 3).val : ℝ) : EReal)
  v16 : ∀ i, x6 i = A.v ((i 1).val + 16 * (i 2).val) (i 3).val

section
variable (f : ℕ → ℕ → EReal) (x : Vec Ideal S2048x128 .f32) (hx : ∀ i, x i = f (i 0).val (i 1).val) (k : Fin 16) (l : Fin 128)
include hx

theorem at_rows0 (r : Fin 128) (t : ℕ) (ht : t = 128 * k.val + r.val) :
    (shapeCast S128x128 (View.ld (e' := .f32) x (rows0 k)) shapeCasts_S128x128_S128x128 : FVec Ideal S128x128 .f32) (ix2 r l) = f t l := by
  refine (congrFun (shapeCast_id (s := S128x128) (View.ld (e' := .f32) x (rows0 k)) _) (ix2 r l)).trans ?_
  exact (hx _).trans (by rw [show (((rows0 k).idx (ix2 r l)) 0).val = t from by show 128 * k.val + 1 * r.val = t; omega,
    show (((rows0 k).idx (ix2 r l)) 1).val = l.val from by show 0 + 1 * l.val = _; omega])

theorem at_rows1 (r : Fin 128) (t : ℕ) (ht : t = k.val / 4 + 512 * (k.val % 4) + 4 * r.val) :
    (shapeCast S128x128 (View.ld (e' := .f32) x (rows1 k)) shapeCasts_S128x128_S128x128 : FVec Ideal S128x128 .f32) (ix2 r l) = f t l := by
  refine (congrFun (shapeCast_id (s := S128x128) (View.ld (e' := .f32) x (rows1 k)) _) (ix2 r l)).trans ?_
  exact (hx _).trans (by rw [show (((rows1 k).idx (ix2 r l)) 0).val = t from by show k.val / 4 + 512 * (k.val % 4) + 4 * r.val = t; omega,
    show (((rows1 k).idx (ix2 r l)) 1).val = l.val from by show 0 + 1 * l.val = _; omega])

theorem at_keys0 (c : Fin 256) :
    (truncf .bf16 (shapeCast S256x128 (View.ld (e' := .f32) x (keys0 k)) shapeCasts_S256x128_S256x128) bitsLt_bf16_f32 : FVec Ideal S256x128 .bf16) (ix2 c l)
      = f (start0 k + c) l := by
  refine (congrFun (shapeCast_id (s := S256x128) (View.ld (e' := .f32) x (keys0 k)) _) (ix2 c l)).trans ?_
  exact (hx ((keys0 k).idx (ix2 c l))).trans (by rw [show (((keys0 k).idx (ix2 c l)) 0).val = start0 k + c from by show start0 k.val + 1 * c.val = _; omega,
    show (((keys0 k).idx (ix2 c l)) 1).val = l.val from by show 0 + 1 * l.val = _; omega])

theorem at_keys1 (c : Fin 256) :
    (truncf .bf16 (shapeCast S256x128 (View.ld (e' := .f32) x (keys1 k)) shapeCasts_S256x128_S256x128) bitsLt_bf16_f32 : FVec Ideal S256x128 .bf16) (ix2 c l)
      = f (k.val / 4 + 4 * (start1 (k.val % 4) + c)) l := by
  refine (congrFun (shapeCast_id (s := S256x128) (View.ld (e' := .f32) x (keys1 k)) _) (ix2 c l)).trans ?_
  exact (hx ((keys1 k).idx (ix2 c l))).trans (by rw [show (((keys1 k).idx (ix2 c l)) 0).val = k.val / 4 + 4 * (start1 (k.val % 4) + c) from by
      show k.val / 4 + 4 * start1 (k.val % 4) + 4 * c.val = _; ring,
    show (((keys1 k).idx (ix2 c l)) 1).val = l.val from by show 0 + 1 * l.val = _; omega])

end

theorem at_rows16 (f : ℕ → ℕ → EReal) (x : Vec Ideal S1x16x128x128 .bf16) (hx : ∀ i, x i = f ((i 1).val + 16 * (i 2).val) (i 3).val)
    (k : Fin 16) (r l : Fin 128) :
    (shapeCast S128x128 (View.ld (e' := .bf16) x (rows16 k)) shapeCasts_S1x1x128x128_S128x128 : FVec Ideal S128x128 .bf16) (ix2 r l)
      = f (k.val + 16 * r.val) l := by
  suffices key : ∀ y : Vec Ideal S1x1x128x128 .bf16, (∀ r l : Fin 128, y (ix4 0 0 r l) = f (k.val + 16 * r.val) l) →
      (shapeCast S128x128 y shapeCasts_S1x1x128x128_S128x128 : FVec Ideal S128x128 .bf16) (ix2 r l) = f (k.val + 16 * r.val) l from
    key _ fun r l => (hx ((rows16 k).idx (ix4 0 0 r l))).trans (by
      rw [show (((rows16 k).idx (ix4 0 0 r l)) 1).val = k.val from by show k.val + 1 * 0 = _; omega,
        show (((rows16 k).idx (ix4 0 0 r l)) 2).val = r.val from by show 0 + 1 * r.val = _; omega,
        show (((rows16 k).idx (ix4 0 0 r l)) 3).val = l.val from by show 0 + 1 * l.val = _; omega])
  intro y hy
  pointwise []
  exact hy r l

/-! ## The dilations -/

theorem scoreW_at (q : FVec Ideal S128x128 .f32) (k : FVec Ideal S256x128 .bf16) (b : FVec Ideal S256x256 .f32) (i j : Fin 256) :
    scoreW q k b (ix2 i j) = ∑ x, heads q (ix2 i x) * k (ix2 j x) + b (ix2 i j) := by pointwise [scoreW]

theorem scoreN_at (q : FVec Ideal S128x128 .f32) (k : FVec Ideal S128x128 .bf16) (b : FVec Ideal S256x128 .f32) (i : Fin 256) (j : Fin 128) :
    scoreN q k b (ix2 i j) = ∑ x, heads q (ix2 i x) * k (ix2 j x) + b (ix2 i j) := by pointwise [scoreN]

/-- A table's entry in the form of a score's mask. -/
theorem tabG_eq (sg : ℕ → ℝ) (n i j w d h r : ℕ) (hr : r < 128) (hi : i = 128 * h + r) (hw : n % 3 = w)
    (hd : (if n < 3 then 1 else if n < 6 then 4 else 16) = d) :
    tabG sg n i j = if far (r + 64 * w) j ≤ 64 then ((-(sg h * ((far (r + 64 * w) j : ℕ) * (d : ℕ) : ℝ)) : ℝ) : EReal) else ⊥ := by
  unfold tabG
  rw [show i % 128 = r from by omega, show i / 128 = h from by omega, hw, hd]

section
variable {A : Two} {x0 : Vec Ideal S1x8x128 .f32} {x1 x2 x3 : Vec Ideal S2048x128 .f32} {x4 x5 x6 : Vec Ideal S1x16x128x128 .bf16}
  (o : Ops A x0 x1 x2 x3 x4 x5 x6) (t : Fin 2048) (j : Fin 128) (h : Fin 2) (hj : j.val / 64 = h.val)
include o hj

/-- Undilated. -/
theorem leaves0 : Leaves A 1 h t j (mA x0 x1 x2 (ix2 t j)) (lA x0 x1 x2 (ix2 t j)) (oA x0 x1 x2 x3 (ix2 t j)) := by
  have ht := t.isLt
  have ltk : t.val / 128 < 16 := by omega
  have ltr : t.val % 128 < 128 := by omega
  obtain ⟨k, hk⟩ : ∃ k : Fin 16, k.val = t.val / 128 := ⟨⟨_, ltk⟩, rfl⟩
  obtain ⟨r, hr⟩ : ∃ r : Fin 128, r.val = t.val % 128 := ⟨⟨_, ltr⟩, rfl⟩
  obtain ⟨i, hi⟩ : ∃ i : Fin 256, i.val = 128 * h.val + r.val := ⟨⟨128 * h.val + r.val, by omega⟩, rfl⟩
  have hkk := k.isLt
  have hrr := r.isLt
  have htk : t.val = 128 * k.val + r.val := by omega
  have hvar : (var0 k).val = (128 * k.val - start0 k.val) / 64 := rfl
  have hv3 : (var0 k).val < 3 := by rw [hvar]; unfold start0; omega
  have hD : ∀ c : Fin 256, far t (start0 k + c) = far (r.val + 64 * (var0 k).val) c := fun c => by
    rw [hvar, htk]; unfold far start0; omega
  have key := leavesW A 1 h t r j i hj hi ht (fun c => start0 k + c) (fun c => far (r.val + 64 * (var0 k).val) c)
    (fun a b hab => Fin.ext (Nat.add_left_cancel hab)) (fun c => by show start0 k.val + c.val < 2048; unfold start0; omega)
    (fun c => by show _ ↔ near 1 t (start0 k + c); unfold near; rw [hD c]; simp [Nat.mod_one])
    (fun u hu hn => ⟨⟨u - start0 k, by have := hn.1; unfold far at this; unfold start0; omega⟩, by
      have := hn.1; unfold far at this; show start0 k.val + (u - start0 k.val) = u; unfold start0; omega⟩)
    (s0 x1 x2 (tabs x0) k) (fun c => by
      unfold s0
      rw [scoreW_at]
      have e : (shapeCast S256x256 (tabs x0 (var0 k)) shapeCasts_S1x256x256_S256x256 : FVec Ideal S256x256 .f32) (ix2 i c) = tabs x0 (var0 k) (ix3 0 i c) := by pointwise []
      rw [e, tabs_at x0 A.sg o.sg _ (by omega), tabG_eq A.sg _ _ _ _ 1 h r hrr hi (Nat.mod_eq_of_lt hv3) (by rw [if_pos hv3])]
      exact score_real A _ h i t (start0 k + c) 1 _ (by rw [hD c, Nat.mul_one]) _ (heads_real _ (A.q t) h r i hi fun l => at_rows0 (fun u l => (A.q u l : EReal)) x1 o.q k l r t htk)
        fun l => at_keys0 (fun u l => (A.k u l : EReal)) x2 o.k k l c)
    _ (fun c => at_keys0 A.v x3 o.v k j c)
  rw [show k = ⟨_, ltk⟩ from Fin.ext hk, show r = ⟨_, ltr⟩ from Fin.ext hr] at key
  exact key

/-- Every fourth row. -/
theorem leaves1 : Leaves A 4 h t j (mB x0 x1 x2 (ix2 t j)) (lB x0 x1 x2 (ix2 t j)) (oB x0 x1 x2 x3 (ix2 t j)) := by
  have ht := t.isLt
  have ltk : 4 * (t.val % 4) + t.val / 512 < 16 := by omega
  have ltr : t.val / 4 % 128 < 128 := by omega
  obtain ⟨k, hk⟩ : ∃ k : Fin 16, k.val = 4 * (t.val % 4) + t.val / 512 := ⟨⟨_, ltk⟩, rfl⟩
  obtain ⟨r, hr⟩ : ∃ r : Fin 128, r.val = t.val / 4 % 128 := ⟨⟨_, ltr⟩, rfl⟩
  obtain ⟨i, hi⟩ : ∃ i : Fin 256, i.val = 128 * h.val + r.val := ⟨⟨128 * h.val + r.val, by omega⟩, rfl⟩
  have hrr := r.isLt
  obtain ⟨a, ha⟩ : ∃ a, a = k.val / 4 := ⟨_, rfl⟩
  obtain ⟨b, hb⟩ : ∃ b, b = k.val % 4 := ⟨_, rfl⟩
  have ha4 : a < 4 := by omega
  have hb4 : b < 4 := by omega
  have ha' : a = t.val % 4 := by omega
  have hb' : b = t.val / 512 := by omega
  have htk : t.val = a + 512 * b + 4 * r.val := by rw [ha', hb', hr]; omega
  have hvar : (var1 k).val = 3 + (128 * b - start1 b) / 64 := by rw [hb]; rfl
  have hv6 : (128 * b - start1 b) / 64 < 3 := by unfold start1; omega
  have hD : ∀ c : Fin 256, far t (a + 4 * (start1 b + c)) = far (r.val + 64 * ((128 * b - start1 b) / 64)) c * 4 := fun c => by
    rw [htk]; unfold far start1; omega
  have key := leavesW A 4 h t r j i hj hi ht (fun c => a + 4 * (start1 b + c)) (fun c => far (r.val + 64 * ((128 * b - start1 b) / 64)) c)
    (fun x y hxy => Fin.ext (by have : a + 4 * (start1 b + x.val) = a + 4 * (start1 b + y.val) := hxy; omega))
    (fun c => by show a + 4 * (start1 b + c.val) < 2048; unfold start1; omega)
    (fun c => by show _ ↔ near 4 t (a + 4 * (start1 b + c)); unfold near; rw [hD c]; omega)
    (fun u hu hn => ⟨⟨(u - a) / 4 - start1 b, by obtain ⟨h1, h2⟩ := hn; rw [htk] at h1 h2; unfold far at h1 h2; unfold start1; omega⟩, by
      obtain ⟨h1, h2⟩ := hn; rw [htk] at h1 h2; unfold far at h1 h2; show a + 4 * (start1 b + ((u - a) / 4 - start1 b)) = u; unfold start1; omega⟩)
    (s1 x1 x2 (tabs x0) k) (fun c => by
      unfold s1
      rw [scoreW_at]
      have e : (shapeCast S256x256 (tabs x0 (var1 k)) shapeCasts_S1x256x256_S256x256 : FVec Ideal S256x256 .f32) (ix2 i c) = tabs x0 (var1 k) (ix3 0 i c) := by pointwise []
      rw [e, tabs_at x0 A.sg o.sg _ (by omega), tabG_eq A.sg _ _ _ ((128 * b - start1 b) / 64) 4 h r hrr hi (by omega) (by rw [if_neg (by omega), if_pos (by omega)])]
      exact score_real A _ h i t (a + 4 * (start1 b + c)) 4 _ (hD c) _ (heads_real _ (A.q t) h r i hi fun l => at_rows1 (fun u l => (A.q u l : EReal)) x1 o.q k l r t (by omega))
        fun l => by rw [ha, hb]; exact at_keys1 (fun u l => (A.k u l : EReal)) x2 o.k k l c)
    _ (fun c => by rw [ha, hb]; exact at_keys1 A.v x3 o.v k j c)
  rw [show k = ⟨_, ltk⟩ from Fin.ext hk, show r = ⟨_, ltr⟩ from Fin.ext hr] at key
  exact key

/-- Every sixteenth. -/
theorem leaves2 : Leaves A 16 h t j (mC x0 x4 x5 (ix2 t j)) (lC x0 x4 x5 (ix2 t j)) (oC x0 x4 x5 x6 (ix2 t j)) := by
  have ht := t.isLt
  have ltk : t.val % 16 < 16 := by omega
  have ltr : t.val / 16 < 128 := by omega
  obtain ⟨k, hk⟩ : ∃ k : Fin 16, k.val = t.val % 16 := ⟨⟨_, ltk⟩, rfl⟩
  obtain ⟨r, hr⟩ : ∃ r : Fin 128, r.val = t.val / 16 := ⟨⟨_, ltr⟩, rfl⟩
  obtain ⟨i, hi⟩ : ∃ i : Fin 256, i.val = 128 * h.val + r.val := ⟨⟨128 * h.val + r.val, by omega⟩, rfl⟩
  have hkk := k.isLt
  have hrr := r.isLt
  have htk : t.val = k.val + 16 * r.val := by omega
  have hD : ∀ c : Fin 128, far t (k.val + 16 * c) = far (r.val + 64 * 0) c * 16 := fun c => by
    rw [htk]; unfold far; omega
  have key := leavesN A 16 h t r j i hj hi ht (fun c => k.val + 16 * c) (fun c => far (r.val + 64 * 0) c)
    (fun x y hxy => Fin.ext (by have : k.val + 16 * x.val = k.val + 16 * y.val := hxy; omega))
    (fun c => by show k.val + 16 * c.val < 2048; omega)
    (fun c => by show _ ↔ near 16 t (k.val + 16 * c); unfold near; rw [hD c]; omega)
    (fun u hu hn => ⟨⟨u / 16, by omega⟩, by
      obtain ⟨h1, h2⟩ := hn; rw [htk] at h1 h2; unfold far at h1 h2; show k.val + 16 * (u / 16) = u; omega⟩)
    (s2 x4 x5 (tab6 x0) k) (fun c => by
      unfold s2
      rw [scoreN_at]
      have e : (shapeCast S256x128 (tab6 x0) shapeCasts_S1x256x128_S256x128 : FVec Ideal S256x128 .f32) (ix2 i c) = tab6 x0 (ix3 0 i c) := by pointwise []
      rw [e, tab6_at x0 A.sg o.sg, tabG_eq A.sg 6 _ _ 0 16 h r hrr hi rfl rfl]
      exact score_real A _ h i t (k.val + 16 * c) 16 _ (hD c) _
        (heads_real _ (A.q t) h r i hi fun l => (at_rows16 (fun u l => (A.q u l : EReal)) x4 o.q16 k r l).trans (by rw [htk]))
        fun l => at_rows16 (fun u l => (A.k u l : EReal)) x5 o.k16 k c l)
    _ (fun c => at_rows16 A.v x6 o.v16 k c j)
  rw [show k = ⟨_, ltk⟩ from Fin.ext hk, show r = ⟨_, ltr⟩ from Fin.ext hr] at key
  exact key

/-- The block of outputs and of logarithms. -/
theorem block_real :
    aOut x0 x1 x2 x3 x4 x5 x6 (ix2 t j)
      = (A.N 1 h t j + A.N 4 h t j + A.N 16 h t j) * ((1 / (A.Z 1 h t + A.Z 4 h t + A.Z 16 h t) : ℝ) : EReal) ∧
    lseOut x0 x1 x2 x4 x5 (ix2 t j) = ((Real.log (A.Z 1 h t + A.Z 4 h t + A.Z 16 h t) : ℝ) : EReal) := by
  obtain ⟨M0, a0, b0, c0⟩ := leaves0 o t j h hj
  obtain ⟨M1, a1, b1, c1⟩ := leaves1 o t j h hj
  obtain ⟨M2, a2, b2, c2⟩ := leaves2 o t j h hj
  have m := merge M0 M1 M2 (A.Z 1 h t) (A.Z 4 h t) (A.Z 16 h t) (A.N 1 h t j) (A.N 4 h t j) (A.N 16 h t j)
    (A.Z_pos _ _ _ t.isLt) (A.Z_pos _ _ _ t.isLt) (A.Z_pos _ _ _ t.isLt)
  constructor
  · unfold aOut
    pointwise [mOut, mSum, mTop]
    rw [a0, a1, a2, b0, b1, b2, c0, c1, c2]
    exact m.1
  · unfold lseOut
    pointwise [mLse, mSum, mTop]
    rw [a0, a1, a2, b0, b1, b2]
    exact m.2

end

end Cert.Mix

end
-- ==== Proof.MixLaunch.lean ====
module

public import proofs.«01_k».proof.Proof.MixBody

@[expose] public section

set_option maxRecDepth 16384
set_option maxHeartbeats 8000000

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.MixKernelIdeal Cert.MixKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is named along the grid: the operands' arrays as launched, their blocks left in place by the body, the results' blocks
    at what the body leaves there, every scratch buffer at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => aOut (iblk m c 0 t) (iblk m c 1 t) (iblk m c 2 t) (iblk m c 3 t) (iblk m c 4 t) (iblk m c 5 t) (iblk m c 6 t)
    | ⟨8, _⟩ => lseOut (iblk m c 0 t) (iblk m c 1 t) (iblk m c 2 t) (iblk m c 4 t) (iblk m c 5 t)
  Φ _ := Pipeline.ΦA spec0 c
  q := Pipeline.shareOf spec0
  owed _ := 0

/-- The arrays are the launch's. -/
theorem A_eq (c : Dev nD) (w : Fin cfg0.W) : (dats m 0 c).A w = V m c (Pipeline.arrRef spec0 w) := by
  dsimp only [dats]

/-- Operand 0 is left as it was, -/
theorem after_0 (c : Dev nD) (t : Fin cfg0.N) : (dats m 0 c).after 0 t = iblk m c 0 t := by dsimp only [dats]
/-- and found as its block. -/
theorem before_0 (c : Dev nD) (t : Fin cfg0.N) (d) : (dats m 0 c).before 0 t d = iblk m c 0 t :=
  before0_0_of m (dats m 0 c) (A_eq m c 0) (after_0 m c) t d
/-- Operand 1 is left as it was, -/
theorem after_1 (c : Dev nD) (t : Fin cfg0.N) : (dats m 0 c).after 1 t = iblk m c 1 t := by dsimp only [dats]
/-- and found as its block. -/
theorem before_1 (c : Dev nD) (t : Fin cfg0.N) (d) : (dats m 0 c).before 1 t d = iblk m c 1 t :=
  before0_1_of m (dats m 0 c) (A_eq m c 1) (after_1 m c) t d
/-- Operand 2 is left as it was, -/
theorem after_2 (c : Dev nD) (t : Fin cfg0.N) : (dats m 0 c).after 2 t = iblk m c 2 t := by dsimp only [dats]
/-- and found as its block. -/
theorem before_2 (c : Dev nD) (t : Fin cfg0.N) (d) : (dats m 0 c).before 2 t d = iblk m c 2 t :=
  before0_2_of m (dats m 0 c) (A_eq m c 2) (after_2 m c) t d
/-- Operand 3 is left as it was, -/
theorem after_3 (c : Dev nD) (t : Fin cfg0.N) : (dats m 0 c).after 3 t = iblk m c 3 t := by dsimp only [dats]
/-- and found as its block. -/
theorem before_3 (c : Dev nD) (t : Fin cfg0.N) (d) : (dats m 0 c).before 3 t d = iblk m c 3 t :=
  before0_3_of m (dats m 0 c) (A_eq m c 3) (after_3 m c) t d
/-- Operand 4 is left as it was, -/
theorem after_4 (c : Dev nD) (t : Fin cfg0.N) : (dats m 0 c).after 4 t = iblk m c 4 t := by dsimp only [dats]
/-- and found as its block. -/
theorem before_4 (c : Dev nD) (t : Fin cfg0.N) (d) : (dats m 0 c).before 4 t d = iblk m c 4 t :=
  before0_4_of m (dats m 0 c) (A_eq m c 4) (after_4 m c) t d
/-- Operand 5 is left as it was, -/
theorem after_5 (c : Dev nD) (t : Fin cfg0.N) : (dats m 0 c).after 5 t = iblk m c 5 t := by dsimp only [dats]
/-- and found as its block. -/
theorem before_5 (c : Dev nD) (t : Fin cfg0.N) (d) : (dats m 0 c).before 5 t d = iblk m c 5 t :=
  before0_5_of m (dats m 0 c) (A_eq m c 5) (after_5 m c) t d
/-- Operand 6 is left as it was, -/
theorem after_6 (c : Dev nD) (t : Fin cfg0.N) : (dats m 0 c).after 6 t = iblk m c 6 t := by dsimp only [dats]
/-- and found as its block. -/
theorem before_6 (c : Dev nD) (t : Fin cfg0.N) (d) : (dats m 0 c).before 6 t d = iblk m c 6 t :=
  before0_6_of m (dats m 0 c) (A_eq m c 6) (after_6 m c) t d
/-- The output's block, -/
theorem after_7 (c : Dev nD) (t : Fin cfg0.N) : (dats m 0 c).after 7 t = aOut (iblk m c 0 t) (iblk m c 1 t) (iblk m c 2 t) (iblk m c 3 t) (iblk m c 4 t) (iblk m c 5 t) (iblk m c 6 t) := by dsimp only [dats]
/-- and the logarithm's. -/
theorem after_8 (c : Dev nD) (t : Fin cfg0.N) : (dats m 0 c).after 8 t = lseOut (iblk m c 0 t) (iblk m c 1 t) (iblk m c 2 t) (iblk m c 4 t) (iblk m c 5 t) := by dsimp only [dats]

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- Between points: every scratch buffer at anything, and the generator's register. -/
theorem rest_eq (c : Dev nD) : (Pipeline.ΦA spec0 c : sProp 𝕄)
    = iprop(((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ d, owns (c : Thread nD τ) (Memref.whole cc0_scratch6) fullShare d)
    ∗ (∃ d, owns (c : Thread nD τ) (Memref.whole cc0_scratch7) fullShare d)
    ∗ (∃ d, owns (c : Thread nD τ) (Memref.whole cc0_scratch8) fullShare d)
    ∗ (∃ d, owns (c : Thread nD τ) (Memref.whole cc0_scratch9) fullShare d))
    ∗ ∃ r, prngReg c r) := by
  unfold Pipeline.ΦA; rw [scopedRest0_eq]; simp only [owns_whole]; try rfl

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, rest_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the table, at a point's buffers. -/
theorem row_eq (t : Fin cfg0.N) :
    (defs₀ (F := F)) .tc cfg0.body (cfg0.bodyArgs t (cfg0.slots t)) = bodyAt0 t := by
  unfold defs₀; rw [Defs.onTc_tc]

/-- The body meets what the grid asks of it. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every array at what the grid's points leave in it, every other buffer outside the call as it was, every counter at
    zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: every run of the call ends, its argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ ⟨h, hz⟩ => ⟨fun c =>
    ((h c).2 main_arg0 (Pipeline.mem_restRefs_of main_arg0 (by decide) (by decide))).trans (V_main_arg0 m c), hz⟩) (run_main m ρ)

end Cert.Mix

end
-- ==== Proof.MixArr.lean ====
/- The two arrays the attention's forward leaves, over the reals. -/
module

public import proofs.«01_k».proof.Proof.MixDil
public import proofs.«01_k».proof.Proof.MixLaunch

@[expose] public section

set_option maxRecDepth 16384

noncomputable section

namespace Cert.Mix

open Idealize.ShloMosaic Cert.Reals Idealize.ShloMosaic.Tactic
open Cert.MixKernelIdeal Cert.MixKernelIdeal.Gen
open Idealize.ShloMosaic.TcCoe

/-- The slope of head `h` of eight. -/
def slope (h : ℕ) : ℝ := Real.rpow 2 (-8 * (h + 1) / 8)

/-- Heads `2p` and `2p + 1` of image `b`, out of the projection. -/
def two (p : ℕ → ℕ → ℕ → EReal) (b hp : ℕ) : Two where
  q t l := (p b t (128 * hp + l)).toReal
  k t l := (p b t (512 + 128 * hp + l)).toReal
  v t l := p b t (1024 + 128 * hp + l)
  sg h := slope (2 * hp + h)

/-- The argument holds `p`, real where queries and keys lie. -/
def Holds (p : ℕ → ℕ → ℕ → EReal) (x : Vec Ideal S2x2048x3328 .f32) : Prop :=
  (∀ (b : Fin 2) (t : Fin 2048) (k : Fin 3328), x (ix3 b t k) = p b t k) ∧ ∀ b t k, k < 1024 → p b t k = ((p b t k).toReal : EReal)

theorem w_two : Ideal.ofBits .f32 0x40000000#32 = ((2 : ℝ) : EReal) := by
  simp [Ideal.ofBits, Ideal.ieee, -EReal.coe_mul]; norm_num
theorem w_eight : Ideal.ofBits .f32 0x41000000#32 = ((8 : ℝ) : EReal) := by
  simp [Ideal.ofBits, Ideal.ieee, -EReal.coe_mul]; norm_num
theorem w_neg_eight : Ideal.ofBits .f32 0xC1000000#32 = ((-8 : ℝ) : EReal) := by
  simp [Ideal.ofBits, Ideal.ieee, -EReal.coe_mul]; norm_num

/-- The eight slopes as the host computes them. -/
theorem slope_real (h : Fin 8) :
    Ideal.pow (Ideal.ofBits .f32 0x40000000#32) (Ideal.div (Ideal.ofBits .f32 0xC1000000#32 * ((FloatOps.sitofp FTy.f32 (BitVec.ofNat 32 h) : Ideal .f32) + Ideal.ofBits .f32 0x3F800000#32)) (Ideal.ofBits .f32 0x41000000#32))
      = ((slope h : ℝ) : EReal) := by
  rw [sitofp_word h (by omega), w_two, w_eight, w_neg_eight, w_one, ← EReal.coe_add, ← EReal.coe_mul, div_real _ (by norm_num), Ideal.pow_coe_coe]
  rfl

variable (m : (ℓ : Loc nD τ sig) → Buf (Elt Ideal) ℓ) (c : Dev nD)

/-! ## What the host prepares -/

theorem V_p : V m c main_v18 = (show FVec Ideal S4096x3328 .f32 from shapeCast S4096x3328 (m ((c : Thread nD τ).loc main_arg0)) shapeCasts_S2x2048x3328_S4096x3328) := by
  unfold V hostOps0
  after_results <;> rfl

theorem V_p16 : V m c main_v17 = (show FVec Ideal S2x16x128x1536 .bf16 from truncf .bf16 (transpose S2x16x128x1536 [0, 2, 1, 3] (shapeCast S2x128x16x1536
    (extractStridedSlice S2x2048x1536 ![0, 0, 0] (m ((c : Thread nD τ).loc main_arg0)) slices_S2x2048x3328_S2x2048x1536_0_0_0)
    shapeCasts_S2x2048x1536_S2x128x16x1536) transposes_S2x128x16x1536_S2x16x128x1536_0_2_1_3 : FVec Ideal S2x16x128x1536 .f32) bitsLt_bf16_f32) := by
  unfold V hostOps0
  after_results <;> rfl

/-- The eight slopes. -/
def slopes : FVec Ideal S8 .f32 :=
  Host.powf (broadcastInDim S8 ![] bcast_S_S8 (constant S_ .f32 0x40000000#32))
    (Host.divf (mulf (broadcastInDim S8 ![] bcast_S_S8 (constant S_ .f32 0xC1000000#32))
      (addf (sitofp .f32 (iotaInDim S8 32 0)) (broadcastInDim S8 ![] bcast_S_S8 (constant S_ .f32 0x3F800000#32))))
      (broadcastInDim S8 ![] bcast_S_S8 (constant S_ .f32 0x41000000#32)))

theorem slopes_at (h : Fin 8) : slopes (ix1 h) = ((slope h : ℝ) : EReal) := by
  rw [← slope_real h]
  pointwise [slopes]

theorem V_sl : V m c main_v13 = (show FVec Ideal S4x8x128 .f32 from broadcastInDim S4x8x128 ![0, 1, 2] bcast_S4x1x128_S4x8x128_0_1_2
    (broadcastInDim S4x1x128 ![0, 2] bcast_S4x128_S4x1x128_0_2 (shapeCast S4x128 (broadcastInDim S4x2x64 ![0, 1] bcast_S4x2_S4x2x64_0_1
      (shapeCast S4x2 slopes shapeCasts_S8_S4x2)) shapeCasts_S4x2x64_S4x128))) := by
  unfold V hostOps0
  after_results <;> rfl

theorem at_sl (p : Fin 4) (z : Fin 8) (h : Fin 2) : V m c main_v13 (ix3 p z (lane0 h)) = ((slope (2 * p + h) : ℝ) : EReal) := by
  rw [V_sl]
  refine Eq.trans ?_ (slopes_at ⟨2 * p + h, by omega⟩)
  pointwise []
  refine congrArg slopes (congrArg ix1 (Fin.ext ?_))
  show (p : ℕ) * 2 + 64 * (h : ℕ) / 64 = 2 * p + h
  omega

theorem cast_p (x : Vec Ideal S2x2048x3328 .f32) (r : Fin 4096) (k : Fin 3328) :
    (shapeCast S4096x3328 x shapeCasts_S2x2048x3328_S4096x3328 : FVec Ideal S4096x3328 .f32) (ix2 r k) = x (ix3 ⟨r.val / 2048, by omega⟩ ⟨r.val % 2048, by omega⟩ k) := by
  pointwise []

section
variable {p : ℕ → ℕ → ℕ → EReal} (hp : Holds p (m ((c : Thread nD τ).loc main_arg0)))
include hp

theorem at_p (r : Fin 4096) (k : Fin 3328) : V m c main_v18 (ix2 r k) = p (r.val / 2048) (r.val % 2048) k :=
  (congrFun (V_p m c) (ix2 r k)).trans ((cast_p _ r k).trans (hp.1 ⟨r.val / 2048, by omega⟩ ⟨r.val % 2048, by omega⟩ k))

theorem at_p16 (b : Fin 2) (ρ : Fin 16) (r : Fin 128) (k : Fin 1536) : V m c main_v17 (ix4 b ρ r k) = p b (ρ + 16 * r) k := by
  rw [V_p16]
  refine Eq.trans ?_ (hp.1 b ⟨ρ + 16 * r, by omega⟩ ⟨k, by omega⟩)
  generalize m ((c : Thread nD τ).loc main_arg0) = x
  pointwise []
  refine congrArg x (congrArg₂ (ix3 b) (Fin.ext ?_) rfl)
  show (r : ℕ) * 16 + ρ = ρ + 16 * r
  omega

/-! ## The blocks -/

section
variable (t : Fin cfg0.N)

omit hp in
theorem pt_lt : (t : ℕ) < 8 := lt_of_lt_of_eq t.isLt (show cfg0.N = 8 from N_0)

/-- A block of 2048 rows and 128 lanes of the projection, by the window's place in it, -/
theorem rows_of (i : S2048x128.Idx) (y : S4096x3328.Idx) (o : ℕ)
    (e0 : (y 0).val = t / 4 * 2048 + (i 0).val) (e1 : (y 1).val = (o + 128 * (t % 4)) + (i 1).val) :
    V m c main_v18 y = p (t / 4) (i 0).val (o + 128 * (t % 4) + (i 1).val) := by
  have ht := pt_lt t
  have h0 : (i 0).val < 2048 := (i 0).isLt
  have h1 : (i 1).val < 128 := (i 1).isLt
  rw [eq_ix2 y]
  refine (at_p m c hp (y 0) (y 1)).trans ?_
  rw [e0, e1, show ((t : ℕ) / 4 * 2048 + (i 0).val) / 2048 = t / 4 by omega, show ((t : ℕ) / 4 * 2048 + (i 0).val) % 2048 = (i 0).val by omega]

/-- and of one residue's rows. -/
theorem rows16_of (i : S1x16x128x128.Idx) (y : S2x16x128x1536.Idx) (o : ℕ)
    (e0 : (y 0).val = t / 4) (e1 : (y 1).val = (i 1).val) (e2 : (y 2).val = (i 2).val) (e3 : (y 3).val = (o + 128 * (t % 4)) + (i 3).val) :
    V m c main_v17 y = p (t / 4) ((i 1).val + 16 * (i 2).val) (o + 128 * (t % 4) + (i 3).val) := by
  rw [eq_ix4 y]
  refine (at_p16 m c hp (y 0) (y 1) (y 2) (y 3)).trans ?_
  rw [e0, e1, e2, e3]

set_option maxHeartbeats 2000000 in
/-- A point's operands hold its two heads' numbers. -/
theorem ops_at : Ops (two p (t / 4) (t % 4)) (iblk m c 0 t) (iblk m c 1 t) (iblk m c 2 t) (iblk m c 3 t) (iblk m c 4 t) (iblk m c 5 t) (iblk m c 6 t) := by
  have w0 :=
    (by decide +kernel : ∀ t : Fin grid0.N, win0_0.index t (0 : Fin 3) = t % 4 ∧ win0_0.index t (1 : Fin 3) = 0 ∧ win0_0.index t (2 : Fin 3) = 0) t
  have w1 :=
    (by decide +kernel : ∀ t : Fin grid0.N, win0_1.index t (0 : Fin 2) = t / 4 ∧ win0_1.index t (1 : Fin 2) = t % 4) t
  have w2 :=
    (by decide +kernel : ∀ t : Fin grid0.N, win0_2.index t (0 : Fin 2) = t / 4 ∧ win0_2.index t (1 : Fin 2) = 4 + t % 4) t
  have w3 :=
    (by decide +kernel : ∀ t : Fin grid0.N, win0_3.index t (0 : Fin 2) = t / 4 ∧ win0_3.index t (1 : Fin 2) = 8 + t % 4) t
  have w4 :=
    (by decide +kernel : ∀ t : Fin grid0.N, win0_4.index t (0 : Fin 4) = t / 4 ∧ win0_4.index t (1 : Fin 4) = 0 ∧ win0_4.index t (2 : Fin 4) = 0 ∧ win0_4.index t (3 : Fin 4) = t % 4) t
  have w5 :=
    (by decide +kernel : ∀ t : Fin grid0.N, win0_5.index t (0 : Fin 4) = t / 4 ∧ win0_5.index t (1 : Fin 4) = 0 ∧ win0_5.index t (2 : Fin 4) = 0 ∧ win0_5.index t (3 : Fin 4) = 4 + t % 4) t
  have w6 :=
    (by decide +kernel : ∀ t : Fin grid0.N, win0_6.index t (0 : Fin 4) = t / 4 ∧ win0_6.index t (1 : Fin 4) = 0 ∧ win0_6.index t (2 : Fin 4) = 0 ∧ win0_6.index t (3 : Fin 4) = 8 + t % 4) t
  constructor
  · intro h
    refine Eq.trans ?_ (at_sl m c ⟨t % 4, by omega⟩ 0 h)
    show V m c main_v13 (((cfg0.win 0).blk t).view.emb (ix3 0 0 (lane0 h))) = _
    refine congrArg _ (funext fun a => Fin.ext ?_)
    match a with
    | ⟨0, _⟩ =>
      show win0_0.index t (0 : Fin 3) * 1 + 1 * 0 = t % 4
      omega
    | ⟨1, _⟩ =>
      show win0_0.index t (1 : Fin 3) * 8 + 1 * 0 = 0
      omega
    | ⟨2, _⟩ =>
      show win0_0.index t (2 : Fin 3) * 128 + 1 * (lane0 h).val = (lane0 h).val
      omega
  · intro i
    have h1 : (i 1).val < 128 := (i 1).isLt
    refine (rows_of m c hp t i (((cfg0.win 1).blk t).view.emb i) 0 ?_ ?_).trans ?_
    · show win0_1.index t (0 : Fin 2) * 2048 + 1 * (i 0).val = _; rw [w1.1]; omega
    · show win0_1.index t (1 : Fin 2) * 128 + 1 * (i 1).val = _; rw [w1.2]; omega
    · simp only [two, Nat.zero_add]; exact hp.2 _ _ _ (by omega)
  · intro i
    have h1 : (i 1).val < 128 := (i 1).isLt
    refine (rows_of m c hp t i (((cfg0.win 2).blk t).view.emb i) 512 ?_ ?_).trans (hp.2 _ _ _ (by omega))
    · show win0_2.index t (0 : Fin 2) * 2048 + 1 * (i 0).val = _; rw [w2.1]; omega
    · show win0_2.index t (1 : Fin 2) * 128 + 1 * (i 1).val = _; rw [w2.2]; omega
  · intro i
    refine rows_of m c hp t i (((cfg0.win 3).blk t).view.emb i) 1024 ?_ ?_
    · show win0_3.index t (0 : Fin 2) * 2048 + 1 * (i 0).val = _; rw [w3.1]; omega
    · show win0_3.index t (1 : Fin 2) * 128 + 1 * (i 1).val = _; rw [w3.2]; omega
  · intro i
    have h0 : (i 0).val < 1 := (i 0).isLt
    have h3 : (i 3).val < 128 := (i 3).isLt
    refine (rows16_of m c hp t i (((cfg0.win 4).blk t).view.emb i) 0 ?_ ?_ ?_ ?_).trans ?_
    · show win0_4.index t (0 : Fin 4) * 1 + 1 * (i 0).val = _; rw [w4.1]; omega
    · show win0_4.index t (1 : Fin 4) * 16 + 1 * (i 1).val = _; rw [w4.2.1]; omega
    · show win0_4.index t (2 : Fin 4) * 128 + 1 * (i 2).val = _; rw [w4.2.2.1]; omega
    · show win0_4.index t (3 : Fin 4) * 128 + 1 * (i 3).val = _; rw [w4.2.2.2]; omega
    · simp only [two, Nat.zero_add]; exact hp.2 _ _ _ (by omega)
  · intro i
    have h0 : (i 0).val < 1 := (i 0).isLt
    have h3 : (i 3).val < 128 := (i 3).isLt
    refine (rows16_of m c hp t i (((cfg0.win 5).blk t).view.emb i) 512 ?_ ?_ ?_ ?_).trans (hp.2 _ _ _ (by omega))
    · show win0_5.index t (0 : Fin 4) * 1 + 1 * (i 0).val = _; rw [w5.1]; omega
    · show win0_5.index t (1 : Fin 4) * 16 + 1 * (i 1).val = _; rw [w5.2.1]; omega
    · show win0_5.index t (2 : Fin 4) * 128 + 1 * (i 2).val = _; rw [w5.2.2.1]; omega
    · show win0_5.index t (3 : Fin 4) * 128 + 1 * (i 3).val = _; rw [w5.2.2.2]; omega
  · intro i
    have h0 : (i 0).val < 1 := (i 0).isLt
    refine rows16_of m c hp t i (((cfg0.win 6).blk t).view.emb i) 1024 ?_ ?_ ?_ ?_
    · show win0_6.index t (0 : Fin 4) * 1 + 1 * (i 0).val = _; rw [w6.1]; omega
    · show win0_6.index t (1 : Fin 4) * 16 + 1 * (i 1).val = _; rw [w6.2.1]; omega
    · show win0_6.index t (2 : Fin 4) * 128 + 1 * (i 2).val = _; rw [w6.2.2.1]; omega
    · show win0_6.index t (3 : Fin 4) * 128 + 1 * (i 3).val = _; rw [w6.2.2.2]; omega

end

/-! ## The arrays -/

omit hp in
/-- Where an element of a result lies in its block. -/
theorem blk_emb (r : Fin 4096) (k : Fin 512) (y : S4096x512.Idx)
    (e0 : (y 0).val = r.val / 2048 * 2048 + r.val % 2048) (e1 : (y 1).val = k.val / 128 * 128 + k.val % 128) : y = ix2 r k := by
  rw [eq_ix2 y]
  exact congrArg₂ ix2 (Fin.ext (by omega)) (Fin.ext (by omega))

/-- The outputs. -/
theorem arr7 (r : Fin 4096) (k : Fin 512) :
    let A := two p (r / 2048) (k / 128)
    (dats m 0 c).arrAt 7 cfg0.N (ix2 r k)
      = (A.N 1 (k % 128 / 64) (r % 2048) (k % 128) + A.N 4 (k % 128 / 64) (r % 2048) (k % 128) + A.N 16 (k % 128 / 64) (r % 2048) (k % 128))
          * ((1 / (A.Z 1 (k % 128 / 64) (r % 2048) + A.Z 4 (k % 128 / 64) (r % 2048) + A.Z 16 (k % 128 / 64) (r % 2048)) : ℝ) : EReal) := by
  intro A
  have hn : (r : ℕ) / 2048 * 4 + k / 128 < cfg0.N := lt_of_lt_of_eq (by omega) N_0.symm
  obtain ⟨t, ht⟩ : ∃ t : Fin cfg0.N, (t : ℕ) = (r : ℕ) / 2048 * 4 + k / 128 := ⟨⟨_, hn⟩, rfl⟩
  have hw :=
    (by decide +kernel : ∀ t : Fin grid0.N, win0_7.index t (0 : Fin 2) = t / 4 ∧ win0_7.index t (1 : Fin 2) = t % 4) t
  have inj := (by decide +kernel : ∀ t t' : Fin grid0.N, win0_7.index t = win0_7.index t' → t = t')
  have e := congrFun ((dats m 0 c).read_blk_arrAt_eq_flushed 7 (fun t t' _ _ hne => (cfg0.win 7).disjoint_blk fun h => hne (inj t t' h)) cfg0.N t t.isLt (flush0_7 t))
    (ix2 (⟨r % 2048, by omega⟩ : Fin 2048) (⟨k % 128, by omega⟩ : Fin 128))
  have e2 : ((cfg0.win 7).blk t).view.emb (ix2 (⟨r % 2048, by omega⟩ : Fin 2048) (⟨k % 128, by omega⟩ : Fin 128)) = ix2 r k := by
    refine blk_emb r k _ ?_ ?_
    · show win0_7.index t (0 : Fin 2) * 2048 + 1 * ((r : ℕ) % 2048) = _; rw [hw.1]; omega
    · show win0_7.index t (1 : Fin 2) * 128 + 1 * ((k : ℕ) % 128) = _; rw [hw.2]; omega
  have e3 : (dats m 0 c).arrAt 7 cfg0.N (((cfg0.win 7).blk t).view.emb (ix2 (⟨r % 2048, by omega⟩ : Fin 2048) (⟨k % 128, by omega⟩ : Fin 128)))
      = (dats m 0 c).after 7 t (ix2 (⟨r % 2048, by omega⟩ : Fin 2048) (⟨k % 128, by omega⟩ : Fin 128)) := e
  rw [e2, after_7] at e3
  have b := (block_real (ops_at m c hp t) ⟨r % 2048, by omega⟩ ⟨k % 128, by omega⟩ ⟨k % 128 / 64, by omega⟩ rfl).1
  rw [show (t : ℕ) / 4 = r / 2048 by omega, show (t : ℕ) % 4 = k / 128 by omega] at b
  exact e3.trans b

/-- The logarithms. -/
theorem arr8 (r : Fin 4096) (k : Fin 512) :
    let A := two p (r / 2048) (k / 128)
    (dats m 0 c).arrAt 8 cfg0.N (ix2 r k)
      = ((Real.log (A.Z 1 (k % 128 / 64) (r % 2048) + A.Z 4 (k % 128 / 64) (r % 2048) + A.Z 16 (k % 128 / 64) (r % 2048)) : ℝ) : EReal) := by
  intro A
  have hn : (r : ℕ) / 2048 * 4 + k / 128 < cfg0.N := lt_of_lt_of_eq (by omega) N_0.symm
  obtain ⟨t, ht⟩ : ∃ t : Fin cfg0.N, (t : ℕ) = (r : ℕ) / 2048 * 4 + k / 128 := ⟨⟨_, hn⟩, rfl⟩
  have hw :=
    (by decide +kernel : ∀ t : Fin grid0.N, win0_8.index t (0 : Fin 2) = t / 4 ∧ win0_8.index t (1 : Fin 2) = t % 4) t
  have inj := (by decide +kernel : ∀ t t' : Fin grid0.N, win0_8.index t = win0_8.index t' → t = t')
  have e := congrFun ((dats m 0 c).read_blk_arrAt_eq_flushed 8 (fun t t' _ _ hne => (cfg0.win 8).disjoint_blk fun h => hne (inj t t' h)) cfg0.N t t.isLt (flush0_8 t))
    (ix2 (⟨r % 2048, by omega⟩ : Fin 2048) (⟨k % 128, by omega⟩ : Fin 128))
  have e2 : ((cfg0.win 8).blk t).view.emb (ix2 (⟨r % 2048, by omega⟩ : Fin 2048) (⟨k % 128, by omega⟩ : Fin 128)) = ix2 r k := by
    refine blk_emb r k _ ?_ ?_
    · show win0_8.index t (0 : Fin 2) * 2048 + 1 * ((r : ℕ) % 2048) = _; rw [hw.1]; omega
    · show win0_8.index t (1 : Fin 2) * 128 + 1 * ((k : ℕ) % 128) = _; rw [hw.2]; omega
  have e3 : (dats m 0 c).arrAt 8 cfg0.N (((cfg0.win 8).blk t).view.emb (ix2 (⟨r % 2048, by omega⟩ : Fin 2048) (⟨k % 128, by omega⟩ : Fin 128)))
      = (dats m 0 c).after 8 t (ix2 (⟨r % 2048, by omega⟩ : Fin 2048) (⟨k % 128, by omega⟩ : Fin 128)) := e
  rw [e2, after_8] at e3
  have b := (block_real (ops_at m c hp t) ⟨r % 2048, by omega⟩ ⟨k % 128, by omega⟩ ⟨k % 128 / 64, by omega⟩ rfl).2
  rw [show (t : ℕ) / 4 = r / 2048 by omega, show (t : ℕ) % 4 = k / 128 by omega] at b
  exact e3.trans b

end

end Cert.Mix

end
-- ==== Proof.MixRef.lean ====
/- The attention's reference over the reals: masked scores, a softmax per dilation and their blend. -/
module

public import proofs.«01_k».proof.Proof.MixArr
public import proofs.«01_k».proof.Proof.Gen.MixReferenceIdeal.Read

@[expose] public section

set_option maxRecDepth 16384

noncomputable section

namespace Cert.Mix

open Idealize.ShloMosaic Cert.Reals
open Idealize.ShloMosaic.Tactic
open Cert.MixReferenceIdeal Cert.MixReferenceIdeal.Read

/-! ## Words -/

theorem rem_one : ∀ n : Fin 2048, IntOp.cmpi .eq (IntOp.remsi .host (BitVec.ofNat 32 n) 1#32) 0#32 = if (n : ℕ) % 1 = 0 then 1#1 else 0#1 := by decide +kernel
theorem rem_four : ∀ n : Fin 2048, IntOp.cmpi .eq (IntOp.remsi .host (BitVec.ofNat 32 n) 4#32) 0#32 = if (n : ℕ) % 4 = 0 then 1#1 else 0#1 := by decide +kernel
theorem rem_sixteen : ∀ n : Fin 2048, IntOp.cmpi .eq (IntOp.remsi .host (BitVec.ofNat 32 n) 16#32) 0#32 = if (n : ℕ) % 16 = 0 then 1#1 else 0#1 := by decide +kernel

/-- A dilation's mask as words. -/
theorem mask_word (d : ℕ) (w e : BitVec 32) (hd : d ≤ 16) (hw : w = BitVec.ofNat 32 (64 * d))
    (he : ∀ n : Fin 2048, IntOp.cmpi .eq (IntOp.remsi .host (BitVec.ofNat 32 n) e) 0#32 = if (n : ℕ) % d = 0 then 1#1 else 0#1)
    (t u : Fin 2048) (a b : EReal) :
    Scalar.select (IntOp.andi (IntOp.cmpi .sle (IntOp.absi (IntOp.subi (BitVec.ofNat 32 u) (BitVec.ofNat 32 t))) w)
      (IntOp.cmpi .eq (IntOp.remsi .host (IntOp.absi (IntOp.subi (BitVec.ofNat 32 u) (BitVec.ofNat 32 t))) e) 0#32)) a b
      = if near d t u then a else b := by
  have hf : far u t = far t u := Nat.add_comm _ _
  have hl : far t u < 2048 := by have := t.isLt; have := u.isLt; unfold far; omega
  rw [abs_word u t (by omega) (by omega), hf, hw, sle_word _ _ (by omega) (by omega), he ⟨far t u, hl⟩]
  unfold near
  by_cases h1 : far t u ≤ 64 * d <;> by_cases h2 : far t u % d = 0 <;> simp only [h1, h2, if_true, if_false, and_true, and_false] <;> rfl

/-! ## One dilation, and three -/

/-- A dilation's softmax from how it is computed. -/
theorem dilated (A : Two) (d h t l : ℕ) (ht : t < 2048) (s v : Fin 2048 → EReal)
    (hs : ∀ u : Fin 2048, s u = if near d t u then ((A.S h t u : ℝ) : EReal) else ⊥) (hv : ∀ u : Fin 2048, v u = A.v u l) {top sum out : EReal}
    (htop : top = Finset.univ.fold max (⊥ : EReal) s) (hsum : sum = ∑ u, Ideal.exp (s u - top)) (hout : out = ∑ u, v u * Ideal.exp (s u - top)) :
    Ideal.div out sum = A.N d h t l * ((1 / A.Z d h t : ℝ) : EReal) ∧ top + Ideal.log sum = ((Real.log (A.Z d h t) : ℝ) : EReal) := by
  obtain ⟨M, hM, hS, hO⟩ := row s (fun u => A.S h t u) (fun u => near d t u) ⟨⟨t, ht⟩, by unfold near far; simp⟩ hs v htop hsum
    (hout.trans (Finset.sum_congr rfl fun u _ => mul_comm _ _))
  have hZ := A.Z_pos d h t ht
  have hE := Real.exp_pos (-M)
  rw [show (∑ u : Fin 2048, if near d t u then Real.exp (A.S h t u) else 0) = A.Z d h t from rfl] at hS
  simp only [hv] at hO
  rw [show (∑ u : Fin 2048, if near d t u then (Real.exp (A.S h t u) : EReal) * A.v u l else 0) = A.N d h t l from rfl] at hO
  rw [hM, hS, hO]
  constructor
  · rw [Ideal.div_coe (mul_pos hZ hE).ne', mul_assoc, ← EReal.coe_mul]
    congr 2
    field_simp
  · rw [Ideal.log_coe, if_neg (not_le.mpr (mul_pos hZ hE)), Real.log_mul hZ.ne' hE.ne', Real.log_exp, ← EReal.coe_add]
    congr 1; ring

/-- Three dilations blended by the softmax of their logarithms. -/
theorem blend (L O N : Fin 3 → EReal) (Z : Fin 3 → ℝ) (hZ : ∀ c, 0 < Z c) (hL : ∀ c, L c = ((Real.log (Z c) : ℝ) : EReal))
    (hO : ∀ c, O c = N c * ((1 / Z c : ℝ) : EReal)) {T : EReal} (hT : T = Finset.univ.fold max (⊥ : EReal) L) :
    T + Ideal.log (∑ c, Ideal.exp (L c - T)) = ((Real.log (Z 0 + Z 1 + Z 2) : ℝ) : EReal) ∧
      ∑ c, Ideal.div (Ideal.exp (L c - max ⊥ T)) (∑ c', Ideal.exp (L c' - max ⊥ T)) * O c = (N 0 + N 1 + N 2) * ((1 / (Z 0 + Z 1 + Z 2) : ℝ) : EReal) := by
  obtain rfl : L = fun c => ((Real.log (Z c) : ℝ) : EReal) := funext hL
  obtain ⟨M, hM, he⟩ := masked (fun c => Real.log (Z c)) (fun _ => True) ⟨(0 : Fin 3), trivial⟩
  simp only [if_true] at hM he
  rw [hM] at hT
  subst hT
  have hE := Real.exp_pos (-M)
  have hS : 0 < Z 0 + Z 1 + Z 2 := by have := hZ 0; have := hZ 1; have := hZ 2; positivity
  rw [max_eq_right bot_le]
  simp only [he, Real.exp_log (hZ _), Fin.sum_univ_three, hO, ← EReal.coe_add, ← add_mul]
  constructor
  · rw [Ideal.log_coe, if_neg (not_le.mpr (mul_pos hS hE)), Real.log_mul hS.ne' hE.ne', Real.log_exp, ← EReal.coe_add]
    congr 1; ring
  · have k : ∀ c, Z c * Real.exp (-M) / ((Z 0 + Z 1 + Z 2) * Real.exp (-M)) * (1 / Z c) = 1 / (Z 0 + Z 1 + Z 2) := fun c => by
      have := (hZ c).ne'; have := hS.ne'; field_simp
    simp only [div_real _ (mul_pos hS hE).ne', mul_left_comm _ (N _), ← EReal.coe_mul, k]
    exact add_three (by positivity)

theorem three {P : Fin 3 → Prop} (h0 : P 0) (h1 : P 1) (h2 : P 2) : ∀ c, P c := by
  intro c; fin_cases c <;> assumption

/-! ## The reference's values -/

section
variable (x : Vec Ideal S2x2048x3328 .f32) (b : Fin 2) (h : Fin 8) (t : Fin 2048)

theorem q_at (e : Fin 64) : val_main_v4 x (ix4 b t h e) = x (ix3 b t ⟨h.val * 64 + e.val, by omega⟩) := by
  pointwise [val_main_v4, val_main_v0, val_main_v1]
theorem k_at (e : Fin 64) : val_main_v5 x (ix4 b t h e) = x (ix3 b t ⟨512 + (h.val * 64 + e.val), by omega⟩) := by
  pointwise [val_main_v5, val_main_v0, val_main_v2]
theorem v_at (e : Fin 64) : val_main_v6 x (ix4 b t h e) = x (ix3 b t ⟨1024 + (h.val * 64 + e.val), by omega⟩) := by
  pointwise [val_main_v6, val_main_v0, val_main_v3]

theorem slope_ref : val_main_v15 (F := Ideal) (ix1 h) = ((slope h : ℝ) : EReal) := by
  rw [← slope_real h]
  pointwise [val_main_v15, val_main_v14, val_main_cst_2, val_main_v13, val_main_v12, val_main_cst_1, val_main_v11, val_main_v10, val_main_cst_0, val_main_v9, val_main_v8, val_main_cst, val_main_v7]

theorem score_at (u : Fin 2048) : val_main_v34 x (ix4 b h t u)
    = (∑ e : Fin 64, val_main_v4 x (ix4 b t h e) * val_main_v5 x (ix4 b u h e)) * Ideal.ofBits .f32 0x3E000000#32
      - val_main_v15 (F := Ideal) (ix1 h) * (FloatOps.sitofp FTy.f32 (IntOp.absi (IntOp.subi (BitVec.ofNat 32 u) (BitVec.ofNat 32 t))) : Ideal .f32) := by
  pointwise [val_main_v34, val_main_v25, val_main_v33, val_main_v32, val_main_v31, val_main_v24, val_main_cst_3, val_main_v23, val_main_v29, val_main_v26, val_main_v30, val_main_v28, val_main_v27, val_main_v22, val_main_v21, val_main_v20, val_main_v19, val_main_v18, val_main_v17, val_main_v16]

theorem flat (y : Vec Ideal S2x8x2048x1 .f32) (hc : S2x8x2048x1.ShapeCasts S2x8x2048) : (shapeCast S2x8x2048 y hc : Vec Ideal S2x8x2048 .f32) (ix3 b h t) = y (ix4 b h t 0) := by
  pointwise []

section
variable {p : ℕ → ℕ → ℕ → EReal} (hx : Holds p x)
include hx

theorem score_ref (u : Fin 2048) : val_main_v34 x (ix4 b h t u) = (((two p b (h / 2)).S (h % 2) t u : ℝ) : EReal) := by
  have hf : far u t = far t u := Nat.add_comm _ _
  have hl : far t u < 2048 := by have := t.isLt; have := u.isLt; unfold far; omega
  rw [score_at, slope_ref, abs_word u t (by omega) (by omega), hf, sitofp_word _ (by omega), w_eighth]
  have e : (∑ e : Fin 64, val_main_v4 x (ix4 b t h e) * val_main_v5 x (ix4 b u h e))
      = (((∑ e : Fin 64, (two p b (h / 2)).q t (h % 2 * 64 + e) * (two p b (h / 2)).k u (h % 2 * 64 + e)) : ℝ) : EReal) := by
    rw [← coe_sum]
    refine Finset.sum_congr rfl fun e _ => ?_
    rw [q_at, k_at, hx.1, hx.1, hx.2 b t _ (show (h : ℕ) * 64 + e < 1024 by omega), hx.2 b u _ (show 512 + ((h : ℕ) * 64 + e) < 1024 by omega), ← EReal.coe_mul]
    simp only [two]
    rw [show 128 * ((h : ℕ) / 2) + (h % 2 * 64 + e) = h * 64 + e by omega, show 512 + 128 * ((h : ℕ) / 2) + (h % 2 * 64 + e) = 512 + (h * 64 + e) by omega]
  rw [e, ← EReal.coe_mul, ← EReal.coe_mul, ← EReal.coe_sub]
  congr 1
  simp only [Two.S, two]
  rw [show 2 * ((h : ℕ) / 2) + h % 2 = h by omega]

theorem value_ref (e : Fin 64) (u : Fin 2048) : val_main_v6 x (ix4 b u h e) = (two p b (h / 2)).v u (h % 2 * 64 + e) := by
  rw [v_at, hx.1]
  simp only [two]
  rw [show 1024 + 128 * ((h : ℕ) / 2) + (h % 2 * 64 + e) = 1024 + (h * 64 + e) by omega]

/-- The dilation of 1. -/
theorem dil_one (e : Fin 64) : val_main_v56 x (ix4 b t h e) = (two p b (h / 2)).N 1 (h % 2) t (h % 2 * 64 + e) * ((1 / (two p b (h / 2)).Z 1 (h % 2) t : ℝ) : EReal) ∧
    val_main_v60 x (ix3 b t h) = ((Real.log ((two p b (h / 2)).Z 1 (h % 2) t) : ℝ) : EReal) := by
  have e1 : val_main_v57 x (ix3 b h t) = val_main_v45 x (ix3 b h t) := by
    unfold val_main_v57; exact (flat b h t _ _).trans (by pointwise [val_main_v46])
  have e2 : val_main_v60 x (ix3 b t h) = val_main_v57 x (ix3 b h t) + Ideal.log (val_main_v50 x (ix3 b h t)) := by
    have ei : idx_main_v60 (ix3 b t h) = ix3 b h t := by funext a; fin_cases a <;> rfl
    rw [val_main_v60_apply, ei, val_main_v59_apply, val_main_v58_apply]
    generalize val_main_v57 x (ix3 b h t) = y
    generalize val_main_v50 x (ix3 b h t) = z
    rfl
  have e3 : val_main_v56 x (ix4 b t h e) = Ideal.div (val_main_v51 x (ix4 b h e t)) (val_main_v50 x (ix3 b h t)) := by
    pointwise [val_main_v56, val_main_v55, val_main_v54, val_main_v53, val_main_v52]
  have s : ∀ u : Fin 2048, val_main_v44 x (ix4 b h t u) = if near 1 t u then (((two p b (h / 2)).S (h % 2) t u : ℝ) : EReal) else ⊥ := by
    intro u
    rw [← score_ref x b h t hx u, ← mask_word 1 64#32 1#32 (by decide) rfl rem_one, ← w_bot]
    pointwise [val_main_v44, val_main_v42, val_main_v43, val_main_cst_6, val_main_v41, val_main_v36, val_main_v40, val_main_v39, val_main_v38, val_main_v37, val_main_v35, val_main_c, val_main_c_4, val_main_c_5, val_main_v22, val_main_v21, val_main_v20, val_main_v19, val_main_v18, val_main_v17, val_main_v16]
  have m : val_main_v45 x (ix3 b h t) = Finset.univ.fold max (⊥ : EReal) fun u : Fin 2048 => val_main_v44 x (ix4 b h t u) := by
    rw [← w_bot]; pointwise [val_main_v45, val_main_cst_7]
  have z : val_main_v50 x (ix3 b h t) = ∑ u : Fin 2048, Ideal.exp (val_main_v44 x (ix4 b h t u) - val_main_v45 x (ix3 b h t)) := by
    pointwise [val_main_v50, val_main_cst_8, val_main_v49, val_main_v48, val_main_v47, val_main_v46]
  have o : val_main_v51 x (ix4 b h e t) = ∑ u : Fin 2048, val_main_v6 x (ix4 b u h e) * Ideal.exp (val_main_v44 x (ix4 b h t u) - val_main_v45 x (ix3 b h t)) := by
    pointwise [val_main_v51, val_main_v49, val_main_v48, val_main_v47, val_main_v46]
  rw [e3, e2, e1]
  exact dilated _ 1 (h % 2) t _ t.isLt _ _ s (value_ref x b h hx e) m z o

/-- The dilation of 4. -/
theorem dil_four (e : Fin 64) : val_main_v82 x (ix4 b t h e) = (two p b (h / 2)).N 4 (h % 2) t (h % 2 * 64 + e) * ((1 / (two p b (h / 2)).Z 4 (h % 2) t : ℝ) : EReal) ∧
    val_main_v86 x (ix3 b t h) = ((Real.log ((two p b (h / 2)).Z 4 (h % 2) t) : ℝ) : EReal) := by
  have e1 : val_main_v83 x (ix3 b h t) = val_main_v71 x (ix3 b h t) := by
    unfold val_main_v83; exact (flat b h t _ _).trans (by pointwise [val_main_v72])
  have e2 : val_main_v86 x (ix3 b t h) = val_main_v83 x (ix3 b h t) + Ideal.log (val_main_v76 x (ix3 b h t)) := by
    have ei : idx_main_v86 (ix3 b t h) = ix3 b h t := by funext a; fin_cases a <;> rfl
    rw [val_main_v86_apply, ei, val_main_v85_apply, val_main_v84_apply]
    generalize val_main_v83 x (ix3 b h t) = y
    generalize val_main_v76 x (ix3 b h t) = z
    rfl
  have e3 : val_main_v82 x (ix4 b t h e) = Ideal.div (val_main_v77 x (ix4 b h e t)) (val_main_v76 x (ix3 b h t)) := by
    pointwise [val_main_v82, val_main_v81, val_main_v80, val_main_v79, val_main_v78]
  have s : ∀ u : Fin 2048, val_main_v70 x (ix4 b h t u) = if near 4 t u then (((two p b (h / 2)).S (h % 2) t u : ℝ) : EReal) else ⊥ := by
    intro u
    rw [← score_ref x b h t hx u, ← mask_word 4 256#32 4#32 (by decide) rfl rem_four, ← w_bot]
    pointwise [val_main_v70, val_main_v68, val_main_v69, val_main_cst_12, val_main_v67, val_main_v62, val_main_v66, val_main_v65, val_main_v64, val_main_v63, val_main_v61, val_main_c_9, val_main_c_10, val_main_c_11, val_main_v22, val_main_v21, val_main_v20, val_main_v19, val_main_v18, val_main_v17, val_main_v16]
  have m : val_main_v71 x (ix3 b h t) = Finset.univ.fold max (⊥ : EReal) fun u : Fin 2048 => val_main_v70 x (ix4 b h t u) := by
    rw [← w_bot]; pointwise [val_main_v71, val_main_cst_13]
  have z : val_main_v76 x (ix3 b h t) = ∑ u : Fin 2048, Ideal.exp (val_main_v70 x (ix4 b h t u) - val_main_v71 x (ix3 b h t)) := by
    pointwise [val_main_v76, val_main_cst_14, val_main_v75, val_main_v74, val_main_v73, val_main_v72]
  have o : val_main_v77 x (ix4 b h e t) = ∑ u : Fin 2048, val_main_v6 x (ix4 b u h e) * Ideal.exp (val_main_v70 x (ix4 b h t u) - val_main_v71 x (ix3 b h t)) := by
    pointwise [val_main_v77, val_main_v75, val_main_v74, val_main_v73, val_main_v72]
  rw [e3, e2, e1]
  exact dilated _ 4 (h % 2) t _ t.isLt _ _ s (value_ref x b h hx e) m z o

/-- The dilation of 16. -/
theorem dil_sixteen (e : Fin 64) : val_main_v108 x (ix4 b t h e) = (two p b (h / 2)).N 16 (h % 2) t (h % 2 * 64 + e) * ((1 / (two p b (h / 2)).Z 16 (h % 2) t : ℝ) : EReal) ∧
    val_main_v112 x (ix3 b t h) = ((Real.log ((two p b (h / 2)).Z 16 (h % 2) t) : ℝ) : EReal) := by
  have e1 : val_main_v109 x (ix3 b h t) = val_main_v97 x (ix3 b h t) := by
    unfold val_main_v109; exact (flat b h t _ _).trans (by pointwise [val_main_v98])
  have e2 : val_main_v112 x (ix3 b t h) = val_main_v109 x (ix3 b h t) + Ideal.log (val_main_v102 x (ix3 b h t)) := by
    have ei : idx_main_v112 (ix3 b t h) = ix3 b h t := by funext a; fin_cases a <;> rfl
    rw [val_main_v112_apply, ei, val_main_v111_apply, val_main_v110_apply]
    generalize val_main_v109 x (ix3 b h t) = y
    generalize val_main_v102 x (ix3 b h t) = z
    rfl
  have e3 : val_main_v108 x (ix4 b t h e) = Ideal.div (val_main_v103 x (ix4 b h e t)) (val_main_v102 x (ix3 b h t)) := by
    pointwise [val_main_v108, val_main_v107, val_main_v106, val_main_v105, val_main_v104]
  have s : ∀ u : Fin 2048, val_main_v96 x (ix4 b h t u) = if near 16 t u then (((two p b (h / 2)).S (h % 2) t u : ℝ) : EReal) else ⊥ := by
    intro u
    rw [← score_ref x b h t hx u, ← mask_word 16 1024#32 16#32 (by decide) rfl rem_sixteen, ← w_bot]
    pointwise [val_main_v96, val_main_v94, val_main_v95, val_main_cst_18, val_main_v93, val_main_v88, val_main_v92, val_main_v91, val_main_v90, val_main_v89, val_main_v87, val_main_c_15, val_main_c_16, val_main_c_17, val_main_v22, val_main_v21, val_main_v20, val_main_v19, val_main_v18, val_main_v17, val_main_v16]
  have m : val_main_v97 x (ix3 b h t) = Finset.univ.fold max (⊥ : EReal) fun u : Fin 2048 => val_main_v96 x (ix4 b h t u) := by
    rw [← w_bot]; pointwise [val_main_v97, val_main_cst_19]
  have z : val_main_v102 x (ix3 b h t) = ∑ u : Fin 2048, Ideal.exp (val_main_v96 x (ix4 b h t u) - val_main_v97 x (ix3 b h t)) := by
    pointwise [val_main_v102, val_main_cst_20, val_main_v101, val_main_v100, val_main_v99, val_main_v98]
  have o : val_main_v103 x (ix4 b h e t) = ∑ u : Fin 2048, val_main_v6 x (ix4 b u h e) * Ideal.exp (val_main_v96 x (ix4 b h t u) - val_main_v97 x (ix3 b h t)) := by
    pointwise [val_main_v103, val_main_v101, val_main_v100, val_main_v99, val_main_v98]
  rw [e3, e2, e1]
  exact dilated _ 16 (h % 2) t _ t.isLt _ _ s (value_ref x b h hx e) m z o

/-- The blend and its logarithm. -/
theorem blended (e : Fin 64) :
    let A := two p b (h / 2)
    val_main_v143 x (ix3 b t h) = ((Real.log (A.Z 1 (h % 2) t + A.Z 4 (h % 2) t + A.Z 16 (h % 2) t) : ℝ) : EReal) ∧
    val_main_v135 x (ix4 b t h e) = (A.N 1 (h % 2) t (h % 2 * 64 + e) + A.N 4 (h % 2) t (h % 2 * 64 + e) + A.N 16 (h % 2) t (h % 2 * 64 + e))
      * ((1 / (A.Z 1 (h % 2) t + A.Z 4 (h % 2) t + A.Z 16 (h % 2) t) : ℝ) : EReal) := by
  intro A
  have a0 : val_main_v116 x (ix4 0 b t h) = val_main_v60 x (ix3 b t h) := by pointwise [val_main_v116, val_main_v113, val_main_v114, val_main_v115]
  have a1 : val_main_v116 x (ix4 1 b t h) = val_main_v86 x (ix3 b t h) := by pointwise [val_main_v116, val_main_v113, val_main_v114, val_main_v115]
  have a2 : val_main_v116 x (ix4 2 b t h) = val_main_v112 x (ix3 b t h) := by pointwise [val_main_v116, val_main_v113, val_main_v114, val_main_v115]
  have o0 : val_main_v132 x (ix5 0 b t h e) = val_main_v56 x (ix4 b t h e) := by pointwise [val_main_v132, val_main_v129, val_main_v130, val_main_v131]
  have o1 : val_main_v132 x (ix5 1 b t h e) = val_main_v82 x (ix4 b t h e) := by pointwise [val_main_v132, val_main_v129, val_main_v130, val_main_v131]
  have o2 : val_main_v132 x (ix5 2 b t h e) = val_main_v108 x (ix4 b t h e) := by pointwise [val_main_v132, val_main_v129, val_main_v130, val_main_v131]
  have top : val_main_v136 x (ix3 b t h) = Finset.univ.fold max (⊥ : EReal) fun c : Fin 3 => val_main_v116 x (ix4 c b t h) := by
    rw [← w_bot]; pointwise [val_main_v136, val_main_cst_25]
  have top2 : val_main_v117 x (ix3 b t h) = Finset.univ.fold max (⊥ : EReal) fun c : Fin 3 => val_main_v116 x (ix4 c b t h) := by
    rw [← w_bot]; pointwise [val_main_v117, val_main_cst_21]
  have l : val_main_v143 x (ix3 b t h) = val_main_v136 x (ix3 b t h)
      + Ideal.log (∑ c : Fin 3, Ideal.exp (val_main_v116 x (ix4 c b t h) - val_main_v136 x (ix3 b t h))) := by
    pointwise [val_main_v143, val_main_v142, val_main_v141, val_main_cst_26, val_main_v140, val_main_v139, val_main_v138, val_main_v137]
  have w : val_main_v135 x (ix4 b t h e) = ∑ c : Fin 3, Ideal.div (Ideal.exp (val_main_v116 x (ix4 c b t h) - max ⊥ (val_main_v117 x (ix3 b t h))))
      (∑ c' : Fin 3, Ideal.exp (val_main_v116 x (ix4 c' b t h) - max ⊥ (val_main_v117 x (ix3 b t h)))) * val_main_v132 x (ix5 c b t h e) := by
    rw [← w_bot]
    pointwise [val_main_v135, val_main_cst_24, val_main_v134, val_main_v133, val_main_v128, val_main_v127, val_main_v126, val_main_v125, val_main_v124, val_main_cst_23, val_main_v123, val_main_v122, val_main_v121, val_main_v120, val_main_v119, val_main_v118, val_main_cst_22]
  obtain ⟨p0, q0⟩ := dil_one x b h t hx e
  obtain ⟨p1, q1⟩ := dil_four x b h t hx e
  obtain ⟨p2, q2⟩ := dil_sixteen x b h t hx e
  have B := fun {T : EReal} => blend (T := T) (fun c => val_main_v116 x (ix4 c b t h)) (fun c => val_main_v132 x (ix5 c b t h e))
    (fun c => A.N (![1, 4, 16] c) (h % 2) t (h % 2 * 64 + e)) (fun c => A.Z (![1, 4, 16] c) (h % 2) t) (fun c => A.Z_pos _ _ _ t.isLt)
    (three (a0.trans q0) (a1.trans q1) (a2.trans q2)) (three (o0.trans p0) (o1.trans p1) (o2.trans p2))
  exact ⟨l.trans (B top).1, w.trans (B top2).2⟩

end
end

section
variable (x : Vec Ideal S2x2048x3328 .f32) {p : ℕ → ℕ → ℕ → EReal} (hx : Holds p x) (r : Fin 4096) (k : Fin 512)
include hx

/-- The reference's output, -/
theorem ref7 :
    let A := two p (r / 2048) (k / 128)
    val_main_v144 x (ix2 r k)
      = (A.N 1 (k % 128 / 64) (r % 2048) (k % 128) + A.N 4 (k % 128 / 64) (r % 2048) (k % 128) + A.N 16 (k % 128 / 64) (r % 2048) (k % 128))
          * ((1 / (A.Z 1 (k % 128 / 64) (r % 2048) + A.Z 4 (k % 128 / 64) (r % 2048) + A.Z 16 (k % 128 / 64) (r % 2048)) : ℝ) : EReal) := by
  intro A
  have e : val_main_v144 x (ix2 r k) = val_main_v135 x (ix4 ⟨r.val / 2048, by omega⟩ ⟨r.val % 2048, by omega⟩ ⟨k.val / 64, by omega⟩ ⟨k.val % 64, by omega⟩) := by
    pointwise [val_main_v144]
  have B := (blended x ⟨r.val / 2048, by omega⟩ ⟨k.val / 64, by omega⟩ ⟨r.val % 2048, by omega⟩ hx ⟨k.val % 64, by omega⟩).2
  simp only [] at B
  rw [show (k : ℕ) / 64 / 2 = k / 128 by omega, show (k : ℕ) / 64 % 2 = k % 128 / 64 by omega, show (k : ℕ) % 128 / 64 * 64 + k % 64 = k % 128 by omega] at B
  exact e.trans B

/-- and its logarithms. -/
theorem ref8 :
    let A := two p (r / 2048) (k / 128)
    val_main_v147 x (ix2 r k)
      = ((Real.log (A.Z 1 (k % 128 / 64) (r % 2048) + A.Z 4 (k % 128 / 64) (r % 2048) + A.Z 16 (k % 128 / 64) (r % 2048)) : ℝ) : EReal) := by
  intro A
  have e : val_main_v147 x (ix2 r k) = val_main_v143 x (ix3 ⟨r.val / 2048, by omega⟩ ⟨r.val % 2048, by omega⟩ ⟨k.val / 64, by omega⟩) := by
    pointwise [val_main_v147, val_main_v146, val_main_v145]
  have B := (blended x ⟨r.val / 2048, by omega⟩ ⟨k.val / 64, by omega⟩ ⟨r.val % 2048, by omega⟩ hx 0).1
  simp only [] at B
  rw [show (k : ℕ) / 64 / 2 = k / 128 by omega, show (k : ℕ) / 64 % 2 = k % 128 / 64 by omega] at B
  exact e.trans B

end

end Cert.Mix

end
-- ==== Proof.Mix.lean ====
/- The claims of the attention's forward. -/
module

public import proofs.«01_k».proof.Proof.Finite
public import proofs.«01_k».proof.Proof.MixRef

@[expose] public section

set_option maxRecDepth 16384

noncomputable section

namespace Cert.Mix

open Idealize.ShloMosaic Idealize.ShloMosaic.TcCoe Idealize.ShloMosaic.Tactic

/-- The reference runs, keeps its argument and has no semaphore. -/
theorem frame_reference : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run (F := Ideal) m ρ)

/-- The named constant is the value that the kernel's mask stands for. -/
theorem preserves : Cert.preserves_MixKernel_MixKernelIdeal :=
  IdealRules.named_const.statement Cert.MixKernelIdeal.κ "mask" .f32 0xF149F2CA#32 ⊥ rfl

section
variable [Cert.Pre_finite_mix.Facts]

/-- What the argument holds. -/
def partsOf (x : Vec Ideal MixReferenceIdeal.S2x2048x3328 .f32) (b t k : ℕ) : EReal :=
  x (ix3 (Fin.ofNat 2 b) (Fin.ofNat 2048 t) (Fin.ofNat 3328 k))

open Branch in
/-- An argument that meets the precondition holds real queries and keys. -/
theorem holds (x : Vec Ideal MixReferenceIdeal.S2x2048x3328 .f32) (h : Cert.Pre_finite_mix.fn (F := Ideal) x = fun _ => 1#1) : Holds (partsOf x) x := by
  haveI : Subsingleton Cert.Pre_finite_mix.S_.Idx := ⟨fun a b => funext fun k => k.elim0⟩
  have e := congrFun h (fun k => k.elim0)
  unfold Cert.Pre_finite_mix.fn at e
  refine ⟨fun b t k => by simp only [partsOf, ofNat_val], fun b t k hk => ?_⟩
  have e := real_of_all _ _ _ _ _ _ e (ix3 (Fin.ofNat 2 b) (Fin.ofNat 2048 t) ⟨k, hk⟩)
  have hs : ∀ w, (extractStridedSlice Cert.Pre_finite_mix.S2x2048x1024 ![0, 0, 0] x w : Vec Ideal Cert.Pre_finite_mix.S2x2048x1024 .f32) (ix3 (Fin.ofNat 2 b) (Fin.ofNat 2048 t) ⟨k, hk⟩) = x (ix3 (Fin.ofNat 2 b) (Fin.ofNat 2048 t) ⟨k, by omega⟩) := fun w => by pointwise []
  simp only [hs] at e
  rw [partsOf, show Fin.ofNat 3328 k = ⟨k, by omega⟩ from Fin.ext (Nat.mod_eq_of_lt (by omega))]
  exact e
end

open Cert.MixKernelIdeal Cert.MixKernelIdeal.Gen
open Cert.MixReferenceIdeal.Read

variable (m : (ℓ : Loc nD τ sig) → Buf (Elt Ideal) ℓ) (c : Dev nD)

/-- The first result. -/
theorem final7 {p : ℕ → ℕ → ℕ → EReal} (h : Holds p (m ((c : Thread nD τ).loc main_arg0))) :
    (dats m 0 c).arrAt 7 cfg0.N = val_main_v144 (F := Ideal) (m ((c : Thread nD τ).loc main_arg0)) := by
  funext i
  rw [eq_ix2 i]
  exact (arr7 m c h _ _).trans (ref7 _ h _ _).symm

/-- The second result. -/
theorem final8 {p : ℕ → ℕ → ℕ → EReal} (h : Holds p (m ((c : Thread nD τ).loc main_arg0))) :
    (dats m 0 c).arrAt 8 cfg0.N = val_main_v147 (F := Ideal) (m ((c : Thread nD τ).loc main_arg0)) := by
  funext i
  rw [eq_ix2 i]
  exact (arr8 m c h _ _).trans (ref8 _ h _ _).symm

variable [Cert.Pre_finite_mix.Facts]

/-- The kernel and the reference agree on memories that agree on the argument. -/
theorem algebraic : Cert.algebraic_MixKernelIdeal_MixReferenceIdeal_pre_finite_mix := by
  intro m g m' g' hpre hm
  refine ⟨fun c => val_main_v144 (F := Ideal) (m ((c : Thread nD τ).loc main_arg0)), fun c => val_main_v147 (F := Ideal) (m ((c : Thread nD τ).loc main_arg0)), ?_, ?_⟩
  · refine (θ_run defs _ _).mono (fun r ⟨h, _⟩ c => ?_) (run_main m g)
    have hp := holds _ (hpre c)
    exact ⟨((h c).1 7).trans (final7 m c hp), ((h c).1 8).trans (final8 m c hp),
      ((h c).2 main_arg0 (Pipeline.mem_restRefs_of main_arg0 (by decide) (by decide))).trans (V_main_arg0 m c)⟩
  · refine (θ_run Cert.MixReferenceIdeal.defs _ _).mono (fun r h c => ?_) (Cert.MixReferenceIdeal.Value.run m' g')
    obtain ⟨h0, h1, hk⟩ := h c
    refine ⟨(h0.trans (val_main_v144_eq _)).trans ?_, (h1.trans (val_main_v147_eq _)).trans ?_, hk⟩
    · show val_main_v144 (F := Ideal) (m' ((c : Thread nD τ).loc MixReferenceIdeal.main_arg0)) = val_main_v144 (F := Ideal) (m ((c : Thread nD τ).loc main_arg0))
      rw [hm c]
    · show val_main_v147 (F := Ideal) (m' ((c : Thread nD τ).loc MixReferenceIdeal.main_arg0)) = val_main_v147 (F := Ideal) (m ((c : Thread nD τ).loc main_arg0))
      rw [hm c]

end Cert.Mix

end
-- ==== Proof.lean ====
module

public import proofs.«01_k».proof.Proof.Gen.Kernel.Frame
public import proofs.«01_k».proof.Proof.Gen.MemKernel.Frame
public import proofs.«01_k».proof.Proof.Gen.Pre_finite
public import proofs.«01_k».proof.Proof.Gen.OutKernel.Frame
public import proofs.«01_k».proof.Proof.Gen.DxKernel.Frame
public import proofs.«01_k».proof.Proof.Dx
public import proofs.«01_k».proof.Proof.AttnFrame
public import proofs.«01_k».proof.Proof.Out
public import proofs.«01_k».proof.Proof.MemKv
public import proofs.«01_k».proof.Proof.Branch
public import proofs.«01_k».proof.Proof.Gen.GateKernel.Frame
public import proofs.«01_k».proof.Proof.Gate
public import proofs.«01_k».proof.Proof.Gen.Pre_finite_mix
public import proofs.«01_k».proof.Proof.Gen.KeyKernel.Frame
public import proofs.«01_k».proof.Proof.Key
public import proofs.«01_k».proof.Proof.Proj
public import proofs.«01_k».proof.Proof.Gen.ProjKernel.Frame
public import proofs.«01_k».proof.Proof.Gen.Pre_finite_gates
public import proofs.«01_k».proof.Proof.MixFrame
public import proofs.«01_k».proof.Proof.Mix

@[expose] public section

noncomputable section

namespace Cert.Proof

open Idealize.ShloMosaic Idealize.SL.Sem Cert.Kernel

/-- Every conjunct of the claim. -/
theorem claim : Cert.Claim := ⟨Kernel.Gen.facts, KernelIdeal.Gen.facts, ReferenceIdeal.Gen.facts, OutKernel.Gen.facts, OutKernelIdeal.Gen.facts, OutReferenceIdeal.Gen.facts, DxKernel.Gen.facts, DxKernelIdeal.Gen.facts, DxReferenceIdeal.Gen.facts, AttnKernel.Gen.facts, MixKernel.Gen.facts, MixKernelIdeal.Gen.facts, MixReferenceIdeal.Gen.facts, GateKernel.Gen.facts, GateKernelIdeal.Gen.facts, GateReferenceIdeal.Gen.facts, KeyKernel.Gen.facts, KeyKernelIdeal.Gen.facts, KeyReferenceIdeal.Gen.facts, ProjKernel.Gen.facts, ProjKernelIdeal.Gen.facts, ProjReferenceIdeal.Gen.facts, MemKernel.Gen.facts, MemKernelIdeal.Gen.facts, MemReferenceIdeal.Gen.facts, Pre_finite.Gen.facts, Pre_finite_mix.Gen.facts, Pre_finite_gates.Gen.facts,
    fun m ρ _ => Kernel.Gen.frame m ρ,
    fun m ρ _ => KernelIdeal.Gen.frame m ρ,
    fun m ρ _ => KernelIdeal.Gen.frame m ρ,
    Branch.frame_reference,
    fun m ρ _ => Branch.frame_reference m ρ trivial,
    fun m ρ _ => OutKernel.Gen.frame m ρ,
    fun m ρ _ => OutKernelIdeal.Gen.frame m ρ,
    Out.frame_reference,
    fun m ρ _ => DxKernel.Gen.frame m ρ,
    fun m ρ _ => DxKernelIdeal.Gen.frame m ρ,
    Dx.frame_reference,
    fun m ρ _ => AttnFrame.frame m ρ,
    fun m ρ _ => MixFrame.frame m ρ,
    fun m ρ _ => Mix.frame m ρ,
    fun m ρ _ => Mix.frame m ρ,
    Mix.frame_reference,
    fun m ρ _ => Mix.frame_reference m ρ trivial,
    fun m ρ _ => GateKernel.Gen.frame m ρ,
    fun m ρ _ => GateKernelIdeal.Gen.frame m ρ,
    fun m ρ _ => GateKernelIdeal.Gen.frame m ρ,
    Gate.frame_reference,
    fun m ρ _ => Gate.frame_reference m ρ trivial,
    fun m ρ _ => KeyKernel.Gen.frame m ρ,
    fun m ρ _ => KeyKernelIdeal.Gen.frame m ρ,
    Key.frame_reference,
    fun m ρ _ => ProjKernel.Gen.frame m ρ,
    fun m ρ _ => ProjKernelIdeal.Gen.frame m ρ,
    Proj.frame_reference,
    fun m ρ _ => MemKernel.Gen.frame m ρ,
    fun m ρ _ => MemKernelIdeal.Gen.frame m ρ,
    MemKv.frame_reference,
    Branch.preserves,
    Branch.algebraic,
    trivial,
    Out.algebraic,
    trivial,
    Dx.algebraic,
    Mix.preserves,
    Mix.algebraic,
    trivial,
    Gate.algebraic,
    trivial,
    Key.algebraic,
    trivial,
    Proj.algebraic,
    trivial,
    MemKv.algebraic⟩

end Cert.Proof

end
